-- ==== Defs.lean ====
def Pre_Kernel (m : (ℓ : Loc Cert.Kernel.nD Cert.Kernel.τ Cert.Kernel.sig) → Buf (Elt Bits) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MetaHgrnKernel (m : (ℓ : Loc Cert.MetaHgrnKernel.nD Cert.MetaHgrnKernel.τ Cert.MetaHgrnKernel.sig) → Buf (Elt Bits) ℓ) : Prop :=
  True

def Pre_MetaHgrnKernelIdeal (m : (ℓ : Loc Cert.MetaHgrnKernelIdeal.nD Cert.MetaHgrnKernelIdeal.τ Cert.MetaHgrnKernelIdeal.sig) → Buf (Elt Ideal) ℓ) : Prop :=
  True

def Pre_MetaHgrnKernelIdeal_log_forget_factors_are_finite [hPre_log_forget_factors_are_finite : Cert.Pre_log_forget_factors_are_finite.Facts] (m : (ℓ : Loc Cert.MetaHgrnKernelIdeal.nD Cert.MetaHgrnKernelIdeal.τ Cert.MetaHgrnKernelIdeal.sig) → Buf (Elt Ideal) ℓ) : Prop :=
  ∀ c : Dev Cert.MetaHgrnKernelIdeal.nD,
    (Cert.Pre_log_forget_factors_are_finite.fn (F := Ideal) (m ((c.tc : Thread Cert.MetaHgrnKernelIdeal.nD Cert.MetaHgrnKernelIdeal.τ).loc Cert.MetaHgrnKernelIdeal.main_arg0)) (m ((c.tc : Thread Cert.MetaHgrnKernelIdeal.nD Cert.MetaHgrnKernelIdeal.τ).loc Cert.MetaHgrnKernelIdeal.main_arg1)) (m ((c.tc : Thread Cert.MetaHgrnKernelIdeal.nD Cert.MetaHgrnKernelIdeal.τ).loc Cert.MetaHgrnKernelIdeal.main_arg2)) (m ((c.tc : Thread Cert.MetaHgrnKernelIdeal.nD Cert.MetaHgrnKernelIdeal.τ).loc Cert.MetaHgrnKernelIdeal.main_arg3)) (m ((c.tc : Thread Cert.MetaHgrnKernelIdeal.nD Cert.MetaHgrnKernelIdeal.τ).loc Cert.MetaHgrnKernelIdeal.main_arg4)) (m ((c.tc : Thread Cert.MetaHgrnKernelIdeal.nD Cert.MetaHgrnKernelIdeal.τ).loc Cert.MetaHgrnKernelIdeal.main_arg5)) (m ((c.tc : Thread Cert.MetaHgrnKernelIdeal.nD Cert.MetaHgrnKernelIdeal.τ).loc Cert.MetaHgrnKernelIdeal.main_arg6))) = (fun _ => 1#1)

def Pre_MetaHgrnReferenceIdeal (m : (ℓ : Loc Cert.MetaHgrnReferenceIdeal.nD Cert.MetaHgrnReferenceIdeal.τ Cert.MetaHgrnReferenceIdeal.sig) → Buf (Elt Ideal) ℓ) : Prop :=
  True

def Pre_MetaHgrnReferenceIdeal_log_forget_factors_are_finite [hPre_log_forget_factors_are_finite : Cert.Pre_log_forget_factors_are_finite.Facts] (m : (ℓ : Loc Cert.MetaHgrnReferenceIdeal.nD Cert.MetaHgrnReferenceIdeal.τ Cert.MetaHgrnReferenceIdeal.sig) → Buf (Elt Ideal) ℓ) : Prop :=
  ∀ c : Dev Cert.MetaHgrnReferenceIdeal.nD,
    (Cert.Pre_log_forget_factors_are_finite.fn (F := Ideal) (m ((c.tc : Thread Cert.MetaHgrnReferenceIdeal.nD Cert.MetaHgrnReferenceIdeal.τ).loc Cert.MetaHgrnReferenceIdeal.main_arg0)) (m ((c.tc : Thread Cert.MetaHgrnReferenceIdeal.nD Cert.MetaHgrnReferenceIdeal.τ).loc Cert.MetaHgrnReferenceIdeal.main_arg1)) (m ((c.tc : Thread Cert.MetaHgrnReferenceIdeal.nD Cert.MetaHgrnReferenceIdeal.τ).loc Cert.MetaHgrnReferenceIdeal.main_arg2)) (m ((c.tc : Thread Cert.MetaHgrnReferenceIdeal.nD Cert.MetaHgrnReferenceIdeal.τ).loc Cert.MetaHgrnReferenceIdeal.main_arg3)) (m ((c.tc : Thread Cert.MetaHgrnReferenceIdeal.nD Cert.MetaHgrnReferenceIdeal.τ).loc Cert.MetaHgrnReferenceIdeal.main_arg4)) (m ((c.tc : Thread Cert.MetaHgrnReferenceIdeal.nD Cert.MetaHgrnReferenceIdeal.τ).loc Cert.MetaHgrnReferenceIdeal.main_arg5)) (m ((c.tc : Thread Cert.MetaHgrnReferenceIdeal.nD Cert.MetaHgrnReferenceIdeal.τ).loc Cert.MetaHgrnReferenceIdeal.main_arg6))) = (fun _ => 1#1)

def Pre_MetaAttnKernel (m : (ℓ : Loc Cert.MetaAttnKernel.nD Cert.MetaAttnKernel.τ Cert.MetaAttnKernel.sig) → Buf (Elt Bits) ℓ) : Prop :=
  True

def Pre_MetaAttnKernelIdeal (m : (ℓ : Loc Cert.MetaAttnKernelIdeal.nD Cert.MetaAttnKernelIdeal.τ Cert.MetaAttnKernelIdeal.sig) → Buf (Elt Ideal) ℓ) : Prop :=
  True

def Pre_MetaAttnReferenceIdeal (m : (ℓ : Loc Cert.MetaAttnReferenceIdeal.nD Cert.MetaAttnReferenceIdeal.τ Cert.MetaAttnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_MetaHgrnKernel [hMetaHgrnKernel : Cert.MetaHgrnKernel.Facts] : Prop :=
  ∀ (m : (ℓ : Loc Cert.MetaHgrnKernel.nD Cert.MetaHgrnKernel.τ Cert.MetaHgrnKernel.sig) → Buf (Elt Bits) ℓ) (g : Dev Cert.MetaHgrnKernel.nD → PrngReg), Pre_MetaHgrnKernel m →
    θ_run (Cert.MetaHgrnKernel.defs (F := Bits)) (onTc (τ := Cert.MetaHgrnKernel.τ) (Cert.MetaHgrnKernel.main (F := Bits))) ⟨m, fun _ => 0, g⟩ (fun r => (∀ c : Dev Cert.MetaHgrnKernel.nD,
      r.2.mem ((c.tc : Thread Cert.MetaHgrnKernel.nD Cert.MetaHgrnKernel.τ).loc Cert.MetaHgrnKernel.main_arg0) = m ((c.tc : Thread Cert.MetaHgrnKernel.nD Cert.MetaHgrnKernel.τ).loc Cert.MetaHgrnKernel.main_arg0)
      ∧ r.2.mem ((c.tc : Thread Cert.MetaHgrnKernel.nD Cert.MetaHgrnKernel.τ).loc Cert.MetaHgrnKernel.main_arg1) = m ((c.tc : Thread Cert.MetaHgrnKernel.nD Cert.MetaHgrnKernel.τ).loc Cert.MetaHgrnKernel.main_arg1)
      ∧ r.2.mem ((c.tc : Thread Cert.MetaHgrnKernel.nD Cert.MetaHgrnKernel.τ).loc Cert.MetaHgrnKernel.main_arg2) = m ((c.tc : Thread Cert.MetaHgrnKernel.nD Cert.MetaHgrnKernel.τ).loc Cert.MetaHgrnKernel.main_arg2)
      ∧ r.2.mem ((c.tc : Thread Cert.MetaHgrnKernel.nD Cert.MetaHgrnKernel.τ).loc Cert.MetaHgrnKernel.main_arg3) = m ((c.tc : Thread Cert.MetaHgrnKernel.nD Cert.MetaHgrnKernel.τ).loc Cert.MetaHgrnKernel.main_arg3)
      ∧ r.2.mem ((c.tc : Thread Cert.MetaHgrnKernel.nD Cert.MetaHgrnKernel.τ).loc Cert.MetaHgrnKernel.main_arg4) = m ((c.tc : Thread Cert.MetaHgrnKernel.nD Cert.MetaHgrnKernel.τ).loc Cert.MetaHgrnKernel.main_arg4)
      ∧ r.2.mem ((c.tc : Thread Cert.MetaHgrnKernel.nD Cert.MetaHgrnKernel.τ).loc Cert.MetaHgrnKernel.main_arg5) = m ((c.tc : Thread Cert.MetaHgrnKernel.nD Cert.MetaHgrnKernel.τ).loc Cert.MetaHgrnKernel.main_arg5)
      ∧ r.2.mem ((c.tc : Thread Cert.MetaHgrnKernel.nD Cert.MetaHgrnKernel.τ).loc Cert.MetaHgrnKernel.main_arg6) = m ((c.tc : Thread Cert.MetaHgrnKernel.nD Cert.MetaHgrnKernel.τ).loc Cert.MetaHgrnKernel.main_arg6))
      ∧ r.2.sem = fun _ => 0)

def quiescent_MetaHgrnKernelIdeal [hMetaHgrnKernelIdeal : Cert.MetaHgrnKernelIdeal.Facts] : Prop :=
  ∀ (m : (ℓ : Loc Cert.MetaHgrnKernelIdeal.nD Cert.MetaHgrnKernelIdeal.τ Cert.MetaHgrnKernelIdeal.sig) → Buf (Elt Ideal) ℓ) (g : Dev Cert.MetaHgrnKernelIdeal.nD → PrngReg), Pre_MetaHgrnKernelIdeal m →
    θ_run (Cert.MetaHgrnKernelIdeal.defs (F := Ideal)) (onTc (τ := Cert.MetaHgrnKernelIdeal.τ) (Cert.MetaHgrnKernelIdeal.main (F := Ideal))) ⟨m, fun _ => 0, g⟩ (fun r => (∀ c : Dev Cert.MetaHgrnKernelIdeal.nD,
      r.2.mem ((c.tc : Thread Cert.MetaHgrnKernelIdeal.nD Cert.MetaHgrnKernelIdeal.τ).loc Cert.MetaHgrnKernelIdeal.main_arg0) = m ((c.tc : Thread Cert.MetaHgrnKernelIdeal.nD Cert.MetaHgrnKernelIdeal.τ).loc Cert.MetaHgrnKernelIdeal.main_arg0)
      ∧ r.2.mem ((c.tc : Thread Cert.MetaHgrnKernelIdeal.nD Cert.MetaHgrnKernelIdeal.τ).loc Cert.MetaHgrnKernelIdeal.main_arg1) = m ((c.tc : Thread Cert.MetaHgrnKernelIdeal.nD Cert.MetaHgrnKernelIdeal.τ).loc Cert.MetaHgrnKernelIdeal.main_arg1)
      ∧ r.2.mem ((c.tc : Thread Cert.MetaHgrnKernelIdeal.nD Cert.MetaHgrnKernelIdeal.τ).loc Cert.MetaHgrnKernelIdeal.main_arg2) = m ((c.tc : Thread Cert.MetaHgrnKernelIdeal.nD Cert.MetaHgrnKernelIdeal.τ).loc Cert.MetaHgrnKernelIdeal.main_arg2)
      ∧ r.2.mem ((c.tc : Thread Cert.MetaHgrnKernelIdeal.nD Cert.MetaHgrnKernelIdeal.τ).loc Cert.MetaHgrnKernelIdeal.main_arg3) = m ((c.tc : Thread Cert.MetaHgrnKernelIdeal.nD Cert.MetaHgrnKernelIdeal.τ).loc Cert.MetaHgrnKernelIdeal.main_arg3)
      ∧ r.2.mem ((c.tc : Thread Cert.MetaHgrnKernelIdeal.nD Cert.MetaHgrnKernelIdeal.τ).loc Cert.MetaHgrnKernelIdeal.main_arg4) = m ((c.tc : Thread Cert.MetaHgrnKernelIdeal.nD Cert.MetaHgrnKernelIdeal.τ).loc Cert.MetaHgrnKernelIdeal.main_arg4)
      ∧ r.2.mem ((c.tc : Thread Cert.MetaHgrnKernelIdeal.nD Cert.MetaHgrnKernelIdeal.τ).loc Cert.MetaHgrnKernelIdeal.main_arg5) = m ((c.tc : Thread Cert.MetaHgrnKernelIdeal.nD Cert.MetaHgrnKernelIdeal.τ).loc Cert.MetaHgrnKernelIdeal.main_arg5)
      ∧ r.2.mem ((c.tc : Thread Cert.MetaHgrnKernelIdeal.nD Cert.MetaHgrnKernelIdeal.τ).loc Cert.MetaHgrnKernelIdeal.main_arg6) = m ((c.tc : Thread Cert.MetaHgrnKernelIdeal.nD Cert.MetaHgrnKernelIdeal.τ).loc Cert.MetaHgrnKernelIdeal.main_arg6))
      ∧ r.2.sem = fun _ => 0)

def quiescent_MetaHgrnKernelIdeal_pre_log_forget_factors_are_finite [hMetaHgrnKernelIdeal : Cert.MetaHgrnKernelIdeal.Facts] [hPre_log_forget_factors_are_finite : Cert.Pre_log_forget_factors_are_finite.Facts] : Prop :=
  ∀ (m : (ℓ : Loc Cert.MetaHgrnKernelIdeal.nD Cert.MetaHgrnKernelIdeal.τ Cert.MetaHgrnKernelIdeal.sig) → Buf (Elt Ideal) ℓ) (g : Dev Cert.MetaHgrnKernelIdeal.nD → PrngReg), Pre_MetaHgrnKernelIdeal_log_forget_factors_are_finite m →
    θ_run (Cert.MetaHgrnKernelIdeal.defs (F := Ideal)) (onTc (τ := Cert.MetaHgrnKernelIdeal.τ) (Cert.MetaHgrnKernelIdeal.main (F := Ideal))) ⟨m, fun _ => 0, g⟩ (fun r => (∀ c : Dev Cert.MetaHgrnKernelIdeal.nD,
      r.2.mem ((c.tc : Thread Cert.MetaHgrnKernelIdeal.nD Cert.MetaHgrnKernelIdeal.τ).loc Cert.MetaHgrnKernelIdeal.main_arg0) = m ((c.tc : Thread Cert.MetaHgrnKernelIdeal.nD Cert.MetaHgrnKernelIdeal.τ).loc Cert.MetaHgrnKernelIdeal.main_arg0)
      ∧ r.2.mem ((c.tc : Thread Cert.MetaHgrnKernelIdeal.nD Cert.MetaHgrnKernelIdeal.τ).loc Cert.MetaHgrnKernelIdeal.main_arg1) = m ((c.tc : Thread Cert.MetaHgrnKernelIdeal.nD Cert.MetaHgrnKernelIdeal.τ).loc Cert.MetaHgrnKernelIdeal.main_arg1)
      ∧ r.2.mem ((c.tc : Thread Cert.MetaHgrnKernelIdeal.nD Cert.MetaHgrnKernelIdeal.τ).loc Cert.MetaHgrnKernelIdeal.main_arg2) = m ((c.tc : Thread Cert.MetaHgrnKernelIdeal.nD Cert.MetaHgrnKernelIdeal.τ).loc Cert.MetaHgrnKernelIdeal.main_arg2)
      ∧ r.2.mem ((c.tc : Thread Cert.MetaHgrnKernelIdeal.nD Cert.MetaHgrnKernelIdeal.τ).loc Cert.MetaHgrnKernelIdeal.main_arg3) = m ((c.tc : Thread Cert.MetaHgrnKernelIdeal.nD Cert.MetaHgrnKernelIdeal.τ).loc Cert.MetaHgrnKernelIdeal.main_arg3)
      ∧ r.2.mem ((c.tc : Thread Cert.MetaHgrnKernelIdeal.nD Cert.MetaHgrnKernelIdeal.τ).loc Cert.MetaHgrnKernelIdeal.main_arg4) = m ((c.tc : Thread Cert.MetaHgrnKernelIdeal.nD Cert.MetaHgrnKernelIdeal.τ).loc Cert.MetaHgrnKernelIdeal.main_arg4)
      ∧ r.2.mem ((c.tc : Thread Cert.MetaHgrnKernelIdeal.nD Cert.MetaHgrnKernelIdeal.τ).loc Cert.MetaHgrnKernelIdeal.main_arg5) = m ((c.tc : Thread Cert.MetaHgrnKernelIdeal.nD Cert.MetaHgrnKernelIdeal.τ).loc Cert.MetaHgrnKernelIdeal.main_arg5)
      ∧ r.2.mem ((c.tc : Thread Cert.MetaHgrnKernelIdeal.nD Cert.MetaHgrnKernelIdeal.τ).loc Cert.MetaHgrnKernelIdeal.main_arg6) = m ((c.tc : Thread Cert.MetaHgrnKernelIdeal.nD Cert.MetaHgrnKernelIdeal.τ).loc Cert.MetaHgrnKernelIdeal.main_arg6))
      ∧ r.2.sem = fun _ => 0)

def quiescent_MetaHgrnReferenceIdeal [hMetaHgrnReferenceIdeal : Cert.MetaHgrnReferenceIdeal.Facts] : Prop :=
  ∀ (m : (ℓ : Loc Cert.MetaHgrnReferenceIdeal.nD Cert.MetaHgrnReferenceIdeal.τ Cert.MetaHgrnReferenceIdeal.sig) → Buf (Elt Ideal) ℓ) (g : Dev Cert.MetaHgrnReferenceIdeal.nD → PrngReg), Pre_MetaHgrnReferenceIdeal m →
    θ_run (Cert.MetaHgrnReferenceIdeal.defs (F := Ideal)) (onTc (τ := Cert.MetaHgrnReferenceIdeal.τ) (Cert.MetaHgrnReferenceIdeal.main (F := Ideal))) ⟨m, fun _ => 0, g⟩ (fun r => (∀ c : Dev Cert.MetaHgrnReferenceIdeal.nD,
      r.2.mem ((c.tc : Thread Cert.MetaHgrnReferenceIdeal.nD Cert.MetaHgrnReferenceIdeal.τ).loc Cert.MetaHgrnReferenceIdeal.main_arg0) = m ((c.tc : Thread Cert.MetaHgrnReferenceIdeal.nD Cert.MetaHgrnReferenceIdeal.τ).loc Cert.MetaHgrnReferenceIdeal.main_arg0)
      ∧ r.2.mem ((c.tc : Thread Cert.MetaHgrnReferenceIdeal.nD Cert.MetaHgrnReferenceIdeal.τ).loc Cert.MetaHgrnReferenceIdeal.main_arg1) = m ((c.tc : Thread Cert.MetaHgrnReferenceIdeal.nD Cert.MetaHgrnReferenceIdeal.τ).loc Cert.MetaHgrnReferenceIdeal.main_arg1)
      ∧ r.2.mem ((c.tc : Thread Cert.MetaHgrnReferenceIdeal.nD Cert.MetaHgrnReferenceIdeal.τ).loc Cert.MetaHgrnReferenceIdeal.main_arg2) = m ((c.tc : Thread Cert.MetaHgrnReferenceIdeal.nD Cert.MetaHgrnReferenceIdeal.τ).loc Cert.MetaHgrnReferenceIdeal.main_arg2)
      ∧ r.2.mem ((c.tc : Thread Cert.MetaHgrnReferenceIdeal.nD Cert.MetaHgrnReferenceIdeal.τ).loc Cert.MetaHgrnReferenceIdeal.main_arg3) = m ((c.tc : Thread Cert.MetaHgrnReferenceIdeal.nD Cert.MetaHgrnReferenceIdeal.τ).loc Cert.MetaHgrnReferenceIdeal.main_arg3)
      ∧ r.2.mem ((c.tc : Thread Cert.MetaHgrnReferenceIdeal.nD Cert.MetaHgrnReferenceIdeal.τ).loc Cert.MetaHgrnReferenceIdeal.main_arg4) = m ((c.tc : Thread Cert.MetaHgrnReferenceIdeal.nD Cert.MetaHgrnReferenceIdeal.τ).loc Cert.MetaHgrnReferenceIdeal.main_arg4)
      ∧ r.2.mem ((c.tc : Thread Cert.MetaHgrnReferenceIdeal.nD Cert.MetaHgrnReferenceIdeal.τ).loc Cert.MetaHgrnReferenceIdeal.main_arg5) = m ((c.tc : Thread Cert.MetaHgrnReferenceIdeal.nD Cert.MetaHgrnReferenceIdeal.τ).loc Cert.MetaHgrnReferenceIdeal.main_arg5)
      ∧ r.2.mem ((c.tc : Thread Cert.MetaHgrnReferenceIdeal.nD Cert.MetaHgrnReferenceIdeal.τ).loc Cert.MetaHgrnReferenceIdeal.main_arg6) = m ((c.tc : Thread Cert.MetaHgrnReferenceIdeal.nD Cert.MetaHgrnReferenceIdeal.τ).loc Cert.MetaHgrnReferenceIdeal.main_arg6))
      ∧ r.2.sem = fun _ => 0)

def quiescent_MetaHgrnReferenceIdeal_pre_log_forget_factors_are_finite [hMetaHgrnReferenceIdeal : Cert.MetaHgrnReferenceIdeal.Facts] [hPre_log_forget_factors_are_finite : Cert.Pre_log_forget_factors_are_finite.Facts] : Prop :=
  ∀ (m : (ℓ : Loc Cert.MetaHgrnReferenceIdeal.nD Cert.MetaHgrnReferenceIdeal.τ Cert.MetaHgrnReferenceIdeal.sig) → Buf (Elt Ideal) ℓ) (g : Dev Cert.MetaHgrnReferenceIdeal.nD → PrngReg), Pre_MetaHgrnReferenceIdeal_log_forget_factors_are_finite m →
    θ_run (Cert.MetaHgrnReferenceIdeal.defs (F := Ideal)) (onTc (τ := Cert.MetaHgrnReferenceIdeal.τ) (Cert.MetaHgrnReferenceIdeal.main (F := Ideal))) ⟨m, fun _ => 0, g⟩ (fun r => (∀ c : Dev Cert.MetaHgrnReferenceIdeal.nD,
      r.2.mem ((c.tc : Thread Cert.MetaHgrnReferenceIdeal.nD Cert.MetaHgrnReferenceIdeal.τ).loc Cert.MetaHgrnReferenceIdeal.main_arg0) = m ((c.tc : Thread Cert.MetaHgrnReferenceIdeal.nD Cert.MetaHgrnReferenceIdeal.τ).loc Cert.MetaHgrnReferenceIdeal.main_arg0)
      ∧ r.2.mem ((c.tc : Thread Cert.MetaHgrnReferenceIdeal.nD Cert.MetaHgrnReferenceIdeal.τ).loc Cert.MetaHgrnReferenceIdeal.main_arg1) = m ((c.tc : Thread Cert.MetaHgrnReferenceIdeal.nD Cert.MetaHgrnReferenceIdeal.τ).loc Cert.MetaHgrnReferenceIdeal.main_arg1)
      ∧ r.2.mem ((c.tc : Thread Cert.MetaHgrnReferenceIdeal.nD Cert.MetaHgrnReferenceIdeal.τ).loc Cert.MetaHgrnReferenceIdeal.main_arg2) = m ((c.tc : Thread Cert.MetaHgrnReferenceIdeal.nD Cert.MetaHgrnReferenceIdeal.τ).loc Cert.MetaHgrnReferenceIdeal.main_arg2)
      ∧ r.2.mem ((c.tc : Thread Cert.MetaHgrnReferenceIdeal.nD Cert.MetaHgrnReferenceIdeal.τ).loc Cert.MetaHgrnReferenceIdeal.main_arg3) = m ((c.tc : Thread Cert.MetaHgrnReferenceIdeal.nD Cert.MetaHgrnReferenceIdeal.τ).loc Cert.MetaHgrnReferenceIdeal.main_arg3)
      ∧ r.2.mem ((c.tc : Thread Cert.MetaHgrnReferenceIdeal.nD Cert.MetaHgrnReferenceIdeal.τ).loc Cert.MetaHgrnReferenceIdeal.main_arg4) = m ((c.tc : Thread Cert.MetaHgrnReferenceIdeal.nD Cert.MetaHgrnReferenceIdeal.τ).loc Cert.MetaHgrnReferenceIdeal.main_arg4)
      ∧ r.2.mem ((c.tc : Thread Cert.MetaHgrnReferenceIdeal.nD Cert.MetaHgrnReferenceIdeal.τ).loc Cert.MetaHgrnReferenceIdeal.main_arg5) = m ((c.tc : Thread Cert.MetaHgrnReferenceIdeal.nD Cert.MetaHgrnReferenceIdeal.τ).loc Cert.MetaHgrnReferenceIdeal.main_arg5)
      ∧ r.2.mem ((c.tc : Thread Cert.MetaHgrnReferenceIdeal.nD Cert.MetaHgrnReferenceIdeal.τ).loc Cert.MetaHgrnReferenceIdeal.main_arg6) = m ((c.tc : Thread Cert.MetaHgrnReferenceIdeal.nD Cert.MetaHgrnReferenceIdeal.τ).loc Cert.MetaHgrnReferenceIdeal.main_arg6))
      ∧ r.2.sem = fun _ => 0)

def quiescent_MetaAttnKernel [hMetaAttnKernel : Cert.MetaAttnKernel.Facts] : Prop :=
  ∀ (m : (ℓ : Loc Cert.MetaAttnKernel.nD Cert.MetaAttnKernel.τ Cert.MetaAttnKernel.sig) → Buf (Elt Bits) ℓ) (g : Dev Cert.MetaAttnKernel.nD → PrngReg), Pre_MetaAttnKernel m →
    θ_run (Cert.MetaAttnKernel.defs (F := Bits)) (onTc (τ := Cert.MetaAttnKernel.τ) (Cert.MetaAttnKernel.main (F := Bits))) ⟨m, fun _ => 0, g⟩ (fun r => (∀ c : Dev Cert.MetaAttnKernel.nD,
      r.2.mem ((c.tc : Thread Cert.MetaAttnKernel.nD Cert.MetaAttnKernel.τ).loc Cert.MetaAttnKernel.main_arg0) = m ((c.tc : Thread Cert.MetaAttnKernel.nD Cert.MetaAttnKernel.τ).loc Cert.MetaAttnKernel.main_arg0)
      ∧ r.2.mem ((c.tc : Thread Cert.MetaAttnKernel.nD Cert.MetaAttnKernel.τ).loc Cert.MetaAttnKernel.main_arg1) = m ((c.tc : Thread Cert.MetaAttnKernel.nD Cert.MetaAttnKernel.τ).loc Cert.MetaAttnKernel.main_arg1)
      ∧ r.2.mem ((c.tc : Thread Cert.MetaAttnKernel.nD Cert.MetaAttnKernel.τ).loc Cert.MetaAttnKernel.main_arg2) = m ((c.tc : Thread Cert.MetaAttnKernel.nD Cert.MetaAttnKernel.τ).loc Cert.MetaAttnKernel.main_arg2)
      ∧ r.2.mem ((c.tc : Thread Cert.MetaAttnKernel.nD Cert.MetaAttnKernel.τ).loc Cert.MetaAttnKernel.main_arg3) = m ((c.tc : Thread Cert.MetaAttnKernel.nD Cert.MetaAttnKernel.τ).loc Cert.MetaAttnKernel.main_arg3)
      ∧ r.2.mem ((c.tc : Thread Cert.MetaAttnKernel.nD Cert.MetaAttnKernel.τ).loc Cert.MetaAttnKernel.main_arg4) = m ((c.tc : Thread Cert.MetaAttnKernel.nD Cert.MetaAttnKernel.τ).loc Cert.MetaAttnKernel.main_arg4)
      ∧ r.2.mem ((c.tc : Thread Cert.MetaAttnKernel.nD Cert.MetaAttnKernel.τ).loc Cert.MetaAttnKernel.main_arg5) = m ((c.tc : Thread Cert.MetaAttnKernel.nD Cert.MetaAttnKernel.τ).loc Cert.MetaAttnKernel.main_arg5))
      ∧ r.2.sem = fun _ => 0)

def quiescent_MetaAttnKernelIdeal [hMetaAttnKernelIdeal : Cert.MetaAttnKernelIdeal.Facts] : Prop :=
  ∀ (m : (ℓ : Loc Cert.MetaAttnKernelIdeal.nD Cert.MetaAttnKernelIdeal.τ Cert.MetaAttnKernelIdeal.sig) → Buf (Elt Ideal) ℓ) (g : Dev Cert.MetaAttnKernelIdeal.nD → PrngReg), Pre_MetaAttnKernelIdeal m →
    θ_run (Cert.MetaAttnKernelIdeal.defs (F := Ideal)) (onTc (τ := Cert.MetaAttnKernelIdeal.τ) (Cert.MetaAttnKernelIdeal.main (F := Ideal))) ⟨m, fun _ => 0, g⟩ (fun r => (∀ c : Dev Cert.MetaAttnKernelIdeal.nD,
      r.2.mem ((c.tc : Thread Cert.MetaAttnKernelIdeal.nD Cert.MetaAttnKernelIdeal.τ).loc Cert.MetaAttnKernelIdeal.main_arg0) = m ((c.tc : Thread Cert.MetaAttnKernelIdeal.nD Cert.MetaAttnKernelIdeal.τ).loc Cert.MetaAttnKernelIdeal.main_arg0)
      ∧ r.2.mem ((c.tc : Thread Cert.MetaAttnKernelIdeal.nD Cert.MetaAttnKernelIdeal.τ).loc Cert.MetaAttnKernelIdeal.main_arg1) = m ((c.tc : Thread Cert.MetaAttnKernelIdeal.nD Cert.MetaAttnKernelIdeal.τ).loc Cert.MetaAttnKernelIdeal.main_arg1)
      ∧ r.2.mem ((c.tc : Thread Cert.MetaAttnKernelIdeal.nD Cert.MetaAttnKernelIdeal.τ).loc Cert.MetaAttnKernelIdeal.main_arg2) = m ((c.tc : Thread Cert.MetaAttnKernelIdeal.nD Cert.MetaAttnKernelIdeal.τ).loc Cert.MetaAttnKernelIdeal.main_arg2)
      ∧ r.2.mem ((c.tc : Thread Cert.MetaAttnKernelIdeal.nD Cert.MetaAttnKernelIdeal.τ).loc Cert.MetaAttnKernelIdeal.main_arg3) = m ((c.tc : Thread Cert.MetaAttnKernelIdeal.nD Cert.MetaAttnKernelIdeal.τ).loc Cert.MetaAttnKernelIdeal.main_arg3)
      ∧ r.2.mem ((c.tc : Thread Cert.MetaAttnKernelIdeal.nD Cert.MetaAttnKernelIdeal.τ).loc Cert.MetaAttnKernelIdeal.main_arg4) = m ((c.tc : Thread Cert.MetaAttnKernelIdeal.nD Cert.MetaAttnKernelIdeal.τ).loc Cert.MetaAttnKernelIdeal.main_arg4)
      ∧ r.2.mem ((c.tc : Thread Cert.MetaAttnKernelIdeal.nD Cert.MetaAttnKernelIdeal.τ).loc Cert.MetaAttnKernelIdeal.main_arg5) = m ((c.tc : Thread Cert.MetaAttnKernelIdeal.nD Cert.MetaAttnKernelIdeal.τ).loc Cert.MetaAttnKernelIdeal.main_arg5))
      ∧ r.2.sem = fun _ => 0)

def quiescent_MetaAttnReferenceIdeal [hMetaAttnReferenceIdeal : Cert.MetaAttnReferenceIdeal.Facts] : Prop :=
  ∀ (m : (ℓ : Loc Cert.MetaAttnReferenceIdeal.nD Cert.MetaAttnReferenceIdeal.τ Cert.MetaAttnReferenceIdeal.sig) → Buf (Elt Ideal) ℓ) (g : Dev Cert.MetaAttnReferenceIdeal.nD → PrngReg), Pre_MetaAttnReferenceIdeal m →
    θ_run (Cert.MetaAttnReferenceIdeal.defs (F := Ideal)) (onTc (τ := Cert.MetaAttnReferenceIdeal.τ) (Cert.MetaAttnReferenceIdeal.main (F := Ideal))) ⟨m, fun _ => 0, g⟩ (fun r => (∀ c : Dev Cert.MetaAttnReferenceIdeal.nD,
      r.2.mem ((c.tc : Thread Cert.MetaAttnReferenceIdeal.nD Cert.MetaAttnReferenceIdeal.τ).loc Cert.MetaAttnReferenceIdeal.main_arg0) = m ((c.tc : Thread Cert.MetaAttnReferenceIdeal.nD Cert.MetaAttnReferenceIdeal.τ).loc Cert.MetaAttnReferenceIdeal.main_arg0)
      ∧ r.2.mem ((c.tc : Thread Cert.MetaAttnReferenceIdeal.nD Cert.MetaAttnReferenceIdeal.τ).loc Cert.MetaAttnReferenceIdeal.main_arg1) = m ((c.tc : Thread Cert.MetaAttnReferenceIdeal.nD Cert.MetaAttnReferenceIdeal.τ).loc Cert.MetaAttnReferenceIdeal.main_arg1)
      ∧ r.2.mem ((c.tc : Thread Cert.MetaAttnReferenceIdeal.nD Cert.MetaAttnReferenceIdeal.τ).loc Cert.MetaAttnReferenceIdeal.main_arg2) = m ((c.tc : Thread Cert.MetaAttnReferenceIdeal.nD Cert.MetaAttnReferenceIdeal.τ).loc Cert.MetaAttnReferenceIdeal.main_arg2)
      ∧ r.2.mem ((c.tc : Thread Cert.MetaAttnReferenceIdeal.nD Cert.MetaAttnReferenceIdeal.τ).loc Cert.MetaAttnReferenceIdeal.main_arg3) = m ((c.tc : Thread Cert.MetaAttnReferenceIdeal.nD Cert.MetaAttnReferenceIdeal.τ).loc Cert.MetaAttnReferenceIdeal.main_arg3)
      ∧ r.2.mem ((c.tc : Thread Cert.MetaAttnReferenceIdeal.nD Cert.MetaAttnReferenceIdeal.τ).loc Cert.MetaAttnReferenceIdeal.main_arg4) = m ((c.tc : Thread Cert.MetaAttnReferenceIdeal.nD Cert.MetaAttnReferenceIdeal.τ).loc Cert.MetaAttnReferenceIdeal.main_arg4)
      ∧ r.2.mem ((c.tc : Thread Cert.MetaAttnReferenceIdeal.nD Cert.MetaAttnReferenceIdeal.τ).loc Cert.MetaAttnReferenceIdeal.main_arg5) = m ((c.tc : Thread Cert.MetaAttnReferenceIdeal.nD Cert.MetaAttnReferenceIdeal.τ).loc Cert.MetaAttnReferenceIdeal.main_arg5))
      ∧ r.2.sem = fun _ => 0)

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v29) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v64_0)) (v1 : (c : Dev Cert.ProjKernelIdeal.nD) → Buf (Elt Ideal) ((c.tc : Thread Cert.ProjKernelIdeal.nD Cert.ProjKernelIdeal.τ).loc Cert.ProjKernelIdeal.main_v64_1)) (v2 : (c : Dev Cert.ProjKernelIdeal.nD) → Buf (Elt Ideal) ((c.tc : Thread Cert.ProjKernelIdeal.nD Cert.ProjKernelIdeal.τ).loc Cert.ProjKernelIdeal.main_v64_2)) (v3 : (c : Dev Cert.ProjKernelIdeal.nD) → Buf (Elt Ideal) ((c.tc : Thread Cert.ProjKernelIdeal.nD Cert.ProjKernelIdeal.τ).loc Cert.ProjKernelIdeal.main_v64_3)) (v4 : (c : Dev Cert.ProjKernelIdeal.nD) → Buf (Elt Ideal) ((c.tc : Thread Cert.ProjKernelIdeal.nD Cert.ProjKernelIdeal.τ).loc Cert.ProjKernelIdeal.main_v64_4)) (v5 : (c : Dev Cert.ProjKernelIdeal.nD) → Buf (Elt Ideal) ((c.tc : Thread Cert.ProjKernelIdeal.nD Cert.ProjKernelIdeal.τ).loc Cert.ProjKernelIdeal.main_v64_5)) (v6 : (c : Dev Cert.ProjKernelIdeal.nD) → Buf (Elt Ideal) ((c.tc : Thread Cert.ProjKernelIdeal.nD Cert.ProjKernelIdeal.τ).loc Cert.ProjKernelIdeal.main_v64_6)) (v7 : (c : Dev Cert.ProjKernelIdeal.nD) → Buf (Elt Ideal) ((c.tc : Thread Cert.ProjKernelIdeal.nD Cert.ProjKernelIdeal.τ).loc Cert.ProjKernelIdeal.main_v64_7)) (v8 : (c : Dev Cert.ProjKernelIdeal.nD) → Buf (Elt Ideal) ((c.tc : Thread Cert.ProjKernelIdeal.nD Cert.ProjKernelIdeal.τ).loc Cert.ProjKernelIdeal.main_v64_8)) (v9 : (c : Dev Cert.ProjKernelIdeal.nD) → Buf (Elt Ideal) ((c.tc : Thread Cert.ProjKernelIdeal.nD Cert.ProjKernelIdeal.τ).loc Cert.ProjKernelIdeal.main_v64_9)) (v10 : (c : Dev Cert.ProjKernelIdeal.nD) → Buf (Elt Ideal) ((c.tc : Thread Cert.ProjKernelIdeal.nD Cert.ProjKernelIdeal.τ).loc Cert.ProjKernelIdeal.main_v64_10)) (v11 : (c : Dev Cert.ProjKernelIdeal.nD) → Buf (Elt Ideal) ((c.tc : Thread Cert.ProjKernelIdeal.nD Cert.ProjKernelIdeal.τ).loc Cert.ProjKernelIdeal.main_v64_11)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v64_0) = v0 c
          ∧ r.2.mem ((c.tc : Thread Cert.ProjKernelIdeal.nD Cert.ProjKernelIdeal.τ).loc Cert.ProjKernelIdeal.main_v64_1) = v1 c
          ∧ r.2.mem ((c.tc : Thread Cert.ProjKernelIdeal.nD Cert.ProjKernelIdeal.τ).loc Cert.ProjKernelIdeal.main_v64_2) = v2 c
          ∧ r.2.mem ((c.tc : Thread Cert.ProjKernelIdeal.nD Cert.ProjKernelIdeal.τ).loc Cert.ProjKernelIdeal.main_v64_3) = v3 c
          ∧ r.2.mem ((c.tc : Thread Cert.ProjKernelIdeal.nD Cert.ProjKernelIdeal.τ).loc Cert.ProjKernelIdeal.main_v64_4) = v4 c
          ∧ r.2.mem ((c.tc : Thread Cert.ProjKernelIdeal.nD Cert.ProjKernelIdeal.τ).loc Cert.ProjKernelIdeal.main_v64_5) = v5 c
          ∧ r.2.mem ((c.tc : Thread Cert.ProjKernelIdeal.nD Cert.ProjKernelIdeal.τ).loc Cert.ProjKernelIdeal.main_v64_6) = v6 c
          ∧ r.2.mem ((c.tc : Thread Cert.ProjKernelIdeal.nD Cert.ProjKernelIdeal.τ).loc Cert.ProjKernelIdeal.main_v64_7) = v7 c
          ∧ r.2.mem ((c.tc : Thread Cert.ProjKernelIdeal.nD Cert.ProjKernelIdeal.τ).loc Cert.ProjKernelIdeal.main_v64_8) = v8 c
          ∧ r.2.mem ((c.tc : Thread Cert.ProjKernelIdeal.nD Cert.ProjKernelIdeal.τ).loc Cert.ProjKernelIdeal.main_v64_9) = v9 c
          ∧ r.2.mem ((c.tc : Thread Cert.ProjKernelIdeal.nD Cert.ProjKernelIdeal.τ).loc Cert.ProjKernelIdeal.main_v64_10) = v10 c
          ∧ r.2.mem ((c.tc : Thread Cert.ProjKernelIdeal.nD Cert.ProjKernelIdeal.τ).loc Cert.ProjKernelIdeal.main_v64_11) = v11 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v67) = v0 c
          ∧ r.2.mem ((c.tc : Thread Cert.ProjReferenceIdeal.nD Cert.ProjReferenceIdeal.τ).loc Cert.ProjReferenceIdeal.main_v68) = v1 c
          ∧ r.2.mem ((c.tc : Thread Cert.ProjReferenceIdeal.nD Cert.ProjReferenceIdeal.τ).loc Cert.ProjReferenceIdeal.main_v71) = v2 c
          ∧ r.2.mem ((c.tc : Thread Cert.ProjReferenceIdeal.nD Cert.ProjReferenceIdeal.τ).loc Cert.ProjReferenceIdeal.main_v73) = v3 c
          ∧ r.2.mem ((c.tc : Thread Cert.ProjReferenceIdeal.nD Cert.ProjReferenceIdeal.τ).loc Cert.ProjReferenceIdeal.main_v74) = v4 c
          ∧ r.2.mem ((c.tc : Thread Cert.ProjReferenceIdeal.nD Cert.ProjReferenceIdeal.τ).loc Cert.ProjReferenceIdeal.main_v77) = v5 c
          ∧ r.2.mem ((c.tc : Thread Cert.ProjReferenceIdeal.nD Cert.ProjReferenceIdeal.τ).loc Cert.ProjReferenceIdeal.main_v78) = v6 c
          ∧ r.2.mem ((c.tc : Thread Cert.ProjReferenceIdeal.nD Cert.ProjReferenceIdeal.τ).loc Cert.ProjReferenceIdeal.main_v81) = v7 c
          ∧ r.2.mem ((c.tc : Thread Cert.ProjReferenceIdeal.nD Cert.ProjReferenceIdeal.τ).loc Cert.ProjReferenceIdeal.main_v84) = v8 c
          ∧ r.2.mem ((c.tc : Thread Cert.ProjReferenceIdeal.nD Cert.ProjReferenceIdeal.τ).loc Cert.ProjReferenceIdeal.main_v86) = v9 c
          ∧ r.2.mem ((c.tc : Thread Cert.ProjReferenceIdeal.nD Cert.ProjReferenceIdeal.τ).loc Cert.ProjReferenceIdeal.main_v26) = v10 c
          ∧ r.2.mem ((c.tc : Thread Cert.ProjReferenceIdeal.nD Cert.ProjReferenceIdeal.τ).loc Cert.ProjReferenceIdeal.main_v87) = v11 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_MetaHgrnKernel_MetaHgrnKernelIdeal : Prop :=
  True

def algebraic_MetaHgrnKernelIdeal_MetaHgrnReferenceIdeal_pre_log_forget_factors_are_finite [hMetaHgrnKernelIdeal : Cert.MetaHgrnKernelIdeal.Facts] [hMetaHgrnReferenceIdeal : Cert.MetaHgrnReferenceIdeal.Facts] [hPre_log_forget_factors_are_finite : Cert.Pre_log_forget_factors_are_finite.Facts] : Prop :=
  ∀ (m : (ℓ : Loc Cert.MetaHgrnKernelIdeal.nD Cert.MetaHgrnKernelIdeal.τ Cert.MetaHgrnKernelIdeal.sig) → Buf (Elt Ideal) ℓ) (g : Dev Cert.MetaHgrnKernelIdeal.nD → PrngReg)
    (m' : (ℓ : Loc Cert.MetaHgrnReferenceIdeal.nD Cert.MetaHgrnReferenceIdeal.τ Cert.MetaHgrnReferenceIdeal.sig) → Buf (Elt Ideal) ℓ) (g' : Dev Cert.MetaHgrnReferenceIdeal.nD → PrngReg), Pre_MetaHgrnKernelIdeal_log_forget_factors_are_finite m →
    (∀ c : Dev Cert.MetaHgrnKernelIdeal.nD,
      m' ((c.tc : Thread Cert.MetaHgrnReferenceIdeal.nD Cert.MetaHgrnReferenceIdeal.τ).loc Cert.MetaHgrnReferenceIdeal.main_arg0) = m ((c.tc : Thread Cert.MetaHgrnKernelIdeal.nD Cert.MetaHgrnKernelIdeal.τ).loc Cert.MetaHgrnKernelIdeal.main_arg0)
      ∧ m' ((c.tc : Thread Cert.MetaHgrnReferenceIdeal.nD Cert.MetaHgrnReferenceIdeal.τ).loc Cert.MetaHgrnReferenceIdeal.main_arg1) = m ((c.tc : Thread Cert.MetaHgrnKernelIdeal.nD Cert.MetaHgrnKernelIdeal.τ).loc Cert.MetaHgrnKernelIdeal.main_arg1)
      ∧ m' ((c.tc : Thread Cert.MetaHgrnReferenceIdeal.nD Cert.MetaHgrnReferenceIdeal.τ).loc Cert.MetaHgrnReferenceIdeal.main_arg2) = m ((c.tc : Thread Cert.MetaHgrnKernelIdeal.nD Cert.MetaHgrnKernelIdeal.τ).loc Cert.MetaHgrnKernelIdeal.main_arg2)
      ∧ m' ((c.tc : Thread Cert.MetaHgrnReferenceIdeal.nD Cert.MetaHgrnReferenceIdeal.τ).loc Cert.MetaHgrnReferenceIdeal.main_arg3) = m ((c.tc : Thread Cert.MetaHgrnKernelIdeal.nD Cert.MetaHgrnKernelIdeal.τ).loc Cert.MetaHgrnKernelIdeal.main_arg3)
      ∧ m' ((c.tc : Thread Cert.MetaHgrnReferenceIdeal.nD Cert.MetaHgrnReferenceIdeal.τ).loc Cert.MetaHgrnReferenceIdeal.main_arg4) = m ((c.tc : Thread Cert.MetaHgrnKernelIdeal.nD Cert.MetaHgrnKernelIdeal.τ).loc Cert.MetaHgrnKernelIdeal.main_arg4)
      ∧ m' ((c.tc : Thread Cert.MetaHgrnReferenceIdeal.nD Cert.MetaHgrnReferenceIdeal.τ).loc Cert.MetaHgrnReferenceIdeal.main_arg5) = m ((c.tc : Thread Cert.MetaHgrnKernelIdeal.nD Cert.MetaHgrnKernelIdeal.τ).loc Cert.MetaHgrnKernelIdeal.main_arg5)
      ∧ m' ((c.tc : Thread Cert.MetaHgrnReferenceIdeal.nD Cert.MetaHgrnReferenceIdeal.τ).loc Cert.MetaHgrnReferenceIdeal.main_arg6) = m ((c.tc : Thread Cert.MetaHgrnKernelIdeal.nD Cert.MetaHgrnKernelIdeal.τ).loc Cert.MetaHgrnKernelIdeal.main_arg6)) →
    ∃ (v0 : (c : Dev Cert.MetaHgrnKernelIdeal.nD) → Buf (Elt Ideal) ((c.tc : Thread Cert.MetaHgrnKernelIdeal.nD Cert.MetaHgrnKernelIdeal.τ).loc Cert.MetaHgrnKernelIdeal.main_v1_0)) (v1 : (c : Dev Cert.MetaHgrnKernelIdeal.nD) → Buf (Elt Ideal) ((c.tc : Thread Cert.MetaHgrnKernelIdeal.nD Cert.MetaHgrnKernelIdeal.τ).loc Cert.MetaHgrnKernelIdeal.main_v1_1)),
      θ_run (Cert.MetaHgrnKernelIdeal.defs (F := Ideal)) (onTc (τ := Cert.MetaHgrnKernelIdeal.τ) (Cert.MetaHgrnKernelIdeal.main (F := Ideal))) ⟨m, fun _ => 0, g⟩ (fun r => ∀ c : Dev Cert.MetaHgrnKernelIdeal.nD,
          r.2.mem ((c.tc : Thread Cert.MetaHgrnKernelIdeal.nD Cert.MetaHgrnKernelIdeal.τ).loc Cert.MetaHgrnKernelIdeal.main_v1_0) = v0 c
          ∧ r.2.mem ((c.tc : Thread Cert.MetaHgrnKernelIdeal.nD Cert.MetaHgrnKernelIdeal.τ).loc Cert.MetaHgrnKernelIdeal.main_v1_1) = v1 c
          ∧ r.2.mem ((c.tc : Thread Cert.MetaHgrnKernelIdeal.nD Cert.MetaHgrnKernelIdeal.τ).loc Cert.MetaHgrnKernelIdeal.main_arg0) = m ((c.tc : Thread Cert.MetaHgrnKernelIdeal.nD Cert.MetaHgrnKernelIdeal.τ).loc Cert.MetaHgrnKernelIdeal.main_arg0)
          ∧ r.2.mem ((c.tc : Thread Cert.MetaHgrnKernelIdeal.nD Cert.MetaHgrnKernelIdeal.τ).loc Cert.MetaHgrnKernelIdeal.main_arg1) = m ((c.tc : Thread Cert.MetaHgrnKernelIdeal.nD Cert.MetaHgrnKernelIdeal.τ).loc Cert.MetaHgrnKernelIdeal.main_arg1)
          ∧ r.2.mem ((c.tc : Thread Cert.MetaHgrnKernelIdeal.nD Cert.MetaHgrnKernelIdeal.τ).loc Cert.MetaHgrnKernelIdeal.main_arg2) = m ((c.tc : Thread Cert.MetaHgrnKernelIdeal.nD Cert.MetaHgrnKernelIdeal.τ).loc Cert.MetaHgrnKernelIdeal.main_arg2)
          ∧ r.2.mem ((c.tc : Thread Cert.MetaHgrnKernelIdeal.nD Cert.MetaHgrnKernelIdeal.τ).loc Cert.MetaHgrnKernelIdeal.main_arg3) = m ((c.tc : Thread Cert.MetaHgrnKernelIdeal.nD Cert.MetaHgrnKernelIdeal.τ).loc Cert.MetaHgrnKernelIdeal.main_arg3)
          ∧ r.2.mem ((c.tc : Thread Cert.MetaHgrnKernelIdeal.nD Cert.MetaHgrnKernelIdeal.τ).loc Cert.MetaHgrnKernelIdeal.main_arg4) = m ((c.tc : Thread Cert.MetaHgrnKernelIdeal.nD Cert.MetaHgrnKernelIdeal.τ).loc Cert.MetaHgrnKernelIdeal.main_arg4)
          ∧ r.2.mem ((c.tc : Thread Cert.MetaHgrnKernelIdeal.nD Cert.MetaHgrnKernelIdeal.τ).loc Cert.MetaHgrnKernelIdeal.main_arg5) = m ((c.tc : Thread Cert.MetaHgrnKernelIdeal.nD Cert.MetaHgrnKernelIdeal.τ).loc Cert.MetaHgrnKernelIdeal.main_arg5)
          ∧ r.2.mem ((c.tc : Thread Cert.MetaHgrnKernelIdeal.nD Cert.MetaHgrnKernelIdeal.τ).loc Cert.MetaHgrnKernelIdeal.main_arg6) = m ((c.tc : Thread Cert.MetaHgrnKernelIdeal.nD Cert.MetaHgrnKernelIdeal.τ).loc Cert.MetaHgrnKernelIdeal.main_arg6))
      ∧ θ_run (Cert.MetaHgrnReferenceIdeal.defs (F := Ideal)) (onTc (τ := Cert.MetaHgrnReferenceIdeal.τ) (Cert.MetaHgrnReferenceIdeal.main (F := Ideal))) ⟨m', fun _ => 0, g'⟩ (fun r => ∀ c : Dev Cert.MetaHgrnReferenceIdeal.nD,
          r.2.mem ((c.tc : Thread Cert.MetaHgrnReferenceIdeal.nD Cert.MetaHgrnReferenceIdeal.τ).loc Cert.MetaHgrnReferenceIdeal.main_v61) = v0 c
          ∧ r.2.mem ((c.tc : Thread Cert.MetaHgrnReferenceIdeal.nD Cert.MetaHgrnReferenceIdeal.τ).loc Cert.MetaHgrnReferenceIdeal.main_v62) = v1 c
          ∧ r.2.mem ((c.tc : Thread Cert.MetaHgrnReferenceIdeal.nD Cert.MetaHgrnReferenceIdeal.τ).loc Cert.MetaHgrnReferenceIdeal.main_arg0) = m' ((c.tc : Thread Cert.MetaHgrnReferenceIdeal.nD Cert.MetaHgrnReferenceIdeal.τ).loc Cert.MetaHgrnReferenceIdeal.main_arg0)
          ∧ r.2.mem ((c.tc : Thread Cert.MetaHgrnReferenceIdeal.nD Cert.MetaHgrnReferenceIdeal.τ).loc Cert.MetaHgrnReferenceIdeal.main_arg1) = m' ((c.tc : Thread Cert.MetaHgrnReferenceIdeal.nD Cert.MetaHgrnReferenceIdeal.τ).loc Cert.MetaHgrnReferenceIdeal.main_arg1)
          ∧ r.2.mem ((c.tc : Thread Cert.MetaHgrnReferenceIdeal.nD Cert.MetaHgrnReferenceIdeal.τ).loc Cert.MetaHgrnReferenceIdeal.main_arg2) = m' ((c.tc : Thread Cert.MetaHgrnReferenceIdeal.nD Cert.MetaHgrnReferenceIdeal.τ).loc Cert.MetaHgrnReferenceIdeal.main_arg2)
          ∧ r.2.mem ((c.tc : Thread Cert.MetaHgrnReferenceIdeal.nD Cert.MetaHgrnReferenceIdeal.τ).loc Cert.MetaHgrnReferenceIdeal.main_arg3) = m' ((c.tc : Thread Cert.MetaHgrnReferenceIdeal.nD Cert.MetaHgrnReferenceIdeal.τ).loc Cert.MetaHgrnReferenceIdeal.main_arg3)
          ∧ r.2.mem ((c.tc : Thread Cert.MetaHgrnReferenceIdeal.nD Cert.MetaHgrnReferenceIdeal.τ).loc Cert.MetaHgrnReferenceIdeal.main_arg4) = m' ((c.tc : Thread Cert.MetaHgrnReferenceIdeal.nD Cert.MetaHgrnReferenceIdeal.τ).loc Cert.MetaHgrnReferenceIdeal.main_arg4)
          ∧ r.2.mem ((c.tc : Thread Cert.MetaHgrnReferenceIdeal.nD Cert.MetaHgrnReferenceIdeal.τ).loc Cert.MetaHgrnReferenceIdeal.main_arg5) = m' ((c.tc : Thread Cert.MetaHgrnReferenceIdeal.nD Cert.MetaHgrnReferenceIdeal.τ).loc Cert.MetaHgrnReferenceIdeal.main_arg5)
          ∧ r.2.mem ((c.tc : Thread Cert.MetaHgrnReferenceIdeal.nD Cert.MetaHgrnReferenceIdeal.τ).loc Cert.MetaHgrnReferenceIdeal.main_arg6) = m' ((c.tc : Thread Cert.MetaHgrnReferenceIdeal.nD Cert.MetaHgrnReferenceIdeal.τ).loc Cert.MetaHgrnReferenceIdeal.main_arg6))

def preserves_MetaAttnKernel_MetaAttnKernelIdeal : Prop :=
  True

def algebraic_MetaAttnKernelIdeal_MetaAttnReferenceIdeal [hMetaAttnKernelIdeal : Cert.MetaAttnKernelIdeal.Facts] [hMetaAttnReferenceIdeal : Cert.MetaAttnReferenceIdeal.Facts] : Prop :=
  ∀ (m : (ℓ : Loc Cert.MetaAttnKernelIdeal.nD Cert.MetaAttnKernelIdeal.τ Cert.MetaAttnKernelIdeal.sig) → Buf (Elt Ideal) ℓ) (g : Dev Cert.MetaAttnKernelIdeal.nD → PrngReg)
    (m' : (ℓ : Loc Cert.MetaAttnReferenceIdeal.nD Cert.MetaAttnReferenceIdeal.τ Cert.MetaAttnReferenceIdeal.sig) → Buf (Elt Ideal) ℓ) (g' : Dev Cert.MetaAttnReferenceIdeal.nD → PrngReg), Pre_MetaAttnKernelIdeal m →
    (∀ c : Dev Cert.MetaAttnKernelIdeal.nD,
      m' ((c.tc : Thread Cert.MetaAttnReferenceIdeal.nD Cert.MetaAttnReferenceIdeal.τ).loc Cert.MetaAttnReferenceIdeal.main_arg0) = m ((c.tc : Thread Cert.MetaAttnKernelIdeal.nD Cert.MetaAttnKernelIdeal.τ).loc Cert.MetaAttnKernelIdeal.main_arg0)
      ∧ m' ((c.tc : Thread Cert.MetaAttnReferenceIdeal.nD Cert.MetaAttnReferenceIdeal.τ).loc Cert.MetaAttnReferenceIdeal.main_arg1) = m ((c.tc : Thread Cert.MetaAttnKernelIdeal.nD Cert.MetaAttnKernelIdeal.τ).loc Cert.MetaAttnKernelIdeal.main_arg1)
      ∧ m' ((c.tc : Thread Cert.MetaAttnReferenceIdeal.nD Cert.MetaAttnReferenceIdeal.τ).loc Cert.MetaAttnReferenceIdeal.main_arg2) = m ((c.tc : Thread Cert.MetaAttnKernelIdeal.nD Cert.MetaAttnKernelIdeal.τ).loc Cert.MetaAttnKernelIdeal.main_arg2)
      ∧ m' ((c.tc : Thread Cert.MetaAttnReferenceIdeal.nD Cert.MetaAttnReferenceIdeal.τ).loc Cert.MetaAttnReferenceIdeal.main_arg3) = m ((c.tc : Thread Cert.MetaAttnKernelIdeal.nD Cert.MetaAttnKernelIdeal.τ).loc Cert.MetaAttnKernelIdeal.main_arg3)
      ∧ m' ((c.tc : Thread Cert.MetaAttnReferenceIdeal.nD Cert.MetaAttnReferenceIdeal.τ).loc Cert.MetaAttnReferenceIdeal.main_arg4) = m ((c.tc : Thread Cert.MetaAttnKernelIdeal.nD Cert.MetaAttnKernelIdeal.τ).loc Cert.MetaAttnKernelIdeal.main_arg4)
      ∧ m' ((c.tc : Thread Cert.MetaAttnReferenceIdeal.nD Cert.MetaAttnReferenceIdeal.τ).loc Cert.MetaAttnReferenceIdeal.main_arg5) = m ((c.tc : Thread Cert.MetaAttnKernelIdeal.nD Cert.MetaAttnKernelIdeal.τ).loc Cert.MetaAttnKernelIdeal.main_arg5)) →
    ∃ (v0 : (c : Dev Cert.MetaAttnKernelIdeal.nD) → Buf (Elt Ideal) ((c.tc : Thread Cert.MetaAttnKernelIdeal.nD Cert.MetaAttnKernelIdeal.τ).loc Cert.MetaAttnKernelIdeal.main_v62)),
      θ_run (Cert.MetaAttnKernelIdeal.defs (F := Ideal)) (onTc (τ := Cert.MetaAttnKernelIdeal.τ) (Cert.MetaAttnKernelIdeal.main (F := Ideal))) ⟨m, fun _ => 0, g⟩ (fun r => ∀ c : Dev Cert.MetaAttnKernelIdeal.nD,
          r.2.mem ((c.tc : Thread Cert.MetaAttnKernelIdeal.nD Cert.MetaAttnKernelIdeal.τ).loc Cert.MetaAttnKernelIdeal.main_v62) = v0 c
          ∧ r.2.mem ((c.tc : Thread Cert.MetaAttnKernelIdeal.nD Cert.MetaAttnKernelIdeal.τ).loc Cert.MetaAttnKernelIdeal.main_arg0) = m ((c.tc : Thread Cert.MetaAttnKernelIdeal.nD Cert.MetaAttnKernelIdeal.τ).loc Cert.MetaAttnKernelIdeal.main_arg0)
          ∧ r.2.mem ((c.tc : Thread Cert.MetaAttnKernelIdeal.nD Cert.MetaAttnKernelIdeal.τ).loc Cert.MetaAttnKernelIdeal.main_arg1) = m ((c.tc : Thread Cert.MetaAttnKernelIdeal.nD Cert.MetaAttnKernelIdeal.τ).loc Cert.MetaAttnKernelIdeal.main_arg1)
          ∧ r.2.mem ((c.tc : Thread Cert.MetaAttnKernelIdeal.nD Cert.MetaAttnKernelIdeal.τ).loc Cert.MetaAttnKernelIdeal.main_arg2) = m ((c.tc : Thread Cert.MetaAttnKernelIdeal.nD Cert.MetaAttnKernelIdeal.τ).loc Cert.MetaAttnKernelIdeal.main_arg2)
          ∧ r.2.mem ((c.tc : Thread Cert.MetaAttnKernelIdeal.nD Cert.MetaAttnKernelIdeal.τ).loc Cert.MetaAttnKernelIdeal.main_arg3) = m ((c.tc : Thread Cert.MetaAttnKernelIdeal.nD Cert.MetaAttnKernelIdeal.τ).loc Cert.MetaAttnKernelIdeal.main_arg3)
          ∧ r.2.mem ((c.tc : Thread Cert.MetaAttnKernelIdeal.nD Cert.MetaAttnKernelIdeal.τ).loc Cert.MetaAttnKernelIdeal.main_arg4) = m ((c.tc : Thread Cert.MetaAttnKernelIdeal.nD Cert.MetaAttnKernelIdeal.τ).loc Cert.MetaAttnKernelIdeal.main_arg4)
          ∧ r.2.mem ((c.tc : Thread Cert.MetaAttnKernelIdeal.nD Cert.MetaAttnKernelIdeal.τ).loc Cert.MetaAttnKernelIdeal.main_arg5) = m ((c.tc : Thread Cert.MetaAttnKernelIdeal.nD Cert.MetaAttnKernelIdeal.τ).loc Cert.MetaAttnKernelIdeal.main_arg5))
      ∧ θ_run (Cert.MetaAttnReferenceIdeal.defs (F := Ideal)) (onTc (τ := Cert.MetaAttnReferenceIdeal.τ) (Cert.MetaAttnReferenceIdeal.main (F := Ideal))) ⟨m', fun _ => 0, g'⟩ (fun r => ∀ c : Dev Cert.MetaAttnReferenceIdeal.nD,
          r.2.mem ((c.tc : Thread Cert.MetaAttnReferenceIdeal.nD Cert.MetaAttnReferenceIdeal.τ).loc Cert.MetaAttnReferenceIdeal.main_v34) = v0 c
          ∧ r.2.mem ((c.tc : Thread Cert.MetaAttnReferenceIdeal.nD Cert.MetaAttnReferenceIdeal.τ).loc Cert.MetaAttnReferenceIdeal.main_arg0) = m' ((c.tc : Thread Cert.MetaAttnReferenceIdeal.nD Cert.MetaAttnReferenceIdeal.τ).loc Cert.MetaAttnReferenceIdeal.main_arg0)
          ∧ r.2.mem ((c.tc : Thread Cert.MetaAttnReferenceIdeal.nD Cert.MetaAttnReferenceIdeal.τ).loc Cert.MetaAttnReferenceIdeal.main_arg1) = m' ((c.tc : Thread Cert.MetaAttnReferenceIdeal.nD Cert.MetaAttnReferenceIdeal.τ).loc Cert.MetaAttnReferenceIdeal.main_arg1)
          ∧ r.2.mem ((c.tc : Thread Cert.MetaAttnReferenceIdeal.nD Cert.MetaAttnReferenceIdeal.τ).loc Cert.MetaAttnReferenceIdeal.main_arg2) = m' ((c.tc : Thread Cert.MetaAttnReferenceIdeal.nD Cert.MetaAttnReferenceIdeal.τ).loc Cert.MetaAttnReferenceIdeal.main_arg2)
          ∧ r.2.mem ((c.tc : Thread Cert.MetaAttnReferenceIdeal.nD Cert.MetaAttnReferenceIdeal.τ).loc Cert.MetaAttnReferenceIdeal.main_arg3) = m' ((c.tc : Thread Cert.MetaAttnReferenceIdeal.nD Cert.MetaAttnReferenceIdeal.τ).loc Cert.MetaAttnReferenceIdeal.main_arg3)
          ∧ r.2.mem ((c.tc : Thread Cert.MetaAttnReferenceIdeal.nD Cert.MetaAttnReferenceIdeal.τ).loc Cert.MetaAttnReferenceIdeal.main_arg4) = m' ((c.tc : Thread Cert.MetaAttnReferenceIdeal.nD Cert.MetaAttnReferenceIdeal.τ).loc Cert.MetaAttnReferenceIdeal.main_arg4)
          ∧ r.2.mem ((c.tc : Thread Cert.MetaAttnReferenceIdeal.nD Cert.MetaAttnReferenceIdeal.τ).loc Cert.MetaAttnReferenceIdeal.main_arg5) = m' ((c.tc : Thread Cert.MetaAttnReferenceIdeal.nD Cert.MetaAttnReferenceIdeal.τ).loc Cert.MetaAttnReferenceIdeal.main_arg5))

def Claim : Prop :=
  ∃ (hKernel : Cert.Kernel.Facts) (hOutKernel : Cert.OutKernel.Facts) (hOutKernelIdeal : Cert.OutKernelIdeal.Facts) (hOutReferenceIdeal : Cert.OutReferenceIdeal.Facts) (hProjKernel : Cert.ProjKernel.Facts) (hProjKernelIdeal : Cert.ProjKernelIdeal.Facts) (hProjReferenceIdeal : Cert.ProjReferenceIdeal.Facts) (hMetaHgrnKernel : Cert.MetaHgrnKernel.Facts) (hMetaHgrnKernelIdeal : Cert.MetaHgrnKernelIdeal.Facts) (hMetaHgrnReferenceIdeal : Cert.MetaHgrnReferenceIdeal.Facts) (hMetaAttnKernel : Cert.MetaAttnKernel.Facts) (hMetaAttnKernelIdeal : Cert.MetaAttnKernelIdeal.Facts) (hMetaAttnReferenceIdeal : Cert.MetaAttnReferenceIdeal.Facts) (hPre_log_forget_factors_are_finite : Cert.Pre_log_forget_factors_are_finite.Facts),
    quiescent_Kernel (hKernel := hKernel)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MetaHgrnKernel (hMetaHgrnKernel := hMetaHgrnKernel)
    ∧ quiescent_MetaHgrnKernelIdeal (hMetaHgrnKernelIdeal := hMetaHgrnKernelIdeal)
    ∧ quiescent_MetaHgrnKernelIdeal_pre_log_forget_factors_are_finite (hMetaHgrnKernelIdeal := hMetaHgrnKernelIdeal) (hPre_log_forget_factors_are_finite := hPre_log_forget_factors_are_finite)
    ∧ quiescent_MetaHgrnReferenceIdeal (hMetaHgrnReferenceIdeal := hMetaHgrnReferenceIdeal)
    ∧ quiescent_MetaHgrnReferenceIdeal_pre_log_forget_factors_are_finite (hMetaHgrnReferenceIdeal := hMetaHgrnReferenceIdeal) (hPre_log_forget_factors_are_finite := hPre_log_forget_factors_are_finite)
    ∧ quiescent_MetaAttnKernel (hMetaAttnKernel := hMetaAttnKernel)
    ∧ quiescent_MetaAttnKernelIdeal (hMetaAttnKernelIdeal := hMetaAttnKernelIdeal)
    ∧ quiescent_MetaAttnReferenceIdeal (hMetaAttnReferenceIdeal := hMetaAttnReferenceIdeal)
    ∧ preserves_OutKernel_OutKernelIdeal
    ∧ algebraic_OutKernelIdeal_OutReferenceIdeal (hOutKernelIdeal := hOutKernelIdeal) (hOutReferenceIdeal := hOutReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MetaHgrnKernel_MetaHgrnKernelIdeal
    ∧ algebraic_MetaHgrnKernelIdeal_MetaHgrnReferenceIdeal_pre_log_forget_factors_are_finite (hMetaHgrnKernelIdeal := hMetaHgrnKernelIdeal) (hMetaHgrnReferenceIdeal := hMetaHgrnReferenceIdeal) (hPre_log_forget_factors_are_finite := hPre_log_forget_factors_are_finite)
    ∧ preserves_MetaAttnKernel_MetaAttnKernelIdeal
    ∧ algebraic_MetaAttnKernelIdeal_MetaAttnReferenceIdeal (hMetaAttnKernelIdeal := hMetaAttnKernelIdeal) (hMetaAttnReferenceIdeal := hMetaAttnReferenceIdeal)
-- ==== Pre_log_forget_factors_are_finite.lean ====
abbrev S16x512 : Shape := ⟨2, ![16, 512]⟩
abbrev S4x128x128 : Shape := ⟨3, ![4, 128, 128]⟩
abbrev S128 : Shape := ⟨1, ![128]⟩
abbrev S_ : Shape := ⟨0, ![]⟩

class Facts : Prop where
  bcast_S_S16x512 : S_.BroadcastsInDim S16x512 (![] : Fin 0 → Fin S16x512.rank)

variable [Facts]

def fn {F : FTy → Type} [FloatOps F] (main_arg0 : FVec F S16x512 .f32) (main_arg1 : FVec F S16x512 .f32) (main_arg2 : FVec F S16x512 .f32) (main_arg3 : FVec F S16x512 .f32) (main_arg4 : FVec F S16x512 .f32) (main_arg5 : FVec F S4x128x128 .f32) (main_arg6 : FVec F S128 .f32) : IVec S16x512 1 :=
  let main_cst : FVec F S_ .f32 := constant S_ .f32 0xFF800000#32
  let main_v0 : FVec F S16x512 .f32 := broadcastInDim S16x512 ![] bcast_S_S16x512 main_cst
  let main_v1 : IVec S16x512 1 := cmpf .ogt main_arg1 main_v0
  let main_cst_0 : FVec F S_ .f32 := constant S_ .f32 0x7F800000#32
  let main_v2 : FVec F S16x512 .f32 := broadcastInDim S16x512 ![] bcast_S_S16x512 main_cst_0
  let main_v3 : IVec S16x512 1 := cmpf .olt main_arg1 main_v2
  let main_v4 : IVec S16x512 1 := andi main_v1 main_v3
  main_v4
-- ==== Kernel.lean ====
abbrev S256x32768 : Shape := ⟨2, ![256, 32768]⟩
abbrev S32768x64 : Shape := ⟨2, ![32768, 64]⟩
abbrev S8x32768 : Shape := ⟨2, ![8, 32768]⟩
abbrev S8x128x32768 : Shape := ⟨3, ![8, 128, 32768]⟩
abbrev S32768x128 : Shape := ⟨2, ![32768, 128]⟩
abbrev S256x144x128 : Shape := ⟨3, ![256, 144, 128]⟩
abbrev S16x128 : Shape := ⟨2, ![16, 128]⟩
abbrev S144x16 : Shape := ⟨2, ![144, 16]⟩
abbrev S32768x512 : Shape := ⟨2, ![32768, 512]⟩
abbrev S3x128x1024 : Shape := ⟨3, ![3, 128, 1024]⟩
abbrev S2x16x1024 : Shape := ⟨3, ![2, 16, 1024]⟩
abbrev S4x128x256 : Shape := ⟨3, ![4, 128, 256]⟩
abbrev S256x128 : Shape := ⟨2, ![256, 128]⟩
abbrev S4096x64 : Shape := ⟨2, ![4096, 64]⟩
abbrev S8x128 : Shape := ⟨2, ![8, 128]⟩
abbrev S8x128x128 : Shape := ⟨3, ![8, 128, 128]⟩
abbrev S4096x128 : Shape := ⟨2, ![4096, 128]⟩
abbrev S32x144x128 : Shape := ⟨3, ![32, 144, 128]⟩
abbrev S128x512 : Shape := ⟨2, ![128, 512]⟩
abbrev S128x128 : Shape := ⟨2, ![128, 128]⟩
abbrev S2x512x1024 : Shape := ⟨3, ![2, 512, 1024]⟩
abbrev S2x8x1024 : Shape := ⟨3, ![2, 8, 1024]⟩
abbrev S8x1024 : Shape := ⟨2, ![8, 1024]⟩
abbrev S144x1024 : Shape := ⟨2, ![144, 1024]⟩
abbrev S512x128 : Shape := ⟨2, ![512, 128]⟩
abbrev S512x64 : Shape := ⟨2, ![512, 64]⟩
abbrev S64x128 : Shape := ⟨2, ![64, 128]⟩
abbrev S1x128 : Shape := ⟨2, ![1, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S4x128x128 : Shape := ⟨3, ![4, 128, 128]⟩
abbrev S1x128x128 : Shape := ⟨3, ![1, 128, 128]⟩
abbrev S128x1024 : Shape := ⟨2, ![128, 1024]⟩
abbrev S16x1024 : Shape := ⟨2, ![16, 1024]⟩
abbrev S1x16x1024 : Shape := ⟨3, ![1, 16, 1024]⟩
abbrev S1024 : Shape := ⟨1, ![1024]⟩
abbrev S1x1024 : Shape := ⟨2, ![1, 1024]⟩
abbrev S512x512 : Shape := ⟨2, ![512, 512]⟩
abbrev S8x512 : Shape := ⟨2, ![8, 512]⟩
abbrev S1x128x512 : Shape := ⟨3, ![1, 128, 512]⟩
abbrev S1x8x512 : Shape := ⟨3, ![1, 8, 512]⟩
abbrev S4x144x128 : Shape := ⟨3, ![4, 144, 128]⟩
abbrev S1x144x128 : Shape := ⟨3, ![1, 144, 128]⟩
abbrev S144x128 : Shape := ⟨2, ![144, 128]⟩
abbrev S144x512 : Shape := ⟨2, ![144, 512]⟩
abbrev S1x512 : Shape := ⟨2, ![1, 512]⟩
abbrev S512 : Shape := ⟨1, ![512]⟩
abbrev S1x512x512 : Shape := ⟨3, ![1, 512, 512]⟩
abbrev S1024x128 : Shape := ⟨2, ![1024, 128]⟩
abbrev S1x128x256 : Shape := ⟨3, ![1, 128, 256]⟩
abbrev S128x256 : Shape := ⟨2, ![128, 256]⟩

abbrev nBuf : Space → Nat
  | .hbm => 13
  | .vmem => 33
  | .smem => 0
  | _ => 0

abbrev bufTy : (tb : Table) → Fin (tcTables nBuf tb) → BufTy
  | .hbm, ⟨0, _⟩ => ⟨S256x32768, .bf16⟩
  | .hbm, ⟨1, _⟩ => ⟨S32768x64, .bf16⟩
  | .hbm, ⟨2, _⟩ => ⟨S8x32768, .f32⟩
  | .hbm, ⟨3, _⟩ => ⟨S8x128x32768, .bf16⟩
  | .hbm, ⟨4, _⟩ => ⟨S32768x128, .bf16⟩
  | .hbm, ⟨5, _⟩ => ⟨S256x144x128, .bf16⟩
  | .hbm, ⟨6, _⟩ => ⟨S16x128, .bf16⟩
  | .hbm, ⟨7, _⟩ => ⟨S144x16, .bf16⟩
  | .hbm, ⟨8, _⟩ => ⟨S32768x512, .f32⟩
  | .hbm, ⟨9, _⟩ => ⟨S3x128x1024, .f32⟩
  | .hbm, ⟨10, _⟩ => ⟨S2x16x1024, .f32⟩
  | .hbm, ⟨11, _⟩ => ⟨S4x128x256, .bf16⟩
  | .hbm, ⟨12, _⟩ => ⟨S32768x512, .bf16⟩
  | .local _ .vmem, ⟨0, _⟩ => ⟨S256x128, .bf16⟩
  | .local _ .vmem, ⟨1, _⟩ => ⟨S256x128, .bf16⟩
  | .local _ .vmem, ⟨2, _⟩ => ⟨S4096x64, .bf16⟩
  | .local _ .vmem, ⟨3, _⟩ => ⟨S4096x64, .bf16⟩
  | .local _ .vmem, ⟨4, _⟩ => ⟨S8x128, .f32⟩
  | .local _ .vmem, ⟨5, _⟩ => ⟨S8x128, .f32⟩
  | .local _ .vmem, ⟨6, _⟩ => ⟨S8x128x128, .bf16⟩
  | .local _ .vmem, ⟨7, _⟩ => ⟨S8x128x128, .bf16⟩
  | .local _ .vmem, ⟨8, _⟩ => ⟨S4096x128, .bf16⟩
  | .local _ .vmem, ⟨9, _⟩ => ⟨S4096x128, .bf16⟩
  | .local _ .vmem, ⟨10, _⟩ => ⟨S32x144x128, .bf16⟩
  | .local _ .vmem, ⟨11, _⟩ => ⟨S32x144x128, .bf16⟩
  | .local _ .vmem, ⟨12, _⟩ => ⟨S16x128, .bf16⟩
  | .local _ .vmem, ⟨13, _⟩ => ⟨S144x16, .bf16⟩
  | .local _ .vmem, ⟨14, _⟩ => ⟨S128x512, .f32⟩
  | .local _ .vmem, ⟨15, _⟩ => ⟨S128x512, .f32⟩
  | .local _ .vmem, ⟨16, _⟩ => ⟨S3x128x1024, .f32⟩
  | .local _ .vmem, ⟨17, _⟩ => ⟨S2x16x1024, .f32⟩
  | .local _ .vmem, ⟨18, _⟩ => ⟨S4x128x256, .bf16⟩
  | .local _ .vmem, ⟨19, _⟩ => ⟨S128x512, .bf16⟩
  | .local _ .vmem, ⟨20, _⟩ => ⟨S128x512, .bf16⟩
  | .local _ .vmem, ⟨21, _⟩ => ⟨S4096x128, .f32⟩
  | .local _ .vmem, ⟨22, _⟩ => ⟨S4096x128, .i32⟩
  | .local _ .vmem, ⟨23, _⟩ => ⟨S128x128, .i32⟩
  | .local _ .vmem, ⟨24, _⟩ => ⟨S128x128, .i32⟩
  | .local _ .vmem, ⟨25, _⟩ => ⟨S128x128, .i32⟩
  | .local _ .vmem, ⟨26, _⟩ => ⟨S8x128, .f32⟩
  | .local _ .vmem, ⟨27, _⟩ => ⟨S8x128, .f32⟩
  | .local _ .vmem, ⟨28, _⟩ => ⟨S4096x128, .f32⟩
  | .local _ .vmem, ⟨29, _⟩ => ⟨S2x512x1024, .f32⟩
  | .local _ .vmem, ⟨30, _⟩ => ⟨S2x8x1024, .f32⟩
  | .local _ .vmem, ⟨31, _⟩ => ⟨S8x1024, .f32⟩
  | .local _ .vmem, ⟨32, _⟩ => ⟨S144x1024, .f32⟩
  | _, _ => ⟨S256x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_18 : BitVec 32 := 1#32
  ⟨c0_i32_16, v47, c1_i32_18⟩
def k0_mult1 (i : grid0.Coords) (k0_t1 : Fin (k0_t1_loop i).trips) : BitVec 32 :=
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c512_i32_1013 : BitVec 32 := 512#32
  let v3466 : BitVec 32 := Scalar.muli v3465 c512_i32_1013
  v3466
def k0_off1 (i : grid0.Coords) (k0_t1 : Fin (k0_t1_loop i).trips) : Fin 2 → Nat :=
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c512_i32_1013 : BitVec 32 := 512#32
  let v3466 : BitVec 32 := Scalar.muli v3465 c512_i32_1013
  let v3467 : BitVec 32 := v3466
  let v3468 : Index := Scalar.indexCast v3467
  let c0_1014 : Index := 0#32
  ![v3468.toNat, 0]
def k0_mult2 (i : grid0.Coords) (k0_t1 : Fin (k0_t1_loop i).trips) : BitVec 32 :=
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c512_i32_1023 : BitVec 32 := 512#32
  let v3501 : BitVec 32 := Scalar.muli v3465 c512_i32_1023
  v3501
def k0_off2 (i : grid0.Coords) (k0_t1 : Fin (k0_t1_loop i).trips) : Fin 2 → Nat :=
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c512_i32_1023 : BitVec 32 := 512#32
  let v3501 : BitVec 32 := Scalar.muli v3465 c512_i32_1023
  let v3502 : BitVec 32 := v3501
  let v3503 : Index := Scalar.indexCast v3502
  let c0_1024 : Index := 0#32
  ![v3503.toNat, 0]
def k0_mult3 (i : grid0.Coords) (k0_t1 : Fin (k0_t1_loop i).trips) : BitVec 32 :=
  let c0_i32_1270 : BitVec 32 := 0#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1269 : BitVec 32 := 8#32
  let v4267 : BitVec 32 := Scalar.muli v3546 c8_i32_1269
  let v4268 : BitVec 32 := Scalar.addi c0_i32_1270 v4267
  v4268
def k0_off3 (i : grid0.Coords) (k0_t1 : Fin (k0_t1_loop i).trips) (c0_i32_1270 : BitVec 32) (c0_i32_1028 : BitVec 32) : Fin 2 → Nat :=
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let v3546 : BitVec 32 := Scalar.addi v3545 c0_i32_1028
  let c8_i32_1269 : BitVec 32 := 8#32
  let v4267 : BitVec 32 := Scalar.muli v3546 c8_i32_1269
  let v4268 : BitVec 32 := Scalar.addi c0_i32_1270 v4267
  let v4269 : BitVec 32 := v4268
  let v4270 : Index := Scalar.indexCast v4269
  let c0_1271 : Index := 0#32
  ![v4270.toNat, 0]
def k0_mult4 (i : grid0.Coords) (k0_t1 : Fin (k0_t1_loop i).trips) : BitVec 32 :=
  let c128_i32_1273 : BitVec 32 := 128#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1272 : BitVec 32 := 8#32
  let v4274 : BitVec 32 := Scalar.muli v3546 c8_i32_1272
  let v4275 : BitVec 32 := Scalar.addi c128_i32_1273 v4274
  v4275
def k0_mult5 (i : grid0.Coords) (k0_t1 : Fin (k0_t1_loop i).trips) : BitVec 32 :=
  let c256_i32_1276 : BitVec 32 := 256#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1275 : BitVec 32 := 8#32
  let v4281 : BitVec 32 := Scalar.muli v3546 c8_i32_1275
  let v4282 : BitVec 32 := Scalar.addi c256_i32_1276 v4281
  v4282
def k0_mult6 (i : grid0.Coords) (k0_t1 : Fin (k0_t1_loop i).trips) : BitVec 32 :=
  let c384_i32_1279 : BitVec 32 := 384#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1278 : BitVec 32 := 8#32
  let v4288 : BitVec 32 := Scalar.muli v3546 c8_i32_1278
  let v4289 : BitVec 32 := Scalar.addi c384_i32_1279 v4288
  v4289
def k0_mult7 (i : grid0.Coords) (k0_t1 : Fin (k0_t1_loop i).trips) : BitVec 32 :=
  let c512_i32_1282 : BitVec 32 := 512#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1281 : BitVec 32 := 8#32
  let v4295 : BitVec 32 := Scalar.muli v3546 c8_i32_1281
  let v4296 : BitVec 32 := Scalar.addi c512_i32_1282 v4295
  v4296
def k0_mult8 (i : grid0.Coords) (k0_t1 : Fin (k0_t1_loop i).trips) : BitVec 32 :=
  let c640_i32_1285 : BitVec 32 := 640#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1284 : BitVec 32 := 8#32
  let v4302 : BitVec 32 := Scalar.muli v3546 c8_i32_1284
  let v4303 : BitVec 32 := Scalar.addi c640_i32_1285 v4302
  v4303
def k0_mult9 (i : grid0.Coords) (k0_t1 : Fin (k0_t1_loop i).trips) : BitVec 32 :=
  let c768_i32_1288 : BitVec 32 := 768#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1287 : BitVec 32 := 8#32
  let v4309 : BitVec 32 := Scalar.muli v3546 c8_i32_1287
  let v4310 : BitVec 32 := Scalar.addi c768_i32_1288 v4309
  v4310
def k0_mult10 (i : grid0.Coords) (k0_t1 : Fin (k0_t1_loop i).trips) : BitVec 32 :=
  let c896_i32_1291 : BitVec 32 := 896#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1290 : BitVec 32 := 8#32
  let v4316 : BitVec 32 := Scalar.muli v3546 c8_i32_1290
  let v4317 : BitVec 32 := Scalar.addi c896_i32_1291 v4316
  v4317
def k0_mult11 (i : grid0.Coords) (k0_t1 : Fin (k0_t1_loop i).trips) : BitVec 32 :=
  let c1024_i32_1294 : BitVec 32 := 1024#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1293 : BitVec 32 := 8#32
  let v4323 : BitVec 32 := Scalar.muli v3546 c8_i32_1293
  let v4324 : BitVec 32 := Scalar.addi c1024_i32_1294 v4323
  v4324
def k0_mult12 (i : grid0.Coords) (k0_t1 : Fin (k0_t1_loop i).trips) : BitVec 32 :=
  let c1152_i32_1297 : BitVec 32 := 1152#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1296 : BitVec 32 := 8#32
  let v4330 : BitVec 32 := Scalar.muli v3546 c8_i32_1296
  let v4331 : BitVec 32 := Scalar.addi c1152_i32_1297 v4330
  v4331
def k0_mult13 (i : grid0.Coords) (k0_t1 : Fin (k0_t1_loop i).trips) : BitVec 32 :=
  let c1280_i32_1300 : BitVec 32 := 1280#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1299 : BitVec 32 := 8#32
  let v4337 : BitVec 32 := Scalar.muli v3546 c8_i32_1299
  let v4338 : BitVec 32 := Scalar.addi c1280_i32_1300 v4337
  v4338
def k0_mult14 (i : grid0.Coords) (k0_t1 : Fin (k0_t1_loop i).trips) : BitVec 32 :=
  let c1408_i32_1303 : BitVec 32 := 1408#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1302 : BitVec 32 := 8#32
  let v4344 : BitVec 32 := Scalar.muli v3546 c8_i32_1302
  let v4345 : BitVec 32 := Scalar.addi c1408_i32_1303 v4344
  v4345
def k0_mult15 (i : grid0.Coords) (k0_t1 : Fin (k0_t1_loop i).trips) : BitVec 32 :=
  let c1536_i32_1306 : BitVec 32 := 1536#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1305 : BitVec 32 := 8#32
  let v4351 : BitVec 32 := Scalar.muli v3546 c8_i32_1305
  let v4352 : BitVec 32 := Scalar.addi c1536_i32_1306 v4351
  v4352
def k0_mult16 (i : grid0.Coords) (k0_t1 : Fin (k0_t1_loop i).trips) : BitVec 32 :=
  let c1664_i32_1309 : BitVec 32 := 1664#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1308 : BitVec 32 := 8#32
  let v4358 : BitVec 32 := Scalar.muli v3546 c8_i32_1308
  let v4359 : BitVec 32 := Scalar.addi c1664_i32_1309 v4358
  v4359
def k0_mult17 (i : grid0.Coords) (k0_t1 : Fin (k0_t1_loop i).trips) : BitVec 32 :=
  let c1792_i32_1312 : BitVec 32 := 1792#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1311 : BitVec 32 := 8#32
  let v4365 : BitVec 32 := Scalar.muli v3546 c8_i32_1311
  let v4366 : BitVec 32 := Scalar.addi c1792_i32_1312 v4365
  v4366
def k0_mult18 (i : grid0.Coords) (k0_t1 : Fin (k0_t1_loop i).trips) : BitVec 32 :=
  let c1920_i32_1315 : BitVec 32 := 1920#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1314 : BitVec 32 := 8#32
  let v4372 : BitVec 32 := Scalar.muli v3546 c8_i32_1314
  let v4373 : BitVec 32 := Scalar.addi c1920_i32_1315 v4372
  v4373
def k0_mult19 (i : grid0.Coords) (k0_t1 : Fin (k0_t1_loop i).trips) : BitVec 32 :=
  let c2048_i32_1318 : BitVec 32 := 2048#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1317 : BitVec 32 := 8#32
  let v4379 : BitVec 32 := Scalar.muli v3546 c8_i32_1317
  let v4380 : BitVec 32 := Scalar.addi c2048_i32_1318 v4379
  v4380
def k0_mult20 (i : grid0.Coords) (k0_t1 : Fin (k0_t1_loop i).trips) : BitVec 32 :=
  let c2176_i32_1321 : BitVec 32 := 2176#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1320 : BitVec 32 := 8#32
  let v4386 : BitVec 32 := Scalar.muli v3546 c8_i32_1320
  let v4387 : BitVec 32 := Scalar.addi c2176_i32_1321 v4386
  v4387
def k0_mult21 (i : grid0.Coords) (k0_t1 : Fin (k0_t1_loop i).trips) : BitVec 32 :=
  let c2304_i32_1324 : BitVec 32 := 2304#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1323 : BitVec 32 := 8#32
  let v4393 : BitVec 32 := Scalar.muli v3546 c8_i32_1323
  let v4394 : BitVec 32 := Scalar.addi c2304_i32_1324 v4393
  v4394
def k0_mult22 (i : grid0.Coords) (k0_t1 : Fin (k0_t1_loop i).trips) : BitVec 32 :=
  let c2432_i32_1327 : BitVec 32 := 2432#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1326 : BitVec 32 := 8#32
  let v4400 : BitVec 32 := Scalar.muli v3546 c8_i32_1326
  let v4401 : BitVec 32 := Scalar.addi c2432_i32_1327 v4400
  v4401
def k0_mult23 (i : grid0.Coords) (k0_t1 : Fin (k0_t1_loop i).trips) : BitVec 32 :=
  let c2560_i32_1330 : BitVec 32 := 2560#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1329 : BitVec 32 := 8#32
  let v4407 : BitVec 32 := Scalar.muli v3546 c8_i32_1329
  let v4408 : BitVec 32 := Scalar.addi c2560_i32_1330 v4407
  v4408
def k0_mult24 (i : grid0.Coords) (k0_t1 : Fin (k0_t1_loop i).trips) : BitVec 32 :=
  let c2688_i32_1333 : BitVec 32 := 2688#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1332 : BitVec 32 := 8#32
  let v4414 : BitVec 32 := Scalar.muli v3546 c8_i32_1332
  let v4415 : BitVec 32 := Scalar.addi c2688_i32_1333 v4414
  v4415
def k0_mult25 (i : grid0.Coords) (k0_t1 : Fin (k0_t1_loop i).trips) : BitVec 32 :=
  let c2816_i32_1336 : BitVec 32 := 2816#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1335 : BitVec 32 := 8#32
  let v4421 : BitVec 32 := Scalar.muli v3546 c8_i32_1335
  let v4422 : BitVec 32 := Scalar.addi c2816_i32_1336 v4421
  v4422
def k0_mult26 (i : grid0.Coords) (k0_t1 : Fin (k0_t1_loop i).trips) : BitVec 32 :=
  let c2944_i32_1339 : BitVec 32 := 2944#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1338 : BitVec 32 := 8#32
  let v4428 : BitVec 32 := Scalar.muli v3546 c8_i32_1338
  let v4429 : BitVec 32 := Scalar.addi c2944_i32_1339 v4428
  v4429
def k0_mult27 (i : grid0.Coords) (k0_t1 : Fin (k0_t1_loop i).trips) : BitVec 32 :=
  let c3072_i32_1342 : BitVec 32 := 3072#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1341 : BitVec 32 := 8#32
  let v4435 : BitVec 32 := Scalar.muli v3546 c8_i32_1341
  let v4436 : BitVec 32 := Scalar.addi c3072_i32_1342 v4435
  v4436
def k0_mult28 (i : grid0.Coords) (k0_t1 : Fin (k0_t1_loop i).trips) : BitVec 32 :=
  let c3200_i32_1345 : BitVec 32 := 3200#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1344 : BitVec 32 := 8#32
  let v4442 : BitVec 32 := Scalar.muli v3546 c8_i32_1344
  let v4443 : BitVec 32 := Scalar.addi c3200_i32_1345 v4442
  v4443
def k0_mult29 (i : grid0.Coords) (k0_t1 : Fin (k0_t1_loop i).trips) : BitVec 32 :=
  let c3328_i32_1348 : BitVec 32 := 3328#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1347 : BitVec 32 := 8#32
  let v4449 : BitVec 32 := Scalar.muli v3546 c8_i32_1347
  let v4450 : BitVec 32 := Scalar.addi c3328_i32_1348 v4449
  v4450
def k0_mult30 (i : grid0.Coords) (k0_t1 : Fin (k0_t1_loop i).trips) : BitVec 32 :=
  let c3456_i32_1351 : BitVec 32 := 3456#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1350 : BitVec 32 := 8#32
  let v4456 : BitVec 32 := Scalar.muli v3546 c8_i32_1350
  let v4457 : BitVec 32 := Scalar.addi c3456_i32_1351 v4456
  v4457
def k0_mult31 (i : grid0.Coords) (k0_t1 : Fin (k0_t1_loop i).trips) : BitVec 32 :=
  let c3584_i32_1354 : BitVec 32 := 3584#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1353 : BitVec 32 := 8#32
  let v4463 : BitVec 32 := Scalar.muli v3546 c8_i32_1353
  let v4464 : BitVec 32 := Scalar.addi c3584_i32_1354 v4463
  v4464
def k0_mult32 (i : grid0.Coords) (k0_t1 : Fin (k0_t1_loop i).trips) : BitVec 32 :=
  let c3712_i32_1357 : BitVec 32 := 3712#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1356 : BitVec 32 := 8#32
  let v4470 : BitVec 32 := Scalar.muli v3546 c8_i32_1356
  let v4471 : BitVec 32 := Scalar.addi c3712_i32_1357 v4470
  v4471
def k0_mult33 (i : grid0.Coords) (k0_t1 : Fin (k0_t1_loop i).trips) : BitVec 32 :=
  let c3840_i32_1360 : BitVec 32 := 3840#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1359 : BitVec 32 := 8#32
  let v4477 : BitVec 32 := Scalar.muli v3546 c8_i32_1359
  let v4478 : BitVec 32 := Scalar.addi c3840_i32_1360 v4477
  v4478
def k0_mult34 (i : grid0.Coords) (k0_t1 : Fin (k0_t1_loop i).trips) : BitVec 32 :=
  let c3968_i32_1363 : BitVec 32 := 3968#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1362 : BitVec 32 := 8#32
  let v4484 : BitVec 32 := Scalar.muli v3546 c8_i32_1362
  let v4485 : BitVec 32 := Scalar.addi c3968_i32_1363 v4484
  v4485
def k0_mult35 (i : grid0.Coords) (k0_t1 : Fin (k0_t1_loop i).trips) : BitVec 32 :=
  let c0_i32_1608 : BitVec 32 := 0#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1607 : BitVec 32 := 8#32
  let v5245 : BitVec 32 := Scalar.muli v4524 c8_i32_1607
  let v5246 : BitVec 32 := Scalar.addi c0_i32_1608 v5245
  v5246
def k0_mult36 (i : grid0.Coords) (k0_t1 : Fin (k0_t1_loop i).trips) : BitVec 32 :=
  let c128_i32_1611 : BitVec 32 := 128#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1610 : BitVec 32 := 8#32
  let v5252 : BitVec 32 := Scalar.muli v4524 c8_i32_1610
  let v5253 : BitVec 32 := Scalar.addi c128_i32_1611 v5252
  v5253
def k0_mult37 (i : grid0.Coords) (k0_t1 : Fin (k0_t1_loop i).trips) : BitVec 32 :=
  let c256_i32_1614 : BitVec 32 := 256#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1613 : BitVec 32 := 8#32
  let v5259 : BitVec 32 := Scalar.muli v4524 c8_i32_1613
  let v5260 : BitVec 32 := Scalar.addi c256_i32_1614 v5259
  v5260
def k0_mult38 (i : grid0.Coords) (k0_t1 : Fin (k0_t1_loop i).trips) : BitVec 32 :=
  let c384_i32_1617 : BitVec 32 := 384#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1616 : BitVec 32 := 8#32
  let v5266 : BitVec 32 := Scalar.muli v4524 c8_i32_1616
  let v5267 : BitVec 32 := Scalar.addi c384_i32_1617 v5266
  v5267
def k0_mult39 (i : grid0.Coords) (k0_t1 : Fin (k0_t1_loop i).trips) : BitVec 32 :=
  let c512_i32_1620 : BitVec 32 := 512#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1619 : BitVec 32 := 8#32
  let v5273 : BitVec 32 := Scalar.muli v4524 c8_i32_1619
  let v5274 : BitVec 32 := Scalar.addi c512_i32_1620 v5273
  v5274
def k0_mult40 (i : grid0.Coords) (k0_t1 : Fin (k0_t1_loop i).trips) : BitVec 32 :=
  let c640_i32_1623 : BitVec 32 := 640#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1622 : BitVec 32 := 8#32
  let v5280 : BitVec 32 := Scalar.muli v4524 c8_i32_1622
  let v5281 : BitVec 32 := Scalar.addi c640_i32_1623 v5280
  v5281
def k0_mult41 (i : grid0.Coords) (k0_t1 : Fin (k0_t1_loop i).trips) : BitVec 32 :=
  let c768_i32_1626 : BitVec 32 := 768#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1625 : BitVec 32 := 8#32
  let v5287 : BitVec 32 := Scalar.muli v4524 c8_i32_1625
  let v5288 : BitVec 32 := Scalar.addi c768_i32_1626 v5287
  v5288
def k0_mult42 (i : grid0.Coords) (k0_t1 : Fin (k0_t1_loop i).trips) : BitVec 32 :=
  let c896_i32_1629 : BitVec 32 := 896#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1628 : BitVec 32 := 8#32
  let v5294 : BitVec 32 := Scalar.muli v4524 c8_i32_1628
  let v5295 : BitVec 32 := Scalar.addi c896_i32_1629 v5294
  v5295
def k0_mult43 (i : grid0.Coords) (k0_t1 : Fin (k0_t1_loop i).trips) : BitVec 32 :=
  let c1024_i32_1632 : BitVec 32 := 1024#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1631 : BitVec 32 := 8#32
  let v5301 : BitVec 32 := Scalar.muli v4524 c8_i32_1631
  let v5302 : BitVec 32 := Scalar.addi c1024_i32_1632 v5301
  v5302
def k0_mult44 (i : grid0.Coords) (k0_t1 : Fin (k0_t1_loop i).trips) : BitVec 32 :=
  let c1152_i32_1635 : BitVec 32 := 1152#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1634 : BitVec 32 := 8#32
  let v5308 : BitVec 32 := Scalar.muli v4524 c8_i32_1634
  let v5309 : BitVec 32 := Scalar.addi c1152_i32_1635 v5308
  v5309
def k0_mult45 (i : grid0.Coords) (k0_t1 : Fin (k0_t1_loop i).trips) : BitVec 32 :=
  let c1280_i32_1638 : BitVec 32 := 1280#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1637 : BitVec 32 := 8#32
  let v5315 : BitVec 32 := Scalar.muli v4524 c8_i32_1637
  let v5316 : BitVec 32 := Scalar.addi c1280_i32_1638 v5315
  v5316
def k0_mult46 (i : grid0.Coords) (k0_t1 : Fin (k0_t1_loop i).trips) : BitVec 32 :=
  let c1408_i32_1641 : BitVec 32 := 1408#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1640 : BitVec 32 := 8#32
  let v5322 : BitVec 32 := Scalar.muli v4524 c8_i32_1640
  let v5323 : BitVec 32 := Scalar.addi c1408_i32_1641 v5322
  v5323
def k0_mult47 (i : grid0.Coords) (k0_t1 : Fin (k0_t1_loop i).trips) : BitVec 32 :=
  let c1536_i32_1644 : BitVec 32 := 1536#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1643 : BitVec 32 := 8#32
  let v5329 : BitVec 32 := Scalar.muli v4524 c8_i32_1643
  let v5330 : BitVec 32 := Scalar.addi c1536_i32_1644 v5329
  v5330
def k0_mult48 (i : grid0.Coords) (k0_t1 : Fin (k0_t1_loop i).trips) : BitVec 32 :=
  let c1664_i32_1647 : BitVec 32 := 1664#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1646 : BitVec 32 := 8#32
  let v5336 : BitVec 32 := Scalar.muli v4524 c8_i32_1646
  let v5337 : BitVec 32 := Scalar.addi c1664_i32_1647 v5336
  v5337
def k0_mult49 (i : grid0.Coords) (k0_t1 : Fin (k0_t1_loop i).trips) : BitVec 32 :=
  let c1792_i32_1650 : BitVec 32 := 1792#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1649 : BitVec 32 := 8#32
  let v5343 : BitVec 32 := Scalar.muli v4524 c8_i32_1649
  let v5344 : BitVec 32 := Scalar.addi c1792_i32_1650 v5343
  v5344
def k0_mult50 (i : grid0.Coords) (k0_t1 : Fin (k0_t1_loop i).trips) : BitVec 32 :=
  let c1920_i32_1653 : BitVec 32 := 1920#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1652 : BitVec 32 := 8#32
  let v5350 : BitVec 32 := Scalar.muli v4524 c8_i32_1652
  let v5351 : BitVec 32 := Scalar.addi c1920_i32_1653 v5350
  v5351
def k0_mult51 (i : grid0.Coords) (k0_t1 : Fin (k0_t1_loop i).trips) : BitVec 32 :=
  let c2048_i32_1656 : BitVec 32 := 2048#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1655 : BitVec 32 := 8#32
  let v5357 : BitVec 32 := Scalar.muli v4524 c8_i32_1655
  let v5358 : BitVec 32 := Scalar.addi c2048_i32_1656 v5357
  v5358
def k0_mult52 (i : grid0.Coords) (k0_t1 : Fin (k0_t1_loop i).trips) : BitVec 32 :=
  let c2176_i32_1659 : BitVec 32 := 2176#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1658 : BitVec 32 := 8#32
  let v5364 : BitVec 32 := Scalar.muli v4524 c8_i32_1658
  let v5365 : BitVec 32 := Scalar.addi c2176_i32_1659 v5364
  v5365
def k0_mult53 (i : grid0.Coords) (k0_t1 : Fin (k0_t1_loop i).trips) : BitVec 32 :=
  let c2304_i32_1662 : BitVec 32 := 2304#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1661 : BitVec 32 := 8#32
  let v5371 : BitVec 32 := Scalar.muli v4524 c8_i32_1661
  let v5372 : BitVec 32 := Scalar.addi c2304_i32_1662 v5371
  v5372
def k0_mult54 (i : grid0.Coords) (k0_t1 : Fin (k0_t1_loop i).trips) : BitVec 32 :=
  let c2432_i32_1665 : BitVec 32 := 2432#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1664 : BitVec 32 := 8#32
  let v5378 : BitVec 32 := Scalar.muli v4524 c8_i32_1664
  let v5379 : BitVec 32 := Scalar.addi c2432_i32_1665 v5378
  v5379
def k0_mult55 (i : grid0.Coords) (k0_t1 : Fin (k0_t1_loop i).trips) : BitVec 32 :=
  let c2560_i32_1668 : BitVec 32 := 2560#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1667 : BitVec 32 := 8#32
  let v5385 : BitVec 32 := Scalar.muli v4524 c8_i32_1667
  let v5386 : BitVec 32 := Scalar.addi c2560_i32_1668 v5385
  v5386
def k0_mult56 (i : grid0.Coords) (k0_t1 : Fin (k0_t1_loop i).trips) : BitVec 32 :=
  let c2688_i32_1671 : BitVec 32 := 2688#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1670 : BitVec 32 := 8#32
  let v5392 : BitVec 32 := Scalar.muli v4524 c8_i32_1670
  let v5393 : BitVec 32 := Scalar.addi c2688_i32_1671 v5392
  v5393
def k0_mult57 (i : grid0.Coords) (k0_t1 : Fin (k0_t1_loop i).trips) : BitVec 32 :=
  let c2816_i32_1674 : BitVec 32 := 2816#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1673 : BitVec 32 := 8#32
  let v5399 : BitVec 32 := Scalar.muli v4524 c8_i32_1673
  let v5400 : BitVec 32 := Scalar.addi c2816_i32_1674 v5399
  v5400
def k0_mult58 (i : grid0.Coords) (k0_t1 : Fin (k0_t1_loop i).trips) : BitVec 32 :=
  let c2944_i32_1677 : BitVec 32 := 2944#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1676 : BitVec 32 := 8#32
  let v5406 : BitVec 32 := Scalar.muli v4524 c8_i32_1676
  let v5407 : BitVec 32 := Scalar.addi c2944_i32_1677 v5406
  v5407
def k0_mult59 (i : grid0.Coords) (k0_t1 : Fin (k0_t1_loop i).trips) : BitVec 32 :=
  let c3072_i32_1680 : BitVec 32 := 3072#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1679 : BitVec 32 := 8#32
  let v5413 : BitVec 32 := Scalar.muli v4524 c8_i32_1679
  let v5414 : BitVec 32 := Scalar.addi c3072_i32_1680 v5413
  v5414
def k0_mult60 (i : grid0.Coords) (k0_t1 : Fin (k0_t1_loop i).trips) : BitVec 32 :=
  let c3200_i32_1683 : BitVec 32 := 3200#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1682 : BitVec 32 := 8#32
  let v5420 : BitVec 32 := Scalar.muli v4524 c8_i32_1682
  let v5421 : BitVec 32 := Scalar.addi c3200_i32_1683 v5420
  v5421
def k0_mult61 (i : grid0.Coords) (k0_t1 : Fin (k0_t1_loop i).trips) : BitVec 32 :=
  let c3328_i32_1686 : BitVec 32 := 3328#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1685 : BitVec 32 := 8#32
  let v5427 : BitVec 32 := Scalar.muli v4524 c8_i32_1685
  let v5428 : BitVec 32 := Scalar.addi c3328_i32_1686 v5427
  v5428
def k0_mult62 (i : grid0.Coords) (k0_t1 : Fin (k0_t1_loop i).trips) : BitVec 32 :=
  let c3456_i32_1689 : BitVec 32 := 3456#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1688 : BitVec 32 := 8#32
  let v5434 : BitVec 32 := Scalar.muli v4524 c8_i32_1688
  let v5435 : BitVec 32 := Scalar.addi c3456_i32_1689 v5434
  v5435
def k0_mult63 (i : grid0.Coords) (k0_t1 : Fin (k0_t1_loop i).trips) : BitVec 32 :=
  let c3584_i32_1692 : BitVec 32 := 3584#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1691 : BitVec 32 := 8#32
  let v5441 : BitVec 32 := Scalar.muli v4524 c8_i32_1691
  let v5442 : BitVec 32 := Scalar.addi c3584_i32_1692 v5441
  v5442
def k0_mult64 (i : grid0.Coords) (k0_t1 : Fin (k0_t1_loop i).trips) : BitVec 32 :=
  let c3712_i32_1695 : BitVec 32 := 3712#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1694 : BitVec 32 := 8#32
  let v5448 : BitVec 32 := Scalar.muli v4524 c8_i32_1694
  let v5449 : BitVec 32 := Scalar.addi c3712_i32_1695 v5448
  v5449
def k0_mult65 (i : grid0.Coords) (k0_t1 : Fin (k0_t1_loop i).trips) : BitVec 32 :=
  let c3840_i32_1698 : BitVec 32 := 3840#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1697 : BitVec 32 := 8#32
  let v5455 : BitVec 32 := Scalar.muli v4524 c8_i32_1697
  let v5456 : BitVec 32 := Scalar.addi c3840_i32_1698 v5455
  v5456
def k0_mult66 (i : grid0.Coords) (k0_t1 : Fin (k0_t1_loop i).trips) : BitVec 32 :=
  let c3968_i32_1701 : BitVec 32 := 3968#32
  let c2_i32_1012 : BitVec 32 := 2#32
  let c0_i32_16 : BitVec 32 := 0#32
  let c1_i32_18 : BitVec 32 := 1#32
  let arg27 : BitVec 32 := Scf.iv c0_i32_16 c1_i32_18 k0_t1
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1700 : BitVec 32 := 8#32
  let v5462 : BitVec 32 := Scalar.muli v4524 c8_i32_1700
  let v5463 : BitVec 32 := Scalar.addi c3968_i32_1701 v5462
  v5463
def k0_mult67 (i : grid0.Coords) (k0_t1 : Fin (k0_t1_loop i).trips) : BitVec 32 :=
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c512_i32_1705 : BitVec 32 := 512#32
  let v5471 : BitVec 32 := Scalar.muli v5470 c512_i32_1705
  v5471
def k0_off4 (i : grid0.Coords) (k0_t1 : Fin (k0_t1_loop i).trips) : Fin 2 → Nat :=
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c512_i32_1705 : BitVec 32 := 512#32
  let v5471 : BitVec 32 := Scalar.muli v5470 c512_i32_1705
  let v5472 : BitVec 32 := v5471
  let v5473 : Index := Scalar.indexCast v5472
  let c0_1706 : Index := 0#32
  ![v5473.toNat, 0]
def k0_mult68 (i : grid0.Coords) (k0_t1 : Fin (k0_t1_loop i).trips) : BitVec 32 :=
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c512_i32_1715 : BitVec 32 := 512#32
  let v5506 : BitVec 32 := Scalar.muli v5470 c512_i32_1715
  v5506
def k0_off5 (i : grid0.Coords) (k0_t1 : Fin (k0_t1_loop i).trips) : Fin 2 → Nat :=
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c512_i32_1715 : BitVec 32 := 512#32
  let v5506 : BitVec 32 := Scalar.muli v5470 c512_i32_1715
  let v5507 : BitVec 32 := v5506
  let v5508 : Index := Scalar.indexCast v5507
  let c0_1716 : Index := 0#32
  ![v5508.toNat, 0]
def k0_mult69 (i : grid0.Coords) (k0_t1 : Fin (k0_t1_loop i).trips) : BitVec 32 :=
  let c0_i32_1962 : BitVec 32 := 0#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1961 : BitVec 32 := 8#32
  let v6272 : BitVec 32 := Scalar.muli v5551 c8_i32_1961
  let v6273 : BitVec 32 := Scalar.addi c0_i32_1962 v6272
  v6273
def k0_off6 (i : grid0.Coords) (k0_t1 : Fin (k0_t1_loop i).trips) (c0_i32_1962 : BitVec 32) (c0_i32_1720 : BitVec 32) : Fin 2 → Nat :=
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let v5551 : BitVec 32 := Scalar.addi v5550 c0_i32_1720
  let c8_i32_1961 : BitVec 32 := 8#32
  let v6272 : BitVec 32 := Scalar.muli v5551 c8_i32_1961
  let v6273 : BitVec 32 := Scalar.addi c0_i32_1962 v6272
  let v6274 : BitVec 32 := v6273
  let v6275 : Index := Scalar.indexCast v6274
  let c0_1963 : Index := 0#32
  ![v6275.toNat, 0]
def k0_mult70 (i : grid0.Coords) (k0_t1 : Fin (k0_t1_loop i).trips) : BitVec 32 :=
  let c128_i32_1965 : BitVec 32 := 128#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1964 : BitVec 32 := 8#32
  let v6279 : BitVec 32 := Scalar.muli v5551 c8_i32_1964
  let v6280 : BitVec 32 := Scalar.addi c128_i32_1965 v6279
  v6280
def k0_mult71 (i : grid0.Coords) (k0_t1 : Fin (k0_t1_loop i).trips) : BitVec 32 :=
  let c256_i32_1968 : BitVec 32 := 256#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1967 : BitVec 32 := 8#32
  let v6286 : BitVec 32 := Scalar.muli v5551 c8_i32_1967
  let v6287 : BitVec 32 := Scalar.addi c256_i32_1968 v6286
  v6287
def k0_mult72 (i : grid0.Coords) (k0_t1 : Fin (k0_t1_loop i).trips) : BitVec 32 :=
  let c384_i32_1971 : BitVec 32 := 384#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1970 : BitVec 32 := 8#32
  let v6293 : BitVec 32 := Scalar.muli v5551 c8_i32_1970
  let v6294 : BitVec 32 := Scalar.addi c384_i32_1971 v6293
  v6294
def k0_mult73 (i : grid0.Coords) (k0_t1 : Fin (k0_t1_loop i).trips) : BitVec 32 :=
  let c512_i32_1974 : BitVec 32 := 512#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1973 : BitVec 32 := 8#32
  let v6300 : BitVec 32 := Scalar.muli v5551 c8_i32_1973
  let v6301 : BitVec 32 := Scalar.addi c512_i32_1974 v6300
  v6301
def k0_mult74 (i : grid0.Coords) (k0_t1 : Fin (k0_t1_loop i).trips) : BitVec 32 :=
  let c640_i32_1977 : BitVec 32 := 640#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1976 : BitVec 32 := 8#32
  let v6307 : BitVec 32 := Scalar.muli v5551 c8_i32_1976
  let v6308 : BitVec 32 := Scalar.addi c640_i32_1977 v6307
  v6308
def k0_mult75 (i : grid0.Coords) (k0_t1 : Fin (k0_t1_loop i).trips) : BitVec 32 :=
  let c768_i32_1980 : BitVec 32 := 768#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1979 : BitVec 32 := 8#32
  let v6314 : BitVec 32 := Scalar.muli v5551 c8_i32_1979
  let v6315 : BitVec 32 := Scalar.addi c768_i32_1980 v6314
  v6315
def k0_mult76 (i : grid0.Coords) (k0_t1 : Fin (k0_t1_loop i).trips) : BitVec 32 :=
  let c896_i32_1983 : BitVec 32 := 896#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1982 : BitVec 32 := 8#32
  let v6321 : BitVec 32 := Scalar.muli v5551 c8_i32_1982
  let v6322 : BitVec 32 := Scalar.addi c896_i32_1983 v6321
  v6322
def k0_mult77 (i : grid0.Coords) (k0_t1 : Fin (k0_t1_loop i).trips) : BitVec 32 :=
  let c1024_i32_1986 : BitVec 32 := 1024#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1985 : BitVec 32 := 8#32
  let v6328 : BitVec 32 := Scalar.muli v5551 c8_i32_1985
  let v6329 : BitVec 32 := Scalar.addi c1024_i32_1986 v6328
  v6329
def k0_mult78 (i : grid0.Coords) (k0_t1 : Fin (k0_t1_loop i).trips) : BitVec 32 :=
  let c1152_i32_1989 : BitVec 32 := 1152#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1988 : BitVec 32 := 8#32
  let v6335 : BitVec 32 := Scalar.muli v5551 c8_i32_1988
  let v6336 : BitVec 32 := Scalar.addi c1152_i32_1989 v6335
  v6336
def k0_mult79 (i : grid0.Coords) (k0_t1 : Fin (k0_t1_loop i).trips) : BitVec 32 :=
  let c1280_i32_1992 : BitVec 32 := 1280#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1991 : BitVec 32 := 8#32
  let v6342 : BitVec 32 := Scalar.muli v5551 c8_i32_1991
  let v6343 : BitVec 32 := Scalar.addi c1280_i32_1992 v6342
  v6343
def k0_mult80 (i : grid0.Coords) (k0_t1 : Fin (k0_t1_loop i).trips) : BitVec 32 :=
  let c1408_i32_1995 : BitVec 32 := 1408#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1994 : BitVec 32 := 8#32
  let v6349 : BitVec 32 := Scalar.muli v5551 c8_i32_1994
  let v6350 : BitVec 32 := Scalar.addi c1408_i32_1995 v6349
  v6350
def k0_mult81 (i : grid0.Coords) (k0_t1 : Fin (k0_t1_loop i).trips) : BitVec 32 :=
  let c1536_i32_1998 : BitVec 32 := 1536#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1997 : BitVec 32 := 8#32
  let v6356 : BitVec 32 := Scalar.muli v5551 c8_i32_1997
  let v6357 : BitVec 32 := Scalar.addi c1536_i32_1998 v6356
  v6357
def k0_mult82 (i : grid0.Coords) (k0_t1 : Fin (k0_t1_loop i).trips) : BitVec 32 :=
  let c1664_i32_2001 : BitVec 32 := 1664#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2000 : BitVec 32 := 8#32
  let v6363 : BitVec 32 := Scalar.muli v5551 c8_i32_2000
  let v6364 : BitVec 32 := Scalar.addi c1664_i32_2001 v6363
  v6364
def k0_mult83 (i : grid0.Coords) (k0_t1 : Fin (k0_t1_loop i).trips) : BitVec 32 :=
  let c1792_i32_2004 : BitVec 32 := 1792#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2003 : BitVec 32 := 8#32
  let v6370 : BitVec 32 := Scalar.muli v5551 c8_i32_2003
  let v6371 : BitVec 32 := Scalar.addi c1792_i32_2004 v6370
  v6371
def k0_mult84 (i : grid0.Coords) (k0_t1 : Fin (k0_t1_loop i).trips) : BitVec 32 :=
  let c1920_i32_2007 : BitVec 32 := 1920#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2006 : BitVec 32 := 8#32
  let v6377 : BitVec 32 := Scalar.muli v5551 c8_i32_2006
  let v6378 : BitVec 32 := Scalar.addi c1920_i32_2007 v6377
  v6378
def k0_mult85 (i : grid0.Coords) (k0_t1 : Fin (k0_t1_loop i).trips) : BitVec 32 :=
  let c2048_i32_2010 : BitVec 32 := 2048#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2009 : BitVec 32 := 8#32
  let v6384 : BitVec 32 := Scalar.muli v5551 c8_i32_2009
  let v6385 : BitVec 32 := Scalar.addi c2048_i32_2010 v6384
  v6385
def k0_mult86 (i : grid0.Coords) (k0_t1 : Fin (k0_t1_loop i).trips) : BitVec 32 :=
  let c2176_i32_2013 : BitVec 32 := 2176#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2012 : BitVec 32 := 8#32
  let v6391 : BitVec 32 := Scalar.muli v5551 c8_i32_2012
  let v6392 : BitVec 32 := Scalar.addi c2176_i32_2013 v6391
  v6392
def k0_mult87 (i : grid0.Coords) (k0_t1 : Fin (k0_t1_loop i).trips) : BitVec 32 :=
  let c2304_i32_2016 : BitVec 32 := 2304#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2015 : BitVec 32 := 8#32
  let v6398 : BitVec 32 := Scalar.muli v5551 c8_i32_2015
  let v6399 : BitVec 32 := Scalar.addi c2304_i32_2016 v6398
  v6399
def k0_mult88 (i : grid0.Coords) (k0_t1 : Fin (k0_t1_loop i).trips) : BitVec 32 :=
  let c2432_i32_2019 : BitVec 32 := 2432#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2018 : BitVec 32 := 8#32
  let v6405 : BitVec 32 := Scalar.muli v5551 c8_i32_2018
  let v6406 : BitVec 32 := Scalar.addi c2432_i32_2019 v6405
  v6406
def k0_mult89 (i : grid0.Coords) (k0_t1 : Fin (k0_t1_loop i).trips) : BitVec 32 :=
  let c2560_i32_2022 : BitVec 32 := 2560#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2021 : BitVec 32 := 8#32
  let v6412 : BitVec 32 := Scalar.muli v5551 c8_i32_2021
  let v6413 : BitVec 32 := Scalar.addi c2560_i32_2022 v6412
  v6413
def k0_mult90 (i : grid0.Coords) (k0_t1 : Fin (k0_t1_loop i).trips) : BitVec 32 :=
  let c2688_i32_2025 : BitVec 32 := 2688#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2024 : BitVec 32 := 8#32
  let v6419 : BitVec 32 := Scalar.muli v5551 c8_i32_2024
  let v6420 : BitVec 32 := Scalar.addi c2688_i32_2025 v6419
  v6420
def k0_mult91 (i : grid0.Coords) (k0_t1 : Fin (k0_t1_loop i).trips) : BitVec 32 :=
  let c2816_i32_2028 : BitVec 32 := 2816#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2027 : BitVec 32 := 8#32
  let v6426 : BitVec 32 := Scalar.muli v5551 c8_i32_2027
  let v6427 : BitVec 32 := Scalar.addi c2816_i32_2028 v6426
  v6427
def k0_mult92 (i : grid0.Coords) (k0_t1 : Fin (k0_t1_loop i).trips) : BitVec 32 :=
  let c2944_i32_2031 : BitVec 32 := 2944#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2030 : BitVec 32 := 8#32
  let v6433 : BitVec 32 := Scalar.muli v5551 c8_i32_2030
  let v6434 : BitVec 32 := Scalar.addi c2944_i32_2031 v6433
  v6434
def k0_mult93 (i : grid0.Coords) (k0_t1 : Fin (k0_t1_loop i).trips) : BitVec 32 :=
  let c3072_i32_2034 : BitVec 32 := 3072#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2033 : BitVec 32 := 8#32
  let v6440 : BitVec 32 := Scalar.muli v5551 c8_i32_2033
  let v6441 : BitVec 32 := Scalar.addi c3072_i32_2034 v6440
  v6441
def k0_mult94 (i : grid0.Coords) (k0_t1 : Fin (k0_t1_loop i).trips) : BitVec 32 :=
  let c3200_i32_2037 : BitVec 32 := 3200#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2036 : BitVec 32 := 8#32
  let v6447 : BitVec 32 := Scalar.muli v5551 c8_i32_2036
  let v6448 : BitVec 32 := Scalar.addi c3200_i32_2037 v6447
  v6448
def k0_mult95 (i : grid0.Coords) (k0_t1 : Fin (k0_t1_loop i).trips) : BitVec 32 :=
  let c3328_i32_2040 : BitVec 32 := 3328#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2039 : BitVec 32 := 8#32
  let v6454 : BitVec 32 := Scalar.muli v5551 c8_i32_2039
  let v6455 : BitVec 32 := Scalar.addi c3328_i32_2040 v6454
  v6455
def k0_mult96 (i : grid0.Coords) (k0_t1 : Fin (k0_t1_loop i).trips) : BitVec 32 :=
  let c3456_i32_2043 : BitVec 32 := 3456#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2042 : BitVec 32 := 8#32
  let v6461 : BitVec 32 := Scalar.muli v5551 c8_i32_2042
  let v6462 : BitVec 32 := Scalar.addi c3456_i32_2043 v6461
  v6462
def k0_mult97 (i : grid0.Coords) (k0_t1 : Fin (k0_t1_loop i).trips) : BitVec 32 :=
  let c3584_i32_2046 : BitVec 32 := 3584#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2045 : BitVec 32 := 8#32
  let v6468 : BitVec 32 := Scalar.muli v5551 c8_i32_2045
  let v6469 : BitVec 32 := Scalar.addi c3584_i32_2046 v6468
  v6469
def k0_mult98 (i : grid0.Coords) (k0_t1 : Fin (k0_t1_loop i).trips) : BitVec 32 :=
  let c3712_i32_2049 : BitVec 32 := 3712#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2048 : BitVec 32 := 8#32
  let v6475 : BitVec 32 := Scalar.muli v5551 c8_i32_2048
  let v6476 : BitVec 32 := Scalar.addi c3712_i32_2049 v6475
  v6476
def k0_mult99 (i : grid0.Coords) (k0_t1 : Fin (k0_t1_loop i).trips) : BitVec 32 :=
  let c3840_i32_2052 : BitVec 32 := 3840#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2051 : BitVec 32 := 8#32
  let v6482 : BitVec 32 := Scalar.muli v5551 c8_i32_2051
  let v6483 : BitVec 32 := Scalar.addi c3840_i32_2052 v6482
  v6483
def k0_mult100 (i : grid0.Coords) (k0_t1 : Fin (k0_t1_loop i).trips) : BitVec 32 :=
  let c3968_i32_2055 : BitVec 32 := 3968#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2054 : BitVec 32 := 8#32
  let v6489 : BitVec 32 := Scalar.muli v5551 c8_i32_2054
  let v6490 : BitVec 32 := Scalar.addi c3968_i32_2055 v6489
  v6490
def k0_mult101 (i : grid0.Coords) (k0_t1 : Fin (k0_t1_loop i).trips) : BitVec 32 :=
  let c0_i32_2300 : BitVec 32 := 0#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2299 : BitVec 32 := 8#32
  let v7250 : BitVec 32 := Scalar.muli v6529 c8_i32_2299
  let v7251 : BitVec 32 := Scalar.addi c0_i32_2300 v7250
  v7251
def k0_mult102 (i : grid0.Coords) (k0_t1 : Fin (k0_t1_loop i).trips) : BitVec 32 :=
  let c128_i32_2303 : BitVec 32 := 128#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2302 : BitVec 32 := 8#32
  let v7257 : BitVec 32 := Scalar.muli v6529 c8_i32_2302
  let v7258 : BitVec 32 := Scalar.addi c128_i32_2303 v7257
  v7258
def k0_mult103 (i : grid0.Coords) (k0_t1 : Fin (k0_t1_loop i).trips) : BitVec 32 :=
  let c256_i32_2306 : BitVec 32 := 256#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2305 : BitVec 32 := 8#32
  let v7264 : BitVec 32 := Scalar.muli v6529 c8_i32_2305
  let v7265 : BitVec 32 := Scalar.addi c256_i32_2306 v7264
  v7265
def k0_mult104 (i : grid0.Coords) (k0_t1 : Fin (k0_t1_loop i).trips) : BitVec 32 :=
  let c384_i32_2309 : BitVec 32 := 384#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2308 : BitVec 32 := 8#32
  let v7271 : BitVec 32 := Scalar.muli v6529 c8_i32_2308
  let v7272 : BitVec 32 := Scalar.addi c384_i32_2309 v7271
  v7272
def k0_mult105 (i : grid0.Coords) (k0_t1 : Fin (k0_t1_loop i).trips) : BitVec 32 :=
  let c512_i32_2312 : BitVec 32 := 512#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2311 : BitVec 32 := 8#32
  let v7278 : BitVec 32 := Scalar.muli v6529 c8_i32_2311
  let v7279 : BitVec 32 := Scalar.addi c512_i32_2312 v7278
  v7279
def k0_mult106 (i : grid0.Coords) (k0_t1 : Fin (k0_t1_loop i).trips) : BitVec 32 :=
  let c640_i32_2315 : BitVec 32 := 640#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2314 : BitVec 32 := 8#32
  let v7285 : BitVec 32 := Scalar.muli v6529 c8_i32_2314
  let v7286 : BitVec 32 := Scalar.addi c640_i32_2315 v7285
  v7286
def k0_mult107 (i : grid0.Coords) (k0_t1 : Fin (k0_t1_loop i).trips) : BitVec 32 :=
  let c768_i32_2318 : BitVec 32 := 768#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2317 : BitVec 32 := 8#32
  let v7292 : BitVec 32 := Scalar.muli v6529 c8_i32_2317
  let v7293 : BitVec 32 := Scalar.addi c768_i32_2318 v7292
  v7293
def k0_mult108 (i : grid0.Coords) (k0_t1 : Fin (k0_t1_loop i).trips) : BitVec 32 :=
  let c896_i32_2321 : BitVec 32 := 896#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2320 : BitVec 32 := 8#32
  let v7299 : BitVec 32 := Scalar.muli v6529 c8_i32_2320
  let v7300 : BitVec 32 := Scalar.addi c896_i32_2321 v7299
  v7300
def k0_mult109 (i : grid0.Coords) (k0_t1 : Fin (k0_t1_loop i).trips) : BitVec 32 :=
  let c1024_i32_2324 : BitVec 32 := 1024#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2323 : BitVec 32 := 8#32
  let v7306 : BitVec 32 := Scalar.muli v6529 c8_i32_2323
  let v7307 : BitVec 32 := Scalar.addi c1024_i32_2324 v7306
  v7307
def k0_mult110 (i : grid0.Coords) (k0_t1 : Fin (k0_t1_loop i).trips) : BitVec 32 :=
  let c1152_i32_2327 : BitVec 32 := 1152#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2326 : BitVec 32 := 8#32
  let v7313 : BitVec 32 := Scalar.muli v6529 c8_i32_2326
  let v7314 : BitVec 32 := Scalar.addi c1152_i32_2327 v7313
  v7314
def k0_mult111 (i : grid0.Coords) (k0_t1 : Fin (k0_t1_loop i).trips) : BitVec 32 :=
  let c1280_i32_2330 : BitVec 32 := 1280#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2329 : BitVec 32 := 8#32
  let v7320 : BitVec 32 := Scalar.muli v6529 c8_i32_2329
  let v7321 : BitVec 32 := Scalar.addi c1280_i32_2330 v7320
  v7321
def k0_mult112 (i : grid0.Coords) (k0_t1 : Fin (k0_t1_loop i).trips) : BitVec 32 :=
  let c1408_i32_2333 : BitVec 32 := 1408#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2332 : BitVec 32 := 8#32
  let v7327 : BitVec 32 := Scalar.muli v6529 c8_i32_2332
  let v7328 : BitVec 32 := Scalar.addi c1408_i32_2333 v7327
  v7328
def k0_mult113 (i : grid0.Coords) (k0_t1 : Fin (k0_t1_loop i).trips) : BitVec 32 :=
  let c1536_i32_2336 : BitVec 32 := 1536#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2335 : BitVec 32 := 8#32
  let v7334 : BitVec 32 := Scalar.muli v6529 c8_i32_2335
  let v7335 : BitVec 32 := Scalar.addi c1536_i32_2336 v7334
  v7335
def k0_mult114 (i : grid0.Coords) (k0_t1 : Fin (k0_t1_loop i).trips) : BitVec 32 :=
  let c1664_i32_2339 : BitVec 32 := 1664#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2338 : BitVec 32 := 8#32
  let v7341 : BitVec 32 := Scalar.muli v6529 c8_i32_2338
  let v7342 : BitVec 32 := Scalar.addi c1664_i32_2339 v7341
  v7342
def k0_mult115 (i : grid0.Coords) (k0_t1 : Fin (k0_t1_loop i).trips) : BitVec 32 :=
  let c1792_i32_2342 : BitVec 32 := 1792#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2341 : BitVec 32 := 8#32
  let v7348 : BitVec 32 := Scalar.muli v6529 c8_i32_2341
  let v7349 : BitVec 32 := Scalar.addi c1792_i32_2342 v7348
  v7349
def k0_mult116 (i : grid0.Coords) (k0_t1 : Fin (k0_t1_loop i).trips) : BitVec 32 :=
  let c1920_i32_2345 : BitVec 32 := 1920#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2344 : BitVec 32 := 8#32
  let v7355 : BitVec 32 := Scalar.muli v6529 c8_i32_2344
  let v7356 : BitVec 32 := Scalar.addi c1920_i32_2345 v7355
  v7356
def k0_mult117 (i : grid0.Coords) (k0_t1 : Fin (k0_t1_loop i).trips) : BitVec 32 :=
  let c2048_i32_2348 : BitVec 32 := 2048#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2347 : BitVec 32 := 8#32
  let v7362 : BitVec 32 := Scalar.muli v6529 c8_i32_2347
  let v7363 : BitVec 32 := Scalar.addi c2048_i32_2348 v7362
  v7363
def k0_mult118 (i : grid0.Coords) (k0_t1 : Fin (k0_t1_loop i).trips) : BitVec 32 :=
  let c2176_i32_2351 : BitVec 32 := 2176#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2350 : BitVec 32 := 8#32
  let v7369 : BitVec 32 := Scalar.muli v6529 c8_i32_2350
  let v7370 : BitVec 32 := Scalar.addi c2176_i32_2351 v7369
  v7370
def k0_mult119 (i : grid0.Coords) (k0_t1 : Fin (k0_t1_loop i).trips) : BitVec 32 :=
  let c2304_i32_2354 : BitVec 32 := 2304#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2353 : BitVec 32 := 8#32
  let v7376 : BitVec 32 := Scalar.muli v6529 c8_i32_2353
  let v7377 : BitVec 32 := Scalar.addi c2304_i32_2354 v7376
  v7377
def k0_mult120 (i : grid0.Coords) (k0_t1 : Fin (k0_t1_loop i).trips) : BitVec 32 :=
  let c2432_i32_2357 : BitVec 32 := 2432#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2356 : BitVec 32 := 8#32
  let v7383 : BitVec 32 := Scalar.muli v6529 c8_i32_2356
  let v7384 : BitVec 32 := Scalar.addi c2432_i32_2357 v7383
  v7384
def k0_mult121 (i : grid0.Coords) (k0_t1 : Fin (k0_t1_loop i).trips) : BitVec 32 :=
  let c2560_i32_2360 : BitVec 32 := 2560#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2359 : BitVec 32 := 8#32
  let v7390 : BitVec 32 := Scalar.muli v6529 c8_i32_2359
  let v7391 : BitVec 32 := Scalar.addi c2560_i32_2360 v7390
  v7391
def k0_mult122 (i : grid0.Coords) (k0_t1 : Fin (k0_t1_loop i).trips) : BitVec 32 :=
  let c2688_i32_2363 : BitVec 32 := 2688#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2362 : BitVec 32 := 8#32
  let v7397 : BitVec 32 := Scalar.muli v6529 c8_i32_2362
  let v7398 : BitVec 32 := Scalar.addi c2688_i32_2363 v7397
  v7398
def k0_mult123 (i : grid0.Coords) (k0_t1 : Fin (k0_t1_loop i).trips) : BitVec 32 :=
  let c2816_i32_2366 : BitVec 32 := 2816#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2365 : BitVec 32 := 8#32
  let v7404 : BitVec 32 := Scalar.muli v6529 c8_i32_2365
  let v7405 : BitVec 32 := Scalar.addi c2816_i32_2366 v7404
  v7405
def k0_mult124 (i : grid0.Coords) (k0_t1 : Fin (k0_t1_loop i).trips) : BitVec 32 :=
  let c2944_i32_2369 : BitVec 32 := 2944#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2368 : BitVec 32 := 8#32
  let v7411 : BitVec 32 := Scalar.muli v6529 c8_i32_2368
  let v7412 : BitVec 32 := Scalar.addi c2944_i32_2369 v7411
  v7412
def k0_mult125 (i : grid0.Coords) (k0_t1 : Fin (k0_t1_loop i).trips) : BitVec 32 :=
  let c3072_i32_2372 : BitVec 32 := 3072#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2371 : BitVec 32 := 8#32
  let v7418 : BitVec 32 := Scalar.muli v6529 c8_i32_2371
  let v7419 : BitVec 32 := Scalar.addi c3072_i32_2372 v7418
  v7419
def k0_mult126 (i : grid0.Coords) (k0_t1 : Fin (k0_t1_loop i).trips) : BitVec 32 :=
  let c3200_i32_2375 : BitVec 32 := 3200#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2374 : BitVec 32 := 8#32
  let v7425 : BitVec 32 := Scalar.muli v6529 c8_i32_2374
  let v7426 : BitVec 32 := Scalar.addi c3200_i32_2375 v7425
  v7426
def k0_mult127 (i : grid0.Coords) (k0_t1 : Fin (k0_t1_loop i).trips) : BitVec 32 :=
  let c3328_i32_2378 : BitVec 32 := 3328#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2377 : BitVec 32 := 8#32
  let v7432 : BitVec 32 := Scalar.muli v6529 c8_i32_2377
  let v7433 : BitVec 32 := Scalar.addi c3328_i32_2378 v7432
  v7433
def k0_mult128 (i : grid0.Coords) (k0_t1 : Fin (k0_t1_loop i).trips) : BitVec 32 :=
  let c3456_i32_2381 : BitVec 32 := 3456#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2380 : BitVec 32 := 8#32
  let v7439 : BitVec 32 := Scalar.muli v6529 c8_i32_2380
  let v7440 : BitVec 32 := Scalar.addi c3456_i32_2381 v7439
  v7440
def k0_mult129 (i : grid0.Coords) (k0_t1 : Fin (k0_t1_loop i).trips) : BitVec 32 :=
  let c3584_i32_2384 : BitVec 32 := 3584#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2383 : BitVec 32 := 8#32
  let v7446 : BitVec 32 := Scalar.muli v6529 c8_i32_2383
  let v7447 : BitVec 32 := Scalar.addi c3584_i32_2384 v7446
  v7447
def k0_mult130 (i : grid0.Coords) (k0_t1 : Fin (k0_t1_loop i).trips) : BitVec 32 :=
  let c3712_i32_2387 : BitVec 32 := 3712#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2386 : BitVec 32 := 8#32
  let v7453 : BitVec 32 := Scalar.muli v6529 c8_i32_2386
  let v7454 : BitVec 32 := Scalar.addi c3712_i32_2387 v7453
  v7454
def k0_mult131 (i : grid0.Coords) (k0_t1 : Fin (k0_t1_loop i).trips) : BitVec 32 :=
  let c3840_i32_2390 : BitVec 32 := 3840#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2389 : BitVec 32 := 8#32
  let v7460 : BitVec 32 := Scalar.muli v6529 c8_i32_2389
  let v7461 : BitVec 32 := Scalar.addi c3840_i32_2390 v7460
  v7461
def k0_mult132 (i : grid0.Coords) (k0_t1 : Fin (k0_t1_loop i).trips) : BitVec 32 :=
  let c3968_i32_2393 : BitVec 32 := 3968#32
  let c2_i32_1703 : BitVec 32 := 2#32
  let c0_i32_16 : BitVec 32 := 0#32
  let c1_i32_18 : BitVec 32 := 1#32
  let arg27 : BitVec 32 := Scf.iv c0_i32_16 c1_i32_18 k0_t1
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2392 : BitVec 32 := 8#32
  let v7467 : BitVec 32 := Scalar.muli v6529 c8_i32_2392
  let v7468 : BitVec 32 := Scalar.addi c3968_i32_2393 v7467
  v7468
@[reducible] def k0_t2_loop (i : grid0.Coords) : Scf.Loop 32 :=
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let v44 : BitVec 32 := Scalar.addi c0_i32_16 v43
  let c1_i32_19 : BitVec 32 := 1#32
  ⟨v47, v44, c1_i32_19⟩
def k0_mult133 (i : grid0.Coords) (k0_t2 : Fin (k0_t2_loop i).trips) : BitVec 32 :=
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c512_i32_1013 : BitVec 32 := 512#32
  let v3466 : BitVec 32 := Scalar.muli v3465 c512_i32_1013
  v3466
def k0_off7 (i : grid0.Coords) (k0_t2 : Fin (k0_t2_loop i).trips) : Fin 2 → Nat :=
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c512_i32_1013 : BitVec 32 := 512#32
  let v3466 : BitVec 32 := Scalar.muli v3465 c512_i32_1013
  let v3467 : BitVec 32 := v3466
  let v3468 : Index := Scalar.indexCast v3467
  let c0_1014 : Index := 0#32
  ![v3468.toNat, 0]
def k0_mult134 (i : grid0.Coords) (k0_t2 : Fin (k0_t2_loop i).trips) : BitVec 32 :=
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c512_i32_1023 : BitVec 32 := 512#32
  let v3501 : BitVec 32 := Scalar.muli v3465 c512_i32_1023
  v3501
def k0_off8 (i : grid0.Coords) (k0_t2 : Fin (k0_t2_loop i).trips) : Fin 2 → Nat :=
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c512_i32_1023 : BitVec 32 := 512#32
  let v3501 : BitVec 32 := Scalar.muli v3465 c512_i32_1023
  let v3502 : BitVec 32 := v3501
  let v3503 : Index := Scalar.indexCast v3502
  let c0_1024 : Index := 0#32
  ![v3503.toNat, 0]
def k0_mult135 (i : grid0.Coords) (k0_t2 : Fin (k0_t2_loop i).trips) : BitVec 32 :=
  let c0_i32_1270 : BitVec 32 := 0#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1269 : BitVec 32 := 8#32
  let v4267 : BitVec 32 := Scalar.muli v3546 c8_i32_1269
  let v4268 : BitVec 32 := Scalar.addi c0_i32_1270 v4267
  v4268
def k0_off9 (i : grid0.Coords) (k0_t2 : Fin (k0_t2_loop i).trips) (c0_i32_1270 : BitVec 32) (c0_i32_1028 : BitVec 32) : Fin 2 → Nat :=
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let v3546 : BitVec 32 := Scalar.addi v3545 c0_i32_1028
  let c8_i32_1269 : BitVec 32 := 8#32
  let v4267 : BitVec 32 := Scalar.muli v3546 c8_i32_1269
  let v4268 : BitVec 32 := Scalar.addi c0_i32_1270 v4267
  let v4269 : BitVec 32 := v4268
  let v4270 : Index := Scalar.indexCast v4269
  let c0_1271 : Index := 0#32
  ![v4270.toNat, 0]
def k0_mult136 (i : grid0.Coords) (k0_t2 : Fin (k0_t2_loop i).trips) : BitVec 32 :=
  let c128_i32_1273 : BitVec 32 := 128#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1272 : BitVec 32 := 8#32
  let v4274 : BitVec 32 := Scalar.muli v3546 c8_i32_1272
  let v4275 : BitVec 32 := Scalar.addi c128_i32_1273 v4274
  v4275
def k0_mult137 (i : grid0.Coords) (k0_t2 : Fin (k0_t2_loop i).trips) : BitVec 32 :=
  let c256_i32_1276 : BitVec 32 := 256#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1275 : BitVec 32 := 8#32
  let v4281 : BitVec 32 := Scalar.muli v3546 c8_i32_1275
  let v4282 : BitVec 32 := Scalar.addi c256_i32_1276 v4281
  v4282
def k0_mult138 (i : grid0.Coords) (k0_t2 : Fin (k0_t2_loop i).trips) : BitVec 32 :=
  let c384_i32_1279 : BitVec 32 := 384#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1278 : BitVec 32 := 8#32
  let v4288 : BitVec 32 := Scalar.muli v3546 c8_i32_1278
  let v4289 : BitVec 32 := Scalar.addi c384_i32_1279 v4288
  v4289
def k0_mult139 (i : grid0.Coords) (k0_t2 : Fin (k0_t2_loop i).trips) : BitVec 32 :=
  let c512_i32_1282 : BitVec 32 := 512#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1281 : BitVec 32 := 8#32
  let v4295 : BitVec 32 := Scalar.muli v3546 c8_i32_1281
  let v4296 : BitVec 32 := Scalar.addi c512_i32_1282 v4295
  v4296
def k0_mult140 (i : grid0.Coords) (k0_t2 : Fin (k0_t2_loop i).trips) : BitVec 32 :=
  let c640_i32_1285 : BitVec 32 := 640#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1284 : BitVec 32 := 8#32
  let v4302 : BitVec 32 := Scalar.muli v3546 c8_i32_1284
  let v4303 : BitVec 32 := Scalar.addi c640_i32_1285 v4302
  v4303
def k0_mult141 (i : grid0.Coords) (k0_t2 : Fin (k0_t2_loop i).trips) : BitVec 32 :=
  let c768_i32_1288 : BitVec 32 := 768#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1287 : BitVec 32 := 8#32
  let v4309 : BitVec 32 := Scalar.muli v3546 c8_i32_1287
  let v4310 : BitVec 32 := Scalar.addi c768_i32_1288 v4309
  v4310
def k0_mult142 (i : grid0.Coords) (k0_t2 : Fin (k0_t2_loop i).trips) : BitVec 32 :=
  let c896_i32_1291 : BitVec 32 := 896#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1290 : BitVec 32 := 8#32
  let v4316 : BitVec 32 := Scalar.muli v3546 c8_i32_1290
  let v4317 : BitVec 32 := Scalar.addi c896_i32_1291 v4316
  v4317
def k0_mult143 (i : grid0.Coords) (k0_t2 : Fin (k0_t2_loop i).trips) : BitVec 32 :=
  let c1024_i32_1294 : BitVec 32 := 1024#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1293 : BitVec 32 := 8#32
  let v4323 : BitVec 32 := Scalar.muli v3546 c8_i32_1293
  let v4324 : BitVec 32 := Scalar.addi c1024_i32_1294 v4323
  v4324
def k0_mult144 (i : grid0.Coords) (k0_t2 : Fin (k0_t2_loop i).trips) : BitVec 32 :=
  let c1152_i32_1297 : BitVec 32 := 1152#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1296 : BitVec 32 := 8#32
  let v4330 : BitVec 32 := Scalar.muli v3546 c8_i32_1296
  let v4331 : BitVec 32 := Scalar.addi c1152_i32_1297 v4330
  v4331
def k0_mult145 (i : grid0.Coords) (k0_t2 : Fin (k0_t2_loop i).trips) : BitVec 32 :=
  let c1280_i32_1300 : BitVec 32 := 1280#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1299 : BitVec 32 := 8#32
  let v4337 : BitVec 32 := Scalar.muli v3546 c8_i32_1299
  let v4338 : BitVec 32 := Scalar.addi c1280_i32_1300 v4337
  v4338
def k0_mult146 (i : grid0.Coords) (k0_t2 : Fin (k0_t2_loop i).trips) : BitVec 32 :=
  let c1408_i32_1303 : BitVec 32 := 1408#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1302 : BitVec 32 := 8#32
  let v4344 : BitVec 32 := Scalar.muli v3546 c8_i32_1302
  let v4345 : BitVec 32 := Scalar.addi c1408_i32_1303 v4344
  v4345
def k0_mult147 (i : grid0.Coords) (k0_t2 : Fin (k0_t2_loop i).trips) : BitVec 32 :=
  let c1536_i32_1306 : BitVec 32 := 1536#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1305 : BitVec 32 := 8#32
  let v4351 : BitVec 32 := Scalar.muli v3546 c8_i32_1305
  let v4352 : BitVec 32 := Scalar.addi c1536_i32_1306 v4351
  v4352
def k0_mult148 (i : grid0.Coords) (k0_t2 : Fin (k0_t2_loop i).trips) : BitVec 32 :=
  let c1664_i32_1309 : BitVec 32 := 1664#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1308 : BitVec 32 := 8#32
  let v4358 : BitVec 32 := Scalar.muli v3546 c8_i32_1308
  let v4359 : BitVec 32 := Scalar.addi c1664_i32_1309 v4358
  v4359
def k0_mult149 (i : grid0.Coords) (k0_t2 : Fin (k0_t2_loop i).trips) : BitVec 32 :=
  let c1792_i32_1312 : BitVec 32 := 1792#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1311 : BitVec 32 := 8#32
  let v4365 : BitVec 32 := Scalar.muli v3546 c8_i32_1311
  let v4366 : BitVec 32 := Scalar.addi c1792_i32_1312 v4365
  v4366
def k0_mult150 (i : grid0.Coords) (k0_t2 : Fin (k0_t2_loop i).trips) : BitVec 32 :=
  let c1920_i32_1315 : BitVec 32 := 1920#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1314 : BitVec 32 := 8#32
  let v4372 : BitVec 32 := Scalar.muli v3546 c8_i32_1314
  let v4373 : BitVec 32 := Scalar.addi c1920_i32_1315 v4372
  v4373
def k0_mult151 (i : grid0.Coords) (k0_t2 : Fin (k0_t2_loop i).trips) : BitVec 32 :=
  let c2048_i32_1318 : BitVec 32 := 2048#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1317 : BitVec 32 := 8#32
  let v4379 : BitVec 32 := Scalar.muli v3546 c8_i32_1317
  let v4380 : BitVec 32 := Scalar.addi c2048_i32_1318 v4379
  v4380
def k0_mult152 (i : grid0.Coords) (k0_t2 : Fin (k0_t2_loop i).trips) : BitVec 32 :=
  let c2176_i32_1321 : BitVec 32 := 2176#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1320 : BitVec 32 := 8#32
  let v4386 : BitVec 32 := Scalar.muli v3546 c8_i32_1320
  let v4387 : BitVec 32 := Scalar.addi c2176_i32_1321 v4386
  v4387
def k0_mult153 (i : grid0.Coords) (k0_t2 : Fin (k0_t2_loop i).trips) : BitVec 32 :=
  let c2304_i32_1324 : BitVec 32 := 2304#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1323 : BitVec 32 := 8#32
  let v4393 : BitVec 32 := Scalar.muli v3546 c8_i32_1323
  let v4394 : BitVec 32 := Scalar.addi c2304_i32_1324 v4393
  v4394
def k0_mult154 (i : grid0.Coords) (k0_t2 : Fin (k0_t2_loop i).trips) : BitVec 32 :=
  let c2432_i32_1327 : BitVec 32 := 2432#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1326 : BitVec 32 := 8#32
  let v4400 : BitVec 32 := Scalar.muli v3546 c8_i32_1326
  let v4401 : BitVec 32 := Scalar.addi c2432_i32_1327 v4400
  v4401
def k0_mult155 (i : grid0.Coords) (k0_t2 : Fin (k0_t2_loop i).trips) : BitVec 32 :=
  let c2560_i32_1330 : BitVec 32 := 2560#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1329 : BitVec 32 := 8#32
  let v4407 : BitVec 32 := Scalar.muli v3546 c8_i32_1329
  let v4408 : BitVec 32 := Scalar.addi c2560_i32_1330 v4407
  v4408
def k0_mult156 (i : grid0.Coords) (k0_t2 : Fin (k0_t2_loop i).trips) : BitVec 32 :=
  let c2688_i32_1333 : BitVec 32 := 2688#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1332 : BitVec 32 := 8#32
  let v4414 : BitVec 32 := Scalar.muli v3546 c8_i32_1332
  let v4415 : BitVec 32 := Scalar.addi c2688_i32_1333 v4414
  v4415
def k0_mult157 (i : grid0.Coords) (k0_t2 : Fin (k0_t2_loop i).trips) : BitVec 32 :=
  let c2816_i32_1336 : BitVec 32 := 2816#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1335 : BitVec 32 := 8#32
  let v4421 : BitVec 32 := Scalar.muli v3546 c8_i32_1335
  let v4422 : BitVec 32 := Scalar.addi c2816_i32_1336 v4421
  v4422
def k0_mult158 (i : grid0.Coords) (k0_t2 : Fin (k0_t2_loop i).trips) : BitVec 32 :=
  let c2944_i32_1339 : BitVec 32 := 2944#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1338 : BitVec 32 := 8#32
  let v4428 : BitVec 32 := Scalar.muli v3546 c8_i32_1338
  let v4429 : BitVec 32 := Scalar.addi c2944_i32_1339 v4428
  v4429
def k0_mult159 (i : grid0.Coords) (k0_t2 : Fin (k0_t2_loop i).trips) : BitVec 32 :=
  let c3072_i32_1342 : BitVec 32 := 3072#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1341 : BitVec 32 := 8#32
  let v4435 : BitVec 32 := Scalar.muli v3546 c8_i32_1341
  let v4436 : BitVec 32 := Scalar.addi c3072_i32_1342 v4435
  v4436
def k0_mult160 (i : grid0.Coords) (k0_t2 : Fin (k0_t2_loop i).trips) : BitVec 32 :=
  let c3200_i32_1345 : BitVec 32 := 3200#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1344 : BitVec 32 := 8#32
  let v4442 : BitVec 32 := Scalar.muli v3546 c8_i32_1344
  let v4443 : BitVec 32 := Scalar.addi c3200_i32_1345 v4442
  v4443
def k0_mult161 (i : grid0.Coords) (k0_t2 : Fin (k0_t2_loop i).trips) : BitVec 32 :=
  let c3328_i32_1348 : BitVec 32 := 3328#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1347 : BitVec 32 := 8#32
  let v4449 : BitVec 32 := Scalar.muli v3546 c8_i32_1347
  let v4450 : BitVec 32 := Scalar.addi c3328_i32_1348 v4449
  v4450
def k0_mult162 (i : grid0.Coords) (k0_t2 : Fin (k0_t2_loop i).trips) : BitVec 32 :=
  let c3456_i32_1351 : BitVec 32 := 3456#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1350 : BitVec 32 := 8#32
  let v4456 : BitVec 32 := Scalar.muli v3546 c8_i32_1350
  let v4457 : BitVec 32 := Scalar.addi c3456_i32_1351 v4456
  v4457
def k0_mult163 (i : grid0.Coords) (k0_t2 : Fin (k0_t2_loop i).trips) : BitVec 32 :=
  let c3584_i32_1354 : BitVec 32 := 3584#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1353 : BitVec 32 := 8#32
  let v4463 : BitVec 32 := Scalar.muli v3546 c8_i32_1353
  let v4464 : BitVec 32 := Scalar.addi c3584_i32_1354 v4463
  v4464
def k0_mult164 (i : grid0.Coords) (k0_t2 : Fin (k0_t2_loop i).trips) : BitVec 32 :=
  let c3712_i32_1357 : BitVec 32 := 3712#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1356 : BitVec 32 := 8#32
  let v4470 : BitVec 32 := Scalar.muli v3546 c8_i32_1356
  let v4471 : BitVec 32 := Scalar.addi c3712_i32_1357 v4470
  v4471
def k0_mult165 (i : grid0.Coords) (k0_t2 : Fin (k0_t2_loop i).trips) : BitVec 32 :=
  let c3840_i32_1360 : BitVec 32 := 3840#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1359 : BitVec 32 := 8#32
  let v4477 : BitVec 32 := Scalar.muli v3546 c8_i32_1359
  let v4478 : BitVec 32 := Scalar.addi c3840_i32_1360 v4477
  v4478
def k0_mult166 (i : grid0.Coords) (k0_t2 : Fin (k0_t2_loop i).trips) : BitVec 32 :=
  let c3968_i32_1363 : BitVec 32 := 3968#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1362 : BitVec 32 := 8#32
  let v4484 : BitVec 32 := Scalar.muli v3546 c8_i32_1362
  let v4485 : BitVec 32 := Scalar.addi c3968_i32_1363 v4484
  v4485
def k0_mult167 (i : grid0.Coords) (k0_t2 : Fin (k0_t2_loop i).trips) : BitVec 32 :=
  let c0_i32_1608 : BitVec 32 := 0#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1607 : BitVec 32 := 8#32
  let v5245 : BitVec 32 := Scalar.muli v4524 c8_i32_1607
  let v5246 : BitVec 32 := Scalar.addi c0_i32_1608 v5245
  v5246
def k0_mult168 (i : grid0.Coords) (k0_t2 : Fin (k0_t2_loop i).trips) : BitVec 32 :=
  let c128_i32_1611 : BitVec 32 := 128#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1610 : BitVec 32 := 8#32
  let v5252 : BitVec 32 := Scalar.muli v4524 c8_i32_1610
  let v5253 : BitVec 32 := Scalar.addi c128_i32_1611 v5252
  v5253
def k0_mult169 (i : grid0.Coords) (k0_t2 : Fin (k0_t2_loop i).trips) : BitVec 32 :=
  let c256_i32_1614 : BitVec 32 := 256#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1613 : BitVec 32 := 8#32
  let v5259 : BitVec 32 := Scalar.muli v4524 c8_i32_1613
  let v5260 : BitVec 32 := Scalar.addi c256_i32_1614 v5259
  v5260
def k0_mult170 (i : grid0.Coords) (k0_t2 : Fin (k0_t2_loop i).trips) : BitVec 32 :=
  let c384_i32_1617 : BitVec 32 := 384#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1616 : BitVec 32 := 8#32
  let v5266 : BitVec 32 := Scalar.muli v4524 c8_i32_1616
  let v5267 : BitVec 32 := Scalar.addi c384_i32_1617 v5266
  v5267
def k0_mult171 (i : grid0.Coords) (k0_t2 : Fin (k0_t2_loop i).trips) : BitVec 32 :=
  let c512_i32_1620 : BitVec 32 := 512#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1619 : BitVec 32 := 8#32
  let v5273 : BitVec 32 := Scalar.muli v4524 c8_i32_1619
  let v5274 : BitVec 32 := Scalar.addi c512_i32_1620 v5273
  v5274
def k0_mult172 (i : grid0.Coords) (k0_t2 : Fin (k0_t2_loop i).trips) : BitVec 32 :=
  let c640_i32_1623 : BitVec 32 := 640#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1622 : BitVec 32 := 8#32
  let v5280 : BitVec 32 := Scalar.muli v4524 c8_i32_1622
  let v5281 : BitVec 32 := Scalar.addi c640_i32_1623 v5280
  v5281
def k0_mult173 (i : grid0.Coords) (k0_t2 : Fin (k0_t2_loop i).trips) : BitVec 32 :=
  let c768_i32_1626 : BitVec 32 := 768#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1625 : BitVec 32 := 8#32
  let v5287 : BitVec 32 := Scalar.muli v4524 c8_i32_1625
  let v5288 : BitVec 32 := Scalar.addi c768_i32_1626 v5287
  v5288
def k0_mult174 (i : grid0.Coords) (k0_t2 : Fin (k0_t2_loop i).trips) : BitVec 32 :=
  let c896_i32_1629 : BitVec 32 := 896#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1628 : BitVec 32 := 8#32
  let v5294 : BitVec 32 := Scalar.muli v4524 c8_i32_1628
  let v5295 : BitVec 32 := Scalar.addi c896_i32_1629 v5294
  v5295
def k0_mult175 (i : grid0.Coords) (k0_t2 : Fin (k0_t2_loop i).trips) : BitVec 32 :=
  let c1024_i32_1632 : BitVec 32 := 1024#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1631 : BitVec 32 := 8#32
  let v5301 : BitVec 32 := Scalar.muli v4524 c8_i32_1631
  let v5302 : BitVec 32 := Scalar.addi c1024_i32_1632 v5301
  v5302
def k0_mult176 (i : grid0.Coords) (k0_t2 : Fin (k0_t2_loop i).trips) : BitVec 32 :=
  let c1152_i32_1635 : BitVec 32 := 1152#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1634 : BitVec 32 := 8#32
  let v5308 : BitVec 32 := Scalar.muli v4524 c8_i32_1634
  let v5309 : BitVec 32 := Scalar.addi c1152_i32_1635 v5308
  v5309
def k0_mult177 (i : grid0.Coords) (k0_t2 : Fin (k0_t2_loop i).trips) : BitVec 32 :=
  let c1280_i32_1638 : BitVec 32 := 1280#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1637 : BitVec 32 := 8#32
  let v5315 : BitVec 32 := Scalar.muli v4524 c8_i32_1637
  let v5316 : BitVec 32 := Scalar.addi c1280_i32_1638 v5315
  v5316
def k0_mult178 (i : grid0.Coords) (k0_t2 : Fin (k0_t2_loop i).trips) : BitVec 32 :=
  let c1408_i32_1641 : BitVec 32 := 1408#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1640 : BitVec 32 := 8#32
  let v5322 : BitVec 32 := Scalar.muli v4524 c8_i32_1640
  let v5323 : BitVec 32 := Scalar.addi c1408_i32_1641 v5322
  v5323
def k0_mult179 (i : grid0.Coords) (k0_t2 : Fin (k0_t2_loop i).trips) : BitVec 32 :=
  let c1536_i32_1644 : BitVec 32 := 1536#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1643 : BitVec 32 := 8#32
  let v5329 : BitVec 32 := Scalar.muli v4524 c8_i32_1643
  let v5330 : BitVec 32 := Scalar.addi c1536_i32_1644 v5329
  v5330
def k0_mult180 (i : grid0.Coords) (k0_t2 : Fin (k0_t2_loop i).trips) : BitVec 32 :=
  let c1664_i32_1647 : BitVec 32 := 1664#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1646 : BitVec 32 := 8#32
  let v5336 : BitVec 32 := Scalar.muli v4524 c8_i32_1646
  let v5337 : BitVec 32 := Scalar.addi c1664_i32_1647 v5336
  v5337
def k0_mult181 (i : grid0.Coords) (k0_t2 : Fin (k0_t2_loop i).trips) : BitVec 32 :=
  let c1792_i32_1650 : BitVec 32 := 1792#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1649 : BitVec 32 := 8#32
  let v5343 : BitVec 32 := Scalar.muli v4524 c8_i32_1649
  let v5344 : BitVec 32 := Scalar.addi c1792_i32_1650 v5343
  v5344
def k0_mult182 (i : grid0.Coords) (k0_t2 : Fin (k0_t2_loop i).trips) : BitVec 32 :=
  let c1920_i32_1653 : BitVec 32 := 1920#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1652 : BitVec 32 := 8#32
  let v5350 : BitVec 32 := Scalar.muli v4524 c8_i32_1652
  let v5351 : BitVec 32 := Scalar.addi c1920_i32_1653 v5350
  v5351
def k0_mult183 (i : grid0.Coords) (k0_t2 : Fin (k0_t2_loop i).trips) : BitVec 32 :=
  let c2048_i32_1656 : BitVec 32 := 2048#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1655 : BitVec 32 := 8#32
  let v5357 : BitVec 32 := Scalar.muli v4524 c8_i32_1655
  let v5358 : BitVec 32 := Scalar.addi c2048_i32_1656 v5357
  v5358
def k0_mult184 (i : grid0.Coords) (k0_t2 : Fin (k0_t2_loop i).trips) : BitVec 32 :=
  let c2176_i32_1659 : BitVec 32 := 2176#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1658 : BitVec 32 := 8#32
  let v5364 : BitVec 32 := Scalar.muli v4524 c8_i32_1658
  let v5365 : BitVec 32 := Scalar.addi c2176_i32_1659 v5364
  v5365
def k0_mult185 (i : grid0.Coords) (k0_t2 : Fin (k0_t2_loop i).trips) : BitVec 32 :=
  let c2304_i32_1662 : BitVec 32 := 2304#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1661 : BitVec 32 := 8#32
  let v5371 : BitVec 32 := Scalar.muli v4524 c8_i32_1661
  let v5372 : BitVec 32 := Scalar.addi c2304_i32_1662 v5371
  v5372
def k0_mult186 (i : grid0.Coords) (k0_t2 : Fin (k0_t2_loop i).trips) : BitVec 32 :=
  let c2432_i32_1665 : BitVec 32 := 2432#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1664 : BitVec 32 := 8#32
  let v5378 : BitVec 32 := Scalar.muli v4524 c8_i32_1664
  let v5379 : BitVec 32 := Scalar.addi c2432_i32_1665 v5378
  v5379
def k0_mult187 (i : grid0.Coords) (k0_t2 : Fin (k0_t2_loop i).trips) : BitVec 32 :=
  let c2560_i32_1668 : BitVec 32 := 2560#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1667 : BitVec 32 := 8#32
  let v5385 : BitVec 32 := Scalar.muli v4524 c8_i32_1667
  let v5386 : BitVec 32 := Scalar.addi c2560_i32_1668 v5385
  v5386
def k0_mult188 (i : grid0.Coords) (k0_t2 : Fin (k0_t2_loop i).trips) : BitVec 32 :=
  let c2688_i32_1671 : BitVec 32 := 2688#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1670 : BitVec 32 := 8#32
  let v5392 : BitVec 32 := Scalar.muli v4524 c8_i32_1670
  let v5393 : BitVec 32 := Scalar.addi c2688_i32_1671 v5392
  v5393
def k0_mult189 (i : grid0.Coords) (k0_t2 : Fin (k0_t2_loop i).trips) : BitVec 32 :=
  let c2816_i32_1674 : BitVec 32 := 2816#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1673 : BitVec 32 := 8#32
  let v5399 : BitVec 32 := Scalar.muli v4524 c8_i32_1673
  let v5400 : BitVec 32 := Scalar.addi c2816_i32_1674 v5399
  v5400
def k0_mult190 (i : grid0.Coords) (k0_t2 : Fin (k0_t2_loop i).trips) : BitVec 32 :=
  let c2944_i32_1677 : BitVec 32 := 2944#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1676 : BitVec 32 := 8#32
  let v5406 : BitVec 32 := Scalar.muli v4524 c8_i32_1676
  let v5407 : BitVec 32 := Scalar.addi c2944_i32_1677 v5406
  v5407
def k0_mult191 (i : grid0.Coords) (k0_t2 : Fin (k0_t2_loop i).trips) : BitVec 32 :=
  let c3072_i32_1680 : BitVec 32 := 3072#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1679 : BitVec 32 := 8#32
  let v5413 : BitVec 32 := Scalar.muli v4524 c8_i32_1679
  let v5414 : BitVec 32 := Scalar.addi c3072_i32_1680 v5413
  v5414
def k0_mult192 (i : grid0.Coords) (k0_t2 : Fin (k0_t2_loop i).trips) : BitVec 32 :=
  let c3200_i32_1683 : BitVec 32 := 3200#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1682 : BitVec 32 := 8#32
  let v5420 : BitVec 32 := Scalar.muli v4524 c8_i32_1682
  let v5421 : BitVec 32 := Scalar.addi c3200_i32_1683 v5420
  v5421
def k0_mult193 (i : grid0.Coords) (k0_t2 : Fin (k0_t2_loop i).trips) : BitVec 32 :=
  let c3328_i32_1686 : BitVec 32 := 3328#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1685 : BitVec 32 := 8#32
  let v5427 : BitVec 32 := Scalar.muli v4524 c8_i32_1685
  let v5428 : BitVec 32 := Scalar.addi c3328_i32_1686 v5427
  v5428
def k0_mult194 (i : grid0.Coords) (k0_t2 : Fin (k0_t2_loop i).trips) : BitVec 32 :=
  let c3456_i32_1689 : BitVec 32 := 3456#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1688 : BitVec 32 := 8#32
  let v5434 : BitVec 32 := Scalar.muli v4524 c8_i32_1688
  let v5435 : BitVec 32 := Scalar.addi c3456_i32_1689 v5434
  v5435
def k0_mult195 (i : grid0.Coords) (k0_t2 : Fin (k0_t2_loop i).trips) : BitVec 32 :=
  let c3584_i32_1692 : BitVec 32 := 3584#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1691 : BitVec 32 := 8#32
  let v5441 : BitVec 32 := Scalar.muli v4524 c8_i32_1691
  let v5442 : BitVec 32 := Scalar.addi c3584_i32_1692 v5441
  v5442
def k0_mult196 (i : grid0.Coords) (k0_t2 : Fin (k0_t2_loop i).trips) : BitVec 32 :=
  let c3712_i32_1695 : BitVec 32 := 3712#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1694 : BitVec 32 := 8#32
  let v5448 : BitVec 32 := Scalar.muli v4524 c8_i32_1694
  let v5449 : BitVec 32 := Scalar.addi c3712_i32_1695 v5448
  v5449
def k0_mult197 (i : grid0.Coords) (k0_t2 : Fin (k0_t2_loop i).trips) : BitVec 32 :=
  let c3840_i32_1698 : BitVec 32 := 3840#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1697 : BitVec 32 := 8#32
  let v5455 : BitVec 32 := Scalar.muli v4524 c8_i32_1697
  let v5456 : BitVec 32 := Scalar.addi c3840_i32_1698 v5455
  v5456
def k0_mult198 (i : grid0.Coords) (k0_t2 : Fin (k0_t2_loop i).trips) : BitVec 32 :=
  let c3968_i32_1701 : BitVec 32 := 3968#32
  let c2_i32_1012 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v3465 : BitVec 32 := Scalar.muli c2_i32_1012 arg27
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1700 : BitVec 32 := 8#32
  let v5462 : BitVec 32 := Scalar.muli v4524 c8_i32_1700
  let v5463 : BitVec 32 := Scalar.addi c3968_i32_1701 v5462
  v5463
def k0_mult199 (i : grid0.Coords) (k0_t2 : Fin (k0_t2_loop i).trips) : BitVec 32 :=
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c512_i32_1705 : BitVec 32 := 512#32
  let v5471 : BitVec 32 := Scalar.muli v5470 c512_i32_1705
  v5471
def k0_off10 (i : grid0.Coords) (k0_t2 : Fin (k0_t2_loop i).trips) : Fin 2 → Nat :=
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c512_i32_1705 : BitVec 32 := 512#32
  let v5471 : BitVec 32 := Scalar.muli v5470 c512_i32_1705
  let v5472 : BitVec 32 := v5471
  let v5473 : Index := Scalar.indexCast v5472
  let c0_1706 : Index := 0#32
  ![v5473.toNat, 0]
def k0_mult200 (i : grid0.Coords) (k0_t2 : Fin (k0_t2_loop i).trips) : BitVec 32 :=
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c512_i32_1715 : BitVec 32 := 512#32
  let v5506 : BitVec 32 := Scalar.muli v5470 c512_i32_1715
  v5506
def k0_off11 (i : grid0.Coords) (k0_t2 : Fin (k0_t2_loop i).trips) : Fin 2 → Nat :=
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c512_i32_1715 : BitVec 32 := 512#32
  let v5506 : BitVec 32 := Scalar.muli v5470 c512_i32_1715
  let v5507 : BitVec 32 := v5506
  let v5508 : Index := Scalar.indexCast v5507
  let c0_1716 : Index := 0#32
  ![v5508.toNat, 0]
def k0_mult201 (i : grid0.Coords) (k0_t2 : Fin (k0_t2_loop i).trips) : BitVec 32 :=
  let c0_i32_1962 : BitVec 32 := 0#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1961 : BitVec 32 := 8#32
  let v6272 : BitVec 32 := Scalar.muli v5551 c8_i32_1961
  let v6273 : BitVec 32 := Scalar.addi c0_i32_1962 v6272
  v6273
def k0_off12 (i : grid0.Coords) (k0_t2 : Fin (k0_t2_loop i).trips) (c0_i32_1962 : BitVec 32) (c0_i32_1720 : BitVec 32) : Fin 2 → Nat :=
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let v5551 : BitVec 32 := Scalar.addi v5550 c0_i32_1720
  let c8_i32_1961 : BitVec 32 := 8#32
  let v6272 : BitVec 32 := Scalar.muli v5551 c8_i32_1961
  let v6273 : BitVec 32 := Scalar.addi c0_i32_1962 v6272
  let v6274 : BitVec 32 := v6273
  let v6275 : Index := Scalar.indexCast v6274
  let c0_1963 : Index := 0#32
  ![v6275.toNat, 0]
def k0_mult202 (i : grid0.Coords) (k0_t2 : Fin (k0_t2_loop i).trips) : BitVec 32 :=
  let c128_i32_1965 : BitVec 32 := 128#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1964 : BitVec 32 := 8#32
  let v6279 : BitVec 32 := Scalar.muli v5551 c8_i32_1964
  let v6280 : BitVec 32 := Scalar.addi c128_i32_1965 v6279
  v6280
def k0_mult203 (i : grid0.Coords) (k0_t2 : Fin (k0_t2_loop i).trips) : BitVec 32 :=
  let c256_i32_1968 : BitVec 32 := 256#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1967 : BitVec 32 := 8#32
  let v6286 : BitVec 32 := Scalar.muli v5551 c8_i32_1967
  let v6287 : BitVec 32 := Scalar.addi c256_i32_1968 v6286
  v6287
def k0_mult204 (i : grid0.Coords) (k0_t2 : Fin (k0_t2_loop i).trips) : BitVec 32 :=
  let c384_i32_1971 : BitVec 32 := 384#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1970 : BitVec 32 := 8#32
  let v6293 : BitVec 32 := Scalar.muli v5551 c8_i32_1970
  let v6294 : BitVec 32 := Scalar.addi c384_i32_1971 v6293
  v6294
def k0_mult205 (i : grid0.Coords) (k0_t2 : Fin (k0_t2_loop i).trips) : BitVec 32 :=
  let c512_i32_1974 : BitVec 32 := 512#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1973 : BitVec 32 := 8#32
  let v6300 : BitVec 32 := Scalar.muli v5551 c8_i32_1973
  let v6301 : BitVec 32 := Scalar.addi c512_i32_1974 v6300
  v6301
def k0_mult206 (i : grid0.Coords) (k0_t2 : Fin (k0_t2_loop i).trips) : BitVec 32 :=
  let c640_i32_1977 : BitVec 32 := 640#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1976 : BitVec 32 := 8#32
  let v6307 : BitVec 32 := Scalar.muli v5551 c8_i32_1976
  let v6308 : BitVec 32 := Scalar.addi c640_i32_1977 v6307
  v6308
def k0_mult207 (i : grid0.Coords) (k0_t2 : Fin (k0_t2_loop i).trips) : BitVec 32 :=
  let c768_i32_1980 : BitVec 32 := 768#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1979 : BitVec 32 := 8#32
  let v6314 : BitVec 32 := Scalar.muli v5551 c8_i32_1979
  let v6315 : BitVec 32 := Scalar.addi c768_i32_1980 v6314
  v6315
def k0_mult208 (i : grid0.Coords) (k0_t2 : Fin (k0_t2_loop i).trips) : BitVec 32 :=
  let c896_i32_1983 : BitVec 32 := 896#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1982 : BitVec 32 := 8#32
  let v6321 : BitVec 32 := Scalar.muli v5551 c8_i32_1982
  let v6322 : BitVec 32 := Scalar.addi c896_i32_1983 v6321
  v6322
def k0_mult209 (i : grid0.Coords) (k0_t2 : Fin (k0_t2_loop i).trips) : BitVec 32 :=
  let c1024_i32_1986 : BitVec 32 := 1024#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1985 : BitVec 32 := 8#32
  let v6328 : BitVec 32 := Scalar.muli v5551 c8_i32_1985
  let v6329 : BitVec 32 := Scalar.addi c1024_i32_1986 v6328
  v6329
def k0_mult210 (i : grid0.Coords) (k0_t2 : Fin (k0_t2_loop i).trips) : BitVec 32 :=
  let c1152_i32_1989 : BitVec 32 := 1152#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1988 : BitVec 32 := 8#32
  let v6335 : BitVec 32 := Scalar.muli v5551 c8_i32_1988
  let v6336 : BitVec 32 := Scalar.addi c1152_i32_1989 v6335
  v6336
def k0_mult211 (i : grid0.Coords) (k0_t2 : Fin (k0_t2_loop i).trips) : BitVec 32 :=
  let c1280_i32_1992 : BitVec 32 := 1280#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1991 : BitVec 32 := 8#32
  let v6342 : BitVec 32 := Scalar.muli v5551 c8_i32_1991
  let v6343 : BitVec 32 := Scalar.addi c1280_i32_1992 v6342
  v6343
def k0_mult212 (i : grid0.Coords) (k0_t2 : Fin (k0_t2_loop i).trips) : BitVec 32 :=
  let c1408_i32_1995 : BitVec 32 := 1408#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1994 : BitVec 32 := 8#32
  let v6349 : BitVec 32 := Scalar.muli v5551 c8_i32_1994
  let v6350 : BitVec 32 := Scalar.addi c1408_i32_1995 v6349
  v6350
def k0_mult213 (i : grid0.Coords) (k0_t2 : Fin (k0_t2_loop i).trips) : BitVec 32 :=
  let c1536_i32_1998 : BitVec 32 := 1536#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_1997 : BitVec 32 := 8#32
  let v6356 : BitVec 32 := Scalar.muli v5551 c8_i32_1997
  let v6357 : BitVec 32 := Scalar.addi c1536_i32_1998 v6356
  v6357
def k0_mult214 (i : grid0.Coords) (k0_t2 : Fin (k0_t2_loop i).trips) : BitVec 32 :=
  let c1664_i32_2001 : BitVec 32 := 1664#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2000 : BitVec 32 := 8#32
  let v6363 : BitVec 32 := Scalar.muli v5551 c8_i32_2000
  let v6364 : BitVec 32 := Scalar.addi c1664_i32_2001 v6363
  v6364
def k0_mult215 (i : grid0.Coords) (k0_t2 : Fin (k0_t2_loop i).trips) : BitVec 32 :=
  let c1792_i32_2004 : BitVec 32 := 1792#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2003 : BitVec 32 := 8#32
  let v6370 : BitVec 32 := Scalar.muli v5551 c8_i32_2003
  let v6371 : BitVec 32 := Scalar.addi c1792_i32_2004 v6370
  v6371
def k0_mult216 (i : grid0.Coords) (k0_t2 : Fin (k0_t2_loop i).trips) : BitVec 32 :=
  let c1920_i32_2007 : BitVec 32 := 1920#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2006 : BitVec 32 := 8#32
  let v6377 : BitVec 32 := Scalar.muli v5551 c8_i32_2006
  let v6378 : BitVec 32 := Scalar.addi c1920_i32_2007 v6377
  v6378
def k0_mult217 (i : grid0.Coords) (k0_t2 : Fin (k0_t2_loop i).trips) : BitVec 32 :=
  let c2048_i32_2010 : BitVec 32 := 2048#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2009 : BitVec 32 := 8#32
  let v6384 : BitVec 32 := Scalar.muli v5551 c8_i32_2009
  let v6385 : BitVec 32 := Scalar.addi c2048_i32_2010 v6384
  v6385
def k0_mult218 (i : grid0.Coords) (k0_t2 : Fin (k0_t2_loop i).trips) : BitVec 32 :=
  let c2176_i32_2013 : BitVec 32 := 2176#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2012 : BitVec 32 := 8#32
  let v6391 : BitVec 32 := Scalar.muli v5551 c8_i32_2012
  let v6392 : BitVec 32 := Scalar.addi c2176_i32_2013 v6391
  v6392
def k0_mult219 (i : grid0.Coords) (k0_t2 : Fin (k0_t2_loop i).trips) : BitVec 32 :=
  let c2304_i32_2016 : BitVec 32 := 2304#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2015 : BitVec 32 := 8#32
  let v6398 : BitVec 32 := Scalar.muli v5551 c8_i32_2015
  let v6399 : BitVec 32 := Scalar.addi c2304_i32_2016 v6398
  v6399
def k0_mult220 (i : grid0.Coords) (k0_t2 : Fin (k0_t2_loop i).trips) : BitVec 32 :=
  let c2432_i32_2019 : BitVec 32 := 2432#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2018 : BitVec 32 := 8#32
  let v6405 : BitVec 32 := Scalar.muli v5551 c8_i32_2018
  let v6406 : BitVec 32 := Scalar.addi c2432_i32_2019 v6405
  v6406
def k0_mult221 (i : grid0.Coords) (k0_t2 : Fin (k0_t2_loop i).trips) : BitVec 32 :=
  let c2560_i32_2022 : BitVec 32 := 2560#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2021 : BitVec 32 := 8#32
  let v6412 : BitVec 32 := Scalar.muli v5551 c8_i32_2021
  let v6413 : BitVec 32 := Scalar.addi c2560_i32_2022 v6412
  v6413
def k0_mult222 (i : grid0.Coords) (k0_t2 : Fin (k0_t2_loop i).trips) : BitVec 32 :=
  let c2688_i32_2025 : BitVec 32 := 2688#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2024 : BitVec 32 := 8#32
  let v6419 : BitVec 32 := Scalar.muli v5551 c8_i32_2024
  let v6420 : BitVec 32 := Scalar.addi c2688_i32_2025 v6419
  v6420
def k0_mult223 (i : grid0.Coords) (k0_t2 : Fin (k0_t2_loop i).trips) : BitVec 32 :=
  let c2816_i32_2028 : BitVec 32 := 2816#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2027 : BitVec 32 := 8#32
  let v6426 : BitVec 32 := Scalar.muli v5551 c8_i32_2027
  let v6427 : BitVec 32 := Scalar.addi c2816_i32_2028 v6426
  v6427
def k0_mult224 (i : grid0.Coords) (k0_t2 : Fin (k0_t2_loop i).trips) : BitVec 32 :=
  let c2944_i32_2031 : BitVec 32 := 2944#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2030 : BitVec 32 := 8#32
  let v6433 : BitVec 32 := Scalar.muli v5551 c8_i32_2030
  let v6434 : BitVec 32 := Scalar.addi c2944_i32_2031 v6433
  v6434
def k0_mult225 (i : grid0.Coords) (k0_t2 : Fin (k0_t2_loop i).trips) : BitVec 32 :=
  let c3072_i32_2034 : BitVec 32 := 3072#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2033 : BitVec 32 := 8#32
  let v6440 : BitVec 32 := Scalar.muli v5551 c8_i32_2033
  let v6441 : BitVec 32 := Scalar.addi c3072_i32_2034 v6440
  v6441
def k0_mult226 (i : grid0.Coords) (k0_t2 : Fin (k0_t2_loop i).trips) : BitVec 32 :=
  let c3200_i32_2037 : BitVec 32 := 3200#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2036 : BitVec 32 := 8#32
  let v6447 : BitVec 32 := Scalar.muli v5551 c8_i32_2036
  let v6448 : BitVec 32 := Scalar.addi c3200_i32_2037 v6447
  v6448
def k0_mult227 (i : grid0.Coords) (k0_t2 : Fin (k0_t2_loop i).trips) : BitVec 32 :=
  let c3328_i32_2040 : BitVec 32 := 3328#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2039 : BitVec 32 := 8#32
  let v6454 : BitVec 32 := Scalar.muli v5551 c8_i32_2039
  let v6455 : BitVec 32 := Scalar.addi c3328_i32_2040 v6454
  v6455
def k0_mult228 (i : grid0.Coords) (k0_t2 : Fin (k0_t2_loop i).trips) : BitVec 32 :=
  let c3456_i32_2043 : BitVec 32 := 3456#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2042 : BitVec 32 := 8#32
  let v6461 : BitVec 32 := Scalar.muli v5551 c8_i32_2042
  let v6462 : BitVec 32 := Scalar.addi c3456_i32_2043 v6461
  v6462
def k0_mult229 (i : grid0.Coords) (k0_t2 : Fin (k0_t2_loop i).trips) : BitVec 32 :=
  let c3584_i32_2046 : BitVec 32 := 3584#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2045 : BitVec 32 := 8#32
  let v6468 : BitVec 32 := Scalar.muli v5551 c8_i32_2045
  let v6469 : BitVec 32 := Scalar.addi c3584_i32_2046 v6468
  v6469
def k0_mult230 (i : grid0.Coords) (k0_t2 : Fin (k0_t2_loop i).trips) : BitVec 32 :=
  let c3712_i32_2049 : BitVec 32 := 3712#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2048 : BitVec 32 := 8#32
  let v6475 : BitVec 32 := Scalar.muli v5551 c8_i32_2048
  let v6476 : BitVec 32 := Scalar.addi c3712_i32_2049 v6475
  v6476
def k0_mult231 (i : grid0.Coords) (k0_t2 : Fin (k0_t2_loop i).trips) : BitVec 32 :=
  let c3840_i32_2052 : BitVec 32 := 3840#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2051 : BitVec 32 := 8#32
  let v6482 : BitVec 32 := Scalar.muli v5551 c8_i32_2051
  let v6483 : BitVec 32 := Scalar.addi c3840_i32_2052 v6482
  v6483
def k0_mult232 (i : grid0.Coords) (k0_t2 : Fin (k0_t2_loop i).trips) : BitVec 32 :=
  let c3968_i32_2055 : BitVec 32 := 3968#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_1719 : BitVec 32 := 2#32
  let v5550 : BitVec 32 := Scalar.muli v5470 c2_i32_1719
  let c0_i32_1720 : BitVec 32 := 0#32
  let v5551 : BitVec 32 := Scalar.addi v5550 c0_i32_1720
  let c8_i32_2054 : BitVec 32 := 8#32
  let v6489 : BitVec 32 := Scalar.muli v5551 c8_i32_2054
  let v6490 : BitVec 32 := Scalar.addi c3968_i32_2055 v6489
  v6490
def k0_mult233 (i : grid0.Coords) (k0_t2 : Fin (k0_t2_loop i).trips) : BitVec 32 :=
  let c0_i32_2300 : BitVec 32 := 0#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2299 : BitVec 32 := 8#32
  let v7250 : BitVec 32 := Scalar.muli v6529 c8_i32_2299
  let v7251 : BitVec 32 := Scalar.addi c0_i32_2300 v7250
  v7251
def k0_mult234 (i : grid0.Coords) (k0_t2 : Fin (k0_t2_loop i).trips) : BitVec 32 :=
  let c128_i32_2303 : BitVec 32 := 128#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2302 : BitVec 32 := 8#32
  let v7257 : BitVec 32 := Scalar.muli v6529 c8_i32_2302
  let v7258 : BitVec 32 := Scalar.addi c128_i32_2303 v7257
  v7258
def k0_mult235 (i : grid0.Coords) (k0_t2 : Fin (k0_t2_loop i).trips) : BitVec 32 :=
  let c256_i32_2306 : BitVec 32 := 256#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2305 : BitVec 32 := 8#32
  let v7264 : BitVec 32 := Scalar.muli v6529 c8_i32_2305
  let v7265 : BitVec 32 := Scalar.addi c256_i32_2306 v7264
  v7265
def k0_mult236 (i : grid0.Coords) (k0_t2 : Fin (k0_t2_loop i).trips) : BitVec 32 :=
  let c384_i32_2309 : BitVec 32 := 384#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2308 : BitVec 32 := 8#32
  let v7271 : BitVec 32 := Scalar.muli v6529 c8_i32_2308
  let v7272 : BitVec 32 := Scalar.addi c384_i32_2309 v7271
  v7272
def k0_mult237 (i : grid0.Coords) (k0_t2 : Fin (k0_t2_loop i).trips) : BitVec 32 :=
  let c512_i32_2312 : BitVec 32 := 512#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2311 : BitVec 32 := 8#32
  let v7278 : BitVec 32 := Scalar.muli v6529 c8_i32_2311
  let v7279 : BitVec 32 := Scalar.addi c512_i32_2312 v7278
  v7279
def k0_mult238 (i : grid0.Coords) (k0_t2 : Fin (k0_t2_loop i).trips) : BitVec 32 :=
  let c640_i32_2315 : BitVec 32 := 640#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2314 : BitVec 32 := 8#32
  let v7285 : BitVec 32 := Scalar.muli v6529 c8_i32_2314
  let v7286 : BitVec 32 := Scalar.addi c640_i32_2315 v7285
  v7286
def k0_mult239 (i : grid0.Coords) (k0_t2 : Fin (k0_t2_loop i).trips) : BitVec 32 :=
  let c768_i32_2318 : BitVec 32 := 768#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2317 : BitVec 32 := 8#32
  let v7292 : BitVec 32 := Scalar.muli v6529 c8_i32_2317
  let v7293 : BitVec 32 := Scalar.addi c768_i32_2318 v7292
  v7293
def k0_mult240 (i : grid0.Coords) (k0_t2 : Fin (k0_t2_loop i).trips) : BitVec 32 :=
  let c896_i32_2321 : BitVec 32 := 896#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2320 : BitVec 32 := 8#32
  let v7299 : BitVec 32 := Scalar.muli v6529 c8_i32_2320
  let v7300 : BitVec 32 := Scalar.addi c896_i32_2321 v7299
  v7300
def k0_mult241 (i : grid0.Coords) (k0_t2 : Fin (k0_t2_loop i).trips) : BitVec 32 :=
  let c1024_i32_2324 : BitVec 32 := 1024#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2323 : BitVec 32 := 8#32
  let v7306 : BitVec 32 := Scalar.muli v6529 c8_i32_2323
  let v7307 : BitVec 32 := Scalar.addi c1024_i32_2324 v7306
  v7307
def k0_mult242 (i : grid0.Coords) (k0_t2 : Fin (k0_t2_loop i).trips) : BitVec 32 :=
  let c1152_i32_2327 : BitVec 32 := 1152#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2326 : BitVec 32 := 8#32
  let v7313 : BitVec 32 := Scalar.muli v6529 c8_i32_2326
  let v7314 : BitVec 32 := Scalar.addi c1152_i32_2327 v7313
  v7314
def k0_mult243 (i : grid0.Coords) (k0_t2 : Fin (k0_t2_loop i).trips) : BitVec 32 :=
  let c1280_i32_2330 : BitVec 32 := 1280#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2329 : BitVec 32 := 8#32
  let v7320 : BitVec 32 := Scalar.muli v6529 c8_i32_2329
  let v7321 : BitVec 32 := Scalar.addi c1280_i32_2330 v7320
  v7321
def k0_mult244 (i : grid0.Coords) (k0_t2 : Fin (k0_t2_loop i).trips) : BitVec 32 :=
  let c1408_i32_2333 : BitVec 32 := 1408#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2332 : BitVec 32 := 8#32
  let v7327 : BitVec 32 := Scalar.muli v6529 c8_i32_2332
  let v7328 : BitVec 32 := Scalar.addi c1408_i32_2333 v7327
  v7328
def k0_mult245 (i : grid0.Coords) (k0_t2 : Fin (k0_t2_loop i).trips) : BitVec 32 :=
  let c1536_i32_2336 : BitVec 32 := 1536#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2335 : BitVec 32 := 8#32
  let v7334 : BitVec 32 := Scalar.muli v6529 c8_i32_2335
  let v7335 : BitVec 32 := Scalar.addi c1536_i32_2336 v7334
  v7335
def k0_mult246 (i : grid0.Coords) (k0_t2 : Fin (k0_t2_loop i).trips) : BitVec 32 :=
  let c1664_i32_2339 : BitVec 32 := 1664#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2338 : BitVec 32 := 8#32
  let v7341 : BitVec 32 := Scalar.muli v6529 c8_i32_2338
  let v7342 : BitVec 32 := Scalar.addi c1664_i32_2339 v7341
  v7342
def k0_mult247 (i : grid0.Coords) (k0_t2 : Fin (k0_t2_loop i).trips) : BitVec 32 :=
  let c1792_i32_2342 : BitVec 32 := 1792#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2341 : BitVec 32 := 8#32
  let v7348 : BitVec 32 := Scalar.muli v6529 c8_i32_2341
  let v7349 : BitVec 32 := Scalar.addi c1792_i32_2342 v7348
  v7349
def k0_mult248 (i : grid0.Coords) (k0_t2 : Fin (k0_t2_loop i).trips) : BitVec 32 :=
  let c1920_i32_2345 : BitVec 32 := 1920#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2344 : BitVec 32 := 8#32
  let v7355 : BitVec 32 := Scalar.muli v6529 c8_i32_2344
  let v7356 : BitVec 32 := Scalar.addi c1920_i32_2345 v7355
  v7356
def k0_mult249 (i : grid0.Coords) (k0_t2 : Fin (k0_t2_loop i).trips) : BitVec 32 :=
  let c2048_i32_2348 : BitVec 32 := 2048#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2347 : BitVec 32 := 8#32
  let v7362 : BitVec 32 := Scalar.muli v6529 c8_i32_2347
  let v7363 : BitVec 32 := Scalar.addi c2048_i32_2348 v7362
  v7363
def k0_mult250 (i : grid0.Coords) (k0_t2 : Fin (k0_t2_loop i).trips) : BitVec 32 :=
  let c2176_i32_2351 : BitVec 32 := 2176#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2350 : BitVec 32 := 8#32
  let v7369 : BitVec 32 := Scalar.muli v6529 c8_i32_2350
  let v7370 : BitVec 32 := Scalar.addi c2176_i32_2351 v7369
  v7370
def k0_mult251 (i : grid0.Coords) (k0_t2 : Fin (k0_t2_loop i).trips) : BitVec 32 :=
  let c2304_i32_2354 : BitVec 32 := 2304#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2353 : BitVec 32 := 8#32
  let v7376 : BitVec 32 := Scalar.muli v6529 c8_i32_2353
  let v7377 : BitVec 32 := Scalar.addi c2304_i32_2354 v7376
  v7377
def k0_mult252 (i : grid0.Coords) (k0_t2 : Fin (k0_t2_loop i).trips) : BitVec 32 :=
  let c2432_i32_2357 : BitVec 32 := 2432#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2356 : BitVec 32 := 8#32
  let v7383 : BitVec 32 := Scalar.muli v6529 c8_i32_2356
  let v7384 : BitVec 32 := Scalar.addi c2432_i32_2357 v7383
  v7384
def k0_mult253 (i : grid0.Coords) (k0_t2 : Fin (k0_t2_loop i).trips) : BitVec 32 :=
  let c2560_i32_2360 : BitVec 32 := 2560#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2359 : BitVec 32 := 8#32
  let v7390 : BitVec 32 := Scalar.muli v6529 c8_i32_2359
  let v7391 : BitVec 32 := Scalar.addi c2560_i32_2360 v7390
  v7391
def k0_mult254 (i : grid0.Coords) (k0_t2 : Fin (k0_t2_loop i).trips) : BitVec 32 :=
  let c2688_i32_2363 : BitVec 32 := 2688#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2362 : BitVec 32 := 8#32
  let v7397 : BitVec 32 := Scalar.muli v6529 c8_i32_2362
  let v7398 : BitVec 32 := Scalar.addi c2688_i32_2363 v7397
  v7398
def k0_mult255 (i : grid0.Coords) (k0_t2 : Fin (k0_t2_loop i).trips) : BitVec 32 :=
  let c2816_i32_2366 : BitVec 32 := 2816#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2365 : BitVec 32 := 8#32
  let v7404 : BitVec 32 := Scalar.muli v6529 c8_i32_2365
  let v7405 : BitVec 32 := Scalar.addi c2816_i32_2366 v7404
  v7405
def k0_mult256 (i : grid0.Coords) (k0_t2 : Fin (k0_t2_loop i).trips) : BitVec 32 :=
  let c2944_i32_2369 : BitVec 32 := 2944#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2368 : BitVec 32 := 8#32
  let v7411 : BitVec 32 := Scalar.muli v6529 c8_i32_2368
  let v7412 : BitVec 32 := Scalar.addi c2944_i32_2369 v7411
  v7412
def k0_mult257 (i : grid0.Coords) (k0_t2 : Fin (k0_t2_loop i).trips) : BitVec 32 :=
  let c3072_i32_2372 : BitVec 32 := 3072#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2371 : BitVec 32 := 8#32
  let v7418 : BitVec 32 := Scalar.muli v6529 c8_i32_2371
  let v7419 : BitVec 32 := Scalar.addi c3072_i32_2372 v7418
  v7419
def k0_mult258 (i : grid0.Coords) (k0_t2 : Fin (k0_t2_loop i).trips) : BitVec 32 :=
  let c3200_i32_2375 : BitVec 32 := 3200#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2374 : BitVec 32 := 8#32
  let v7425 : BitVec 32 := Scalar.muli v6529 c8_i32_2374
  let v7426 : BitVec 32 := Scalar.addi c3200_i32_2375 v7425
  v7426
def k0_mult259 (i : grid0.Coords) (k0_t2 : Fin (k0_t2_loop i).trips) : BitVec 32 :=
  let c3328_i32_2378 : BitVec 32 := 3328#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2377 : BitVec 32 := 8#32
  let v7432 : BitVec 32 := Scalar.muli v6529 c8_i32_2377
  let v7433 : BitVec 32 := Scalar.addi c3328_i32_2378 v7432
  v7433
def k0_mult260 (i : grid0.Coords) (k0_t2 : Fin (k0_t2_loop i).trips) : BitVec 32 :=
  let c3456_i32_2381 : BitVec 32 := 3456#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2380 : BitVec 32 := 8#32
  let v7439 : BitVec 32 := Scalar.muli v6529 c8_i32_2380
  let v7440 : BitVec 32 := Scalar.addi c3456_i32_2381 v7439
  v7440
def k0_mult261 (i : grid0.Coords) (k0_t2 : Fin (k0_t2_loop i).trips) : BitVec 32 :=
  let c3584_i32_2384 : BitVec 32 := 3584#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2383 : BitVec 32 := 8#32
  let v7446 : BitVec 32 := Scalar.muli v6529 c8_i32_2383
  let v7447 : BitVec 32 := Scalar.addi c3584_i32_2384 v7446
  v7447
def k0_mult262 (i : grid0.Coords) (k0_t2 : Fin (k0_t2_loop i).trips) : BitVec 32 :=
  let c3712_i32_2387 : BitVec 32 := 3712#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2386 : BitVec 32 := 8#32
  let v7453 : BitVec 32 := Scalar.muli v6529 c8_i32_2386
  let v7454 : BitVec 32 := Scalar.addi c3712_i32_2387 v7453
  v7454
def k0_mult263 (i : grid0.Coords) (k0_t2 : Fin (k0_t2_loop i).trips) : BitVec 32 :=
  let c3840_i32_2390 : BitVec 32 := 3840#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2389 : BitVec 32 := 8#32
  let v7460 : BitVec 32 := Scalar.muli v6529 c8_i32_2389
  let v7461 : BitVec 32 := Scalar.addi c3840_i32_2390 v7460
  v7461
def k0_mult264 (i : grid0.Coords) (k0_t2 : Fin (k0_t2_loop i).trips) : BitVec 32 :=
  let c3968_i32_2393 : BitVec 32 := 3968#32
  let c2_i32_1703 : BitVec 32 := 2#32
  let c0_i32_16 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v25 : BitVec 32 := Scalar.subi v17 c1_i32_8
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v25 c2_i32
  let c0_i32_13 : BitVec 32 := 0#32
  let v39 : BitVec 1 := Scalar.cmpi .ne v38 c0_i32_13
  let v40 : BitVec 1 := Scalar.andi v37 v39
  let v26 : BitVec 32 := Scalar.divsi v25 c2_i32
  let c1_i32_14 : BitVec 32 := 1#32
  let v41 : BitVec 32 := Scalar.subi v26 c1_i32_14
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg27 : BitVec 32 := Scf.iv v47 c1_i32_19 k0_t2
  let v5469 : BitVec 32 := Scalar.muli c2_i32_1703 arg27
  let c1_i32_1704 : BitVec 32 := 1#32
  let v5470 : BitVec 32 := Scalar.addi v5469 c1_i32_1704
  let c2_i32_2057 : BitVec 32 := 2#32
  let v6528 : BitVec 32 := Scalar.muli v5470 c2_i32_2057
  let c1_i32_2058 : BitVec 32 := 1#32
  let v6529 : BitVec 32 := Scalar.addi v6528 c1_i32_2058
  let c8_i32_2392 : BitVec 32 := 8#32
  let v7467 : BitVec 32 := Scalar.muli v6529 c8_i32_2392
  let v7468 : BitVec 32 := Scalar.addi c3968_i32_2393 v7467
  v7468
def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_20 : BitVec 32 := 1#32
  let v48 : BitVec 32 := Scalar.subi v17 c1_i32_20
  let c2_i32_21 : BitVec 32 := 2#32
  let c0_i32_22 : BitVec 32 := 0#32
  let v49 : BitVec 1 := Scalar.cmpi .eq c2_i32_21 c0_i32_22
  let c1_i32_23 : BitVec 32 := 1#32
  let v50 : BitVec 32 := Scalar.select v49 c1_i32_23 c2_i32_21
  let v51 : BitVec 32 := Scalar.remsi v48 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  let c1_i32_27 : BitVec 32 := 1#32
  let v59 : BitVec 1 := Scalar.cmpi .eq v58 c1_i32_27
  let v60 : BitVec 32 := Scalar.extui v59
  let c0_i32_28 : BitVec 32 := 0#32
  let v61 : BitVec 1 := Scalar.cmpi .ne v60 c0_i32_28
  v61

def k0_mult265 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c512_i32_1013 : BitVec 32 := 512#32
  let v3466 : BitVec 32 := Scalar.muli v3465 c512_i32_1013
  v3466
def k0_off13 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c512_i32_1013 : BitVec 32 := 512#32
  let v3466 : BitVec 32 := Scalar.muli v3465 c512_i32_1013
  let v3467 : BitVec 32 := v3466
  let v3468 : Index := Scalar.indexCast v3467
  let c0_1014 : Index := 0#32
  ![v3468.toNat, 0]
def k0_mult266 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c512_i32_1023 : BitVec 32 := 512#32
  let v3501 : BitVec 32 := Scalar.muli v3465 c512_i32_1023
  v3501
def k0_off14 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c512_i32_1023 : BitVec 32 := 512#32
  let v3501 : BitVec 32 := Scalar.muli v3465 c512_i32_1023
  let v3502 : BitVec 32 := v3501
  let v3503 : Index := Scalar.indexCast v3502
  let c0_1024 : Index := 0#32
  ![v3503.toNat, 0]
def k0_mult267 (i : grid0.Coords) : BitVec 32 :=
  let c0_i32_1270 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1269 : BitVec 32 := 8#32
  let v4267 : BitVec 32 := Scalar.muli v3546 c8_i32_1269
  let v4268 : BitVec 32 := Scalar.addi c0_i32_1270 v4267
  v4268
def k0_off15 (i : grid0.Coords) (c0_i32_1270 : BitVec 32) (c0_i32_1028 : BitVec 32) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let v3546 : BitVec 32 := Scalar.addi v3545 c0_i32_1028
  let c8_i32_1269 : BitVec 32 := 8#32
  let v4267 : BitVec 32 := Scalar.muli v3546 c8_i32_1269
  let v4268 : BitVec 32 := Scalar.addi c0_i32_1270 v4267
  let v4269 : BitVec 32 := v4268
  let v4270 : Index := Scalar.indexCast v4269
  let c0_1271 : Index := 0#32
  ![v4270.toNat, 0]
def k0_mult268 (i : grid0.Coords) : BitVec 32 :=
  let c128_i32_1273 : BitVec 32 := 128#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1272 : BitVec 32 := 8#32
  let v4274 : BitVec 32 := Scalar.muli v3546 c8_i32_1272
  let v4275 : BitVec 32 := Scalar.addi c128_i32_1273 v4274
  v4275
def k0_mult269 (i : grid0.Coords) : BitVec 32 :=
  let c256_i32_1276 : BitVec 32 := 256#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1275 : BitVec 32 := 8#32
  let v4281 : BitVec 32 := Scalar.muli v3546 c8_i32_1275
  let v4282 : BitVec 32 := Scalar.addi c256_i32_1276 v4281
  v4282
def k0_mult270 (i : grid0.Coords) : BitVec 32 :=
  let c384_i32_1279 : BitVec 32 := 384#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1278 : BitVec 32 := 8#32
  let v4288 : BitVec 32 := Scalar.muli v3546 c8_i32_1278
  let v4289 : BitVec 32 := Scalar.addi c384_i32_1279 v4288
  v4289
def k0_mult271 (i : grid0.Coords) : BitVec 32 :=
  let c512_i32_1282 : BitVec 32 := 512#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1281 : BitVec 32 := 8#32
  let v4295 : BitVec 32 := Scalar.muli v3546 c8_i32_1281
  let v4296 : BitVec 32 := Scalar.addi c512_i32_1282 v4295
  v4296
def k0_mult272 (i : grid0.Coords) : BitVec 32 :=
  let c640_i32_1285 : BitVec 32 := 640#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1284 : BitVec 32 := 8#32
  let v4302 : BitVec 32 := Scalar.muli v3546 c8_i32_1284
  let v4303 : BitVec 32 := Scalar.addi c640_i32_1285 v4302
  v4303
def k0_mult273 (i : grid0.Coords) : BitVec 32 :=
  let c768_i32_1288 : BitVec 32 := 768#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1287 : BitVec 32 := 8#32
  let v4309 : BitVec 32 := Scalar.muli v3546 c8_i32_1287
  let v4310 : BitVec 32 := Scalar.addi c768_i32_1288 v4309
  v4310
def k0_mult274 (i : grid0.Coords) : BitVec 32 :=
  let c896_i32_1291 : BitVec 32 := 896#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1290 : BitVec 32 := 8#32
  let v4316 : BitVec 32 := Scalar.muli v3546 c8_i32_1290
  let v4317 : BitVec 32 := Scalar.addi c896_i32_1291 v4316
  v4317
def k0_mult275 (i : grid0.Coords) : BitVec 32 :=
  let c1024_i32_1294 : BitVec 32 := 1024#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1293 : BitVec 32 := 8#32
  let v4323 : BitVec 32 := Scalar.muli v3546 c8_i32_1293
  let v4324 : BitVec 32 := Scalar.addi c1024_i32_1294 v4323
  v4324
def k0_mult276 (i : grid0.Coords) : BitVec 32 :=
  let c1152_i32_1297 : BitVec 32 := 1152#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1296 : BitVec 32 := 8#32
  let v4330 : BitVec 32 := Scalar.muli v3546 c8_i32_1296
  let v4331 : BitVec 32 := Scalar.addi c1152_i32_1297 v4330
  v4331
def k0_mult277 (i : grid0.Coords) : BitVec 32 :=
  let c1280_i32_1300 : BitVec 32 := 1280#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1299 : BitVec 32 := 8#32
  let v4337 : BitVec 32 := Scalar.muli v3546 c8_i32_1299
  let v4338 : BitVec 32 := Scalar.addi c1280_i32_1300 v4337
  v4338
def k0_mult278 (i : grid0.Coords) : BitVec 32 :=
  let c1408_i32_1303 : BitVec 32 := 1408#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1302 : BitVec 32 := 8#32
  let v4344 : BitVec 32 := Scalar.muli v3546 c8_i32_1302
  let v4345 : BitVec 32 := Scalar.addi c1408_i32_1303 v4344
  v4345
def k0_mult279 (i : grid0.Coords) : BitVec 32 :=
  let c1536_i32_1306 : BitVec 32 := 1536#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1305 : BitVec 32 := 8#32
  let v4351 : BitVec 32 := Scalar.muli v3546 c8_i32_1305
  let v4352 : BitVec 32 := Scalar.addi c1536_i32_1306 v4351
  v4352
def k0_mult280 (i : grid0.Coords) : BitVec 32 :=
  let c1664_i32_1309 : BitVec 32 := 1664#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1308 : BitVec 32 := 8#32
  let v4358 : BitVec 32 := Scalar.muli v3546 c8_i32_1308
  let v4359 : BitVec 32 := Scalar.addi c1664_i32_1309 v4358
  v4359
def k0_mult281 (i : grid0.Coords) : BitVec 32 :=
  let c1792_i32_1312 : BitVec 32 := 1792#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1311 : BitVec 32 := 8#32
  let v4365 : BitVec 32 := Scalar.muli v3546 c8_i32_1311
  let v4366 : BitVec 32 := Scalar.addi c1792_i32_1312 v4365
  v4366
def k0_mult282 (i : grid0.Coords) : BitVec 32 :=
  let c1920_i32_1315 : BitVec 32 := 1920#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1314 : BitVec 32 := 8#32
  let v4372 : BitVec 32 := Scalar.muli v3546 c8_i32_1314
  let v4373 : BitVec 32 := Scalar.addi c1920_i32_1315 v4372
  v4373
def k0_mult283 (i : grid0.Coords) : BitVec 32 :=
  let c2048_i32_1318 : BitVec 32 := 2048#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1317 : BitVec 32 := 8#32
  let v4379 : BitVec 32 := Scalar.muli v3546 c8_i32_1317
  let v4380 : BitVec 32 := Scalar.addi c2048_i32_1318 v4379
  v4380
def k0_mult284 (i : grid0.Coords) : BitVec 32 :=
  let c2176_i32_1321 : BitVec 32 := 2176#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1320 : BitVec 32 := 8#32
  let v4386 : BitVec 32 := Scalar.muli v3546 c8_i32_1320
  let v4387 : BitVec 32 := Scalar.addi c2176_i32_1321 v4386
  v4387
def k0_mult285 (i : grid0.Coords) : BitVec 32 :=
  let c2304_i32_1324 : BitVec 32 := 2304#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1323 : BitVec 32 := 8#32
  let v4393 : BitVec 32 := Scalar.muli v3546 c8_i32_1323
  let v4394 : BitVec 32 := Scalar.addi c2304_i32_1324 v4393
  v4394
def k0_mult286 (i : grid0.Coords) : BitVec 32 :=
  let c2432_i32_1327 : BitVec 32 := 2432#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1326 : BitVec 32 := 8#32
  let v4400 : BitVec 32 := Scalar.muli v3546 c8_i32_1326
  let v4401 : BitVec 32 := Scalar.addi c2432_i32_1327 v4400
  v4401
def k0_mult287 (i : grid0.Coords) : BitVec 32 :=
  let c2560_i32_1330 : BitVec 32 := 2560#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1329 : BitVec 32 := 8#32
  let v4407 : BitVec 32 := Scalar.muli v3546 c8_i32_1329
  let v4408 : BitVec 32 := Scalar.addi c2560_i32_1330 v4407
  v4408
def k0_mult288 (i : grid0.Coords) : BitVec 32 :=
  let c2688_i32_1333 : BitVec 32 := 2688#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1332 : BitVec 32 := 8#32
  let v4414 : BitVec 32 := Scalar.muli v3546 c8_i32_1332
  let v4415 : BitVec 32 := Scalar.addi c2688_i32_1333 v4414
  v4415
def k0_mult289 (i : grid0.Coords) : BitVec 32 :=
  let c2816_i32_1336 : BitVec 32 := 2816#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1335 : BitVec 32 := 8#32
  let v4421 : BitVec 32 := Scalar.muli v3546 c8_i32_1335
  let v4422 : BitVec 32 := Scalar.addi c2816_i32_1336 v4421
  v4422
def k0_mult290 (i : grid0.Coords) : BitVec 32 :=
  let c2944_i32_1339 : BitVec 32 := 2944#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1338 : BitVec 32 := 8#32
  let v4428 : BitVec 32 := Scalar.muli v3546 c8_i32_1338
  let v4429 : BitVec 32 := Scalar.addi c2944_i32_1339 v4428
  v4429
def k0_mult291 (i : grid0.Coords) : BitVec 32 :=
  let c3072_i32_1342 : BitVec 32 := 3072#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1341 : BitVec 32 := 8#32
  let v4435 : BitVec 32 := Scalar.muli v3546 c8_i32_1341
  let v4436 : BitVec 32 := Scalar.addi c3072_i32_1342 v4435
  v4436
def k0_mult292 (i : grid0.Coords) : BitVec 32 :=
  let c3200_i32_1345 : BitVec 32 := 3200#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1344 : BitVec 32 := 8#32
  let v4442 : BitVec 32 := Scalar.muli v3546 c8_i32_1344
  let v4443 : BitVec 32 := Scalar.addi c3200_i32_1345 v4442
  v4443
def k0_mult293 (i : grid0.Coords) : BitVec 32 :=
  let c3328_i32_1348 : BitVec 32 := 3328#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1347 : BitVec 32 := 8#32
  let v4449 : BitVec 32 := Scalar.muli v3546 c8_i32_1347
  let v4450 : BitVec 32 := Scalar.addi c3328_i32_1348 v4449
  v4450
def k0_mult294 (i : grid0.Coords) : BitVec 32 :=
  let c3456_i32_1351 : BitVec 32 := 3456#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1350 : BitVec 32 := 8#32
  let v4456 : BitVec 32 := Scalar.muli v3546 c8_i32_1350
  let v4457 : BitVec 32 := Scalar.addi c3456_i32_1351 v4456
  v4457
def k0_mult295 (i : grid0.Coords) : BitVec 32 :=
  let c3584_i32_1354 : BitVec 32 := 3584#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1353 : BitVec 32 := 8#32
  let v4463 : BitVec 32 := Scalar.muli v3546 c8_i32_1353
  let v4464 : BitVec 32 := Scalar.addi c3584_i32_1354 v4463
  v4464
def k0_mult296 (i : grid0.Coords) : BitVec 32 :=
  let c3712_i32_1357 : BitVec 32 := 3712#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1356 : BitVec 32 := 8#32
  let v4470 : BitVec 32 := Scalar.muli v3546 c8_i32_1356
  let v4471 : BitVec 32 := Scalar.addi c3712_i32_1357 v4470
  v4471
def k0_mult297 (i : grid0.Coords) : BitVec 32 :=
  let c3840_i32_1360 : BitVec 32 := 3840#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1359 : BitVec 32 := 8#32
  let v4477 : BitVec 32 := Scalar.muli v3546 c8_i32_1359
  let v4478 : BitVec 32 := Scalar.addi c3840_i32_1360 v4477
  v4478
def k0_mult298 (i : grid0.Coords) : BitVec 32 :=
  let c3968_i32_1363 : BitVec 32 := 3968#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1027 : BitVec 32 := 2#32
  let v3545 : BitVec 32 := Scalar.muli v3465 c2_i32_1027
  let c0_i32_1028 : BitVec 32 := 0#32
  let v3546 : BitVec 32 := Scalar.addi v3545 c0_i32_1028
  let c8_i32_1362 : BitVec 32 := 8#32
  let v4484 : BitVec 32 := Scalar.muli v3546 c8_i32_1362
  let v4485 : BitVec 32 := Scalar.addi c3968_i32_1363 v4484
  v4485
def k0_mult299 (i : grid0.Coords) : BitVec 32 :=
  let c0_i32_1608 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1607 : BitVec 32 := 8#32
  let v5245 : BitVec 32 := Scalar.muli v4524 c8_i32_1607
  let v5246 : BitVec 32 := Scalar.addi c0_i32_1608 v5245
  v5246
def k0_mult300 (i : grid0.Coords) : BitVec 32 :=
  let c128_i32_1611 : BitVec 32 := 128#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1610 : BitVec 32 := 8#32
  let v5252 : BitVec 32 := Scalar.muli v4524 c8_i32_1610
  let v5253 : BitVec 32 := Scalar.addi c128_i32_1611 v5252
  v5253
def k0_mult301 (i : grid0.Coords) : BitVec 32 :=
  let c256_i32_1614 : BitVec 32 := 256#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1613 : BitVec 32 := 8#32
  let v5259 : BitVec 32 := Scalar.muli v4524 c8_i32_1613
  let v5260 : BitVec 32 := Scalar.addi c256_i32_1614 v5259
  v5260
def k0_mult302 (i : grid0.Coords) : BitVec 32 :=
  let c384_i32_1617 : BitVec 32 := 384#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1616 : BitVec 32 := 8#32
  let v5266 : BitVec 32 := Scalar.muli v4524 c8_i32_1616
  let v5267 : BitVec 32 := Scalar.addi c384_i32_1617 v5266
  v5267
def k0_mult303 (i : grid0.Coords) : BitVec 32 :=
  let c512_i32_1620 : BitVec 32 := 512#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1619 : BitVec 32 := 8#32
  let v5273 : BitVec 32 := Scalar.muli v4524 c8_i32_1619
  let v5274 : BitVec 32 := Scalar.addi c512_i32_1620 v5273
  v5274
def k0_mult304 (i : grid0.Coords) : BitVec 32 :=
  let c640_i32_1623 : BitVec 32 := 640#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1622 : BitVec 32 := 8#32
  let v5280 : BitVec 32 := Scalar.muli v4524 c8_i32_1622
  let v5281 : BitVec 32 := Scalar.addi c640_i32_1623 v5280
  v5281
def k0_mult305 (i : grid0.Coords) : BitVec 32 :=
  let c768_i32_1626 : BitVec 32 := 768#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1625 : BitVec 32 := 8#32
  let v5287 : BitVec 32 := Scalar.muli v4524 c8_i32_1625
  let v5288 : BitVec 32 := Scalar.addi c768_i32_1626 v5287
  v5288
def k0_mult306 (i : grid0.Coords) : BitVec 32 :=
  let c896_i32_1629 : BitVec 32 := 896#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1628 : BitVec 32 := 8#32
  let v5294 : BitVec 32 := Scalar.muli v4524 c8_i32_1628
  let v5295 : BitVec 32 := Scalar.addi c896_i32_1629 v5294
  v5295
def k0_mult307 (i : grid0.Coords) : BitVec 32 :=
  let c1024_i32_1632 : BitVec 32 := 1024#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1631 : BitVec 32 := 8#32
  let v5301 : BitVec 32 := Scalar.muli v4524 c8_i32_1631
  let v5302 : BitVec 32 := Scalar.addi c1024_i32_1632 v5301
  v5302
def k0_mult308 (i : grid0.Coords) : BitVec 32 :=
  let c1152_i32_1635 : BitVec 32 := 1152#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1634 : BitVec 32 := 8#32
  let v5308 : BitVec 32 := Scalar.muli v4524 c8_i32_1634
  let v5309 : BitVec 32 := Scalar.addi c1152_i32_1635 v5308
  v5309
def k0_mult309 (i : grid0.Coords) : BitVec 32 :=
  let c1280_i32_1638 : BitVec 32 := 1280#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1637 : BitVec 32 := 8#32
  let v5315 : BitVec 32 := Scalar.muli v4524 c8_i32_1637
  let v5316 : BitVec 32 := Scalar.addi c1280_i32_1638 v5315
  v5316
def k0_mult310 (i : grid0.Coords) : BitVec 32 :=
  let c1408_i32_1641 : BitVec 32 := 1408#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1640 : BitVec 32 := 8#32
  let v5322 : BitVec 32 := Scalar.muli v4524 c8_i32_1640
  let v5323 : BitVec 32 := Scalar.addi c1408_i32_1641 v5322
  v5323
def k0_mult311 (i : grid0.Coords) : BitVec 32 :=
  let c1536_i32_1644 : BitVec 32 := 1536#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1643 : BitVec 32 := 8#32
  let v5329 : BitVec 32 := Scalar.muli v4524 c8_i32_1643
  let v5330 : BitVec 32 := Scalar.addi c1536_i32_1644 v5329
  v5330
def k0_mult312 (i : grid0.Coords) : BitVec 32 :=
  let c1664_i32_1647 : BitVec 32 := 1664#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1646 : BitVec 32 := 8#32
  let v5336 : BitVec 32 := Scalar.muli v4524 c8_i32_1646
  let v5337 : BitVec 32 := Scalar.addi c1664_i32_1647 v5336
  v5337
def k0_mult313 (i : grid0.Coords) : BitVec 32 :=
  let c1792_i32_1650 : BitVec 32 := 1792#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1649 : BitVec 32 := 8#32
  let v5343 : BitVec 32 := Scalar.muli v4524 c8_i32_1649
  let v5344 : BitVec 32 := Scalar.addi c1792_i32_1650 v5343
  v5344
def k0_mult314 (i : grid0.Coords) : BitVec 32 :=
  let c1920_i32_1653 : BitVec 32 := 1920#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1652 : BitVec 32 := 8#32
  let v5350 : BitVec 32 := Scalar.muli v4524 c8_i32_1652
  let v5351 : BitVec 32 := Scalar.addi c1920_i32_1653 v5350
  v5351
def k0_mult315 (i : grid0.Coords) : BitVec 32 :=
  let c2048_i32_1656 : BitVec 32 := 2048#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1655 : BitVec 32 := 8#32
  let v5357 : BitVec 32 := Scalar.muli v4524 c8_i32_1655
  let v5358 : BitVec 32 := Scalar.addi c2048_i32_1656 v5357
  v5358
def k0_mult316 (i : grid0.Coords) : BitVec 32 :=
  let c2176_i32_1659 : BitVec 32 := 2176#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1658 : BitVec 32 := 8#32
  let v5364 : BitVec 32 := Scalar.muli v4524 c8_i32_1658
  let v5365 : BitVec 32 := Scalar.addi c2176_i32_1659 v5364
  v5365
def k0_mult317 (i : grid0.Coords) : BitVec 32 :=
  let c2304_i32_1662 : BitVec 32 := 2304#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1661 : BitVec 32 := 8#32
  let v5371 : BitVec 32 := Scalar.muli v4524 c8_i32_1661
  let v5372 : BitVec 32 := Scalar.addi c2304_i32_1662 v5371
  v5372
def k0_mult318 (i : grid0.Coords) : BitVec 32 :=
  let c2432_i32_1665 : BitVec 32 := 2432#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1664 : BitVec 32 := 8#32
  let v5378 : BitVec 32 := Scalar.muli v4524 c8_i32_1664
  let v5379 : BitVec 32 := Scalar.addi c2432_i32_1665 v5378
  v5379
def k0_mult319 (i : grid0.Coords) : BitVec 32 :=
  let c2560_i32_1668 : BitVec 32 := 2560#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1667 : BitVec 32 := 8#32
  let v5385 : BitVec 32 := Scalar.muli v4524 c8_i32_1667
  let v5386 : BitVec 32 := Scalar.addi c2560_i32_1668 v5385
  v5386
def k0_mult320 (i : grid0.Coords) : BitVec 32 :=
  let c2688_i32_1671 : BitVec 32 := 2688#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1670 : BitVec 32 := 8#32
  let v5392 : BitVec 32 := Scalar.muli v4524 c8_i32_1670
  let v5393 : BitVec 32 := Scalar.addi c2688_i32_1671 v5392
  v5393
def k0_mult321 (i : grid0.Coords) : BitVec 32 :=
  let c2816_i32_1674 : BitVec 32 := 2816#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1673 : BitVec 32 := 8#32
  let v5399 : BitVec 32 := Scalar.muli v4524 c8_i32_1673
  let v5400 : BitVec 32 := Scalar.addi c2816_i32_1674 v5399
  v5400
def k0_mult322 (i : grid0.Coords) : BitVec 32 :=
  let c2944_i32_1677 : BitVec 32 := 2944#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1676 : BitVec 32 := 8#32
  let v5406 : BitVec 32 := Scalar.muli v4524 c8_i32_1676
  let v5407 : BitVec 32 := Scalar.addi c2944_i32_1677 v5406
  v5407
def k0_mult323 (i : grid0.Coords) : BitVec 32 :=
  let c3072_i32_1680 : BitVec 32 := 3072#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1679 : BitVec 32 := 8#32
  let v5413 : BitVec 32 := Scalar.muli v4524 c8_i32_1679
  let v5414 : BitVec 32 := Scalar.addi c3072_i32_1680 v5413
  v5414
def k0_mult324 (i : grid0.Coords) : BitVec 32 :=
  let c3200_i32_1683 : BitVec 32 := 3200#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1682 : BitVec 32 := 8#32
  let v5420 : BitVec 32 := Scalar.muli v4524 c8_i32_1682
  let v5421 : BitVec 32 := Scalar.addi c3200_i32_1683 v5420
  v5421
def k0_mult325 (i : grid0.Coords) : BitVec 32 :=
  let c3328_i32_1686 : BitVec 32 := 3328#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1685 : BitVec 32 := 8#32
  let v5427 : BitVec 32 := Scalar.muli v4524 c8_i32_1685
  let v5428 : BitVec 32 := Scalar.addi c3328_i32_1686 v5427
  v5428
def k0_mult326 (i : grid0.Coords) : BitVec 32 :=
  let c3456_i32_1689 : BitVec 32 := 3456#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1688 : BitVec 32 := 8#32
  let v5434 : BitVec 32 := Scalar.muli v4524 c8_i32_1688
  let v5435 : BitVec 32 := Scalar.addi c3456_i32_1689 v5434
  v5435
def k0_mult327 (i : grid0.Coords) : BitVec 32 :=
  let c3584_i32_1692 : BitVec 32 := 3584#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1691 : BitVec 32 := 8#32
  let v5441 : BitVec 32 := Scalar.muli v4524 c8_i32_1691
  let v5442 : BitVec 32 := Scalar.addi c3584_i32_1692 v5441
  v5442
def k0_mult328 (i : grid0.Coords) : BitVec 32 :=
  let c3712_i32_1695 : BitVec 32 := 3712#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1694 : BitVec 32 := 8#32
  let v5448 : BitVec 32 := Scalar.muli v4524 c8_i32_1694
  let v5449 : BitVec 32 := Scalar.addi c3712_i32_1695 v5448
  v5449
def k0_mult329 (i : grid0.Coords) : BitVec 32 :=
  let c3840_i32_1698 : BitVec 32 := 3840#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1697 : BitVec 32 := 8#32
  let v5455 : BitVec 32 := Scalar.muli v4524 c8_i32_1697
  let v5456 : BitVec 32 := Scalar.addi c3840_i32_1698 v5455
  v5456
def k0_mult330 (i : grid0.Coords) : BitVec 32 :=
  let c3968_i32_1701 : BitVec 32 := 3968#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_1012 : BitVec 32 := 2#32
  let v3465 : BitVec 32 := Scalar.subi v17 c2_i32_1012
  let c2_i32_1365 : BitVec 32 := 2#32
  let v4523 : BitVec 32 := Scalar.muli v3465 c2_i32_1365
  let c1_i32_1366 : BitVec 32 := 1#32
  let v4524 : BitVec 32 := Scalar.addi v4523 c1_i32_1366
  let c8_i32_1700 : BitVec 32 := 8#32
  let v5462 : BitVec 32 := Scalar.muli v4524 c8_i32_1700
  let v5463 : BitVec 32 := Scalar.addi c3968_i32_1701 v5462
  v5463
def k0_mult331 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c512_i32 : BitVec 32 := 512#32
  let v63 : BitVec 32 := Scalar.muli v62 c512_i32
  v63
def k0_off16 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c512_i32 : BitVec 32 := 512#32
  let v63 : BitVec 32 := Scalar.muli v62 c512_i32
  let v64 : BitVec 32 := v63
  let v65 : Index := Scalar.indexCast v64
  let c0_30 : Index := 0#32
  ![v65.toNat, 0]
def k0_mult332 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c512_i32_40 : BitVec 32 := 512#32
  let v104 : BitVec 32 := Scalar.muli v62 c512_i32_40
  v104
def k0_off17 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c512_i32_40 : BitVec 32 := 512#32
  let v104 : BitVec 32 := Scalar.muli v62 c512_i32_40
  let v105 : BitVec 32 := v104
  let v106 : Index := Scalar.indexCast v105
  let c0_41 : Index := 0#32
  ![v106.toNat, 0]
def k0_mult333 (i : grid0.Coords) : BitVec 32 :=
  let c0_i32_278 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_277 : BitVec 32 := 8#32
  let v870 : BitVec 32 := Scalar.muli v149 c8_i32_277
  let v871 : BitVec 32 := Scalar.addi c0_i32_278 v870
  v871
def k0_off18 (i : grid0.Coords) (c0_i32_278 : BitVec 32) (c0_i32_43 : BitVec 32) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let v149 : BitVec 32 := Scalar.addi v148 c0_i32_43
  let c8_i32_277 : BitVec 32 := 8#32
  let v870 : BitVec 32 := Scalar.muli v149 c8_i32_277
  let v871 : BitVec 32 := Scalar.addi c0_i32_278 v870
  let v872 : BitVec 32 := v871
  let v873 : Index := Scalar.indexCast v872
  let c0_279 : Index := 0#32
  ![v873.toNat, 0]
def k0_mult334 (i : grid0.Coords) : BitVec 32 :=
  let c128_i32_281 : BitVec 32 := 128#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_280 : BitVec 32 := 8#32
  let v877 : BitVec 32 := Scalar.muli v149 c8_i32_280
  let v878 : BitVec 32 := Scalar.addi c128_i32_281 v877
  v878
def k0_mult335 (i : grid0.Coords) : BitVec 32 :=
  let c256_i32 : BitVec 32 := 256#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_283 : BitVec 32 := 8#32
  let v884 : BitVec 32 := Scalar.muli v149 c8_i32_283
  let v885 : BitVec 32 := Scalar.addi c256_i32 v884
  v885
def k0_mult336 (i : grid0.Coords) : BitVec 32 :=
  let c384_i32 : BitVec 32 := 384#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_285 : BitVec 32 := 8#32
  let v891 : BitVec 32 := Scalar.muli v149 c8_i32_285
  let v892 : BitVec 32 := Scalar.addi c384_i32 v891
  v892
def k0_mult337 (i : grid0.Coords) : BitVec 32 :=
  let c512_i32_288 : BitVec 32 := 512#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_287 : BitVec 32 := 8#32
  let v898 : BitVec 32 := Scalar.muli v149 c8_i32_287
  let v899 : BitVec 32 := Scalar.addi c512_i32_288 v898
  v899
def k0_mult338 (i : grid0.Coords) : BitVec 32 :=
  let c640_i32 : BitVec 32 := 640#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_290 : BitVec 32 := 8#32
  let v905 : BitVec 32 := Scalar.muli v149 c8_i32_290
  let v906 : BitVec 32 := Scalar.addi c640_i32 v905
  v906
def k0_mult339 (i : grid0.Coords) : BitVec 32 :=
  let c768_i32 : BitVec 32 := 768#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_292 : BitVec 32 := 8#32
  let v912 : BitVec 32 := Scalar.muli v149 c8_i32_292
  let v913 : BitVec 32 := Scalar.addi c768_i32 v912
  v913
def k0_mult340 (i : grid0.Coords) : BitVec 32 :=
  let c896_i32 : BitVec 32 := 896#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_294 : BitVec 32 := 8#32
  let v919 : BitVec 32 := Scalar.muli v149 c8_i32_294
  let v920 : BitVec 32 := Scalar.addi c896_i32 v919
  v920
def k0_mult341 (i : grid0.Coords) : BitVec 32 :=
  let c1024_i32 : BitVec 32 := 1024#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_296 : BitVec 32 := 8#32
  let v926 : BitVec 32 := Scalar.muli v149 c8_i32_296
  let v927 : BitVec 32 := Scalar.addi c1024_i32 v926
  v927
def k0_mult342 (i : grid0.Coords) : BitVec 32 :=
  let c1152_i32 : BitVec 32 := 1152#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_298 : BitVec 32 := 8#32
  let v933 : BitVec 32 := Scalar.muli v149 c8_i32_298
  let v934 : BitVec 32 := Scalar.addi c1152_i32 v933
  v934
def k0_mult343 (i : grid0.Coords) : BitVec 32 :=
  let c1280_i32 : BitVec 32 := 1280#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_300 : BitVec 32 := 8#32
  let v940 : BitVec 32 := Scalar.muli v149 c8_i32_300
  let v941 : BitVec 32 := Scalar.addi c1280_i32 v940
  v941
def k0_mult344 (i : grid0.Coords) : BitVec 32 :=
  let c1408_i32 : BitVec 32 := 1408#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_302 : BitVec 32 := 8#32
  let v947 : BitVec 32 := Scalar.muli v149 c8_i32_302
  let v948 : BitVec 32 := Scalar.addi c1408_i32 v947
  v948
def k0_mult345 (i : grid0.Coords) : BitVec 32 :=
  let c1536_i32 : BitVec 32 := 1536#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_304 : BitVec 32 := 8#32
  let v954 : BitVec 32 := Scalar.muli v149 c8_i32_304
  let v955 : BitVec 32 := Scalar.addi c1536_i32 v954
  v955
def k0_mult346 (i : grid0.Coords) : BitVec 32 :=
  let c1664_i32 : BitVec 32 := 1664#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_306 : BitVec 32 := 8#32
  let v961 : BitVec 32 := Scalar.muli v149 c8_i32_306
  let v962 : BitVec 32 := Scalar.addi c1664_i32 v961
  v962
def k0_mult347 (i : grid0.Coords) : BitVec 32 :=
  let c1792_i32 : BitVec 32 := 1792#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_308 : BitVec 32 := 8#32
  let v968 : BitVec 32 := Scalar.muli v149 c8_i32_308
  let v969 : BitVec 32 := Scalar.addi c1792_i32 v968
  v969
def k0_mult348 (i : grid0.Coords) : BitVec 32 :=
  let c1920_i32 : BitVec 32 := 1920#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_310 : BitVec 32 := 8#32
  let v975 : BitVec 32 := Scalar.muli v149 c8_i32_310
  let v976 : BitVec 32 := Scalar.addi c1920_i32 v975
  v976
def k0_mult349 (i : grid0.Coords) : BitVec 32 :=
  let c2048_i32 : BitVec 32 := 2048#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_312 : BitVec 32 := 8#32
  let v982 : BitVec 32 := Scalar.muli v149 c8_i32_312
  let v983 : BitVec 32 := Scalar.addi c2048_i32 v982
  v983
def k0_mult350 (i : grid0.Coords) : BitVec 32 :=
  let c2176_i32 : BitVec 32 := 2176#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_314 : BitVec 32 := 8#32
  let v989 : BitVec 32 := Scalar.muli v149 c8_i32_314
  let v990 : BitVec 32 := Scalar.addi c2176_i32 v989
  v990
def k0_mult351 (i : grid0.Coords) : BitVec 32 :=
  let c2304_i32 : BitVec 32 := 2304#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_316 : BitVec 32 := 8#32
  let v996 : BitVec 32 := Scalar.muli v149 c8_i32_316
  let v997 : BitVec 32 := Scalar.addi c2304_i32 v996
  v997
def k0_mult352 (i : grid0.Coords) : BitVec 32 :=
  let c2432_i32 : BitVec 32 := 2432#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_318 : BitVec 32 := 8#32
  let v1003 : BitVec 32 := Scalar.muli v149 c8_i32_318
  let v1004 : BitVec 32 := Scalar.addi c2432_i32 v1003
  v1004
def k0_mult353 (i : grid0.Coords) : BitVec 32 :=
  let c2560_i32 : BitVec 32 := 2560#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_320 : BitVec 32 := 8#32
  let v1010 : BitVec 32 := Scalar.muli v149 c8_i32_320
  let v1011 : BitVec 32 := Scalar.addi c2560_i32 v1010
  v1011
def k0_mult354 (i : grid0.Coords) : BitVec 32 :=
  let c2688_i32 : BitVec 32 := 2688#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_322 : BitVec 32 := 8#32
  let v1017 : BitVec 32 := Scalar.muli v149 c8_i32_322
  let v1018 : BitVec 32 := Scalar.addi c2688_i32 v1017
  v1018
def k0_mult355 (i : grid0.Coords) : BitVec 32 :=
  let c2816_i32 : BitVec 32 := 2816#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_324 : BitVec 32 := 8#32
  let v1024 : BitVec 32 := Scalar.muli v149 c8_i32_324
  let v1025 : BitVec 32 := Scalar.addi c2816_i32 v1024
  v1025
def k0_mult356 (i : grid0.Coords) : BitVec 32 :=
  let c2944_i32 : BitVec 32 := 2944#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_326 : BitVec 32 := 8#32
  let v1031 : BitVec 32 := Scalar.muli v149 c8_i32_326
  let v1032 : BitVec 32 := Scalar.addi c2944_i32 v1031
  v1032
def k0_mult357 (i : grid0.Coords) : BitVec 32 :=
  let c3072_i32 : BitVec 32 := 3072#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_328 : BitVec 32 := 8#32
  let v1038 : BitVec 32 := Scalar.muli v149 c8_i32_328
  let v1039 : BitVec 32 := Scalar.addi c3072_i32 v1038
  v1039
def k0_mult358 (i : grid0.Coords) : BitVec 32 :=
  let c3200_i32 : BitVec 32 := 3200#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_330 : BitVec 32 := 8#32
  let v1045 : BitVec 32 := Scalar.muli v149 c8_i32_330
  let v1046 : BitVec 32 := Scalar.addi c3200_i32 v1045
  v1046
def k0_mult359 (i : grid0.Coords) : BitVec 32 :=
  let c3328_i32 : BitVec 32 := 3328#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_332 : BitVec 32 := 8#32
  let v1052 : BitVec 32 := Scalar.muli v149 c8_i32_332
  let v1053 : BitVec 32 := Scalar.addi c3328_i32 v1052
  v1053
def k0_mult360 (i : grid0.Coords) : BitVec 32 :=
  let c3456_i32 : BitVec 32 := 3456#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_334 : BitVec 32 := 8#32
  let v1059 : BitVec 32 := Scalar.muli v149 c8_i32_334
  let v1060 : BitVec 32 := Scalar.addi c3456_i32 v1059
  v1060
def k0_mult361 (i : grid0.Coords) : BitVec 32 :=
  let c3584_i32 : BitVec 32 := 3584#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_336 : BitVec 32 := 8#32
  let v1066 : BitVec 32 := Scalar.muli v149 c8_i32_336
  let v1067 : BitVec 32 := Scalar.addi c3584_i32 v1066
  v1067
def k0_mult362 (i : grid0.Coords) : BitVec 32 :=
  let c3712_i32 : BitVec 32 := 3712#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_338 : BitVec 32 := 8#32
  let v1073 : BitVec 32 := Scalar.muli v149 c8_i32_338
  let v1074 : BitVec 32 := Scalar.addi c3712_i32 v1073
  v1074
def k0_mult363 (i : grid0.Coords) : BitVec 32 :=
  let c3840_i32 : BitVec 32 := 3840#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_340 : BitVec 32 := 8#32
  let v1080 : BitVec 32 := Scalar.muli v149 c8_i32_340
  let v1081 : BitVec 32 := Scalar.addi c3840_i32 v1080
  v1081
def k0_mult364 (i : grid0.Coords) : BitVec 32 :=
  let c3968_i32 : BitVec 32 := 3968#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_42 : BitVec 32 := 2#32
  let v148 : BitVec 32 := Scalar.muli v62 c2_i32_42
  let c0_i32_43 : BitVec 32 := 0#32
  let v149 : BitVec 32 := Scalar.addi v148 c0_i32_43
  let c8_i32_342 : BitVec 32 := 8#32
  let v1087 : BitVec 32 := Scalar.muli v149 c8_i32_342
  let v1088 : BitVec 32 := Scalar.addi c3968_i32 v1087
  v1088
def k0_mult365 (i : grid0.Coords) : BitVec 32 :=
  let c0_i32_587 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_586 : BitVec 32 := 8#32
  let v1848 : BitVec 32 := Scalar.muli v1127 c8_i32_586
  let v1849 : BitVec 32 := Scalar.addi c0_i32_587 v1848
  v1849
def k0_mult366 (i : grid0.Coords) : BitVec 32 :=
  let c128_i32_590 : BitVec 32 := 128#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_589 : BitVec 32 := 8#32
  let v1855 : BitVec 32 := Scalar.muli v1127 c8_i32_589
  let v1856 : BitVec 32 := Scalar.addi c128_i32_590 v1855
  v1856
def k0_mult367 (i : grid0.Coords) : BitVec 32 :=
  let c256_i32_593 : BitVec 32 := 256#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_592 : BitVec 32 := 8#32
  let v1862 : BitVec 32 := Scalar.muli v1127 c8_i32_592
  let v1863 : BitVec 32 := Scalar.addi c256_i32_593 v1862
  v1863
def k0_mult368 (i : grid0.Coords) : BitVec 32 :=
  let c384_i32_596 : BitVec 32 := 384#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_595 : BitVec 32 := 8#32
  let v1869 : BitVec 32 := Scalar.muli v1127 c8_i32_595
  let v1870 : BitVec 32 := Scalar.addi c384_i32_596 v1869
  v1870
def k0_mult369 (i : grid0.Coords) : BitVec 32 :=
  let c512_i32_599 : BitVec 32 := 512#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_598 : BitVec 32 := 8#32
  let v1876 : BitVec 32 := Scalar.muli v1127 c8_i32_598
  let v1877 : BitVec 32 := Scalar.addi c512_i32_599 v1876
  v1877
def k0_mult370 (i : grid0.Coords) : BitVec 32 :=
  let c640_i32_602 : BitVec 32 := 640#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_601 : BitVec 32 := 8#32
  let v1883 : BitVec 32 := Scalar.muli v1127 c8_i32_601
  let v1884 : BitVec 32 := Scalar.addi c640_i32_602 v1883
  v1884
def k0_mult371 (i : grid0.Coords) : BitVec 32 :=
  let c768_i32_605 : BitVec 32 := 768#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_604 : BitVec 32 := 8#32
  let v1890 : BitVec 32 := Scalar.muli v1127 c8_i32_604
  let v1891 : BitVec 32 := Scalar.addi c768_i32_605 v1890
  v1891
def k0_mult372 (i : grid0.Coords) : BitVec 32 :=
  let c896_i32_608 : BitVec 32 := 896#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_607 : BitVec 32 := 8#32
  let v1897 : BitVec 32 := Scalar.muli v1127 c8_i32_607
  let v1898 : BitVec 32 := Scalar.addi c896_i32_608 v1897
  v1898
def k0_mult373 (i : grid0.Coords) : BitVec 32 :=
  let c1024_i32_611 : BitVec 32 := 1024#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_610 : BitVec 32 := 8#32
  let v1904 : BitVec 32 := Scalar.muli v1127 c8_i32_610
  let v1905 : BitVec 32 := Scalar.addi c1024_i32_611 v1904
  v1905
def k0_mult374 (i : grid0.Coords) : BitVec 32 :=
  let c1152_i32_614 : BitVec 32 := 1152#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_613 : BitVec 32 := 8#32
  let v1911 : BitVec 32 := Scalar.muli v1127 c8_i32_613
  let v1912 : BitVec 32 := Scalar.addi c1152_i32_614 v1911
  v1912
def k0_mult375 (i : grid0.Coords) : BitVec 32 :=
  let c1280_i32_617 : BitVec 32 := 1280#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_616 : BitVec 32 := 8#32
  let v1918 : BitVec 32 := Scalar.muli v1127 c8_i32_616
  let v1919 : BitVec 32 := Scalar.addi c1280_i32_617 v1918
  v1919
def k0_mult376 (i : grid0.Coords) : BitVec 32 :=
  let c1408_i32_620 : BitVec 32 := 1408#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_619 : BitVec 32 := 8#32
  let v1925 : BitVec 32 := Scalar.muli v1127 c8_i32_619
  let v1926 : BitVec 32 := Scalar.addi c1408_i32_620 v1925
  v1926
def k0_mult377 (i : grid0.Coords) : BitVec 32 :=
  let c1536_i32_623 : BitVec 32 := 1536#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_622 : BitVec 32 := 8#32
  let v1932 : BitVec 32 := Scalar.muli v1127 c8_i32_622
  let v1933 : BitVec 32 := Scalar.addi c1536_i32_623 v1932
  v1933
def k0_mult378 (i : grid0.Coords) : BitVec 32 :=
  let c1664_i32_626 : BitVec 32 := 1664#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_625 : BitVec 32 := 8#32
  let v1939 : BitVec 32 := Scalar.muli v1127 c8_i32_625
  let v1940 : BitVec 32 := Scalar.addi c1664_i32_626 v1939
  v1940
def k0_mult379 (i : grid0.Coords) : BitVec 32 :=
  let c1792_i32_629 : BitVec 32 := 1792#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_628 : BitVec 32 := 8#32
  let v1946 : BitVec 32 := Scalar.muli v1127 c8_i32_628
  let v1947 : BitVec 32 := Scalar.addi c1792_i32_629 v1946
  v1947
def k0_mult380 (i : grid0.Coords) : BitVec 32 :=
  let c1920_i32_632 : BitVec 32 := 1920#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_631 : BitVec 32 := 8#32
  let v1953 : BitVec 32 := Scalar.muli v1127 c8_i32_631
  let v1954 : BitVec 32 := Scalar.addi c1920_i32_632 v1953
  v1954
def k0_mult381 (i : grid0.Coords) : BitVec 32 :=
  let c2048_i32_635 : BitVec 32 := 2048#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_634 : BitVec 32 := 8#32
  let v1960 : BitVec 32 := Scalar.muli v1127 c8_i32_634
  let v1961 : BitVec 32 := Scalar.addi c2048_i32_635 v1960
  v1961
def k0_mult382 (i : grid0.Coords) : BitVec 32 :=
  let c2176_i32_638 : BitVec 32 := 2176#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_637 : BitVec 32 := 8#32
  let v1967 : BitVec 32 := Scalar.muli v1127 c8_i32_637
  let v1968 : BitVec 32 := Scalar.addi c2176_i32_638 v1967
  v1968
def k0_mult383 (i : grid0.Coords) : BitVec 32 :=
  let c2304_i32_641 : BitVec 32 := 2304#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_640 : BitVec 32 := 8#32
  let v1974 : BitVec 32 := Scalar.muli v1127 c8_i32_640
  let v1975 : BitVec 32 := Scalar.addi c2304_i32_641 v1974
  v1975
def k0_mult384 (i : grid0.Coords) : BitVec 32 :=
  let c2432_i32_644 : BitVec 32 := 2432#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_643 : BitVec 32 := 8#32
  let v1981 : BitVec 32 := Scalar.muli v1127 c8_i32_643
  let v1982 : BitVec 32 := Scalar.addi c2432_i32_644 v1981
  v1982
def k0_mult385 (i : grid0.Coords) : BitVec 32 :=
  let c2560_i32_647 : BitVec 32 := 2560#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_646 : BitVec 32 := 8#32
  let v1988 : BitVec 32 := Scalar.muli v1127 c8_i32_646
  let v1989 : BitVec 32 := Scalar.addi c2560_i32_647 v1988
  v1989
def k0_mult386 (i : grid0.Coords) : BitVec 32 :=
  let c2688_i32_650 : BitVec 32 := 2688#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_649 : BitVec 32 := 8#32
  let v1995 : BitVec 32 := Scalar.muli v1127 c8_i32_649
  let v1996 : BitVec 32 := Scalar.addi c2688_i32_650 v1995
  v1996
def k0_mult387 (i : grid0.Coords) : BitVec 32 :=
  let c2816_i32_653 : BitVec 32 := 2816#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_652 : BitVec 32 := 8#32
  let v2002 : BitVec 32 := Scalar.muli v1127 c8_i32_652
  let v2003 : BitVec 32 := Scalar.addi c2816_i32_653 v2002
  v2003
def k0_mult388 (i : grid0.Coords) : BitVec 32 :=
  let c2944_i32_656 : BitVec 32 := 2944#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_655 : BitVec 32 := 8#32
  let v2009 : BitVec 32 := Scalar.muli v1127 c8_i32_655
  let v2010 : BitVec 32 := Scalar.addi c2944_i32_656 v2009
  v2010
def k0_mult389 (i : grid0.Coords) : BitVec 32 :=
  let c3072_i32_659 : BitVec 32 := 3072#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_658 : BitVec 32 := 8#32
  let v2016 : BitVec 32 := Scalar.muli v1127 c8_i32_658
  let v2017 : BitVec 32 := Scalar.addi c3072_i32_659 v2016
  v2017
def k0_mult390 (i : grid0.Coords) : BitVec 32 :=
  let c3200_i32_662 : BitVec 32 := 3200#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_661 : BitVec 32 := 8#32
  let v2023 : BitVec 32 := Scalar.muli v1127 c8_i32_661
  let v2024 : BitVec 32 := Scalar.addi c3200_i32_662 v2023
  v2024
def k0_mult391 (i : grid0.Coords) : BitVec 32 :=
  let c3328_i32_665 : BitVec 32 := 3328#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_664 : BitVec 32 := 8#32
  let v2030 : BitVec 32 := Scalar.muli v1127 c8_i32_664
  let v2031 : BitVec 32 := Scalar.addi c3328_i32_665 v2030
  v2031
def k0_mult392 (i : grid0.Coords) : BitVec 32 :=
  let c3456_i32_668 : BitVec 32 := 3456#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_667 : BitVec 32 := 8#32
  let v2037 : BitVec 32 := Scalar.muli v1127 c8_i32_667
  let v2038 : BitVec 32 := Scalar.addi c3456_i32_668 v2037
  v2038
def k0_mult393 (i : grid0.Coords) : BitVec 32 :=
  let c3584_i32_671 : BitVec 32 := 3584#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_670 : BitVec 32 := 8#32
  let v2044 : BitVec 32 := Scalar.muli v1127 c8_i32_670
  let v2045 : BitVec 32 := Scalar.addi c3584_i32_671 v2044
  v2045
def k0_mult394 (i : grid0.Coords) : BitVec 32 :=
  let c3712_i32_674 : BitVec 32 := 3712#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_673 : BitVec 32 := 8#32
  let v2051 : BitVec 32 := Scalar.muli v1127 c8_i32_673
  let v2052 : BitVec 32 := Scalar.addi c3712_i32_674 v2051
  v2052
def k0_mult395 (i : grid0.Coords) : BitVec 32 :=
  let c3840_i32_677 : BitVec 32 := 3840#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_676 : BitVec 32 := 8#32
  let v2058 : BitVec 32 := Scalar.muli v1127 c8_i32_676
  let v2059 : BitVec 32 := Scalar.addi c3840_i32_677 v2058
  v2059
def k0_mult396 (i : grid0.Coords) : BitVec 32 :=
  let c3968_i32_680 : BitVec 32 := 3968#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_29 : BitVec 32 := 1#32
  let v62 : BitVec 32 := Scalar.subi v17 c1_i32_29
  let c2_i32_344 : BitVec 32 := 2#32
  let v1126 : BitVec 32 := Scalar.muli v62 c2_i32_344
  let c1_i32_345 : BitVec 32 := 1#32
  let v1127 : BitVec 32 := Scalar.addi v1126 c1_i32_345
  let c8_i32_679 : BitVec 32 := 8#32
  let v2065 : BitVec 32 := Scalar.muli v1127 c8_i32_679
  let v2066 : BitVec 32 := Scalar.addi c3968_i32_680 v2065
  v2066
@[reducible] def k0_t3_loop : Scf.Loop 32 :=
  let c0_i32_693 : BitVec 32 := 0#32
  let c32_i32 : BitVec 32 := 32#32
  let v2105 : BitVec 32 := Scalar.addi c0_i32_693 c32_i32
  let c1_i32_694 : BitVec 32 := 1#32
  ⟨c0_i32_693, v2105, c1_i32_694⟩
def k0_mult397 (k0_t3 : Fin k0_t3_loop.trips) : BitVec 32 :=
  let c0_i32_693 : BitVec 32 := 0#32
  let c1_i32_694 : BitVec 32 := 1#32
  let arg27 : BitVec 32 := Scf.iv c0_i32_693 c1_i32_694 k0_t3
  let c128_i32_1012 : BitVec 32 := 128#32
  let v3465 : BitVec 32 := Scalar.muli arg27 c128_i32_1012
  v3465
def k0_off19 (k0_t3 : Fin k0_t3_loop.trips) : Fin 2 → Nat :=
  let c0_i32_693 : BitVec 32 := 0#32
  let c1_i32_694 : BitVec 32 := 1#32
  let arg27 : BitVec 32 := Scf.iv c0_i32_693 c1_i32_694 k0_t3
  let c128_i32_1012 : BitVec 32 := 128#32
  let v3465 : BitVec 32 := Scalar.muli arg27 c128_i32_1012
  let v3466 : BitVec 32 := v3465
  let v3467 : Index := Scalar.indexCast v3466
  let c0_1013 : Index := 0#32
  ![v3467.toNat, 0]
@[reducible] def k0_t4_loop (i : grid0.Coords) : Scf.Loop 32 :=
  let c0_i32_700 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2114 : BitVec 32 := Scalar.subi v17 c0_i32_700
  let c1_i32_701 : BitVec 32 := 1#32
  let v2116 : BitVec 32 := Scalar.divsi v2114 c1_i32_701
  let v2117 : BitVec 32 := Scalar.muli v2116 c1_i32_701
  let v2118 : BitVec 32 := Scalar.addi c0_i32_700 v2117
  let c1_i32_702 : BitVec 32 := 1#32
  ⟨c0_i32_700, v2118, c1_i32_702⟩
def k0_mult398 (i : grid0.Coords) (k0_t4 : Fin (k0_t4_loop i).trips) : BitVec 32 :=
  let c0_i32_700 : BitVec 32 := 0#32
  let c1_i32_702 : BitVec 32 := 1#32
  let arg27 : BitVec 32 := Scf.iv c0_i32_700 c1_i32_702 k0_t4
  let c512_i32_1012 : BitVec 32 := 512#32
  let v3465 : BitVec 32 := Scalar.muli arg27 c512_i32_1012
  v3465
def k0_off20 (i : grid0.Coords) (k0_t4 : Fin (k0_t4_loop i).trips) : Fin 2 → Nat :=
  let c0_i32_700 : BitVec 32 := 0#32
  let c1_i32_702 : BitVec 32 := 1#32
  let arg27 : BitVec 32 := Scf.iv c0_i32_700 c1_i32_702 k0_t4
  let c512_i32_1012 : BitVec 32 := 512#32
  let v3465 : BitVec 32 := Scalar.muli arg27 c512_i32_1012
  let v3466 : BitVec 32 := v3465
  let v3467 : Index := Scalar.indexCast v3466
  let c0_1013 : Index := 0#32
  ![v3467.toNat, 0]
def k0_mult399 (i : grid0.Coords) (k0_t4 : Fin (k0_t4_loop i).trips) : BitVec 32 :=
  let c0_i32_700 : BitVec 32 := 0#32
  let c1_i32_702 : BitVec 32 := 1#32
  let arg27 : BitVec 32 := Scf.iv c0_i32_700 c1_i32_702 k0_t4
  let c2_i32_1014 : BitVec 32 := 2#32
  let v3501 : BitVec 32 := Scalar.muli arg27 c2_i32_1014
  let c0_i32_1015 : BitVec 32 := 0#32
  let v3502 : BitVec 32 := Scalar.addi v3501 c0_i32_1015
  let c8_i32_1016 : BitVec 32 := 8#32
  let v3503 : BitVec 32 := Scalar.muli v3502 c8_i32_1016
  v3503
def k0_off21 (i : grid0.Coords) (k0_t4 : Fin (k0_t4_loop i).trips) (c0_i32_1015 : BitVec 32) : Fin 2 → Nat :=
  let c0_i32_700 : BitVec 32 := 0#32
  let c1_i32_702 : BitVec 32 := 1#32
  let arg27 : BitVec 32 := Scf.iv c0_i32_700 c1_i32_702 k0_t4
  let c2_i32_1014 : BitVec 32 := 2#32
  let v3501 : BitVec 32 := Scalar.muli arg27 c2_i32_1014
  let v3502 : BitVec 32 := Scalar.addi v3501 c0_i32_1015
  let c8_i32_1016 : BitVec 32 := 8#32
  let v3503 : BitVec 32 := Scalar.muli v3502 c8_i32_1016
  let v3504 : BitVec 32 := v3503
  let v3729 : Index := Scalar.indexCast v3504
  let c0_1062 : Index := 0#32
  ![v3729.toNat, 0]
def k0_mult400 (i : grid0.Coords) (k0_t4 : Fin (k0_t4_loop i).trips) : BitVec 32 :=
  let c0_i32_700 : BitVec 32 := 0#32
  let c1_i32_702 : BitVec 32 := 1#32
  let arg27 : BitVec 32 := Scf.iv c0_i32_700 c1_i32_702 k0_t4
  let c2_i32_1128 : BitVec 32 := 2#32
  let v3993 : BitVec 32 := Scalar.muli arg27 c2_i32_1128
  let c1_i32_1129 : BitVec 32 := 1#32
  let v3994 : BitVec 32 := Scalar.addi v3993 c1_i32_1129
  let c8_i32_1130 : BitVec 32 := 8#32
  let v3995 : BitVec 32 := Scalar.muli v3994 c8_i32_1130
  v3995
@[reducible] def k0_t5_loop (i : grid0.Coords) : Scf.Loop 32 :=
  let c0_i32_700 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2114 : BitVec 32 := Scalar.subi v17 c0_i32_700
  let c1_i32_701 : BitVec 32 := 1#32
  let v2116 : BitVec 32 := Scalar.divsi v2114 c1_i32_701
  let v2117 : BitVec 32 := Scalar.muli v2116 c1_i32_701
  let v2118 : BitVec 32 := Scalar.addi c0_i32_700 v2117
  let v2115 : BitVec 32 := Scalar.addi c0_i32_700 v2114
  let c1_i32_703 : BitVec 32 := 1#32
  ⟨v2118, v2115, c1_i32_703⟩
def k0_mult401 (i : grid0.Coords) (k0_t5 : Fin (k0_t5_loop i).trips) : BitVec 32 :=
  let c0_i32_700 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2114 : BitVec 32 := Scalar.subi v17 c0_i32_700
  let c1_i32_701 : BitVec 32 := 1#32
  let v2116 : BitVec 32 := Scalar.divsi v2114 c1_i32_701
  let v2117 : BitVec 32 := Scalar.muli v2116 c1_i32_701
  let v2118 : BitVec 32 := Scalar.addi c0_i32_700 v2117
  let c1_i32_703 : BitVec 32 := 1#32
  let arg27 : BitVec 32 := Scf.iv v2118 c1_i32_703 k0_t5
  let c512_i32_1012 : BitVec 32 := 512#32
  let v3465 : BitVec 32 := Scalar.muli arg27 c512_i32_1012
  v3465
def k0_off22 (i : grid0.Coords) (k0_t5 : Fin (k0_t5_loop i).trips) : Fin 2 → Nat :=
  let c0_i32_700 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2114 : BitVec 32 := Scalar.subi v17 c0_i32_700
  let c1_i32_701 : BitVec 32 := 1#32
  let v2116 : BitVec 32 := Scalar.divsi v2114 c1_i32_701
  let v2117 : BitVec 32 := Scalar.muli v2116 c1_i32_701
  let v2118 : BitVec 32 := Scalar.addi c0_i32_700 v2117
  let c1_i32_703 : BitVec 32 := 1#32
  let arg27 : BitVec 32 := Scf.iv v2118 c1_i32_703 k0_t5
  let c512_i32_1012 : BitVec 32 := 512#32
  let v3465 : BitVec 32 := Scalar.muli arg27 c512_i32_1012
  let v3466 : BitVec 32 := v3465
  let v3467 : Index := Scalar.indexCast v3466
  let c0_1013 : Index := 0#32
  ![v3467.toNat, 0]
def k0_mult402 (i : grid0.Coords) (k0_t5 : Fin (k0_t5_loop i).trips) : BitVec 32 :=
  let c0_i32_700 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2114 : BitVec 32 := Scalar.subi v17 c0_i32_700
  let c1_i32_701 : BitVec 32 := 1#32
  let v2116 : BitVec 32 := Scalar.divsi v2114 c1_i32_701
  let v2117 : BitVec 32 := Scalar.muli v2116 c1_i32_701
  let v2118 : BitVec 32 := Scalar.addi c0_i32_700 v2117
  let c1_i32_703 : BitVec 32 := 1#32
  let arg27 : BitVec 32 := Scf.iv v2118 c1_i32_703 k0_t5
  let c2_i32_1014 : BitVec 32 := 2#32
  let v3501 : BitVec 32 := Scalar.muli arg27 c2_i32_1014
  let c0_i32_1015 : BitVec 32 := 0#32
  let v3502 : BitVec 32 := Scalar.addi v3501 c0_i32_1015
  let c8_i32_1016 : BitVec 32 := 8#32
  let v3503 : BitVec 32 := Scalar.muli v3502 c8_i32_1016
  v3503
def k0_off23 (i : grid0.Coords) (k0_t5 : Fin (k0_t5_loop i).trips) (c0_i32_1015 : BitVec 32) : Fin 2 → Nat :=
  let c0_i32_700 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2114 : BitVec 32 := Scalar.subi v17 c0_i32_700
  let c1_i32_701 : BitVec 32 := 1#32
  let v2116 : BitVec 32 := Scalar.divsi v2114 c1_i32_701
  let v2117 : BitVec 32 := Scalar.muli v2116 c1_i32_701
  let v2118 : BitVec 32 := Scalar.addi c0_i32_700 v2117
  let c1_i32_703 : BitVec 32 := 1#32
  let arg27 : BitVec 32 := Scf.iv v2118 c1_i32_703 k0_t5
  let c2_i32_1014 : BitVec 32 := 2#32
  let v3501 : BitVec 32 := Scalar.muli arg27 c2_i32_1014
  let v3502 : BitVec 32 := Scalar.addi v3501 c0_i32_1015
  let c8_i32_1016 : BitVec 32 := 8#32
  let v3503 : BitVec 32 := Scalar.muli v3502 c8_i32_1016
  let v3504 : BitVec 32 := v3503
  let v3729 : Index := Scalar.indexCast v3504
  let c0_1062 : Index := 0#32
  ![v3729.toNat, 0]
def k0_mult403 (i : grid0.Coords) (k0_t5 : Fin (k0_t5_loop i).trips) : BitVec 32 :=
  let c0_i32_700 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2114 : BitVec 32 := Scalar.subi v17 c0_i32_700
  let c1_i32_701 : BitVec 32 := 1#32
  let v2116 : BitVec 32 := Scalar.divsi v2114 c1_i32_701
  let v2117 : BitVec 32 := Scalar.muli v2116 c1_i32_701
  let v2118 : BitVec 32 := Scalar.addi c0_i32_700 v2117
  let c1_i32_703 : BitVec 32 := 1#32
  let arg27 : BitVec 32 := Scf.iv v2118 c1_i32_703 k0_t5
  let c2_i32_1128 : BitVec 32 := 2#32
  let v3993 : BitVec 32 := Scalar.muli arg27 c2_i32_1128
  let c1_i32_1129 : BitVec 32 := 1#32
  let v3994 : BitVec 32 := Scalar.addi v3993 c1_i32_1129
  let c8_i32_1130 : BitVec 32 := 8#32
  let v3995 : BitVec 32 := Scalar.muli v3994 c8_i32_1130
  v3995
@[reducible] def k0_t6_loop : Scf.Loop 32 :=
  let c0_i32_1013 : BitVec 32 := 0#32
  let c32_i32_1014 : BitVec 32 := 32#32
  let v3466 : BitVec 32 := Scalar.addi c0_i32_1013 c32_i32_1014
  let c1_i32_1015 : BitVec 32 := 1#32
  ⟨c0_i32_1013, v3466, c1_i32_1015⟩
@[reducible] def k0_t7_loop (i : grid0.Coords) : Scf.Loop 32 :=
  let c0_i32_1039 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3544 : BitVec 32 := Scalar.subi v17 c0_i32_1039
  let c1_i32_1040 : BitVec 32 := 1#32
  let v3546 : BitVec 32 := Scalar.divsi v3544 c1_i32_1040
  let v3547 : BitVec 32 := Scalar.muli v3546 c1_i32_1040
  let v3548 : BitVec 32 := Scalar.addi c0_i32_1039 v3547
  let c1_i32_1041 : BitVec 32 := 1#32
  ⟨c0_i32_1039, v3548, c1_i32_1041⟩
def k0_mult404 (i : grid0.Coords) (k0_t7 : Fin (k0_t7_loop i).trips) : BitVec 32 :=
  let c0_i32_1039 : BitVec 32 := 0#32
  let c1_i32_1041 : BitVec 32 := 1#32
  let arg29 : BitVec 32 := Scf.iv c0_i32_1039 c1_i32_1041 k0_t7
  let c512_i32_1045 : BitVec 32 := 512#32
  let v3556 : BitVec 32 := Scalar.muli arg29 c512_i32_1045
  v3556
def k0_off24 (i : grid0.Coords) (k0_t7 : Fin (k0_t7_loop i).trips) : Fin 2 → Nat :=
  let c0_i32_1039 : BitVec 32 := 0#32
  let c1_i32_1041 : BitVec 32 := 1#32
  let arg29 : BitVec 32 := Scf.iv c0_i32_1039 c1_i32_1041 k0_t7
  let c512_i32_1045 : BitVec 32 := 512#32
  let v3556 : BitVec 32 := Scalar.muli arg29 c512_i32_1045
  let v3557 : BitVec 32 := v3556
  let v3558 : Index := Scalar.indexCast v3557
  let c0_1046 : Index := 0#32
  ![v3558.toNat, 0]
@[reducible] def k0_t8_loop (i : grid0.Coords) : Scf.Loop 32 :=
  let c0_i32_1039 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3544 : BitVec 32 := Scalar.subi v17 c0_i32_1039
  let c1_i32_1040 : BitVec 32 := 1#32
  let v3546 : BitVec 32 := Scalar.divsi v3544 c1_i32_1040
  let v3547 : BitVec 32 := Scalar.muli v3546 c1_i32_1040
  let v3548 : BitVec 32 := Scalar.addi c0_i32_1039 v3547
  let v3545 : BitVec 32 := Scalar.addi c0_i32_1039 v3544
  let c1_i32_1042 : BitVec 32 := 1#32
  ⟨v3548, v3545, c1_i32_1042⟩
def k0_mult405 (i : grid0.Coords) (k0_t8 : Fin (k0_t8_loop i).trips) : BitVec 32 :=
  let c0_i32_1039 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3544 : BitVec 32 := Scalar.subi v17 c0_i32_1039
  let c1_i32_1040 : BitVec 32 := 1#32
  let v3546 : BitVec 32 := Scalar.divsi v3544 c1_i32_1040
  let v3547 : BitVec 32 := Scalar.muli v3546 c1_i32_1040
  let v3548 : BitVec 32 := Scalar.addi c0_i32_1039 v3547
  let c1_i32_1042 : BitVec 32 := 1#32
  let arg29 : BitVec 32 := Scf.iv v3548 c1_i32_1042 k0_t8
  let c512_i32_1045 : BitVec 32 := 512#32
  let v3556 : BitVec 32 := Scalar.muli arg29 c512_i32_1045
  v3556
def k0_off25 (i : grid0.Coords) (k0_t8 : Fin (k0_t8_loop i).trips) : Fin 2 → Nat :=
  let c0_i32_1039 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3544 : BitVec 32 := Scalar.subi v17 c0_i32_1039
  let c1_i32_1040 : BitVec 32 := 1#32
  let v3546 : BitVec 32 := Scalar.divsi v3544 c1_i32_1040
  let v3547 : BitVec 32 := Scalar.muli v3546 c1_i32_1040
  let v3548 : BitVec 32 := Scalar.addi c0_i32_1039 v3547
  let c1_i32_1042 : BitVec 32 := 1#32
  let arg29 : BitVec 32 := Scf.iv v3548 c1_i32_1042 k0_t8
  let c512_i32_1045 : BitVec 32 := 512#32
  let v3556 : BitVec 32 := Scalar.muli arg29 c512_i32_1045
  let v3557 : BitVec 32 := v3556
  let v3558 : Index := Scalar.indexCast v3557
  let c0_1046 : Index := 0#32
  ![v3558.toNat, 0]
@[reducible] def k0_t9_loop (i : grid0.Coords) : Scf.Loop 32 :=
  let c0_i32_1021 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3475 : BitVec 32 := Scalar.subi v17 c0_i32_1021
  let c1_i32_1022 : BitVec 32 := 1#32
  let v3477 : BitVec 32 := Scalar.divsi v3475 c1_i32_1022
  let v3478 : BitVec 32 := Scalar.muli v3477 c1_i32_1022
  let v3479 : BitVec 32 := Scalar.addi c0_i32_1021 v3478
  let c1_i32_1023 : BitVec 32 := 1#32
  ⟨c0_i32_1021, v3479, c1_i32_1023⟩
def k0_mult406 (i : grid0.Coords) (k0_t9 : Fin (k0_t9_loop i).trips) : BitVec 32 :=
  let c0_i32_1021 : BitVec 32 := 0#32
  let c1_i32_1023 : BitVec 32 := 1#32
  let arg27 : BitVec 32 := Scf.iv c0_i32_1021 c1_i32_1023 k0_t9
  let c512_i32_1032 : BitVec 32 := 512#32
  let v3527 : BitVec 32 := Scalar.muli arg27 c512_i32_1032
  v3527
def k0_off26 (i : grid0.Coords) (k0_t9 : Fin (k0_t9_loop i).trips) : Fin 2 → Nat :=
  let c0_i32_1021 : BitVec 32 := 0#32
  let c1_i32_1023 : BitVec 32 := 1#32
  let arg27 : BitVec 32 := Scf.iv c0_i32_1021 c1_i32_1023 k0_t9
  let c512_i32_1032 : BitVec 32 := 512#32
  let v3527 : BitVec 32 := Scalar.muli arg27 c512_i32_1032
  let v3528 : BitVec 32 := v3527
  let v3529 : Index := Scalar.indexCast v3528
  let c0_1033 : Index := 0#32
  ![v3529.toNat, 0]
def k0_mult407 (i : grid0.Coords) (k0_t9 : Fin (k0_t9_loop i).trips) : BitVec 32 :=
  let c0_i32_1021 : BitVec 32 := 0#32
  let c1_i32_1023 : BitVec 32 := 1#32
  let arg27 : BitVec 32 := Scf.iv c0_i32_1021 c1_i32_1023 k0_t9
  let c2_i32_1034 : BitVec 32 := 2#32
  let v3563 : BitVec 32 := Scalar.muli arg27 c2_i32_1034
  let c0_i32_1035 : BitVec 32 := 0#32
  let v3564 : BitVec 32 := Scalar.addi v3563 c0_i32_1035
  let c8_i32_1036 : BitVec 32 := 8#32
  let v3565 : BitVec 32 := Scalar.muli v3564 c8_i32_1036
  v3565
def k0_off27 (i : grid0.Coords) (k0_t9 : Fin (k0_t9_loop i).trips) (c0_i32_1035 : BitVec 32) : Fin 2 → Nat :=
  let c0_i32_1021 : BitVec 32 := 0#32
  let c1_i32_1023 : BitVec 32 := 1#32
  let arg27 : BitVec 32 := Scf.iv c0_i32_1021 c1_i32_1023 k0_t9
  let c2_i32_1034 : BitVec 32 := 2#32
  let v3563 : BitVec 32 := Scalar.muli arg27 c2_i32_1034
  let v3564 : BitVec 32 := Scalar.addi v3563 c0_i32_1035
  let c8_i32_1036 : BitVec 32 := 8#32
  let v3565 : BitVec 32 := Scalar.muli v3564 c8_i32_1036
  let v3566 : BitVec 32 := v3565
  let v3791 : Index := Scalar.indexCast v3566
  let c0_1082 : Index := 0#32
  ![v3791.toNat, 0]
def k0_mult408 (i : grid0.Coords) (k0_t9 : Fin (k0_t9_loop i).trips) : BitVec 32 :=
  let c0_i32_1021 : BitVec 32 := 0#32
  let c1_i32_1023 : BitVec 32 := 1#32
  let arg27 : BitVec 32 := Scf.iv c0_i32_1021 c1_i32_1023 k0_t9
  let c2_i32_1148 : BitVec 32 := 2#32
  let v4055 : BitVec 32 := Scalar.muli arg27 c2_i32_1148
  let c1_i32_1149 : BitVec 32 := 1#32
  let v4056 : BitVec 32 := Scalar.addi v4055 c1_i32_1149
  let c8_i32_1150 : BitVec 32 := 8#32
  let v4057 : BitVec 32 := Scalar.muli v4056 c8_i32_1150
  v4057
@[reducible] def k0_t10_loop (i : grid0.Coords) : Scf.Loop 32 :=
  let c0_i32_1021 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3475 : BitVec 32 := Scalar.subi v17 c0_i32_1021
  let c1_i32_1022 : BitVec 32 := 1#32
  let v3477 : BitVec 32 := Scalar.divsi v3475 c1_i32_1022
  let v3478 : BitVec 32 := Scalar.muli v3477 c1_i32_1022
  let v3479 : BitVec 32 := Scalar.addi c0_i32_1021 v3478
  let v3476 : BitVec 32 := Scalar.addi c0_i32_1021 v3475
  let c1_i32_1024 : BitVec 32 := 1#32
  ⟨v3479, v3476, c1_i32_1024⟩
def k0_mult409 (i : grid0.Coords) (k0_t10 : Fin (k0_t10_loop i).trips) : BitVec 32 :=
  let c0_i32_1021 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3475 : BitVec 32 := Scalar.subi v17 c0_i32_1021
  let c1_i32_1022 : BitVec 32 := 1#32
  let v3477 : BitVec 32 := Scalar.divsi v3475 c1_i32_1022
  let v3478 : BitVec 32 := Scalar.muli v3477 c1_i32_1022
  let v3479 : BitVec 32 := Scalar.addi c0_i32_1021 v3478
  let c1_i32_1024 : BitVec 32 := 1#32
  let arg27 : BitVec 32 := Scf.iv v3479 c1_i32_1024 k0_t10
  let c512_i32_1032 : BitVec 32 := 512#32
  let v3527 : BitVec 32 := Scalar.muli arg27 c512_i32_1032
  v3527
def k0_off28 (i : grid0.Coords) (k0_t10 : Fin (k0_t10_loop i).trips) : Fin 2 → Nat :=
  let c0_i32_1021 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3475 : BitVec 32 := Scalar.subi v17 c0_i32_1021
  let c1_i32_1022 : BitVec 32 := 1#32
  let v3477 : BitVec 32 := Scalar.divsi v3475 c1_i32_1022
  let v3478 : BitVec 32 := Scalar.muli v3477 c1_i32_1022
  let v3479 : BitVec 32 := Scalar.addi c0_i32_1021 v3478
  let c1_i32_1024 : BitVec 32 := 1#32
  let arg27 : BitVec 32 := Scf.iv v3479 c1_i32_1024 k0_t10
  let c512_i32_1032 : BitVec 32 := 512#32
  let v3527 : BitVec 32 := Scalar.muli arg27 c512_i32_1032
  let v3528 : BitVec 32 := v3527
  let v3529 : Index := Scalar.indexCast v3528
  let c0_1033 : Index := 0#32
  ![v3529.toNat, 0]
def k0_mult410 (i : grid0.Coords) (k0_t10 : Fin (k0_t10_loop i).trips) : BitVec 32 :=
  let c0_i32_1021 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3475 : BitVec 32 := Scalar.subi v17 c0_i32_1021
  let c1_i32_1022 : BitVec 32 := 1#32
  let v3477 : BitVec 32 := Scalar.divsi v3475 c1_i32_1022
  let v3478 : BitVec 32 := Scalar.muli v3477 c1_i32_1022
  let v3479 : BitVec 32 := Scalar.addi c0_i32_1021 v3478
  let c1_i32_1024 : BitVec 32 := 1#32
  let arg27 : BitVec 32 := Scf.iv v3479 c1_i32_1024 k0_t10
  let c2_i32_1034 : BitVec 32 := 2#32
  let v3563 : BitVec 32 := Scalar.muli arg27 c2_i32_1034
  let c0_i32_1035 : BitVec 32 := 0#32
  let v3564 : BitVec 32 := Scalar.addi v3563 c0_i32_1035
  let c8_i32_1036 : BitVec 32 := 8#32
  let v3565 : BitVec 32 := Scalar.muli v3564 c8_i32_1036
  v3565
def k0_off29 (i : grid0.Coords) (k0_t10 : Fin (k0_t10_loop i).trips) (c0_i32_1035 : BitVec 32) : Fin 2 → Nat :=
  let c0_i32_1021 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3475 : BitVec 32 := Scalar.subi v17 c0_i32_1021
  let c1_i32_1022 : BitVec 32 := 1#32
  let v3477 : BitVec 32 := Scalar.divsi v3475 c1_i32_1022
  let v3478 : BitVec 32 := Scalar.muli v3477 c1_i32_1022
  let v3479 : BitVec 32 := Scalar.addi c0_i32_1021 v3478
  let c1_i32_1024 : BitVec 32 := 1#32
  let arg27 : BitVec 32 := Scf.iv v3479 c1_i32_1024 k0_t10
  let c2_i32_1034 : BitVec 32 := 2#32
  let v3563 : BitVec 32 := Scalar.muli arg27 c2_i32_1034
  let v3564 : BitVec 32 := Scalar.addi v3563 c0_i32_1035
  let c8_i32_1036 : BitVec 32 := 8#32
  let v3565 : BitVec 32 := Scalar.muli v3564 c8_i32_1036
  let v3566 : BitVec 32 := v3565
  let v3791 : Index := Scalar.indexCast v3566
  let c0_1082 : Index := 0#32
  ![v3791.toNat, 0]
def k0_mult411 (i : grid0.Coords) (k0_t10 : Fin (k0_t10_loop i).trips) : BitVec 32 :=
  let c0_i32_1021 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v3475 : BitVec 32 := Scalar.subi v17 c0_i32_1021
  let c1_i32_1022 : BitVec 32 := 1#32
  let v3477 : BitVec 32 := Scalar.divsi v3475 c1_i32_1022
  let v3478 : BitVec 32 := Scalar.muli v3477 c1_i32_1022
  let v3479 : BitVec 32 := Scalar.addi c0_i32_1021 v3478
  let c1_i32_1024 : BitVec 32 := 1#32
  let arg27 : BitVec 32 := Scf.iv v3479 c1_i32_1024 k0_t10
  let c2_i32_1148 : BitVec 32 := 2#32
  let v4055 : BitVec 32 := Scalar.muli arg27 c2_i32_1148
  let c1_i32_1149 : BitVec 32 := 1#32
  let v4056 : BitVec 32 := Scalar.addi v4055 c1_i32_1149
  let c8_i32_1150 : BitVec 32 := 8#32
  let v4057 : BitVec 32 := Scalar.muli v4056 c8_i32_1150
  v4057
@[reducible] def k0_t11_loop (i : grid0.Coords) : Scf.Loop 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_789 : BitVec 32 := 1#32
  ⟨c0_i32_787, v2875, c1_i32_789⟩
def k0_mult412 (i : grid0.Coords) (k0_t11 : Fin (k0_t11_loop i).trips) : BitVec 32 :=
  let c0_i32_787 : BitVec 32 := 0#32
  let c1_i32_789 : BitVec 32 := 1#32
  let arg27 : BitVec 32 := Scf.iv c0_i32_787 c1_i32_789 k0_t11
  let c2_i32_1012 : BitVec 32 := 2#32
  let v3465 : BitVec 32 := Scalar.muli arg27 c2_i32_1012
  let c0_i32_1013 : BitVec 32 := 0#32
  let v3466 : BitVec 32 := Scalar.addi v3465 c0_i32_1013
  let c8_i32_1014 : BitVec 32 := 8#32
  let v3467 : BitVec 32 := Scalar.muli v3466 c8_i32_1014
  v3467
def k0_off30 (i : grid0.Coords) (k0_t11 : Fin (k0_t11_loop i).trips) (c0_i32_1013 : BitVec 32) : Fin 2 → Nat :=
  let c0_i32_787 : BitVec 32 := 0#32
  let c1_i32_789 : BitVec 32 := 1#32
  let arg27 : BitVec 32 := Scf.iv c0_i32_787 c1_i32_789 k0_t11
  let c2_i32_1012 : BitVec 32 := 2#32
  let v3465 : BitVec 32 := Scalar.muli arg27 c2_i32_1012
  let v3466 : BitVec 32 := Scalar.addi v3465 c0_i32_1013
  let c8_i32_1014 : BitVec 32 := 8#32
  let v3467 : BitVec 32 := Scalar.muli v3466 c8_i32_1014
  let v3468 : BitVec 32 := v3467
  let v3469 : Index := Scalar.indexCast v3468
  let c0_1015 : Index := 0#32
  ![v3469.toNat, 0]
def k0_mult413 (i : grid0.Coords) (k0_t11 : Fin (k0_t11_loop i).trips) : BitVec 32 :=
  let c0_i32_787 : BitVec 32 := 0#32
  let c1_i32_789 : BitVec 32 := 1#32
  let arg27 : BitVec 32 := Scf.iv c0_i32_787 c1_i32_789 k0_t11
  let c2_i32_1012 : BitVec 32 := 2#32
  let v3465 : BitVec 32 := Scalar.muli arg27 c2_i32_1012
  let c0_i32_1013 : BitVec 32 := 0#32
  let v3466 : BitVec 32 := Scalar.addi v3465 c0_i32_1013
  let c8_i32_1016 : BitVec 32 := 8#32
  let v3471 : BitVec 32 := Scalar.muli v3466 c8_i32_1016
  v3471
def k0_mult414 (i : grid0.Coords) (k0_t11 : Fin (k0_t11_loop i).trips) : BitVec 32 :=
  let c0_i32_787 : BitVec 32 := 0#32
  let c1_i32_789 : BitVec 32 := 1#32
  let arg27 : BitVec 32 := Scf.iv c0_i32_787 c1_i32_789 k0_t11
  let c2_i32_1012 : BitVec 32 := 2#32
  let v3465 : BitVec 32 := Scalar.muli arg27 c2_i32_1012
  let c0_i32_1013 : BitVec 32 := 0#32
  let v3466 : BitVec 32 := Scalar.addi v3465 c0_i32_1013
  let c256_i32_1122 : BitVec 32 := 256#32
  let v3701 : BitVec 32 := Scalar.muli v3466 c256_i32_1122
  v3701
def k0_off31 (i : grid0.Coords) (k0_t11 : Fin (k0_t11_loop i).trips) (c0_i32_1013 : BitVec 32) : Fin 2 → Nat :=
  let c0_i32_787 : BitVec 32 := 0#32
  let c1_i32_789 : BitVec 32 := 1#32
  let arg27 : BitVec 32 := Scf.iv c0_i32_787 c1_i32_789 k0_t11
  let c2_i32_1012 : BitVec 32 := 2#32
  let v3465 : BitVec 32 := Scalar.muli arg27 c2_i32_1012
  let v3466 : BitVec 32 := Scalar.addi v3465 c0_i32_1013
  let c256_i32_1122 : BitVec 32 := 256#32
  let v3701 : BitVec 32 := Scalar.muli v3466 c256_i32_1122
  let v3702 : BitVec 32 := v3701
  let v3703 : Index := Scalar.indexCast v3702
  let c0_1123 : Index := 0#32
  ![v3703.toNat, 0]
def k0_mult415 (i : grid0.Coords) (k0_t11 : Fin (k0_t11_loop i).trips) : BitVec 32 :=
  let c0_i32_787 : BitVec 32 := 0#32
  let c1_i32_789 : BitVec 32 := 1#32
  let arg27 : BitVec 32 := Scf.iv c0_i32_787 c1_i32_789 k0_t11
  let c2_i32_1124 : BitVec 32 := 2#32
  let v3707 : BitVec 32 := Scalar.muli arg27 c2_i32_1124
  let c1_i32_1125 : BitVec 32 := 1#32
  let v3708 : BitVec 32 := Scalar.addi v3707 c1_i32_1125
  let c8_i32_1126 : BitVec 32 := 8#32
  let v3709 : BitVec 32 := Scalar.muli v3708 c8_i32_1126
  v3709
def k0_mult416 (i : grid0.Coords) (k0_t11 : Fin (k0_t11_loop i).trips) : BitVec 32 :=
  let c0_i32_787 : BitVec 32 := 0#32
  let c1_i32_789 : BitVec 32 := 1#32
  let arg27 : BitVec 32 := Scf.iv c0_i32_787 c1_i32_789 k0_t11
  let c2_i32_1124 : BitVec 32 := 2#32
  let v3707 : BitVec 32 := Scalar.muli arg27 c2_i32_1124
  let c1_i32_1125 : BitVec 32 := 1#32
  let v3708 : BitVec 32 := Scalar.addi v3707 c1_i32_1125
  let c8_i32_1128 : BitVec 32 := 8#32
  let v3713 : BitVec 32 := Scalar.muli v3708 c8_i32_1128
  v3713
def k0_mult417 (i : grid0.Coords) (k0_t11 : Fin (k0_t11_loop i).trips) : BitVec 32 :=
  let c0_i32_787 : BitVec 32 := 0#32
  let c1_i32_789 : BitVec 32 := 1#32
  let arg27 : BitVec 32 := Scf.iv c0_i32_787 c1_i32_789 k0_t11
  let c2_i32_1124 : BitVec 32 := 2#32
  let v3707 : BitVec 32 := Scalar.muli arg27 c2_i32_1124
  let c1_i32_1125 : BitVec 32 := 1#32
  let v3708 : BitVec 32 := Scalar.addi v3707 c1_i32_1125
  let c256_i32_1258 : BitVec 32 := 256#32
  let v3943 : BitVec 32 := Scalar.muli v3708 c256_i32_1258
  v3943
@[reducible] def k0_t12_loop (i : grid0.Coords) : Scf.Loop 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let v2872 : BitVec 32 := Scalar.addi c0_i32_787 v2871
  let c1_i32_790 : BitVec 32 := 1#32
  ⟨v2875, v2872, c1_i32_790⟩
def k0_mult418 (i : grid0.Coords) (k0_t12 : Fin (k0_t12_loop i).trips) : BitVec 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1012 : BitVec 32 := 2#32
  let v3465 : BitVec 32 := Scalar.muli arg27 c2_i32_1012
  let c0_i32_1013 : BitVec 32 := 0#32
  let v3466 : BitVec 32 := Scalar.addi v3465 c0_i32_1013
  let c8_i32_1014 : BitVec 32 := 8#32
  let v3467 : BitVec 32 := Scalar.muli v3466 c8_i32_1014
  v3467
def k0_off32 (i : grid0.Coords) (k0_t12 : Fin (k0_t12_loop i).trips) (c0_i32_1013 : BitVec 32) : Fin 2 → Nat :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1012 : BitVec 32 := 2#32
  let v3465 : BitVec 32 := Scalar.muli arg27 c2_i32_1012
  let v3466 : BitVec 32 := Scalar.addi v3465 c0_i32_1013
  let c8_i32_1014 : BitVec 32 := 8#32
  let v3467 : BitVec 32 := Scalar.muli v3466 c8_i32_1014
  let v3468 : BitVec 32 := v3467
  let v3469 : Index := Scalar.indexCast v3468
  let c0_1015 : Index := 0#32
  ![v3469.toNat, 0]
def k0_mult419 (i : grid0.Coords) (k0_t12 : Fin (k0_t12_loop i).trips) : BitVec 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1012 : BitVec 32 := 2#32
  let v3465 : BitVec 32 := Scalar.muli arg27 c2_i32_1012
  let c0_i32_1013 : BitVec 32 := 0#32
  let v3466 : BitVec 32 := Scalar.addi v3465 c0_i32_1013
  let c8_i32_1016 : BitVec 32 := 8#32
  let v3471 : BitVec 32 := Scalar.muli v3466 c8_i32_1016
  v3471
def k0_mult420 (i : grid0.Coords) (k0_t12 : Fin (k0_t12_loop i).trips) : BitVec 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1012 : BitVec 32 := 2#32
  let v3465 : BitVec 32 := Scalar.muli arg27 c2_i32_1012
  let c0_i32_1013 : BitVec 32 := 0#32
  let v3466 : BitVec 32 := Scalar.addi v3465 c0_i32_1013
  let c256_i32_1122 : BitVec 32 := 256#32
  let v3701 : BitVec 32 := Scalar.muli v3466 c256_i32_1122
  v3701
def k0_off33 (i : grid0.Coords) (k0_t12 : Fin (k0_t12_loop i).trips) (c0_i32_1013 : BitVec 32) : Fin 2 → Nat :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1012 : BitVec 32 := 2#32
  let v3465 : BitVec 32 := Scalar.muli arg27 c2_i32_1012
  let v3466 : BitVec 32 := Scalar.addi v3465 c0_i32_1013
  let c256_i32_1122 : BitVec 32 := 256#32
  let v3701 : BitVec 32 := Scalar.muli v3466 c256_i32_1122
  let v3702 : BitVec 32 := v3701
  let v3703 : Index := Scalar.indexCast v3702
  let c0_1123 : Index := 0#32
  ![v3703.toNat, 0]
def k0_mult421 (i : grid0.Coords) (k0_t12 : Fin (k0_t12_loop i).trips) : BitVec 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1124 : BitVec 32 := 2#32
  let v3707 : BitVec 32 := Scalar.muli arg27 c2_i32_1124
  let c1_i32_1125 : BitVec 32 := 1#32
  let v3708 : BitVec 32 := Scalar.addi v3707 c1_i32_1125
  let c8_i32_1126 : BitVec 32 := 8#32
  let v3709 : BitVec 32 := Scalar.muli v3708 c8_i32_1126
  v3709
def k0_mult422 (i : grid0.Coords) (k0_t12 : Fin (k0_t12_loop i).trips) : BitVec 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1124 : BitVec 32 := 2#32
  let v3707 : BitVec 32 := Scalar.muli arg27 c2_i32_1124
  let c1_i32_1125 : BitVec 32 := 1#32
  let v3708 : BitVec 32 := Scalar.addi v3707 c1_i32_1125
  let c8_i32_1128 : BitVec 32 := 8#32
  let v3713 : BitVec 32 := Scalar.muli v3708 c8_i32_1128
  v3713
def k0_mult423 (i : grid0.Coords) (k0_t12 : Fin (k0_t12_loop i).trips) : BitVec 32 :=
  let c0_i32_787 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v2871 : BitVec 32 := Scalar.subi v17 c0_i32_787
  let c1_i32_788 : BitVec 32 := 1#32
  let v2873 : BitVec 32 := Scalar.divsi v2871 c1_i32_788
  let v2874 : BitVec 32 := Scalar.muli v2873 c1_i32_788
  let v2875 : BitVec 32 := Scalar.addi c0_i32_787 v2874
  let c1_i32_790 : BitVec 32 := 1#32
  let arg27 : BitVec 32 := Scf.iv v2875 c1_i32_790 k0_t12
  let c2_i32_1124 : BitVec 32 := 2#32
  let v3707 : BitVec 32 := Scalar.muli arg27 c2_i32_1124
  let c1_i32_1125 : BitVec 32 := 1#32
  let v3708 : BitVec 32 := Scalar.addi v3707 c1_i32_1125
  let c256_i32_1258 : BitVec 32 := 256#32
  let v3943 : BitVec 32 := Scalar.muli v3708 c256_i32_1258
  v3943
def k0_off34 (i : grid0.Coords) : Fin 3 → Nat :=
  let arg1 : BitVec 32 := BitVec.ofNat 32 (i 1).val
  let c0_i32_811 : BitVec 32 := 0#32
  let v2895 : BitVec 1 := Scalar.cmpi .eq arg1 c0_i32_811
  let c1_i32_812 : BitVec 32 := 1#32
  let c0_i32_813 : BitVec 32 := 0#32
  let v2896 : BitVec 32 := Scalar.select v2895 c1_i32_812 c0_i32_813
  let v2897 : Index := Scalar.indexCast v2896
  let c0_814 : Index := 0#32
  let c0_815 : Index := 0#32
  ![v2897.toNat, 0, 0]
def k0_mult424 : BitVec 32 :=
  let c0_i32_824 : BitVec 32 := 0#32
  c0_i32_824
def k0_mult425 : BitVec 32 :=
  let c0_i32_834 : BitVec 32 := 0#32
  c0_i32_834
def k0_off35 (i : grid0.Coords) (c0_i32_828 : BitVec 32) (c0_i32_830 : BitVec 32) : Fin 3 → Nat :=
  let arg1 : BitVec 32 := BitVec.ofNat 32 (i 1).val
  let v2923 : BitVec 1 := Scalar.cmpi .eq arg1 c0_i32_828
  let c2_i32_833 : BitVec 32 := 2#32
  let c1_i32_829 : BitVec 32 := 1#32
  let v2924 : BitVec 32 := Scalar.subi arg1 c1_i32_829
  let v2925 : BitVec 1 := Scalar.cmpi .eq v2924 c0_i32_830
  let c1_i32_831 : BitVec 32 := 1#32
  let c0_i32_832 : BitVec 32 := 0#32
  let v2926 : BitVec 32 := Scalar.select v2925 c1_i32_831 c0_i32_832
  let v2927 : BitVec 32 := Scalar.select v2923 c2_i32_833 v2926
  let v2932 : Index := Scalar.indexCast v2927
  let c0_836 : Index := 0#32
  let c0_837 : Index := 0#32
  ![v2932.toNat, 0, 0]
def k0_off35_at (r : Fin 4) : BitVec 32 × BitVec 32 :=
  if r.val < 2 then
    if r.val < 1 then
      (0#32, 0#32)
    else
      (1#32, 1#32)
  else
    if r.val < 3 then
      (2#32, 2#32)
    else
      (3#32, 3#32)
def k0_mult426 : BitVec 32 :=
  let c128_i32_847 : BitVec 32 := 128#32
  c128_i32_847
def k0_mult427 : BitVec 32 :=
  let c256_i32_859 : BitVec 32 := 256#32
  c256_i32_859
def k0_mult428 : BitVec 32 :=
  let c384_i32_870 : BitVec 32 := 384#32
  c384_i32_870
def k0_mult429 : BitVec 32 :=
  let c0_i32_887 : BitVec 32 := 0#32
  c0_i32_887
def k0_off36 (i : grid0.Coords) (c0_i32_881 : BitVec 32) (c0_i32_883 : BitVec 32) : Fin 3 → Nat :=
  let arg1 : BitVec 32 := BitVec.ofNat 32 (i 1).val
  let v3129 : BitVec 1 := Scalar.cmpi .eq arg1 c0_i32_881
  let c2_i32_886 : BitVec 32 := 2#32
  let c1_i32_882 : BitVec 32 := 1#32
  let v3130 : BitVec 32 := Scalar.subi arg1 c1_i32_882
  let v3131 : BitVec 1 := Scalar.cmpi .eq v3130 c0_i32_883
  let c1_i32_884 : BitVec 32 := 1#32
  let c0_i32_885 : BitVec 32 := 0#32
  let v3132 : BitVec 32 := Scalar.select v3131 c1_i32_884 c0_i32_885
  let v3133 : BitVec 32 := Scalar.select v3129 c2_i32_886 v3132
  let v3138 : Index := Scalar.indexCast v3133
  let c0_889 : Index := 0#32
  let c512 : Index := 512#32
  ![v3138.toNat, 0, 512]
def k0_off36_at (r : Fin 4) : BitVec 32 × BitVec 32 :=
  if r.val < 2 then
    if r.val < 1 then
      (0#32, 0#32)
    else
      (1#32, 1#32)
  else
    if r.val < 3 then
      (2#32, 2#32)
    else
      (3#32, 3#32)
def k0_mult430 : BitVec 32 :=
  let c128_i32_899 : BitVec 32 := 128#32
  c128_i32_899
def k0_mult431 : BitVec 32 :=
  let c256_i32_912 : BitVec 32 := 256#32
  c256_i32_912
def k0_mult432 : BitVec 32 :=
  let c384_i32_925 : BitVec 32 := 384#32
  c384_i32_925
@[reducible] def k0_t13_loop (i : grid0.Coords) : Scf.Loop 32 :=
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_946 : BitVec 32 := 1#32
  ⟨c0_i32_944, v3354, c1_i32_946⟩
def k0_mult433 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c512_i32_1014 : BitVec 32 := 512#32
  let v3467 : BitVec 32 := Scalar.muli v3466 c512_i32_1014
  v3467
def k0_off37 (i : grid0.Coords) (k0_t13 : Fin (k0_t13_loop i).trips) (c1_i32_1013 : BitVec 32) : Fin 2 → Nat :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let v3466 : BitVec 32 := Scalar.addi v3465 c1_i32_1013
  let c512_i32_1014 : BitVec 32 := 512#32
  let v3467 : BitVec 32 := Scalar.muli v3466 c512_i32_1014
  let v3468 : BitVec 32 := v3467
  let v3469 : Index := Scalar.indexCast v3468
  let c0_1015 : Index := 0#32
  ![v3469.toNat, 0]
def k0_mult434 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1018 : BitVec 32 := 4#32
  let v3474 : BitVec 32 := Scalar.muli v3466 c4_i32_1018
  let c0_i32_1019 : BitVec 32 := 0#32
  let v3475 : BitVec 32 := Scalar.addi v3474 c0_i32_1019
  let c128_i32_1024 : BitVec 32 := 128#32
  let v3481 : BitVec 32 := Scalar.muli v3475 c128_i32_1024
  v3481
def k0_off38 (i : grid0.Coords) (k0_t13 : Fin (k0_t13_loop i).trips) (c1_i32_1013 : BitVec 32) (c0_i32_1019 : BitVec 32) : Fin 2 → Nat :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let v3466 : BitVec 32 := Scalar.addi v3465 c1_i32_1013
  let c4_i32_1018 : BitVec 32 := 4#32
  let v3474 : BitVec 32 := Scalar.muli v3466 c4_i32_1018
  let v3475 : BitVec 32 := Scalar.addi v3474 c0_i32_1019
  let c128_i32_1024 : BitVec 32 := 128#32
  let v3481 : BitVec 32 := Scalar.muli v3475 c128_i32_1024
  let v3482 : BitVec 32 := v3481
  let v3483 : Index := Scalar.indexCast v3482
  let c0_1025 : Index := 0#32
  ![v3483.toNat, 0]
def k0_off39 (i : grid0.Coords) (k0_t13 : Fin (k0_t13_loop i).trips) (c1_i32_1013 : BitVec 32) (c0_i32_1019 : BitVec 32) : Fin 3 → Nat :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let v3466 : BitVec 32 := Scalar.addi v3465 c1_i32_1013
  let c4_i32_1018 : BitVec 32 := 4#32
  let v3474 : BitVec 32 := Scalar.muli v3466 c4_i32_1018
  let v3475 : BitVec 32 := Scalar.addi v3474 c0_i32_1019
  let arg1 : BitVec 32 := BitVec.ofNat 32 (i 1).val
  let v3476 : BitVec 1 := Scalar.cmpi .eq v3475 arg1
  let c2_i32_1023 : BitVec 32 := 2#32
  let c1_i32_1020 : BitVec 32 := 1#32
  let v3477 : BitVec 32 := Scalar.subi arg1 c1_i32_1020
  let v3478 : BitVec 1 := Scalar.cmpi .eq v3475 v3477
  let c1_i32_1021 : BitVec 32 := 1#32
  let c0_i32_1022 : BitVec 32 := 0#32
  let v3479 : BitVec 32 := Scalar.select v3478 c1_i32_1021 c0_i32_1022
  let v3480 : BitVec 32 := Scalar.select v3476 c2_i32_1023 v3479
  let v3486 : Index := Scalar.indexCast v3480
  let c0_1026 : Index := 0#32
  let c0_1027 : Index := 0#32
  ![v3486.toNat, 0, 0]
def k0_mult435 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1031 : BitVec 32 := 4#32
  let v3527 : BitVec 32 := Scalar.muli v3466 c4_i32_1031
  let c1_i32_1032 : BitVec 32 := 1#32
  let v3528 : BitVec 32 := Scalar.addi v3527 c1_i32_1032
  let c128_i32_1037 : BitVec 32 := 128#32
  let v3534 : BitVec 32 := Scalar.muli v3528 c128_i32_1037
  v3534
def k0_mult436 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1044 : BitVec 32 := 4#32
  let v3580 : BitVec 32 := Scalar.muli v3466 c4_i32_1044
  let c2_i32_1045 : BitVec 32 := 2#32
  let v3581 : BitVec 32 := Scalar.addi v3580 c2_i32_1045
  let c128_i32_1050 : BitVec 32 := 128#32
  let v3587 : BitVec 32 := Scalar.muli v3581 c128_i32_1050
  v3587
def k0_mult437 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1057 : BitVec 32 := 4#32
  let v3633 : BitVec 32 := Scalar.muli v3466 c4_i32_1057
  let c3_i32_1058 : BitVec 32 := 3#32
  let v3634 : BitVec 32 := Scalar.addi v3633 c3_i32_1058
  let c128_i32_1063 : BitVec 32 := 128#32
  let v3640 : BitVec 32 := Scalar.muli v3634 c128_i32_1063
  v3640
def k0_mult438 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1075 : BitVec 32 := 4#32
  let v3692 : BitVec 32 := Scalar.muli v3466 c4_i32_1075
  let c0_i32_1076 : BitVec 32 := 0#32
  let v3693 : BitVec 32 := Scalar.addi v3692 c0_i32_1076
  let c128_i32_1081 : BitVec 32 := 128#32
  let v3699 : BitVec 32 := Scalar.muli v3693 c128_i32_1081
  v3699
def k0_off40 (i : grid0.Coords) (k0_t13 : Fin (k0_t13_loop i).trips) (c1_i32_1013 : BitVec 32) (c0_i32_1076 : BitVec 32) : Fin 3 → Nat :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let v3466 : BitVec 32 := Scalar.addi v3465 c1_i32_1013
  let c4_i32_1075 : BitVec 32 := 4#32
  let v3692 : BitVec 32 := Scalar.muli v3466 c4_i32_1075
  let v3693 : BitVec 32 := Scalar.addi v3692 c0_i32_1076
  let arg1 : BitVec 32 := BitVec.ofNat 32 (i 1).val
  let v3694 : BitVec 1 := Scalar.cmpi .eq v3693 arg1
  let c2_i32_1080 : BitVec 32 := 2#32
  let c1_i32_1077 : BitVec 32 := 1#32
  let v3695 : BitVec 32 := Scalar.subi arg1 c1_i32_1077
  let v3696 : BitVec 1 := Scalar.cmpi .eq v3693 v3695
  let c1_i32_1078 : BitVec 32 := 1#32
  let c0_i32_1079 : BitVec 32 := 0#32
  let v3697 : BitVec 32 := Scalar.select v3696 c1_i32_1078 c0_i32_1079
  let v3698 : BitVec 32 := Scalar.select v3694 c2_i32_1080 v3697
  let v3704 : Index := Scalar.indexCast v3698
  let c0_1083 : Index := 0#32
  let c512_1084 : Index := 512#32
  ![v3704.toNat, 0, 512]
def k0_mult439 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1088 : BitVec 32 := 4#32
  let v3745 : BitVec 32 := Scalar.muli v3466 c4_i32_1088
  let c1_i32_1089 : BitVec 32 := 1#32
  let v3746 : BitVec 32 := Scalar.addi v3745 c1_i32_1089
  let c128_i32_1094 : BitVec 32 := 128#32
  let v3752 : BitVec 32 := Scalar.muli v3746 c128_i32_1094
  v3752
def k0_mult440 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1101 : BitVec 32 := 4#32
  let v3798 : BitVec 32 := Scalar.muli v3466 c4_i32_1101
  let c2_i32_1102 : BitVec 32 := 2#32
  let v3799 : BitVec 32 := Scalar.addi v3798 c2_i32_1102
  let c128_i32_1107 : BitVec 32 := 128#32
  let v3805 : BitVec 32 := Scalar.muli v3799 c128_i32_1107
  v3805
def k0_mult441 (i : grid0.Coords) (k0_t13 : Fin (k0_t13_loop i).trips) : BitVec 32 :=
  let c2_i32_1012 : BitVec 32 := 2#32
  let c0_i32_944 : BitVec 32 := 0#32
  let c1_i32_946 : BitVec 32 := 1#32
  let arg27 : BitVec 32 := Scf.iv c0_i32_944 c1_i32_946 k0_t13
  let v3465 : BitVec 32 := Scalar.muli c2_i32_1012 arg27
  let c1_i32_1013 : BitVec 32 := 1#32
  let v3466 : BitVec 32 := Scalar.addi v3465 c1_i32_1013
  let c4_i32_1114 : BitVec 32 := 4#32
  let v3851 : BitVec 32 := Scalar.muli v3466 c4_i32_1114
  let c3_i32_1115 : BitVec 32 := 3#32
  let v3852 : BitVec 32 := Scalar.addi v3851 c3_i32_1115
  let c128_i32_1120 : BitVec 32 := 128#32
  let v3858 : BitVec 32 := Scalar.muli v3852 c128_i32_1120
  v3858
def k0_off41 (i : grid0.Coords) (k0_t13 : Fin (k0_t13_loop i).trips) : Fin 3 → Nat :=
  let c2_i32_1130 : BitVec 32 := 2#32
  let c0_i32_944 : BitVec 32 := 0#32
  let c1_i32_946 : BitVec 32 := 1#32
  let arg27 : BitVec 32 := Scf.iv c0_i32_944 c1_i32_946 k0_t13
  let v3907 : BitVec 32 := Scalar.muli c2_i32_1130 arg27
  let c4_i32_1131 : BitVec 32 := 4#32
  let v3908 : BitVec 32 := Scalar.muli v3907 c4_i32_1131
  let v3909 : Index := Scalar.indexCast v3908
  let c0_1132 : Index := 0#32
  let c0_1133 : Index := 0#32
  ![v3909.toNat, 0, 0]
def k0_mult442 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c512_i32_1168 : BitVec 32 := 512#32
  let v3976 : BitVec 32 := Scalar.muli v3975 c512_i32_1168
  v3976
def k0_mult443 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1172 : BitVec 32 := 4#32
  let v3983 : BitVec 32 := Scalar.muli v3975 c4_i32_1172
  let c0_i32_1173 : BitVec 32 := 0#32
  let v3984 : BitVec 32 := Scalar.addi v3983 c0_i32_1173
  let c128_i32_1178 : BitVec 32 := 128#32
  let v3990 : BitVec 32 := Scalar.muli v3984 c128_i32_1178
  v3990
def k0_mult444 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1185 : BitVec 32 := 4#32
  let v4036 : BitVec 32 := Scalar.muli v3975 c4_i32_1185
  let c1_i32_1186 : BitVec 32 := 1#32
  let v4037 : BitVec 32 := Scalar.addi v4036 c1_i32_1186
  let c128_i32_1191 : BitVec 32 := 128#32
  let v4043 : BitVec 32 := Scalar.muli v4037 c128_i32_1191
  v4043
def k0_mult445 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1198 : BitVec 32 := 4#32
  let v4089 : BitVec 32 := Scalar.muli v3975 c4_i32_1198
  let c2_i32_1199 : BitVec 32 := 2#32
  let v4090 : BitVec 32 := Scalar.addi v4089 c2_i32_1199
  let c128_i32_1204 : BitVec 32 := 128#32
  let v4096 : BitVec 32 := Scalar.muli v4090 c128_i32_1204
  v4096
def k0_mult446 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1211 : BitVec 32 := 4#32
  let v4142 : BitVec 32 := Scalar.muli v3975 c4_i32_1211
  let c3_i32_1212 : BitVec 32 := 3#32
  let v4143 : BitVec 32 := Scalar.addi v4142 c3_i32_1212
  let c128_i32_1217 : BitVec 32 := 128#32
  let v4149 : BitVec 32 := Scalar.muli v4143 c128_i32_1217
  v4149
def k0_mult447 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1229 : BitVec 32 := 4#32
  let v4201 : BitVec 32 := Scalar.muli v3975 c4_i32_1229
  let c0_i32_1230 : BitVec 32 := 0#32
  let v4202 : BitVec 32 := Scalar.addi v4201 c0_i32_1230
  let c128_i32_1235 : BitVec 32 := 128#32
  let v4208 : BitVec 32 := Scalar.muli v4202 c128_i32_1235
  v4208
def k0_mult448 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1242 : BitVec 32 := 4#32
  let v4254 : BitVec 32 := Scalar.muli v3975 c4_i32_1242
  let c1_i32_1243 : BitVec 32 := 1#32
  let v4255 : BitVec 32 := Scalar.addi v4254 c1_i32_1243
  let c128_i32_1248 : BitVec 32 := 128#32
  let v4261 : BitVec 32 := Scalar.muli v4255 c128_i32_1248
  v4261
def k0_mult449 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1255 : BitVec 32 := 4#32
  let v4307 : BitVec 32 := Scalar.muli v3975 c4_i32_1255
  let c2_i32_1256 : BitVec 32 := 2#32
  let v4308 : BitVec 32 := Scalar.addi v4307 c2_i32_1256
  let c128_i32_1261 : BitVec 32 := 128#32
  let v4314 : BitVec 32 := Scalar.muli v4308 c128_i32_1261
  v4314
def k0_mult450 (i : grid0.Coords) (k0_t13 : Fin (k0_t13_loop i).trips) : BitVec 32 :=
  let c2_i32_1166 : BitVec 32 := 2#32
  let c0_i32_944 : BitVec 32 := 0#32
  let c1_i32_946 : BitVec 32 := 1#32
  let arg27 : BitVec 32 := Scf.iv c0_i32_944 c1_i32_946 k0_t13
  let v3974 : BitVec 32 := Scalar.muli c2_i32_1166 arg27
  let c2_i32_1167 : BitVec 32 := 2#32
  let v3975 : BitVec 32 := Scalar.addi v3974 c2_i32_1167
  let c4_i32_1268 : BitVec 32 := 4#32
  let v4360 : BitVec 32 := Scalar.muli v3975 c4_i32_1268
  let c3_i32_1269 : BitVec 32 := 3#32
  let v4361 : BitVec 32 := Scalar.addi v4360 c3_i32_1269
  let c128_i32_1274 : BitVec 32 := 128#32
  let v4367 : BitVec 32 := Scalar.muli v4361 c128_i32_1274
  v4367
def k0_off42 (i : grid0.Coords) (k0_t13 : Fin (k0_t13_loop i).trips) : Fin 3 → Nat :=
  let c2_i32_1284 : BitVec 32 := 2#32
  let c0_i32_944 : BitVec 32 := 0#32
  let c1_i32_946 : BitVec 32 := 1#32
  let arg27 : BitVec 32 := Scf.iv c0_i32_944 c1_i32_946 k0_t13
  let v4416 : BitVec 32 := Scalar.muli c2_i32_1284 arg27
  let c1_i32_1285 : BitVec 32 := 1#32
  let v4417 : BitVec 32 := Scalar.addi v4416 c1_i32_1285
  let c4_i32_1286 : BitVec 32 := 4#32
  let v4418 : BitVec 32 := Scalar.muli v4417 c4_i32_1286
  let v4419 : Index := Scalar.indexCast v4418
  let c0_1287 : Index := 0#32
  let c0_1288 : Index := 0#32
  ![v4419.toNat, 0, 0]
@[reducible] def k0_t14_loop (i : grid0.Coords) : Scf.Loop 32 :=
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let v3351 : BitVec 32 := Scalar.addi c0_i32_944 v3350
  let c1_i32_947 : BitVec 32 := 1#32
  ⟨v3354, v3351, c1_i32_947⟩
def k0_mult451 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c512_i32_1014 : BitVec 32 := 512#32
  let v3467 : BitVec 32 := Scalar.muli v3466 c512_i32_1014
  v3467
def k0_off43 (i : grid0.Coords) (k0_t14 : Fin (k0_t14_loop i).trips) (c1_i32_1013 : BitVec 32) : Fin 2 → Nat :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let v3466 : BitVec 32 := Scalar.addi v3465 c1_i32_1013
  let c512_i32_1014 : BitVec 32 := 512#32
  let v3467 : BitVec 32 := Scalar.muli v3466 c512_i32_1014
  let v3468 : BitVec 32 := v3467
  let v3469 : Index := Scalar.indexCast v3468
  let c0_1015 : Index := 0#32
  ![v3469.toNat, 0]
def k0_mult452 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1018 : BitVec 32 := 4#32
  let v3474 : BitVec 32 := Scalar.muli v3466 c4_i32_1018
  let c0_i32_1019 : BitVec 32 := 0#32
  let v3475 : BitVec 32 := Scalar.addi v3474 c0_i32_1019
  let c128_i32_1024 : BitVec 32 := 128#32
  let v3481 : BitVec 32 := Scalar.muli v3475 c128_i32_1024
  v3481
def k0_off44 (i : grid0.Coords) (k0_t14 : Fin (k0_t14_loop i).trips) (c1_i32_1013 : BitVec 32) (c0_i32_1019 : BitVec 32) : Fin 2 → Nat :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let v3466 : BitVec 32 := Scalar.addi v3465 c1_i32_1013
  let c4_i32_1018 : BitVec 32 := 4#32
  let v3474 : BitVec 32 := Scalar.muli v3466 c4_i32_1018
  let v3475 : BitVec 32 := Scalar.addi v3474 c0_i32_1019
  let c128_i32_1024 : BitVec 32 := 128#32
  let v3481 : BitVec 32 := Scalar.muli v3475 c128_i32_1024
  let v3482 : BitVec 32 := v3481
  let v3483 : Index := Scalar.indexCast v3482
  let c0_1025 : Index := 0#32
  ![v3483.toNat, 0]
def k0_off45 (i : grid0.Coords) (k0_t14 : Fin (k0_t14_loop i).trips) (c1_i32_1013 : BitVec 32) (c0_i32_1019 : BitVec 32) : Fin 3 → Nat :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let v3466 : BitVec 32 := Scalar.addi v3465 c1_i32_1013
  let c4_i32_1018 : BitVec 32 := 4#32
  let v3474 : BitVec 32 := Scalar.muli v3466 c4_i32_1018
  let v3475 : BitVec 32 := Scalar.addi v3474 c0_i32_1019
  let v3476 : BitVec 1 := Scalar.cmpi .eq v3475 arg1
  let c2_i32_1023 : BitVec 32 := 2#32
  let c1_i32_1020 : BitVec 32 := 1#32
  let v3477 : BitVec 32 := Scalar.subi arg1 c1_i32_1020
  let v3478 : BitVec 1 := Scalar.cmpi .eq v3475 v3477
  let c1_i32_1021 : BitVec 32 := 1#32
  let c0_i32_1022 : BitVec 32 := 0#32
  let v3479 : BitVec 32 := Scalar.select v3478 c1_i32_1021 c0_i32_1022
  let v3480 : BitVec 32 := Scalar.select v3476 c2_i32_1023 v3479
  let v3486 : Index := Scalar.indexCast v3480
  let c0_1026 : Index := 0#32
  let c0_1027 : Index := 0#32
  ![v3486.toNat, 0, 0]
def k0_mult453 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1031 : BitVec 32 := 4#32
  let v3527 : BitVec 32 := Scalar.muli v3466 c4_i32_1031
  let c1_i32_1032 : BitVec 32 := 1#32
  let v3528 : BitVec 32 := Scalar.addi v3527 c1_i32_1032
  let c128_i32_1037 : BitVec 32 := 128#32
  let v3534 : BitVec 32 := Scalar.muli v3528 c128_i32_1037
  v3534
def k0_mult454 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1044 : BitVec 32 := 4#32
  let v3580 : BitVec 32 := Scalar.muli v3466 c4_i32_1044
  let c2_i32_1045 : BitVec 32 := 2#32
  let v3581 : BitVec 32 := Scalar.addi v3580 c2_i32_1045
  let c128_i32_1050 : BitVec 32 := 128#32
  let v3587 : BitVec 32 := Scalar.muli v3581 c128_i32_1050
  v3587
def k0_mult455 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1057 : BitVec 32 := 4#32
  let v3633 : BitVec 32 := Scalar.muli v3466 c4_i32_1057
  let c3_i32_1058 : BitVec 32 := 3#32
  let v3634 : BitVec 32 := Scalar.addi v3633 c3_i32_1058
  let c128_i32_1063 : BitVec 32 := 128#32
  let v3640 : BitVec 32 := Scalar.muli v3634 c128_i32_1063
  v3640
def k0_mult456 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1075 : BitVec 32 := 4#32
  let v3692 : BitVec 32 := Scalar.muli v3466 c4_i32_1075
  let c0_i32_1076 : BitVec 32 := 0#32
  let v3693 : BitVec 32 := Scalar.addi v3692 c0_i32_1076
  let c128_i32_1081 : BitVec 32 := 128#32
  let v3699 : BitVec 32 := Scalar.muli v3693 c128_i32_1081
  v3699
def k0_off46 (i : grid0.Coords) (k0_t14 : Fin (k0_t14_loop i).trips) (c1_i32_1013 : BitVec 32) (c0_i32_1076 : BitVec 32) : Fin 3 → Nat :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let v3466 : BitVec 32 := Scalar.addi v3465 c1_i32_1013
  let c4_i32_1075 : BitVec 32 := 4#32
  let v3692 : BitVec 32 := Scalar.muli v3466 c4_i32_1075
  let v3693 : BitVec 32 := Scalar.addi v3692 c0_i32_1076
  let v3694 : BitVec 1 := Scalar.cmpi .eq v3693 arg1
  let c2_i32_1080 : BitVec 32 := 2#32
  let c1_i32_1077 : BitVec 32 := 1#32
  let v3695 : BitVec 32 := Scalar.subi arg1 c1_i32_1077
  let v3696 : BitVec 1 := Scalar.cmpi .eq v3693 v3695
  let c1_i32_1078 : BitVec 32 := 1#32
  let c0_i32_1079 : BitVec 32 := 0#32
  let v3697 : BitVec 32 := Scalar.select v3696 c1_i32_1078 c0_i32_1079
  let v3698 : BitVec 32 := Scalar.select v3694 c2_i32_1080 v3697
  let v3704 : Index := Scalar.indexCast v3698
  let c0_1083 : Index := 0#32
  let c512_1084 : Index := 512#32
  ![v3704.toNat, 0, 512]
def k0_mult457 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1088 : BitVec 32 := 4#32
  let v3745 : BitVec 32 := Scalar.muli v3466 c4_i32_1088
  let c1_i32_1089 : BitVec 32 := 1#32
  let v3746 : BitVec 32 := Scalar.addi v3745 c1_i32_1089
  let c128_i32_1094 : BitVec 32 := 128#32
  let v3752 : BitVec 32 := Scalar.muli v3746 c128_i32_1094
  v3752
def k0_mult458 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1101 : BitVec 32 := 4#32
  let v3798 : BitVec 32 := Scalar.muli v3466 c4_i32_1101
  let c2_i32_1102 : BitVec 32 := 2#32
  let v3799 : BitVec 32 := Scalar.addi v3798 c2_i32_1102
  let c128_i32_1107 : BitVec 32 := 128#32
  let v3805 : BitVec 32 := Scalar.muli v3799 c128_i32_1107
  v3805
def k0_mult459 (i : grid0.Coords) (k0_t14 : Fin (k0_t14_loop i).trips) : BitVec 32 :=
  let c2_i32_1012 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3465 : BitVec 32 := Scalar.muli c2_i32_1012 arg27
  let c1_i32_1013 : BitVec 32 := 1#32
  let v3466 : BitVec 32 := Scalar.addi v3465 c1_i32_1013
  let c4_i32_1114 : BitVec 32 := 4#32
  let v3851 : BitVec 32 := Scalar.muli v3466 c4_i32_1114
  let c3_i32_1115 : BitVec 32 := 3#32
  let v3852 : BitVec 32 := Scalar.addi v3851 c3_i32_1115
  let c128_i32_1120 : BitVec 32 := 128#32
  let v3858 : BitVec 32 := Scalar.muli v3852 c128_i32_1120
  v3858
def k0_off47 (i : grid0.Coords) (k0_t14 : Fin (k0_t14_loop i).trips) : Fin 3 → Nat :=
  let c2_i32_1130 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3907 : BitVec 32 := Scalar.muli c2_i32_1130 arg27
  let c4_i32_1131 : BitVec 32 := 4#32
  let v3908 : BitVec 32 := Scalar.muli v3907 c4_i32_1131
  let v3909 : Index := Scalar.indexCast v3908
  let c0_1132 : Index := 0#32
  let c0_1133 : Index := 0#32
  ![v3909.toNat, 0, 0]
def k0_mult460 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c512_i32_1168 : BitVec 32 := 512#32
  let v3976 : BitVec 32 := Scalar.muli v3975 c512_i32_1168
  v3976
def k0_mult461 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1172 : BitVec 32 := 4#32
  let v3983 : BitVec 32 := Scalar.muli v3975 c4_i32_1172
  let c0_i32_1173 : BitVec 32 := 0#32
  let v3984 : BitVec 32 := Scalar.addi v3983 c0_i32_1173
  let c128_i32_1178 : BitVec 32 := 128#32
  let v3990 : BitVec 32 := Scalar.muli v3984 c128_i32_1178
  v3990
def k0_mult462 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1185 : BitVec 32 := 4#32
  let v4036 : BitVec 32 := Scalar.muli v3975 c4_i32_1185
  let c1_i32_1186 : BitVec 32 := 1#32
  let v4037 : BitVec 32 := Scalar.addi v4036 c1_i32_1186
  let c128_i32_1191 : BitVec 32 := 128#32
  let v4043 : BitVec 32 := Scalar.muli v4037 c128_i32_1191
  v4043
def k0_mult463 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1198 : BitVec 32 := 4#32
  let v4089 : BitVec 32 := Scalar.muli v3975 c4_i32_1198
  let c2_i32_1199 : BitVec 32 := 2#32
  let v4090 : BitVec 32 := Scalar.addi v4089 c2_i32_1199
  let c128_i32_1204 : BitVec 32 := 128#32
  let v4096 : BitVec 32 := Scalar.muli v4090 c128_i32_1204
  v4096
def k0_mult464 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1211 : BitVec 32 := 4#32
  let v4142 : BitVec 32 := Scalar.muli v3975 c4_i32_1211
  let c3_i32_1212 : BitVec 32 := 3#32
  let v4143 : BitVec 32 := Scalar.addi v4142 c3_i32_1212
  let c128_i32_1217 : BitVec 32 := 128#32
  let v4149 : BitVec 32 := Scalar.muli v4143 c128_i32_1217
  v4149
def k0_mult465 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1229 : BitVec 32 := 4#32
  let v4201 : BitVec 32 := Scalar.muli v3975 c4_i32_1229
  let c0_i32_1230 : BitVec 32 := 0#32
  let v4202 : BitVec 32 := Scalar.addi v4201 c0_i32_1230
  let c128_i32_1235 : BitVec 32 := 128#32
  let v4208 : BitVec 32 := Scalar.muli v4202 c128_i32_1235
  v4208
def k0_mult466 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1242 : BitVec 32 := 4#32
  let v4254 : BitVec 32 := Scalar.muli v3975 c4_i32_1242
  let c1_i32_1243 : BitVec 32 := 1#32
  let v4255 : BitVec 32 := Scalar.addi v4254 c1_i32_1243
  let c128_i32_1248 : BitVec 32 := 128#32
  let v4261 : BitVec 32 := Scalar.muli v4255 c128_i32_1248
  v4261
def k0_mult467 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1255 : BitVec 32 := 4#32
  let v4307 : BitVec 32 := Scalar.muli v3975 c4_i32_1255
  let c2_i32_1256 : BitVec 32 := 2#32
  let v4308 : BitVec 32 := Scalar.addi v4307 c2_i32_1256
  let c128_i32_1261 : BitVec 32 := 128#32
  let v4314 : BitVec 32 := Scalar.muli v4308 c128_i32_1261
  v4314
def k0_mult468 (i : grid0.Coords) (k0_t14 : Fin (k0_t14_loop i).trips) : BitVec 32 :=
  let c2_i32_1166 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v3974 : BitVec 32 := Scalar.muli c2_i32_1166 arg27
  let c2_i32_1167 : BitVec 32 := 2#32
  let v3975 : BitVec 32 := Scalar.addi v3974 c2_i32_1167
  let c4_i32_1268 : BitVec 32 := 4#32
  let v4360 : BitVec 32 := Scalar.muli v3975 c4_i32_1268
  let c3_i32_1269 : BitVec 32 := 3#32
  let v4361 : BitVec 32 := Scalar.addi v4360 c3_i32_1269
  let c128_i32_1274 : BitVec 32 := 128#32
  let v4367 : BitVec 32 := Scalar.muli v4361 c128_i32_1274
  v4367
def k0_off48 (i : grid0.Coords) (k0_t14 : Fin (k0_t14_loop i).trips) : Fin 3 → Nat :=
  let c2_i32_1284 : BitVec 32 := 2#32
  let c0_i32_944 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3350 : BitVec 32 := Scalar.subi v3349 c0_i32_944
  let c1_i32_945 : BitVec 32 := 1#32
  let v3352 : BitVec 32 := Scalar.divsi v3350 c1_i32_945
  let v3353 : BitVec 32 := Scalar.muli v3352 c1_i32_945
  let v3354 : BitVec 32 := Scalar.addi c0_i32_944 v3353
  let c1_i32_947 : BitVec 32 := 1#32
  let arg27 : BitVec 32 := Scf.iv v3354 c1_i32_947 k0_t14
  let v4416 : BitVec 32 := Scalar.muli c2_i32_1284 arg27
  let c1_i32_1285 : BitVec 32 := 1#32
  let v4417 : BitVec 32 := Scalar.addi v4416 c1_i32_1285
  let c4_i32_1286 : BitVec 32 := 4#32
  let v4418 : BitVec 32 := Scalar.muli v4417 c4_i32_1286
  let v4419 : Index := Scalar.indexCast v4418
  let c0_1287 : Index := 0#32
  let c0_1288 : Index := 0#32
  ![v4419.toNat, 0, 0]
def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_948 : BitVec 32 := 2#32
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3355 : BitVec 32 := Scalar.muli c2_i32_948 v3349
  let v3356 : BitVec 32 := Scalar.subi v17 v3355
  let c2_i32_949 : BitVec 32 := 2#32
  let v3357 : BitVec 1 := Scalar.cmpi .eq v3356 c2_i32_949
  let v3358 : BitVec 32 := Scalar.extui v3357
  let c0_i32_950 : BitVec 32 := 0#32
  let v3359 : BitVec 1 := Scalar.cmpi .ne v3358 c0_i32_950
  v3359

def k0_mult469 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c512_i32_1013 : BitVec 32 := 512#32
  let v3466 : BitVec 32 := Scalar.muli v3465 c512_i32_1013
  v3466
def k0_off49 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c512_i32_1013 : BitVec 32 := 512#32
  let v3466 : BitVec 32 := Scalar.muli v3465 c512_i32_1013
  let v3467 : BitVec 32 := v3466
  let v3468 : Index := Scalar.indexCast v3467
  let c0_1014 : Index := 0#32
  ![v3468.toNat, 0]
def k0_mult470 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1017 : BitVec 32 := 4#32
  let v3473 : BitVec 32 := Scalar.muli v3465 c4_i32_1017
  let c0_i32_1018 : BitVec 32 := 0#32
  let v3474 : BitVec 32 := Scalar.addi v3473 c0_i32_1018
  let c128_i32_1023 : BitVec 32 := 128#32
  let v3480 : BitVec 32 := Scalar.muli v3474 c128_i32_1023
  v3480
def k0_off50 (i : grid0.Coords) (c0_i32_1018 : BitVec 32) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1017 : BitVec 32 := 4#32
  let v3473 : BitVec 32 := Scalar.muli v3465 c4_i32_1017
  let v3474 : BitVec 32 := Scalar.addi v3473 c0_i32_1018
  let c128_i32_1023 : BitVec 32 := 128#32
  let v3480 : BitVec 32 := Scalar.muli v3474 c128_i32_1023
  let v3481 : BitVec 32 := v3480
  let v3482 : Index := Scalar.indexCast v3481
  let c0_1024 : Index := 0#32
  ![v3482.toNat, 0]
def k0_off51 (i : grid0.Coords) (c0_i32_1018 : BitVec 32) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1017 : BitVec 32 := 4#32
  let v3473 : BitVec 32 := Scalar.muli v3465 c4_i32_1017
  let v3474 : BitVec 32 := Scalar.addi v3473 c0_i32_1018
  let v3475 : BitVec 1 := Scalar.cmpi .eq v3474 arg1
  let c2_i32_1022 : BitVec 32 := 2#32
  let c1_i32_1019 : BitVec 32 := 1#32
  let v3476 : BitVec 32 := Scalar.subi arg1 c1_i32_1019
  let v3477 : BitVec 1 := Scalar.cmpi .eq v3474 v3476
  let c1_i32_1020 : BitVec 32 := 1#32
  let c0_i32_1021 : BitVec 32 := 0#32
  let v3478 : BitVec 32 := Scalar.select v3477 c1_i32_1020 c0_i32_1021
  let v3479 : BitVec 32 := Scalar.select v3475 c2_i32_1022 v3478
  let v3485 : Index := Scalar.indexCast v3479
  let c0_1025 : Index := 0#32
  let c0_1026 : Index := 0#32
  ![v3485.toNat, 0, 0]
def k0_mult471 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1030 : BitVec 32 := 4#32
  let v3526 : BitVec 32 := Scalar.muli v3465 c4_i32_1030
  let c1_i32_1031 : BitVec 32 := 1#32
  let v3527 : BitVec 32 := Scalar.addi v3526 c1_i32_1031
  let c128_i32_1036 : BitVec 32 := 128#32
  let v3533 : BitVec 32 := Scalar.muli v3527 c128_i32_1036
  v3533
def k0_mult472 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1043 : BitVec 32 := 4#32
  let v3579 : BitVec 32 := Scalar.muli v3465 c4_i32_1043
  let c2_i32_1044 : BitVec 32 := 2#32
  let v3580 : BitVec 32 := Scalar.addi v3579 c2_i32_1044
  let c128_i32_1049 : BitVec 32 := 128#32
  let v3586 : BitVec 32 := Scalar.muli v3580 c128_i32_1049
  v3586
def k0_mult473 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1056 : BitVec 32 := 4#32
  let v3632 : BitVec 32 := Scalar.muli v3465 c4_i32_1056
  let c3_i32_1057 : BitVec 32 := 3#32
  let v3633 : BitVec 32 := Scalar.addi v3632 c3_i32_1057
  let c128_i32_1062 : BitVec 32 := 128#32
  let v3639 : BitVec 32 := Scalar.muli v3633 c128_i32_1062
  v3639
def k0_mult474 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1074 : BitVec 32 := 4#32
  let v3691 : BitVec 32 := Scalar.muli v3465 c4_i32_1074
  let c0_i32_1075 : BitVec 32 := 0#32
  let v3692 : BitVec 32 := Scalar.addi v3691 c0_i32_1075
  let c128_i32_1080 : BitVec 32 := 128#32
  let v3698 : BitVec 32 := Scalar.muli v3692 c128_i32_1080
  v3698
def k0_off52 (i : grid0.Coords) (c0_i32_1075 : BitVec 32) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1074 : BitVec 32 := 4#32
  let v3691 : BitVec 32 := Scalar.muli v3465 c4_i32_1074
  let v3692 : BitVec 32 := Scalar.addi v3691 c0_i32_1075
  let v3693 : BitVec 1 := Scalar.cmpi .eq v3692 arg1
  let c2_i32_1079 : BitVec 32 := 2#32
  let c1_i32_1076 : BitVec 32 := 1#32
  let v3694 : BitVec 32 := Scalar.subi arg1 c1_i32_1076
  let v3695 : BitVec 1 := Scalar.cmpi .eq v3692 v3694
  let c1_i32_1077 : BitVec 32 := 1#32
  let c0_i32_1078 : BitVec 32 := 0#32
  let v3696 : BitVec 32 := Scalar.select v3695 c1_i32_1077 c0_i32_1078
  let v3697 : BitVec 32 := Scalar.select v3693 c2_i32_1079 v3696
  let v3703 : Index := Scalar.indexCast v3697
  let c0_1082 : Index := 0#32
  let c512_1083 : Index := 512#32
  ![v3703.toNat, 0, 512]
def k0_mult475 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1087 : BitVec 32 := 4#32
  let v3744 : BitVec 32 := Scalar.muli v3465 c4_i32_1087
  let c1_i32_1088 : BitVec 32 := 1#32
  let v3745 : BitVec 32 := Scalar.addi v3744 c1_i32_1088
  let c128_i32_1093 : BitVec 32 := 128#32
  let v3751 : BitVec 32 := Scalar.muli v3745 c128_i32_1093
  v3751
def k0_mult476 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1100 : BitVec 32 := 4#32
  let v3797 : BitVec 32 := Scalar.muli v3465 c4_i32_1100
  let c2_i32_1101 : BitVec 32 := 2#32
  let v3798 : BitVec 32 := Scalar.addi v3797 c2_i32_1101
  let c128_i32_1106 : BitVec 32 := 128#32
  let v3804 : BitVec 32 := Scalar.muli v3798 c128_i32_1106
  v3804
def k0_mult477 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1113 : BitVec 32 := 4#32
  let v3850 : BitVec 32 := Scalar.muli v3465 c4_i32_1113
  let c3_i32_1114 : BitVec 32 := 3#32
  let v3851 : BitVec 32 := Scalar.addi v3850 c3_i32_1114
  let c128_i32_1119 : BitVec 32 := 128#32
  let v3857 : BitVec 32 := Scalar.muli v3851 c128_i32_1119
  v3857
def k0_off53 (i : grid0.Coords) : Fin 3 → Nat :=
  let c2_i32_951 : BitVec 32 := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3360 : BitVec 32 := Scalar.muli c2_i32_951 v3349
  let c4_i32_952 : BitVec 32 := 4#32
  let v3361 : BitVec 32 := Scalar.muli v3360 c4_i32_952
  let v3362 : Index := Scalar.indexCast v3361
  let c0_953 : Index := 0#32
  let c0_954 : Index := 0#32
  ![v3362.toNat, 0, 0]
def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_948 : BitVec 32 := 2#32
  let c1_i32_935 : BitVec 32 := 1#32
  let v3332 : BitVec 32 := Scalar.subi v17 c1_i32_935
  let c0_i32_937 : BitVec 32 := 0#32
  let v3334 : BitVec 1 := Scalar.cmpi .sgt v3332 c0_i32_937
  let v3335 : BitVec 32 := Scalar.extui v3334
  let c0_i32_938 : BitVec 32 := 0#32
  let v3336 : BitVec 1 := Scalar.cmpi .slt v3332 c0_i32_938
  let v3337 : BitVec 32 := Scalar.extui v3336
  let v3338 : BitVec 32 := Scalar.subi v3335 v3337
  let c2_i32_936 : BitVec 32 := 2#32
  let c0_i32_939 : BitVec 32 := 0#32
  let v3339 : BitVec 1 := Scalar.cmpi .sgt c2_i32_936 c0_i32_939
  let v3340 : BitVec 32 := Scalar.extui v3339
  let c0_i32_940 : BitVec 32 := 0#32
  let v3341 : BitVec 1 := Scalar.cmpi .slt c2_i32_936 c0_i32_940
  let v3342 : BitVec 32 := Scalar.extui v3341
  let v3343 : BitVec 32 := Scalar.subi v3340 v3342
  let v3344 : BitVec 1 := Scalar.cmpi .ne v3338 v3343
  let v3345 : BitVec 32 := Scalar.remsi v3332 c2_i32_936
  let c0_i32_941 : BitVec 32 := 0#32
  let v3346 : BitVec 1 := Scalar.cmpi .ne v3345 c0_i32_941
  let v3347 : BitVec 1 := Scalar.andi v3344 v3346
  let v3333 : BitVec 32 := Scalar.divsi v3332 c2_i32_936
  let c1_i32_942 : BitVec 32 := 1#32
  let v3348 : BitVec 32 := Scalar.subi v3333 c1_i32_942
  let v3349 : BitVec 32 := Scalar.select v3347 v3348 v3333
  let v3355 : BitVec 32 := Scalar.muli c2_i32_948 v3349
  let v3356 : BitVec 32 := Scalar.subi v17 v3355
  let c2_i32_949 : BitVec 32 := 2#32
  let v3357 : BitVec 1 := Scalar.cmpi .eq v3356 c2_i32_949
  let v3427 : BitVec 32 := Scalar.extui v3357
  let c0_i32_987 : BitVec 32 := 0#32
  let v3428 : BitVec 1 := Scalar.cmpi .ne v3427 c0_i32_987
  v3428

def k0_off54 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_1012 : BitVec 32 := 1#32
  let v3465 : BitVec 32 := Scalar.subi v17 c1_i32_1012
  let c4_i32_1013 : BitVec 32 := 4#32
  let v3466 : BitVec 32 := Scalar.muli v3465 c4_i32_1013
  let v3467 : Index := Scalar.indexCast v3466
  let c0_1014 : Index := 0#32
  let c0_1015 : Index := 0#32
  ![v3467.toNat, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x144x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S144x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OutKernel.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== ProjKernel.lean ====
abbrev S32768x1024 : Shape := ⟨2, ![32768, 1024]⟩
abbrev S1024x3524 : Shape := ⟨2, ![1024, 3524]⟩
abbrev S128 : Shape := ⟨1, ![128]⟩
abbrev S8x64x128 : Shape := ⟨3, ![8, 64, 128]⟩
abbrev S2x512 : Shape := ⟨2, ![2, 512]⟩
abbrev S1024x964 : Shape := ⟨2, ![1024, 964]⟩
abbrev S_ : Shape := ⟨0, ![]⟩
abbrev S1024x60 : Shape := ⟨2, ![1024, 60]⟩
abbrev S1024x2560 : Shape := ⟨2, ![1024, 2560]⟩
abbrev S1024x3584 : Shape := ⟨2, ![1024, 3584]⟩
abbrev S2x64x128 : Shape := ⟨3, ![2, 64, 128]⟩
abbrev S2x2 : Shape := ⟨2, ![2, 2]⟩
abbrev S2x1x2x1 : Shape := ⟨4, ![2, 1, 2, 1]⟩
abbrev S2x64x1x128 : Shape := ⟨4, ![2, 64, 1, 128]⟩
abbrev S2x64x2x128 : Shape := ⟨4, ![2, 64, 2, 128]⟩
abbrev S128x256 : Shape := ⟨2, ![128, 256]⟩
abbrev S1x128x256 : Shape := ⟨3, ![1, 128, 256]⟩
abbrev S4x128x256 : Shape := ⟨3, ![4, 128, 256]⟩
abbrev S1x128 : Shape := ⟨2, ![1, 128]⟩
abbrev S8x128x32768 : Shape := ⟨3, ![8, 128, 32768]⟩
abbrev S32768x128 : Shape := ⟨2, ![32768, 128]⟩
abbrev S256x144x128 : Shape := ⟨3, ![256, 144, 128]⟩
abbrev S256x32768 : Shape := ⟨2, ![256, 32768]⟩
abbrev S32768x64 : Shape := ⟨2, ![32768, 64]⟩
abbrev S8x32768 : Shape := ⟨2, ![8, 32768]⟩
abbrev S32768x512 : Shape := ⟨2, ![32768, 512]⟩
abbrev S512x1024 : Shape := ⟨2, ![512, 1024]⟩
abbrev S8x128x512 : Shape := ⟨3, ![8, 128, 512]⟩
abbrev S512x128 : Shape := ⟨2, ![512, 128]⟩
abbrev S4x144x128 : Shape := ⟨3, ![4, 144, 128]⟩
abbrev S256x512 : Shape := ⟨2, ![256, 512]⟩
abbrev S512x64 : Shape := ⟨2, ![512, 64]⟩
abbrev S8x512 : Shape := ⟨2, ![8, 512]⟩
abbrev S512x512 : Shape := ⟨2, ![512, 512]⟩
abbrev S1024x512 : Shape := ⟨2, ![1024, 512]⟩
abbrev S512x256 : Shape := ⟨2, ![512, 256]⟩
abbrev S1024x128 : Shape := ⟨2, ![1024, 128]⟩
abbrev S512 : Shape := ⟨1, ![512]⟩
abbrev S512x1 : Shape := ⟨2, ![512, 1]⟩
abbrev S128x512 : Shape := ⟨2, ![128, 512]⟩
abbrev S16x128 : Shape := ⟨2, ![16, 128]⟩
abbrev S128x128 : Shape := ⟨2, ![128, 128]⟩
abbrev S144x128 : Shape := ⟨2, ![144, 128]⟩
abbrev S1x144x128 : Shape := ⟨3, ![1, 144, 128]⟩
abbrev S1024x256 : Shape := ⟨2, ![1024, 256]⟩
abbrev S1x512 : Shape := ⟨2, ![1, 512]⟩

abbrev nBuf : Space → Nat
  | .hbm => 86
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S1024x3524, .f32⟩
  | .hbm, ⟨2, _⟩ => ⟨S128, .f32⟩
  | .hbm, ⟨3, _⟩ => ⟨S8x64x128, .f32⟩
  | .hbm, ⟨4, _⟩ => ⟨S2x512, .f32⟩
  | .hbm, ⟨5, _⟩ => ⟨S1024x964, .f32⟩
  | .hbm, ⟨6, _⟩ => ⟨S_, .f32⟩
  | .hbm, ⟨7, _⟩ => ⟨S1024x60, .f32⟩
  | .hbm, ⟨8, _⟩ => ⟨S1024x2560, .f32⟩
  | .hbm, ⟨9, _⟩ => ⟨S1024x3584, .f32⟩
  | .hbm, ⟨10, _⟩ => ⟨S1024x3584, .bf16⟩
  | .hbm, ⟨11, _⟩ => ⟨S2x64x128, .f32⟩
  | .hbm, ⟨12, _⟩ => ⟨S2x2, .i32⟩
  | .hbm, ⟨13, _⟩ => ⟨S2x2, .i32⟩
  | .hbm, ⟨14, _⟩ => ⟨S_, .i32⟩
  | .hbm, ⟨15, _⟩ => ⟨S2x2, .i32⟩
  | .hbm, ⟨16, _⟩ => ⟨S2x2, .i32⟩
  | .hbm, ⟨17, _⟩ => ⟨S2x2, .i1⟩
  | .hbm, ⟨18, _⟩ => ⟨S2x2, .f32⟩
  | .hbm, ⟨19, _⟩ => ⟨S2x1x2x1, .f32⟩
  | .hbm, ⟨20, _⟩ => ⟨S2x64x1x128, .f32⟩
  | .hbm, ⟨21, _⟩ => ⟨S2x64x2x128, .f32⟩
  | .hbm, ⟨22, _⟩ => ⟨S2x64x2x128, .f32⟩
  | .hbm, ⟨23, _⟩ => ⟨S2x64x2x128, .f32⟩
  | .hbm, ⟨24, _⟩ => ⟨S128x256, .f32⟩
  | .hbm, ⟨25, _⟩ => ⟨S2x64x128, .f32⟩
  | .hbm, ⟨26, _⟩ => ⟨S2x2, .i32⟩
  | .hbm, ⟨27, _⟩ => ⟨S2x2, .i32⟩
  | .hbm, ⟨28, _⟩ => ⟨S_, .i32⟩
  | .hbm, ⟨29, _⟩ => ⟨S2x2, .i32⟩
  | .hbm, ⟨30, _⟩ => ⟨S2x2, .i32⟩
  | .hbm, ⟨31, _⟩ => ⟨S2x2, .i1⟩
  | .hbm, ⟨32, _⟩ => ⟨S2x2, .f32⟩
  | .hbm, ⟨33, _⟩ => ⟨S2x1x2x1, .f32⟩
  | .hbm, ⟨34, _⟩ => ⟨S2x64x1x128, .f32⟩
  | .hbm, ⟨35, _⟩ => ⟨S2x64x2x128, .f32⟩
  | .hbm, ⟨36, _⟩ => ⟨S2x64x2x128, .f32⟩
  | .hbm, ⟨37, _⟩ => ⟨S2x64x2x128, .f32⟩
  | .hbm, ⟨38, _⟩ => ⟨S128x256, .f32⟩
  | .hbm, ⟨39, _⟩ => ⟨S2x64x128, .f32⟩
  | .hbm, ⟨40, _⟩ => ⟨S2x2, .i32⟩
  | .hbm, ⟨41, _⟩ => ⟨S2x2, .i32⟩
  | .hbm, ⟨42, _⟩ => ⟨S_, .i32⟩
  | .hbm, ⟨43, _⟩ => ⟨S2x2, .i32⟩
  | .hbm, ⟨44, _⟩ => ⟨S2x2, .i32⟩
  | .hbm, ⟨45, _⟩ => ⟨S2x2, .i1⟩
  | .hbm, ⟨46, _⟩ => ⟨S2x2, .f32⟩
  | .hbm, ⟨47, _⟩ => ⟨S2x1x2x1, .f32⟩
  | .hbm, ⟨48, _⟩ => ⟨S2x64x1x128, .f32⟩
  | .hbm, ⟨49, _⟩ => ⟨S2x64x2x128, .f32⟩
  | .hbm, ⟨50, _⟩ => ⟨S2x64x2x128, .f32⟩
  | .hbm, ⟨51, _⟩ => ⟨S2x64x2x128, .f32⟩
  | .hbm, ⟨52, _⟩ => ⟨S128x256, .f32⟩
  | .hbm, ⟨53, _⟩ => ⟨S2x64x128, .f32⟩
  | .hbm, ⟨54, _⟩ => ⟨S2x2, .i32⟩
  | .hbm, ⟨55, _⟩ => ⟨S2x2, .i32⟩
  | .hbm, ⟨56, _⟩ => ⟨S_, .i32⟩
  | .hbm, ⟨57, _⟩ => ⟨S2x2, .i32⟩
  | .hbm, ⟨58, _⟩ => ⟨S2x2, .i32⟩
  | .hbm, ⟨59, _⟩ => ⟨S2x2, .i1⟩
  | .hbm, ⟨60, _⟩ => ⟨S2x2, .f32⟩
  | .hbm, ⟨61, _⟩ => ⟨S2x1x2x1, .f32⟩
  | .hbm, ⟨62, _⟩ => ⟨S2x64x1x128, .f32⟩
  | .hbm, ⟨63, _⟩ => ⟨S2x64x2x128, .f32⟩
  | .hbm, ⟨64, _⟩ => ⟨S2x64x2x128, .f32⟩
  | .hbm, ⟨65, _⟩ => ⟨S2x64x2x128, .f32⟩
  | .hbm, ⟨66, _⟩ => ⟨S128x256, .f32⟩
  | .hbm, ⟨67, _⟩ => ⟨S1x128x256, .f32⟩
  | .hbm, ⟨68, _⟩ => ⟨S1x128x256, .f32⟩
  | .hbm, ⟨69, _⟩ => ⟨S1x128x256, .f32⟩
  | .hbm, ⟨70, _⟩ => ⟨S1x128x256, .f32⟩
  | .hbm, ⟨71, _⟩ => ⟨S4x128x256, .f32⟩
  | .hbm, ⟨72, _⟩ => ⟨S4x128x256, .bf16⟩
  | .hbm, ⟨73, _⟩ => ⟨S1x128, .f32⟩
  | .hbm, ⟨74, _⟩ => ⟨S8x128x32768, .bf16⟩
  | .hbm, ⟨75, _⟩ => ⟨S32768x128, .bf16⟩
  | .hbm, ⟨76, _⟩ => ⟨S256x144x128, .bf16⟩
  | .hbm, ⟨77, _⟩ => ⟨S256x32768, .bf16⟩
  | .hbm, ⟨78, _⟩ => ⟨S32768x64, .bf16⟩
  | .hbm, ⟨79, _⟩ => ⟨S8x32768, .f32⟩
  | .hbm, ⟨80, _⟩ => ⟨S32768x512, .f32⟩
  | .hbm, ⟨81, _⟩ => ⟨S32768x512, .f32⟩
  | .hbm, ⟨82, _⟩ => ⟨S32768x512, .f32⟩
  | .hbm, ⟨83, _⟩ => ⟨S32768x512, .f32⟩
  | .hbm, ⟨84, _⟩ => ⟨S32768x512, .f32⟩
  | .hbm, ⟨85, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S4x128x256, .bf16⟩
  | .local _ .vmem, ⟨4, _⟩ => ⟨S1x128, .f32⟩
  | .local _ .vmem, ⟨5, _⟩ => ⟨S2x512, .f32⟩
  | .local _ .vmem, ⟨6, _⟩ => ⟨S8x128x512, .bf16⟩
  | .local _ .vmem, ⟨7, _⟩ => ⟨S8x128x512, .bf16⟩
  | .local _ .vmem, ⟨8, _⟩ => ⟨S512x128, .bf16⟩
  | .local _ .vmem, ⟨9, _⟩ => ⟨S512x128, .bf16⟩
  | .local _ .vmem, ⟨10, _⟩ => ⟨S4x144x128, .bf16⟩
  | .local _ .vmem, ⟨11, _⟩ => ⟨S4x144x128, .bf16⟩
  | .local _ .vmem, ⟨12, _⟩ => ⟨S256x512, .bf16⟩
  | .local _ .vmem, ⟨13, _⟩ => ⟨S256x512, .bf16⟩
  | .local _ .vmem, ⟨14, _⟩ => ⟨S512x64, .bf16⟩
  | .local _ .vmem, ⟨15, _⟩ => ⟨S512x64, .bf16⟩
  | .local _ .vmem, ⟨16, _⟩ => ⟨S8x512, .f32⟩
  | .local _ .vmem, ⟨17, _⟩ => ⟨S8x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64_0 : Ref sig .tc := ⟨.hbm, 74, rfl⟩
abbrev main_v64_1 : Ref sig .tc := ⟨.hbm, 75, rfl⟩
abbrev main_v64_2 : Ref sig .tc := ⟨.hbm, 76, rfl⟩
abbrev main_v64_3 : Ref sig .tc := ⟨.hbm, 77, rfl⟩
abbrev main_v64_4 : Ref sig .tc := ⟨.hbm, 78, rfl⟩
abbrev main_v64_5 : Ref sig .tc := ⟨.hbm, 79, rfl⟩
abbrev main_v64_6 : Ref sig .tc := ⟨.hbm, 80, rfl⟩
abbrev main_v64_7 : Ref sig .tc := ⟨.hbm, 81, rfl⟩
abbrev main_v64_8 : Ref sig .tc := ⟨.hbm, 82, rfl⟩
abbrev main_v64_9 : Ref sig .tc := ⟨.hbm, 83, rfl⟩
abbrev main_v64_10 : Ref sig .tc := ⟨.hbm, 84, rfl⟩
abbrev main_v64_11 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x144x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjReferenceIdeal.lean ====
abbrev S32768x1024 : Shape := ⟨2, ![32768, 1024]⟩
abbrev S1024x3524 : Shape := ⟨2, ![1024, 3524]⟩
abbrev S128 : Shape := ⟨1, ![128]⟩
abbrev S8x64x128 : Shape := ⟨3, ![8, 64, 128]⟩
abbrev S2x512 : Shape := ⟨2, ![2, 512]⟩
abbrev S_ : Shape := ⟨0, ![]⟩
abbrev S512 : Shape := ⟨1, ![512]⟩
abbrev S1x512 : Shape := ⟨2, ![1, 512]⟩
abbrev S32768x3524 : Shape := ⟨2, ![32768, 3524]⟩
abbrev S32768x512 : Shape := ⟨2, ![32768, 512]⟩
abbrev S32768x128 : Shape := ⟨2, ![32768, 128]⟩
abbrev S32768x256 : Shape := ⟨2, ![32768, 256]⟩
abbrev S32768x64 : Shape := ⟨2, ![32768, 64]⟩
abbrev S32768x4 : Shape := ⟨2, ![32768, 4]⟩
abbrev S32768x8x64 : Shape := ⟨3, ![32768, 8, 64]⟩
abbrev S8x128x32768 : Shape := ⟨3, ![8, 128, 32768]⟩
abbrev S32768x8x128 : Shape := ⟨3, ![32768, 8, 128]⟩
abbrev S32768 : Shape := ⟨1, ![32768]⟩
abbrev S32768x1 : Shape := ⟨2, ![32768, 1]⟩
abbrev S1x128 : Shape := ⟨2, ![1, 128]⟩
abbrev S128x32768 : Shape := ⟨2, ![128, 32768]⟩
abbrev S1x32768 : Shape := ⟨2, ![1, 32768]⟩
abbrev S15x32768 : Shape := ⟨2, ![15, 32768]⟩
abbrev S144x32768 : Shape := ⟨2, ![144, 32768]⟩
abbrev S32768x8 : Shape := ⟨2, ![32768, 8]⟩
abbrev S144x256x128 : Shape := ⟨3, ![144, 256, 128]⟩
abbrev S256x144x128 : Shape := ⟨3, ![256, 144, 128]⟩
abbrev S256x32768 : Shape := ⟨2, ![256, 32768]⟩
abbrev S8x32768 : Shape := ⟨2, ![8, 32768]⟩

abbrev nBuf : Space → Nat
  | .hbm => 136
  | .vmem => 0
  | .smem => 0
  | _ => 0

abbrev hbmTy0_0 (i : Nat) : BufTy := match i % 128 with
  | 0 => ⟨S32768x1024, .f32⟩
  | 1 => ⟨S1024x3524, .f32⟩
  | 2 => ⟨S128, .f32⟩
  | 3 => ⟨S8x64x128, .f32⟩
  | 4 => ⟨S2x512, .f32⟩
  | 5 => ⟨S_, .f32⟩
  | 6 => ⟨S512, .f32⟩
  | 7 => ⟨S_, .f32⟩
  | 8 => ⟨S512, .f32⟩
  | 9 => ⟨S512, .f32⟩
  | 10 => ⟨S1x512, .f32⟩
  | 11 => ⟨S2x512, .f32⟩
  | 12 => ⟨S2x512, .f32⟩
  | 13 => ⟨S2x512, .f32⟩
  | 14 => ⟨S_, .f32⟩
  | 15 => ⟨S512, .f32⟩
  | 16 => ⟨S1x512, .f32⟩
  | 17 => ⟨S2x512, .f32⟩
  | 18 => ⟨S2x512, .f32⟩
  | 19 => ⟨S_, .f32⟩
  | 20 => ⟨S_, .f32⟩
  | 21 => ⟨S2x512, .f32⟩
  | 22 => ⟨S1x512, .f32⟩
  | 23 => ⟨S2x512, .f32⟩
  | 24 => ⟨S2x512, .f32⟩
  | 25 => ⟨S1x512, .f32⟩
  | 26 => ⟨S512, .f32⟩
  | 27 => ⟨S32768x3524, .f32⟩
  | 28 => ⟨S32768x512, .f32⟩
  | 29 => ⟨S32768x128, .f32⟩
  | 30 => ⟨S32768x256, .f32⟩
  | 31 => ⟨S32768x64, .f32⟩
  | 32 => ⟨S32768x4, .f32⟩
  | 33 => ⟨S32768x512, .f32⟩
  | 34 => ⟨S32768x512, .f32⟩
  | 35 => ⟨S32768x512, .f32⟩
  | 36 => ⟨S32768x512, .f32⟩
  | 37 => ⟨S32768x512, .f32⟩
  | 38 => ⟨S32768x8x64, .f32⟩
  | 39 => ⟨S8x128x32768, .f32⟩
  | 40 => ⟨S32768x8x128, .f32⟩
  | 41 => ⟨S32768x128, .f32⟩
  | 42 => ⟨S_, .f32⟩
  | 43 => ⟨S32768, .f32⟩
  | 44 => ⟨S32768x1, .f32⟩
  | 45 => ⟨S_, .f32⟩
  | 46 => ⟨S32768x1, .f32⟩
  | 47 => ⟨S32768x1, .f32⟩
  | 48 => ⟨S_, .f32⟩
  | 49 => ⟨S32768x1, .f32⟩
  | 50 => ⟨S32768x1, .f32⟩
  | 51 => ⟨S32768x1, .f32⟩
  | 52 => ⟨S32768x128, .f32⟩
  | 53 => ⟨S32768x128, .f32⟩
  | 54 => ⟨S1x128, .f32⟩
  | 55 => ⟨S32768x128, .f32⟩
  | 56 => ⟨S32768x128, .f32⟩
  | 57 => ⟨S128x32768, .f32⟩
  | 58 => ⟨S_, .f32⟩
  | 59 => ⟨S1x32768, .f32⟩
  | 60 => ⟨S_, .f32⟩
  | 61 => ⟨S15x32768, .f32⟩
  | 62 => ⟨S144x32768, .f32⟩
  | 63 => ⟨S_, .f32⟩
  | 64 => ⟨S32768x4, .f32⟩
  | 65 => ⟨S32768x8, .f32⟩
  | 66 => ⟨S_, .f32⟩
  | 67 => ⟨S512, .f32⟩
  | 68 => ⟨S512, .f32⟩
  | 69 => ⟨S32768x512, .f32⟩
  | 70 => ⟨S32768x512, .f32⟩
  | 71 => ⟨S_, .f32⟩
  | 72 => ⟨S32768x512, .f32⟩
  | 73 => ⟨S32768x512, .f32⟩
  | 74 => ⟨S_, .f32⟩
  | 75 => ⟨S32768x512, .f32⟩
  | 76 => ⟨S32768x512, .f32⟩
  | 77 => ⟨S1x512, .f32⟩
  | 78 => ⟨S32768x512, .f32⟩
  | 79 => ⟨S32768x512, .f32⟩
  | 80 => ⟨S1x512, .f32⟩
  | 81 => ⟨S32768x512, .f32⟩
  | 82 => ⟨S32768x512, .f32⟩
  | 83 => ⟨S_, .f32⟩
  | 84 => ⟨S32768x8x128, .f32⟩
  | 85 => ⟨S32768x8x128, .f32⟩
  | 86 => ⟨S8x128x32768, .f32⟩
  | 87 => ⟨S8x128x32768, .bf16⟩
  | 88 => ⟨S32768x128, .bf16⟩
  | 89 => ⟨S144x256x128, .f32⟩
  | 90 => ⟨S256x144x128, .f32⟩
  | 91 => ⟨S256x144x128, .bf16⟩
  | 92 => ⟨S256x32768, .f32⟩
  | 93 => ⟨S256x32768, .bf16⟩
  | 94 => ⟨S32768x64, .bf16⟩
  | 95 => ⟨S8x32768, .f32⟩
  | 96 => ⟨S_, .f32⟩
  | 97 => ⟨S8x32768, .f32⟩
  | 98 => ⟨S8x32768, .f32⟩
  | 99 => ⟨S32768x512, .f32⟩
  | 100 => ⟨S32768x512, .f32⟩
  | 101 => ⟨S_, .f32⟩
  | 102 => ⟨S32768x512, .f32⟩
  | 103 => ⟨S32768x512, .f32⟩
  | 104 => ⟨S_, .f32⟩
  | 105 => ⟨S32768x512, .f32⟩
  | 106 => ⟨S32768x512, .f32⟩
  | 107 => ⟨S32768x512, .f32⟩
  | 108 => ⟨S32768x512, .f32⟩
  | 109 => ⟨S32768x512, .f32⟩
  | 110 => ⟨S_, .f32⟩
  | 111 => ⟨S32768x512, .f32⟩
  | 112 => ⟨S32768x512, .f32⟩
  | 113 => ⟨S_, .f32⟩
  | 114 => ⟨S32768x512, .f32⟩
  | 115 => ⟨S32768x512, .f32⟩
  | 116 => ⟨S32768x512, .f32⟩
  | 117 => ⟨S_, .f32⟩
  | 118 => ⟨S32768x512, .f32⟩
  | 119 => ⟨S32768x512, .f32⟩
  | 120 => ⟨S32768x512, .f32⟩
  | 121 => ⟨S_, .f32⟩
  | 122 => ⟨S32768x512, .f32⟩
  | 123 => ⟨S32768x512, .f32⟩
  | 124 => ⟨S_, .f32⟩
  | 125 => ⟨S32768x512, .f32⟩
  | 126 => ⟨S32768x512, .f32⟩
  | 127 => ⟨S32768x512, .f32⟩
  | _ => ⟨S32768x1024, .f32⟩

abbrev hbmTy0_1 (i : Nat) : BufTy := match i % 128 with
  | 0 => ⟨S32768x512, .f32⟩
  | 1 => ⟨S_, .f32⟩
  | 2 => ⟨S32768x512, .f32⟩
  | 3 => ⟨S32768x512, .f32⟩
  | 4 => ⟨S_, .f32⟩
  | 5 => ⟨S32768x512, .f32⟩
  | 6 => ⟨S32768x512, .f32⟩
  | 7 => ⟨S32768x512, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_12 : Ref sig .tc := ⟨.hbm, 96, rfl⟩
abbrev main_v76 : Ref sig .tc := ⟨.hbm, 97, rfl⟩
abbrev main_v77 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v78 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_14 : Ref sig .tc := ⟨.hbm, 121, rfl⟩
abbrev main_v83 : Ref sig .tc := ⟨.hbm, 122, rfl⟩
abbrev main_v84 : Ref sig .tc := ⟨.hbm, 123, rfl⟩
abbrev main_cst_15 : Ref sig .tc := ⟨.hbm, 124, rfl⟩
abbrev main_v85 : Ref sig .tc := ⟨.hbm, 125, rfl⟩
abbrev main_v86 : Ref sig .tc := ⟨.hbm, 126, rfl⟩
abbrev main_call3_v0 : Ref sig .tc := ⟨.hbm, 127, rfl⟩
abbrev main_call3_v1 : Ref sig .tc := ⟨.hbm, 128, rfl⟩
abbrev main_call3_cst : Ref sig .tc := ⟨.hbm, 129, rfl⟩
abbrev main_call3_v2 : Ref sig .tc := ⟨.hbm, 130, rfl⟩
abbrev main_call3_v3 : Ref sig .tc := ⟨.hbm, 131, rfl⟩
abbrev main_call3_cst_0 : Ref sig .tc := ⟨.hbm, 132, rfl⟩
abbrev main_call3_v4 : Ref sig .tc := ⟨.hbm, 133, rfl⟩
abbrev main_call3_v5 : Ref sig .tc := ⟨.hbm, 134, rfl⟩
abbrev main_v87 : Ref sig .tc := ⟨.hbm, 135, rfl⟩

abbrev nD : Nat := 1
abbrev τ : Topo := Topo.v7x

variable {F : FTy → Type} [FloatOps F]
-- ==== MetaHgrnKernel.lean ====
abbrev S16x512 : Shape := ⟨2, ![16, 512]⟩
abbrev S4x128x128 : Shape := ⟨3, ![4, 128, 128]⟩
abbrev S128 : Shape := ⟨1, ![128]⟩
abbrev S16x16 : Shape := ⟨2, ![16, 16]⟩
abbrev S5x16x16 : Shape := ⟨3, ![5, 16, 16]⟩
abbrev S1x128 : Shape := ⟨2, ![1, 128]⟩
abbrev S1x4x128x128 : Shape := ⟨4, ![1, 4, 128, 128]⟩
abbrev S16x128 : Shape := ⟨2, ![16, 128]⟩
abbrev S1x16x16 : Shape := ⟨3, ![1, 16, 16]⟩
abbrev S8x128 : Shape := ⟨2, ![8, 128]⟩
abbrev S1x128x128 : Shape := ⟨3, ![1, 128, 128]⟩
abbrev S128x128 : Shape := ⟨2, ![128, 128]⟩
abbrev S16 : Shape := ⟨1, ![16]⟩
abbrev S16x1 : Shape := ⟨2, ![16, 1]⟩

abbrev nBuf : Space → Nat
  | .hbm => 12
  | .vmem => 12
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S4x128x128, .f32⟩
  | .hbm, ⟨6, _⟩ => ⟨S128, .f32⟩
  | .hbm, ⟨7, _⟩ => ⟨S16x16, .bf16⟩
  | .hbm, ⟨8, _⟩ => ⟨S5x16x16, .f32⟩
  | .hbm, ⟨9, _⟩ => ⟨S1x128, .f32⟩
  | .hbm, ⟨10, _⟩ => ⟨S16x512, .bf16⟩
  | .hbm, ⟨11, _⟩ => ⟨S1x4x128x128, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S4x128x128, .f32⟩
  | .local _ .vmem, ⟨6, _⟩ => ⟨S1x128, .f32⟩
  | .local _ .vmem, ⟨7, _⟩ => ⟨S16x16, .bf16⟩
  | .local _ .vmem, ⟨8, _⟩ => ⟨S5x16x16, .f32⟩
  | .local _ .vmem, ⟨9, _⟩ => ⟨S16x512, .bf16⟩
  | .local _ .vmem, ⟨10, _⟩ => ⟨S1x4x128x128, .f32⟩
  | .local _ .vmem, ⟨11, _⟩ => ⟨S4x128x128, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_247 : BitVec 32 := 0#32
  let v621 : BitVec 1 := Scalar.cmpi .eq arg1 c0_i32_247
  let v622 : BitVec 32 := Scalar.extui v621
  let c0_i32_248 : BitVec 32 := 0#32
  let v623 : BitVec 1 := Scalar.cmpi .ne v622 c0_i32_248
  v623

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5x16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== MetaHgrnReferenceIdeal.lean ====
abbrev S16x512 : Shape := ⟨2, ![16, 512]⟩
abbrev S4x128x128 : Shape := ⟨3, ![4, 128, 128]⟩
abbrev S128 : Shape := ⟨1, ![128]⟩
abbrev S16x4x128 : Shape := ⟨3, ![16, 4, 128]⟩
abbrev S4x16x128 : Shape := ⟨3, ![4, 16, 128]⟩
abbrev S_ : Shape := ⟨0, ![]⟩
abbrev S16x16 : Shape := ⟨2, ![16, 16]⟩
abbrev S4x16x1x128 : Shape := ⟨4, ![4, 16, 1, 128]⟩
abbrev S4x1x16x128 : Shape := ⟨4, ![4, 1, 16, 128]⟩
abbrev S4x16x16x128 : Shape := ⟨4, ![4, 16, 16, 128]⟩
abbrev S16x16x1 : Shape := ⟨3, ![16, 16, 1]⟩
abbrev S4x16x16 : Shape := ⟨3, ![4, 16, 16]⟩
abbrev S4x1x128 : Shape := ⟨3, ![4, 1, 128]⟩
abbrev S16x4 : Shape := ⟨2, ![16, 4]⟩
abbrev S16x4x1 : Shape := ⟨3, ![16, 4, 1]⟩
abbrev S1x1x128 : Shape := ⟨3, ![1, 1, 128]⟩
abbrev S1x4x128x128 : Shape := ⟨4, ![1, 4, 128, 128]⟩

abbrev nBuf : Space → Nat
  | .hbm => 93
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S4x128x128, .f32⟩
  | .hbm, ⟨6, _⟩ => ⟨S128, .f32⟩
  | .hbm, ⟨7, _⟩ => ⟨S16x4x128, .f32⟩
  | .hbm, ⟨8, _⟩ => ⟨S4x16x128, .f32⟩
  | .hbm, ⟨9, _⟩ => ⟨S16x4x128, .f32⟩
  | .hbm, ⟨10, _⟩ => ⟨S4x16x128, .f32⟩
  | .hbm, ⟨11, _⟩ => ⟨S16x4x128, .f32⟩
  | .hbm, ⟨12, _⟩ => ⟨S4x16x128, .f32⟩
  | .hbm, ⟨13, _⟩ => ⟨S16x4x128, .f32⟩
  | .hbm, ⟨14, _⟩ => ⟨S4x16x128, .f32⟩
  | .hbm, ⟨15, _⟩ => ⟨S_, .i1⟩
  | .hbm, ⟨16, _⟩ => ⟨S16x16, .i1⟩
  | .hbm, ⟨17, _⟩ => ⟨S16x16, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S16x16, .i32⟩
  | .hbm, ⟨22, _⟩ => ⟨S16x16, .i1⟩
  | .hbm, ⟨23, _⟩ => ⟨S_, .i1⟩
  | .hbm, ⟨24, _⟩ => ⟨S16x16, .i1⟩
  | .hbm, ⟨25, _⟩ => ⟨S16x16, .i1⟩
  | .hbm, ⟨26, _⟩ => ⟨S_, .f32⟩
  | .hbm, ⟨27, _⟩ => ⟨S_, .f32⟩
  | .hbm, ⟨28, _⟩ => ⟨S4x16x128, .f32⟩
  | .hbm, ⟨29, _⟩ => ⟨S_, .f32⟩
  | .hbm, ⟨30, _⟩ => ⟨S4x16x128, .f32⟩
  | .hbm, ⟨31, _⟩ => ⟨S4x16x128, .f32⟩
  | .hbm, ⟨32, _⟩ => ⟨S4x16x128, .f32⟩
  | .hbm, ⟨33, _⟩ => ⟨S4x16x128, .f32⟩
  | .hbm, ⟨34, _⟩ => ⟨S4x16x1x128, .f32⟩
  | .hbm, ⟨35, _⟩ => ⟨S4x1x16x128, .f32⟩
  | .hbm, ⟨36, _⟩ => ⟨S4x16x16x128, .f32⟩
  | .hbm, ⟨37, _⟩ => ⟨S4x16x16x128, .f32⟩
  | .hbm, ⟨38, _⟩ => ⟨S4x16x16x128, .f32⟩
  | .hbm, ⟨39, _⟩ => ⟨S16x16x1, .i1⟩
  | .hbm, ⟨40, _⟩ => ⟨S_, .f32⟩
  | .hbm, ⟨41, _⟩ => ⟨S_, .f32⟩
  | .hbm, ⟨42, _⟩ => ⟨S4x16x16x128, .i1⟩
  | .hbm, ⟨43, _⟩ => ⟨S4x16x16x128, .f32⟩
  | .hbm, ⟨44, _⟩ => ⟨S4x16x16x128, .f32⟩
  | .hbm, ⟨45, _⟩ => ⟨S_, .f32⟩
  | .hbm, ⟨46, _⟩ => ⟨S4x16x16x128, .f32⟩
  | .hbm, ⟨47, _⟩ => ⟨S4x16x16x128, .f32⟩
  | .hbm, ⟨48, _⟩ => ⟨S4x16x1x128, .f32⟩
  | .hbm, ⟨49, _⟩ => ⟨S4x16x16x128, .f32⟩
  | .hbm, ⟨50, _⟩ => ⟨S4x16x16x128, .f32⟩
  | .hbm, ⟨51, _⟩ => ⟨S4x1x16x128, .f32⟩
  | .hbm, ⟨52, _⟩ => ⟨S4x16x16x128, .f32⟩
  | .hbm, ⟨53, _⟩ => ⟨S4x16x16x128, .f32⟩
  | .hbm, ⟨54, _⟩ => ⟨S_, .f32⟩
  | .hbm, ⟨55, _⟩ => ⟨S4x16x16, .f32⟩
  | .hbm, ⟨56, _⟩ => ⟨S4x16x128, .f32⟩
  | .hbm, ⟨57, _⟩ => ⟨S4x1x128, .f32⟩
  | .hbm, ⟨58, _⟩ => ⟨S_, .f32⟩
  | .hbm, ⟨59, _⟩ => ⟨S4x1x128, .f32⟩
  | .hbm, ⟨60, _⟩ => ⟨S4x1x128, .f32⟩
  | .hbm, ⟨61, _⟩ => ⟨S4x128x128, .f32⟩
  | .hbm, ⟨62, _⟩ => ⟨S4x128x128, .f32⟩
  | .hbm, ⟨63, _⟩ => ⟨S4x16x128, .f32⟩
  | .hbm, ⟨64, _⟩ => ⟨S4x16x128, .f32⟩
  | .hbm, ⟨65, _⟩ => ⟨S_, .f32⟩
  | .hbm, ⟨66, _⟩ => ⟨S4x16x128, .f32⟩
  | .hbm, ⟨67, _⟩ => ⟨S4x16x128, .f32⟩
  | .hbm, ⟨68, _⟩ => ⟨S4x16x128, .f32⟩
  | .hbm, ⟨69, _⟩ => ⟨S4x128x128, .f32⟩
  | .hbm, ⟨70, _⟩ => ⟨S4x128x128, .f32⟩
  | .hbm, ⟨71, _⟩ => ⟨S4x16x128, .f32⟩
  | .hbm, ⟨72, _⟩ => ⟨S16x4x128, .f32⟩
  | .hbm, ⟨73, _⟩ => ⟨S16x4x128, .f32⟩
  | .hbm, ⟨74, _⟩ => ⟨S_, .f32⟩
  | .hbm, ⟨75, _⟩ => ⟨S16x4, .f32⟩
  | .hbm, ⟨76, _⟩ => ⟨S16x4x1, .f32⟩
  | .hbm, ⟨77, _⟩ => ⟨S_, .f32⟩
  | .hbm, ⟨78, _⟩ => ⟨S16x4x1, .f32⟩
  | .hbm, ⟨79, _⟩ => ⟨S16x4x1, .f32⟩
  | .hbm, ⟨80, _⟩ => ⟨S_, .f32⟩
  | .hbm, ⟨81, _⟩ => ⟨S16x4x1, .f32⟩
  | .hbm, ⟨82, _⟩ => ⟨S16x4x1, .f32⟩
  | .hbm, ⟨83, _⟩ => ⟨S16x4x1, .f32⟩
  | .hbm, ⟨84, _⟩ => ⟨S16x4x128, .f32⟩
  | .hbm, ⟨85, _⟩ => ⟨S16x4x128, .f32⟩
  | .hbm, ⟨86, _⟩ => ⟨S1x1x128, .f32⟩
  | .hbm, ⟨87, _⟩ => ⟨S16x4x128, .f32⟩
  | .hbm, ⟨88, _⟩ => ⟨S16x4x128, .f32⟩
  | .hbm, ⟨89, _⟩ => ⟨S16x512, .f32⟩
  | .hbm, ⟨90, _⟩ => ⟨S16x512, .f32⟩
  | .hbm, ⟨91, _⟩ => ⟨S16x512, .bf16⟩
  | .hbm, ⟨92, _⟩ => ⟨S1x4x128x128, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v9 : Ref sig .tc := ⟨.hbm, 25, rfl⟩
abbrev main_call1_call0_cst : Ref sig .tc := ⟨.hbm, 26, rfl⟩
abbrev main_call1_call0_v0 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== MetaAttnKernel.lean ====
abbrev S8x128x16 : Shape := ⟨3, ![8, 128, 16]⟩
abbrev S16x128 : Shape := ⟨2, ![16, 128]⟩
abbrev S128x16 : Shape := ⟨2, ![128, 16]⟩
abbrev S16x512 : Shape := ⟨2, ![16, 512]⟩
abbrev S3x128x1024 : Shape := ⟨3, ![3, 128, 1024]⟩
abbrev S8x128x64 : Shape := ⟨3, ![8, 128, 64]⟩
abbrev S2x128x64 : Shape := ⟨3, ![2, 128, 64]⟩
abbrev S2x2 : Shape := ⟨2, ![2, 2]⟩
abbrev S_ : Shape := ⟨0, ![]⟩
abbrev S2x1x2x1 : Shape := ⟨4, ![2, 1, 2, 1]⟩
abbrev S2x128x1x64 : Shape := ⟨4, ![2, 128, 1, 64]⟩
abbrev S2x128x2x64 : Shape := ⟨4, ![2, 128, 2, 64]⟩
abbrev S256x128 : Shape := ⟨2, ![256, 128]⟩
abbrev S128x256 : Shape := ⟨2, ![128, 256]⟩
abbrev S1x128x256 : Shape := ⟨3, ![1, 128, 256]⟩
abbrev S4x128x256 : Shape := ⟨3, ![4, 128, 256]⟩
abbrev S1024x16 : Shape := ⟨2, ![1024, 16]⟩
abbrev S16x16 : Shape := ⟨2, ![16, 16]⟩
abbrev S1x128x16 : Shape := ⟨3, ![1, 128, 16]⟩
abbrev S1x16x16 : Shape := ⟨3, ![1, 16, 16]⟩
abbrev S16 : Shape := ⟨1, ![16]⟩
abbrev S1x16 : Shape := ⟨2, ![1, 16]⟩
abbrev S256x16 : Shape := ⟨2, ![256, 16]⟩
abbrev S512x16 : Shape := ⟨2, ![512, 16]⟩

abbrev nBuf : Space → Nat
  | .hbm => 73
  | .vmem => 8
  | .smem => 0
  | _ => 0

abbrev bufTy : (tb : Table) → Fin (tcTables nBuf tb) → BufTy
  | .hbm, ⟨0, _⟩ => ⟨S8x128x16, .bf16⟩
  | .hbm, ⟨1, _⟩ => ⟨S16x128, .bf16⟩
  | .hbm, ⟨2, _⟩ => ⟨S128x16, .bf16⟩
  | .hbm, ⟨3, _⟩ => ⟨S16x512, .f32⟩
  | .hbm, ⟨4, _⟩ => ⟨S3x128x1024, .f32⟩
  | .hbm, ⟨5, _⟩ => ⟨S8x128x64, .f32⟩
  | .hbm, ⟨6, _⟩ => ⟨S2x128x64, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S2x1x2x1, .f32⟩
  | .hbm, ⟨15, _⟩ => ⟨S2x128x1x64, .f32⟩
  | .hbm, ⟨16, _⟩ => ⟨S2x128x2x64, .f32⟩
  | .hbm, ⟨17, _⟩ => ⟨S2x128x2x64, .f32⟩
  | .hbm, ⟨18, _⟩ => ⟨S2x128x2x64, .f32⟩
  | .hbm, ⟨19, _⟩ => ⟨S256x128, .f32⟩
  | .hbm, ⟨20, _⟩ => ⟨S128x256, .f32⟩
  | .hbm, ⟨21, _⟩ => ⟨S2x128x64, .f32⟩
  | .hbm, ⟨22, _⟩ => ⟨S2x2, .i32⟩
  | .hbm, ⟨23, _⟩ => ⟨S2x2, .i32⟩
  | .hbm, ⟨24, _⟩ => ⟨S_, .i32⟩
  | .hbm, ⟨25, _⟩ => ⟨S2x2, .i32⟩
  | .hbm, ⟨26, _⟩ => ⟨S2x2, .i32⟩
  | .hbm, ⟨27, _⟩ => ⟨S2x2, .i1⟩
  | .hbm, ⟨28, _⟩ => ⟨S2x2, .f32⟩
  | .hbm, ⟨29, _⟩ => ⟨S2x1x2x1, .f32⟩
  | .hbm, ⟨30, _⟩ => ⟨S2x128x1x64, .f32⟩
  | .hbm, ⟨31, _⟩ => ⟨S2x128x2x64, .f32⟩
  | .hbm, ⟨32, _⟩ => ⟨S2x128x2x64, .f32⟩
  | .hbm, ⟨33, _⟩ => ⟨S2x128x2x64, .f32⟩
  | .hbm, ⟨34, _⟩ => ⟨S256x128, .f32⟩
  | .hbm, ⟨35, _⟩ => ⟨S128x256, .f32⟩
  | .hbm, ⟨36, _⟩ => ⟨S2x128x64, .f32⟩
  | .hbm, ⟨37, _⟩ => ⟨S2x2, .i32⟩
  | .hbm, ⟨38, _⟩ => ⟨S2x2, .i32⟩
  | .hbm, ⟨39, _⟩ => ⟨S_, .i32⟩
  | .hbm, ⟨40, _⟩ => ⟨S2x2, .i32⟩
  | .hbm, ⟨41, _⟩ => ⟨S2x2, .i32⟩
  | .hbm, ⟨42, _⟩ => ⟨S2x2, .i1⟩
  | .hbm, ⟨43, _⟩ => ⟨S2x2, .f32⟩
  | .hbm, ⟨44, _⟩ => ⟨S2x1x2x1, .f32⟩
  | .hbm, ⟨45, _⟩ => ⟨S2x128x1x64, .f32⟩
  | .hbm, ⟨46, _⟩ => ⟨S2x128x2x64, .f32⟩
  | .hbm, ⟨47, _⟩ => ⟨S2x128x2x64, .f32⟩
  | .hbm, ⟨48, _⟩ => ⟨S2x128x2x64, .f32⟩
  | .hbm, ⟨49, _⟩ => ⟨S256x128, .f32⟩
  | .hbm, ⟨50, _⟩ => ⟨S128x256, .f32⟩
  | .hbm, ⟨51, _⟩ => ⟨S2x128x64, .f32⟩
  | .hbm, ⟨52, _⟩ => ⟨S2x2, .i32⟩
  | .hbm, ⟨53, _⟩ => ⟨S2x2, .i32⟩
  | .hbm, ⟨54, _⟩ => ⟨S_, .i32⟩
  | .hbm, ⟨55, _⟩ => ⟨S2x2, .i32⟩
  | .hbm, ⟨56, _⟩ => ⟨S2x2, .i32⟩
  | .hbm, ⟨57, _⟩ => ⟨S2x2, .i1⟩
  | .hbm, ⟨58, _⟩ => ⟨S2x2, .f32⟩
  | .hbm, ⟨59, _⟩ => ⟨S2x1x2x1, .f32⟩
  | .hbm, ⟨60, _⟩ => ⟨S2x128x1x64, .f32⟩
  | .hbm, ⟨61, _⟩ => ⟨S2x128x2x64, .f32⟩
  | .hbm, ⟨62, _⟩ => ⟨S2x128x2x64, .f32⟩
  | .hbm, ⟨63, _⟩ => ⟨S2x128x2x64, .f32⟩
  | .hbm, ⟨64, _⟩ => ⟨S256x128, .f32⟩
  | .hbm, ⟨65, _⟩ => ⟨S128x256, .f32⟩
  | .hbm, ⟨66, _⟩ => ⟨S1x128x256, .f32⟩
  | .hbm, ⟨67, _⟩ => ⟨S1x128x256, .f32⟩
  | .hbm, ⟨68, _⟩ => ⟨S1x128x256, .f32⟩
  | .hbm, ⟨69, _⟩ => ⟨S1x128x256, .f32⟩
  | .hbm, ⟨70, _⟩ => ⟨S4x128x256, .f32⟩
  | .hbm, ⟨71, _⟩ => ⟨S4x128x256, .bf16⟩
  | .hbm, ⟨72, _⟩ => ⟨S16x512, .bf16⟩
  | .local _ .vmem, ⟨0, _⟩ => ⟨S8x128x16, .bf16⟩
  | .local _ .vmem, ⟨1, _⟩ => ⟨S16x128, .bf16⟩
  | .local _ .vmem, ⟨2, _⟩ => ⟨S128x16, .bf16⟩
  | .local _ .vmem, ⟨3, _⟩ => ⟨S16x512, .f32⟩
  | .local _ .vmem, ⟨4, _⟩ => ⟨S3x128x1024, .f32⟩
  | .local _ .vmem, ⟨5, _⟩ => ⟨S4x128x256, .bf16⟩
  | .local _ .vmem, ⟨6, _⟩ => ⟨S16x512, .bf16⟩
  | .local _ .vmem, ⟨7, _⟩ => ⟨S1024x16, .bf16⟩
  | _, _ => ⟨S8x128x16, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x128x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MetaAttnReferenceIdeal.lean ====
abbrev S8x128x16 : Shape := ⟨3, ![8, 128, 16]⟩
abbrev S16x128 : Shape := ⟨2, ![16, 128]⟩
abbrev S128x16 : Shape := ⟨2, ![128, 16]⟩
abbrev S16x512 : Shape := ⟨2, ![16, 512]⟩
abbrev S3x128x1024 : Shape := ⟨3, ![3, 128, 1024]⟩
abbrev S8x128x64 : Shape := ⟨3, ![8, 128, 64]⟩
abbrev S1x16x1024 : Shape := ⟨3, ![1, 16, 1024]⟩
abbrev S16x1024 : Shape := ⟨2, ![16, 1024]⟩
abbrev S16x8x128 : Shape := ⟨3, ![16, 8, 128]⟩
abbrev S16x8x16 : Shape := ⟨3, ![16, 8, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x1x16 : Shape := ⟨3, ![16, 1, 16]⟩
abbrev S_ : Shape := ⟨0, ![]⟩
abbrev S16x8 : Shape := ⟨2, ![16, 8]⟩
abbrev S16x8x1 : Shape := ⟨3, ![16, 8, 1]⟩
abbrev S8x64x16 : Shape := ⟨3, ![8, 64, 16]⟩
abbrev S16x8x64 : Shape := ⟨3, ![16, 8, 64]⟩

abbrev nBuf : Space → Nat
  | .hbm => 48
  | .vmem => 0
  | .smem => 0
  | _ => 0

abbrev bufTy : (tb : Table) → Fin (tcTables nBuf tb) → BufTy
  | .hbm, ⟨0, _⟩ => ⟨S8x128x16, .bf16⟩
  | .hbm, ⟨1, _⟩ => ⟨S16x128, .bf16⟩
  | .hbm, ⟨2, _⟩ => ⟨S128x16, .bf16⟩
  | .hbm, ⟨3, _⟩ => ⟨S16x512, .f32⟩
  | .hbm, ⟨4, _⟩ => ⟨S3x128x1024, .f32⟩
  | .hbm, ⟨5, _⟩ => ⟨S8x128x64, .f32⟩
  | .hbm, ⟨6, _⟩ => ⟨S1x16x1024, .f32⟩
  | .hbm, ⟨7, _⟩ => ⟨S16x1024, .f32⟩
  | .hbm, ⟨8, _⟩ => ⟨S16x8x128, .f32⟩
  | .hbm, ⟨9, _⟩ => ⟨S16x8x16, .f32⟩
  | .hbm, ⟨10, _⟩ => ⟨S16x8x16, .f32⟩
  | .hbm, ⟨11, _⟩ => ⟨S16, .i32⟩
  | .hbm, ⟨12, _⟩ => ⟨S8x128x16, .f32⟩
  | .hbm, ⟨13, _⟩ => ⟨S16x128, .f32⟩
  | .hbm, ⟨14, _⟩ => ⟨S16x8x16, .f32⟩
  | .hbm, ⟨15, _⟩ => ⟨S16x8x16, .f32⟩
  | .hbm, ⟨16, _⟩ => ⟨S16x8x16, .f32⟩
  | .hbm, ⟨17, _⟩ => ⟨S16x1, .i32⟩
  | .hbm, ⟨18, _⟩ => ⟨S1x16, .i32⟩
  | .hbm, ⟨19, _⟩ => ⟨S16x16, .i32⟩
  | .hbm, ⟨20, _⟩ => ⟨S16x16, .i32⟩
  | .hbm, ⟨21, _⟩ => ⟨S16x16, .i1⟩
  | .hbm, ⟨22, _⟩ => ⟨S16x1x16, .i1⟩
  | .hbm, ⟨23, _⟩ => ⟨S_, .f32⟩
  | .hbm, ⟨24, _⟩ => ⟨S_, .f32⟩
  | .hbm, ⟨25, _⟩ => ⟨S16x8x16, .i1⟩
  | .hbm, ⟨26, _⟩ => ⟨S16x8x16, .f32⟩
  | .hbm, ⟨27, _⟩ => ⟨S16x8x16, .f32⟩
  | .hbm, ⟨28, _⟩ => ⟨S_, .f32⟩
  | .hbm, ⟨29, _⟩ => ⟨S16x8, .f32⟩
  | .hbm, ⟨30, _⟩ => ⟨S16x8x1, .f32⟩
  | .hbm, ⟨31, _⟩ => ⟨S16x8x16, .f32⟩
  | .hbm, ⟨32, _⟩ => ⟨S16x8x16, .f32⟩
  | .hbm, ⟨33, _⟩ => ⟨S_, .f32⟩
  | .hbm, ⟨34, _⟩ => ⟨S16x8x16, .f32⟩
  | .hbm, ⟨35, _⟩ => ⟨S16x8x16, .f32⟩
  | .hbm, ⟨36, _⟩ => ⟨S_, .f32⟩
  | .hbm, ⟨37, _⟩ => ⟨S16x8, .f32⟩
  | .hbm, ⟨38, _⟩ => ⟨S16x8x1, .f32⟩
  | .hbm, ⟨39, _⟩ => ⟨S16x8x16, .f32⟩
  | .hbm, ⟨40, _⟩ => ⟨S16x8x16, .f32⟩
  | .hbm, ⟨41, _⟩ => ⟨S128x16, .f32⟩
  | .hbm, ⟨42, _⟩ => ⟨S16x8x128, .f32⟩
  | .hbm, ⟨43, _⟩ => ⟨S8x64x16, .f32⟩
  | .hbm, ⟨44, _⟩ => ⟨S16x8x64, .f32⟩
  | .hbm, ⟨45, _⟩ => ⟨S16x512, .f32⟩
  | .hbm, ⟨46, _⟩ => ⟨S16x512, .f32⟩
  | .hbm, ⟨47, _⟩ => ⟨S16x512, .bf16⟩
  | _, _ => ⟨S8x128x16, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Safe.lean ====
/-
  Hand-written, untrusted. Memory safety of the attention call's body as ONE property of program pieces. Everything the
  body does to memory is a load from, or a store into, a buffer it owns whole; which of a buffer's elements an access meets
  never matters, because the printed rectangles carry their own bounds. So the body keeps an invariant `R` — the inputs at what
  they hold, the output and the scratch at SOME contents — and a piece of it is `Safe` when it runs from `R` to `R`. `Safe` is
  closed under everything a printed body is made of: returns, sequencing, loads, stores, loops, conditionals.
-/
module

public import proofs.«01_k».proof.Kernel
public import Idealize.ShloMosaic.Rules.Step
public import Idealize.ShloMosaic.Lib.Scf
public import Idealize.ShloMosaic.Lib.Pipeline.Kit
public import Idealize.ShloMosaic.Lib.Tactic

@[expose] public section

noncomputable section

namespace Cert.Kernel.Hand

open Cert.Kernel
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [BitOps F] [Facts]

local notation "𝕄" => MT nD τ sig Unit (Elt F) ℕ (UR sig nD τ) ℕ

/-- A piece of the kernel's body. -/
abbrev Piece (F : FTy → Type) (α : Type) := Prog (TpuEff nD τ sig (Elt F) Λ₀ .tc) α

/-- From the invariant `R` the piece runs to its return and hands `R` back, whatever it returns. -/
def Safe (c : Dev nD) (R : sProp 𝕄) {α : Type} (p : Piece F α) : Prop :=
  R ⊢ wp frame (wpE (defs₀ (F := F)) Variants.none (c : Thread nD τ) none) Set.univ p fun _ => R

/-- The invariant lets a memref be read: it holds the memref's elements and takes them back unchanged. -/
def CanRead (c : Dev nD) (R : sProp 𝕄) {S : Shape} {e : EltTy} (M : Memref sig .tc .vmem S e) : Prop :=
  R ⊢ iprop(∃ f : Buf (Elt F) (M.view.loc (c : Thread nD τ)), (M.view.loc (c : Thread nD τ) ↦[M.view.set]{fullShare} f)
    ∗ ((M.view.loc (c : Thread nD τ) ↦[M.view.set]{fullShare} f) -∗ R))

/-- The invariant lets a memref be written: it holds the memref's elements and takes them back at any contents. -/
def CanWrite (c : Dev nD) (R : sProp 𝕄) {S : Shape} {e : EltTy} (M : Memref sig .tc .vmem S e) : Prop :=
  R ⊢ iprop(∃ f : Buf (Elt F) (M.view.loc (c : Thread nD τ)), (M.view.loc (c : Thread nD τ) ↦[M.view.set]{fullShare} f)
    ∗ (∀ g : Buf (Elt F) (M.view.loc (c : Thread nD τ)), (M.view.loc (c : Thread nD τ) ↦[M.view.set]{fullShare} g) -∗ R))

variable {c : Dev nD} {R : sProp (MT nD τ sig Unit (Elt F) ℕ (UR sig nD τ) ℕ)} {α β : Type}

/-- An input window at its block. -/
theorem CanRead.owns {S : Shape} {e : EltTy} {M : Memref sig .tc .vmem S e} {X : S.Idx → Elt F e} :
    CanRead c (owns (c : Thread nD τ) M fullShare X) M := by
  unfold CanRead Idealize.ShloMosaic.owns
  iintro ⟨%f, %hf, H⟩
  iexists f
  isplitl [H]
  · iexact H
  · iintro H
    iexists f
    isplitr
    · ipureintro; exact hf
    · iexact H

/-- An output window at some contents. -/
theorem CanWrite.owns {S : Shape} {e : EltTy} {M : Memref sig .tc .vmem S e} :
    CanWrite c (iprop(∃ X, owns (c : Thread nD τ) M fullShare X) : sProp (MT nD τ sig Unit (Elt F) ℕ (UR sig nD τ) ℕ)) M := by
  unfold CanWrite Idealize.ShloMosaic.owns
  iintro ⟨%X, %f, %hf, H⟩
  iexists f
  isplitl [H]
  · iexact H
  · iintro %g H
    iexists _, g
    isplitr
    · ipureintro; rfl
    · iexact H

theorem CanRead.left {A B : sProp (MT nD τ sig Unit (Elt F) ℕ (UR sig nD τ) ℕ)} {S : Shape} {e : EltTy}
    {M : Memref sig .tc .vmem S e} (h : CanRead c A M) : CanRead c iprop(A ∗ B) M := by
  unfold CanRead at *
  refine (sep_mono_left h).trans ?_
  iintro ⟨⟨%f, H, K⟩, HB⟩
  iexists f
  isplitl [H]
  · iexact H
  · iintro H
    isplitr [HB]
    · iapply K; iexact H
    · iexact HB

theorem CanRead.right {A B : sProp (MT nD τ sig Unit (Elt F) ℕ (UR sig nD τ) ℕ)} {S : Shape} {e : EltTy}
    {M : Memref sig .tc .vmem S e} (h : CanRead c B M) : CanRead c iprop(A ∗ B) M := by
  unfold CanRead at *
  refine (sep_mono_right h).trans ?_
  iintro ⟨HA, ⟨%f, H, K⟩⟩
  iexists f
  isplitl [H]
  · iexact H
  · iintro H
    isplitl [HA]
    · iexact HA
    · iapply K; iexact H

theorem CanWrite.left {A B : sProp (MT nD τ sig Unit (Elt F) ℕ (UR sig nD τ) ℕ)} {S : Shape} {e : EltTy}
    {M : Memref sig .tc .vmem S e} (h : CanWrite c A M) : CanWrite c iprop(A ∗ B) M := by
  unfold CanWrite at *
  refine (sep_mono_left h).trans ?_
  iintro ⟨⟨%f, H, K⟩, HB⟩
  iexists f
  isplitl [H]
  · iexact H
  · iintro %g H
    isplitr [HB]
    · iapply K; iexact H
    · iexact HB

theorem CanWrite.right {A B : sProp (MT nD τ sig Unit (Elt F) ℕ (UR sig nD τ) ℕ)} {S : Shape} {e : EltTy}
    {M : Memref sig .tc .vmem S e} (h : CanWrite c B M) : CanWrite c iprop(A ∗ B) M := by
  unfold CanWrite at *
  refine (sep_mono_right h).trans ?_
  iintro ⟨HA, ⟨%f, H, K⟩⟩
  iexists f
  isplitl [H]
  · iexact H
  · iintro %g H
    isplitl [HA]
    · iexact HA
    · iapply K; iexact H

theorem CanWrite.read {S : Shape} {e : EltTy} {M : Memref sig .tc .vmem S e} (h : CanWrite c R M) : CanRead c R M := by
  unfold CanWrite at h
  unfold CanRead
  refine h.trans ?_
  iintro ⟨%f, H, K⟩
  iexists f
  isplitl [H]
  · iexact H
  · iapply K

/-- A return. -/
theorem safe_ret (a : α) : Safe c R (Prog.ret a : Piece F α) := by
  unfold Safe
  rw [wp_ret]
  iintro H
  imodintro
  iexact H

/-- One piece after another. -/
theorem safe_bind {p : Piece F α} {k : α → Piece F β} (hp : Safe c R p) (hk : ∀ a, Safe c R (k a)) : Safe c R (p >>= k) := by
  unfold Safe at *
  rw [wp_bind]
  exact hp.trans (wp_mono _ _ _ fun a => hk a)

/-- A load through any rectangle of a readable memref. -/
theorem safe_load {S : Shape} {e : EltTy} {M : Memref sig .tc .vmem S e} {r : LoadRect S} {hl : M.view.LoadsAt r}
    (h : CanRead c R M) : Safe c R (Prog.lift (.load M r hl) : Piece F _) := by
  unfold Safe CanRead at *
  refine h.trans ?_
  iintro ⟨%f, H, K⟩
  iapply (wp_load (defs := defs₀ (F := F)) Variants.none (c : Thread nD τ) none Set.univ (m := M) (r := r) (hl := hl)
    (k := fun x => .ret x) (q := fullShare) (f := f) (S := M.view.set) (M.view.setOn_subset_set _)) $$ H
  iintro H
  rw [wp_ret]
  imodintro
  iapply K
  iexact H

/-- A store through any rectangle of a writable memref. -/
theorem safe_store {S : Shape} {e : EltTy} {M : Memref sig .tc .vmem S e} {r : Rect S} {w : r.shape.Idx → Elt F e}
    {Mk : Finset r.shape.Idx} {hx : (M.access r).Stores Mk} {hm : Mk = Finset.univ ∨ ∀ a, r.stride a = 1}
    (h : CanWrite c R M) : Safe c R (Prog.lift (.store M r w Mk hx hm) : Piece F _) := by
  unfold Safe CanWrite at *
  refine h.trans ?_
  iintro ⟨%f, H, K⟩
  iapply (wp_store (defs := defs₀ (F := F)) Variants.none (c : Thread nD τ) none Set.univ (m := M) (r := r) (w := w) (Mk := Mk)
    (hx := hx) (hm := hm) (k := fun x => .ret x) (f := f) (S := M.view.set)
    (((M.view.slice r).setOn_subset_set Mk).trans (M.view.set_slice_subset r))) $$ H
  iintro H
  rw [wp_ret]
  imodintro
  iapply K
  iexact H

/-- A loop, whose trips are safe from whatever they carry. -/
theorem safe_for {l : Scf.Loop 32} {hok : l.OK} {σ : Type} {init : σ} {body : Fin l.trips → σ → Piece F σ}
    (h : ∀ k s, Safe c R (body k s)) : Safe c R (Scf.Loop.for l hok init body) := by
  unfold Safe at *
  have hw := Scf.wp_for frame (wpE (defs₀ (F := F)) Variants.none (c : Thread nD τ) none) Set.univ l.lb l.ub l.st hok init body
    (fun _ _ => R) (fun k s => h k s) (Q := fun _ => R)
  refine BIBase.Entails.trans ?_ hw
  iintro H
  isplitl [H]
  · iexact H
  · iintro %_ H
    iexact H

/-- A conditional, both of whose branches are safe. -/
theorem safe_dite {P : Prop} [Decidable P] {p : P → Piece F α} {q : ¬P → Piece F α} (hp : ∀ h, Safe c R (p h))
    (hq : ∀ h, Safe c R (q h)) : Safe c R (dite P p q) := by
  by_cases h : P
  · rw [dif_pos h]; exact hp h
  · rw [dif_neg h]; exact hq h

theorem safe_ite {P : Prop} [Decidable P] {p q : Piece F α} (hp : Safe c R p) (hq : Safe c R q) :
    Safe c R (ite P p q) := by
  by_cases h : P
  · rw [if_pos h]; exact hp
  · rw [if_neg h]; exact hq

end Cert.Kernel.Hand

end
-- ==== Proof.Held.lean ====
module

public import proofs.«01_k».proof.Proof.Safe

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

/-- What the body owns, as its pieces use it: every window and scratch buffer may be read, the output's and the scratch's
    (from the fourteenth operand on) also written. -/
structure Held (c : Dev nD) (R : sProp (MT nD τ sig Unit (Elt F) ℕ (UR sig nD τ) ℕ))
    (a : Memref sig .tc .vmem S256x128 .bf16) (b : Memref sig .tc .vmem S4096x64 .bf16) (d : Memref sig .tc .vmem S8x128 .f32) (e : Memref sig .tc .vmem S8x128x128 .bf16) (f : Memref sig .tc .vmem S4096x128 .bf16) (g : Memref sig .tc .vmem S32x144x128 .bf16) (j : Memref sig .tc .vmem S16x128 .bf16) (k : Memref sig .tc .vmem S144x16 .bf16) (l : Memref sig .tc .vmem S128x512 .f32) (m : Memref sig .tc .vmem S3x128x1024 .f32) (n : Memref sig .tc .vmem S2x16x1024 .f32) (o : Memref sig .tc .vmem S4x128x256 .bf16) (p : Memref sig .tc .vmem S128x512 .bf16) (q : Memref sig .tc .vmem S4096x128 .f32) (r : Memref sig .tc .vmem S4096x128 .i32) (s : Memref sig .tc .vmem S128x128 .i32) (t : Memref sig .tc .vmem S128x128 .i32) (u : Memref sig .tc .vmem S128x128 .i32) (v : Memref sig .tc .vmem S8x128 .f32) (w : Memref sig .tc .vmem S8x128 .f32) (x : Memref sig .tc .vmem S4096x128 .f32) (y : Memref sig .tc .vmem S2x512x1024 .f32) (z : Memref sig .tc .vmem S2x8x1024 .f32) (A : Memref sig .tc .vmem S8x1024 .f32) (B : Memref sig .tc .vmem S144x1024 .f32) : Prop where
  r2 : CanRead c R a
  r3 : CanRead c R b
  r4 : CanRead c R d
  r5 : CanRead c R e
  r6 : CanRead c R f
  r7 : CanRead c R g
  r8 : CanRead c R j
  r9 : CanRead c R k
  r10 : CanRead c R l
  r11 : CanRead c R m
  r12 : CanRead c R n
  r13 : CanRead c R o
  r14 : CanRead c R p
  w14 : CanWrite c R p
  r15 : CanRead c R q
  w15 : CanWrite c R q
  r16 : CanRead c R r
  w16 : CanWrite c R r
  r17 : CanRead c R s
  w17 : CanWrite c R s
  r18 : CanRead c R t
  w18 : CanWrite c R t
  r19 : CanRead c R u
  w19 : CanWrite c R u
  r20 : CanRead c R v
  w20 : CanWrite c R v
  r21 : CanRead c R w
  w21 : CanWrite c R w
  r22 : CanRead c R x
  w22 : CanWrite c R x
  r23 : CanRead c R y
  w23 : CanWrite c R y
  r24 : CanRead c R z
  w24 : CanWrite c R z
  r25 : CanRead c R A
  w25 : CanWrite c R A
  r26 : CanRead c R B
  w26 : CanWrite c R B

end Cert.Kernel.Hand

end
-- ==== Proof.Pieces0.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part1 {x0 x1 x2 x3 x4} : Safe c R (k0_part1 i a a' b b' d d' e e' f f' g g' j j' k k' l l' m m' n n' o o' p p' q q' r r' s s' t t' u u' v v' w w' x x' y y' z z' A A' B B' x0 x1 x2 x3 x4) := by
  unfold k0_part1
  refine safe_bind (safe_load H.r3) fun _ => ?_
  refine safe_bind (safe_load H.r15) fun _ => ?_
  refine safe_bind (safe_store H.w15) fun _ => ?_
  exact safe_ret _

theorem safe_part2 {x0 x1 x2} : Safe c R (k0_part2 i a a' b b' d d' e e' f f' g g' j j' k k' l l' m m' n n' o o' p p' q q' r r' s s' t t' u u' v v' w w' x x' y y' z z' A A' B B' x0 x1 x2) := safe_ret _

theorem safe_part3 {x0 x1 x2 x3 x4 x5 x6 x7 x8 x9 x10 x11 x12} : Safe c R (k0_part3 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part4 {x0 x1 x2 x3 x4 x5 x6 x7 x8 x9 x10 x11 x12} : Safe c R (k0_part4 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part5 {x0 x1 x2 x3 x4 x5 x6 x7 x8 x9 x10 x11 x12} : Safe c R (k0_part5 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part6 {x0 x1 x2 x3 x4 x5 x6 x7 x8 x9 x10 x11 x12} : Safe c R (k0_part6 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part7 {x0 x1 x2 x3 x4 x5 x6 x7 x8 x9 x10 x11 x12} : Safe c R (k0_part7 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part8 {x0 x1 x2 x3 x4 x5 x6 x7 x8 x9 x10 x11 x12} : Safe c R (k0_part8 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part9 {x0 x1 x2 x3 x4 x5 x6 x7 x8 x9 x10 x11 x12} : Safe c R (k0_part9 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part10 {x0 x1 x2 x3 x4 x5 x6 x7 x8 x9 x10 x11 x12} : Safe c R (k0_part10 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part11 {x0 x1 x2 x3 x4 x5 x6 x7 x8 x9 x10 x11 x12} : Safe c R (k0_part11 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part12 {x0 x1 x2 x3 x4 x5 x6 x7 x8 x9 x10 x11 x12} : Safe c R (k0_part12 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part13 {x0 x1 x2 x3 x4 x5 x6 x7 x8 x9 x10 x11 x12} : Safe c R (k0_part13 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part14 {x0 x1 x2 x3 x4 x5 x6 x7 x8 x9 x10 x11 x12} : Safe c R (k0_part14 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part15 {x0 x1 x2 x3 x4 x5 x6 x7 x8 x9 x10 x11 x12} : Safe c R (k0_part15 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part16 {x0 x1 x2 x3 x4 x5 x6 x7 x8 x9 x10 x11 x12} : Safe c R (k0_part16 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part17 {x0 x1 x2 x3 x4 x5 x6 x7 x8 x9 x10 x11 x12} : Safe c R (k0_part17 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part18 {x0 x1 x2 x3 x4 x5 x6 x7 x8 x9 x10 x11} : Safe c R (k0_part18 i a a' b b' d d' e e' f f' g g' j j' k k' l l' m m' n n' o o' p p' q q' r r' s s' t t' u u' v v' w w' x x' y y' z z' A A' B B' x0 x1 x2 x3 x4 x5 x6 x7 x8 x9 x10 x11) := by
  unfold k0_part18
  refine safe_bind (safe_load H.r16) fun _ => ?_
  refine safe_bind (safe_store H.w16) fun _ => ?_
  refine safe_bind (safe_load H.r16) fun _ => ?_
  exact safe_ret _

theorem safe_part19 {x0 x1 x2 x3 x4 x5 x6 x7 x8} : Safe c R (k0_part19 i a a' b b' d d' e e' f f' g g' j j' k k' l l' m m' n n' o o' p p' q q' r r' s s' t t' u u' v v' w w' x x' y y' z z' A A' B B' x0 x1 x2 x3 x4 x5 x6 x7 x8) := by
  unfold k0_part19
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part20 {x0 x1 x2 x3 x4 x5 x6 x7} : Safe c R (k0_part20 i a a' b b' d d' e e' f f' g g' j j' k k' l l' m m' n n' o o' p p' q q' r r' s s' t t' u u' v v' w w' x x' y y' z z' A A' B B' x0 x1 x2 x3 x4 x5 x6 x7) := by
  unfold k0_part20
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part21 {x0 x1 x2 x3 x4 x5 x6 x7} : Safe c R (k0_part21 i a a' b b' d d' e e' f f' g g' j j' k k' l l' m m' n n' o o' p p' q q' r r' s s' t t' u u' v v' w w' x x' y y' z z' A A' B B' x0 x1 x2 x3 x4 x5 x6 x7) := by
  unfold k0_part21
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part22 {x0 x1 x2 x3 x4 x5 x6 x7} : Safe c R (k0_part22 i a a' b b' d d' e e' f f' g g' j j' k k' l l' m m' n n' o o' p p' q q' r r' s s' t t' u u' v v' w w' x x' y y' z z' A A' B B' x0 x1 x2 x3 x4 x5 x6 x7) := by
  unfold k0_part22
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part23 {x0 x1 x2 x3 x4 x5 x6 x7} : Safe c R (k0_part23 i a a' b b' d d' e e' f f' g g' j j' k k' l l' m m' n n' o o' p p' q q' r r' s s' t t' u u' v v' w w' x x' y y' z z' A A' B B' x0 x1 x2 x3 x4 x5 x6 x7) := by
  unfold k0_part23
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part24 {x0 x1 x2 x3 x4 x5} : Safe c R (k0_part24 i a a' b b' d d' e e' f f' g g' j j' k k' l l' m m' n n' o o' p p' q q' r r' s s' t t' u u' v v' w w' x x' y y' z z' A A' B B' x0 x1 x2 x3 x4 x5) := by
  unfold k0_part24
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part25 {x0 x1 x2 x3 x4 x5 x6 x7 x8 x9 x10} : Safe c R (k0_part25 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part26 {x0 x1 x2 x3 x4 x5 x6 x7 x8 x9 x10 x11} : Safe c R (k0_part26 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part27 {x0 x1 x2 x3 x4 x5 x6 x7 x8 x9 x10 x11} : Safe c R (k0_part27 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part28 {x0 x1 x2 x3 x4 x5 x6 x7 x8 x9 x10 x11} : Safe c R (k0_part28 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part29 {x0 x1 x2 x3 x4 x5 x6 x7 x8 x9 x10 x11} : Safe c R (k0_part29 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part30 {x0 x1 x2 x3 x4 x5 x6 x7 x8 x9 x10 x11} : Safe c R (k0_part30 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part31 {x0 x1 x2 x3 x4 x5 x6 x7 x8 x9 x10 x11} : Safe c R (k0_part31 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part32 {x0 x1 x2 x3 x4 x5 x6 x7 x8 x9 x10 x11} : Safe c R (k0_part32 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part33 {x0 x1 x2 x3 x4 x5 x6 x7 x8 x9 x10 x11} : Safe c R (k0_part33 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part34 {x0 x1 x2 x3 x4 x5 x6 x7 x8 x9 x10 x11} : Safe c R (k0_part34 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part35 {x0 x1 x2 x3 x4 x5 x6 x7 x8 x9 x10 x11} : Safe c R (k0_part35 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part36 {x0 x1 x2 x3 x4 x5 x6 x7 x8 x9 x10 x11} : Safe c R (k0_part36 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part37 {x0 x1 x2 x3 x4 x5 x6 x7 x8 x9 x10 x11} : Safe c R (k0_part37 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part38 {x0 x1 x2 x3 x4 x5 x6 x7 x8 x9 x10 x11} : Safe c R (k0_part38 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part39 {x0 x1 x2 x3 x4 x5 x6 x7 x8 x9 x10 x11} : Safe c R (k0_part39 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part40 {x0 x1 x2 x3 x4 x5 x6 x7 x8 x9 x10 x11} : Safe c R (k0_part40 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part41 {x0 x1 x2 x3 x4 x5 x6 x7 x8} : Safe c R (k0_part41 i a a' b b' d d' e e' f f' g g' j j' k k' l l' m m' n n' o o' p p' q q' r r' s s' t t' u u' v v' w w' x x' y y' z z' A A' B B' x0 x1 x2 x3 x4 x5 x6 x7 x8) := by
  unfold k0_part41
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part42 {x0 x1 x2 x3 x4 x5 x6 x7} : Safe c R (k0_part42 i a a' b b' d d' e e' f f' g g' j j' k k' l l' m m' n n' o o' p p' q q' r r' s s' t t' u u' v v' w w' x x' y y' z z' A A' B B' x0 x1 x2 x3 x4 x5 x6 x7) := by
  unfold k0_part42
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part43 {x0 x1 x2 x3 x4 x5 x6 x7} : Safe c R (k0_part43 i a a' b b' d d' e e' f f' g g' j j' k k' l l' m m' n n' o o' p p' q q' r r' s s' t t' u u' v v' w w' x x' y y' z z' A A' B B' x0 x1 x2 x3 x4 x5 x6 x7) := by
  unfold k0_part43
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part44 {x0 x1 x2 x3 x4 x5 x6 x7} : Safe c R (k0_part44 i a a' b b' d d' e e' f f' g g' j j' k k' l l' m m' n n' o o' p p' q q' r r' s s' t t' u u' v v' w w' x x' y y' z z' A A' B B' x0 x1 x2 x3 x4 x5 x6 x7) := by
  unfold k0_part44
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part45 {x0 x1 x2 x3 x4 x5 x6} : Safe c R (k0_part45 i a a' b b' d d' e e' f f' g g' j j' k k' l l' m m' n n' o o' p p' q q' r r' s s' t t' u u' v v' w w' x x' y y' z z' A A' B B' x0 x1 x2 x3 x4 x5 x6) := by
  unfold k0_part45
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part46 {x0 x1 x2 x3 x4 x5 x6 x7 x8} : Safe c R (k0_part46 i a a' b b' d d' e e' f f' g g' j j' k k' l l' m m' n n' o o' p p' q q' r r' s s' t t' u u' v v' w w' x x' y y' z z' A A' B B' x0 x1 x2 x3 x4 x5 x6 x7 x8) := by
  unfold k0_part46
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part47 {x0 x1 x2 x3 x4} : Safe c R (k0_part47 i a a' b b' d d' e e' f f' g g' j j' k k' l l' m m' n n' o o' p p' q q' r r' s s' t t' u u' v v' w w' x x' y y' z z' A A' B B' x0 x1 x2 x3 x4) := by
  unfold k0_part47
  refine safe_bind (safe_store H.w16) fun _ => ?_
  refine safe_bind (safe_load H.r3) fun _ => ?_
  refine safe_bind (safe_load H.r15) fun _ => ?_
  refine safe_bind (safe_store H.w15) fun _ => ?_
  exact safe_ret _

theorem safe_part48 {x0 x1} : Safe c R (k0_part48 i a a' b b' d d' e e' f f' g g' j j' k k' l l' m m' n n' o o' p p' q q' r r' s s' t t' u u' v v' w w' x x' y y' z z' A A' B B' x0 x1) := safe_ret _

theorem safe_part49 {x0 x1 x2 x3 x4 x5 x6 x7 x8 x9 x10 x11 x12 x13} : Safe c R (k0_part49 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part50 {x0 x1 x2 x3 x4 x5 x6 x7 x8 x9 x10 x11 x12 x13} : Safe c R (k0_part50 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part51 {x0 x1 x2 x3 x4 x5 x6 x7 x8 x9 x10 x11 x12 x13} : Safe c R (k0_part51 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part52 {x0 x1 x2 x3 x4 x5 x6 x7 x8 x9 x10 x11 x12 x13} : Safe c R (k0_part52 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part53 {x0 x1 x2 x3 x4 x5 x6 x7 x8 x9 x10 x11 x12 x13} : Safe c R (k0_part53 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part54 {x0 x1 x2 x3 x4 x5 x6 x7 x8 x9 x10 x11 x12 x13} : Safe c R (k0_part54 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part55 {x0 x1 x2 x3 x4 x5 x6 x7 x8 x9 x10 x11 x12 x13} : Safe c R (k0_part55 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part56 {x0 x1 x2 x3 x4 x5 x6 x7 x8 x9 x10 x11 x12 x13} : Safe c R (k0_part56 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part57 {x0 x1 x2 x3 x4 x5 x6 x7 x8 x9 x10 x11 x12 x13} : Safe c R (k0_part57 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part58 {x0 x1 x2 x3 x4 x5 x6 x7 x8 x9 x10 x11 x12 x13} : Safe c R (k0_part58 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part59 {x0 x1 x2 x3 x4 x5 x6 x7 x8 x9 x10 x11 x12 x13} : Safe c R (k0_part59 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part60 {x0 x1 x2 x3 x4 x5 x6 x7 x8 x9 x10 x11 x12 x13} : Safe c R (k0_part60 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part61 {x0 x1 x2 x3 x4 x5 x6 x7 x8 x9 x10 x11 x12 x13} : Safe c R (k0_part61 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

end Cert.Kernel.Hand

end
-- ==== Proof.Pieces1.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part62 {x0 x1 x2 x3 x4 x5 x6 x7 x8 x9 x10 x11 x12 x13} : Safe c R (k0_part62 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part63 {x0 x1 x2 x3 x4 x5 x6 x7 x8 x9 x10 x11 x12 x13} : Safe c R (k0_part63 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part64 {x0 x1 x2 x3 x4 x5 x6 x7 x8 x9 x10 x11 x12} : Safe c R (k0_part64 i a a' b b' d d' e e' f f' g g' j j' k k' l l' m m' n n' o o' p p' q q' r r' s s' t t' u u' v v' w w' x x' y y' z z' A A' B B' x0 x1 x2 x3 x4 x5 x6 x7 x8 x9 x10 x11 x12) := by
  unfold k0_part64
  refine safe_bind (safe_load H.r16) fun _ => ?_
  refine safe_bind (safe_store H.w16) fun _ => ?_
  exact safe_ret _

theorem safe_part65 {x0 x1 x2 x3 x4 x5 x6 x7} : Safe c R (k0_part65 i a a' b b' d d' e e' f f' g g' j j' k k' l l' m m' n n' o o' p p' q q' r r' s s' t t' u u' v v' w w' x x' y y' z z' A A' B B' x0 x1 x2 x3 x4 x5 x6 x7) := by
  unfold k0_part65
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part66 {x0 x1 x2 x3 x4 x5 x6} : Safe c R (k0_part66 i a a' b b' d d' e e' f f' g g' j j' k k' l l' m m' n n' o o' p p' q q' r r' s s' t t' u u' v v' w w' x x' y y' z z' A A' B B' x0 x1 x2 x3 x4 x5 x6) := by
  unfold k0_part66
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part67 {x0 x1 x2 x3 x4 x5 x6 x7 x8} : Safe c R (k0_part67 i a a' b b' d d' e e' f f' g g' j j' k k' l l' m m' n n' o o' p p' q q' r r' s s' t t' u u' v v' w w' x x' y y' z z' A A' B B' x0 x1 x2 x3 x4 x5 x6 x7 x8) := by
  unfold k0_part67
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part68 {x0 x1 x2 x3 x4 x5 x6 x7} : Safe c R (k0_part68 i a a' b b' d d' e e' f f' g g' j j' k k' l l' m m' n n' o o' p p' q q' r r' s s' t t' u u' v v' w w' x x' y y' z z' A A' B B' x0 x1 x2 x3 x4 x5 x6 x7) := by
  unfold k0_part68
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part69 {x0 x1 x2 x3 x4 x5 x6 x7} : Safe c R (k0_part69 i a a' b b' d d' e e' f f' g g' j j' k k' l l' m m' n n' o o' p p' q q' r r' s s' t t' u u' v v' w w' x x' y y' z z' A A' B B' x0 x1 x2 x3 x4 x5 x6 x7) := by
  unfold k0_part69
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part70 {x0 x1 x2 x3 x4 x5 x6} : Safe c R (k0_part70 i a a' b b' d d' e e' f f' g g' j j' k k' l l' m m' n n' o o' p p' q q' r r' s s' t t' u u' v v' w w' x x' y y' z z' A A' B B' x0 x1 x2 x3 x4 x5 x6) := by
  unfold k0_part70
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part71 {x0 x1 x2 x3 x4 x5 x6 x7 x8 x9} : Safe c R (k0_part71 i a a' b b' d d' e e' f f' g g' j j' k k' l l' m m' n n' o o' p p' q q' r r' s s' t t' u u' v v' w w' x x' y y' z z' A A' B B' x0 x1 x2 x3 x4 x5 x6 x7 x8 x9) := safe_ret _

theorem safe_part72 {x0 x1 x2 x3 x4 x5 x6 x7 x8 x9 x10} : Safe c R (k0_part72 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part73 {x0 x1 x2 x3 x4 x5 x6 x7 x8 x9 x10} : Safe c R (k0_part73 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part74 {x0 x1 x2 x3 x4 x5 x6 x7 x8 x9 x10} : Safe c R (k0_part74 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part75 {x0 x1 x2 x3 x4 x5 x6 x7 x8 x9 x10} : Safe c R (k0_part75 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part76 {x0 x1 x2 x3 x4 x5 x6 x7 x8 x9 x10} : Safe c R (k0_part76 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part77 {x0 x1 x2 x3 x4 x5 x6 x7 x8 x9 x10} : Safe c R (k0_part77 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part78 {x0 x1 x2 x3 x4 x5 x6 x7 x8 x9 x10} : Safe c R (k0_part78 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part79 {x0 x1 x2 x3 x4 x5 x6 x7 x8 x9 x10} : Safe c R (k0_part79 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part80 {x0 x1 x2 x3 x4 x5 x6 x7 x8 x9 x10} : Safe c R (k0_part80 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part81 {x0 x1 x2 x3 x4 x5 x6 x7 x8 x9 x10} : Safe c R (k0_part81 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part82 {x0 x1 x2 x3 x4 x5 x6 x7 x8 x9 x10} : Safe c R (k0_part82 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part83 {x0 x1 x2 x3 x4 x5 x6 x7 x8 x9 x10} : Safe c R (k0_part83 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part84 {x0 x1 x2 x3 x4 x5 x6 x7 x8 x9 x10} : Safe c R (k0_part84 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part85 {x0 x1 x2 x3 x4 x5 x6 x7 x8 x9 x10} : Safe c R (k0_part85 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part86 {x0 x1 x2 x3 x4 x5 x6 x7 x8 x9 x10} : Safe c R (k0_part86 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part87 {x0 x1 x2 x3 x4 x5 x6 x7 x8} : Safe c R (k0_part87 i a a' b b' d d' e e' f f' g g' j j' k k' l l' m m' n n' o o' p p' q q' r r' s s' t t' u u' v v' w w' x x' y y' z z' A A' B B' x0 x1 x2 x3 x4 x5 x6 x7 x8) := by
  unfold k0_part87
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part88 {x0 x1 x2 x3 x4 x5 x6 x7 x8} : Safe c R (k0_part88 i a a' b b' d d' e e' f f' g g' j j' k k' l l' m m' n n' o o' p p' q q' r r' s s' t t' u u' v v' w w' x x' y y' z z' A A' B B' x0 x1 x2 x3 x4 x5 x6 x7 x8) := by
  unfold k0_part88
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part89 {x0 x1 x2 x3 x4 x5 x6 x7} : Safe c R (k0_part89 i a a' b b' d d' e e' f f' g g' j j' k k' l l' m m' n n' o o' p p' q q' r r' s s' t t' u u' v v' w w' x x' y y' z z' A A' B B' x0 x1 x2 x3 x4 x5 x6 x7) := by
  unfold k0_part89
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part90 {x0 x1 x2 x3 x4 x5 x6 x7} : Safe c R (k0_part90 i a a' b b' d d' e e' f f' g g' j j' k k' l l' m m' n n' o o' p p' q q' r r' s s' t t' u u' v v' w w' x x' y y' z z' A A' B B' x0 x1 x2 x3 x4 x5 x6 x7) := by
  unfold k0_part90
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part91 {x0 x1 x2 x3 x4 x5 x6 x7} : Safe c R (k0_part91 i a a' b b' d d' e e' f f' g g' j j' k k' l l' m m' n n' o o' p p' q q' r r' s s' t t' u u' v v' w w' x x' y y' z z' A A' B B' x0 x1 x2 x3 x4 x5 x6 x7) := by
  unfold k0_part91
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part92 {x0 x1 x2 x3 x4 x5 x6 x7 x8} : Safe c R (k0_part92 i a a' b b' d d' e e' f f' g g' j j' k k' l l' m m' n n' o o' p p' q q' r r' s s' t t' u u' v v' w w' x x' y y' z z' A A' B B' x0 x1 x2 x3 x4 x5 x6 x7 x8) := by
  unfold k0_part92
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part94 {x0 x1 x2 x3 x4} : Safe c R (k0_part94 i a a' b b' d d' e e' f f' g g' j j' k k' l l' m m' n n' o o' p p' q q' r r' s s' t t' u u' v v' w w' x x' y y' z z' A A' B B' x0 x1 x2 x3 x4) := by
  unfold k0_part94
  refine safe_bind (safe_load H.r3) fun _ => ?_
  refine safe_bind (safe_load H.r15) fun _ => ?_
  refine safe_bind (safe_store H.w15) fun _ => ?_
  exact safe_ret _

theorem safe_part95 {x0 x1 x2} : Safe c R (k0_part95 i a a' b b' d d' e e' f f' g g' j j' k k' l l' m m' n n' o o' p p' q q' r r' s s' t t' u u' v v' w w' x x' y y' z z' A A' B B' x0 x1 x2) := safe_ret _

theorem safe_part96 {x0 x1 x2 x3 x4 x5 x6 x7 x8 x9 x10 x11 x12} : Safe c R (k0_part96 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part97 {x0 x1 x2 x3 x4 x5 x6 x7 x8 x9 x10 x11 x12} : Safe c R (k0_part97 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part98 {x0 x1 x2 x3 x4 x5 x6 x7 x8 x9 x10 x11 x12} : Safe c R (k0_part98 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part99 {x0 x1 x2 x3 x4 x5 x6 x7 x8 x9 x10 x11 x12} : Safe c R (k0_part99 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part100 {x0 x1 x2 x3 x4 x5 x6 x7 x8 x9 x10 x11 x12} : Safe c R (k0_part100 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part101 {x0 x1 x2 x3 x4 x5 x6 x7 x8 x9 x10 x11 x12} : Safe c R (k0_part101 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part102 {x0 x1 x2 x3 x4 x5 x6 x7 x8 x9 x10 x11 x12} : Safe c R (k0_part102 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part103 {x0 x1 x2 x3 x4 x5 x6 x7 x8 x9 x10 x11 x12} : Safe c R (k0_part103 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part104 {x0 x1 x2 x3 x4 x5 x6 x7 x8 x9 x10 x11 x12} : Safe c R (k0_part104 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part105 {x0 x1 x2 x3 x4 x5 x6 x7 x8 x9 x10 x11 x12} : Safe c R (k0_part105 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part106 {x0 x1 x2 x3 x4 x5 x6 x7 x8 x9 x10 x11 x12} : Safe c R (k0_part106 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part107 {x0 x1 x2 x3 x4 x5 x6 x7 x8 x9 x10 x11 x12} : Safe c R (k0_part107 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part108 {x0 x1 x2 x3 x4 x5 x6 x7 x8 x9 x10 x11 x12} : Safe c R (k0_part108 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part109 {x0 x1 x2 x3 x4 x5 x6 x7 x8 x9 x10 x11 x12} : Safe c R (k0_part109 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part110 {x0 x1 x2 x3 x4 x5 x6 x7 x8 x9 x10 x11 x12} : Safe c R (k0_part110 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part111 {x0 x1 x2 x3 x4 x5 x6 x7 x8 x9 x10 x11} : Safe c R (k0_part111 i a a' b b' d d' e e' f f' g g' j j' k k' l l' m m' n n' o o' p p' q q' r r' s s' t t' u u' v v' w w' x x' y y' z z' A A' B B' x0 x1 x2 x3 x4 x5 x6 x7 x8 x9 x10 x11) := by
  unfold k0_part111
  refine safe_bind (safe_load H.r16) fun _ => ?_
  refine safe_bind (safe_store H.w16) fun _ => ?_
  refine safe_bind (safe_load H.r16) fun _ => ?_
  exact safe_ret _

theorem safe_part112 {x0 x1 x2 x3 x4 x5 x6 x7 x8} : Safe c R (k0_part112 i a a' b b' d d' e e' f f' g g' j j' k k' l l' m m' n n' o o' p p' q q' r r' s s' t t' u u' v v' w w' x x' y y' z z' A A' B B' x0 x1 x2 x3 x4 x5 x6 x7 x8) := by
  unfold k0_part112
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part113 {x0 x1 x2 x3 x4 x5 x6 x7} : Safe c R (k0_part113 i a a' b b' d d' e e' f f' g g' j j' k k' l l' m m' n n' o o' p p' q q' r r' s s' t t' u u' v v' w w' x x' y y' z z' A A' B B' x0 x1 x2 x3 x4 x5 x6 x7) := by
  unfold k0_part113
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part114 {x0 x1 x2 x3 x4 x5 x6 x7} : Safe c R (k0_part114 i a a' b b' d d' e e' f f' g g' j j' k k' l l' m m' n n' o o' p p' q q' r r' s s' t t' u u' v v' w w' x x' y y' z z' A A' B B' x0 x1 x2 x3 x4 x5 x6 x7) := by
  unfold k0_part114
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part115 {x0 x1 x2 x3 x4 x5 x6 x7} : Safe c R (k0_part115 i a a' b b' d d' e e' f f' g g' j j' k k' l l' m m' n n' o o' p p' q q' r r' s s' t t' u u' v v' w w' x x' y y' z z' A A' B B' x0 x1 x2 x3 x4 x5 x6 x7) := by
  unfold k0_part115
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part116 {x0 x1 x2 x3 x4 x5 x6 x7} : Safe c R (k0_part116 i a a' b b' d d' e e' f f' g g' j j' k k' l l' m m' n n' o o' p p' q q' r r' s s' t t' u u' v v' w w' x x' y y' z z' A A' B B' x0 x1 x2 x3 x4 x5 x6 x7) := by
  unfold k0_part116
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part117 {x0 x1 x2 x3 x4 x5} : Safe c R (k0_part117 i a a' b b' d d' e e' f f' g g' j j' k k' l l' m m' n n' o o' p p' q q' r r' s s' t t' u u' v v' w w' x x' y y' z z' A A' B B' x0 x1 x2 x3 x4 x5) := by
  unfold k0_part117
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part118 {x0 x1 x2 x3 x4 x5 x6 x7 x8 x9 x10} : Safe c R (k0_part118 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part119 {x0 x1 x2 x3 x4 x5 x6 x7 x8 x9 x10 x11} : Safe c R (k0_part119 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part120 {x0 x1 x2 x3 x4 x5 x6 x7 x8 x9 x10 x11} : Safe c R (k0_part120 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part121 {x0 x1 x2 x3 x4 x5 x6 x7 x8 x9 x10 x11} : Safe c R (k0_part121 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part122 {x0 x1 x2 x3 x4 x5 x6 x7 x8 x9 x10 x11} : Safe c R (k0_part122 i a a' b b' d d' e e' f f' g g' j j' k k' l l' m m' n n' o o' p p' q q' r r' s s' t t' u u' v v' w w' x x' y y' z z' A A' B B' x0 x1 x2 x3 x4 x5 x6 x7 x8 x9 x10 x11) := safe_ret _

end Cert.Kernel.Hand

end
-- ==== Proof.Pieces2.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part123 {x0 x1 x2 x3 x4 x5 x6 x7 x8 x9 x10 x11} : Safe c R (k0_part123 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part124 {x0 x1 x2 x3 x4 x5 x6 x7 x8 x9 x10 x11} : Safe c R (k0_part124 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part125 {x0 x1 x2 x3 x4 x5 x6 x7 x8 x9 x10 x11} : Safe c R (k0_part125 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part126 {x0 x1 x2 x3 x4 x5 x6 x7 x8 x9 x10 x11} : Safe c R (k0_part126 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part127 {x0 x1 x2 x3 x4 x5 x6 x7 x8 x9 x10 x11} : Safe c R (k0_part127 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part128 {x0 x1 x2 x3 x4 x5 x6 x7 x8 x9 x10 x11} : Safe c R (k0_part128 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part129 {x0 x1 x2 x3 x4 x5 x6 x7 x8 x9 x10 x11} : Safe c R (k0_part129 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part130 {x0 x1 x2 x3 x4 x5 x6 x7 x8 x9 x10 x11} : Safe c R (k0_part130 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part131 {x0 x1 x2 x3 x4 x5 x6 x7 x8 x9 x10 x11} : Safe c R (k0_part131 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part132 {x0 x1 x2 x3 x4 x5 x6 x7 x8 x9 x10 x11} : Safe c R (k0_part132 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part133 {x0 x1 x2 x3 x4 x5 x6 x7 x8 x9 x10 x11} : Safe c R (k0_part133 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part134 {x0 x1 x2 x3 x4 x5 x6 x7 x8} : Safe c R (k0_part134 i a a' b b' d d' e e' f f' g g' j j' k k' l l' m m' n n' o o' p p' q q' r r' s s' t t' u u' v v' w w' x x' y y' z z' A A' B B' x0 x1 x2 x3 x4 x5 x6 x7 x8) := by
  unfold k0_part134
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part135 {x0 x1 x2 x3 x4 x5 x6 x7} : Safe c R (k0_part135 i a a' b b' d d' e e' f f' g g' j j' k k' l l' m m' n n' o o' p p' q q' r r' s s' t t' u u' v v' w w' x x' y y' z z' A A' B B' x0 x1 x2 x3 x4 x5 x6 x7) := by
  unfold k0_part135
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part136 {x0 x1 x2 x3 x4 x5 x6 x7} : Safe c R (k0_part136 i a a' b b' d d' e e' f f' g g' j j' k k' l l' m m' n n' o o' p p' q q' r r' s s' t t' u u' v v' w w' x x' y y' z z' A A' B B' x0 x1 x2 x3 x4 x5 x6 x7) := by
  unfold k0_part136
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part137 {x0 x1 x2 x3 x4 x5 x6 x7} : Safe c R (k0_part137 i a a' b b' d d' e e' f f' g g' j j' k k' l l' m m' n n' o o' p p' q q' r r' s s' t t' u u' v v' w w' x x' y y' z z' A A' B B' x0 x1 x2 x3 x4 x5 x6 x7) := by
  unfold k0_part137
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part138 {x0 x1 x2 x3 x4 x5 x6} : Safe c R (k0_part138 i a a' b b' d d' e e' f f' g g' j j' k k' l l' m m' n n' o o' p p' q q' r r' s s' t t' u u' v v' w w' x x' y y' z z' A A' B B' x0 x1 x2 x3 x4 x5 x6) := by
  unfold k0_part138
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part139 {x0 x1 x2 x3 x4 x5 x6 x7 x8} : Safe c R (k0_part139 i a a' b b' d d' e e' f f' g g' j j' k k' l l' m m' n n' o o' p p' q q' r r' s s' t t' u u' v v' w w' x x' y y' z z' A A' B B' x0 x1 x2 x3 x4 x5 x6 x7 x8) := by
  unfold k0_part139
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part140 {x0 x1 x2 x3 x4} : Safe c R (k0_part140 i a a' b b' d d' e e' f f' g g' j j' k k' l l' m m' n n' o o' p p' q q' r r' s s' t t' u u' v v' w w' x x' y y' z z' A A' B B' x0 x1 x2 x3 x4) := by
  unfold k0_part140
  refine safe_bind (safe_store H.w16) fun _ => ?_
  refine safe_bind (safe_load H.r3) fun _ => ?_
  refine safe_bind (safe_load H.r15) fun _ => ?_
  refine safe_bind (safe_store H.w15) fun _ => ?_
  exact safe_ret _

theorem safe_part141 {x0 x1} : Safe c R (k0_part141 i a a' b b' d d' e e' f f' g g' j j' k k' l l' m m' n n' o o' p p' q q' r r' s s' t t' u u' v v' w w' x x' y y' z z' A A' B B' x0 x1) := safe_ret _

theorem safe_part142 {x0 x1 x2 x3 x4 x5 x6 x7 x8 x9 x10 x11 x12 x13} : Safe c R (k0_part142 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part143 {x0 x1 x2 x3 x4 x5 x6 x7 x8 x9 x10 x11 x12 x13} : Safe c R (k0_part143 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part144 {x0 x1 x2 x3 x4 x5 x6 x7 x8 x9 x10 x11 x12 x13} : Safe c R (k0_part144 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part145 {x0 x1 x2 x3 x4 x5 x6 x7 x8 x9 x10 x11 x12 x13} : Safe c R (k0_part145 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part146 {x0 x1 x2 x3 x4 x5 x6 x7 x8 x9 x10 x11 x12 x13} : Safe c R (k0_part146 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part147 {x0 x1 x2 x3 x4 x5 x6 x7 x8 x9 x10 x11 x12 x13} : Safe c R (k0_part147 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part148 {x0 x1 x2 x3 x4 x5 x6 x7 x8 x9 x10 x11 x12 x13} : Safe c R (k0_part148 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part149 {x0 x1 x2 x3 x4 x5 x6 x7 x8 x9 x10 x11 x12 x13} : Safe c R (k0_part149 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part150 {x0 x1 x2 x3 x4 x5 x6 x7 x8 x9 x10 x11 x12 x13} : Safe c R (k0_part150 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part151 {x0 x1 x2 x3 x4 x5 x6 x7 x8 x9 x10 x11 x12 x13} : Safe c R (k0_part151 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part152 {x0 x1 x2 x3 x4 x5 x6 x7 x8 x9 x10 x11 x12 x13} : Safe c R (k0_part152 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part153 {x0 x1 x2 x3 x4 x5 x6 x7 x8 x9 x10 x11 x12 x13} : Safe c R (k0_part153 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part154 {x0 x1 x2 x3 x4 x5 x6 x7 x8 x9 x10 x11 x12 x13} : Safe c R (k0_part154 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part155 {x0 x1 x2 x3 x4 x5 x6 x7 x8 x9 x10 x11 x12 x13} : Safe c R (k0_part155 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part156 {x0 x1 x2 x3 x4 x5 x6 x7 x8 x9 x10 x11 x12 x13} : Safe c R (k0_part156 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part157 {x0 x1 x2 x3 x4 x5 x6 x7 x8 x9 x10 x11 x12} : Safe c R (k0_part157 i a a' b b' d d' e e' f f' g g' j j' k k' l l' m m' n n' o o' p p' q q' r r' s s' t t' u u' v v' w w' x x' y y' z z' A A' B B' x0 x1 x2 x3 x4 x5 x6 x7 x8 x9 x10 x11 x12) := by
  unfold k0_part157
  refine safe_bind (safe_load H.r16) fun _ => ?_
  refine safe_bind (safe_store H.w16) fun _ => ?_
  exact safe_ret _

theorem safe_part158 {x0 x1 x2 x3 x4 x5 x6 x7} : Safe c R (k0_part158 i a a' b b' d d' e e' f f' g g' j j' k k' l l' m m' n n' o o' p p' q q' r r' s s' t t' u u' v v' w w' x x' y y' z z' A A' B B' x0 x1 x2 x3 x4 x5 x6 x7) := by
  unfold k0_part158
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part159 {x0 x1 x2 x3 x4 x5 x6} : Safe c R (k0_part159 i a a' b b' d d' e e' f f' g g' j j' k k' l l' m m' n n' o o' p p' q q' r r' s s' t t' u u' v v' w w' x x' y y' z z' A A' B B' x0 x1 x2 x3 x4 x5 x6) := by
  unfold k0_part159
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part160 {x0 x1 x2 x3 x4 x5 x6 x7 x8} : Safe c R (k0_part160 i a a' b b' d d' e e' f f' g g' j j' k k' l l' m m' n n' o o' p p' q q' r r' s s' t t' u u' v v' w w' x x' y y' z z' A A' B B' x0 x1 x2 x3 x4 x5 x6 x7 x8) := by
  unfold k0_part160
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part161 {x0 x1 x2 x3 x4 x5 x6 x7} : Safe c R (k0_part161 i a a' b b' d d' e e' f f' g g' j j' k k' l l' m m' n n' o o' p p' q q' r r' s s' t t' u u' v v' w w' x x' y y' z z' A A' B B' x0 x1 x2 x3 x4 x5 x6 x7) := by
  unfold k0_part161
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part162 {x0 x1 x2 x3 x4 x5 x6 x7} : Safe c R (k0_part162 i a a' b b' d d' e e' f f' g g' j j' k k' l l' m m' n n' o o' p p' q q' r r' s s' t t' u u' v v' w w' x x' y y' z z' A A' B B' x0 x1 x2 x3 x4 x5 x6 x7) := by
  unfold k0_part162
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part163 {x0 x1 x2 x3 x4 x5 x6} : Safe c R (k0_part163 i a a' b b' d d' e e' f f' g g' j j' k k' l l' m m' n n' o o' p p' q q' r r' s s' t t' u u' v v' w w' x x' y y' z z' A A' B B' x0 x1 x2 x3 x4 x5 x6) := by
  unfold k0_part163
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part164 {x0 x1 x2 x3 x4 x5 x6 x7 x8 x9} : Safe c R (k0_part164 i a a' b b' d d' e e' f f' g g' j j' k k' l l' m m' n n' o o' p p' q q' r r' s s' t t' u u' v v' w w' x x' y y' z z' A A' B B' x0 x1 x2 x3 x4 x5 x6 x7 x8 x9) := safe_ret _

theorem safe_part165 {x0 x1 x2 x3 x4 x5 x6 x7 x8 x9 x10} : Safe c R (k0_part165 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part166 {x0 x1 x2 x3 x4 x5 x6 x7 x8 x9 x10} : Safe c R (k0_part166 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part167 {x0 x1 x2 x3 x4 x5 x6 x7 x8 x9 x10} : Safe c R (k0_part167 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part168 {x0 x1 x2 x3 x4 x5 x6 x7 x8 x9 x10} : Safe c R (k0_part168 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part169 {x0 x1 x2 x3 x4 x5 x6 x7 x8 x9 x10} : Safe c R (k0_part169 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part170 {x0 x1 x2 x3 x4 x5 x6 x7 x8 x9 x10} : Safe c R (k0_part170 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part171 {x0 x1 x2 x3 x4 x5 x6 x7 x8 x9 x10} : Safe c R (k0_part171 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part172 {x0 x1 x2 x3 x4 x5 x6 x7 x8 x9 x10} : Safe c R (k0_part172 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part173 {x0 x1 x2 x3 x4 x5 x6 x7 x8 x9 x10} : Safe c R (k0_part173 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part174 {x0 x1 x2 x3 x4 x5 x6 x7 x8 x9 x10} : Safe c R (k0_part174 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part175 {x0 x1 x2 x3 x4 x5 x6 x7 x8 x9 x10} : Safe c R (k0_part175 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part176 {x0 x1 x2 x3 x4 x5 x6 x7 x8 x9 x10} : Safe c R (k0_part176 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part177 {x0 x1 x2 x3 x4 x5 x6 x7 x8 x9 x10} : Safe c R (k0_part177 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part178 {x0 x1 x2 x3 x4 x5 x6 x7 x8 x9 x10} : Safe c R (k0_part178 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part179 {x0 x1 x2 x3 x4 x5 x6 x7 x8 x9 x10} : Safe c R (k0_part179 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part180 {x0 x1 x2 x3 x4 x5 x6 x7 x8} : Safe c R (k0_part180 i a a' b b' d d' e e' f f' g g' j j' k k' l l' m m' n n' o o' p p' q q' r r' s s' t t' u u' v v' w w' x x' y y' z z' A A' B B' x0 x1 x2 x3 x4 x5 x6 x7 x8) := by
  unfold k0_part180
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part181 {x0 x1 x2 x3 x4 x5 x6 x7 x8} : Safe c R (k0_part181 i a a' b b' d d' e e' f f' g g' j j' k k' l l' m m' n n' o o' p p' q q' r r' s s' t t' u u' v v' w w' x x' y y' z z' A A' B B' x0 x1 x2 x3 x4 x5 x6 x7 x8) := by
  unfold k0_part181
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part182 {x0 x1 x2 x3 x4 x5 x6 x7} : Safe c R (k0_part182 i a a' b b' d d' e e' f f' g g' j j' k k' l l' m m' n n' o o' p p' q q' r r' s s' t t' u u' v v' w w' x x' y y' z z' A A' B B' x0 x1 x2 x3 x4 x5 x6 x7) := by
  unfold k0_part182
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part183 {x0 x1 x2 x3 x4 x5 x6 x7} : Safe c R (k0_part183 i a a' b b' d d' e e' f f' g g' j j' k k' l l' m m' n n' o o' p p' q q' r r' s s' t t' u u' v v' w w' x x' y y' z z' A A' B B' x0 x1 x2 x3 x4 x5 x6 x7) := by
  unfold k0_part183
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

end Cert.Kernel.Hand

end
-- ==== Proof.Pieces3.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part184 {x0 x1 x2 x3 x4 x5 x6 x7} : Safe c R (k0_part184 i a a' b b' d d' e e' f f' g g' j j' k k' l l' m m' n n' o o' p p' q q' r r' s s' t t' u u' v v' w w' x x' y y' z z' A A' B B' x0 x1 x2 x3 x4 x5 x6 x7) := by
  unfold k0_part184
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part185 {x0 x1 x2 x3 x4 x5 x6 x7 x8} : Safe c R (k0_part185 i a a' b b' d d' e e' f f' g g' j j' k k' l l' m m' n n' o o' p p' q q' r r' s s' t t' u u' v v' w w' x x' y y' z z' A A' B B' x0 x1 x2 x3 x4 x5 x6 x7 x8) := by
  unfold k0_part185
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part187 {x0 x1 x2 x3} : Safe c R (k0_part187 i a a' b b' d d' e e' f f' g g' j j' k k' l l' m m' n n' o o' p p' q q' r r' s s' t t' u u' v v' w w' x x' y y' z z' A A' B B' x0 x1 x2 x3) := by
  unfold k0_part187
  refine safe_bind (safe_load H.r3) fun _ => ?_
  refine safe_bind (safe_load H.r15) fun _ => ?_
  refine safe_bind (safe_store H.w15) fun _ => ?_
  exact safe_ret _

theorem safe_part188 {x0 x1 x2} : Safe c R (k0_part188 i a a' b b' d d' e e' f f' g g' j j' k k' l l' m m' n n' o o' p p' q q' r r' s s' t t' u u' v v' w w' x x' y y' z z' A A' B B' x0 x1 x2) := safe_ret _

theorem safe_part189 {x0 x1 x2 x3 x4 x5 x6 x7 x8 x9 x10 x11} : Safe c R (k0_part189 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part190 {x0 x1 x2 x3 x4 x5 x6 x7 x8 x9 x10 x11} : Safe c R (k0_part190 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part191 {x0 x1 x2 x3 x4 x5 x6 x7 x8 x9 x10 x11} : Safe c R (k0_part191 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part192 {x0 x1 x2 x3 x4 x5 x6 x7 x8 x9 x10 x11} : Safe c R (k0_part192 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part193 {x0 x1 x2 x3 x4 x5 x6 x7 x8 x9 x10 x11} : Safe c R (k0_part193 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part194 {x0 x1 x2 x3 x4 x5 x6 x7 x8 x9 x10 x11} : Safe c R (k0_part194 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part195 {x0 x1 x2 x3 x4 x5 x6 x7 x8 x9 x10 x11} : Safe c R (k0_part195 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part196 {x0 x1 x2 x3 x4 x5 x6 x7 x8 x9 x10 x11} : Safe c R (k0_part196 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part197 {x0 x1 x2 x3 x4 x5 x6 x7 x8 x9 x10 x11} : Safe c R (k0_part197 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part198 {x0 x1 x2 x3 x4 x5 x6 x7 x8 x9 x10 x11} : Safe c R (k0_part198 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part199 {x0 x1 x2 x3 x4 x5 x6 x7 x8 x9 x10 x11} : Safe c R (k0_part199 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part200 {x0 x1 x2 x3 x4 x5 x6 x7 x8 x9 x10 x11} : Safe c R (k0_part200 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part201 {x0 x1 x2 x3 x4 x5 x6 x7 x8 x9 x10 x11} : Safe c R (k0_part201 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part202 {x0 x1 x2 x3 x4 x5 x6 x7 x8 x9 x10 x11} : Safe c R (k0_part202 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part203 {x0 x1 x2 x3 x4 x5 x6 x7 x8 x9 x10 x11} : Safe c R (k0_part203 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part204 {x0 x1 x2 x3 x4 x5 x6 x7 x8 x9 x10} : Safe c R (k0_part204 i a a' b b' d d' e e' f f' g g' j j' k k' l l' m m' n n' o o' p p' q q' r r' s s' t t' u u' v v' w w' x x' y y' z z' A A' B B' x0 x1 x2 x3 x4 x5 x6 x7 x8 x9 x10) := by
  unfold k0_part204
  refine safe_bind (safe_load H.r16) fun _ => ?_
  refine safe_bind (safe_store H.w16) fun _ => ?_
  refine safe_bind (safe_load H.r16) fun _ => ?_
  exact safe_ret _

theorem safe_part205 {x0 x1 x2 x3 x4 x5 x6 x7} : Safe c R (k0_part205 i a a' b b' d d' e e' f f' g g' j j' k k' l l' m m' n n' o o' p p' q q' r r' s s' t t' u u' v v' w w' x x' y y' z z' A A' B B' x0 x1 x2 x3 x4 x5 x6 x7) := by
  unfold k0_part205
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part206 {x0 x1 x2 x3 x4 x5 x6 x7 x8} : Safe c R (k0_part206 i a a' b b' d d' e e' f f' g g' j j' k k' l l' m m' n n' o o' p p' q q' r r' s s' t t' u u' v v' w w' x x' y y' z z' A A' B B' x0 x1 x2 x3 x4 x5 x6 x7 x8) := by
  unfold k0_part206
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part207 {x0 x1 x2 x3 x4 x5 x6 x7 x8} : Safe c R (k0_part207 i a a' b b' d d' e e' f f' g g' j j' k k' l l' m m' n n' o o' p p' q q' r r' s s' t t' u u' v v' w w' x x' y y' z z' A A' B B' x0 x1 x2 x3 x4 x5 x6 x7 x8) := by
  unfold k0_part207
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part208 {x0 x1 x2 x3 x4 x5 x6 x7} : Safe c R (k0_part208 i a a' b b' d d' e e' f f' g g' j j' k k' l l' m m' n n' o o' p p' q q' r r' s s' t t' u u' v v' w w' x x' y y' z z' A A' B B' x0 x1 x2 x3 x4 x5 x6 x7) := by
  unfold k0_part208
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part209 {x0 x1 x2 x3 x4 x5 x6 x7} : Safe c R (k0_part209 i a a' b b' d d' e e' f f' g g' j j' k k' l l' m m' n n' o o' p p' q q' r r' s s' t t' u u' v v' w w' x x' y y' z z' A A' B B' x0 x1 x2 x3 x4 x5 x6 x7) := by
  unfold k0_part209
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part210 {x0 x1 x2 x3 x4 x5 x6} : Safe c R (k0_part210 i a a' b b' d d' e e' f f' g g' j j' k k' l l' m m' n n' o o' p p' q q' r r' s s' t t' u u' v v' w w' x x' y y' z z' A A' B B' x0 x1 x2 x3 x4 x5 x6) := by
  unfold k0_part210
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part211 {x0 x1 x2 x3 x4 x5 x6 x7 x8 x9 x10 x11} : Safe c R (k0_part211 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part212 {x0 x1 x2 x3 x4 x5 x6 x7 x8 x9 x10 x11 x12} : Safe c R (k0_part212 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part213 {x0 x1 x2 x3 x4 x5 x6 x7 x8 x9 x10 x11 x12} : Safe c R (k0_part213 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part214 {x0 x1 x2 x3 x4 x5 x6 x7 x8 x9 x10 x11 x12} : Safe c R (k0_part214 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part215 {x0 x1 x2 x3 x4 x5 x6 x7 x8 x9 x10 x11 x12} : Safe c R (k0_part215 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part216 {x0 x1 x2 x3 x4 x5 x6 x7 x8 x9 x10 x11 x12} : Safe c R (k0_part216 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part217 {x0 x1 x2 x3 x4 x5 x6 x7 x8 x9 x10 x11 x12} : Safe c R (k0_part217 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part218 {x0 x1 x2 x3 x4 x5 x6 x7 x8 x9 x10 x11 x12} : Safe c R (k0_part218 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part219 {x0 x1 x2 x3 x4 x5 x6 x7 x8 x9 x10 x11 x12} : Safe c R (k0_part219 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part220 {x0 x1 x2 x3 x4 x5 x6 x7 x8 x9 x10 x11 x12} : Safe c R (k0_part220 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part221 {x0 x1 x2 x3 x4 x5 x6 x7 x8 x9 x10 x11 x12} : Safe c R (k0_part221 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part222 {x0 x1 x2 x3 x4 x5 x6 x7 x8 x9 x10 x11 x12} : Safe c R (k0_part222 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part223 {x0 x1 x2 x3 x4 x5 x6 x7 x8 x9 x10 x11 x12} : Safe c R (k0_part223 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part224 {x0 x1 x2 x3 x4 x5 x6 x7 x8 x9 x10 x11 x12} : Safe c R (k0_part224 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part225 {x0 x1 x2 x3 x4 x5 x6 x7 x8 x9 x10 x11 x12} : Safe c R (k0_part225 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part226 {x0 x1 x2 x3 x4 x5 x6 x7 x8 x9 x10 x11 x12} : Safe c R (k0_part226 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part227 {x0 x1 x2 x3 x4 x5 x6 x7 x8} : Safe c R (k0_part227 i a a' b b' d d' e e' f f' g g' j j' k k' l l' m m' n n' o o' p p' q q' r r' s s' t t' u u' v v' w w' x x' y y' z z' A A' B B' x0 x1 x2 x3 x4 x5 x6 x7 x8) := by
  unfold k0_part227
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part228 {x0 x1 x2 x3 x4 x5 x6 x7 x8} : Safe c R (k0_part228 i a a' b b' d d' e e' f f' g g' j j' k k' l l' m m' n n' o o' p p' q q' r r' s s' t t' u u' v v' w w' x x' y y' z z' A A' B B' x0 x1 x2 x3 x4 x5 x6 x7 x8) := by
  unfold k0_part228
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part229 {x0 x1 x2 x3 x4 x5 x6 x7} : Safe c R (k0_part229 i a a' b b' d d' e e' f f' g g' j j' k k' l l' m m' n n' o o' p p' q q' r r' s s' t t' u u' v v' w w' x x' y y' z z' A A' B B' x0 x1 x2 x3 x4 x5 x6 x7) := by
  unfold k0_part229
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part230 {x0 x1 x2 x3 x4 x5 x6 x7} : Safe c R (k0_part230 i a a' b b' d d' e e' f f' g g' j j' k k' l l' m m' n n' o o' p p' q q' r r' s s' t t' u u' v v' w w' x x' y y' z z' A A' B B' x0 x1 x2 x3 x4 x5 x6 x7) := by
  unfold k0_part230
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part231 {x0 x1 x2 x3 x4 x5 x6 x7} : Safe c R (k0_part231 i a a' b b' d d' e e' f f' g g' j j' k k' l l' m m' n n' o o' p p' q q' r r' s s' t t' u u' v v' w w' x x' y y' z z' A A' B B' x0 x1 x2 x3 x4 x5 x6 x7) := by
  unfold k0_part231
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part232 {x0 x1 x2 x3 x4 x5 x6 x7} : Safe c R (k0_part232 i a a' b b' d d' e e' f f' g g' j j' k k' l l' m m' n n' o o' p p' q q' r r' s s' t t' u u' v v' w w' x x' y y' z z' A A' B B' x0 x1 x2 x3 x4 x5 x6 x7) := by
  unfold k0_part232
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part233 {x0 x1 x2 x3 x4 x5} : Safe c R (k0_part233 i a a' b b' d d' e e' f f' g g' j j' k k' l l' m m' n n' o o' p p' q q' r r' s s' t t' u u' v v' w w' x x' y y' z z' A A' B B' x0 x1 x2 x3 x4 x5) := by
  unfold k0_part233
  refine safe_bind (safe_load H.r16) fun _ => ?_
  exact safe_ret _

theorem safe_part234 {x0 x1 x2 x3} : Safe c R (k0_part234 i a a' b b' d d' e e' f f' g g' j j' k k' l l' m m' n n' o o' p p' q q' r r' s s' t t' u u' v v' w w' x x' y y' z z' A A' B B' x0 x1 x2 x3) := by
  unfold k0_part234
  refine safe_bind (safe_load H.r15) fun _ => ?_
  exact safe_ret _

theorem safe_part235 {x0 x1 x2 x3 x4 x5 x6 x7 x8 x9} : Safe c R (k0_part235 i a a' b b' d d' e e' f f' g g' j j' k k' l l' m m' n n' o o' p p' q q' r r' s s' t t' u u' v v' w w' x x' y y' z z' A A' B B' x0 x1 x2 x3 x4 x5 x6 x7 x8 x9) := safe_ret _

theorem safe_part236 {x0 x1 x2 x3 x4 x5 x6 x7 x8 x9 x10 x11} : Safe c R (k0_part236 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part237 {x0 x1 x2 x3 x4 x5 x6 x7 x8 x9 x10} : Safe c R (k0_part237 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part238 {x0 x1 x2 x3 x4 x5 x6 x7 x8 x9 x10 x11 x12 x13 x14 x15 x16 x17 x18 x19 x20 x21 x22 x23 x24 x25 x26 x27 x28 x29 x30 x31 x32 x33 x34} : Safe c R (k0_part238 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part239 {x0 x1 x2 x3 x4 x5 x6 x7 x8 x9 x10 x11 x12 x13 x14 x15 x16 x17 x18 x19 x20 x21 x22 x23 x24 x25 x26 x27 x28 x29 x30 x31 x32 x33 x34 x35} : Safe c R (k0_part239 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34 x35) := by
  unfold k0_part239
  refine safe_bind (safe_load H.r17) fun _ => ?_
  refine safe_bind (safe_store H.w17) fun _ => ?_
  exact safe_ret _

theorem safe_part240 {x0 x1 x2 x3 x4 x5 x6 x7 x8 x9 x10 x11 x12} : Safe c R (k0_part240 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part241 {x0 x1 x2 x3 x4 x5 x6 x7 x8 x9 x10} : Safe c R (k0_part241 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part242 {x0 x1 x2 x3 x4 x5 x6 x7 x8 x9} : Safe c R (k0_part242 i a a' b b' d d' e e' f f' g g' j j' k k' l l' m m' n n' o o' p p' q q' r r' s s' t t' u u' v v' w w' x x' y y' z z' A A' B B' x0 x1 x2 x3 x4 x5 x6 x7 x8 x9) := safe_ret _

theorem safe_part243 {x0 x1 x2 x3 x4 x5 x6 x7 x8 x9 x10 x11 x12 x13 x14 x15 x16 x17 x18 x19 x20 x21 x22 x23 x24 x25 x26 x27 x28 x29 x30 x31 x32 x33 x34} : Safe c R (k0_part243 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

end Cert.Kernel.Hand

end
-- ==== Proof.Pieces4.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part244 {x0 x1 x2 x3 x4 x5 x6 x7 x8 x9 x10 x11 x12 x13 x14 x15 x16 x17 x18 x19 x20 x21 x22 x23 x24 x25 x26 x27 x28 x29 x30 x31} : Safe c R (k0_part244 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31) := by
  unfold k0_part244
  refine safe_bind (safe_load H.r18) fun _ => ?_
  refine safe_bind (safe_store H.w18) fun _ => ?_
  exact safe_ret _

theorem safe_part245 {x0 x1 x2 x3 x4 x5 x6 x7 x8 x9} : Safe c R (k0_part245 i a a' b b' d d' e e' f f' g g' j j' k k' l l' m m' n n' o o' p p' q q' r r' s s' t t' u u' v v' w w' x x' y y' z z' A A' B B' x0 x1 x2 x3 x4 x5 x6 x7 x8 x9) := safe_ret _

theorem safe_part246 {x0 x1 x2 x3 x4 x5 x6 x7 x8 x9 x10 x11 x12} : Safe c R (k0_part246 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part247 {x0 x1 x2 x3 x4 x5 x6 x7 x8 x9} : Safe c R (k0_part247 i a a' b b' d d' e e' f f' g g' j j' k k' l l' m m' n n' o o' p p' q q' r r' s s' t t' u u' v v' w w' x x' y y' z z' A A' B B' x0 x1 x2 x3 x4 x5 x6 x7 x8 x9) := safe_ret _

theorem safe_part248 {x0 x1 x2 x3 x4 x5 x6 x7 x8 x9 x10 x11 x12 x13 x14 x15 x16 x17 x18 x19 x20 x21 x22 x23 x24 x25 x26 x27 x28 x29 x30 x31 x32 x33 x34} : Safe c R (k0_part248 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part249 {x0 x1 x2} : Safe c R (k0_part249 i a a' b b' d d' e e' f f' g g' j j' k k' l l' m m' n n' o o' p p' q q' r r' s s' t t' u u' v v' w w' x x' y y' z z' A A' B B' x0 x1 x2) := safe_ret _

theorem safe_part250 {x0 x1 x2 x3 x4 x5 x6 x7 x8 x9 x10 x11 x12} : Safe c R (k0_part250 i a a' b b' d d' e e' f f' g g' j j' k k' l l' m m' n n' o o' p p' q q' r r' s s' t t' u u' v v' w w' x x' y y' z z' A A' B B' x0 x1 x2 x3 x4 x5 x6 x7 x8 x9 x10 x11 x12) := by
  unfold k0_part250
  refine safe_bind (safe_load H.r17) fun _ => ?_
  refine safe_bind (safe_store H.w17) fun _ => ?_
  exact safe_ret _

theorem safe_part251 {x0 x1 x2 x3 x4 x5 x6 x7 x8 x9 x10 x11} : Safe c R (k0_part251 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part252 {x0 x1 x2 x3 x4 x5 x6 x7 x8 x9 x10} : Safe c R (k0_part252 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part253 {x0 x1 x2 x3 x4 x5 x6 x7 x8 x9 x10 x11 x12 x13 x14 x15 x16 x17 x18 x19 x20 x21 x22 x23 x24 x25 x26 x27 x28 x29 x30 x31 x32 x33 x34} : Safe c R (k0_part253 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part254 {x0 x1 x2 x3 x4 x5 x6 x7 x8 x9 x10} : Safe c R (k0_part254 i a a' b b' d d' e e' f f' g g' j j' k k' l l' m m' n n' o o' p p' q q' r r' s s' t t' u u' v v' w w' x x' y y' z z' A A' B B' x0 x1 x2 x3 x4 x5 x6 x7 x8 x9 x10) := by
  unfold k0_part254
  refine safe_bind (safe_load H.r18) fun _ => ?_
  exact safe_ret _

theorem safe_part255 {x0 x1 x2 x3} : Safe c R (k0_part255 i a a' b b' d d' e e' f f' g g' j j' k k' l l' m m' n n' o o' p p' q q' r r' s s' t t' u u' v v' w w' x x' y y' z z' A A' B B' x0 x1 x2 x3) := by
  unfold k0_part255
  refine safe_bind (safe_load H.r15) fun _ => ?_
  exact safe_ret _

theorem safe_part256 {x0 x1 x2 x3 x4 x5 x6 x7 x8 x9} : Safe c R (k0_part256 i a a' b b' d d' e e' f f' g g' j j' k k' l l' m m' n n' o o' p p' q q' r r' s s' t t' u u' v v' w w' x x' y y' z z' A A' B B' x0 x1 x2 x3 x4 x5 x6 x7 x8 x9) := safe_ret _

theorem safe_part257 {x0 x1 x2 x3 x4 x5 x6 x7 x8 x9 x10 x11} : Safe c R (k0_part257 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part258 {x0 x1 x2 x3 x4 x5 x6 x7 x8 x9 x10} : Safe c R (k0_part258 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part259 {x0 x1 x2 x3 x4 x5 x6 x7 x8 x9 x10 x11 x12 x13 x14 x15 x16 x17 x18 x19 x20 x21 x22 x23 x24 x25 x26 x27 x28 x29 x30 x31 x32 x33 x34} : Safe c R (k0_part259 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part260 {x0 x1 x2 x3 x4 x5 x6 x7 x8 x9 x10 x11 x12 x13 x14 x15 x16 x17 x18 x19 x20 x21 x22 x23 x24 x25 x26 x27 x28 x29 x30 x31 x32 x33 x34 x35} : Safe c R (k0_part260 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34 x35) := by
  unfold k0_part260
  refine safe_bind (safe_load H.r17) fun _ => ?_
  refine safe_bind (safe_store H.w17) fun _ => ?_
  exact safe_ret _

theorem safe_part261 {x0 x1 x2 x3 x4 x5 x6 x7 x8 x9 x10 x11 x12} : Safe c R (k0_part261 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part262 {x0 x1 x2 x3 x4 x5 x6 x7 x8 x9 x10} : Safe c R (k0_part262 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part263 {x0 x1 x2 x3 x4 x5 x6 x7 x8 x9} : Safe c R (k0_part263 i a a' b b' d d' e e' f f' g g' j j' k k' l l' m m' n n' o o' p p' q q' r r' s s' t t' u u' v v' w w' x x' y y' z z' A A' B B' x0 x1 x2 x3 x4 x5 x6 x7 x8 x9) := safe_ret _

theorem safe_part264 {x0 x1 x2 x3 x4 x5 x6 x7 x8 x9 x10 x11 x12 x13 x14 x15 x16 x17 x18 x19 x20 x21 x22 x23 x24 x25 x26 x27 x28 x29 x30 x31 x32 x33 x34} : Safe c R (k0_part264 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part265 {x0 x1 x2 x3 x4 x5 x6 x7 x8 x9 x10 x11 x12 x13 x14 x15 x16 x17 x18 x19 x20 x21 x22 x23 x24 x25 x26 x27 x28 x29 x30 x31} : Safe c R (k0_part265 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31) := by
  unfold k0_part265
  refine safe_bind (safe_load H.r18) fun _ => ?_
  refine safe_bind (safe_store H.w18) fun _ => ?_
  exact safe_ret _

theorem safe_part266 {x0 x1 x2 x3 x4 x5 x6 x7 x8 x9} : Safe c R (k0_part266 i a a' b b' d d' e e' f f' g g' j j' k k' l l' m m' n n' o o' p p' q q' r r' s s' t t' u u' v v' w w' x x' y y' z z' A A' B B' x0 x1 x2 x3 x4 x5 x6 x7 x8 x9) := safe_ret _

theorem safe_part267 {x0 x1 x2 x3 x4 x5 x6 x7 x8 x9 x10 x11 x12} : Safe c R (k0_part267 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part268 {x0 x1 x2 x3 x4 x5 x6 x7 x8 x9} : Safe c R (k0_part268 i a a' b b' d d' e e' f f' g g' j j' k k' l l' m m' n n' o o' p p' q q' r r' s s' t t' u u' v v' w w' x x' y y' z z' A A' B B' x0 x1 x2 x3 x4 x5 x6 x7 x8 x9) := safe_ret _

theorem safe_part269 {x0 x1 x2 x3 x4 x5 x6 x7 x8 x9 x10 x11 x12 x13 x14 x15 x16 x17 x18 x19 x20 x21 x22 x23 x24 x25 x26 x27 x28 x29 x30 x31 x32 x33 x34} : Safe c R (k0_part269 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part270 {x0 x1 x2} : Safe c R (k0_part270 i a a' b b' d d' e e' f f' g g' j j' k k' l l' m m' n n' o o' p p' q q' r r' s s' t t' u u' v v' w w' x x' y y' z z' A A' B B' x0 x1 x2) := safe_ret _

theorem safe_part271 {x0 x1 x2 x3 x4 x5 x6 x7 x8 x9 x10 x11 x12} : Safe c R (k0_part271 i a a' b b' d d' e e' f f' g g' j j' k k' l l' m m' n n' o o' p p' q q' r r' s s' t t' u u' v v' w w' x x' y y' z z' A A' B B' x0 x1 x2 x3 x4 x5 x6 x7 x8 x9 x10 x11 x12) := by
  unfold k0_part271
  refine safe_bind (safe_load H.r17) fun _ => ?_
  refine safe_bind (safe_store H.w17) fun _ => ?_
  exact safe_ret _

theorem safe_part272 {x0 x1 x2 x3 x4 x5 x6 x7 x8 x9 x10 x11} : Safe c R (k0_part272 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part273 {x0 x1 x2 x3 x4 x5 x6 x7 x8 x9 x10} : Safe c R (k0_part273 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part274 {x0 x1 x2 x3 x4 x5 x6 x7 x8 x9 x10 x11 x12 x13 x14 x15 x16 x17 x18 x19 x20 x21 x22 x23 x24 x25 x26 x27 x28 x29 x30 x31 x32 x33 x34} : Safe c R (k0_part274 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part275 {x0 x1 x2 x3 x4 x5 x6 x7 x8 x9 x10} : Safe c R (k0_part275 i a a' b b' d d' e e' f f' g g' j j' k k' l l' m m' n n' o o' p p' q q' r r' s s' t t' u u' v v' w w' x x' y y' z z' A A' B B' x0 x1 x2 x3 x4 x5 x6 x7 x8 x9 x10) := by
  unfold k0_part275
  refine safe_bind (safe_load H.r18) fun _ => ?_
  exact safe_ret _

theorem safe_part276 {x0 x1 x2 x3} : Safe c R (k0_part276 i a a' b b' d d' e e' f f' g g' j j' k k' l l' m m' n n' o o' p p' q q' r r' s s' t t' u u' v v' w w' x x' y y' z z' A A' B B' x0 x1 x2 x3) := by
  unfold k0_part276
  refine safe_bind (safe_load H.r15) fun _ => ?_
  exact safe_ret _

theorem safe_part277 {x0 x1 x2 x3 x4 x5 x6 x7 x8 x9} : Safe c R (k0_part277 i a a' b b' d d' e e' f f' g g' j j' k k' l l' m m' n n' o o' p p' q q' r r' s s' t t' u u' v v' w w' x x' y y' z z' A A' B B' x0 x1 x2 x3 x4 x5 x6 x7 x8 x9) := safe_ret _

theorem safe_part278 {x0 x1 x2 x3 x4 x5 x6 x7 x8 x9 x10 x11} : Safe c R (k0_part278 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part279 {x0 x1 x2 x3 x4 x5 x6 x7 x8 x9 x10} : Safe c R (k0_part279 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part280 {x0 x1 x2 x3 x4 x5 x6 x7 x8 x9 x10 x11 x12 x13 x14 x15 x16 x17 x18 x19 x20 x21 x22 x23 x24 x25 x26 x27 x28 x29 x30 x31 x32 x33 x34} : Safe c R (k0_part280 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part281 {x0 x1 x2 x3 x4 x5 x6 x7 x8 x9 x10 x11 x12 x13 x14 x15 x16 x17 x18 x19 x20 x21 x22 x23 x24 x25 x26 x27 x28 x29 x30 x31 x32 x33 x34 x35} : Safe c R (k0_part281 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34 x35) := by
  unfold k0_part281
  refine safe_bind (safe_load H.r17) fun _ => ?_
  refine safe_bind (safe_store H.w17) fun _ => ?_
  exact safe_ret _

theorem safe_part282 {x0 x1 x2 x3 x4 x5 x6 x7 x8 x9 x10 x11 x12} : Safe c R (k0_part282 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part283 {x0 x1 x2 x3 x4 x5 x6 x7 x8 x9 x10} : Safe c R (k0_part283 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part284 {x0 x1 x2 x3 x4 x5 x6 x7 x8 x9} : Safe c R (k0_part284 i a a' b b' d d' e e' f f' g g' j j' k k' l l' m m' n n' o o' p p' q q' r r' s s' t t' u u' v v' w w' x x' y y' z z' A A' B B' x0 x1 x2 x3 x4 x5 x6 x7 x8 x9) := safe_ret _

theorem safe_part285 {x0 x1 x2 x3 x4 x5 x6 x7 x8 x9 x10 x11 x12 x13 x14 x15 x16 x17 x18 x19 x20 x21 x22 x23 x24 x25 x26 x27 x28 x29 x30 x31 x32 x33 x34} : Safe c R (k0_part285 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part286 {x0 x1 x2 x3 x4 x5 x6 x7 x8 x9 x10 x11 x12 x13 x14 x15 x16 x17 x18 x19 x20 x21 x22 x23 x24 x25 x26 x27 x28 x29 x30 x31} : Safe c R (k0_part286 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31) := by
  unfold k0_part286
  refine safe_bind (safe_load H.r18) fun _ => ?_
  refine safe_bind (safe_store H.w18) fun _ => ?_
  exact safe_ret _

theorem safe_part287 {x0 x1 x2 x3 x4 x5 x6 x7 x8 x9} : Safe c R (k0_part287 i a a' b b' d d' e e' f f' g g' j j' k k' l l' m m' n n' o o' p p' q q' r r' s s' t t' u u' v v' w w' x x' y y' z z' A A' B B' x0 x1 x2 x3 x4 x5 x6 x7 x8 x9) := safe_ret _

theorem safe_part288 {x0 x1 x2 x3 x4 x5 x6 x7 x8 x9 x10 x11 x12} : Safe c R (k0_part288 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part289 {x0 x1 x2 x3 x4 x5 x6 x7 x8 x9} : Safe c R (k0_part289 i a a' b b' d d' e e' f f' g g' j j' k k' l l' m m' n n' o o' p p' q q' r r' s s' t t' u u' v v' w w' x x' y y' z z' A A' B B' x0 x1 x2 x3 x4 x5 x6 x7 x8 x9) := safe_ret _

theorem safe_part290 {x0 x1 x2 x3 x4 x5 x6 x7 x8 x9 x10 x11 x12 x13 x14 x15 x16 x17 x18 x19 x20 x21 x22 x23 x24 x25 x26 x27 x28 x29 x30 x31 x32 x33 x34} : Safe c R (k0_part290 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part291 {x0 x1 x2} : Safe c R (k0_part291 i a a' b b' d d' e e' f f' g g' j j' k k' l l' m m' n n' o o' p p' q q' r r' s s' t t' u u' v v' w w' x x' y y' z z' A A' B B' x0 x1 x2) := safe_ret _

theorem safe_part292 {x0 x1 x2 x3 x4 x5 x6 x7 x8 x9 x10 x11 x12} : Safe c R (k0_part292 i a a' b b' d d' e e' f f' g g' j j' k k' l l' m m' n n' o o' p p' q q' r r' s s' t t' u u' v v' w w' x x' y y' z z' A A' B B' x0 x1 x2 x3 x4 x5 x6 x7 x8 x9 x10 x11 x12) := by
  unfold k0_part292
  refine safe_bind (safe_load H.r17) fun _ => ?_
  refine safe_bind (safe_store H.w17) fun _ => ?_
  exact safe_ret _

theorem safe_part293 {x0 x1 x2 x3 x4 x5 x6 x7 x8 x9 x10 x11} : Safe c R (k0_part293 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part294 {x0 x1 x2 x3 x4 x5 x6 x7 x8 x9 x10} : Safe c R (k0_part294 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part295 {x0 x1 x2 x3 x4 x5 x6 x7 x8 x9 x10 x11 x12 x13 x14 x15 x16 x17 x18 x19 x20 x21 x22 x23 x24 x25 x26 x27 x28 x29 x30 x31 x32 x33 x34} : Safe c R (k0_part295 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part296 {x0 x1 x2 x3 x4 x5 x6 x7 x8 x9 x10} : Safe c R (k0_part296 i a a' b b' d d' e e' f f' g g' j j' k k' l l' m m' n n' o o' p p' q q' r r' s s' t t' u u' v v' w w' x x' y y' z z' A A' B B' x0 x1 x2 x3 x4 x5 x6 x7 x8 x9 x10) := by
  unfold k0_part296
  refine safe_bind (safe_load H.r18) fun _ => ?_
  exact safe_ret _

theorem safe_part297 {x0 x1 x2 x3} : Safe c R (k0_part297 i a a' b b' d d' e e' f f' g g' j j' k k' l l' m m' n n' o o' p p' q q' r r' s s' t t' u u' v v' w w' x x' y y' z z' A A' B B' x0 x1 x2 x3) := by
  unfold k0_part297
  refine safe_bind (safe_load H.r15) fun _ => ?_
  exact safe_ret _

end Cert.Kernel.Hand

end
-- ==== Proof.Pieces5.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part298 {x0 x1 x2 x3 x4 x5 x6 x7 x8 x9} : Safe c R (k0_part298 i a a' b b' d d' e e' f f' g g' j j' k k' l l' m m' n n' o o' p p' q q' r r' s s' t t' u u' v v' w w' x x' y y' z z' A A' B B' x0 x1 x2 x3 x4 x5 x6 x7 x8 x9) := safe_ret _

theorem safe_part299 {x0 x1 x2 x3 x4 x5 x6 x7 x8 x9 x10 x11} : Safe c R (k0_part299 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part300 {x0 x1 x2 x3 x4 x5 x6 x7 x8 x9 x10} : Safe c R (k0_part300 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part301 {x0 x1 x2 x3 x4 x5 x6 x7 x8 x9 x10 x11 x12 x13 x14 x15 x16 x17 x18 x19 x20 x21 x22 x23 x24 x25 x26 x27 x28 x29 x30 x31 x32 x33 x34} : Safe c R (k0_part301 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part302 {x0 x1 x2 x3 x4 x5 x6 x7 x8 x9 x10 x11 x12 x13 x14 x15 x16 x17 x18 x19 x20 x21 x22 x23 x24 x25 x26 x27 x28 x29 x30 x31 x32 x33 x34 x35} : Safe c R (k0_part302 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34 x35) := by
  unfold k0_part302
  refine safe_bind (safe_load H.r17) fun _ => ?_
  refine safe_bind (safe_store H.w17) fun _ => ?_
  exact safe_ret _

theorem safe_part303 {x0 x1 x2 x3 x4 x5 x6 x7 x8 x9 x10 x11 x12} : Safe c R (k0_part303 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part304 {x0 x1 x2 x3 x4 x5 x6 x7 x8 x9 x10} : Safe c R (k0_part304 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part305 {x0 x1 x2 x3 x4 x5 x6 x7 x8 x9} : Safe c R (k0_part305 i a a' b b' d d' e e' f f' g g' j j' k k' l l' m m' n n' o o' p p' q q' r r' s s' t t' u u' v v' w w' x x' y y' z z' A A' B B' x0 x1 x2 x3 x4 x5 x6 x7 x8 x9) := safe_ret _

theorem safe_part306 {x0 x1 x2 x3 x4 x5 x6 x7 x8 x9 x10 x11 x12 x13 x14 x15 x16 x17 x18 x19 x20 x21 x22 x23 x24 x25 x26 x27 x28 x29 x30 x31 x32 x33 x34} : Safe c R (k0_part306 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part307 {x0 x1 x2 x3 x4 x5 x6 x7 x8 x9 x10 x11 x12 x13 x14 x15 x16 x17 x18 x19 x20 x21 x22 x23 x24 x25 x26 x27 x28 x29 x30 x31} : Safe c R (k0_part307 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31) := by
  unfold k0_part307
  refine safe_bind (safe_load H.r18) fun _ => ?_
  refine safe_bind (safe_store H.w18) fun _ => ?_
  exact safe_ret _

theorem safe_part308 {x0 x1 x2 x3 x4 x5 x6 x7 x8 x9} : Safe c R (k0_part308 i a a' b b' d d' e e' f f' g g' j j' k k' l l' m m' n n' o o' p p' q q' r r' s s' t t' u u' v v' w w' x x' y y' z z' A A' B B' x0 x1 x2 x3 x4 x5 x6 x7 x8 x9) := safe_ret _

theorem safe_part309 {x0 x1 x2 x3 x4 x5 x6 x7 x8 x9 x10 x11 x12} : Safe c R (k0_part309 i a a' b b' d d' e e' f f' g g' j j' k k' l l' m m' n n' o o' p p' q q' r r' s s' t t' u u' v v' w w' x x' y y' z z' A A' B B' x0 x1 x2 x3 x4 x5 x6 x7 x8 x9 x10 x11 x12) := safe_ret _

theorem safe_part310 {x0 x1 x2 x3 x4 x5 x6 x7 x8 x9} : Safe c R (k0_part310 i a a' b b' d d' e e' f f' g g' j j' k k' l l' m m' n n' o o' p p' q q' r r' s s' t t' u u' v v' w w' x x' y y' z z' A A' B B' x0 x1 x2 x3 x4 x5 x6 x7 x8 x9) := safe_ret _

theorem safe_part311 {x0 x1 x2 x3 x4 x5 x6 x7 x8 x9 x10 x11 x12 x13 x14 x15 x16 x17 x18 x19 x20 x21 x22 x23 x24 x25 x26 x27 x28 x29 x30 x31 x32 x33 x34} : Safe c R (k0_part311 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part312 {x0 x1 x2} : Safe c R (k0_part312 i a a' b b' d d' e e' f f' g g' j j' k k' l l' m m' n n' o o' p p' q q' r r' s s' t t' u u' v v' w w' x x' y y' z z' A A' B B' x0 x1 x2) := safe_ret _

theorem safe_part313 {x0 x1 x2 x3 x4 x5 x6 x7 x8 x9 x10 x11 x12} : Safe c R (k0_part313 i a a' b b' d d' e e' f f' g g' j j' k k' l l' m m' n n' o o' p p' q q' r r' s s' t t' u u' v v' w w' x x' y y' z z' A A' B B' x0 x1 x2 x3 x4 x5 x6 x7 x8 x9 x10 x11 x12) := by
  unfold k0_part313
  refine safe_bind (safe_load H.r17) fun _ => ?_
  refine safe_bind (safe_store H.w17) fun _ => ?_
  exact safe_ret _

theorem safe_part314 {x0 x1 x2 x3 x4 x5 x6 x7 x8 x9 x10 x11} : Safe c R (k0_part314 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part315 {x0 x1 x2 x3 x4 x5 x6 x7 x8 x9 x10} : Safe c R (k0_part315 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part316 {x0 x1 x2 x3 x4 x5 x6 x7 x8 x9 x10 x11 x12 x13 x14 x15 x16 x17 x18 x19 x20 x21 x22 x23 x24 x25 x26 x27 x28 x29 x30 x31 x32 x33 x34} : Safe c R (k0_part316 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34) := safe_ret _

theorem safe_part317 {x0 x1 x2 x3 x4 x5 x6 x7 x8 x9 x10} : Safe c R (k0_part317 i a a' b b' d d' e e' f f' g g' j j' k k' l l' m m' n n' o o' p p' q q' r r' s s' t t' u u' v v' w w' x x' y y' z z' A A' B B' x0 x1 x2 x3 x4 x5 x6 x7 x8 x9 x10) := by
  unfold k0_part317
  refine safe_bind (safe_load H.r18) fun _ => ?_
  exact safe_ret _

theorem safe_part319 {x0 x1 x2} : Safe c R (k0_part319 i a a' b b' d d' e e' f f' g g' j j' k k' l l' m m' n n' o o' p p' q q' r r' s s' t t' u u' v v' w w' x x' y y' z z' A A' B B' x0 x1 x2) := by
  unfold k0_part319
  refine safe_bind (safe_load H.r19) fun _ => ?_
  refine safe_bind (safe_load H.r18) fun _ => ?_
  exact safe_ret _

theorem safe_part320 {x0 x1 x2 x3} : Safe c R (k0_part320 i a a' b b' d d' e e' f f' g g' j j' k k' l l' m m' n n' o o' p p' q q' r r' s s' t t' u u' v v' w w' x x' y y' z z' A A' B B' x0 x1 x2 x3) := safe_ret _

theorem safe_part321 {x0 x1} : Safe c R (k0_part321 i a a' b b' d d' e e' f f' g g' j j' k k' l l' m m' n n' o o' p p' q q' r r' s s' t t' u u' v v' w w' x x' y y' z z' A A' B B' x0 x1) := safe_ret _

theorem safe_part322 {x0 x1 x2 x3} : Safe c R (k0_part322 i a a' b b' d d' e e' f f' g g' j j' k k' l l' m m' n n' o o' p p' q q' r r' s s' t t' u u' v v' w w' x x' y y' z z' A A' B B' x0 x1 x2 x3) := safe_ret _

theorem safe_part323 {x0 x1} : Safe c R (k0_part323 i a a' b b' d d' e e' f f' g g' j j' k k' l l' m m' n n' o o' p p' q q' r r' s s' t t' u u' v v' w w' x x' y y' z z' A A' B B' x0 x1) := safe_ret _

theorem safe_part324 {x0 x1 x2} : Safe c R (k0_part324 i a a' b b' d d' e e' f f' g g' j j' k k' l l' m m' n n' o o' p p' q q' r r' s s' t t' u u' v v' w w' x x' y y' z z' A A' B B' x0 x1 x2) := safe_ret _

theorem safe_part325 {x0 x1 x2 x3 x4 x5 x6 x7 x8 x9 x10 x11 x12 x13 x14 x15 x16 x17 x18 x19 x20 x21 x22 x23 x24 x25 x26 x27 x28 x29 x30 x31 x32 x33 x34 x35} : Safe c R (k0_part325 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34 x35) := by
  unfold k0_part325
  refine safe_bind (safe_load H.r22) fun _ => ?_
  refine safe_bind (safe_store H.w22) fun _ => ?_
  refine safe_bind (safe_load H.r19) fun _ => ?_
  refine safe_bind (safe_load H.r18) fun _ => ?_
  exact safe_ret _

theorem safe_part326 {x0 x1} : Safe c R (k0_part326 i a a' b b' d d' e e' f f' g g' j j' k k' l l' m m' n n' o o' p p' q q' r r' s s' t t' u u' v v' w w' x x' y y' z z' A A' B B' x0 x1) := safe_ret _

theorem safe_part327 {x0 x1} : Safe c R (k0_part327 i a a' b b' d d' e e' f f' g g' j j' k k' l l' m m' n n' o o' p p' q q' r r' s s' t t' u u' v v' w w' x x' y y' z z' A A' B B' x0 x1) := safe_ret _

theorem safe_part328 {x0} : Safe c R (k0_part328 i a a' b b' d d' e e' f f' g g' j j' k k' l l' m m' n n' o o' p p' q q' r r' s s' t t' u u' v v' w w' x x' y y' z z' A A' B B' x0) := safe_ret _

theorem safe_part329 {x0 x1 x2} : Safe c R (k0_part329 i a a' b b' d d' e e' f f' g g' j j' k k' l l' m m' n n' o o' p p' q q' r r' s s' t t' u u' v v' w w' x x' y y' z z' A A' B B' x0 x1 x2) := safe_ret _

theorem safe_part330 {x0 x1 x2 x3} : Safe c R (k0_part330 i a a' b b' d d' e e' f f' g g' j j' k k' l l' m m' n n' o o' p p' q q' r r' s s' t t' u u' v v' w w' x x' y y' z z' A A' B B' x0 x1 x2 x3) := safe_ret _

theorem safe_part331 {x0 x1 x2} : Safe c R (k0_part331 i a a' b b' d d' e e' f f' g g' j j' k k' l l' m m' n n' o o' p p' q q' r r' s s' t t' u u' v v' w w' x x' y y' z z' A A' B B' x0 x1 x2) := by
  unfold k0_part331
  refine safe_bind (safe_load H.r19) fun _ => ?_
  refine safe_bind (safe_load H.r18) fun _ => ?_
  exact safe_ret _

theorem safe_part332 {x0 x1 x2 x3} : Safe c R (k0_part332 i a a' b b' d d' e e' f f' g g' j j' k k' l l' m m' n n' o o' p p' q q' r r' s s' t t' u u' v v' w w' x x' y y' z z' A A' B B' x0 x1 x2 x3) := safe_ret _

theorem safe_part333 {x0 x1} : Safe c R (k0_part333 i a a' b b' d d' e e' f f' g g' j j' k k' l l' m m' n n' o o' p p' q q' r r' s s' t t' u u' v v' w w' x x' y y' z z' A A' B B' x0 x1) := safe_ret _

theorem safe_part334 {x0 x1 x2 x3} : Safe c R (k0_part334 i a a' b b' d d' e e' f f' g g' j j' k k' l l' m m' n n' o o' p p' q q' r r' s s' t t' u u' v v' w w' x x' y y' z z' A A' B B' x0 x1 x2 x3) := safe_ret _

theorem safe_part335 {x0 x1} : Safe c R (k0_part335 i a a' b b' d d' e e' f f' g g' j j' k k' l l' m m' n n' o o' p p' q q' r r' s s' t t' u u' v v' w w' x x' y y' z z' A A' B B' x0 x1) := safe_ret _

theorem safe_part336 {x0 x1 x2} : Safe c R (k0_part336 i a a' b b' d d' e e' f f' g g' j j' k k' l l' m m' n n' o o' p p' q q' r r' s s' t t' u u' v v' w w' x x' y y' z z' A A' B B' x0 x1 x2) := safe_ret _

theorem safe_part337 {x0 x1 x2 x3 x4 x5 x6 x7 x8 x9 x10 x11 x12 x13 x14 x15 x16 x17 x18 x19 x20 x21 x22 x23 x24 x25 x26 x27 x28 x29 x30 x31 x32 x33 x34 x35} : Safe c R (k0_part337 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20 x21 x22 x23 x24 x25 x26 x27 x28 x29 x30 x31 x32 x33 x34 x35) := by
  unfold k0_part337
  refine safe_bind (safe_load H.r22) fun _ => ?_
  refine safe_bind (safe_store H.w22) fun _ => ?_
  refine safe_bind (safe_load H.r19) fun _ => ?_
  refine safe_bind (safe_load H.r18) fun _ => ?_
  exact safe_ret _

theorem safe_part338 {x0 x1} : Safe c R (k0_part338 i a a' b b' d d' e e' f f' g g' j j' k k' l l' m m' n n' o o' p p' q q' r r' s s' t t' u u' v v' w w' x x' y y' z z' A A' B B' x0 x1) := safe_ret _

theorem safe_part339 {x0 x1} : Safe c R (k0_part339 i a a' b b' d d' e e' f f' g g' j j' k k' l l' m m' n n' o o' p p' q q' r r' s s' t t' u u' v v' w w' x x' y y' z z' A A' B B' x0 x1) := safe_ret _

theorem safe_part340 {x0} : Safe c R (k0_part340 i a a' b b' d d' e e' f f' g g' j j' k k' l l' m m' n n' o o' p p' q q' r r' s s' t t' u u' v v' w w' x x' y y' z z' A A' B B' x0) := safe_ret _

theorem safe_part341 {x0 x1 x2} : Safe c R (k0_part341 i a a' b b' d d' e e' f f' g g' j j' k k' l l' m m' n n' o o' p p' q q' r r' s s' t t' u u' v v' w w' x x' y y' z z' A A' B B' x0 x1 x2) := safe_ret _

theorem safe_part342 {x0 x1 x2 x3} : Safe c R (k0_part342 i a a' b b' d d' e e' f f' g g' j j' k k' l l' m m' n n' o o' p p' q q' r r' s s' t t' u u' v v' w w' x x' y y' z z' A A' B B' x0 x1 x2 x3) := safe_ret _

theorem safe_part343 {x0 x1 x2 x3 x4} : Safe c R (k0_part343 i a a' b b' d d' e e' f f' g g' j j' k k' l l' m m' n n' o o' p p' q q' r r' s s' t t' u u' v v' w w' x x' y y' z z' A A' B B' x0 x1 x2 x3 x4) := by
  unfold k0_part343
  refine safe_bind (safe_load H.r6) fun _ => ?_
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part344 {x0 x1 x2 x3 x4 x5 x6 x7 x8 x9 x10 x11 x12 x13 x14} : Safe c R (k0_part344 i a a' b b' d d' e e' f f' g g' j j' k k' l l' m m' n n' o o' p p' q q' r r' s s' t t' u u' v v' w w' x x' y y' z z' A A' B B' x0 x1 x2 x3 x4 x5 x6 x7 x8 x9 x10 x11 x12 x13 x14) := by
  unfold k0_part344
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part345 {x0 x1 x2 x3 x4 x5 x6 x7} : Safe c R (k0_part345 i a a' b b' d d' e e' f f' g g' j j' k k' l l' m m' n n' o o' p p' q q' r r' s s' t t' u u' v v' w w' x x' y y' z z' A A' B B' x0 x1 x2 x3 x4 x5 x6 x7) := by
  unfold k0_part345
  refine safe_bind (safe_load H.r22) fun _ => ?_
  refine safe_bind (safe_load H.r11) fun _ => ?_
  exact safe_ret _

theorem safe_part346 {x0 x1 x2 x3 x4 x5} : Safe c R (k0_part346 i a a' b b' d d' e e' f f' g g' j j' k k' l l' m m' n n' o o' p p' q q' r r' s s' t t' u u' v v' w w' x x' y y' z z' A A' B B' x0 x1 x2 x3 x4 x5) := by
  unfold k0_part346
  refine safe_bind (safe_load H.r23) fun _ => ?_
  refine safe_bind (safe_store H.w23) fun _ => ?_
  refine safe_bind (safe_load H.r22) fun _ => ?_
  exact safe_ret _

theorem safe_part347 {x0 x1 x2 x3 x4 x5 x6} : Safe c R (k0_part347 i a a' b b' d d' e e' f f' g g' j j' k k' l l' m m' n n' o o' p p' q q' r r' s s' t t' u u' v v' w w' x x' y y' z z' A A' B B' x0 x1 x2 x3 x4 x5 x6) := by
  unfold k0_part347
  refine safe_bind (safe_load H.r11) fun _ => ?_
  refine safe_bind (safe_load H.r23) fun _ => ?_
  refine safe_bind (safe_store H.w23) fun _ => ?_
  refine safe_bind (safe_load H.r24) fun _ => ?_
  refine safe_bind (safe_store H.w24) fun _ => ?_
  exact safe_ret _

theorem safe_part348 {x0 x1 x2 x3} : Safe c R (k0_part348 i a a' b b' d d' e e' f f' g g' j j' k k' l l' m m' n n' o o' p p' q q' r r' s s' t t' u u' v v' w w' x x' y y' z z' A A' B B' x0 x1 x2 x3) := by
  unfold k0_part348
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part349 {x0 x1 x2 x3 x4 x5 x6 x7} : Safe c R (k0_part349 i a a' b b' d d' e e' f f' g g' j j' k k' l l' m m' n n' o o' p p' q q' r r' s s' t t' u u' v v' w w' x x' y y' z z' A A' B B' x0 x1 x2 x3 x4 x5 x6 x7) := by
  unfold k0_part349
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part350 {x0 x1 x2 x3 x4 x5 x6 x7 x8 x9 x10 x11 x12 x13 x14} : Safe c R (k0_part350 i a a' b b' d d' e e' f f' g g' j j' k k' l l' m m' n n' o o' p p' q q' r r' s s' t t' u u' v v' w w' x x' y y' z z' A A' B B' x0 x1 x2 x3 x4 x5 x6 x7 x8 x9 x10 x11 x12 x13 x14) := by
  unfold k0_part350
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part351 {x0 x1 x2 x3 x4 x5 x6 x7 x8 x9 x10 x11 x12 x13 x14 x15 x16 x17 x18 x19 x20} : Safe c R (k0_part351 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20) := by
  unfold k0_part351
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part352 {x0 x1 x2 x3 x4 x5 x6 x7 x8 x9 x10 x11} : Safe c R (k0_part352 i a a' b b' d d' e e' f f' g g' j j' k k' l l' m m' n n' o o' p p' q q' r r' s s' t t' u u' v v' w w' x x' y y' z z' A A' B B' x0 x1 x2 x3 x4 x5 x6 x7 x8 x9 x10 x11) := by
  unfold k0_part352
  refine safe_bind (safe_load H.r24) fun _ => ?_
  refine safe_bind (safe_store H.w24) fun _ => ?_
  refine safe_bind (safe_load H.r7) fun _ => ?_
  refine safe_bind (safe_load H.r25) fun _ => ?_
  refine safe_bind (safe_load H.r24) fun _ => ?_
  exact safe_ret _

theorem safe_part353 {x0 x1 x2} : Safe c R (k0_part353 i a a' b b' d d' e e' f f' g g' j j' k k' l l' m m' n n' o o' p p' q q' r r' s s' t t' u u' v v' w w' x x' y y' z z' A A' B B' x0 x1 x2) := by
  unfold k0_part353
  refine safe_bind (safe_load H.r23) fun _ => ?_
  refine safe_bind (safe_load H.r26) fun _ => ?_
  refine safe_bind (safe_load H.r26) fun _ => ?_
  refine safe_bind (safe_store H.w26) fun _ => ?_
  refine safe_bind (safe_load H.r25) fun _ => ?_
  refine safe_bind (safe_store H.w25) fun _ => ?_
  refine safe_bind (safe_load H.r25) fun _ => ?_
  refine safe_bind (safe_load H.r24) fun _ => ?_
  refine safe_bind (safe_load H.r23) fun _ => ?_
  refine safe_bind (safe_load H.r26) fun _ => ?_
  exact safe_ret _

theorem safe_part354 {x0 x1 x2 x3 x4 x5 x6 x7} : Safe c R (k0_part354 i a a' b b' d d' e e' f f' g g' j j' k k' l l' m m' n n' o o' p p' q q' r r' s s' t t' u u' v v' w w' x x' y y' z z' A A' B B' x0 x1 x2 x3 x4 x5 x6 x7) := by
  unfold k0_part354
  refine safe_bind (safe_load H.r26) fun _ => ?_
  refine safe_bind (safe_store H.w26) fun _ => ?_
  refine safe_bind (safe_load H.r25) fun _ => ?_
  refine safe_bind (safe_store H.w25) fun _ => ?_
  refine safe_bind (safe_load H.r6) fun _ => ?_
  refine safe_bind (safe_load H.r22) fun _ => ?_
  refine safe_bind (safe_load H.r11) fun _ => ?_
  exact safe_ret _

theorem safe_part355 {x0 x1 x2 x3 x4 x5 x6} : Safe c R (k0_part355 i a a' b b' d d' e e' f f' g g' j j' k k' l l' m m' n n' o o' p p' q q' r r' s s' t t' u u' v v' w w' x x' y y' z z' A A' B B' x0 x1 x2 x3 x4 x5 x6) := by
  unfold k0_part355
  refine safe_bind (safe_load H.r23) fun _ => ?_
  refine safe_bind (safe_store H.w23) fun _ => ?_
  refine safe_bind (safe_load H.r22) fun _ => ?_
  exact safe_ret _

theorem safe_part356 {x0 x1 x2 x3 x4 x5 x6} : Safe c R (k0_part356 i a a' b b' d d' e e' f f' g g' j j' k k' l l' m m' n n' o o' p p' q q' r r' s s' t t' u u' v v' w w' x x' y y' z z' A A' B B' x0 x1 x2 x3 x4 x5 x6) := by
  unfold k0_part356
  refine safe_bind (safe_load H.r11) fun _ => ?_
  refine safe_bind (safe_load H.r23) fun _ => ?_
  refine safe_bind (safe_store H.w23) fun _ => ?_
  exact safe_ret _

end Cert.Kernel.Hand

end
-- ==== Proof.Pieces6.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part357 {x0 x1 x2 x3 x4 x5 x6} : Safe c R (k0_part357 i a a' b b' d d' e e' f f' g g' j j' k k' l l' m m' n n' o o' p p' q q' r r' s s' t t' u u' v v' w w' x x' y y' z z' A A' B B' x0 x1 x2 x3 x4 x5 x6) := by
  unfold k0_part357
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part358 {x0 x1 x2 x3 x4 x5} : Safe c R (k0_part358 i a a' b b' d d' e e' f f' g g' j j' k k' l l' m m' n n' o o' p p' q q' r r' s s' t t' u u' v v' w w' x x' y y' z z' A A' B B' x0 x1 x2 x3 x4 x5) := by
  unfold k0_part358
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part359 {x0 x1 x2 x3 x4 x5 x6} : Safe c R (k0_part359 i a a' b b' d d' e e' f f' g g' j j' k k' l l' m m' n n' o o' p p' q q' r r' s s' t t' u u' v v' w w' x x' y y' z z' A A' B B' x0 x1 x2 x3 x4 x5 x6) := by
  unfold k0_part359
  refine safe_bind (safe_load H.r24) fun _ => ?_
  refine safe_bind (safe_store H.w24) fun _ => ?_
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part360 {x0 x1 x2 x3 x4 x5 x6 x7 x8 x9 x10 x11 x12 x13 x14 x15 x16 x17} : Safe c R (k0_part360 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17) := by
  unfold k0_part360
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part361 {x0 x1 x2 x3 x4 x5 x6 x7 x8 x9 x10} : Safe c R (k0_part361 i a a' b b' d d' e e' f f' g g' j j' k k' l l' m m' n n' o o' p p' q q' r r' s s' t t' u u' v v' w w' x x' y y' z z' A A' B B' x0 x1 x2 x3 x4 x5 x6 x7 x8 x9 x10) := by
  unfold k0_part361
  refine safe_bind (safe_load H.r22) fun _ => ?_
  refine safe_bind (safe_load H.r11) fun _ => ?_
  refine safe_bind (safe_load H.r23) fun _ => ?_
  exact safe_ret _

theorem safe_part362 {x0 x1 x2 x3 x4 x5} : Safe c R (k0_part362 i a a' b b' d d' e e' f f' g g' j j' k k' l l' m m' n n' o o' p p' q q' r r' s s' t t' u u' v v' w w' x x' y y' z z' A A' B B' x0 x1 x2 x3 x4 x5) := by
  unfold k0_part362
  refine safe_bind (safe_store H.w23) fun _ => ?_
  refine safe_bind (safe_load H.r22) fun _ => ?_
  refine safe_bind (safe_load H.r11) fun _ => ?_
  exact safe_ret _

theorem safe_part363 {x0 x1 x2 x3 x4} : Safe c R (k0_part363 i a a' b b' d d' e e' f f' g g' j j' k k' l l' m m' n n' o o' p p' q q' r r' s s' t t' u u' v v' w w' x x' y y' z z' A A' B B' x0 x1 x2 x3 x4) := by
  unfold k0_part363
  refine safe_bind (safe_load H.r23) fun _ => ?_
  refine safe_bind (safe_store H.w23) fun _ => ?_
  refine safe_bind (safe_load H.r24) fun _ => ?_
  refine safe_bind (safe_store H.w24) fun _ => ?_
  refine safe_bind (safe_load H.r7) fun _ => ?_
  exact safe_ret _

theorem safe_part364 {x0 x1} : Safe c R (k0_part364 i a a' b b' d d' e e' f f' g g' j j' k k' l l' m m' n n' o o' p p' q q' r r' s s' t t' u u' v v' w w' x x' y y' z z' A A' B B' x0 x1) := by
  unfold k0_part364
  refine safe_bind (safe_load H.r25) fun _ => ?_
  refine safe_bind (safe_load H.r24) fun _ => ?_
  refine safe_bind (safe_load H.r23) fun _ => ?_
  refine safe_bind (safe_load H.r26) fun _ => ?_
  refine safe_bind (safe_load H.r26) fun _ => ?_
  refine safe_bind (safe_store H.w26) fun _ => ?_
  refine safe_bind (safe_load H.r25) fun _ => ?_
  refine safe_bind (safe_store H.w25) fun _ => ?_
  refine safe_bind (safe_load H.r25) fun _ => ?_
  refine safe_bind (safe_load H.r24) fun _ => ?_
  exact safe_ret _

theorem safe_part365 {x0 x1 x2 x3 x4} : Safe c R (k0_part365 i a a' b b' d d' e e' f f' g g' j j' k k' l l' m m' n n' o o' p p' q q' r r' s s' t t' u u' v v' w w' x x' y y' z z' A A' B B' x0 x1 x2 x3 x4) := by
  unfold k0_part365
  refine safe_bind (safe_load H.r6) fun _ => ?_
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part366 {x0 x1 x2 x3 x4 x5 x6 x7 x8 x9 x10 x11 x12 x13 x14} : Safe c R (k0_part366 i a a' b b' d d' e e' f f' g g' j j' k k' l l' m m' n n' o o' p p' q q' r r' s s' t t' u u' v v' w w' x x' y y' z z' A A' B B' x0 x1 x2 x3 x4 x5 x6 x7 x8 x9 x10 x11 x12 x13 x14) := by
  unfold k0_part366
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part367 {x0 x1 x2 x3 x4 x5 x6 x7} : Safe c R (k0_part367 i a a' b b' d d' e e' f f' g g' j j' k k' l l' m m' n n' o o' p p' q q' r r' s s' t t' u u' v v' w w' x x' y y' z z' A A' B B' x0 x1 x2 x3 x4 x5 x6 x7) := by
  unfold k0_part367
  refine safe_bind (safe_load H.r22) fun _ => ?_
  refine safe_bind (safe_load H.r11) fun _ => ?_
  exact safe_ret _

theorem safe_part368 {x0 x1 x2 x3 x4 x5} : Safe c R (k0_part368 i a a' b b' d d' e e' f f' g g' j j' k k' l l' m m' n n' o o' p p' q q' r r' s s' t t' u u' v v' w w' x x' y y' z z' A A' B B' x0 x1 x2 x3 x4 x5) := by
  unfold k0_part368
  refine safe_bind (safe_load H.r23) fun _ => ?_
  refine safe_bind (safe_store H.w23) fun _ => ?_
  refine safe_bind (safe_load H.r22) fun _ => ?_
  exact safe_ret _

theorem safe_part369 {x0 x1 x2 x3 x4 x5 x6} : Safe c R (k0_part369 i a a' b b' d d' e e' f f' g g' j j' k k' l l' m m' n n' o o' p p' q q' r r' s s' t t' u u' v v' w w' x x' y y' z z' A A' B B' x0 x1 x2 x3 x4 x5 x6) := by
  unfold k0_part369
  refine safe_bind (safe_load H.r11) fun _ => ?_
  refine safe_bind (safe_load H.r23) fun _ => ?_
  refine safe_bind (safe_store H.w23) fun _ => ?_
  refine safe_bind (safe_load H.r24) fun _ => ?_
  refine safe_bind (safe_store H.w24) fun _ => ?_
  exact safe_ret _

theorem safe_part370 {x0 x1 x2 x3} : Safe c R (k0_part370 i a a' b b' d d' e e' f f' g g' j j' k k' l l' m m' n n' o o' p p' q q' r r' s s' t t' u u' v v' w w' x x' y y' z z' A A' B B' x0 x1 x2 x3) := by
  unfold k0_part370
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part371 {x0 x1 x2 x3 x4 x5 x6 x7} : Safe c R (k0_part371 i a a' b b' d d' e e' f f' g g' j j' k k' l l' m m' n n' o o' p p' q q' r r' s s' t t' u u' v v' w w' x x' y y' z z' A A' B B' x0 x1 x2 x3 x4 x5 x6 x7) := by
  unfold k0_part371
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part372 {x0 x1 x2 x3 x4 x5 x6 x7 x8 x9 x10 x11 x12 x13 x14} : Safe c R (k0_part372 i a a' b b' d d' e e' f f' g g' j j' k k' l l' m m' n n' o o' p p' q q' r r' s s' t t' u u' v v' w w' x x' y y' z z' A A' B B' x0 x1 x2 x3 x4 x5 x6 x7 x8 x9 x10 x11 x12 x13 x14) := by
  unfold k0_part372
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part373 {x0 x1 x2 x3 x4 x5 x6 x7 x8 x9 x10 x11 x12 x13 x14 x15 x16 x17 x18 x19 x20} : Safe c R (k0_part373 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20) := by
  unfold k0_part373
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part374 {x0 x1 x2 x3 x4 x5 x6 x7 x8 x9 x10 x11} : Safe c R (k0_part374 i a a' b b' d d' e e' f f' g g' j j' k k' l l' m m' n n' o o' p p' q q' r r' s s' t t' u u' v v' w w' x x' y y' z z' A A' B B' x0 x1 x2 x3 x4 x5 x6 x7 x8 x9 x10 x11) := by
  unfold k0_part374
  refine safe_bind (safe_load H.r24) fun _ => ?_
  refine safe_bind (safe_store H.w24) fun _ => ?_
  refine safe_bind (safe_load H.r7) fun _ => ?_
  refine safe_bind (safe_load H.r25) fun _ => ?_
  refine safe_bind (safe_load H.r24) fun _ => ?_
  exact safe_ret _

theorem safe_part375 {x0 x1 x2} : Safe c R (k0_part375 i a a' b b' d d' e e' f f' g g' j j' k k' l l' m m' n n' o o' p p' q q' r r' s s' t t' u u' v v' w w' x x' y y' z z' A A' B B' x0 x1 x2) := by
  unfold k0_part375
  refine safe_bind (safe_load H.r23) fun _ => ?_
  refine safe_bind (safe_load H.r26) fun _ => ?_
  refine safe_bind (safe_load H.r26) fun _ => ?_
  refine safe_bind (safe_store H.w26) fun _ => ?_
  refine safe_bind (safe_load H.r25) fun _ => ?_
  refine safe_bind (safe_store H.w25) fun _ => ?_
  refine safe_bind (safe_load H.r25) fun _ => ?_
  refine safe_bind (safe_load H.r24) fun _ => ?_
  refine safe_bind (safe_load H.r23) fun _ => ?_
  refine safe_bind (safe_load H.r26) fun _ => ?_
  exact safe_ret _

theorem safe_part376 {x0 x1 x2 x3 x4 x5 x6 x7} : Safe c R (k0_part376 i a a' b b' d d' e e' f f' g g' j j' k k' l l' m m' n n' o o' p p' q q' r r' s s' t t' u u' v v' w w' x x' y y' z z' A A' B B' x0 x1 x2 x3 x4 x5 x6 x7) := by
  unfold k0_part376
  refine safe_bind (safe_load H.r26) fun _ => ?_
  refine safe_bind (safe_store H.w26) fun _ => ?_
  refine safe_bind (safe_load H.r25) fun _ => ?_
  refine safe_bind (safe_store H.w25) fun _ => ?_
  refine safe_bind (safe_load H.r6) fun _ => ?_
  refine safe_bind (safe_load H.r22) fun _ => ?_
  refine safe_bind (safe_load H.r11) fun _ => ?_
  exact safe_ret _

theorem safe_part377 {x0 x1 x2 x3 x4 x5 x6} : Safe c R (k0_part377 i a a' b b' d d' e e' f f' g g' j j' k k' l l' m m' n n' o o' p p' q q' r r' s s' t t' u u' v v' w w' x x' y y' z z' A A' B B' x0 x1 x2 x3 x4 x5 x6) := by
  unfold k0_part377
  refine safe_bind (safe_load H.r23) fun _ => ?_
  refine safe_bind (safe_store H.w23) fun _ => ?_
  refine safe_bind (safe_load H.r22) fun _ => ?_
  exact safe_ret _

theorem safe_part378 {x0 x1 x2 x3 x4 x5 x6} : Safe c R (k0_part378 i a a' b b' d d' e e' f f' g g' j j' k k' l l' m m' n n' o o' p p' q q' r r' s s' t t' u u' v v' w w' x x' y y' z z' A A' B B' x0 x1 x2 x3 x4 x5 x6) := by
  unfold k0_part378
  refine safe_bind (safe_load H.r11) fun _ => ?_
  refine safe_bind (safe_load H.r23) fun _ => ?_
  refine safe_bind (safe_store H.w23) fun _ => ?_
  exact safe_ret _

theorem safe_part379 {x0 x1 x2 x3 x4 x5 x6} : Safe c R (k0_part379 i a a' b b' d d' e e' f f' g g' j j' k k' l l' m m' n n' o o' p p' q q' r r' s s' t t' u u' v v' w w' x x' y y' z z' A A' B B' x0 x1 x2 x3 x4 x5 x6) := by
  unfold k0_part379
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part380 {x0 x1 x2 x3 x4 x5} : Safe c R (k0_part380 i a a' b b' d d' e e' f f' g g' j j' k k' l l' m m' n n' o o' p p' q q' r r' s s' t t' u u' v v' w w' x x' y y' z z' A A' B B' x0 x1 x2 x3 x4 x5) := by
  unfold k0_part380
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part381 {x0 x1 x2 x3 x4 x5 x6} : Safe c R (k0_part381 i a a' b b' d d' e e' f f' g g' j j' k k' l l' m m' n n' o o' p p' q q' r r' s s' t t' u u' v v' w w' x x' y y' z z' A A' B B' x0 x1 x2 x3 x4 x5 x6) := by
  unfold k0_part381
  refine safe_bind (safe_load H.r24) fun _ => ?_
  refine safe_bind (safe_store H.w24) fun _ => ?_
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part382 {x0 x1 x2 x3 x4 x5 x6 x7 x8 x9 x10 x11 x12 x13 x14 x15 x16 x17} : Safe c R (k0_part382 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17) := by
  unfold k0_part382
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part383 {x0 x1 x2 x3 x4 x5 x6 x7 x8 x9 x10} : Safe c R (k0_part383 i a a' b b' d d' e e' f f' g g' j j' k k' l l' m m' n n' o o' p p' q q' r r' s s' t t' u u' v v' w w' x x' y y' z z' A A' B B' x0 x1 x2 x3 x4 x5 x6 x7 x8 x9 x10) := by
  unfold k0_part383
  refine safe_bind (safe_load H.r22) fun _ => ?_
  refine safe_bind (safe_load H.r11) fun _ => ?_
  refine safe_bind (safe_load H.r23) fun _ => ?_
  exact safe_ret _

theorem safe_part384 {x0 x1 x2 x3 x4 x5} : Safe c R (k0_part384 i a a' b b' d d' e e' f f' g g' j j' k k' l l' m m' n n' o o' p p' q q' r r' s s' t t' u u' v v' w w' x x' y y' z z' A A' B B' x0 x1 x2 x3 x4 x5) := by
  unfold k0_part384
  refine safe_bind (safe_store H.w23) fun _ => ?_
  refine safe_bind (safe_load H.r22) fun _ => ?_
  refine safe_bind (safe_load H.r11) fun _ => ?_
  exact safe_ret _

theorem safe_part385 {x0 x1 x2 x3 x4} : Safe c R (k0_part385 i a a' b b' d d' e e' f f' g g' j j' k k' l l' m m' n n' o o' p p' q q' r r' s s' t t' u u' v v' w w' x x' y y' z z' A A' B B' x0 x1 x2 x3 x4) := by
  unfold k0_part385
  refine safe_bind (safe_load H.r23) fun _ => ?_
  refine safe_bind (safe_store H.w23) fun _ => ?_
  refine safe_bind (safe_load H.r24) fun _ => ?_
  refine safe_bind (safe_store H.w24) fun _ => ?_
  refine safe_bind (safe_load H.r7) fun _ => ?_
  exact safe_ret _

theorem safe_part386 {x0 x1} : Safe c R (k0_part386 i a a' b b' d d' e e' f f' g g' j j' k k' l l' m m' n n' o o' p p' q q' r r' s s' t t' u u' v v' w w' x x' y y' z z' A A' B B' x0 x1) := by
  unfold k0_part386
  refine safe_bind (safe_load H.r25) fun _ => ?_
  refine safe_bind (safe_load H.r24) fun _ => ?_
  refine safe_bind (safe_load H.r23) fun _ => ?_
  refine safe_bind (safe_load H.r26) fun _ => ?_
  refine safe_bind (safe_load H.r26) fun _ => ?_
  refine safe_bind (safe_store H.w26) fun _ => ?_
  refine safe_bind (safe_load H.r25) fun _ => ?_
  refine safe_bind (safe_store H.w25) fun _ => ?_
  refine safe_bind (safe_load H.r25) fun _ => ?_
  refine safe_bind (safe_load H.r24) fun _ => ?_
  exact safe_ret _

theorem safe_part387 {x0 x1 x2 x3} : Safe c R (k0_part387 i a a' b b' d d' e e' f f' g g' j j' k k' l l' m m' n n' o o' p p' q q' r r' s s' t t' u u' v v' w w' x x' y y' z z' A A' B B' x0 x1 x2 x3) := by
  unfold k0_part387
  refine safe_bind (safe_load H.r6) fun _ => ?_
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part388 {x0 x1 x2 x3 x4 x5 x6 x7 x8 x9 x10 x11 x12 x13 x14 x15 x16 x17} : Safe c R (k0_part388 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17) := by
  unfold k0_part388
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part389 {x0 x1 x2 x3 x4 x5 x6 x7 x8 x9 x10} : Safe c R (k0_part389 i a a' b b' d d' e e' f f' g g' j j' k k' l l' m m' n n' o o' p p' q q' r r' s s' t t' u u' v v' w w' x x' y y' z z' A A' B B' x0 x1 x2 x3 x4 x5 x6 x7 x8 x9 x10) := by
  unfold k0_part389
  refine safe_bind (safe_load H.r22) fun _ => ?_
  refine safe_bind (safe_load H.r11) fun _ => ?_
  refine safe_bind (safe_load H.r23) fun _ => ?_
  exact safe_ret _

theorem safe_part390 {x0 x1 x2 x3 x4 x5} : Safe c R (k0_part390 i a a' b b' d d' e e' f f' g g' j j' k k' l l' m m' n n' o o' p p' q q' r r' s s' t t' u u' v v' w w' x x' y y' z z' A A' B B' x0 x1 x2 x3 x4 x5) := by
  unfold k0_part390
  refine safe_bind (safe_store H.w23) fun _ => ?_
  refine safe_bind (safe_load H.r22) fun _ => ?_
  refine safe_bind (safe_load H.r11) fun _ => ?_
  exact safe_ret _

theorem safe_part391 {x0 x1 x2 x3 x4 x5 x6} : Safe c R (k0_part391 i a a' b b' d d' e e' f f' g g' j j' k k' l l' m m' n n' o o' p p' q q' r r' s s' t t' u u' v v' w w' x x' y y' z z' A A' B B' x0 x1 x2 x3 x4 x5 x6) := by
  unfold k0_part391
  refine safe_bind (safe_load H.r23) fun _ => ?_
  refine safe_bind (safe_store H.w23) fun _ => ?_
  refine safe_bind (safe_load H.r24) fun _ => ?_
  refine safe_bind (safe_store H.w24) fun _ => ?_
  exact safe_ret _

theorem safe_part392 {x0 x1 x2 x3 x4 x5} : Safe c R (k0_part392 i a a' b b' d d' e e' f f' g g' j j' k k' l l' m m' n n' o o' p p' q q' r r' s s' t t' u u' v v' w w' x x' y y' z z' A A' B B' x0 x1 x2 x3 x4 x5) := by
  unfold k0_part392
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part393 {x0 x1 x2 x3} : Safe c R (k0_part393 i a a' b b' d d' e e' f f' g g' j j' k k' l l' m m' n n' o o' p p' q q' r r' s s' t t' u u' v v' w w' x x' y y' z z' A A' B B' x0 x1 x2 x3) := by
  unfold k0_part393
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part394 {x0 x1 x2 x3 x4 x5 x6 x7 x8 x9 x10 x11} : Safe c R (k0_part394 i a a' b b' d d' e e' f f' g g' j j' k k' l l' m m' n n' o o' p p' q q' r r' s s' t t' u u' v v' w w' x x' y y' z z' A A' B B' x0 x1 x2 x3 x4 x5 x6 x7 x8 x9 x10 x11) := by
  unfold k0_part394
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part395 {x0 x1 x2 x3 x4 x5 x6 x7 x8 x9 x10 x11 x12 x13 x14 x15 x16 x17 x18} : Safe c R (k0_part395 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18) := by
  unfold k0_part395
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part396 {x0 x1} : Safe c R (k0_part396 i a a' b b' d d' e e' f f' g g' j j' k k' l l' m m' n n' o o' p p' q q' r r' s s' t t' u u' v v' w w' x x' y y' z z' A A' B B' x0 x1) := by
  unfold k0_part396
  refine safe_bind (safe_load H.r7) fun _ => ?_
  refine safe_bind (safe_load H.r25) fun _ => ?_
  refine safe_bind (safe_load H.r24) fun _ => ?_
  refine safe_bind (safe_load H.r23) fun _ => ?_
  refine safe_bind (safe_load H.r26) fun _ => ?_
  refine safe_bind (safe_load H.r26) fun _ => ?_
  refine safe_bind (safe_store H.w26) fun _ => ?_
  refine safe_bind (safe_load H.r25) fun _ => ?_
  exact safe_ret _

theorem safe_part397 : Safe c R (k0_part397 i a a' b b' d d' e e' f f' g g' j j' k k' l l' m m' n n' o o' p p' q q' r r' s s' t t' u u' v v' w w' x x' y y' z z' A A' B B') := by
  unfold k0_part397
  refine safe_bind (safe_load H.r2) fun _ => ?_
  refine safe_bind (safe_load H.r4) fun _ => ?_
  exact safe_ret _

theorem safe_part399 {x0 x1 x2 x3 x4 x5 x6 x7} : Safe c R (k0_part399 i a a' b b' d d' e e' f f' g g' j j' k k' l l' m m' n n' o o' p p' q q' r r' s s' t t' u u' v v' w w' x x' y y' z z' A A' B B' x0 x1 x2 x3 x4 x5 x6 x7) := by
  unfold k0_part399
  refine safe_bind (safe_load H.r15) fun _ => ?_
  refine safe_bind (safe_store H.w15) fun _ => ?_
  exact safe_ret _

theorem safe_part400 {x0 x1 x2 x3 x4} : Safe c R (k0_part400 i a a' b b' d d' e e' f f' g g' j j' k k' l l' m m' n n' o o' p p' q q' r r' s s' t t' u u' v v' w w' x x' y y' z z' A A' B B' x0 x1 x2 x3 x4) := safe_ret _

theorem safe_part401 {x0 x1 x2 x3 x4 x5 x6 x7 x8 x9 x10 x11 x12 x13} : Safe c R (k0_part401 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part402 {x0 x1 x2 x3 x4 x5 x6 x7 x8 x9 x10 x11 x12 x13} : Safe c R (k0_part402 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part403 {x0 x1 x2 x3 x4 x5 x6 x7 x8 x9 x10 x11 x12 x13} : Safe c R (k0_part403 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part404 {x0 x1 x2 x3 x4 x5 x6 x7 x8 x9 x10 x11 x12 x13} : Safe c R (k0_part404 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part405 {x0 x1 x2 x3 x4 x5 x6 x7 x8 x9 x10 x11 x12 x13} : Safe c R (k0_part405 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part406 {x0 x1 x2 x3 x4 x5 x6 x7 x8 x9 x10 x11 x12 x13} : Safe c R (k0_part406 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part407 {x0 x1 x2 x3 x4 x5 x6 x7 x8 x9 x10 x11 x12 x13} : Safe c R (k0_part407 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part408 {x0 x1 x2 x3 x4 x5 x6 x7 x8 x9 x10 x11 x12 x13} : Safe c R (k0_part408 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part409 {x0 x1 x2 x3 x4 x5 x6 x7 x8 x9 x10 x11 x12 x13} : Safe c R (k0_part409 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part410 {x0 x1 x2 x3 x4 x5 x6 x7 x8 x9 x10 x11 x12 x13} : Safe c R (k0_part410 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

end Cert.Kernel.Hand

end
-- ==== Proof.Pieces7.lean ====
/-
  Hand-written, untrusted. The printed body's pieces, each safe (Safe.lean): its loads and stores in their order, every one of
  a buffer the body holds (Held.lean); a piece that only computes is a return.
-/
module

public import proofs.«01_k».proof.Proof.Held

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part411 {x0 x1 x2 x3 x4 x5 x6 x7 x8 x9 x10 x11 x12 x13} : Safe c R (k0_part411 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part412 {x0 x1 x2 x3 x4 x5 x6 x7 x8 x9 x10 x11 x12 x13} : Safe c R (k0_part412 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part413 {x0 x1 x2 x3 x4 x5 x6 x7 x8 x9 x10 x11 x12 x13} : Safe c R (k0_part413 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part414 {x0 x1 x2 x3 x4 x5 x6 x7 x8 x9 x10 x11 x12 x13} : Safe c R (k0_part414 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part415 {x0 x1 x2 x3 x4 x5 x6 x7 x8 x9 x10 x11 x12 x13} : Safe c R (k0_part415 i a a' b b' d d' e e' f f' g g' j j' k k' l l' m m' n n' o o' p p' q q' r r' s s' t t' u u' v v' w w' x x' y y' z z' A A' B B' x0 x1 x2 x3 x4 x5 x6 x7 x8 x9 x10 x11 x12 x13) := safe_ret _

theorem safe_part416 {x0 x1 x2 x3 x4 x5 x6 x7 x8 x9 x10} : Safe c R (k0_part416 i a a' b b' d d' e e' f f' g g' j j' k k' l l' m m' n n' o o' p p' q q' r r' s s' t t' u u' v v' w w' x x' y y' z z' A A' B B' x0 x1 x2 x3 x4 x5 x6 x7 x8 x9 x10) := by
  unfold k0_part416
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  exact safe_ret _

theorem safe_part417 {x0 x1 x2 x3 x4 x5 x6 x7} : Safe c R (k0_part417 i a a' b b' d d' e e' f f' g g' j j' k k' l l' m m' n n' o o' p p' q q' r r' s s' t t' u u' v v' w w' x x' y y' z z' A A' B B' x0 x1 x2 x3 x4 x5 x6 x7) := by
  unfold k0_part417
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part418 {x0 x1 x2 x3 x4 x5 x6} : Safe c R (k0_part418 i a a' b b' d d' e e' f f' g g' j j' k k' l l' m m' n n' o o' p p' q q' r r' s s' t t' u u' v v' w w' x x' y y' z z' A A' B B' x0 x1 x2 x3 x4 x5 x6) := by
  unfold k0_part418
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part419 {x0 x1 x2 x3 x4 x5 x6} : Safe c R (k0_part419 i a a' b b' d d' e e' f f' g g' j j' k k' l l' m m' n n' o o' p p' q q' r r' s s' t t' u u' v v' w w' x x' y y' z z' A A' B B' x0 x1 x2 x3 x4 x5 x6) := by
  unfold k0_part419
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part420 {x0 x1 x2 x3 x4 x5 x6} : Safe c R (k0_part420 i a a' b b' d d' e e' f f' g g' j j' k k' l l' m m' n n' o o' p p' q q' r r' s s' t t' u u' v v' w w' x x' y y' z z' A A' B B' x0 x1 x2 x3 x4 x5 x6) := by
  unfold k0_part420
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part421 {x0 x1 x2 x3 x4 x5 x6} : Safe c R (k0_part421 i a a' b b' d d' e e' f f' g g' j j' k k' l l' m m' n n' o o' p p' q q' r r' s s' t t' u u' v v' w w' x x' y y' z z' A A' B B' x0 x1 x2 x3 x4 x5 x6) := by
  unfold k0_part421
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part422 {x0 x1 x2 x3 x4} : Safe c R (k0_part422 i a a' b b' d d' e e' f f' g g' j j' k k' l l' m m' n n' o o' p p' q q' r r' s s' t t' u u' v v' w w' x x' y y' z z' A A' B B' x0 x1 x2 x3 x4) := by
  unfold k0_part422
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part423 {x0 x1 x2 x3 x4 x5 x6 x7 x8 x9 x10} : Safe c R (k0_part423 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part424 {x0 x1 x2 x3 x4 x5 x6 x7 x8 x9 x10} : Safe c R (k0_part424 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part425 {x0 x1 x2 x3 x4 x5 x6 x7 x8 x9 x10} : Safe c R (k0_part425 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part426 {x0 x1 x2 x3 x4 x5 x6 x7 x8 x9 x10} : Safe c R (k0_part426 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part427 {x0 x1 x2 x3 x4 x5 x6 x7 x8 x9 x10} : Safe c R (k0_part427 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part428 {x0 x1 x2 x3 x4 x5 x6 x7 x8 x9 x10} : Safe c R (k0_part428 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part429 {x0 x1 x2 x3 x4 x5 x6 x7 x8 x9 x10} : Safe c R (k0_part429 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part430 {x0 x1 x2 x3 x4 x5 x6 x7 x8 x9 x10} : Safe c R (k0_part430 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part431 {x0 x1 x2 x3 x4 x5 x6 x7 x8 x9 x10} : Safe c R (k0_part431 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part432 {x0 x1 x2 x3 x4 x5 x6 x7 x8 x9 x10} : Safe c R (k0_part432 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part433 {x0 x1 x2 x3 x4 x5 x6 x7 x8 x9 x10} : Safe c R (k0_part433 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part434 {x0 x1 x2 x3 x4 x5 x6 x7 x8 x9 x10} : Safe c R (k0_part434 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part435 {x0 x1 x2 x3 x4 x5 x6 x7 x8 x9 x10} : Safe c R (k0_part435 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part436 {x0 x1 x2 x3 x4 x5 x6 x7 x8 x9 x10} : Safe c R (k0_part436 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part437 {x0 x1 x2 x3 x4 x5 x6 x7 x8 x9 x10} : Safe c R (k0_part437 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part438 {x0 x1 x2 x3 x4 x5 x6 x7 x8 x9 x10 x11} : Safe c R (k0_part438 i a a' b b' d d' e e' f f' g g' j j' k k' l l' m m' n n' o o' p p' q q' r r' s s' t t' u u' v v' w w' x x' y y' z z' A A' B B' x0 x1 x2 x3 x4 x5 x6 x7 x8 x9 x10 x11) := safe_ret _

theorem safe_part439 {x0 x1 x2 x3 x4 x5 x6} : Safe c R (k0_part439 i a a' b b' d d' e e' f f' g g' j j' k k' l l' m m' n n' o o' p p' q q' r r' s s' t t' u u' v v' w w' x x' y y' z z' A A' B B' x0 x1 x2 x3 x4 x5 x6) := by
  unfold k0_part439
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part440 {x0 x1 x2 x3 x4 x5 x6} : Safe c R (k0_part440 i a a' b b' d d' e e' f f' g g' j j' k k' l l' m m' n n' o o' p p' q q' r r' s s' t t' u u' v v' w w' x x' y y' z z' A A' B B' x0 x1 x2 x3 x4 x5 x6) := by
  unfold k0_part440
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part441 {x0 x1 x2 x3 x4 x5 x6} : Safe c R (k0_part441 i a a' b b' d d' e e' f f' g g' j j' k k' l l' m m' n n' o o' p p' q q' r r' s s' t t' u u' v v' w w' x x' y y' z z' A A' B B' x0 x1 x2 x3 x4 x5 x6) := by
  unfold k0_part441
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part442 {x0 x1 x2 x3 x4 x5 x6} : Safe c R (k0_part442 i a a' b b' d d' e e' f f' g g' j j' k k' l l' m m' n n' o o' p p' q q' r r' s s' t t' u u' v v' w w' x x' y y' z z' A A' B B' x0 x1 x2 x3 x4 x5 x6) := by
  unfold k0_part442
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part443 {x0 x1 x2 x3 x4 x5} : Safe c R (k0_part443 i a a' b b' d d' e e' f f' g g' j j' k k' l l' m m' n n' o o' p p' q q' r r' s s' t t' u u' v v' w w' x x' y y' z z' A A' B B' x0 x1 x2 x3 x4 x5) := by
  unfold k0_part443
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part444 {x0 x1 x2 x3 x4 x5 x6} : Safe c R (k0_part444 i a a' b b' d d' e e' f f' g g' j j' k k' l l' m m' n n' o o' p p' q q' r r' s s' t t' u u' v v' w w' x x' y y' z z' A A' B B' x0 x1 x2 x3 x4 x5 x6) := by
  unfold k0_part444
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  refine safe_bind (safe_load H.r16) fun _ => ?_
  refine safe_bind (safe_store H.w16) fun _ => ?_
  exact safe_ret _

theorem safe_part447 {x0 x1 x2 x3 x4 x5 x6 x7 x8 x9 x10 x11 x12 x13 x14} : Safe c R (k0_part447 i a a' b b' d d' e e' f f' g g' j j' k k' l l' m m' n n' o o' p p' q q' r r' s s' t t' u u' v v' w w' x x' y y' z z' A A' B B' x0 x1 x2 x3 x4 x5 x6 x7 x8 x9 x10 x11 x12 x13 x14) := by
  unfold k0_part447
  refine safe_bind (safe_load H.r20) fun _ => ?_
  refine safe_bind (safe_store H.w20) fun _ => ?_
  refine safe_bind (safe_load H.r21) fun _ => ?_
  refine safe_bind (safe_store H.w21) fun _ => ?_
  exact safe_ret _

theorem safe_part449 {x0 x1 x2 x3 x4} : Safe c R (k0_part449 i a a' b b' d d' e e' f f' g g' j j' k k' l l' m m' n n' o o' p p' q q' r r' s s' t t' u u' v v' w w' x x' y y' z z' A A' B B' x0 x1 x2 x3 x4) := safe_ret _

theorem safe_part450 {x0 x1 x2 x3 x4 x5 x6 x7 x8 x9 x10 x11 x12 x13 x14 x15 x16 x17 x18 x19 x20} : Safe c R (k0_part450 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17 x18 x19 x20) := safe_ret _

theorem safe_part451 {x0 x1 x2 x3 x4 x5 x6 x7 x8 x9 x10} : Safe c R (k0_part451 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part452 {x0 x1 x2 x3 x4 x5 x6} : Safe c R (k0_part452 i a a' b b' d d' e e' f f' g g' j j' k k' l l' m m' n n' o o' p p' q q' r r' s s' t t' u u' v v' w w' x x' y y' z z' A A' B B' x0 x1 x2 x3 x4 x5 x6) := safe_ret _

theorem safe_part453 {x0 x1 x2 x3 x4} : Safe c R (k0_part453 i a a' b b' d d' e e' f f' g g' j j' k k' l l' m m' n n' o o' p p' q q' r r' s s' t t' u u' v v' w w' x x' y y' z z' A A' B B' x0 x1 x2 x3 x4) := safe_ret _

theorem safe_part454 {x0 x1 x2 x3 x4 x5 x6} : Safe c R (k0_part454 i a a' b b' d d' e e' f f' g g' j j' k k' l l' m m' n n' o o' p p' q q' r r' s s' t t' u u' v v' w w' x x' y y' z z' A A' B B' x0 x1 x2 x3 x4 x5 x6) := safe_ret _

theorem safe_part455 {x0 x1 x2 x3 x4 x5 x6 x7 x8 x9 x10 x11 x12 x13 x14} : Safe c R (k0_part455 i a a' b b' d d' e e' f f' g g' j j' k k' l l' m m' n n' o o' p p' q q' r r' s s' t t' u u' v v' w w' x x' y y' z z' A A' B B' x0 x1 x2 x3 x4 x5 x6 x7 x8 x9 x10 x11 x12 x13 x14) := safe_ret _

theorem safe_part456 {x0 x1 x2 x3 x4 x5 x6 x7 x8 x9 x10 x11 x12 x13 x14 x15 x16 x17} : Safe c R (k0_part456 i a a' b b' d d' e e' f f' g g' j j' k k' l l' m m' n n' o o' p p' q q' r r' s s' t t' u u' v v' w w' x x' y y' z z' A A' B B' x0 x1 x2 x3 x4 x5 x6 x7 x8 x9 x10 x11 x12 x13 x14 x15 x16 x17) := safe_ret _

theorem safe_part457 {x0 x1 x2 x3 x4 x5 x6 x7 x8 x9 x10} : Safe c R (k0_part457 i a a' b b' d d' e e' f f' g g' j j' k k' l l' m m' n n' o o' p p' q q' r r' s s' t t' u u' v v' w w' x x' y y' z z' A A' B B' x0 x1 x2 x3 x4 x5 x6 x7 x8 x9 x10) := safe_ret _

theorem safe_part458 {x0 x1 x2 x3 x4 x5 x6} : Safe c R (k0_part458 i a a' b b' d d' e e' f f' g g' j j' k k' l l' m m' n n' o o' p p' q q' r r' s s' t t' u u' v v' w w' x x' y y' z z' A A' B B' x0 x1 x2 x3 x4 x5 x6) := safe_ret _

theorem safe_part459 {x0 x1 x2 x3 x4 x5} : Safe c R (k0_part459 i a a' b b' d d' e e' f f' g g' j j' k k' l l' m m' n n' o o' p p' q q' r r' s s' t t' u u' v v' w w' x x' y y' z z' A A' B B' x0 x1 x2 x3 x4 x5) := safe_ret _

theorem safe_part461 {x0 x1} : Safe c R (k0_part461 i a a' b b' d d' e e' f f' g g' j j' k k' l l' m m' n n' o o' p p' q q' r r' s s' t t' u u' v v' w w' x x' y y' z z' A A' B B' x0 x1) := by
  unfold k0_part461
  refine safe_bind (safe_load H.r8) fun _ => ?_
  refine safe_bind (safe_load H.r12) fun _ => ?_
  refine safe_bind (safe_load H.r25) fun _ => ?_
  refine safe_bind (safe_store H.w25) fun _ => ?_
  refine safe_bind (safe_load H.r9) fun _ => ?_
  refine safe_bind (safe_load H.r26) fun _ => ?_
  refine safe_bind (safe_store H.w26) fun _ => ?_
  refine safe_bind (safe_load H.r6) fun _ => ?_
  exact safe_ret _

theorem safe_part462 {x0 x1 x2 x3 x4 x5 x6} : Safe c R (k0_part462 i a a' b b' d d' e e' f f' g g' j j' k k' l l' m m' n n' o o' p p' q q' r r' s s' t t' u u' v v' w w' x x' y y' z z' A A' B B' x0 x1 x2 x3 x4 x5 x6) := by
  unfold k0_part462
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part463 {x0 x1 x2 x3} : Safe c R (k0_part463 i a a' b b' d d' e e' f f' g g' j j' k k' l l' m m' n n' o o' p p' q q' r r' s s' t t' u u' v v' w w' x x' y y' z z' A A' B B' x0 x1 x2 x3) := by
  unfold k0_part463
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part464 {x0 x1} : Safe c R (k0_part464 i a a' b b' d d' e e' f f' g g' j j' k k' l l' m m' n n' o o' p p' q q' r r' s s' t t' u u' v v' w w' x x' y y' z z' A A' B B' x0 x1) := by
  unfold k0_part464
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part465 {x0 x1 x2 x3 x4 x5 x6} : Safe c R (k0_part465 i a a' b b' d d' e e' f f' g g' j j' k k' l l' m m' n n' o o' p p' q q' r r' s s' t t' u u' v v' w w' x x' y y' z z' A A' B B' x0 x1 x2 x3 x4 x5 x6) := by
  unfold k0_part465
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part466 {x0 x1 x2 x3 x4 x5 x6 x7 x8 x9 x10 x11} : Safe c R (k0_part466 i a a' b b' d d' e e' f f' g g' j j' k k' l l' m m' n n' o o' p p' q q' r r' s s' t t' u u' v v' w w' x x' y y' z z' A A' B B' x0 x1 x2 x3 x4 x5 x6 x7 x8 x9 x10 x11) := by
  unfold k0_part466
  refine safe_bind (safe_load H.r24) fun _ => ?_
  refine safe_bind (safe_store H.w24) fun _ => ?_
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part467 {x0 x1 x2 x3 x4 x5 x6 x7 x8 x9 x10 x11} : Safe c R (k0_part467 i a a' b b' d d' e e' f f' g g' j j' k k' l l' m m' n n' o o' p p' q q' r r' s s' t t' u u' v v' w w' x x' y y' z z' A A' B B' x0 x1 x2 x3 x4 x5 x6 x7 x8 x9 x10 x11) := by
  unfold k0_part467
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part468 {x0 x1 x2 x3 x4 x5 x6 x7} : Safe c R (k0_part468 i a a' b b' d d' e e' f f' g g' j j' k k' l l' m m' n n' o o' p p' q q' r r' s s' t t' u u' v v' w w' x x' y y' z z' A A' B B' x0 x1 x2 x3 x4 x5 x6 x7) := by
  unfold k0_part468
  refine safe_bind (safe_load H.r22) fun _ => ?_
  refine safe_bind (safe_load H.r11) fun _ => ?_
  refine safe_bind (safe_load H.r23) fun _ => ?_
  refine safe_bind (safe_store H.w23) fun _ => ?_
  exact safe_ret _

theorem safe_part469 {x0 x1 x2 x3} : Safe c R (k0_part469 i a a' b b' d d' e e' f f' g g' j j' k k' l l' m m' n n' o o' p p' q q' r r' s s' t t' u u' v v' w w' x x' y y' z z' A A' B B' x0 x1 x2 x3) := by
  unfold k0_part469
  refine safe_bind (safe_load H.r22) fun _ => ?_
  refine safe_bind (safe_load H.r11) fun _ => ?_
  exact safe_ret _

theorem safe_part470 {x0 x1 x2} : Safe c R (k0_part470 i a a' b b' d d' e e' f f' g g' j j' k k' l l' m m' n n' o o' p p' q q' r r' s s' t t' u u' v v' w w' x x' y y' z z' A A' B B' x0 x1 x2) := by
  unfold k0_part470
  refine safe_bind (safe_load H.r23) fun _ => ?_
  refine safe_bind (safe_store H.w23) fun _ => ?_
  refine safe_bind (safe_load H.r24) fun _ => ?_
  refine safe_bind (safe_store H.w24) fun _ => ?_
  exact safe_ret _

theorem safe_part472 {x0 x1 x2} : Safe c R (k0_part472 i a a' b b' d d' e e' f f' g g' j j' k k' l l' m m' n n' o o' p p' q q' r r' s s' t t' u u' v v' w w' x x' y y' z z' A A' B B' x0 x1 x2) := by
  unfold k0_part472
  refine safe_bind (safe_load H.r23) fun _ => ?_
  refine safe_bind (safe_load H.r26) fun _ => ?_
  refine safe_bind (safe_load H.r26) fun _ => ?_
  refine safe_bind (safe_store H.w26) fun _ => ?_
  refine safe_bind (safe_load H.r25) fun _ => ?_
  refine safe_bind (safe_store H.w25) fun _ => ?_
  refine safe_bind (safe_load H.r25) fun _ => ?_
  refine safe_bind (safe_load H.r24) fun _ => ?_
  refine safe_bind (safe_load H.r23) fun _ => ?_
  refine safe_bind (safe_load H.r26) fun _ => ?_
  exact safe_ret _

end Cert.Kernel.Hand

end
-- ==== Proof.Pieces.lean ====
module

public import proofs.«01_k».proof.Proof.Pieces0
public import proofs.«01_k».proof.Proof.Pieces1
public import proofs.«01_k».proof.Proof.Pieces2
public import proofs.«01_k».proof.Proof.Pieces3
public import proofs.«01_k».proof.Proof.Pieces4
public import proofs.«01_k».proof.Proof.Pieces5
public import proofs.«01_k».proof.Proof.Pieces6
public import proofs.«01_k».proof.Proof.Pieces7

@[expose] public section

noncomputable section

namespace Cert.Kernel.Hand

open Cert.Kernel
open Idealize.ShloMosaic Idealize.ShloMosaic.TcCoe
open Idealize.ShloMosaic.Rounds
open Idealize.SL Idealize.SL.RA Idealize.SL.BI Idealize.SL.Sem

variable {F : FTy → Type} [BitOps F] [Facts] {c : Dev nD} {R : sProp (MT nD τ sig Unit (Elt F) ℕ (UR sig nD τ) ℕ)}

variable {i : grid0.Coords} {a : Memref sig .tc .vmem S256x128 .bf16} {a' : a.IsWhole} {b : Memref sig .tc .vmem S4096x64 .bf16} {b' : b.IsWhole} {d : Memref sig .tc .vmem S8x128 .f32} {d' : d.IsWhole} {e : Memref sig .tc .vmem S8x128x128 .bf16} {e' : e.IsWhole} {f : Memref sig .tc .vmem S4096x128 .bf16} {f' : f.IsWhole} {g : Memref sig .tc .vmem S32x144x128 .bf16} {g' : g.IsWhole} {j : Memref sig .tc .vmem S16x128 .bf16} {j' : j.IsWhole} {k : Memref sig .tc .vmem S144x16 .bf16} {k' : k.IsWhole} {l : Memref sig .tc .vmem S128x512 .f32} {l' : l.IsWhole} {m : Memref sig .tc .vmem S3x128x1024 .f32} {m' : m.IsWhole} {n : Memref sig .tc .vmem S2x16x1024 .f32} {n' : n.IsWhole} {o : Memref sig .tc .vmem S4x128x256 .bf16} {o' : o.IsWhole} {p : Memref sig .tc .vmem S128x512 .bf16} {p' : p.IsWhole} {q : Memref sig .tc .vmem S4096x128 .f32} {q' : q.IsWhole} {r : Memref sig .tc .vmem S4096x128 .i32} {r' : r.IsWhole} {s : Memref sig .tc .vmem S128x128 .i32} {s' : s.IsWhole} {t : Memref sig .tc .vmem S128x128 .i32} {t' : t.IsWhole} {u : Memref sig .tc .vmem S128x128 .i32} {u' : u.IsWhole} {v : Memref sig .tc .vmem S8x128 .f32} {v' : v.IsWhole} {w : Memref sig .tc .vmem S8x128 .f32} {w' : w.IsWhole} {x : Memref sig .tc .vmem S4096x128 .f32} {x' : x.IsWhole} {y : Memref sig .tc .vmem S2x512x1024 .f32} {y' : y.IsWhole} {z : Memref sig .tc .vmem S2x8x1024 .f32} {z' : z.IsWhole} {A : Memref sig .tc .vmem S8x1024 .f32} {A' : A.IsWhole} {B : Memref sig .tc .vmem S144x1024 .f32} {B' : B.IsWhole}
variable (H : Held c R a b d e f g j k l m n o p q r s t u v w x y z A B)
include H

theorem safe_part93 {x0 x1 x2 x3 x4} : Safe c R (k0_part93 i a a' b b' d d' e e' f f' g g' j j' k k' l l' m m' n n' o o' p p' q q' r r' s s' t t' u u' v v' w w' x x' y y' z z' A A' B B' x0 x1 x2 x3 x4) := by
  unfold k0_part93
  refine safe_bind (safe_part1 H) fun _ => ?_
  refine safe_bind (safe_part2 H) fun _ => ?_
  refine safe_bind (safe_part3 H) fun _ => ?_
  refine safe_bind (safe_part4 H) fun _ => ?_
  refine safe_bind (safe_part5 H) fun _ => ?_
  refine safe_bind (safe_part6 H) fun _ => ?_
  refine safe_bind (safe_part7 H) fun _ => ?_
  refine safe_bind (safe_part8 H) fun _ => ?_
  refine safe_bind (safe_part9 H) fun _ => ?_
  refine safe_bind (safe_part10 H) fun _ => ?_
  refine safe_bind (safe_part11 H) fun _ => ?_
  refine safe_bind (safe_part12 H) fun _ => ?_
  refine safe_bind (safe_part13 H) fun _ => ?_
  refine safe_bind (safe_part14 H) fun _ => ?_
  refine safe_bind (safe_part15 H) fun _ => ?_
  refine safe_bind (safe_part16 H) fun _ => ?_
  refine safe_bind (safe_part17 H) fun _ => ?_
  refine safe_bind (safe_part18 H) fun _ => ?_
  refine safe_bind (safe_part19 H) fun _ => ?_
  refine safe_bind (safe_part20 H) fun _ => ?_
  refine safe_bind (safe_part21 H) fun _ => ?_
  refine safe_bind (safe_part22 H) fun _ => ?_
  refine safe_bind (safe_part23 H) fun _ => ?_
  refine safe_bind (safe_part24 H) fun _ => ?_
  refine safe_bind (safe_part25 H) fun _ => ?_
  refine safe_bind (safe_part26 H) fun _ => ?_
  refine safe_bind (safe_part27 H) fun _ => ?_
  refine safe_bind (safe_part28 H) fun _ => ?_
  refine safe_bind (safe_part29 H) fun _ => ?_
  refine safe_bind (safe_part30 H) fun _ => ?_
  refine safe_bind (safe_part31 H) fun _ => ?_
  refine safe_bind (safe_part32 H) fun _ => ?_
  refine safe_bind (safe_part33 H) fun _ => ?_
  refine safe_bind (safe_part34 H) fun _ => ?_
  refine safe_bind (safe_part35 H) fun _ => ?_
  refine safe_bind (safe_part36 H) fun _ => ?_
  refine safe_bind (safe_part37 H) fun _ => ?_
  refine safe_bind (safe_part38 H) fun _ => ?_
  refine safe_bind (safe_part39 H) fun _ => ?_
  refine safe_bind (safe_part40 H) fun _ => ?_
  refine safe_bind (safe_part41 H) fun _ => ?_
  refine safe_bind (safe_part42 H) fun _ => ?_
  refine safe_bind (safe_part43 H) fun _ => ?_
  refine safe_bind (safe_part44 H) fun _ => ?_
  refine safe_bind (safe_part45 H) fun _ => ?_
  refine safe_bind (safe_part46 H) fun _ => ?_
  refine safe_bind (safe_part47 H) fun _ => ?_
  refine safe_bind (safe_part48 H) fun _ => ?_
  refine safe_bind (safe_part49 H) fun _ => ?_
  refine safe_bind (safe_part50 H) fun _ => ?_
  refine safe_bind (safe_part51 H) fun _ => ?_
  refine safe_bind (safe_part52 H) fun _ => ?_
  refine safe_bind (safe_part53 H) fun _ => ?_
  refine safe_bind (safe_part54 H) fun _ => ?_
  refine safe_bind (safe_part55 H) fun _ => ?_
  refine safe_bind (safe_part56 H) fun _ => ?_
  refine safe_bind (safe_part57 H) fun _ => ?_
  refine safe_bind (safe_part58 H) fun _ => ?_
  refine safe_bind (safe_part59 H) fun _ => ?_
  refine safe_bind (safe_part60 H) fun _ => ?_
  exact safe_ret _

theorem safe_part186 {x0 x1 x2 x3 x4} : Safe c R (k0_part186 i a a' b b' d d' e e' f f' g g' j j' k k' l l' m m' n n' o o' p p' q q' r r' s s' t t' u u' v v' w w' x x' y y' z z' A A' B B' x0 x1 x2 x3 x4) := by
  unfold k0_part186
  refine safe_bind (safe_part94 H) fun _ => ?_
  refine safe_bind (safe_part95 H) fun _ => ?_
  refine safe_bind (safe_part96 H) fun _ => ?_
  refine safe_bind (safe_part97 H) fun _ => ?_
  refine safe_bind (safe_part98 H) fun _ => ?_
  refine safe_bind (safe_part99 H) fun _ => ?_
  refine safe_bind (safe_part100 H) fun _ => ?_
  refine safe_bind (safe_part101 H) fun _ => ?_
  refine safe_bind (safe_part102 H) fun _ => ?_
  refine safe_bind (safe_part103 H) fun _ => ?_
  refine safe_bind (safe_part104 H) fun _ => ?_
  refine safe_bind (safe_part105 H) fun _ => ?_
  refine safe_bind (safe_part106 H) fun _ => ?_
  refine safe_bind (safe_part107 H) fun _ => ?_
  refine safe_bind (safe_part108 H) fun _ => ?_
  refine safe_bind (safe_part109 H) fun _ => ?_
  refine safe_bind (safe_part110 H) fun _ => ?_
  refine safe_bind (safe_part111 H) fun _ => ?_
  refine safe_bind (safe_part112 H) fun _ => ?_
  refine safe_bind (safe_part113 H) fun _ => ?_
  refine safe_bind (safe_part114 H) fun _ => ?_
  refine safe_bind (safe_part115 H) fun _ => ?_
  refine safe_bind (safe_part116 H) fun _ => ?_
  refine safe_bind (safe_part117 H) fun _ => ?_
  refine safe_bind (safe_part118 H) fun _ => ?_
  refine safe_bind (safe_part119 H) fun _ => ?_
  refine safe_bind (safe_part120 H) fun _ => ?_
  refine safe_bind (safe_part121 H) fun _ => ?_
  refine safe_bind (safe_part122 H) fun _ => ?_
  refine safe_bind (safe_part123 H) fun _ => ?_
  refine safe_bind (safe_part124 H) fun _ => ?_
  refine safe_bind (safe_part125 H) fun _ => ?_
  refine safe_bind (safe_part126 H) fun _ => ?_
  refine safe_bind (safe_part127 H) fun _ => ?_
  refine safe_bind (safe_part128 H) fun _ => ?_
  refine safe_bind (safe_part129 H) fun _ => ?_
  refine safe_bind (safe_part130 H) fun _ => ?_
  refine safe_bind (safe_part131 H) fun _ => ?_
  refine safe_bind (safe_part132 H) fun _ => ?_
  refine safe_bind (safe_part133 H) fun _ => ?_
  refine safe_bind (safe_part134 H) fun _ => ?_
  refine safe_bind (safe_part135 H) fun _ => ?_
  refine safe_bind (safe_part136 H) fun _ => ?_
  refine safe_bind (safe_part137 H) fun _ => ?_
  refine safe_bind (safe_part138 H) fun _ => ?_
  refine safe_bind (safe_part139 H) fun _ => ?_
  refine safe_bind (safe_part140 H) fun _ => ?_
  refine safe_bind (safe_part141 H) fun _ => ?_
  refine safe_bind (safe_part142 H) fun _ => ?_
  refine safe_bind (safe_part143 H) fun _ => ?_
  refine safe_bind (safe_part144 H) fun _ => ?_
  refine safe_bind (safe_part145 H) fun _ => ?_
  refine safe_bind (safe_part146 H) fun _ => ?_
  refine safe_bind (safe_part147 H) fun _ => ?_
  refine safe_bind (safe_part148 H) fun _ => ?_
  refine safe_bind (safe_part149 H) fun _ => ?_
  refine safe_bind (safe_part150 H) fun _ => ?_
  refine safe_bind (safe_part151 H) fun _ => ?_
  refine safe_bind (safe_part152 H) fun _ => ?_
  refine safe_bind (safe_part153 H) fun _ => ?_
  exact safe_ret _

theorem safe_part318 {x0 x1} : Safe c R (k0_part318 i a a' b b' d d' e e' f f' g g' j j' k k' l l' m m' n n' o o' p p' q q' r r' s s' t t' u u' v v' w w' x x' y y' z z' A A' B B' x0 x1) := by
  unfold k0_part318
  refine safe_bind (safe_for fun _ _ => ?_) fun _ => ?_
  · refine safe_bind (safe_for fun _ _ => ?_) fun _ => ?_
    · refine safe_bind (safe_load H.r15) fun _ => ?_
      exact safe_ret _
    refine safe_bind (safe_for fun _ _ => ?_) fun _ => ?_
    · refine safe_bind (safe_load H.r15) fun _ => ?_
      exact safe_ret _
    exact safe_ret _
  refine safe_bind (safe_for fun _ _ => ?_) fun _ => ?_
  · refine safe_bind (safe_part276 H) fun _ => ?_
    refine safe_bind (safe_part277 H) fun _ => ?_
    refine safe_bind (safe_part278 H) fun _ => ?_
    refine safe_bind (safe_part279 H) fun _ => ?_
    refine safe_bind (safe_part280 H) fun _ => ?_
    refine safe_bind (safe_part281 H) fun _ => ?_
    refine safe_bind (safe_part282 H) fun _ => ?_
    refine safe_bind (safe_part283 H) fun _ => ?_
    refine safe_bind (safe_part284 H) fun _ => ?_
    refine safe_bind (safe_part285 H) fun _ => ?_
    refine safe_bind (safe_part286 H) fun _ => ?_
    refine safe_bind (safe_part287 H) fun _ => ?_
    refine safe_bind (safe_part288 H) fun _ => ?_
    refine safe_bind (safe_part289 H) fun _ => ?_
    refine safe_bind (safe_part290 H) fun _ => ?_
    refine safe_bind (safe_part291 H) fun _ => ?_
    refine safe_bind (safe_part292 H) fun _ => ?_
    refine safe_bind (safe_part293 H) fun _ => ?_
    refine safe_bind (safe_part294 H) fun _ => ?_
    refine safe_bind (safe_part295 H) fun _ => ?_
    refine safe_bind (safe_part296 H) fun _ => ?_
    refine safe_bind (safe_store H.w18) fun _ => ?_
    exact safe_ret _
  refine safe_bind (safe_for fun _ _ => ?_) fun _ => ?_
  · refine safe_bind (safe_part297 H) fun _ => ?_
    refine safe_bind (safe_part298 H) fun _ => ?_
    refine safe_bind (safe_part299 H) fun _ => ?_
    refine safe_bind (safe_part300 H) fun _ => ?_
    refine safe_bind (safe_part301 H) fun _ => ?_
    refine safe_bind (safe_part302 H) fun _ => ?_
    refine safe_bind (safe_part303 H) fun _ => ?_
    refine safe_bind (safe_part304 H) fun _ => ?_
    refine safe_bind (safe_part305 H) fun _ => ?_
    refine safe_bind (safe_part306 H) fun _ => ?_
    refine safe_bind (safe_part307 H) fun _ => ?_
    refine safe_bind (safe_part308 H) fun _ => ?_
    refine safe_bind (safe_part309 H) fun _ => ?_
    refine safe_bind (safe_part310 H) fun _ => ?_
    refine safe_bind (safe_part311 H) fun _ => ?_
    refine safe_bind (safe_part312 H) fun _ => ?_
    refine safe_bind (safe_part313 H) fun _ => ?_
    refine safe_bind (safe_part314 H) fun _ => ?_
    refine safe_bind (safe_part315 H) fun _ => ?_
    refine safe_bind (safe_part316 H) fun _ => ?_
    refine safe_bind (safe_part317 H) fun _ => ?_
    refine safe_bind (safe_store H.w18) fun _ => ?_
    exact safe_ret _
  refine safe_bind (safe_load H.r18) fun _ => ?_
  exact safe_ret _

theorem safe_part398 {x0 x1 x2 x3 x4 x5} : Safe c R (k0_part398 i a a' b b' d d' e e' f f' g g' j j' k k' l l' m m' n n' o o' p p' q q' r r' s s' t t' u u' v v' w w' x x' y y' z z' A A' B B' x0 x1 x2 x3 x4 x5) := by
  unfold k0_part398
  refine safe_bind (safe_for fun _ _ => ?_) fun _ => ?_
  · refine safe_bind (safe_part93 H) fun _ => ?_
    refine safe_bind (safe_part61 H) fun _ => ?_
    refine safe_bind (safe_part62 H) fun _ => ?_
    refine safe_bind (safe_part63 H) fun _ => ?_
    refine safe_bind (safe_part64 H) fun _ => ?_
    refine safe_bind (safe_part65 H) fun _ => ?_
    refine safe_bind (safe_part66 H) fun _ => ?_
    refine safe_bind (safe_part67 H) fun _ => ?_
    refine safe_bind (safe_part68 H) fun _ => ?_
    refine safe_bind (safe_part69 H) fun _ => ?_
    refine safe_bind (safe_part70 H) fun _ => ?_
    refine safe_bind (safe_part71 H) fun _ => ?_
    refine safe_bind (safe_part72 H) fun _ => ?_
    refine safe_bind (safe_part73 H) fun _ => ?_
    refine safe_bind (safe_part74 H) fun _ => ?_
    refine safe_bind (safe_part75 H) fun _ => ?_
    refine safe_bind (safe_part76 H) fun _ => ?_
    refine safe_bind (safe_part77 H) fun _ => ?_
    refine safe_bind (safe_part78 H) fun _ => ?_
    refine safe_bind (safe_part79 H) fun _ => ?_
    refine safe_bind (safe_part80 H) fun _ => ?_
    refine safe_bind (safe_part81 H) fun _ => ?_
    refine safe_bind (safe_part82 H) fun _ => ?_
    refine safe_bind (safe_part83 H) fun _ => ?_
    refine safe_bind (safe_part84 H) fun _ => ?_
    refine safe_bind (safe_part85 H) fun _ => ?_
    refine safe_bind (safe_part86 H) fun _ => ?_
    refine safe_bind (safe_part87 H) fun _ => ?_
    refine safe_bind (safe_part88 H) fun _ => ?_
    refine safe_bind (safe_part89 H) fun _ => ?_
    refine safe_bind (safe_part90 H) fun _ => ?_
    refine safe_bind (safe_part91 H) fun _ => ?_
    refine safe_bind (safe_part92 H) fun _ => ?_
    refine safe_bind (safe_store H.w16) fun _ => ?_
    exact safe_ret _
  refine safe_bind (safe_for fun _ _ => ?_) fun _ => ?_
  · refine safe_bind (safe_part186 H) fun _ => ?_
    refine safe_bind (safe_part154 H) fun _ => ?_
    refine safe_bind (safe_part155 H) fun _ => ?_
    refine safe_bind (safe_part156 H) fun _ => ?_
    refine safe_bind (safe_part157 H) fun _ => ?_
    refine safe_bind (safe_part158 H) fun _ => ?_
    refine safe_bind (safe_part159 H) fun _ => ?_
    refine safe_bind (safe_part160 H) fun _ => ?_
    refine safe_bind (safe_part161 H) fun _ => ?_
    refine safe_bind (safe_part162 H) fun _ => ?_
    refine safe_bind (safe_part163 H) fun _ => ?_
    refine safe_bind (safe_part164 H) fun _ => ?_
    refine safe_bind (safe_part165 H) fun _ => ?_
    refine safe_bind (safe_part166 H) fun _ => ?_
    refine safe_bind (safe_part167 H) fun _ => ?_
    refine safe_bind (safe_part168 H) fun _ => ?_
    refine safe_bind (safe_part169 H) fun _ => ?_
    refine safe_bind (safe_part170 H) fun _ => ?_
    refine safe_bind (safe_part171 H) fun _ => ?_
    refine safe_bind (safe_part172 H) fun _ => ?_
    refine safe_bind (safe_part173 H) fun _ => ?_
    refine safe_bind (safe_part174 H) fun _ => ?_
    refine safe_bind (safe_part175 H) fun _ => ?_
    refine safe_bind (safe_part176 H) fun _ => ?_
    refine safe_bind (safe_part177 H) fun _ => ?_
    refine safe_bind (safe_part178 H) fun _ => ?_
    refine safe_bind (safe_part179 H) fun _ => ?_
    refine safe_bind (safe_part180 H) fun _ => ?_
    refine safe_bind (safe_part181 H) fun _ => ?_
    refine safe_bind (safe_part182 H) fun _ => ?_
    refine safe_bind (safe_part183 H) fun _ => ?_
    refine safe_bind (safe_part184 H) fun _ => ?_
    refine safe_bind (safe_part185 H) fun _ => ?_
    refine safe_bind (safe_store H.w16) fun _ => ?_
    exact safe_ret _
  refine safe_dite (fun _ => ?_) (fun _ => ?_)
  · refine safe_bind (safe_part187 H) fun _ => ?_
    refine safe_bind (safe_part188 H) fun _ => ?_
    refine safe_bind (safe_part189 H) fun _ => ?_
    refine safe_bind (safe_part190 H) fun _ => ?_
    refine safe_bind (safe_part191 H) fun _ => ?_
    refine safe_bind (safe_part192 H) fun _ => ?_
    refine safe_bind (safe_part193 H) fun _ => ?_
    refine safe_bind (safe_part194 H) fun _ => ?_
    refine safe_bind (safe_part195 H) fun _ => ?_
    refine safe_bind (safe_part196 H) fun _ => ?_
    refine safe_bind (safe_part197 H) fun _ => ?_
    refine safe_bind (safe_part198 H) fun _ => ?_
    refine safe_bind (safe_part199 H) fun _ => ?_
    refine safe_bind (safe_part200 H) fun _ => ?_
    refine safe_bind (safe_part201 H) fun _ => ?_
    refine safe_bind (safe_part202 H) fun _ => ?_
    refine safe_bind (safe_part203 H) fun _ => ?_
    refine safe_bind (safe_part204 H) fun _ => ?_
    refine safe_bind (safe_part205 H) fun _ => ?_
    refine safe_bind (safe_part206 H) fun _ => ?_
    refine safe_bind (safe_part207 H) fun _ => ?_
    refine safe_bind (safe_part208 H) fun _ => ?_
    refine safe_bind (safe_part209 H) fun _ => ?_
    refine safe_bind (safe_part210 H) fun _ => ?_
    refine safe_bind (safe_part211 H) fun _ => ?_
    refine safe_bind (safe_part212 H) fun _ => ?_
    refine safe_bind (safe_part213 H) fun _ => ?_
    refine safe_bind (safe_part214 H) fun _ => ?_
    refine safe_bind (safe_part215 H) fun _ => ?_
    refine safe_bind (safe_part216 H) fun _ => ?_
    refine safe_bind (safe_part217 H) fun _ => ?_
    refine safe_bind (safe_part218 H) fun _ => ?_
    refine safe_bind (safe_part219 H) fun _ => ?_
    refine safe_bind (safe_part220 H) fun _ => ?_
    refine safe_bind (safe_part221 H) fun _ => ?_
    refine safe_bind (safe_part222 H) fun _ => ?_
    refine safe_bind (safe_part223 H) fun _ => ?_
    refine safe_bind (safe_part224 H) fun _ => ?_
    refine safe_bind (safe_part225 H) fun _ => ?_
    refine safe_bind (safe_part226 H) fun _ => ?_
    refine safe_bind (safe_part227 H) fun _ => ?_
    refine safe_bind (safe_part228 H) fun _ => ?_
    refine safe_bind (safe_part229 H) fun _ => ?_
    refine safe_bind (safe_part230 H) fun _ => ?_
    refine safe_bind (safe_part231 H) fun _ => ?_
    refine safe_bind (safe_part232 H) fun _ => ?_
    refine safe_bind (safe_load H.r3) fun _ => ?_
    exact safe_ret _
  · refine safe_bind (safe_load H.r3) fun _ => ?_
    exact safe_ret _

theorem safe_part445 {x0 x1 x2 x3 x4 x5} : Safe c R (k0_part445 i a a' b b' d d' e e' f f' g g' j j' k k' l l' m m' n n' o o' p p' q q' r r' s s' t t' u u' v v' w w' x x' y y' z z' A A' B B' x0 x1 x2 x3 x4 x5) := by
  unfold k0_part445
  refine safe_bind (safe_for fun _ _ => ?_) fun _ => ?_
  · refine safe_bind (safe_part233 H) fun _ => ?_
    exact safe_ret _
  exact safe_ret _

theorem safe_part446 {x0 x1 x2 x3 x4} : Safe c R (k0_part446 i a a' b b' d d' e e' f f' g g' j j' k k' l l' m m' n n' o o' p p' q q' r r' s s' t t' u u' v v' w w' x x' y y' z z' A A' B B' x0 x1 x2 x3 x4) := by
  unfold k0_part446
  refine safe_bind (safe_for fun _ _ => ?_) fun _ => ?_
  · refine safe_bind (safe_part234 H) fun _ => ?_
    refine safe_bind (safe_part235 H) fun _ => ?_
    refine safe_bind (safe_part236 H) fun _ => ?_
    refine safe_bind (safe_part237 H) fun _ => ?_
    refine safe_bind (safe_part238 H) fun _ => ?_
    refine safe_bind (safe_part239 H) fun _ => ?_
    refine safe_bind (safe_part240 H) fun _ => ?_
    refine safe_bind (safe_part241 H) fun _ => ?_
    refine safe_bind (safe_part242 H) fun _ => ?_
    refine safe_bind (safe_part243 H) fun _ => ?_
    refine safe_bind (safe_part244 H) fun _ => ?_
    refine safe_bind (safe_part245 H) fun _ => ?_
    refine safe_bind (safe_part246 H) fun _ => ?_
    refine safe_bind (safe_part247 H) fun _ => ?_
    refine safe_bind (safe_part248 H) fun _ => ?_
    refine safe_bind (safe_part249 H) fun _ => ?_
    refine safe_bind (safe_part250 H) fun _ => ?_
    refine safe_bind (safe_part251 H) fun _ => ?_
    refine safe_bind (safe_part252 H) fun _ => ?_
    refine safe_bind (safe_part253 H) fun _ => ?_
    refine safe_bind (safe_part254 H) fun _ => ?_
    refine safe_bind (safe_store H.w18) fun _ => ?_
    exact safe_ret _
  refine safe_bind (safe_for fun _ _ => ?_) fun _ => ?_
  · refine safe_bind (safe_part255 H) fun _ => ?_
    refine safe_bind (safe_part256 H) fun _ => ?_
    refine safe_bind (safe_part257 H) fun _ => ?_
    refine safe_bind (safe_part258 H) fun _ => ?_
    refine safe_bind (safe_part259 H) fun _ => ?_
    refine safe_bind (safe_part260 H) fun _ => ?_
    refine safe_bind (safe_part261 H) fun _ => ?_
    refine safe_bind (safe_part262 H) fun _ => ?_
    refine safe_bind (safe_part263 H) fun _ => ?_
    refine safe_bind (safe_part264 H) fun _ => ?_
    refine safe_bind (safe_part265 H) fun _ => ?_
    refine safe_bind (safe_part266 H) fun _ => ?_
    refine safe_bind (safe_part267 H) fun _ => ?_
    refine safe_bind (safe_part268 H) fun _ => ?_
    refine safe_bind (safe_part269 H) fun _ => ?_
    refine safe_bind (safe_part270 H) fun _ => ?_
    refine safe_bind (safe_part271 H) fun _ => ?_
    refine safe_bind (safe_part272 H) fun _ => ?_
    refine safe_bind (safe_part273 H) fun _ => ?_
    refine safe_bind (safe_part274 H) fun _ => ?_
    refine safe_bind (safe_part275 H) fun _ => ?_
    refine safe_bind (safe_store H.w18) fun _ => ?_
    exact safe_ret _
  refine safe_bind (safe_load H.r18) fun _ => ?_
  refine safe_bind (safe_load H.r17) fun _ => ?_
  exact safe_ret _

theorem safe_part448 {x0 x1 x2} : Safe c R (k0_part448 i a a' b b' d d' e e' f f' g g' j j' k k' l l' m m' n n' o o' p p' q q' r r' s s' t t' u u' v v' w w' x x' y y' z z' A A' B B' x0 x1 x2) := by
  unfold k0_part448
  refine safe_ite (?_) (?_)
  · refine safe_bind (safe_part318 H) fun _ => ?_
    refine safe_bind (safe_load H.r20) fun _ => ?_
    refine safe_bind (safe_store H.w20) fun _ => ?_
    refine safe_bind (safe_load H.r21) fun _ => ?_
    refine safe_bind (safe_store H.w21) fun _ => ?_
    refine safe_bind (safe_load H.r20) fun _ => ?_
    refine safe_bind (safe_load H.r21) fun _ => ?_
    refine safe_bind (safe_load H.r17) fun _ => ?_
    exact safe_ret _
  · refine safe_bind (safe_load H.r20) fun _ => ?_
    refine safe_bind (safe_load H.r21) fun _ => ?_
    refine safe_bind (safe_load H.r17) fun _ => ?_
    exact safe_ret _

theorem safe_part460 {x0 x1 x2} : Safe c R (k0_part460 i a a' b b' d d' e e' f f' g g' j j' k k' l l' m m' n n' o o' p p' q q' r r' s s' t t' u u' v v' w w' x x' y y' z z' A A' B B' x0 x1 x2) := by
  unfold k0_part460
  refine safe_bind (safe_load H.r19) fun _ => ?_
  refine safe_bind (safe_store H.w19) fun _ => ?_
  refine safe_bind (safe_for fun _ _ => ?_) fun _ => ?_
  · refine safe_bind (safe_part319 H) fun _ => ?_
    refine safe_bind (safe_part320 H) fun _ => ?_
    refine safe_bind (safe_part321 H) fun _ => ?_
    refine safe_bind (safe_part322 H) fun _ => ?_
    refine safe_bind (safe_part323 H) fun _ => ?_
    refine safe_bind (safe_part324 H) fun _ => ?_
    refine safe_bind (safe_part325 H) fun _ => ?_
    refine safe_bind (safe_part326 H) fun _ => ?_
    refine safe_bind (safe_part327 H) fun _ => ?_
    refine safe_bind (safe_part328 H) fun _ => ?_
    refine safe_bind (safe_part329 H) fun _ => ?_
    refine safe_bind (safe_part330 H) fun _ => ?_
    refine safe_bind (safe_load H.r22) fun _ => ?_
    refine safe_bind (safe_store H.w22) fun _ => ?_
    exact safe_ret _
  refine safe_bind (safe_for fun _ _ => ?_) fun _ => ?_
  · refine safe_bind (safe_part331 H) fun _ => ?_
    refine safe_bind (safe_part332 H) fun _ => ?_
    refine safe_bind (safe_part333 H) fun _ => ?_
    refine safe_bind (safe_part334 H) fun _ => ?_
    refine safe_bind (safe_part335 H) fun _ => ?_
    refine safe_bind (safe_part336 H) fun _ => ?_
    refine safe_bind (safe_part337 H) fun _ => ?_
    refine safe_bind (safe_part338 H) fun _ => ?_
    refine safe_bind (safe_part339 H) fun _ => ?_
    refine safe_bind (safe_part340 H) fun _ => ?_
    refine safe_bind (safe_part341 H) fun _ => ?_
    refine safe_bind (safe_part342 H) fun _ => ?_
    refine safe_bind (safe_load H.r22) fun _ => ?_
    refine safe_bind (safe_store H.w22) fun _ => ?_
    exact safe_ret _
  refine safe_bind (safe_load H.r5) fun _ => ?_
  refine safe_bind (safe_load H.r5) fun _ => ?_
  refine safe_bind (safe_load H.r5) fun _ => ?_
  refine safe_bind (safe_load H.r5) fun _ => ?_
  refine safe_bind (safe_load H.r5) fun _ => ?_
  refine safe_bind (safe_load H.r5) fun _ => ?_
  refine safe_bind (safe_load H.r5) fun _ => ?_
  refine safe_bind (safe_load H.r5) fun _ => ?_
  exact safe_ret _

theorem safe_part471 {x0 x1 x2 x3 x4 x5 x6 x7 x8} : Safe c R (k0_part471 i a a' b b' d d' e e' f f' g g' j j' k k' l l' m m' n n' o o' p p' q q' r r' s s' t t' u u' v v' w w' x x' y y' z z' A A' B B' x0 x1 x2 x3 x4 x5 x6 x7 x8) := by
  unfold k0_part471
  refine safe_bind (safe_for fun _ _ => ?_) fun _ => ?_
  · refine safe_bind (safe_part343 H) fun _ => ?_
    refine safe_bind (safe_part344 H) fun _ => ?_
    refine safe_bind (safe_part345 H) fun _ => ?_
    refine safe_bind (safe_part346 H) fun _ => ?_
    refine safe_bind (safe_part347 H) fun _ => ?_
    refine safe_bind (safe_part348 H) fun _ => ?_
    refine safe_bind (safe_part349 H) fun _ => ?_
    refine safe_bind (safe_part350 H) fun _ => ?_
    refine safe_bind (safe_part351 H) fun _ => ?_
    refine safe_bind (safe_part352 H) fun _ => ?_
    refine safe_bind (safe_part353 H) fun _ => ?_
    refine safe_bind (safe_part354 H) fun _ => ?_
    refine safe_bind (safe_part355 H) fun _ => ?_
    refine safe_bind (safe_part356 H) fun _ => ?_
    refine safe_bind (safe_part357 H) fun _ => ?_
    refine safe_bind (safe_part358 H) fun _ => ?_
    refine safe_bind (safe_part359 H) fun _ => ?_
    refine safe_bind (safe_part360 H) fun _ => ?_
    refine safe_bind (safe_part361 H) fun _ => ?_
    refine safe_bind (safe_part362 H) fun _ => ?_
    refine safe_bind (safe_part363 H) fun _ => ?_
    refine safe_bind (safe_part364 H) fun _ => ?_
    refine safe_bind (safe_load H.r23) fun _ => ?_
    refine safe_bind (safe_load H.r26) fun _ => ?_
    refine safe_bind (safe_load H.r26) fun _ => ?_
    refine safe_bind (safe_store H.w26) fun _ => ?_
    refine safe_bind (safe_load H.r25) fun _ => ?_
    refine safe_bind (safe_store H.w25) fun _ => ?_
    exact safe_ret _
  refine safe_bind (safe_for fun _ _ => ?_) fun _ => ?_
  · refine safe_bind (safe_part365 H) fun _ => ?_
    refine safe_bind (safe_part366 H) fun _ => ?_
    refine safe_bind (safe_part367 H) fun _ => ?_
    refine safe_bind (safe_part368 H) fun _ => ?_
    refine safe_bind (safe_part369 H) fun _ => ?_
    refine safe_bind (safe_part370 H) fun _ => ?_
    refine safe_bind (safe_part371 H) fun _ => ?_
    refine safe_bind (safe_part372 H) fun _ => ?_
    refine safe_bind (safe_part373 H) fun _ => ?_
    refine safe_bind (safe_part374 H) fun _ => ?_
    refine safe_bind (safe_part375 H) fun _ => ?_
    refine safe_bind (safe_part376 H) fun _ => ?_
    refine safe_bind (safe_part377 H) fun _ => ?_
    refine safe_bind (safe_part378 H) fun _ => ?_
    refine safe_bind (safe_part379 H) fun _ => ?_
    refine safe_bind (safe_part380 H) fun _ => ?_
    refine safe_bind (safe_part381 H) fun _ => ?_
    refine safe_bind (safe_part382 H) fun _ => ?_
    refine safe_bind (safe_part383 H) fun _ => ?_
    refine safe_bind (safe_part384 H) fun _ => ?_
    refine safe_bind (safe_part385 H) fun _ => ?_
    refine safe_bind (safe_part386 H) fun _ => ?_
    refine safe_bind (safe_load H.r23) fun _ => ?_
    refine safe_bind (safe_load H.r26) fun _ => ?_
    refine safe_bind (safe_load H.r26) fun _ => ?_
    refine safe_bind (safe_store H.w26) fun _ => ?_
    refine safe_bind (safe_load H.r25) fun _ => ?_
    refine safe_bind (safe_store H.w25) fun _ => ?_
    exact safe_ret _
  refine safe_dite (fun _ => ?_) (fun _ => ?_)
  · refine safe_bind (safe_part387 H) fun _ => ?_
    refine safe_bind (safe_part388 H) fun _ => ?_
    refine safe_bind (safe_part389 H) fun _ => ?_
    refine safe_bind (safe_part390 H) fun _ => ?_
    refine safe_bind (safe_part391 H) fun _ => ?_
    refine safe_bind (safe_part392 H) fun _ => ?_
    refine safe_bind (safe_part393 H) fun _ => ?_
    refine safe_bind (safe_part394 H) fun _ => ?_
    refine safe_bind (safe_part395 H) fun _ => ?_
    refine safe_bind (safe_load H.r24) fun _ => ?_
    refine safe_bind (safe_store H.w24) fun _ => ?_
    refine safe_bind (safe_load H.r7) fun _ => ?_
    refine safe_bind (safe_load H.r25) fun _ => ?_
    refine safe_bind (safe_load H.r24) fun _ => ?_
    exact safe_ret _
  · refine safe_bind (safe_load H.r7) fun _ => ?_
    refine safe_bind (safe_load H.r25) fun _ => ?_
    refine safe_bind (safe_load H.r24) fun _ => ?_
    exact safe_ret _

theorem safe_part473 {x0 x1 x2 x3 x4 x5} : Safe c R (k0_part473 i a a' b b' d d' e e' f f' g g' j j' k k' l l' m m' n n' o o' p p' q q' r r' s s' t t' u u' v v' w w' x x' y y' z z' A A' B B' x0 x1 x2 x3 x4 x5) := by
  unfold k0_part473
  refine safe_bind (safe_load H.r26) fun _ => ?_
  refine safe_bind (safe_store H.w26) fun _ => ?_
  refine safe_bind (safe_load H.r25) fun _ => ?_
  refine safe_bind (safe_store H.w25) fun _ => ?_
  refine safe_dite (fun _ => ?_) (fun _ => ?_)
  · refine safe_bind (safe_part396 H) fun _ => ?_
    refine safe_bind (safe_store H.w25) fun _ => ?_
    refine safe_bind (safe_load H.r25) fun _ => ?_
    refine safe_bind (safe_load H.r24) fun _ => ?_
    refine safe_bind (safe_load H.r23) fun _ => ?_
    refine safe_bind (safe_load H.r26) fun _ => ?_
    refine safe_bind (safe_load H.r26) fun _ => ?_
    refine safe_bind (safe_store H.w26) fun _ => ?_
    refine safe_bind (safe_load H.r25) fun _ => ?_
    refine safe_bind (safe_store H.w25) fun _ => ?_
    refine safe_bind (safe_load H.r26) fun _ => ?_
    refine safe_bind (safe_load H.r26) fun _ => ?_
    refine safe_bind (safe_load H.r13) fun _ => ?_
    refine safe_bind (safe_load H.r13) fun _ => ?_
    refine safe_bind (safe_load H.r13) fun _ => ?_
    exact safe_ret _
  · refine safe_bind (safe_load H.r26) fun _ => ?_
    refine safe_bind (safe_load H.r26) fun _ => ?_
    refine safe_bind (safe_load H.r13) fun _ => ?_
    refine safe_bind (safe_load H.r13) fun _ => ?_
    refine safe_bind (safe_load H.r13) fun _ => ?_
    exact safe_ret _

theorem safe_part474 : Safe c R (k0_part474 i a a' b b' d d' e e' f f' g g' j j' k k' l l' m m' n n' o o' p p' q q' r r' s s' t t' u u' v v' w w' x x' y y' z z' A A' B B') := by
  unfold k0_part474
  refine safe_bind (safe_part397 H) fun _ => ?_
  refine safe_bind (safe_part398 H) fun _ => ?_
  refine safe_bind (safe_part399 H) fun _ => ?_
  refine safe_bind (safe_part400 H) fun _ => ?_
  refine safe_bind (safe_part401 H) fun _ => ?_
  refine safe_bind (safe_part402 H) fun _ => ?_
  refine safe_bind (safe_part403 H) fun _ => ?_
  refine safe_bind (safe_part404 H) fun _ => ?_
  refine safe_bind (safe_part405 H) fun _ => ?_
  refine safe_bind (safe_part406 H) fun _ => ?_
  refine safe_bind (safe_part407 H) fun _ => ?_
  refine safe_bind (safe_part408 H) fun _ => ?_
  refine safe_bind (safe_part409 H) fun _ => ?_
  refine safe_bind (safe_part410 H) fun _ => ?_
  refine safe_bind (safe_part411 H) fun _ => ?_
  refine safe_bind (safe_part412 H) fun _ => ?_
  refine safe_bind (safe_part413 H) fun _ => ?_
  refine safe_bind (safe_part414 H) fun _ => ?_
  refine safe_bind (safe_part415 H) fun _ => ?_
  refine safe_bind (safe_part416 H) fun _ => ?_
  refine safe_bind (safe_part417 H) fun _ => ?_
  refine safe_bind (safe_part418 H) fun _ => ?_
  refine safe_bind (safe_part419 H) fun _ => ?_
  refine safe_bind (safe_part420 H) fun _ => ?_
  refine safe_bind (safe_part421 H) fun _ => ?_
  refine safe_bind (safe_part422 H) fun _ => ?_
  refine safe_bind (safe_part423 H) fun _ => ?_
  refine safe_bind (safe_part424 H) fun _ => ?_
  refine safe_bind (safe_part425 H) fun _ => ?_
  refine safe_bind (safe_part426 H) fun _ => ?_
  refine safe_bind (safe_part427 H) fun _ => ?_
  refine safe_bind (safe_part428 H) fun _ => ?_
  refine safe_bind (safe_part429 H) fun _ => ?_
  refine safe_bind (safe_part430 H) fun _ => ?_
  refine safe_bind (safe_part431 H) fun _ => ?_
  refine safe_bind (safe_part432 H) fun _ => ?_
  refine safe_bind (safe_part433 H) fun _ => ?_
  refine safe_bind (safe_part434 H) fun _ => ?_
  refine safe_bind (safe_part435 H) fun _ => ?_
  refine safe_bind (safe_part436 H) fun _ => ?_
  refine safe_bind (safe_part437 H) fun _ => ?_
  refine safe_bind (safe_part438 H) fun _ => ?_
  refine safe_bind (safe_part439 H) fun _ => ?_
  refine safe_bind (safe_part440 H) fun _ => ?_
  refine safe_bind (safe_part441 H) fun _ => ?_
  refine safe_bind (safe_part442 H) fun _ => ?_
  refine safe_bind (safe_part443 H) fun _ => ?_
  refine safe_bind (safe_part444 H) fun _ => ?_
  refine safe_bind (safe_part445 H) fun _ => ?_
  refine safe_bind (safe_part446 H) fun _ => ?_
  refine safe_bind (safe_part447 H) fun _ => ?_
  refine safe_bind (safe_part448 H) fun _ => ?_
  refine safe_bind (safe_part449 H) fun _ => ?_
  refine safe_bind (safe_part450 H) fun _ => ?_
  refine safe_bind (safe_part451 H) fun _ => ?_
  refine safe_bind (safe_part452 H) fun _ => ?_
  refine safe_bind (safe_part453 H) fun _ => ?_
  refine safe_bind (safe_part454 H) fun _ => ?_
  refine safe_bind (safe_part455 H) fun _ => ?_
  refine safe_bind (safe_part456 H) fun _ => ?_
  exact safe_ret _

theorem safe_attention : Safe c R (cc0_dsa_attention i a a' b b' d d' e e' f f' g g' j j' k k' l l' m m' n n' o o' p p' q q' r r' s s' t t' u u' v v' w w' x x' y y' z z' A A' B B') := by
  unfold cc0_dsa_attention
  refine safe_bind (safe_part474 H) fun _ => ?_
  refine safe_bind (safe_part457 H) fun _ => ?_
  refine safe_bind (safe_part458 H) fun _ => ?_
  refine safe_bind (safe_part459 H) fun _ => ?_
  refine safe_bind (safe_part460 H) fun _ => ?_
  refine safe_bind (safe_part461 H) fun _ => ?_
  refine safe_bind (safe_part462 H) fun _ => ?_
  refine safe_bind (safe_part463 H) fun _ => ?_
  refine safe_bind (safe_part464 H) fun _ => ?_
  refine safe_bind (safe_part465 H) fun _ => ?_
  refine safe_bind (safe_part466 H) fun _ => ?_
  refine safe_bind (safe_part467 H) fun _ => ?_
  refine safe_bind (safe_part468 H) fun _ => ?_
  refine safe_bind (safe_part469 H) fun _ => ?_
  refine safe_bind (safe_part470 H) fun _ => ?_
  refine safe_bind (safe_part471 H) fun _ => ?_
  refine safe_bind (safe_part472 H) fun _ => ?_
  refine safe_bind (safe_part473 H) fun _ => ?_
  refine safe_bind (safe_load H.r13) fun _ => ?_
  refine safe_bind (safe_load H.r10) fun _ => ?_
  refine safe_bind (safe_load H.r14) fun _ => ?_
  refine safe_bind (safe_store H.w14) fun _ => ?_
  exact safe_ret _

end Cert.Kernel.Hand

end
-- ==== Proof.AttentionFrame.lean ====
/-
  Hand-written, untrusted. The attention call's frame: the body's obligation at every grid point from its safety (Pieces.lean),
  and the launch.
-/
module

public import proofs.«01_k».proof.Proof.Pieces
public import proofs.«01_k».proof.Proof.Gen.Kernel.Frame
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]
variable (m : (ℓ : Loc nD τ sig) → Buf (Elt F) ℓ) (ρ : Dev nD → PrngReg)

/-- The one window whose contents the frame does not follow: the output. -/
def forgets (w : Fin 13) : Bool := decide (w = 12)

/-- The proof data on core `c`: every array as launched; the inputs' blocks left in place, the output's unnamed; between points
    the scratch at some contents and the generator register at some state; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => Pipeline.Dat.unnamed (cfg := cfg0) 12 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body holds at point `t`: the scratch at some contents, the generator register, what the core owes, every input at
    its block, the output at some contents. -/
def bodyInv (c : Dev nD) (t : Fin cfg0.N) : sProp (MT nD τ sig Unit (Elt F) ℕ (UR sig nD τ) ℕ) :=
  iprop((((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) ∗ (∃ X, owns (c : Thread nD τ) (Memref.whole cc0_scratch9) fullShare X) ∗ (∃ X, owns (c : Thread nD τ) (Memref.whole cc0_scratch10) fullShare X) ∗ (∃ X, owns (c : Thread nD τ) (Memref.whole cc0_scratch11) fullShare X)) ∗ (∃ r, prngReg c r)) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ (∃ X, owns (c : Thread nD τ) (st0_12 t) fullShare X))

theorem phi_eq (c : Dev nD) (t : Fin (cfg0.N + 1)) :
    (dats m 0 c).Φ t = (iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) ∗ (∃ X, owns (c : Thread nD τ) (Memref.whole cc0_scratch9) fullShare X) ∗ (∃ X, owns (c : Thread nD τ) (Memref.whole cc0_scratch10) fullShare X) ∗ (∃ X, owns (c : Thread nD τ) (Memref.whole cc0_scratch11) fullShare X)) ∗ (∃ r, prngReg c r)) : sProp (MT nD τ sig Unit (Elt F) ℕ (UR sig nD τ) ℕ)) := by
  dsimp only [dats]
  unfold Pipeline.ΦA
  rw [scopedRest0_eq]
  simp only [owns_whole]

/-- Every buffer the body is handed may be read, and the output's and the scratch's written. -/
theorem held (c : Dev nD) (t : Fin cfg0.N) : Held c (bodyInv m c t) (st0_0 t) (st0_1 t) (st0_2 t) (st0_3 t) (st0_4 t) (st0_5 t) (st0_6 t) (st0_7 t) (st0_8 t) (st0_9 t) (st0_10 t) (st0_11 t) (st0_12 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) where
  r2 := .right (.right (.left (.owns)))
  r3 := .right (.right (.right (.left (.owns))))
  r4 := .right (.right (.right (.right (.left (.owns)))))
  r5 := .right (.right (.right (.right (.right (.left (.owns))))))
  r6 := .right (.right (.right (.right (.right (.right (.left (.owns)))))))
  r7 := .right (.right (.right (.right (.right (.right (.right (.left (.owns))))))))
  r8 := .right (.right (.right (.right (.right (.right (.right (.right (.left (.owns)))))))))
  r9 := .right (.right (.right (.right (.right (.right (.right (.right (.right (.left (.owns))))))))))
  r10 := .right (.right (.right (.right (.right (.right (.right (.right (.right (.right (.left (.owns)))))))))))
  r11 := .right (.right (.right (.right (.right (.right (.right (.right (.right (.right (.right (.left (.owns))))))))))))
  r12 := .right (.right (.right (.right (.right (.right (.right (.right (.right (.right (.right (.right (.left (.owns)))))))))))))
  r13 := .right (.right (.right (.right (.right (.right (.right (.right (.right (.right (.right (.right (.right (.left (.owns))))))))))))))
  w14 := .right (.right (.right (.right (.right (.right (.right (.right (.right (.right (.right (.right (.right (.right (.owns))))))))))))))
  r14 := CanWrite.read (.right (.right (.right (.right (.right (.right (.right (.right (.right (.right (.right (.right (.right (.right (.owns)))))))))))))))
  w15 := .left (.left (.left (.owns)))
  r15 := CanWrite.read (.left (.left (.left (.owns))))
  w16 := .left (.left (.right (.left (.owns))))
  r16 := CanWrite.read (.left (.left (.right (.left (.owns)))))
  w17 := .left (.left (.right (.right (.left (.owns)))))
  r17 := CanWrite.read (.left (.left (.right (.right (.left (.owns))))))
  w18 := .left (.left (.right (.right (.right (.left (.owns))))))
  r18 := CanWrite.read (.left (.left (.right (.right (.right (.left (.owns)))))))
  w19 := .left (.left (.right (.right (.right (.right (.left (.owns)))))))
  r19 := CanWrite.read (.left (.left (.right (.right (.right (.right (.left (.owns))))))))
  w20 := .left (.left (.right (.right (.right (.right (.right (.left (.owns))))))))
  r20 := CanWrite.read (.left (.left (.right (.right (.right (.right (.right (.left (.owns)))))))))
  w21 := .left (.left (.right (.right (.right (.right (.right (.right (.left (.owns)))))))))
  r21 := CanWrite.read (.left (.left (.right (.right (.right (.right (.right (.right (.left (.owns))))))))))
  w22 := .left (.left (.right (.right (.right (.right (.right (.right (.right (.left (.owns))))))))))
  r22 := CanWrite.read (.left (.left (.right (.right (.right (.right (.right (.right (.right (.left (.owns)))))))))))
  w23 := .left (.left (.right (.right (.right (.right (.right (.right (.right (.right (.left (.owns)))))))))))
  r23 := CanWrite.read (.left (.left (.right (.right (.right (.right (.right (.right (.right (.right (.left (.owns))))))))))))
  w24 := .left (.left (.right (.right (.right (.right (.right (.right (.right (.right (.right (.left (.owns))))))))))))
  r24 := CanWrite.read (.left (.left (.right (.right (.right (.right (.right (.right (.right (.right (.right (.left (.owns)))))))))))))
  w25 := .left (.left (.right (.right (.right (.right (.right (.right (.right (.right (.right (.right (.left (.owns)))))))))))))
  r25 := CanWrite.read (.left (.left (.right (.right (.right (.right (.right (.right (.right (.right (.right (.right (.left (.owns))))))))))))))
  w26 := .left (.left (.right (.right (.right (.right (.right (.right (.right (.right (.right (.right (.right (.owns)))))))))))))
  r26 := CanWrite.read (.left (.left (.right (.right (.right (.right (.right (.right (.right (.right (.right (.right (.right (.owns))))))))))))))

/-- The body at a point: safe, so it runs from what it holds to what it holds. -/
theorem sound_body (c : Dev nD) (t : Fin cfg0.N) :
    bodyInv m c t ⊢ wp frame (wpE (defs₀ (F := F)) Variants.none c none) Set.univ (bodyAt0 t) (fun _ => bodyInv m c t) :=
  safe_attention (held m c t)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row, phi_eq, phi_eq]
  refine triple_restated (sound_body m c t) rfl ?_ fun _ => ?_
  · unfold bodyInv
    simp only [forgets, Fin.reduceEq, decide_false, decide_true]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
    rw [before0_0_of m (dats m 0 c) rfl (fun _ => rfl) t d0, before0_1_of m (dats m 0 c) rfl (fun _ => rfl) t d1, before0_2_of m (dats m 0 c) rfl (fun _ => rfl) t d2, before0_3_of m (dats m 0 c) rfl (fun _ => rfl) t d3, before0_4_of m (dats m 0 c) rfl (fun _ => rfl) t d4, before0_5_of m (dats m 0 c) rfl (fun _ => rfl) t d5, before0_6_of m (dats m 0 c) rfl (fun _ => rfl) t d6, before0_7_of m (dats m 0 c) rfl (fun _ => rfl) t d7, before0_8_of m (dats m 0 c) rfl (fun _ => rfl) t d8, before0_9_of m (dats m 0 c) rfl (fun _ => rfl) t d9, before0_10_of m (dats m 0 c) rfl (fun _ => rfl) t d10, before0_11_of m (dats m 0 c) rfl (fun _ => rfl) t d11]
    isplitl [HΦ]
    · iexact HΦ
    isplitl [HO]
    · iexact HO
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12
  · exact .rfl

set_option backward.isDefEq.respectTransparency.types false in
/-- At any value instance, from any memory with zero counters: every weakly fair execution of @main terminates; every input array
    ends as launched and every counter at zero; of the output nothing is said. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- An input's array at the end is as launched. -/
theorem final_in {r : PUnit × MemSt nD τ sig (Elt F)}
    (h : Pipeline.RDat.FramePost (cfgs 0) (fun c => (dats (F := F) m 0 c).toRForget forgets) (V m) r) (c : Dev nD)
    (w : Fin cfg0.W) (hw : (cfg0.win w).isOut = false) :
    r.2.mem ((cfg0.spec w).arr.view.loc (c.tc : Thread nD τ)) = V m c (Pipeline.arrRef spec0 w) := by
  have h1 := (h c).1 w
  rw [Pipeline.RDat.ArrAt_in _ w hw] at h1
  exact h1

end Cert.Kernel.Hand

end
-- ==== Proof.OutValue.lean ====
/-
  Hand-written, untrusted. What the output projection call computes at the extended reals: the reference's rows.
-/
module

public import proofs.«01_k».proof.Proof.Gen.OutKernelIdeal.Value
public import proofs.«01_k».proof.Proof.Gen.OutReferenceIdeal.Run
public import Idealize.ShloMosaic.Lib.Pipeline.ValueKit
public import Idealize.ShloMosaic.Lib.Tactic.CleanTypes

@[expose] public section

set_option maxRecDepth 16384

noncomputable section

namespace Cert.OutKernelIdeal.Hand

open Cert.OutKernelIdeal Cert.OutKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.OutReferenceIdeal.nD Cert.OutReferenceIdeal.τ Cert.OutReferenceIdeal.sig) → Buf (Elt Ideal) ℓ)

/-- The windows' block indices at every point: the row windows move with the point, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- The two memories agree on the six arguments. -/
def Agree (c : Dev nD) : Prop :=
  m' ((c.tc : Thread Cert.OutReferenceIdeal.nD Cert.OutReferenceIdeal.τ).loc Cert.OutReferenceIdeal.main_arg0) = m ((c.tc : Thread nD τ).loc main_arg0)
  ∧ m' ((c.tc : Thread Cert.OutReferenceIdeal.nD Cert.OutReferenceIdeal.τ).loc Cert.OutReferenceIdeal.main_arg1) = m ((c.tc : Thread nD τ).loc main_arg1)
  ∧ m' ((c.tc : Thread Cert.OutReferenceIdeal.nD Cert.OutReferenceIdeal.τ).loc Cert.OutReferenceIdeal.main_arg2) = m ((c.tc : Thread nD τ).loc main_arg2)
  ∧ m' ((c.tc : Thread Cert.OutReferenceIdeal.nD Cert.OutReferenceIdeal.τ).loc Cert.OutReferenceIdeal.main_arg3) = m ((c.tc : Thread nD τ).loc main_arg3)
  ∧ m' ((c.tc : Thread Cert.OutReferenceIdeal.nD Cert.OutReferenceIdeal.τ).loc Cert.OutReferenceIdeal.main_arg4) = m ((c.tc : Thread nD τ).loc main_arg4)
  ∧ m' ((c.tc : Thread Cert.OutReferenceIdeal.nD Cert.OutReferenceIdeal.τ).loc Cert.OutReferenceIdeal.main_arg5) = m ((c.tc : Thread nD τ).loc main_arg5)

set_option maxHeartbeats 1600000 in
/-- The array after the run is the reference's term of the same arguments. -/
theorem final (c : Dev nD) (h : Agree m m' c) :
    (dats m 0 c).arrAt 6 (cfgs 0).N = Cert.OutReferenceIdeal.Value.res_main_v29 m' c := by
  obtain ⟨h0, h1, h2, h3, h4, h5⟩ := h
  refine (dats m 0 c).arrAt_eq_of_covers 6 _ (by decide +kernel) fun t _ y => ?_
  blk_simp
  rw [after0_6]
  frame_out
  unfold Cert.OutReferenceIdeal.Value.res_main_v29
  rw [h0, h1, h2, h3, h4, h5]
  clean_types
  pointwise [k0_pay1]
  blk_point [iblk, V, idx t]

end Cert.OutKernelIdeal.Hand

end
-- ==== Proof.OutClaims.lean ====
/-
  The claims of the output projection with DeepNorm: the frames of its three programs, and that the ideal
  kernel and the ideal reference give equal results.
-/
module

public import proofs.«01_k».proof.Defs
public import proofs.«01_k».proof.Proof.OutValue
public import proofs.«01_k».proof.Proof.Gen.OutKernel.Frame
public import Idealize.ShloMosaic.Adequacy
public import Idealize.ShloMosaic.Init
public import Idealize.ShloMosaic.Lib.Quiescent

@[expose] public section

noncomputable section

namespace Cert.Proof

open Idealize.ShloMosaic Idealize.SL.Sem

instance : Cert.OutKernel.Facts := Cert.OutKernel.Gen.facts
instance : Cert.OutKernelIdeal.Facts := Cert.OutKernelIdeal.Gen.facts
instance : Cert.OutReferenceIdeal.Facts := Cert.OutReferenceIdeal.Gen.facts

/-- The kernel's frame at the float words. -/
theorem frame_out_kernel : Cert.quiescent_OutKernel := fun m ρ _ => Cert.OutKernel.Gen.frame m ρ

/-- The kernel's frame at the extended reals. -/
theorem frame_out_ideal : Cert.quiescent_OutKernelIdeal := fun m ρ _ => Cert.OutKernelIdeal.Gen.frame m ρ

/-- The reference's frame at the extended reals. -/
theorem frame_out_reference : Cert.quiescent_OutReferenceIdeal := fun m ρ _ =>
  (θ_run Cert.OutReferenceIdeal.defs _ _).mono
    (fun r h => ⟨fun c => (h c).2, Idealize.ShloMosaic.sem_eq_zero_of_no_sems (by decide) r.2⟩)
    (Cert.OutReferenceIdeal.Value.run (F := Ideal) m ρ)

/-- No rewrite was taken, so there is nothing to preserve. -/
theorem preserves_out : Cert.preserves_OutKernel_OutKernelIdeal := trivial

/-- The output projection computes what its reference computes. -/
theorem algebraic_out : Cert.algebraic_OutKernelIdeal_OutReferenceIdeal := by
  intro m ρ m' ρ' _ hagree
  refine ⟨_, Cert.OutKernelIdeal.Value.run_blocks (F := Ideal) m ρ, ?_⟩
  refine (θ_run Cert.OutReferenceIdeal.defs _ _).mono (fun _ h c => ⟨(h c).1.trans ?_, (h c).2⟩)
    (Cert.OutReferenceIdeal.Value.run (F := Ideal) m' ρ')
  exact (Cert.OutKernelIdeal.Hand.final (m := m) (m' := m') c (hagree c)).symm

end Cert.Proof

end
-- ==== Proof.ProjResults.lean ====
/-
  Hand-written, untrusted. The results of the input projection's reference that its run spells out, each by a name.
-/
module

public import proofs.«01_k».proof.Proof.Gen.ProjReferenceIdeal.Run
public import Idealize.ShloMosaic.Lib.Pipeline.ValueKit

@[expose] public section

set_option maxRecDepth 16384

noncomputable section

namespace Cert.ProjReferenceIdeal.Hand

open Cert.ProjReferenceIdeal Cert.ProjReferenceIdeal.Gen
open Idealize.ShloMosaic Idealize.ShloMosaic.TcCoe Idealize.SL.Sem

variable {F : FTy → Type} [FloatOps F]
variable (m : (ℓ : Loc nD τ sig) → Buf (Elt F) ℓ) (c : Dev nD)

/-- The latent rows normalised by their mean square and weighted, before their rounding. -/
def normed : FVec F S32768x128 .f32 :=
  mulf (mulf (extractStridedSlice S32768x128 ![0, 512] (Host.dotGeneral dot_S32768x1024_S1024x3524_S32768x3524_1_0_0_1_n_n none (m ((c.tc : Thread nD τ).loc main_arg0)) (m ((c.tc : Thread nD τ).loc main_arg1))) slices_S32768x3524_S32768x128_0_512) (broadcastInDim S32768x128 ![0, 1] bcast_S32768x1_S32768x128_0_1 (Host.rsqrt (addf (Host.divf (broadcastInDim S32768x1 ![0] bcast_S32768_S32768x1_0 (Host.reduceAdd (mulf (extractStridedSlice S32768x128 ![0, 512] (Host.dotGeneral dot_S32768x1024_S1024x3524_S32768x3524_1_0_0_1_n_n none (m ((c.tc : Thread nD τ).loc main_arg0)) (m ((c.tc : Thread nD τ).loc main_arg1))) slices_S32768x3524_S32768x128_0_512) (extractStridedSlice S32768x128 ![0, 512] (Host.dotGeneral dot_S32768x1024_S1024x3524_S32768x3524_1_0_0_1_n_n none (m ((c.tc : Thread nD τ).loc main_arg0)) (m ((c.tc : Thread nD τ).loc main_arg1))) slices_S32768x3524_S32768x128_0_512)) (constant S_ .f32 0x00000000#32) reducesTo_S32768x128_S32768_d1 h_S_)) (broadcastInDim S32768x1 ![] bcast_S_S32768x1 (constant S_ .f32 0x43000000#32))) (broadcastInDim S32768x1 ![] bcast_S_S32768x1 (constant S_ .f32 0x358637BD#32)))))) (broadcastInDim S32768x128 ![0, 1] bcast_S1x128_S32768x128_0_1 (broadcastInDim S1x128 ![1] bcast_S128_S1x128_1 (m ((c.tc : Thread nD τ).loc main_arg2))))

/-- The queries carried into the latent space, head by head, transposed. -/
def qlat : Buf (Elt F) ((c.tc : Thread nD τ).loc main_v67) :=
  truncf .bf16 (transpose S8x128x32768 [1, 2, 0] (mulf (transpose S32768x8x128 [2, 0, 1] (Host.dotGeneral dot_S8x64x128_S32768x8x64_S8x128x32768_1_2_2_0_0_1 none (m ((c.tc : Thread nD τ).loc main_arg3)) (shapeCast _ (extractStridedSlice S32768x512 ![0, 0] (Host.dotGeneral dot_S32768x1024_S1024x3524_S32768x3524_1_0_0_1_n_n none (m ((c.tc : Thread nD τ).loc main_arg0)) (m ((c.tc : Thread nD τ).loc main_arg1))) slices_S32768x3524_S32768x512_0_0) shapeCasts_S32768x512_S32768x8x64)) transposes_S8x128x32768_S32768x8x128_2_0_1) (broadcastInDim S32768x8x128 ![] bcast_S_S32768x8x128 (constant S_ .f32 0x3E38AA3B#32))) transposes_S32768x8x128_S8x128x32768_1_2_0) bitsLt_bf16_f32

/-- The normalised latent rows. -/
def latent : Buf (Elt F) ((c.tc : Thread nD τ).loc main_v68) :=
  truncf .bf16 (normed m c) bitsLt_bf16_f32

/-- The latent rows transposed in groups of 128 with a row of ones below. -/
def latentT : Buf (Elt F) ((c.tc : Thread nD τ).loc main_v71) :=
  truncf .bf16 (transpose S256x144x128 [1, 0, 2] (shapeCast _ ((concatenate S144x32768 0 [⟨S128x32768, ((transpose S128x32768 [1, 0] (normed m c) transposes_S32768x128_S128x32768_1_0) : (⟨S128x32768, .f32⟩ : BufTy).Contents (Elt F))⟩, ⟨S1x32768, ((broadcastInDim S1x32768 ![] bcast_S_S1x32768 (constant S_ .f32 0x3F800000#32)) : (⟨S1x32768, .f32⟩ : BufTy).Contents (Elt F))⟩, ⟨S15x32768, ((broadcastInDim S15x32768 ![] bcast_S_S15x32768 (constant S_ .f32 0x00000000#32)) : (⟨S15x32768, .f32⟩ : BufTy).Contents (Elt F))⟩] concatenates_S128x32768_S1x32768_S15x32768_S144x32768_d0 : (⟨S144x32768, .f32⟩ : BufTy).Contents (Elt F))) shapeCasts_S144x32768_S144x256x128) transposes_S144x256x128_S256x144x128_1_0_2) bitsLt_bf16_f32

/-- The indexer's queries transposed. -/
def indexQ : Buf (Elt F) ((c.tc : Thread nD τ).loc main_v73) :=
  truncf .bf16 (transpose S256x32768 [1, 0] (extractStridedSlice S32768x256 ![0, 640] (Host.dotGeneral dot_S32768x1024_S1024x3524_S32768x3524_1_0_0_1_n_n none (m ((c.tc : Thread nD τ).loc main_arg0)) (m ((c.tc : Thread nD τ).loc main_arg1))) slices_S32768x3524_S32768x256_0_640) transposes_S32768x256_S256x32768_1_0) bitsLt_bf16_f32

/-- The indexer's keys. -/
def indexK : Buf (Elt F) ((c.tc : Thread nD τ).loc main_v74) :=
  truncf .bf16 (extractStridedSlice S32768x64 ![0, 896] (Host.dotGeneral dot_S32768x1024_S1024x3524_S32768x3524_1_0_0_1_n_n none (m ((c.tc : Thread nD τ).loc main_arg0)) (m ((c.tc : Thread nD τ).loc main_arg1))) slices_S32768x3524_S32768x64_0_896) bitsLt_bf16_f32

/-- The indexer's head weights transposed. -/
def indexW : Buf (Elt F) ((c.tc : Thread nD τ).loc main_v77) :=
  mulf (transpose S8x32768 [1, 0] (concatenate S32768x8 1 [⟨S32768x4, (extractStridedSlice S32768x4 ![0, 960] (Host.dotGeneral dot_S32768x1024_S1024x3524_S32768x3524_1_0_0_1_n_n none (m ((c.tc : Thread nD τ).loc main_arg0)) (m ((c.tc : Thread nD τ).loc main_arg1))) slices_S32768x3524_S32768x4_0_960)⟩, ⟨S32768x4, (broadcastInDim S32768x4 ![] bcast_S_S32768x4 (constant S_ .f32 0x00000000#32))⟩] concatenates_S32768x4_S32768x4_S32768x8_d1) transposes_S32768x8_S8x32768_1_0) (broadcastInDim S8x32768 ![] bcast_S_S8x32768 (constant S_ .f32 0x3D800000#32))

/-- The attention's gate. -/
def gateA : Buf (Elt F) ((c.tc : Thread nD τ).loc main_v78) :=
  mulf (extractStridedSlice S32768x512 ![0, 964] (Host.dotGeneral dot_S32768x1024_S1024x3524_S32768x3524_1_0_0_1_n_n none (m ((c.tc : Thread nD τ).loc main_arg0)) (m ((c.tc : Thread nD τ).loc main_arg1))) slices_S32768x3524_S32768x512_0_964) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 964] (Host.dotGeneral dot_S32768x1024_S1024x3524_S32768x3524_1_0_0_1_n_n none (m ((c.tc : Thread nD τ).loc main_arg0)) (m ((c.tc : Thread nD τ).loc main_arg1))) slices_S32768x3524_S32768x512_0_964)))))

/-- The recurrence's query. -/
def forgetQ : Buf (Elt F) ((c.tc : Thread nD τ).loc main_v81) :=
  mulf (mulf (extractStridedSlice S32768x512 ![0, 1476] (Host.dotGeneral dot_S32768x1024_S1024x3524_S32768x3524_1_0_0_1_n_n none (m ((c.tc : Thread nD τ).loc main_arg0)) (m ((c.tc : Thread nD τ).loc main_arg1))) slices_S32768x3524_S32768x512_0_1476) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 1476] (Host.dotGeneral dot_S32768x1024_S1024x3524_S32768x3524_1_0_0_1_n_n none (m ((c.tc : Thread nD τ).loc main_arg0)) (m ((c.tc : Thread nD τ).loc main_arg1))) slices_S32768x3524_S32768x512_0_1476)))))) (broadcastInDim S32768x512 ![] bcast_S_S32768x512 (constant S_ .f32 0x3DB504F3#32))

/-- The recurrence's values. -/
def val : Buf (Elt F) ((c.tc : Thread nD τ).loc main_v26) :=
  extractStridedSlice S32768x512 ![0, 2500] (Host.dotGeneral dot_S32768x1024_S1024x3524_S32768x3524_1_0_0_1_n_n none (m ((c.tc : Thread nD τ).loc main_arg0)) (m ((c.tc : Thread nD τ).loc main_arg1))) slices_S32768x3524_S32768x512_0_2500

/-- The recurrence's gate. -/
def gateH : Buf (Elt F) ((c.tc : Thread nD τ).loc main_v87) :=
  mulf (extractStridedSlice S32768x512 ![0, 3012] (Host.dotGeneral dot_S32768x1024_S1024x3524_S32768x3524_1_0_0_1_n_n none (m ((c.tc : Thread nD τ).loc main_arg0)) (m ((c.tc : Thread nD τ).loc main_arg1))) slices_S32768x3524_S32768x512_0_3012) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 3012] (Host.dotGeneral dot_S32768x1024_S1024x3524_S32768x3524_1_0_0_1_n_n none (m ((c.tc : Thread nD τ).loc main_arg0)) (m ((c.tc : Thread nD τ).loc main_arg1))) slices_S32768x3524_S32768x512_0_3012)))))

end Cert.ProjReferenceIdeal.Hand

end
-- ==== Proof.ProjBase.lean ====
/-
  Hand-written, untrusted. The input projection call: which block each window sees, and what agreement of the two
  programs' arguments means.
-/
module

public import proofs.«01_k».proof.Proof.Gen.ProjKernelIdeal.Value
public import proofs.«01_k».proof.Proof.ProjResults
public import Idealize.ShloMosaic.Lib.Pipeline.ValueKit
public import Idealize.ShloMosaic.Lib.Tactic.CleanTypes

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

/-- The windows' block indices at every point: the token windows move with the point, the weights stay. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0, t.val] ∧ win0_6.index t = ![t.val, 0]
    ∧ win0_7.index t = ![t.val, 0, 0] ∧ win0_8.index t = ![0, t.val] ∧ win0_9.index t = ![t.val, 0]
    ∧ win0_10.index t = ![0, t.val] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0] := by
  decide +kernel

/-- The two programs' arguments hold the same values on device `c`. -/
abbrev Agree (c : Dev nD) : Prop :=
  m' ((c.tc : Thread Cert.ProjReferenceIdeal.nD Cert.ProjReferenceIdeal.τ).loc Cert.ProjReferenceIdeal.main_arg0) = m ((c.tc : Thread nD τ).loc main_arg0)
  ∧ m' ((c.tc : Thread Cert.ProjReferenceIdeal.nD Cert.ProjReferenceIdeal.τ).loc Cert.ProjReferenceIdeal.main_arg1) = m ((c.tc : Thread nD τ).loc main_arg1)
  ∧ m' ((c.tc : Thread Cert.ProjReferenceIdeal.nD Cert.ProjReferenceIdeal.τ).loc Cert.ProjReferenceIdeal.main_arg2) = m ((c.tc : Thread nD τ).loc main_arg2)
  ∧ m' ((c.tc : Thread Cert.ProjReferenceIdeal.nD Cert.ProjReferenceIdeal.τ).loc Cert.ProjReferenceIdeal.main_arg3) = m ((c.tc : Thread nD τ).loc main_arg3)
  ∧ m' ((c.tc : Thread Cert.ProjReferenceIdeal.nD Cert.ProjReferenceIdeal.τ).loc Cert.ProjReferenceIdeal.main_arg4) = m ((c.tc : Thread nD τ).loc main_arg4)

end Cert.ProjKernelIdeal.Hand

end
-- ==== Proof.ProjPrep.lean ====
/-
  Hand-written, untrusted. The arrays the host prepares for the input projection, read at an index.
-/
module

public import proofs.«01_k».proof.Proof.ProjBase
public import Idealize.ShloMosaic.Lib.StableHlo.RunRead

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

/-- The padded weight: the first 964 columns, 60 columns of zeros, the other 2560 columns. -/
def padded (W : FVec Ideal S1024x3524 .f32) : FVec Ideal S1024x3584 .bf16 :=
  truncf (F := Ideal) .bf16 (concatenate S1024x3584 1
    [⟨S1024x964, (extractStridedSlice S1024x964 ![0, 0] W slices_S1024x3524_S1024x964_0_0 : FVec Ideal S1024x964 .f32)⟩,
     ⟨S1024x60, (broadcastInDim S1024x60 ![] bcast_S_S1024x60 (constant (F := Ideal) S_ .f32 0x00000000#32) : FVec Ideal S1024x60 .f32)⟩,
     ⟨S1024x2560, (extractStridedSlice S1024x2560 ![0, 964] W slices_S1024x3524_S1024x2560_0_964 : FVec Ideal S1024x2560 .f32)⟩]
    concatenates_S1024x964_S1024x60_S1024x2560_S1024x3584_d1) bitsLt_bf16_f32

/-- Equal parts make equal padded weights. -/
theorem padded_of {a a' : FVec Ideal S1024x964 .f32} {b b' : FVec Ideal S1024x60 .f32} {d d' : FVec Ideal S1024x2560 .f32}
    (ha : a = a') (hb : b = b') (hd : d = d') :
    truncf (F := Ideal) .bf16 (concatenate S1024x3584 1 [⟨S1024x964, a⟩, ⟨S1024x60, b⟩, ⟨S1024x2560, d⟩]
      concatenates_S1024x964_S1024x60_S1024x2560_S1024x3584_d1) bitsLt_bf16_f32
    = truncf (F := Ideal) .bf16 (concatenate S1024x3584 1 [⟨S1024x964, a'⟩, ⟨S1024x60, b'⟩, ⟨S1024x2560, d'⟩]
      concatenates_S1024x964_S1024x60_S1024x2560_S1024x3584_d1) bitsLt_bf16_f32 := by
  rw [ha, hb, hd]

/-- What the call finds as its weight is the padded argument. -/
theorem V_wp (c : Dev nD) : V m c main_v4 = padded (m ((c : Thread nD τ).loc main_arg1)) := by
  have e0 : StableHlo.upto (hostOps0 (F := Ideal)) (fun b : DevRef τ sig => m (c, b)) 4 (Proc.tc.devRef main_v0)
      = extractStridedSlice S1024x964 ![0, 0] (m ((c : Thread nD τ).loc main_arg1) : FVec Ideal S1024x3524 .f32) slices_S1024x3524_S1024x964_0_0 := by
    after_reads_simp
    try rfl
  have e1 : StableHlo.upto (hostOps0 (F := Ideal)) (fun b : DevRef τ sig => m (c, b)) 4 (Proc.tc.devRef main_v1)
      = broadcastInDim S1024x60 ![] bcast_S_S1024x60 (constant (F := Ideal) S_ .f32 0x00000000#32) := by
    after_reads_simp
    try rfl
  have e2 : StableHlo.upto (hostOps0 (F := Ideal)) (fun b : DevRef τ sig => m (c, b)) 4 (Proc.tc.devRef main_v2)
      = extractStridedSlice S1024x2560 ![0, 964] (m ((c : Thread nD τ).loc main_arg1) : FVec Ideal S1024x3524 .f32) slices_S1024x3524_S1024x2560_0_964 := by
    after_reads_simp
    try rfl
  unfold V
  after_reads_simp
  exact padded_of e0 e1 e2

/-- Two heads' 64 rows each on the diagonal of a 128 by 256 block. -/
def diag2 (w : FVec Ideal S2x64x128 .f32) : FVec Ideal S1x128x256 .f32 :=
  broadcastInDim S1x128x256 ![1, 2] bcast_S128x256_S1x128x256_1_2
    (shapeCast S128x256
      (mulf
        (broadcastInDim S2x64x2x128 ![0, 1, 2, 3] bcast_S2x1x2x1_S2x64x2x128_0_1_2_3
          (broadcastInDim S2x1x2x1 ![0, 2] bcast_S2x2_S2x1x2x1_0_2
            (uitofp (F := Ideal) .f32 (cmpi .eq (addi (iotaInDim S2x2 32 0) (broadcastInDim S2x2 ![] bcast_S_S2x2 (constantI S_ 32 0#32))) (iotaInDim S2x2 32 1)))))
        (broadcastInDim S2x64x2x128 ![0, 1, 2, 3] bcast_S2x64x1x128_S2x64x2x128_0_1_2_3
          (broadcastInDim S2x64x1x128 ![0, 1, 3] bcast_S2x64x128_S2x64x1x128_0_1_3 w)) : FVec Ideal S2x64x2x128 .f32)
      shapeCasts_S2x64x2x128_S128x256)

/-- The four block diagonals stacked. -/
def diag (w : FVec Ideal S8x64x128 .f32) : FVec Ideal S4x128x256 .bf16 :=
  truncf (F := Ideal) .bf16 (concatenate S4x128x256 0
    [⟨S1x128x256, diag2 (extractStridedSlice S2x64x128 ![0, 0, 0] w slices_S8x64x128_S2x64x128_0_0_0)⟩,
     ⟨S1x128x256, diag2 (extractStridedSlice S2x64x128 ![2, 0, 0] w slices_S8x64x128_S2x64x128_2_0_0)⟩,
     ⟨S1x128x256, diag2 (extractStridedSlice S2x64x128 ![4, 0, 0] w slices_S8x64x128_S2x64x128_4_0_0)⟩,
     ⟨S1x128x256, diag2 (extractStridedSlice S2x64x128 ![6, 0, 0] w slices_S8x64x128_S2x64x128_6_0_0)⟩]
    concatenates_S1x128x256_S1x128x256_S1x128x256_S1x128x256_S4x128x256_d0) bitsLt_bf16_f32

/-- Equal blocks make equal stacks. -/
theorem diag_of {a a' b b' d d' e e' : FVec Ideal S1x128x256 .f32} (ha : a = a') (hb : b = b') (hd : d = d') (he : e = e') :
    truncf (F := Ideal) .bf16 (concatenate S4x128x256 0 [⟨S1x128x256, a⟩, ⟨S1x128x256, b⟩, ⟨S1x128x256, d⟩, ⟨S1x128x256, e⟩]
      concatenates_S1x128x256_S1x128x256_S1x128x256_S1x128x256_S4x128x256_d0) bitsLt_bf16_f32
    = truncf (F := Ideal) .bf16 (concatenate S4x128x256 0 [⟨S1x128x256, a'⟩, ⟨S1x128x256, b'⟩, ⟨S1x128x256, d'⟩, ⟨S1x128x256, e'⟩]
      concatenates_S1x128x256_S1x128x256_S1x128x256_S1x128x256_S4x128x256_d0) bitsLt_bf16_f32 := by
  rw [ha, hb, hd, he]

/-- What the call finds as its latent weight is the stack of block diagonals. -/
theorem V_wuk (c : Dev nD) : V m c main_v62 = diag (m ((c : Thread nD τ).loc main_arg3)) := by
  have e0 : StableHlo.upto (hostOps0 (F := Ideal)) (fun b : DevRef τ sig => m (c, b)) 66 (Proc.tc.devRef main_v57)
      = diag2 (extractStridedSlice S2x64x128 ![0, 0, 0] (m ((c : Thread nD τ).loc main_arg3) : FVec Ideal S8x64x128 .f32) slices_S8x64x128_S2x64x128_0_0_0) := by
    after_reads_simp
    try rfl
  have e1 : StableHlo.upto (hostOps0 (F := Ideal)) (fun b : DevRef τ sig => m (c, b)) 66 (Proc.tc.devRef main_v58)
      = diag2 (extractStridedSlice S2x64x128 ![2, 0, 0] (m ((c : Thread nD τ).loc main_arg3) : FVec Ideal S8x64x128 .f32) slices_S8x64x128_S2x64x128_2_0_0) := by
    after_reads_simp
    try rfl
  have e2 : StableHlo.upto (hostOps0 (F := Ideal)) (fun b : DevRef τ sig => m (c, b)) 66 (Proc.tc.devRef main_v59)
      = diag2 (extractStridedSlice S2x64x128 ![4, 0, 0] (m ((c : Thread nD τ).loc main_arg3) : FVec Ideal S8x64x128 .f32) slices_S8x64x128_S2x64x128_4_0_0) := by
    after_reads_simp
    try rfl
  have e3 : StableHlo.upto (hostOps0 (F := Ideal)) (fun b : DevRef τ sig => m (c, b)) 66 (Proc.tc.devRef main_v60)
      = diag2 (extractStridedSlice S2x64x128 ![6, 0, 0] (m ((c : Thread nD τ).loc main_arg3) : FVec Ideal S8x64x128 .f32) slices_S8x64x128_S2x64x128_6_0_0) := by
    after_reads_simp
    try rfl
  unfold V
  after_reads_simp
  exact diag_of e0 e1 e2 e3

/-- What the call finds as its norm's weights is the argument as one row. -/
theorem V_kvg (c : Dev nD) : V m c main_v63 = shapeCast S1x128 (m ((c : Thread nD τ).loc main_arg2) : FVec Ideal S128 .f32) shapeCasts_S128_S1x128 := by
  unfold V
  after_reads_simp
  rfl

set_option maxHeartbeats 1000000 in
/-- The padded weight at an index. -/
theorem padded_at (W : FVec Ideal S1024x3524 .f32) (k : Fin 1024) (j : Fin 3584) :
    (padded W (ix2 k j) : EReal) = if h : j.val < 964 then W (ix2 k ⟨j.val, by omega⟩)
      else if h' : j.val < 1024 then 0 else W (ix2 k ⟨j.val - 60, by omega⟩) := by
  pointwise [padded]
  split
  · rfl
  · split <;> split
    · rfl
    · omega
    · omega
    · congr 2
      apply Fin.ext
      simp only
      omega

/-- The 2 by 2 identity, from its row and column numbers. -/
theorem eye_at (p q : ℕ) (hp : p < 2) (hq : q < 2) :
    (FloatOps.uitofp (F := Ideal) .f32 (IntOp.cmpi CmpIPredicate.eq (IntOp.addi (BitVec.ofNat 32 p) 0#32) (BitVec.ofNat 32 q)) : EReal)
      = if p = q then 1 else 0 := by
  interval_cases p <;> interval_cases q <;> simp [IntOp.cmpi, IntOp.addi, FloatOps.uitofp]

set_option maxHeartbeats 1000000 in
/-- The block diagonals at an index. -/
theorem diag_at (w : FVec Ideal S8x64x128 .f32) (b : Fin 4) (a : Fin 128) (l : Fin 256) :
    (diag w (ix3 b a l) : EReal) = (if a.val / 64 = l.val / 128 then 1 else 0)
      * w (ix3 (⟨2 * b.val + a.val / 64, by omega⟩ : Fin 8) (⟨a.val % 64, by omega⟩ : Fin 64) (⟨l.val % 128, by omega⟩ : Fin 128)) := by
  pointwise [diag, diag2]
  rw [eye_at _ _ (by omega) (by omega)]
  split
  · have hb : b.val = 0 := by omega
    congr 3 <;> (apply Fin.ext; simp only; omega)
  · split
    · have hb : b.val = 1 := by omega
      congr 3 <;> (apply Fin.ext; simp only; omega)
    · split
      · have hb : b.val = 2 := by omega
        congr 3 <;> (apply Fin.ext; simp only; omega)
      · have hb : b.val = 3 := by omega
        congr 3 <;> (apply Fin.ext; simp only; omega)

end Cert.ProjKernelIdeal.Hand

end
-- ==== Proof.ProjBlocks.lean ====
/-
  Hand-written, untrusted. The blocks the input projection reads at a point, in terms of its arguments.
-/
module

public import proofs.«01_k».proof.Proof.ProjBase
public import proofs.«01_k».proof.Proof.ProjPrep

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

set_option maxHeartbeats 1000000 in
/-- The rows a point reads, at an index. -/
theorem x_at (c : Dev nD) (t : Fin cfg0.N) (r : Fin 512) (k : Fin 1024) :
    iblk m c 0 t (ix2 r k) = m ((c : Thread nD τ).loc main_arg0) (ix2 (⟨t.val * 512 + r.val, by have := t.isLt; have : cfg0.N = 64 := rfl; omega⟩ : Fin 32768) k) := by
  blk_ext! [iblk, V, idx t]

set_option maxHeartbeats 1000000 in
/-- The weight a point reads is the whole padded weight. -/
theorem wp_eq (c : Dev nD) (t : Fin cfg0.N) (k : Fin 1024) (j : Fin 3584) :
    iblk m c 1 t (ix2 k j) = padded (m ((c : Thread nD τ).loc main_arg1)) (ix2 k j) := by
  rw [← V_wp]
  blk_ext! [iblk, idx t]

/-- A column of the padded weight before the padding. -/
theorem wp_lo (c : Dev nD) (t : Fin cfg0.N) (k : Fin 1024) (j : Fin 3584) (h : j.val < 964) :
    iblk m c 1 t (ix2 k j) = m ((c : Thread nD τ).loc main_arg1) (ix2 k (⟨j.val, by omega⟩ : Fin 3524)) := by
  rw [wp_eq]
  exact (padded_at _ k j).trans (by rw [dif_pos h])

/-- A column of the padding. -/
theorem wp_mid (c : Dev nD) (t : Fin cfg0.N) (k : Fin 1024) (j : Fin 3584) (h : ¬ j.val < 964) (h' : j.val < 1024) :
    iblk m c 1 t (ix2 k j) = (0 : EReal) := by
  rw [wp_eq]
  exact (padded_at _ k j).trans (by rw [dif_neg h, dif_pos h'])

/-- A column of the padded weight after the padding. -/
theorem wp_hi (c : Dev nD) (t : Fin cfg0.N) (k : Fin 1024) (j : Fin 3584) (h : 1024 ≤ j.val) :
    iblk m c 1 t (ix2 k j) = m ((c : Thread nD τ).loc main_arg1) (ix2 k (⟨j.val - 60, by omega⟩ : Fin 3524)) := by
  rw [wp_eq]
  exact (padded_at _ k j).trans (by rw [dif_neg (by omega), dif_neg (by omega)])

set_option maxHeartbeats 1000000 in
/-- The latent weight a point reads is the whole stack of block diagonals. -/
theorem wuk_eq (c : Dev nD) (t : Fin cfg0.N) (b : Fin 4) (a : Fin 128) (l : Fin 256) :
    iblk m c 2 t (ix3 b a l) = diag (m ((c : Thread nD τ).loc main_arg3)) (ix3 b a l) := by
  rw [← V_wuk]
  blk_ext! [iblk, idx t]

set_option maxHeartbeats 1000000 in
/-- The norm's weights a point reads. -/
theorem kvg_eq (c : Dev nD) (t : Fin cfg0.N) (a : Fin 1) (l : Fin 128) :
    iblk m c 3 t (ix2 a l) = m ((c : Thread nD τ).loc main_arg2) (ix1 l) := by
  have e : iblk m c 3 t (ix2 a l) = V m c main_v63 (ix2 a l) := by blk_ext! [iblk, idx t]
  rw [e, V_kvg]
  pointwise

end Cert.ProjKernelIdeal.Hand

end
-- ==== Proof.ProjLemmas.lean ====
/-
  Hand-written, untrusted. Facts of the extended reals and of short sums that the projection's results need.
-/
module

public import proofs.«01_k».proof.Proof.ProjBase
public import proofs.«01_k».proof.Proof.ProjBlocks

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

/-- The running sum of two rows, at the second row. -/
theorem cumsum_at (x : FVec Ideal Cert.ProjReferenceIdeal.S2x512 .f32) (z : FVec Ideal Cert.ProjReferenceIdeal.S_ .f32) (j : Fin 512) :
    (Host.reduceWindowAdd (F := Ideal) ![2, 1] ![1, 1] ![1, 0] ![0, 0] x z
        Cert.ProjReferenceIdeal.Gen.reduceWindows_S2x512_S2x512_w2s1p1_0_w1s1p0_0 Cert.ProjReferenceIdeal.Gen.h_S_ (ix2 1 j) : EReal)
      = z (Shape.Idx.first Cert.ProjReferenceIdeal.Gen.h_S_) + x (ix2 0 j) + x (ix2 1 j) := by
  have hW : List.finRange (⟨2, ![2, 1]⟩ : Shape).numel = [⟨0, by decide⟩, ⟨1, by decide⟩] := by decide
  have e0 : ∀ a : Fin 2, ((⟨2, ![2, 1]⟩ : Shape).rowMajor.symm ⟨0, by decide⟩ a : ℕ) = 0 := by decide +kernel
  have e1 : ∀ a : Fin 2, ((⟨2, ![2, 1]⟩ : Shape).rowMajor.symm ⟨1, by decide⟩ a : ℕ) = if a = 0 then 1 else 0 := by decide +kernel
  change Host.reduceWindow (s := Cert.ProjReferenceIdeal.S2x512) (t := Cert.ProjReferenceIdeal.S2x512) (u := ⟨0, ![]⟩)
    (fun a b : EReal => a + b) ![2, 1] ![1, 1] ![1, 0] ![0, 0] x (fun _ => z (Shape.Idx.first Cert.ProjReferenceIdeal.Gen.h_S_))
    Cert.ProjReferenceIdeal.Gen.reduceWindows_S2x512_S2x512_w2s1p1_0_w1s1p0_0 (by decide) (ix2 1 j) = _
  unfold Host.reduceWindow
  dsimp only
  rw [hW]
  simp only [List.foldl_cons, List.foldl_nil]
  refine congr (congrArg (fun (u v : EReal) => u + v) (congrArg (fun v : EReal => _ + v) ?_)) ?_
  · rw [dif_pos (by
      intro a
      have h2 : a = (0 : Fin 2) ∨ a = (1 : Fin 2) := by fin_cases a <;> simp
      rcases h2 with rfl | rfl
      · exact ⟨by rw [e0]; show 1 ≤ 1 * 1 + 0; omega, by rw [e0]; show 1 * 1 + 0 - 1 < 2; omega⟩
      · have := j.isLt
        exact ⟨Nat.zero_le _, by rw [e0]; show j.val * 1 + 0 - 0 < 512; omega⟩)]
    refine congrArg x (funext fun a => Fin.ext ?_)
    have h2 : a = (0 : Fin 2) ∨ a = (1 : Fin 2) := by fin_cases a <;> simp
    rcases h2 with rfl | rfl
    · simp only [e0]; rfl
    · simp only [e0]; show j.val * 1 + 0 - 0 = j.val; omega
  · rw [dif_pos (by
      intro a
      have h2 : a = (0 : Fin 2) ∨ a = (1 : Fin 2) := by fin_cases a <;> simp
      rcases h2 with rfl | rfl
      · exact ⟨by rw [e1]; show 1 ≤ 1 * 1 + 1; omega, by rw [e1]; show 1 * 1 + 1 - 1 < 2; omega⟩
      · have := j.isLt
        exact ⟨Nat.zero_le _, by rw [e1]; show j.val * 1 + 0 - 0 < 512; omega⟩)]
    refine congrArg x (funext fun a => Fin.ext ?_)
    have h2 : a = (0 : Fin 2) ∨ a = (1 : Fin 2) := by fin_cases a <;> simp
    rcases h2 with rfl | rfl
    · simp only [e1]; rfl
    · simp only [e1]; show j.val * 1 + 0 - 0 = j.val; omega

/-- Zero less a value is its negative. -/
theorem zero_sub_real (a : EReal) : 0 - a = -a := by
  induction a <;> first | rfl | simp [sub_eq_add_neg]

/-- A running maximum started at `b` is at least `b`. -/
theorem max_fold (b : EReal) (f : Fin 2 → EReal) : max b (Finset.fold max b f Finset.univ) = Finset.fold max b f Finset.univ :=
  max_eq_right ((Finset.le_fold_max _).mpr (Or.inl le_rfl))

set_option maxHeartbeats 1000000 in
/-- The layers' lower bounds, as a point reads them. -/
theorem lbraw_eq (c : Dev nD) (t : Fin cfg0.N) (a : Fin 2) (l : Fin 512) :
    iblk m c 4 t (ix2 a l) = m ((c : Thread nD τ).loc main_arg4) (ix2 a l) := by
  blk_ext! [iblk, V, idx t]

end Cert.ProjKernelIdeal.Hand

end
-- ==== Proof.ProjColumns.lean ====
/-
  Hand-written, untrusted. The projection call's values: the results that are columns of the projection, moved about.
-/
module

public import proofs.«01_k».proof.Proof.ProjBase
public import proofs.«01_k».proof.Proof.ProjLemmas

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

set_option maxHeartbeats 1600000 in
/-- The recurrence's values: every row of the result is the product with its columns of the weights. -/
theorem final_val (c : Dev nD) (h : Agree m m' c) :
    (dats m 0 c).arrAt 15 (cfgs 0).N = Cert.ProjReferenceIdeal.Hand.val m' c := by
  obtain ⟨h0, h1, h2, h3, h4⟩ := h
  refine (dats m 0 c).arrAt_eq_of_covers 15 _ (by decide +kernel) fun t _ y => ?_
  blk_simp
  rw [after0_15]
  unfold_out out0_15
  frame_out
  unfold Cert.ProjReferenceIdeal.Hand.val
  rw [h0, h1]
  clean_types
  pointwise [k0_pay1, k0_pay27]
  reads_congr
  all_goals first
    | (refine (x_at m c t _ _).trans ?_; blk_ext [idx t])
    | (refine (wp_hi m c t _ _ (by simp only; omega)).trans ?_; blk_ext [idx t])

set_option maxHeartbeats 1600000 in
/-- The indexer's queries, one column of the result per token. -/
theorem final_indexQ (c : Dev nD) (h : Agree m m' c) :
    (dats m 0 c).arrAt 8 (cfgs 0).N = Cert.ProjReferenceIdeal.Hand.indexQ m' c := by
  obtain ⟨h0, h1, h2, h3, h4⟩ := h
  refine (dats m 0 c).arrAt_eq_of_covers 8 _ (by decide +kernel) fun t _ y => ?_
  blk_simp
  rw [after0_8]
  unfold_out out0_8
  frame_out
  unfold Cert.ProjReferenceIdeal.Hand.indexQ
  rw [h0, h1]
  clean_types
  pointwise [k0_pay1, k0_pay13]
  reads_congr
  all_goals first
    | (refine (x_at m c t _ _).trans ?_; blk_ext [idx t])
    | (refine (wp_hi m c t _ _ (by simp only; omega)).trans ?_; blk_ext [idx t])
    | (refine (wp_lo m c t _ _ (by simp only; idx_bounds; omega)).trans ?_; blk_ext [idx t])
    | (refine (kvg_eq m c t _ _).trans ?_; blk_ext [idx t])

set_option maxHeartbeats 1600000 in
/-- The indexer's keys, one row per token. -/
theorem final_indexK (c : Dev nD) (h : Agree m m' c) :
    (dats m 0 c).arrAt 9 (cfgs 0).N = Cert.ProjReferenceIdeal.Hand.indexK m' c := by
  obtain ⟨h0, h1, h2, h3, h4⟩ := h
  refine (dats m 0 c).arrAt_eq_of_covers 9 _ (by decide +kernel) fun t _ y => ?_
  blk_simp
  rw [after0_9]
  unfold_out out0_9
  frame_out
  unfold Cert.ProjReferenceIdeal.Hand.indexK
  rw [h0, h1]
  clean_types
  pointwise [k0_pay1, k0_pay14, k0_pay15]
  reads_congr
  all_goals first
    | (refine (x_at m c t _ _).trans ?_; blk_ext [idx t])
    | (refine (wp_hi m c t _ _ (by simp only; omega)).trans ?_; blk_ext [idx t])
    | (refine (wp_lo m c t _ _ (by simp only; idx_bounds; omega)).trans ?_; blk_ext [idx t])
    | (refine (kvg_eq m c t _ _).trans ?_; blk_ext [idx t])

set_option maxHeartbeats 1600000 in
/-- The indexer's four head weights with four zero rows below, one column per token. -/
theorem final_indexW (c : Dev nD) (h : Agree m m' c) :
    (dats m 0 c).arrAt 10 (cfgs 0).N = Cert.ProjReferenceIdeal.Hand.indexW m' c := by
  obtain ⟨h0, h1, h2, h3, h4⟩ := h
  refine (dats m 0 c).arrAt_eq_of_covers 10 _ (by decide +kernel) fun t _ y => ?_
  blk_simp
  rw [after0_10]
  unfold_out out0_10
  frame_out
  unfold Cert.ProjReferenceIdeal.Hand.indexW
  rw [h0, h1]
  clean_types
  pointwise [k0_pay1, k0_pay14, k0_pay16]
  have he : ((((View.whole main_v64_5).slice (win0_10.rect t)).emb y 0 : Fin 8) : ℕ) = (y 0).val := by
    blk_simp [idx t]
  congr 1
  by_cases hy : (y 0).val < 4
  · rw [dif_pos (he ▸ hy)]
    reads_congr
    all_goals first
      | (refine (x_at m c t _ _).trans ?_; blk_ext [idx t])
      | (refine (wp_lo m c t _ _ (by simp only; idx_bounds; omega)).trans ?_; blk_ext [idx t])
  · rw [dif_neg (he ▸ hy)]
    refine Finset.sum_eq_zero fun x _ => ?_
    rw [wp_mid m c t _ _ (by simp only; omega) (by simp only; idx_bounds; omega)]
    exact mul_zero _

end Cert.ProjKernelIdeal.Hand

end
-- ==== Proof.ProjGates.lean ====
/-
  Hand-written, untrusted. The projection call's values: the results that are a column block times its sigmoid.
-/
module

public import proofs.«01_k».proof.Proof.ProjBase
public import proofs.«01_k».proof.Proof.ProjLemmas

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

set_option maxHeartbeats 1600000 in
/-- The attention's gate, `x * sigmoid x` of its columns. -/
theorem final_gateA (c : Dev nD) (h : Agree m m' c) :
    (dats m 0 c).arrAt 11 (cfgs 0).N = Cert.ProjReferenceIdeal.Hand.gateA m' c := by
  obtain ⟨h0, h1, h2, h3, h4⟩ := h
  refine (dats m 0 c).arrAt_eq_of_covers 11 _ (by decide +kernel) fun t _ y => ?_
  blk_simp
  rw [after0_11]
  unfold_out out0_11
  frame_out
  unfold Cert.ProjReferenceIdeal.Hand.gateA
  rw [h0, h1]
  clean_types
  pointwise [k0_pay1, k0_pay17, k0_pay18, k0_pay19]
  simp only [zero_sub_real]
  reads_congr
  all_goals first
    | (refine (x_at m c t _ _).trans ?_; blk_ext [idx t])
    | (refine (wp_hi m c t _ _ (by simp only; omega)).trans ?_; blk_ext [idx t])
    | (refine (wp_lo m c t _ _ (by simp only; idx_bounds; omega)).trans ?_; blk_ext [idx t])
    | (refine (kvg_eq m c t _ _).trans ?_; blk_ext [idx t])
    | (refine (lbraw_eq m c t _ _).trans ?_; blk_ext [idx t])

set_option maxHeartbeats 1600000 in
/-- The recurrence's gate, `x * sigmoid x` of its columns. -/
theorem final_gateH (c : Dev nD) (h : Agree m m' c) :
    (dats m 0 c).arrAt 16 (cfgs 0).N = Cert.ProjReferenceIdeal.Hand.gateH m' c := by
  obtain ⟨h0, h1, h2, h3, h4⟩ := h
  refine (dats m 0 c).arrAt_eq_of_covers 16 _ (by decide +kernel) fun t _ y => ?_
  blk_simp
  rw [after0_16]
  unfold_out out0_16
  frame_out
  unfold Cert.ProjReferenceIdeal.Hand.gateH
  rw [h0, h1]
  clean_types
  pointwise [k0_pay1, k0_pay28]
  simp only [zero_sub_real]
  reads_congr
  all_goals first
    | (refine (x_at m c t _ _).trans ?_; blk_ext [idx t])
    | (refine (wp_hi m c t _ _ (by simp only; omega)).trans ?_; blk_ext [idx t])
    | (refine (wp_lo m c t _ _ (by simp only; idx_bounds; omega)).trans ?_; blk_ext [idx t])
    | (refine (kvg_eq m c t _ _).trans ?_; blk_ext [idx t])
    | (refine (lbraw_eq m c t _ _).trans ?_; blk_ext [idx t])

set_option maxHeartbeats 1600000 in
/-- The recurrence's query, scaled `x * sigmoid x` of its columns. -/
theorem final_queryH (c : Dev nD) (h : Agree m m' c) :
    (dats m 0 c).arrAt 12 (cfgs 0).N = Cert.ProjReferenceIdeal.Hand.forgetQ m' c := by
  obtain ⟨h0, h1, h2, h3, h4⟩ := h
  refine (dats m 0 c).arrAt_eq_of_covers 12 _ (by decide +kernel) fun t _ y => ?_
  blk_simp
  rw [after0_12]
  unfold_out out0_12
  frame_out
  unfold Cert.ProjReferenceIdeal.Hand.forgetQ
  rw [h0, h1]
  clean_types
  pointwise [k0_pay1, k0_pay20]
  simp only [zero_sub_real]
  reads_congr
  all_goals first
    | (refine (x_at m c t _ _).trans ?_; blk_ext [idx t])
    | (refine (wp_hi m c t _ _ (by simp only; omega)).trans ?_; blk_ext [idx t])
    | (refine (wp_lo m c t _ _ (by simp only; idx_bounds; omega)).trans ?_; blk_ext [idx t])
    | (refine (kvg_eq m c t _ _).trans ?_; blk_ext [idx t])
    | (refine (lbraw_eq m c t _ _).trans ?_; blk_ext [idx t])

end Cert.ProjKernelIdeal.Hand

end
-- ==== Proof.ProjQlat.lean ====
/-
  Hand-written, untrusted. The projection call's values: the queries in the latent space.
-/
module

public import proofs.«01_k».proof.Proof.ProjBase
public import proofs.«01_k».proof.Proof.ProjLemmas

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

/-- A sum over 128 rows of which only one half is not zero. -/
theorem half_sum (f : Fin 128 → EReal) (q : ℕ) (hq : q < 2) (h0 : ∀ x : Fin 128, x.val / 64 ≠ q → f x = 0) :
    ∑ x, f x = ∑ x : Fin 64, f ⟨q * 64 + x.val, by omega⟩ := by
  have hs : ∑ x, f x = ∑ x : Fin 64, f ⟨x.val, by omega⟩ + ∑ x : Fin 64, f ⟨64 + x.val, by omega⟩ :=
    Fin.sum_univ_add (a := 64) (b := 64) f
  rw [hs]
  interval_cases q
  · have z : ∑ x : Fin 64, f ⟨64 + x.val, by omega⟩ = 0 :=
      Finset.sum_eq_zero fun x _ => h0 ⟨64 + x.val, by omega⟩ (by simp only; omega)
    rw [z, add_zero]
    exact Finset.sum_congr rfl fun x _ => congrArg f (Fin.ext (by simp only; omega))
  · have z : ∑ x : Fin 64, f ⟨x.val, by omega⟩ = 0 :=
      Finset.sum_eq_zero fun x _ => h0 ⟨x.val, by omega⟩ (by simp only; omega)
    rw [z, zero_add]

/-- One pair of heads: the product with the block diagonal is the product with the head's own weights. -/
theorem pair_core (c : Dev nD) (t : Fin cfg0.N) (b : Fin 4) (p : Fin 8) (r : Fin 512) (l : Fin 128) (l' : Fin 256)
    (o : Fin 128 → Fin 3584) (hp : p.val / 2 = b.val) (hl : l'.val = p.val % 2 * 128 + l.val)
    (ho : ∀ x, (o x).val = 128 * b.val + x.val) :
    (∑ x : Fin 128, HMul.hMul (α := EReal) (β := EReal) (γ := EReal) (∑ k, HMul.hMul (α := EReal) (β := EReal) (γ := EReal) (iblk m c 0 t (ix2 r k)) (iblk m c 1 t (ix2 k (o x)))) (iblk m c 2 t (ix3 b x l')))
      = ∑ x : Fin 64, HMul.hMul (α := EReal) (β := EReal) (γ := EReal) (m ((c : Thread nD τ).loc main_arg3) (ix3 p x l))
        (∑ k : Fin 1024, HMul.hMul (α := EReal) (β := EReal) (γ := EReal) (m ((c : Thread nD τ).loc main_arg0) (ix2 (⟨t.val * 512 + r.val, by have := t.isLt; have : cfg0.N = 64 := rfl; omega⟩ : Fin 32768) k))
          (m ((c : Thread nD τ).loc main_arg1) (ix2 k (⟨p.val * 64 + x.val, by omega⟩ : Fin 3524)))) := by
  rw [half_sum _ (p.val % 2) (by omega) fun x hx => ?_]
  · refine Finset.sum_congr rfl fun x _ => ?_
    rw [wuk_eq]
    refine (congrArg (_ * ·) (diag_at _ _ _ _)).trans ?_
    rw [if_pos (by simp only; omega), one_mul]
    refine (mul_comm _ _).trans ?_
    refine congr (congrArg (fun (u v : EReal) => u * v) ?_) (Finset.sum_congr rfl fun k _ => ?_)
    · refine congrArg (m ((c : Thread nD τ).loc main_arg3)) ?_
      blk_ext
    · rw [x_at, wp_lo m c t _ _ (by rw [ho]; simp only; omega)]
      refine congrArg (HMul.hMul (α := EReal) (β := EReal) (γ := EReal) _) (congrArg (m ((c : Thread nD τ).loc main_arg1)) (congrArg (ix2 k) (Fin.ext ?_)))
      simp only [ho]
      omega
  · rw [wuk_eq]
    refine (congrArg (_ * ·) (diag_at _ _ _ _)).trans ?_
    rw [if_neg (by omega), zero_mul, mul_zero]

set_option maxHeartbeats 1600000 in
/-- The queries carried into the latent space: the product with a pair's block diagonal is, head by head, the product with the head's own weights. -/
theorem final_qlat (c : Dev nD) (h : Agree m m' c) :
    (dats m 0 c).arrAt 5 (cfgs 0).N = Cert.ProjReferenceIdeal.Hand.qlat m' c := by
  obtain ⟨h0, h1, h2, h3, h4⟩ := h
  refine (dats m 0 c).arrAt_eq_of_covers 5 _ (by decide +kernel) fun t _ y => ?_
  blk_simp
  rw [after0_5]
  unfold_out out0_5
  frame_out
  unfold Cert.ProjReferenceIdeal.Hand.qlat
  rw [h0, h1, h3]
  clean_types
  pointwise [k0_pay1, k0_pay2]
  idx_bounds y
  refine congr (congrArg (fun (u v : EReal) => u * v) ?_) rfl
  have ht : t.val < 64 := t.isLt
  refine Eq.trans (b := ∑ x : Fin 64, HMul.hMul (α := EReal) (β := EReal) (γ := EReal) (m ((c : Thread nD τ).loc main_arg3) (ix3 (⟨(y 0).val, hb0⟩ : Fin 8) x (⟨(y 1).val, hb1⟩ : Fin 128)))
        (∑ k : Fin 1024, HMul.hMul (α := EReal) (β := EReal) (γ := EReal) (m ((c : Thread nD τ).loc main_arg0) (ix2 (⟨t.val * 512 + (y 2).val, by omega⟩ : Fin 32768) k))
          (m ((c : Thread nD τ).loc main_arg1) (ix2 k (⟨(y 0).val * 64 + x.val, by omega⟩ : Fin 3524))))) ?_ ?_
  · by_cases g0 : (y 0).val * 128 + (y 1).val < 256
    · rw [dif_pos g0]
      exact pair_core m c t 0 ⟨(y 0).val, hb0⟩ ⟨(y 2).val, hb2⟩ ⟨(y 1).val, hb1⟩ ⟨(y 0).val * 128 + (y 1).val, g0⟩
        (fun x => ⟨x.val, by omega⟩) (by show (y 0).val / 2 = 0; omega) (by simp only; omega) (fun x => by simp)
    rw [dif_neg g0]
    by_cases g1 : (y 0).val * 128 + (y 1).val - 256 < 256
    · rw [dif_pos g1]
      exact pair_core m c t 1 ⟨(y 0).val, hb0⟩ ⟨(y 2).val, hb2⟩ ⟨(y 1).val, hb1⟩ ⟨(y 0).val * 128 + (y 1).val - 256, g1⟩
        (fun x => ⟨128 + x.val, by omega⟩) (by show (y 0).val / 2 = 1; omega) (by simp only; omega) (fun x => by simp)
    rw [dif_neg g1]
    by_cases g2 : (y 0).val * 128 + (y 1).val - 256 - 256 < 256
    · rw [dif_pos g2]
      exact pair_core m c t 2 ⟨(y 0).val, hb0⟩ ⟨(y 2).val, hb2⟩ ⟨(y 1).val, hb1⟩ ⟨(y 0).val * 128 + (y 1).val - 256 - 256, g2⟩
        (fun x => ⟨256 + x.val, by omega⟩) (by show (y 0).val / 2 = 2; omega) (by simp only; omega) (fun x => by simp)
    rw [dif_neg g2]
    exact pair_core m c t 3 ⟨(y 0).val, hb0⟩ ⟨(y 2).val, hb2⟩ ⟨(y 1).val, hb1⟩ ⟨(y 0).val * 128 + (y 1).val - 256 - 256 - 256, by omega⟩
      (fun x => ⟨384 + x.val, by omega⟩) (by show (y 0).val / 2 = 3; omega) (by simp only; omega) (fun x => by simp)
  · reads_congr
    all_goals blk_ext [idx t]

end Cert.ProjKernelIdeal.Hand

end
-- ==== Proof.ProjForget.lean ====
/-
  Hand-written, untrusted. The projection call's values: the forget factors and the keys of the recurrence.
-/
module

public import proofs.«01_k».proof.Proof.ProjBase
public import proofs.«01_k».proof.Proof.ProjLemmas

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

set_option maxHeartbeats 1600000 in
/-- The recurrence's forget factors, as base-2 logarithms, above the layer's lower bound. -/
theorem final_logForget (c : Dev nD) (h : Agree m m' c) :
    (dats m 0 c).arrAt 13 (cfgs 0).N = Cert.ProjReferenceIdeal.Value.res_main_v84 m' c := by
  obtain ⟨h0, h1, h2, h3, h4⟩ := h
  refine (dats m 0 c).arrAt_eq_of_covers 13 _ (by decide +kernel) fun t _ y => ?_
  blk_simp
  rw [after0_13]
  unfold_out out0_13
  frame_out
  unfold Cert.ProjReferenceIdeal.Value.res_main_v84
  rw [h0, h1, h4]
  clean_types
  pointwise [k0_pay1, k0_pay21, k0_pay22, k0_pay23, k0_pay24, k0_pay25]
  obtain ⟨j, hj⟩ : ∃ j : Fin 512, j = ((View.whole main_v64_8).slice (win0_13.rect t)).emb y 1 := ⟨_, rfl⟩
  simp only [← hj]
  rw [cumsum_at]
  pointwise []
  simp only [max_fold, zero_sub_real, zero_add, Ideal.ofBits_zero_f32]
  have hb : ∀ a : Fin 2, iblk m c 4 t (ix2 a (y 1)) = m ((c : Thread nD τ).loc main_arg4) (ix2 a j) := by
    intro a
    refine (lbraw_eq m c t _ _).trans ?_
    subst hj
    blk_ext [idx t]
  have hx : ∀ k : Fin 1024, iblk m c 0 t (ix2 (y 0) k) = m ((c : Thread nD τ).loc main_arg0) (ix2 (((View.whole main_v64_8).slice (win0_13.rect t)).emb y 0) k) := by
    intro k
    refine (x_at m c t _ _).trans ?_
    blk_ext [idx t]
  have hw : ∀ (k : Fin 1024) (h : 2048 + (y 1).val < 3584), iblk m c 1 t (ix2 k (⟨2048 + (y 1).val, h⟩ : Fin 3584))
      = m ((c : Thread nD τ).loc main_arg1) (ix2 k (⟨1988 + j.val, by omega⟩ : Fin 3524)) := by
    intro k h
    refine (wp_hi m c t _ _ (by simp only; omega)).trans ?_
    subst hj
    blk_ext [idx t]
  simp only [hb, hx, hw]

set_option maxHeartbeats 1600000 in
/-- The recurrence's keys, one minus its forget factors. -/
theorem final_keyH (c : Dev nD) (h : Agree m m' c) :
    (dats m 0 c).arrAt 14 (cfgs 0).N = Cert.ProjReferenceIdeal.Value.res_main_v86 m' c := by
  obtain ⟨h0, h1, h2, h3, h4⟩ := h
  refine (dats m 0 c).arrAt_eq_of_covers 14 _ (by decide +kernel) fun t _ y => ?_
  blk_simp
  rw [after0_14]
  unfold_out out0_14
  frame_out
  unfold Cert.ProjReferenceIdeal.Value.res_main_v86
  rw [h0, h1, h4]
  clean_types
  pointwise [k0_pay1, k0_pay21, k0_pay22, k0_pay23, k0_pay24, k0_pay26]
  obtain ⟨j, hj⟩ : ∃ j : Fin 512, j = ((View.whole main_v64_9).slice (win0_14.rect t)).emb y 1 := ⟨_, rfl⟩
  simp only [← hj]
  rw [cumsum_at]
  pointwise []
  simp only [max_fold, zero_sub_real, zero_add, Ideal.ofBits_zero_f32]
  have hb : ∀ a : Fin 2, iblk m c 4 t (ix2 a (y 1)) = m ((c : Thread nD τ).loc main_arg4) (ix2 a j) := by
    intro a
    refine (lbraw_eq m c t _ _).trans ?_
    subst hj
    blk_ext [idx t]
  have hx : ∀ k : Fin 1024, iblk m c 0 t (ix2 (y 0) k) = m ((c : Thread nD τ).loc main_arg0) (ix2 (((View.whole main_v64_9).slice (win0_14.rect t)).emb y 0) k) := by
    intro k
    refine (x_at m c t _ _).trans ?_
    blk_ext [idx t]
  have hw : ∀ (k : Fin 1024) (h : 2048 + (y 1).val < 3584), iblk m c 1 t (ix2 k (⟨2048 + (y 1).val, h⟩ : Fin 3584))
      = m ((c : Thread nD τ).loc main_arg1) (ix2 k (⟨1988 + j.val, by omega⟩ : Fin 3524)) := by
    intro k h
    refine (wp_hi m c t _ _ (by simp only; omega)).trans ?_
    subst hj
    blk_ext [idx t]
  simp only [hb, hx, hw]

end Cert.ProjKernelIdeal.Hand

end
-- ==== Proof.ProjLatent.lean ====
/-
  Hand-written, untrusted. The projection call's values: the latent rows, and their transposes.
-/
module

public import proofs.«01_k».proof.Proof.ProjBase
public import proofs.«01_k».proof.Proof.ProjLemmas

@[expose] public section

set_option maxRecDepth 16384

noncomputable section

namespace Cert.ProjKernelIdeal.Hand

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)

set_option maxHeartbeats 1600000 in
/-- The normalised latent rows. -/
theorem final_latent (c : Dev nD) (h : Agree m m' c) :
    (dats m 0 c).arrAt 6 (cfgs 0).N = Cert.ProjReferenceIdeal.Hand.latent m' c := by
  obtain ⟨h0, h1, h2, h3, h4⟩ := h
  refine (dats m 0 c).arrAt_eq_of_covers 6 _ (by decide +kernel) fun t _ y => ?_
  blk_simp
  rw [after0_6]
  unfold_out out0_6
  frame_out
  unfold Cert.ProjReferenceIdeal.Hand.latent Cert.ProjReferenceIdeal.Hand.normed
  rw [h0, h1, h2]
  clean_types
  pointwise [k0_pay1, k0_pay3, k0_pay4, k0_pay5]
  reads_congr
  all_goals first
    | (refine (x_at m c t _ _).trans ?_; blk_ext [idx t])
    | (refine (wp_hi m c t _ _ (by simp only; omega)).trans ?_; blk_ext [idx t])
    | (refine (wp_lo m c t _ _ (by simp only; idx_bounds; omega)).trans ?_; blk_ext [idx t])
    | (refine (kvg_eq m c t _ _).trans ?_; blk_ext [idx t])

set_option maxHeartbeats 1600000 in
/-- A latent row before its rounding: what a point computes is the reference's row. -/
theorem normed_core (c : Dev nD) (t : Fin cfg0.N) (h : Agree m m' c) (r : Fin 512) (l : Fin 128) (r' : Fin 32768)
    (hr : r'.val = t.val * 512 + r.val) :
    k0_pay4 (F := Ideal) (k0_pay1 (iblk m c 0 t)) (k0_pay3 (View.ld (iblk m c 1 t) r0_7)) (iblk m c 3 t) (ix2 r l)
      = Cert.ProjReferenceIdeal.Hand.normed m' c (ix2 r' l) := by
  obtain ⟨h0, h1, h2, h3, h4⟩ := h
  unfold Cert.ProjReferenceIdeal.Hand.normed
  rw [h0, h1, h2]
  clean_types
  pointwise [k0_pay1, k0_pay3, k0_pay4]
  reads_congr
  all_goals first
    | (refine (x_at m c t _ _).trans ?_; blk_ext [idx t])
    | (refine (wp_lo m c t _ _ (by simp only; omega)).trans ?_; blk_ext [idx t])
    | (refine (kvg_eq m c t _ _).trans ?_; blk_ext [idx t])

/-- The row of ones below the latent rows, and the zero rows below it. -/
theorem ones_at (k : ℕ) (hk : k < 16) :
    Scalar.select (IntOp.cmpi CmpIPredicate.eq (BitVec.ofNat 32 k) 0#32) (1 : EReal) 0 = if h : k < 1 then 1 else 0 := by
  interval_cases k <;> rfl

set_option maxHeartbeats 1600000 in
/-- The normalised latent rows transposed in groups of 128 tokens, with a row of ones and fifteen zero rows below. -/
theorem final_latentT (c : Dev nD) (h : Agree m m' c) :
    (dats m 0 c).arrAt 7 (cfgs 0).N = Cert.ProjReferenceIdeal.Hand.latentT m' c := by
  refine (dats m 0 c).arrAt_eq_of_covers 7 _ (by decide +kernel) fun t _ y => ?_
  have hc := fun r l r' hr => normed_core m m' c t h r l r' hr
  clear h
  blk_simp
  rw [after0_7]
  unfold_out out0_7
  frame_out
  unfold Cert.ProjReferenceIdeal.Hand.latentT
  clean_types
  have e0 : ((((View.whole main_v64_2).slice (win0_7.rect t)).emb y 0 : Fin 256) : ℕ) = t.val * 4 + (y 0).val := by
    blk_simp [idx t]
  have e1 : ((((View.whole main_v64_2).slice (win0_7.rect t)).emb y 1 : Fin 144) : ℕ) = (y 1).val := by
    blk_simp [idx t]
  have e2 : ((((View.whole main_v64_2).slice (win0_7.rect t)).emb y 2 : Fin 128) : ℕ) = (y 2).val := by
    blk_simp [idx t]
  canon_tiles x h
  all_goals
    pointwise [k0_pay12, k0_pay11, k0_pay10, k0_pay9, k0_pay8, k0_pay6, k0_pay7]
    by_cases g : (x 1).val < 128
    · rw [dif_pos g, dif_pos (by rw [e1]; omega)]
      refine Eq.trans (hc _ _ _ ?_) (congrArg (Cert.ProjReferenceIdeal.Hand.normed m' c) (congrArg (ix2 _) (Fin.ext ?_)))
      · simp only [e0, e2]
        omega
      · simp only [e1]
        omega
    · rw [dif_neg g, dif_neg (by rw [e1]; omega)]
      refine (ones_at _ (by omega)).trans ?_
      simp only [e1, h1]

end Cert.ProjKernelIdeal.Hand

end
-- ==== Proof.ProjClaims.lean ====
/-
  The claims of the input projection: the frames of its three programs, and that the ideal kernel and the
  ideal reference give equal results, all twelve of them.
-/
module

public import proofs.«01_k».proof.Defs
public import proofs.«01_k».proof.Proof.ProjColumns
public import proofs.«01_k».proof.Proof.ProjGates
public import proofs.«01_k».proof.Proof.ProjQlat
public import proofs.«01_k».proof.Proof.ProjForget
public import proofs.«01_k».proof.Proof.ProjLatent
public import proofs.«01_k».proof.Proof.Gen.ProjKernel.Frame
public import Idealize.ShloMosaic.Adequacy
public import Idealize.ShloMosaic.Init
public import Idealize.ShloMosaic.Lib.Quiescent

@[expose] public section

noncomputable section

namespace Cert.Proof

open Idealize.ShloMosaic Idealize.SL.Sem Cert.ProjKernelIdeal.Hand

instance factsProjKernel : Cert.ProjKernel.Facts := Cert.ProjKernel.Gen.facts
instance factsProjKernelIdeal : Cert.ProjKernelIdeal.Facts := Cert.ProjKernelIdeal.Gen.facts
instance factsProjReferenceIdeal : Cert.ProjReferenceIdeal.Facts := Cert.ProjReferenceIdeal.Gen.facts

/-- The kernel's frame at the float words. -/
theorem frame_proj_kernel : Cert.quiescent_ProjKernel := fun m ρ _ => Cert.ProjKernel.Gen.frame m ρ

/-- The kernel's frame at the extended reals. -/
theorem frame_proj_ideal : Cert.quiescent_ProjKernelIdeal := fun m ρ _ => Cert.ProjKernelIdeal.Gen.frame m ρ

/-- The reference's frame at the extended reals. -/
theorem frame_proj_reference : Cert.quiescent_ProjReferenceIdeal := fun m ρ _ =>
  (θ_run Cert.ProjReferenceIdeal.defs _ _).mono
    (fun r h => ⟨fun c => (h c).2.2.2.2.2.2.2.2.2.2.2.2, Idealize.ShloMosaic.sem_eq_zero_of_no_sems (by decide) r.2⟩)
    (Cert.ProjReferenceIdeal.Value.run (F := Ideal) m ρ)

/-- No rewrite was taken, so there is nothing to preserve. -/
theorem preserves_proj : Cert.preserves_ProjKernel_ProjKernelIdeal := trivial

set_option maxHeartbeats 2000000 in
/-- The input projection computes what its reference computes, in each of its twelve results. -/
theorem algebraic_proj : Cert.algebraic_ProjKernelIdeal_ProjReferenceIdeal := by
  intro m ρ m' ρ' _ hagree
  refine ⟨_, _, _, _, _, _, _, _, _, _, _, _, Cert.ProjKernelIdeal.Value.run_blocks (F := Ideal) m ρ, ?_⟩
  refine (θ_run Cert.ProjReferenceIdeal.defs _ _).mono (fun _ h c => ?_)
    (Cert.ProjReferenceIdeal.Value.run (F := Ideal) m' ρ')
  obtain ⟨e0, e1, e2, e3, e4, e5, e6, e7, e8, e9, e10, e11, hargs⟩ := h c
  have g := hagree c
  exact ⟨e0.trans (final_qlat m m' c g).symm, e1.trans (final_latent m m' c g).symm,
    e2.trans (final_latentT m m' c g).symm, e3.trans (final_indexQ m m' c g).symm,
    e4.trans (final_indexK m m' c g).symm, e5.trans (final_indexW m m' c g).symm,
    e6.trans (final_gateA m m' c g).symm, e7.trans (final_queryH m m' c g).symm,
    e8.trans (final_logForget m m' c g).symm, e9.trans (final_keyH m m' c g).symm,
    e10.trans (final_val m m' c g).symm, e11.trans (final_gateH m m' c g).symm, hargs⟩

end Cert.Proof

end
-- ==== Proof.MetaSums.lean ====
/-
  Hand-written, untrusted. The recurrence over one chunk of sixteen tokens, in closed form over the extended reals,
  and the identity behind the kernel's levels: two factors taken about a common row multiply to the decay between
  their two rows.
-/
module

public import Idealize.ShloMosaic.Lib.Pipeline.ValueKit

@[expose] public section

noncomputable section

namespace Cert.MetaHgrn.Hand

open Idealize.ShloMosaic

/-- The running sum of the log forget factors, at a token and a channel. -/
def bAt (g : Fin 16 → Fin 128 → EReal) (t : Fin 16) (x : Fin 128) : EReal := ∑ s : Fin 16, if s ≤ t then g s x else 0

/-- The weight with which token `t` reads token `s`: nothing of a later token. -/
def scoreAt (q g k : Fin 16 → Fin 128 → EReal) (t s : Fin 16) : EReal :=
  if s ≤ t then ∑ x : Fin 128, q t x * Ideal.exp2 (bAt g t x - bAt g s x) * k s x else 0

/-- What a token reads of the state before the chunk and of the chunk up to itself. -/
def outAt (q g k v : Fin 16 → Fin 128 → EReal) (st : Fin 128 → Fin 128 → EReal) (t : Fin 16) (j : Fin 128) : EReal :=
  ∑ x : Fin 128, q t x * Ideal.exp2 (bAt g t x) * st j x + ∑ s : Fin 16, scoreAt q g k t s * v s j

/-- The state after the chunk. -/
def stateAt (g k v : Fin 16 → Fin 128 → EReal) (st : Fin 128 → Fin 128 → EReal) (j x : Fin 128) : EReal :=
  st j x * Ideal.exp2 (bAt g 15 x) + ∑ s : Fin 16, v s j * (k s x * Ideal.exp2 (bAt g 15 x - bAt g s x))

/-- The norm over a head's channels, its scale and its gate, at a channel. -/
def normAt (o : Fin 128 → EReal) (w u : EReal) (j : Fin 128) : EReal :=
  o j * Ideal.rsqrt (Ideal.div (∑ x : Fin 128, o x * o x) (Ideal.ofBits .f32 0x43000000#32) + Ideal.ofBits .f32 0x358637BD#32) * w * u

/-- The running sum of reals is a real. -/
theorem bAt_real (g : Fin 16 → Fin 128 → EReal) (hg : ∀ s x, ∃ r : ℝ, g s x = r) (t : Fin 16) (x : Fin 128) :
    ∃ r : ℝ, bAt g t x = r := by
  unfold bAt
  refine Finset.sum_induction _ (fun y : EReal => ∃ r : ℝ, y = r) ?_ ⟨0, rfl⟩ fun s _ => ?_
  · rintro _ _ ⟨a, rfl⟩ ⟨b, rfl⟩
    exact ⟨a + b, rfl⟩
  · by_cases h : s ≤ t
    · rw [if_pos h]; exact hg s x
    · rw [if_neg h]; exact ⟨0, rfl⟩

/-- A power of two is the same whether it is written as an exponential or as a power. -/
theorem pow_two (x : EReal) : Ideal.pow 2 x = Ideal.exp2 x := by
  have h2 : (2 : EReal) = ((2 : ℝ) : EReal) := rfl
  rw [h2]
  induction x with
  | bot => rw [Ideal.pow_coe_bot, if_neg (by norm_num), if_pos (by norm_num), Ideal.exp2_bot]
  | coe r => rw [Ideal.pow_coe_coe, Ideal.exp2_coe]
  | top => rw [Ideal.pow_coe_top, if_neg (by norm_num), if_pos (by norm_num), Ideal.exp2_top]

/-- Two factors about a common exponent multiply to the power of the difference. -/
theorem exp2_pair (a b c : ℝ) :
    Ideal.exp2 (((a : EReal) - c) * 1) * Ideal.exp2 (((b : EReal) - c) * (-1)) = Ideal.exp2 ((a : EReal) - b) := by
  have e1 : ((a : EReal) - c) * 1 = ((a - c : ℝ) : EReal) := by rw [mul_one]; rfl
  have e2 : ((b : EReal) - c) * (-1) = ((c - b : ℝ) : EReal) := by
    have : ((b : EReal) - c) * (-1) = (((b - c) * (-1) : ℝ) : EReal) := rfl
    rw [this]; congr 1; ring
  have e3 : (a : EReal) - b = ((a - b : ℝ) : EReal) := rfl
  rw [e1, e2, e3, Ideal.exp2_coe, Ideal.exp2_coe, Ideal.exp2_coe, ← EReal.coe_mul]
  congr 1
  change (2 : ℝ) ^ (a - c) * (2 : ℝ) ^ (c - b) = (2 : ℝ) ^ (a - b)
  rw [← Real.rpow_add (by norm_num)]
  congr 1; ring

/-- One level's product under its mask: where the mask is set it is the decayed product of the two rows. -/
theorem level (q k B R σ : Fin 16 → Fin 128 → EReal) (ρ : Fin 16 → Fin 16) (P : Prop) [Decidable P] (t s : Fin 16)
    (hB : ∀ t x, ∃ r : ℝ, B t x = r) (hR : ∀ t x, R t x = B (ρ t) x)
    (hP : P → ρ t = ρ s ∧ (∀ x, σ t x = 1) ∧ (∀ x, σ s x = -1)) :
    (∑ x : Fin 128, q t x * Ideal.exp2 ((B t x - R t x) * σ t x) * (k s x * Ideal.exp2 ((B s x - R s x) * σ s x)))
        * (if P then (1 : EReal) else 0)
      = if P then ∑ x : Fin 128, q t x * Ideal.exp2 (B t x - B s x) * k s x else 0 := by
  by_cases h : P
  · obtain ⟨h1, h2, h3⟩ := hP h
    rw [if_pos h, if_pos h, mul_one]
    refine Finset.sum_congr rfl fun x _ => ?_
    obtain ⟨a, ha⟩ := hB t x
    obtain ⟨b, hb⟩ := hB s x
    obtain ⟨r, hr⟩ := hB (ρ s) x
    rw [hR, hR, h1, h2, h3, ha, hb, hr, ← exp2_pair a b r]
    ac_rfl
  · rw [if_neg h, if_neg h, mul_zero]

/-- The diagonal's product under its mask. -/
theorem level_diag (q k B : Fin 16 → Fin 128 → EReal) (t s : Fin 16) (hB : ∀ t x, ∃ r : ℝ, B t x = r) :
    (∑ x : Fin 128, q t x * k s x) * (if t = s then (1 : EReal) else 0)
      = if t = s then ∑ x : Fin 128, q t x * Ideal.exp2 (B t x - B s x) * k s x else 0 := by
  by_cases h : t = s
  · subst h
    rw [if_pos rfl, if_pos rfl, mul_one]
    refine Finset.sum_congr rfl fun x _ => ?_
    obtain ⟨a, ha⟩ := hB t x
    have e : (a : EReal) - a = ((0 : ℝ) : EReal) := by
      rw [← sub_self a]; rfl
    have e2 : Ideal.exp2 ((0 : ℝ) : EReal) = 1 := by
      rw [Ideal.exp2_coe]
      change (((2 : ℝ) ^ (0 : ℝ) : ℝ) : EReal) = 1
      rw [Real.rpow_zero]; rfl
    rw [ha, e, e2, mul_one]
  · rw [if_neg h, if_neg h, mul_zero]

/-- Tokens of a pair, the second of which reads the first. -/
abbrev P1 (t s : Fin 16) : Prop := t.val / 2 = s.val / 2 ∧ t.val % 2 = 1 ∧ s.val % 2 = 0
/-- Tokens of a group of four, in its second and its first half. -/
abbrev P2 (t s : Fin 16) : Prop := t.val / 4 = s.val / 4 ∧ t.val / 2 % 2 = 1 ∧ s.val / 2 % 2 = 0
/-- Tokens of a group of eight, in its second and its first half. -/
abbrev P3 (t s : Fin 16) : Prop := t.val / 8 = s.val / 8 ∧ t.val / 4 % 2 = 1 ∧ s.val / 4 % 2 = 0
/-- Tokens of the second and of the first half of the chunk. -/
abbrev P4 (t s : Fin 16) : Prop := t.val / 16 = s.val / 16 ∧ t.val / 8 % 2 = 1 ∧ s.val / 8 % 2 = 0

set_option synthInstance.maxHeartbeats 400000 in
set_option synthInstance.maxSize 4096 in
/-- A token and one not after it meet at exactly one level; a token and a later one at none. -/
theorem one_level : ∀ t s : Fin 16,
    ((t = s ∧ ¬ P1 t s ∧ ¬ P2 t s ∧ ¬ P3 t s ∧ ¬ P4 t s) ∧ s ≤ t) ∨ ((¬ t = s ∧ P1 t s ∧ ¬ P2 t s ∧ ¬ P3 t s ∧ ¬ P4 t s) ∧ s ≤ t)
    ∨ ((¬ t = s ∧ ¬ P1 t s ∧ P2 t s ∧ ¬ P3 t s ∧ ¬ P4 t s) ∧ s ≤ t) ∨ ((¬ t = s ∧ ¬ P1 t s ∧ ¬ P2 t s ∧ P3 t s ∧ ¬ P4 t s) ∧ s ≤ t)
    ∨ ((¬ t = s ∧ ¬ P1 t s ∧ ¬ P2 t s ∧ ¬ P3 t s ∧ P4 t s) ∧ s ≤ t) ∨ ((¬ t = s ∧ ¬ P1 t s ∧ ¬ P2 t s ∧ ¬ P3 t s ∧ ¬ P4 t s) ∧ ¬ s ≤ t) := by
  decide +kernel

/-- The levels add up to the whole of the weights. -/
theorem levels_add (D : EReal) (t s : Fin 16) :
    ((((if t = s then D else 0) + (if P1 t s then D else 0)) + (if P2 t s then D else 0)) + (if P3 t s then D else 0))
        + (if P4 t s then D else 0) = if s ≤ t then D else 0 := by
  rcases one_level t s with ⟨⟨a, b, c, d, e⟩, f⟩ | ⟨⟨a, b, c, d, e⟩, f⟩ | ⟨⟨a, b, c, d, e⟩, f⟩ | ⟨⟨a, b, c, d, e⟩, f⟩ | ⟨⟨a, b, c, d, e⟩, f⟩ | ⟨⟨a, b, c, d, e⟩, f⟩
  · rw [if_pos a, if_neg b, if_neg c, if_neg d, if_neg e, if_pos f]; simp only [add_zero, zero_add]
  · rw [if_neg a, if_pos b, if_neg c, if_neg d, if_neg e, if_pos f]; simp only [add_zero, zero_add]
  · rw [if_neg a, if_neg b, if_pos c, if_neg d, if_neg e, if_pos f]; simp only [add_zero, zero_add]
  · rw [if_neg a, if_neg b, if_neg c, if_pos d, if_neg e, if_pos f]; simp only [add_zero, zero_add]
  · rw [if_neg a, if_neg b, if_neg c, if_neg d, if_pos e, if_pos f]; simp only [add_zero, zero_add]
  · rw [if_neg a, if_neg b, if_neg c, if_neg d, if_neg e, if_neg f]; simp only [add_zero, zero_add]

end Cert.MetaHgrn.Hand

end
-- ==== Proof.MetaHead.lean ====
/-
  Hand-written, untrusted. What the recurrence's kernel computes for one head of one chunk, in closed form: its
  running sums, its weights level by level, its output before the norm, and the state it leaves.
-/
module

public import proofs.«01_k».proof.Proof.Gen.MetaHgrnKernelIdeal.Value
public import proofs.«01_k».proof.Proof.MetaSums
public import Idealize.ShloMosaic.Lib.Pipeline.ValueKit
public import Idealize.ShloMosaic.Lib.Tactic.CleanTypes

@[expose] public section

set_option maxRecDepth 16384

noncomputable section

namespace Cert.MetaHgrnKernelIdeal.Hand

open Cert.MetaHgrnKernelIdeal Cert.MetaHgrnKernelIdeal.Gen Cert.MetaHgrn.Hand
open Idealize.ShloMosaic Idealize.ShloMosaic.TcCoe Idealize.SL.Sem

/-- The single-precision word of minus one is minus one. -/
theorem minus_one : Ideal.ofBits .f32 0xBF800000#32 = (-1 : EReal) := by
  rw [show (-1 : EReal) = ((-(1 : ℝ) : ℝ) : EReal) by rw [EReal.coe_neg]; rfl]
  simp [Ideal.ofBits, Ideal.ieee, -EReal.coe_mul, -EReal.coe_neg]; norm_num

/-- Which side of its pair a token is on. -/
theorem side1 (t : Fin 16) (x : Fin 128) : k0_pay3 (F := Ideal) (ix2 t x) = (if t.val % 2 = 1 then 1 else -1 : EReal) := by
  pointwise [k0_pay3]
  rw [minus_one]
  fin_cases t <;> rfl

/-- Which half of its group of four a token is in. -/
theorem side2 (t : Fin 16) (x : Fin 128) : k0_pay4 (F := Ideal) (ix2 t x) = (if t.val / 2 % 2 = 1 then 1 else -1 : EReal) := by
  pointwise [k0_pay4]
  rw [minus_one]
  fin_cases t <;> rfl

/-- Which half of its group of eight a token is in. -/
theorem side3 (t : Fin 16) (x : Fin 128) : k0_pay5 (F := Ideal) (ix2 t x) = (if t.val / 4 % 2 = 1 then 1 else -1 : EReal) := by
  pointwise [k0_pay5]
  rw [minus_one]
  fin_cases t <;> rfl

/-- Which half of the chunk a token is in. -/
theorem side4 (t : Fin 16) (x : Fin 128) : k0_pay6 (F := Ideal) (ix2 t x) = (if t.val / 8 % 2 = 1 then 1 else -1 : EReal) := by
  pointwise [k0_pay6]
  rw [minus_one]
  fin_cases t <;> rfl

/-- An array's entries by row and column. -/
abbrev at2 {a b : Nat} {φ : FTy} (X : FVec Ideal ⟨2, ![a, b]⟩ φ) (i : Fin a) (j : Fin b) : EReal := X (ix2 i j)

/-- A state's entries by row and column, under its leading axis of one. -/
abbrev at3 {a b : Nat} {φ : FTy} (X : FVec Ideal ⟨3, ![1, a, b]⟩ φ) (i : Fin a) (j : Fin b) : EReal := X (ix3 0 i j)

/-- The running sums: the three parts of the split add up to one product with the lower triangle, since a real
    less itself is zero. -/
theorem bsum_at (tri : Vec Ideal S16x16 .bf16) (g : Vec Ideal S16x128 .f32)
    (htri : ∀ t s : Fin 16, tri (ix2 t s) = (if s ≤ t then 1 else 0 : EReal))
    (hg : ∀ (s : Fin 16) (x : Fin 128), ∃ r : ℝ, at2 (φ := .f32) g s x = r) (t : Fin 16) (x : Fin 128) :
    k0_pay8 (F := Ideal) tri g (ix2 t x) = bAt (at2 (φ := .f32) g) t x := by
  have hz : ∀ s : Fin 16, HSub.hSub (α := EReal) (β := EReal) (γ := EReal) (g (ix2 s x)) (g (ix2 s x)) = 0 := fun s => by
    obtain ⟨r, hr⟩ := hg s x
    have hr' : (g (ix2 s x) : EReal) = r := hr
    rw [hr']
    change ((r - r : ℝ) : EReal) = 0
    rw [sub_self]; rfl
  pointwise [k0_pay8]
  simp only [hz, htri, sub_zero, mul_zero, Finset.sum_const_zero, add_zero, ite_mul, one_mul, zero_mul]
  rfl

/-- The row that level one's factors are taken about: the first of the pair. -/
theorem ref1 (B : FVec Ideal S16x128 .f32) (t : Fin 16) (x : Fin 128) (h : (t.val + 16 - 1) % 16 < 16) :
    Scalar.select (IntOp.cmpi CmpIPredicate.eq (IntOp.subi (IntOp.andi (BitVec.ofNat 32 t.val) 1#32) 0#32) 1#32)
      (B (ix2 ⟨(t.val + 16 - 1) % 16, h⟩ x)) (B (ix2 t x)) = B (ix2 (⟨t.val / 2 * 2, by omega⟩ : Fin 16) x) := by
  fin_cases t <;> rfl

/-- The row that level two's factors are taken about: the last of the group's first half. -/
theorem ref2 (B : FVec Ideal S16x128 .f32) (t : Fin 16) (x : Fin 128) (h2 : (t.val + 16 - 2) % 16 < 16)
    (h1 : (t.val + 16 - 1) % 16 < 16) (h15 : (t.val + 16 - 15) % 16 < 16) :
    Scalar.select (IntOp.cmpi CmpIPredicate.eq (IntOp.subi (IntOp.andi (BitVec.ofNat 32 t.val) 3#32) 1#32) 2#32)
      (B (ix2 ⟨(t.val + 16 - 2) % 16, h2⟩ x))
      (Scalar.select (IntOp.cmpi CmpIPredicate.eq (IntOp.subi (IntOp.andi (BitVec.ofNat 32 t.val) 3#32) 1#32) 1#32)
        (B (ix2 ⟨(t.val + 16 - 1) % 16, h1⟩ x))
        (Scalar.select (IntOp.cmpi CmpIPredicate.eq (IntOp.subi (IntOp.andi (BitVec.ofNat 32 t.val) 3#32) 1#32) 4294967295#32)
          (B (ix2 ⟨(t.val + 16 - 15) % 16, h15⟩ x)) (B (ix2 t x))))
      = B (ix2 (⟨t.val / 4 * 4 + 1, by omega⟩ : Fin 16) x) := by
  fin_cases t <;> rfl

/-- The row that level three's factors are taken about: the last of the group's first half. -/
theorem ref3 (B : FVec Ideal S16x128 .f32) (t : Fin 16) (x : Fin 128) :
    (if h : t.val < 8 then B (ix2 3 x) else B (ix2 11 x)) = B (ix2 (⟨t.val / 8 * 8 + 3, by omega⟩ : Fin 16) x) := by
  fin_cases t <;> rfl

/-- The token's number, as the kernel counts rows. -/
theorem row_at (t : Fin 16) (x : Fin 128) : iota Kind.tc S16x128 32 [0] iota_S16x128_d0_w32 (ix2 t x) = BitVec.ofNat 32 t.val := by
  pointwise

/-- The rows' numbers, as the kernel makes them. -/
abbrev rows : IVec S16x128 32 := iota Kind.tc S16x128 32 [0] iota_S16x128_d0_w32

variable (tri : Vec Ideal S16x16 .bf16) (m0 m1 m2 m3 m4 : Vec Ideal S1x16x16 .f32) (q g k v gate : Vec Ideal S16x128 .f32)
  (st : Vec Ideal S1x128x128 .f32) (ng : Vec Ideal S1x128 .f32)

/-- The first two levels of the weights and the diagonal, as head 0's stages compute them. -/
def weightsA : FVec Ideal S16x16 .f32 :=
  k0_pay12 rows k0_pay4 q k (k0_pay8 tri g) (k0_pay9 q k m0) (k0_pay10 tri rows k0_pay3 q g k) (k0_pay11 m1) m2

/-- A head's output before the norm. -/
def headPre : FVec Ideal S16x128 .f32 :=
  k0_pay15 k0_pay6 q k (k0_pay7 v) (k0_pay8 tri g) (weightsA tri m0 m1 m2 q g k) (k0_pay13 k0_pay5 q k (k0_pay8 tri g)) m3 m4 st

/-- A head's output. -/
def headOut : FVec Ideal S16x128 .bf16 :=
  k0_pay18 (headPre tri m0 m1 m2 m3 m4 q g k v st)
    (k0_pay17 k0_pay6 q k (k0_pay7 v) (k0_pay8 tri g) (weightsA tri m0 m1 m2 q g k) (k0_pay13 k0_pay5 q k (k0_pay8 tri g)) m3 m4 st) ng gate

/-- A head's state after the chunk. -/
def headState : FVec Ideal S1x128x128 .f32 := k0_pay16 k (k0_pay7 v) (k0_pay8 tri g) st

/-- Head 1 computes its output as head 0 does. -/
theorem head1_out :
    k0_pay29 (F := Ideal) q (k0_pay19 v)
      (k0_pay25 k0_pay5 k0_pay6 q k (k0_pay20 tri g) (k0_pay22 rows k0_pay3 q k (k0_pay20 tri g) (k0_pay21 q k) m0 m1)
        (k0_pay23 rows k0_pay4 (k0_pay20 tri g)) (k0_pay24 rows k0_pay4 q (k0_pay20 tri g)) m2 m3 m4)
      (k0_pay26 st) (k0_pay27 (k0_pay20 tri g)) ng gate = headOut tri m0 m1 m2 m3 m4 q g k v gate st ng := rfl

/-- Head 2 computes its output as head 0 does. -/
theorem head2_out :
    k0_pay41 (F := Ideal)
      (k0_pay38 k0_pay6 q k (k0_pay30 v) (k0_pay31 tri g)
        (k0_pay35 rows k0_pay4 q k (k0_pay31 tri g) (k0_pay32 q k m0) (k0_pay33 tri rows k0_pay3 q g k) (k0_pay34 m1) m2)
        (k0_pay36 k0_pay5 q k (k0_pay31 tri g)) m3 m4 st)
      (k0_pay40 k0_pay6 q k (k0_pay30 v) (k0_pay31 tri g)
        (k0_pay35 rows k0_pay4 q k (k0_pay31 tri g) (k0_pay32 q k m0) (k0_pay33 tri rows k0_pay3 q g k) (k0_pay34 m1) m2)
        (k0_pay36 k0_pay5 q k (k0_pay31 tri g)) m3 m4 st) ng gate = headOut tri m0 m1 m2 m3 m4 q g k v gate st ng := rfl

/-- Head 3 computes its output as head 0 does. -/
theorem head3_out :
    k0_pay52 (F := Ideal) q (k0_pay42 v)
      (k0_pay48 k0_pay5 k0_pay6 q k (k0_pay43 tri g) (k0_pay45 rows k0_pay3 q k (k0_pay43 tri g) (k0_pay44 q k) m0 m1)
        (k0_pay46 rows k0_pay4 (k0_pay43 tri g)) (k0_pay47 rows k0_pay4 q (k0_pay43 tri g)) m2 m3 m4)
      (k0_pay49 st) (k0_pay50 (k0_pay43 tri g)) ng gate = headOut tri m0 m1 m2 m3 m4 q g k v gate st ng := rfl

/-- Head 1 computes its state as head 0 does. -/
theorem head1_state : k0_pay28 (F := Ideal) k (k0_pay19 v) (k0_pay20 tri g) (k0_pay26 st) = headState tri g k v st := rfl

/-- Head 2 computes its state as head 0 does. -/
theorem head2_state : k0_pay39 (F := Ideal) k (k0_pay30 v) (k0_pay31 tri g) st = headState tri g k v st := rfl

/-- Head 3 computes its state as head 0 does. -/
theorem head3_state : k0_pay51 (F := Ideal) k (k0_pay42 v) (k0_pay43 tri g) (k0_pay49 st) = headState tri g k v st := rfl

/-- The running sums are real where the log forget factors are. -/
theorem bsum_real (hg : ∀ (s : Fin 16) (x : Fin 128), ∃ r : ℝ, at2 (φ := .f32) g s x = r) (t : Fin 16) (x : Fin 128) :
    ∃ r : ℝ, bAt (at2 (φ := .f32) g) t x = r := bAt_real _ hg t x

section Values

variable (htri : ∀ t s : Fin 16, tri (ix2 t s) = (if s ≤ t then 1 else 0 : EReal))
  (h0 : ∀ t s : Fin 16, m0 (ix3 0 t s) = (if t = s then 1 else 0 : EReal))
  (h1 : ∀ t s : Fin 16, m1 (ix3 0 t s) = (if P1 t s then 1 else 0 : EReal))
  (h2 : ∀ t s : Fin 16, m2 (ix3 0 t s) = (if P2 t s then 1 else 0 : EReal))
  (h3 : ∀ t s : Fin 16, m3 (ix3 0 t s) = (if P3 t s then 1 else 0 : EReal))
  (h4 : ∀ t s : Fin 16, m4 (ix3 0 t s) = (if P4 t s then 1 else 0 : EReal))
  (hg : ∀ (s : Fin 16) (x : Fin 128), ∃ r : ℝ, at2 (φ := .f32) g s x = r)

include htri hg in
/-- A head's state after the chunk, in closed form. -/
theorem headState_at (j x : Fin 128) :
    headState tri g k v st (ix3 0 j x) = stateAt (at2 (φ := .f32) g) (at2 (φ := .f32) k) (at2 (φ := .f32) v) (at3 (φ := .f32) st) j x := by
  unfold headState
  pointwise [k0_pay16, k0_pay14, k0_pay7]
  simp only [bsum_at tri g htri hg]
  rfl

set_option maxHeartbeats 1000000 in
include htri h0 h1 h2 hg in
/-- The diagonal and the first two levels. -/
theorem weightsA_at (t s : Fin 16) :
    weightsA tri m0 m1 m2 q g k (ix2 t s)
      = ((if t = s then ∑ x : Fin 128, at2 (φ := .f32) q t x * Ideal.exp2 (bAt (at2 (φ := .f32) g) t x - bAt (at2 (φ := .f32) g) s x) * at2 (φ := .f32) k s x else 0)
        + (if P1 t s then ∑ x : Fin 128, at2 (φ := .f32) q t x * Ideal.exp2 (bAt (at2 (φ := .f32) g) t x - bAt (at2 (φ := .f32) g) s x) * at2 (φ := .f32) k s x else 0))
        + (if P2 t s then ∑ x : Fin 128, at2 (φ := .f32) q t x * Ideal.exp2 (bAt (at2 (φ := .f32) g) t x - bAt (at2 (φ := .f32) g) s x) * at2 (φ := .f32) k s x else 0) := by
  unfold weightsA
  pointwise [k0_pay9, k0_pay10, k0_pay11, k0_pay12]
  have hB := bsum_real g hg
  simp only [ref1 (k0_pay8 tri g), ref2 (k0_pay8 tri g)]
  simp only [side1, side2, bsum_at tri g htri hg, h0, h1, h2]
  refine congr (congrArg (HAdd.hAdd (α := EReal) (β := EReal) (γ := EReal)) (congr (congrArg (HAdd.hAdd (α := EReal) (β := EReal) (γ := EReal)) ?_) ?_)) ?_
  · exact level_diag (at2 (φ := .f32) q) (at2 (φ := .f32) k) _ t s hB
  · exact level (at2 (φ := .f32) q) (at2 (φ := .f32) k) _ (fun t x => bAt (at2 (φ := .f32) g) ⟨t.val / 2 * 2, by omega⟩ x)
      (fun t x => if t.val % 2 = 1 then 1 else -1) (fun t => ⟨t.val / 2 * 2, by omega⟩) (P1 t s) t s hB (fun _ _ => rfl)
      fun h => ⟨Fin.ext (by simp only [h.1]), fun x => if_pos h.2.1, fun x => if_neg (by omega)⟩
  · exact level (at2 (φ := .f32) q) (at2 (φ := .f32) k) _ (fun t x => bAt (at2 (φ := .f32) g) ⟨t.val / 4 * 4 + 1, by omega⟩ x)
      (fun t x => if t.val / 2 % 2 = 1 then 1 else -1) (fun t => ⟨t.val / 4 * 4 + 1, by omega⟩) (P2 t s) t s hB (fun _ _ => rfl)
      fun h => ⟨Fin.ext (by simp only [h.1]), fun x => if_pos h.2.1, fun x => if_neg (by omega)⟩

include htri hg in
/-- Level three, before its mask. -/
theorem level3_at (t s : Fin 16) :
    k0_pay13 k0_pay5 q k (k0_pay8 tri g) (ix2 t s)
      = ∑ x : Fin 128, at2 (φ := .f32) q t x
          * Ideal.exp2 ((bAt (at2 (φ := .f32) g) t x - bAt (at2 (φ := .f32) g) ⟨t.val / 8 * 8 + 3, by omega⟩ x) * (if t.val / 4 % 2 = 1 then 1 else -1))
          * (at2 (φ := .f32) k s x
          * Ideal.exp2 ((bAt (at2 (φ := .f32) g) s x - bAt (at2 (φ := .f32) g) ⟨s.val / 8 * 8 + 3, by omega⟩ x) * (if s.val / 4 % 2 = 1 then 1 else -1))) := by
  pointwise [k0_pay13]
  simp only [ref3 (k0_pay8 tri g)]
  simp only [side3, bsum_at tri g htri hg]
  rfl

include htri h0 h1 h2 h3 h4 hg in
/-- A head's output before the norm, in closed form. -/
theorem headPre_at (t : Fin 16) (j : Fin 128) :
    headPre tri m0 m1 m2 m3 m4 q g k v st (ix2 t j)
      = outAt (at2 (φ := .f32) q) (at2 (φ := .f32) g) (at2 (φ := .f32) k) (at2 (φ := .f32) v) (at3 (φ := .f32) st) t j := by
  have hB := bsum_real g hg
  unfold headPre
  pointwise [k0_pay15, k0_pay14, k0_pay7]
  simp only [level3_at tri q g k htri hg, side4, bsum_at tri g htri hg, h3, h4, weightsA_at tri m0 m1 m2 q g k htri h0 h1 h2 hg]
  unfold outAt
  refine congr (congrArg (HAdd.hAdd (α := EReal) (β := EReal) (γ := EReal)) rfl) (Finset.sum_congr rfl fun s _ => ?_)
  refine congr (congrArg (HMul.hMul (α := EReal) (β := EReal) (γ := EReal)) ?_) rfl
  have e3 := level (at2 (φ := .f32) q) (at2 (φ := .f32) k) _ (fun t x => bAt (at2 (φ := .f32) g) ⟨t.val / 8 * 8 + 3, by omega⟩ x)
      (fun t x => if t.val / 4 % 2 = 1 then 1 else -1) (fun t => ⟨t.val / 8 * 8 + 3, by omega⟩) (P3 t s) t s hB (fun _ _ => rfl)
      fun h => ⟨Fin.ext (by simp only [h.1]), fun x => if_pos h.2.1, fun x => if_neg (by omega)⟩
  have e4 := level (at2 (φ := .f32) q) (at2 (φ := .f32) k) _ (fun t x => bAt (at2 (φ := .f32) g) 7 x)
      (fun t x => if t.val / 8 % 2 = 1 then 1 else -1) (fun t => 7) (P4 t s) t s hB (fun _ _ => rfl)
      fun h => ⟨rfl, fun x => if_pos h.2.1, fun x => if_neg (by omega)⟩
  refine Eq.trans (congr (congrArg (HAdd.hAdd (α := EReal) (β := EReal) (γ := EReal)) (congrArg (HAdd.hAdd (α := EReal) (β := EReal) (γ := EReal) _) e3)) e4) ?_
  exact levels_add _ t s

/-- A head's output: the norm of its own output before it, scaled, under the gate. -/
theorem headOut_at (t : Fin 16) (j : Fin 128) :
    headOut tri m0 m1 m2 m3 m4 q g k v gate st ng (ix2 t j)
      = normAt (fun j => headPre tri m0 m1 m2 m3 m4 q g k v st (ix2 t j)) (ng (ix2 0 j)) (gate (ix2 t j)) j := by
  have e : ∀ x, k0_pay17 (F := Ideal) k0_pay6 q k (k0_pay7 v) (k0_pay8 tri g) (weightsA tri m0 m1 m2 q g k) (k0_pay13 k0_pay5 q k (k0_pay8 tri g)) m3 m4 st (ix2 t x)
      = HMul.hMul (α := EReal) (β := EReal) (γ := EReal) (headPre tri m0 m1 m2 m3 m4 q g k v st (ix2 t x)) (headPre tri m0 m1 m2 m3 m4 q g k v st (ix2 t x)) := fun x => rfl
  unfold headOut
  pointwise [k0_pay18]
  simp only [e]
  rfl

end Values

end Cert.MetaHgrnKernelIdeal.Hand

end
-- ==== Proof.MetaCumsum.lean ====
/-
  Hand-written, untrusted. The reference's running sum over the sixteen tokens of a head: a reduction over windows of
  sixteen rows, padded with zeros above, is at each token the sum of the rows up to it.
-/
module

public import proofs.«01_k».proof.Proof.Gen.MetaHgrnReferenceIdeal.Run
public import proofs.«01_k».proof.Proof.MetaSums
public import Idealize.ShloMosaic.Lib.Pipeline.ValueKit

@[expose] public section

set_option maxRecDepth 16384

noncomputable section

namespace Cert.MetaHgrn.Hand

open Cert.MetaHgrnReferenceIdeal Cert.MetaHgrnReferenceIdeal.Gen
open Idealize.ShloMosaic Idealize.ShloMosaic.TcCoe Idealize.SL.Sem

/-- A left fold of additions is the start and the sum. -/
theorem foldl_add {n : ℕ} (f : Fin n → EReal) (z : EReal) :
    List.foldl (fun a k => a + f k) z (List.finRange n) = z + ∑ k, f k := by
  rw [Fin.sum_univ_def]
  generalize List.finRange n = l
  induction l generalizing z with
  | nil => simp
  | cons a l ih => rw [List.foldl_cons, ih, List.map_cons, List.sum_cons, add_assoc]

/-- In a window of sixteen rows ending at token `t`, the entries from the fifteenth less `t` on are rows of the
    array: row `t + k - 15`, which is not after `t`. -/
theorem window_in : ∀ t k : Fin 16, 15 ≤ t.val + k.val → (t + 1 + k ≤ t ∧ (t + 1 + k).val = t.val + k.val - 15) := by decide +kernel

/-- The other entries of the window lie in the padding; the row that wraps around to them is after `t`. -/
theorem window_out : ∀ t k : Fin 16, ¬ 15 ≤ t.val + k.val → ¬ (t + 1 + k ≤ t) := by decide +kernel

/-- The reference's running sum over a head's tokens. -/
theorem cumsum_at (x : FVec Ideal S4x16x128 .f32) (z : FVec Ideal S_ .f32) (hz : z (Shape.Idx.first h_S_) = (0 : EReal))
    (h : Fin 4) (t : Fin 16) (j : Fin 128) :
    (Host.reduceWindowAdd (F := Ideal) ![1, 16, 1] ![1, 1, 1] ![0, 15, 0] ![0, 0, 0] x z
        reduceWindows_S4x16x128_S4x16x128_w1s1p0_0_w16s1p15_0_w1s1p0_0 h_S_ (ix3 h t j) : EReal)
      = bAt (fun s y => x (ix3 h s y)) t j := by
  have e0 : ∀ k : Fin 16, ∀ a : Fin 3, ((⟨3, ![1, 16, 1]⟩ : Shape).rowMajor.symm k a : ℕ) = if a = 1 then k.val else 0 := by decide +kernel
  change Host.reduceWindow (s := S4x16x128) (t := S4x16x128) (u := ⟨0, ![]⟩)
    (fun a b : EReal => a + b) ![1, 16, 1] ![1, 1, 1] ![0, 15, 0] ![0, 0, 0] x (fun _ => z (Shape.Idx.first h_S_))
    reduceWindows_S4x16x128_S4x16x128_w1s1p0_0_w16s1p15_0_w1s1p0_0 (by decide) (ix3 h t j) = _
  unfold Host.reduceWindow
  dsimp only
  rw [hz]
  refine (foldl_add (n := 16) _ 0).trans ?_
  rw [zero_add]
  unfold bAt
  refine Fintype.sum_equiv (Equiv.addLeft (t + 1)) _ _ fun k => ?_
  have h3 : ∀ a : Fin 3, a = 0 ∨ a = 1 ∨ a = 2 := by decide
  have hh := h.isLt
  have hj := j.isLt
  have ht := t.isLt
  have hk := k.isLt
  change _ = if t + 1 + k ≤ t then x (ix3 h (t + 1 + k) j) else 0
  by_cases c : 15 ≤ t.val + k.val
  · rw [if_pos (window_in t k c).1, dif_pos (by
      intro a
      rcases h3 a with rfl | rfl | rfl
      · rw [e0]; exact ⟨Nat.zero_le _, by show h.val * 1 + 0 - 0 < 4; omega⟩
      · rw [e0]; exact ⟨by show 15 ≤ t.val * 1 + k.val; omega, by show t.val * 1 + k.val - 15 < 16; omega⟩
      · rw [e0]; exact ⟨Nat.zero_le _, by show j.val * 1 + 0 - 0 < 128; omega⟩)]
    refine congrArg x (funext fun a => Fin.ext ?_)
    rcases h3 a with rfl | rfl | rfl
    · simp only [e0]; show h.val * 1 + 0 - 0 = h.val; omega
    · simp only [e0]; show t.val * 1 + k.val - 15 = (t + 1 + k).val; rw [(window_in t k c).2, Nat.mul_one]
    · simp only [e0]; show j.val * 1 + 0 - 0 = j.val; omega
  · rw [if_neg (window_out t k c), dif_neg (by
      intro H
      have := (H 1).1
      rw [e0] at this
      have h' : 15 ≤ t.val * 1 + k.val := this
      omega)]

end Cert.MetaHgrn.Hand

end
-- ==== Proof.MetaRef.lean ====
/-
  Hand-written, untrusted. What the reference of the recurrence over the meta tokens computes, head by head and entry by
  entry: the running sums, the outputs before the norm, the normed outputs, and the state.
-/
module

public import proofs.«01_k».proof.Proof.MetaCumsum
public import Idealize.ShloMosaic.Lib.Tactic.CleanTypes

@[expose] public section

set_option maxRecDepth 16384

noncomputable section

namespace Cert.MetaHgrnReferenceIdeal.Hand

open Cert.MetaHgrnReferenceIdeal Cert.MetaHgrnReferenceIdeal.Gen Cert.MetaHgrn.Hand
open Idealize.ShloMosaic Idealize.ShloMosaic.TcCoe Idealize.SL.Sem

/-- A head's entries of an array over all heads. -/
def headOf (a : FVec Ideal S16x512 .f32) (h : Fin 4) : Fin 16 → Fin 128 → EReal := fun t x => a (ix2 t ⟨h.val * 128 + x.val, by omega⟩)

/-- A head's entries of the state. -/
def stOf (a : FVec Ideal S4x128x128 .f32) (h : Fin 4) : Fin 128 → Fin 128 → EReal := fun j x => a (ix3 h j x)

/-- The reference's running sums. -/
def cum (g : FVec Ideal S16x512 .f32) : FVec Ideal S4x16x128 .f32 :=
  (Host.reduceWindowAdd ![1, 16, 1] ![1, 1, 1] ![0, 15, 0] ![0, 0, 0] (transpose S4x16x128 [1, 0, 2] (shapeCast S16x4x128 g shapeCasts_S16x512_S16x4x128) transposes_S16x4x128_S4x16x128_1_0_2) (broadcastInDim S_ ![] bcast_S_S_ (constant S_ .f32 0x00000000#32)) reduceWindows_S4x16x128_S4x16x128_w1s1p0_0_w16s1p15_0_w1s1p0_0 h_S_)

/-- The reference's output before the norm, from the running sums `B`. -/
def pre (q k v : FVec Ideal S16x512 .f32) (st : FVec Ideal S4x128x128 .f32) (B : FVec Ideal S4x16x128 .f32) : FVec Ideal S4x16x128 .f32 :=
  (addf (Host.dotGeneral dot_S4x16x128_S4x128x128_S4x16x128_2_2_1_1_0_0 none (mulf (transpose S4x16x128 [1, 0, 2] (shapeCast S16x4x128 q shapeCasts_S16x512_S16x4x128) transposes_S16x4x128_S4x16x128_1_0_2) (Host.powf (broadcastInDim S4x16x128 ![] bcast_S_S4x16x128 (constant S_ .f32 0x40000000#32)) B)) st) (Host.dotGeneral dot_S4x16x16_S4x16x128_S4x16x128_2_1_1_2_0_0 none (Host.reduceAdd (mulf (mulf (broadcastInDim S4x16x16x128 ![0, 1, 2, 3] bcast_S4x16x1x128_S4x16x16x128_0_1_2_3 (broadcastInDim S4x16x1x128 ![0, 1, 3] bcast_S4x16x128_S4x16x1x128_0_1_3 (transpose S4x16x128 [1, 0, 2] (shapeCast S16x4x128 q shapeCasts_S16x512_S16x4x128) transposes_S16x4x128_S4x16x128_1_0_2))) (Host.powf (broadcastInDim S4x16x16x128 ![] bcast_S_S4x16x16x128 (constant S_ .f32 0x40000000#32)) (select (broadcastInDim S4x16x16x128 ![1, 2, 3] bcast_S16x16x1_S4x16x16x128_1_2_3 (broadcastInDim S16x16x1 ![0, 1] bcast_S16x16_S16x16x1_0_1 (select (cmpi .sge (addi (iotaInDim S16x16 32 0) (broadcastInDim S16x16 ![] bcast_S_S16x16 (constantI S_ 32 0#32))) (iotaInDim S16x16 32 1)) (broadcastInDim S16x16 ![] bcast_S_S16x16 (constantI S_ 1 1#1)) (broadcastInDim S16x16 ![] bcast_S_S16x16 (constantI S_ 1 0#1))))) (subf (broadcastInDim S4x16x16x128 ![0, 1, 2, 3] bcast_S4x16x1x128_S4x16x16x128_0_1_2_3 (broadcastInDim S4x16x1x128 ![0, 1, 3] bcast_S4x16x128_S4x16x1x128_0_1_3 B)) (broadcastInDim S4x16x16x128 ![0, 1, 2, 3] bcast_S4x1x16x128_S4x16x16x128_0_1_2_3 (broadcastInDim S4x1x16x128 ![0, 2, 3] bcast_S4x16x128_S4x1x16x128_0_2_3 B))) (broadcastInDim S4x16x16x128 ![] bcast_S_S4x16x16x128 (id (constant S_ .f32 0xFF800000#32)))))) (broadcastInDim S4x16x16x128 ![0, 1, 2, 3] bcast_S4x1x16x128_S4x16x16x128_0_1_2_3 (broadcastInDim S4x1x16x128 ![0, 2, 3] bcast_S4x16x128_S4x1x16x128_0_2_3 (transpose S4x16x128 [1, 0, 2] (shapeCast S16x4x128 k shapeCasts_S16x512_S16x4x128) transposes_S16x4x128_S4x16x128_1_0_2)))) (constant S_ .f32 0x00000000#32) reducesTo_S4x16x16x128_S4x16x16_d3 h_S_) (transpose S4x16x128 [1, 0, 2] (shapeCast S16x4x128 v shapeCasts_S16x512_S16x4x128) transposes_S16x4x128_S4x16x128_1_0_2)))

/-- The reference's norm and gate, of the output before them. -/
def normed (gate : FVec Ideal S16x512 .f32) (ng : FVec Ideal S128 .f32) (o : FVec Ideal S4x16x128 .f32) : FVec Ideal S16x512 .bf16 :=
  truncf .bf16 (mulf (shapeCast S16x512 (mulf (mulf (transpose S16x4x128 [1, 0, 2] o transposes_S4x16x128_S16x4x128_1_0_2) (broadcastInDim S16x4x128 ![0, 1, 2] bcast_S16x4x1_S16x4x128_0_1_2 (Host.rsqrt (addf (Host.divf (broadcastInDim S16x4x1 ![0, 1] bcast_S16x4_S16x4x1_0_1 (Host.reduceAdd (mulf (transpose S16x4x128 [1, 0, 2] o transposes_S4x16x128_S16x4x128_1_0_2) (transpose S16x4x128 [1, 0, 2] o transposes_S4x16x128_S16x4x128_1_0_2)) (constant S_ .f32 0x00000000#32) reducesTo_S16x4x128_S16x4_d2 h_S_)) (broadcastInDim S16x4x1 ![] bcast_S_S16x4x1 (constant S_ .f32 0x43000000#32))) (broadcastInDim S16x4x1 ![] bcast_S_S16x4x1 (constant S_ .f32 0x358637BD#32)))))) (broadcastInDim S16x4x128 ![0, 1, 2] bcast_S1x1x128_S16x4x128_0_1_2 (broadcastInDim S1x1x128 ![2] bcast_S128_S1x1x128_2 ng))) shapeCasts_S16x4x128_S16x512) gate) bitsLt_bf16_f32

/-- The reference's state, from the running sums `B`. -/
def state (k v : FVec Ideal S16x512 .f32) (st : FVec Ideal S4x128x128 .f32) (B : FVec Ideal S4x16x128 .f32) : FVec Ideal S1x4x128x128 .f32 :=
  broadcastInDim S1x4x128x128 ![1, 2, 3] bcast_S4x128x128_S1x4x128x128_1_2_3 (addf (F := Ideal) (mulf st (broadcastInDim S4x128x128 ![0, 1, 2] bcast_S4x1x128_S4x128x128_0_1_2 (Host.powf (broadcastInDim S4x1x128 ![] bcast_S_S4x1x128 (constant S_ .f32 0x40000000#32)) (extractStridedSlice S4x1x128 ![0, 15, 0] B slices_S4x16x128_S4x1x128_0_15_0)))) (Host.dotGeneral dot_S4x16x128_S4x16x128_S4x128x128_1_1_2_2_0_0 none (transpose S4x16x128 [1, 0, 2] (shapeCast S16x4x128 v shapeCasts_S16x512_S16x4x128) transposes_S16x4x128_S4x16x128_1_0_2) (mulf (transpose S4x16x128 [1, 0, 2] (shapeCast S16x4x128 k shapeCasts_S16x512_S16x4x128) transposes_S16x4x128_S4x16x128_1_0_2) (Host.powf (broadcastInDim S4x16x128 ![] bcast_S_S4x16x128 (constant S_ .f32 0x40000000#32)) (subf (broadcastInDim S4x16x128 ![0, 1, 2] bcast_S4x1x128_S4x16x128_0_1_2 (extractStridedSlice S4x1x128 ![0, 15, 0] B slices_S4x16x128_S4x1x128_0_15_0)) B)))))

/-- The reference's first result, in the parts named above. -/
theorem res_eq (m : (ℓ : Loc nD τ sig) → Buf (Elt Ideal) ℓ) (c : Dev nD) :
    Value.res_out0 m c = normed (m ((c.tc : Thread nD τ).loc main_arg4)) (m ((c.tc : Thread nD τ).loc main_arg6))
      (pre (m ((c.tc : Thread nD τ).loc main_arg0)) (m ((c.tc : Thread nD τ).loc main_arg2)) (m ((c.tc : Thread nD τ).loc main_arg3))
        (m ((c.tc : Thread nD τ).loc main_arg5)) (cum (m ((c.tc : Thread nD τ).loc main_arg1)))) := by
  unfold Value.res_out0 Value.res_main_v61 normed pre cum
  rfl

/-- The running sums at a head, a token and a channel. -/
theorem cum_at (g : FVec Ideal S16x512 .f32) (h : Fin 4) (t : Fin 16) (x : Fin 128) :
    cum g (ix3 h t x) = bAt (headOf g h) t x := by
  unfold cum
  refine (cumsum_at _ _ (by pointwise) h t x).trans ?_
  refine congrArg (fun u => bAt u t x) (funext fun s => funext fun y => ?_)
  unfold headOf
  pointwise

/-- The single-precision word of two is two. -/
theorem two_bits : Ideal.ofBits .f32 0x40000000#32 = (2 : EReal) := by
  rw [show (2 : EReal) = ((2 : ℝ) : EReal) from rfl]
  simp [Ideal.ofBits, Ideal.ieee, -EReal.coe_mul]; norm_num

/-- The word of −∞ is the least extended real. -/
theorem neg_inf : (id (constant (F := Ideal) S_ .f32 0xFF800000#32) ix0 : EReal) = ⊥ := by
  change Ideal.ofBits .f32 0xFF800000#32 = ⊥
  simp [Ideal.ofBits, Ideal.ieee]

/-- Two to the power −∞ is zero. -/
theorem exp2_bot : Ideal.exp2 ⊥ = 0 := rfl

/-- The causal mask, as the reference makes it from the numbers of rows and columns. -/
theorem tri_bit : ∀ t s : Fin 16, Scalar.select (IntOp.cmpi CmpIPredicate.sge (IntOp.addi (BitVec.ofNat 32 t.val) 0#32) (BitVec.ofNat 32 s.val)) 1#1 0#1
    = if s ≤ t then 1#1 else 0#1 := by decide +kernel

variable (q k v gate g : FVec Ideal S16x512 .f32) (st : FVec Ideal S4x128x128 .f32) (ng : FVec Ideal S128 .f32) (B : FVec Ideal S4x16x128 .f32)

/-- The reference's output before the norm, at a head, a token and a channel. -/
theorem pre_at (h : Fin 4) (t : Fin 16) (j : Fin 128) :
    pre q k v st (cum g) (ix3 h t j) = outAt (headOf q h) (headOf g h) (headOf k h) (headOf v h) (stOf st h) t j := by
  have hB := cum_at g h
  generalize cum g = B at hB
  unfold pre
  pointwise
  simp only [hB, tri_bit, neg_inf, two_bits, pow_two]
  unfold outAt scoreAt
  refine congr (congrArg (HAdd.hAdd (α := EReal) (β := EReal) (γ := EReal)) rfl) (Finset.sum_congr rfl fun s _ => ?_)
  refine congr (congrArg (HMul.hMul (α := EReal) (β := EReal) (γ := EReal)) ?_) rfl
  by_cases c : s ≤ t
  · simp only [if_pos c]
    rfl
  · simp only [if_neg c]
    refine Finset.sum_eq_zero fun x _ => ?_
    refine (congrArg (fun u : EReal => q (ix2 t ⟨h.val * 128 + x.val, by omega⟩) * u * k (ix2 s ⟨h.val * 128 + x.val, by omega⟩)) exp2_bot).trans ?_
    rw [mul_zero, zero_mul]

/-- The reference's state, at a head, a value channel and a key channel. -/
theorem state_at (h : Fin 4) (j x : Fin 128) :
    state k v st (cum g) (ix4 0 h j x) = stateAt (headOf g h) (headOf k h) (headOf v h) (stOf st h) j x := by
  have hB := cum_at g h
  generalize cum g = B at hB
  unfold state
  pointwise
  simp only [hB, two_bits, pow_two]
  rfl

/-- The reference's normed output, at a head, a token and a channel. -/
theorem normed_at (o : FVec Ideal S4x16x128 .f32) (h : Fin 4) (t : Fin 16) (j : Fin 128) :
    normed gate ng o (ix2 t ⟨h.val * 128 + j.val, by omega⟩) = normAt (fun x => o (ix3 h t x)) (ng (ix1 j)) (headOf gate h t j) j := by
  unfold normed
  pointwise
  rfl

end Cert.MetaHgrnReferenceIdeal.Hand

end
-- ==== Proof.MetaBlocks.lean ====
/-
  Hand-written, untrusted. What the call reads of its arguments: the grid has one step, so a block is the array; a head's
  columns and its slice of the state; the lower triangle of ones and the five masks that the host hands over as tables.
-/
module

public import proofs.«01_k».proof.Proof.Gen.MetaHgrnKernelIdeal.Value
public import proofs.«01_k».proof.Proof.MetaHead
public import proofs.«01_k».proof.Proof.MetaRef
public import Idealize.ShloMosaic.Lib.Pipeline.ValueKit
public import Idealize.ShloMosaic.Lib.Tactic.CleanTypes

@[expose] public section

set_option maxRecDepth 16384

noncomputable section

namespace Cert.MetaHgrnKernelIdeal.Hand

open Cert.MetaHgrnReferenceIdeal.Hand (headOf stOf)
open Cert.MetaHgrnKernelIdeal Cert.MetaHgrnKernelIdeal.Gen Cert.MetaHgrn.Hand
open Idealize.ShloMosaic Idealize.ShloMosaic.TcCoe Idealize.SL.Sem

variable (m : (ℓ : Loc nD τ sig) → Buf (Elt Ideal) ℓ)
set_option maxHeartbeats 1600000 in
/-- The grid has one step, and every window starts at the origin. -/
theorem idx : ∀ t : Fin cfg0.N, win0_0.index t = ![0, 0] ∧ win0_1.index t = ![0, 0] ∧ win0_2.index t = ![0, 0] ∧ win0_3.index t = ![0,0]
  ∧ win0_4.index t = ![0,0] ∧ win0_5.index t = ![0,0,0] ∧ win0_6.index t = ![0,0] ∧ win0_7.index t = ![0,0] ∧ win0_8.index t = ![0,0,0]
  ∧ win0_9.index t = ![0,0] ∧ win0_10.index t = ![0,0,0,0] :=
  (by decide +kernel : ∀ t : Fin grid0.N, _)

/-- The block of the queries is the array of queries. -/
theorem q_at (c : Dev nD) (t : Fin cfg0.N) (r : Fin 16) (k : Fin 512) :
    iblk m c 0 t (ix2 r k) = m ((c : Thread nD τ).loc main_arg0) (ix2 r k) := by
  blk_ext! [iblk, V, idx t]

/-- The block of the norm's scale is the scale. -/
theorem ng_at (c : Dev nD) (t : Fin cfg0.N) (k : Fin 128) :
    iblk m c 6 t (ix2 0 k) = m ((c : Thread nD τ).loc main_arg6) (ix1 k) := by
  blk_ext! [iblk, V, idx t]

/-- The block of the state is the state. -/
theorem st_at (c : Dev nD) (t : Fin cfg0.N) (h : Fin 4) (j k : Fin 128) :
    iblk m c 5 t (ix3 h j k) = m ((c : Thread nD τ).loc main_arg5) (ix3 h j k) := by
  blk_ext! [iblk, V, idx t]

/-- The table of the lower triangle: ones up to the diagonal. -/
theorem tri_lit : ∀ t s : Fin 16, lit0 (S16x16.rowMajor (ix2 t s)) = if s ≤ t then 0x3F80#16 else 0#16 := by
  decide +kernel

/-- The lower triangle's block is its table. -/
theorem tri_at (c : Dev nD) (t : Fin cfg0.N) (i j : Fin 16) :
    (iblk m c 7 t (ix2 i j) : EReal) = Ideal.ofBits .bf16 (lit0 (S16x16.rowMajor (ix2 i j))) := by
  blk_ext! [iblk, V, idx t]

/-- The masks' block is their table. -/
theorem mask_at (c : Dev nD) (t : Fin cfg0.N) (l : Fin 5) (i j : Fin 16) :
    (iblk m c 8 t (ix3 l i j) : EReal) = Ideal.ofBits .f32 (lit1 (S5x16x16.rowMajor (ix3 l i j))) := by
  blk_ext! [iblk, V, idx t]

/-- The first mask's table: the diagonal. -/
theorem mask_lit0 : ∀ t s : Fin 16, lit1 (S5x16x16.rowMajor (ix3 0 t s)) = if t = s then 0x3F800000#32 else 0#32 := by
  decide +kernel

/-- The table of level one's mask. -/
theorem mask_lit1 : ∀ t s : Fin 16, lit1 (S5x16x16.rowMajor (ix3 1 t s)) = if P1 t s then 0x3F800000#32 else 0#32 := by
  decide +kernel

/-- The table of level two's mask. -/
theorem mask_lit2 : ∀ t s : Fin 16, lit1 (S5x16x16.rowMajor (ix3 2 t s)) = if P2 t s then 0x3F800000#32 else 0#32 := by
  decide +kernel

/-- The table of level three's mask. -/
theorem mask_lit3 : ∀ t s : Fin 16, lit1 (S5x16x16.rowMajor (ix3 3 t s)) = if P3 t s then 0x3F800000#32 else 0#32 := by
  decide +kernel

/-- The table of level four's mask. -/
theorem mask_lit4 : ∀ t s : Fin 16, lit1 (S5x16x16.rowMajor (ix3 4 t s)) = if P4 t s then 0x3F800000#32 else 0#32 := by
  decide +kernel

/-- A slice of the table of masks, read through its rectangle. -/
theorem ld_mask (X : S5x16x16.Idx → EReal) (l : Fin 5) (hr) (i j : Fin 16) :
    X ((Rect.unit (s := S5x16x16) ![l.val, 0, 0] ![1, 16, 16] hr).idx (ix3 0 i j)) = X (ix3 l i j) := by
  refine congrArg X (funext fun a => Fin.ext ?_)
  have h3 : ∀ a : Fin 3, a = 0 ∨ a = 1 ∨ a = 2 := by decide
  rcases h3 a with rfl | rfl | rfl
  · show l.val + 1 * 0 = l.val; omega
  · show 0 + 1 * i.val = i.val; omega
  · show 0 + 1 * j.val = j.val; omega

/-- A head's slice of the state, read through its rectangle. -/
theorem ld_state (X : S4x128x128.Idx → EReal) (l : Fin 4) (hr) (i j : Fin 128) :
    k0_pay2 (F := Ideal) X ((Rect.unit (s := S4x128x128) ![l.val, 0, 0] ![1, 128, 128] hr).idx (ix3 0 i j)) = X (ix3 l i j) := by
  have e : (Rect.unit (s := S4x128x128) ![l.val, 0, 0] ![1, 128, 128] hr).idx (ix3 0 i j) = (ix3 l i j : S4x128x128.Idx) := by
    refine (funext fun a => Fin.ext ?_)
    have h3 : ∀ a : Fin 3, a = 0 ∨ a = 1 ∨ a = 2 := by decide
    rcases h3 a with rfl | rfl | rfl
    · show l.val + 1 * 0 = l.val; omega
    · show 0 + 1 * i.val = i.val; omega
    · show 0 + 1 * j.val = j.val; omega
  rw [e]
  pointwise [k0_pay2]

/-- The lower triangle, as the call reads it. -/
theorem tri_one (c : Dev nD) (t : Fin cfg0.N) (i j : Fin 16) : iblk m c 7 t (ix2 i j) = (if j ≤ i then 1 else 0 : EReal) := by
  rw [tri_at, tri_lit]
  by_cases h : j ≤ i
  · rw [if_pos h, if_pos h]; exact Ideal.ofBits_one_bf16
  · rw [if_neg h, if_neg h]; exact Ideal.ofBits_zero_bf16

/-- The mask of the diagonal, as the call reads it. -/
theorem mask0_one (c : Dev nD) (t : Fin cfg0.N) (i j : Fin 16) (hr) :
    View.ld (iblk m c 8 t) (Rect.unit ![0, 0, 0] ![1, 16, 16] hr) (ix3 0 i j) = (if i = j then 1 else 0 : EReal) := by
  have e : (View.ld (iblk m c 8 t) (Rect.unit ![0, 0, 0] ![1, 16, 16] hr) (ix3 0 i j) : EReal) = Ideal.ofBits .f32 (lit1 (S5x16x16.rowMajor (ix3 0 i j))) :=
    (ld_mask (iblk m c 8 t) 0 hr i j).trans (mask_at m c t 0 i j)
  rw [e, mask_lit0]
  by_cases h : i = j
  · rw [if_pos h, if_pos h]; exact Ideal.ofBits_one_f32
  · rw [if_neg h, if_neg h]; exact Ideal.ofBits_zero_f32

/-- The mask of level 1, as the call reads it. -/
theorem mask1_one (c : Dev nD) (t : Fin cfg0.N) (i j : Fin 16) (hr) :
    View.ld (iblk m c 8 t) (Rect.unit ![1, 0, 0] ![1, 16, 16] hr) (ix3 0 i j) = (if P1 i j then 1 else 0 : EReal) := by
  have e : (View.ld (iblk m c 8 t) (Rect.unit ![1, 0, 0] ![1, 16, 16] hr) (ix3 0 i j) : EReal) = Ideal.ofBits .f32 (lit1 (S5x16x16.rowMajor (ix3 1 i j))) :=
    (ld_mask (iblk m c 8 t) 1 hr i j).trans (mask_at m c t 1 i j)
  rw [e, mask_lit1]
  by_cases h : P1 i j
  · rw [if_pos h, if_pos h]; exact Ideal.ofBits_one_f32
  · rw [if_neg h, if_neg h]; exact Ideal.ofBits_zero_f32

/-- The mask of level 2, as the call reads it. -/
theorem mask2_one (c : Dev nD) (t : Fin cfg0.N) (i j : Fin 16) (hr) :
    View.ld (iblk m c 8 t) (Rect.unit ![2, 0, 0] ![1, 16, 16] hr) (ix3 0 i j) = (if P2 i j then 1 else 0 : EReal) := by
  have e : (View.ld (iblk m c 8 t) (Rect.unit ![2, 0, 0] ![1, 16, 16] hr) (ix3 0 i j) : EReal) = Ideal.ofBits .f32 (lit1 (S5x16x16.rowMajor (ix3 2 i j))) :=
    (ld_mask (iblk m c 8 t) 2 hr i j).trans (mask_at m c t 2 i j)
  rw [e, mask_lit2]
  by_cases h : P2 i j
  · rw [if_pos h, if_pos h]; exact Ideal.ofBits_one_f32
  · rw [if_neg h, if_neg h]; exact Ideal.ofBits_zero_f32

/-- The mask of level 3, as the call reads it. -/
theorem mask3_one (c : Dev nD) (t : Fin cfg0.N) (i j : Fin 16) (hr) :
    View.ld (iblk m c 8 t) (Rect.unit ![3, 0, 0] ![1, 16, 16] hr) (ix3 0 i j) = (if P3 i j then 1 else 0 : EReal) := by
  have e : (View.ld (iblk m c 8 t) (Rect.unit ![3, 0, 0] ![1, 16, 16] hr) (ix3 0 i j) : EReal) = Ideal.ofBits .f32 (lit1 (S5x16x16.rowMajor (ix3 3 i j))) :=
    (ld_mask (iblk m c 8 t) 3 hr i j).trans (mask_at m c t 3 i j)
  rw [e, mask_lit3]
  by_cases h : P3 i j
  · rw [if_pos h, if_pos h]; exact Ideal.ofBits_one_f32
  · rw [if_neg h, if_neg h]; exact Ideal.ofBits_zero_f32

/-- The mask of level 4, as the call reads it. -/
theorem mask4_one (c : Dev nD) (t : Fin cfg0.N) (i j : Fin 16) (hr) :
    View.ld (iblk m c 8 t) (Rect.unit ![4, 0, 0] ![1, 16, 16] hr) (ix3 0 i j) = (if P4 i j then 1 else 0 : EReal) := by
  have e : (View.ld (iblk m c 8 t) (Rect.unit ![4, 0, 0] ![1, 16, 16] hr) (ix3 0 i j) : EReal) = Ideal.ofBits .f32 (lit1 (S5x16x16.rowMajor (ix3 4 i j))) :=
    (ld_mask (iblk m c 8 t) 4 hr i j).trans (mask_at m c t 4 i j)
  rw [e, mask_lit4]
  by_cases h : P4 i j
  · rw [if_pos h, if_pos h]; exact Ideal.ofBits_one_f32
  · rw [if_neg h, if_neg h]; exact Ideal.ofBits_zero_f32

/-- Head 0's columns of the queries, as the call reads them. -/
theorem q0_at (c : Dev nD) (t : Fin cfg0.N) (hr) (i : Fin 16) (x : Fin 128) :
    View.ld (iblk m c 0 t) (Rect.unit ![0, 0] ![16, 128] hr) (ix2 i x) = headOf (m ((c : Thread nD τ).loc main_arg0)) 0 i x := by
  unfold headOf
  blk_ext! [iblk, V, idx t]

/-- Head 0's columns of the log forget factors, as the call reads them. -/
theorem g0_at (c : Dev nD) (t : Fin cfg0.N) (hr) (i : Fin 16) (x : Fin 128) :
    View.ld (iblk m c 1 t) (Rect.unit ![0, 0] ![16, 128] hr) (ix2 i x) = headOf (m ((c : Thread nD τ).loc main_arg1)) 0 i x := by
  unfold headOf
  blk_ext! [iblk, V, idx t]

/-- Head 0's columns of the keys, as the call reads them. -/
theorem k0_at (c : Dev nD) (t : Fin cfg0.N) (hr) (i : Fin 16) (x : Fin 128) :
    View.ld (iblk m c 2 t) (Rect.unit ![0, 0] ![16, 128] hr) (ix2 i x) = headOf (m ((c : Thread nD τ).loc main_arg2)) 0 i x := by
  unfold headOf
  blk_ext! [iblk, V, idx t]

/-- Head 0's columns of the values, as the call reads them. -/
theorem v0_at (c : Dev nD) (t : Fin cfg0.N) (hr) (i : Fin 16) (x : Fin 128) :
    View.ld (iblk m c 3 t) (Rect.unit ![0, 0] ![16, 128] hr) (ix2 i x) = headOf (m ((c : Thread nD τ).loc main_arg3)) 0 i x := by
  unfold headOf
  blk_ext! [iblk, V, idx t]

/-- Head 0's columns of the gate, as the call reads them. -/
theorem u0_at (c : Dev nD) (t : Fin cfg0.N) (hr) (i : Fin 16) (x : Fin 128) :
    View.ld (iblk m c 4 t) (Rect.unit ![0, 0] ![16, 128] hr) (ix2 i x) = headOf (m ((c : Thread nD τ).loc main_arg4)) 0 i x := by
  unfold headOf
  blk_ext! [iblk, V, idx t]

/-- Head 0's slice of the state before the chunk, as the call reads it. -/
theorem s0_at (c : Dev nD) (t : Fin cfg0.N) (hr) (j x : Fin 128) :
    k0_pay2 (F := Ideal) (iblk m c 5 t) ((Rect.unit (s := S4x128x128) ![0, 0, 0] ![1, 128, 128] hr).idx (ix3 0 j x)) = stOf (m ((c : Thread nD τ).loc main_arg5)) 0 j x :=
  (ld_state (iblk m c 5 t) 0 hr j x).trans (st_at m c t 0 j x)

/-- Head 1's columns of the queries, as the call reads them. -/
theorem q1_at (c : Dev nD) (t : Fin cfg0.N) (hr) (i : Fin 16) (x : Fin 128) :
    View.ld (iblk m c 0 t) (Rect.unit ![0, 128] ![16, 128] hr) (ix2 i x) = headOf (m ((c : Thread nD τ).loc main_arg0)) 1 i x := by
  unfold headOf
  blk_ext! [iblk, V, idx t]

/-- Head 1's columns of the log forget factors, as the call reads them. -/
theorem g1_at (c : Dev nD) (t : Fin cfg0.N) (hr) (i : Fin 16) (x : Fin 128) :
    View.ld (iblk m c 1 t) (Rect.unit ![0, 128] ![16, 128] hr) (ix2 i x) = headOf (m ((c : Thread nD τ).loc main_arg1)) 1 i x := by
  unfold headOf
  blk_ext! [iblk, V, idx t]

/-- Head 1's columns of the keys, as the call reads them. -/
theorem k1_at (c : Dev nD) (t : Fin cfg0.N) (hr) (i : Fin 16) (x : Fin 128) :
    View.ld (iblk m c 2 t) (Rect.unit ![0, 128] ![16, 128] hr) (ix2 i x) = headOf (m ((c : Thread nD τ).loc main_arg2)) 1 i x := by
  unfold headOf
  blk_ext! [iblk, V, idx t]

/-- Head 1's columns of the values, as the call reads them. -/
theorem v1_at (c : Dev nD) (t : Fin cfg0.N) (hr) (i : Fin 16) (x : Fin 128) :
    View.ld (iblk m c 3 t) (Rect.unit ![0, 128] ![16, 128] hr) (ix2 i x) = headOf (m ((c : Thread nD τ).loc main_arg3)) 1 i x := by
  unfold headOf
  blk_ext! [iblk, V, idx t]

/-- Head 1's columns of the gate, as the call reads them. -/
theorem u1_at (c : Dev nD) (t : Fin cfg0.N) (hr) (i : Fin 16) (x : Fin 128) :
    View.ld (iblk m c 4 t) (Rect.unit ![0, 128] ![16, 128] hr) (ix2 i x) = headOf (m ((c : Thread nD τ).loc main_arg4)) 1 i x := by
  unfold headOf
  blk_ext! [iblk, V, idx t]

/-- Head 1's slice of the state before the chunk, as the call reads it. -/
theorem s1_at (c : Dev nD) (t : Fin cfg0.N) (hr) (j x : Fin 128) :
    k0_pay2 (F := Ideal) (iblk m c 5 t) ((Rect.unit (s := S4x128x128) ![1, 0, 0] ![1, 128, 128] hr).idx (ix3 0 j x)) = stOf (m ((c : Thread nD τ).loc main_arg5)) 1 j x :=
  (ld_state (iblk m c 5 t) 1 hr j x).trans (st_at m c t 1 j x)

/-- Head 2's columns of the queries, as the call reads them. -/
theorem q2_at (c : Dev nD) (t : Fin cfg0.N) (hr) (i : Fin 16) (x : Fin 128) :
    View.ld (iblk m c 0 t) (Rect.unit ![0, 256] ![16, 128] hr) (ix2 i x) = headOf (m ((c : Thread nD τ).loc main_arg0)) 2 i x := by
  unfold headOf
  blk_ext! [iblk, V, idx t]

/-- Head 2's columns of the log forget factors, as the call reads them. -/
theorem g2_at (c : Dev nD) (t : Fin cfg0.N) (hr) (i : Fin 16) (x : Fin 128) :
    View.ld (iblk m c 1 t) (Rect.unit ![0, 256] ![16, 128] hr) (ix2 i x) = headOf (m ((c : Thread nD τ).loc main_arg1)) 2 i x := by
  unfold headOf
  blk_ext! [iblk, V, idx t]

/-- Head 2's columns of the keys, as the call reads them. -/
theorem k2_at (c : Dev nD) (t : Fin cfg0.N) (hr) (i : Fin 16) (x : Fin 128) :
    View.ld (iblk m c 2 t) (Rect.unit ![0, 256] ![16, 128] hr) (ix2 i x) = headOf (m ((c : Thread nD τ).loc main_arg2)) 2 i x := by
  unfold headOf
  blk_ext! [iblk, V, idx t]

/-- Head 2's columns of the values, as the call reads them. -/
theorem v2_at (c : Dev nD) (t : Fin cfg0.N) (hr) (i : Fin 16) (x : Fin 128) :
    View.ld (iblk m c 3 t) (Rect.unit ![0, 256] ![16, 128] hr) (ix2 i x) = headOf (m ((c : Thread nD τ).loc main_arg3)) 2 i x := by
  unfold headOf
  blk_ext! [iblk, V, idx t]

/-- Head 2's columns of the gate, as the call reads them. -/
theorem u2_at (c : Dev nD) (t : Fin cfg0.N) (hr) (i : Fin 16) (x : Fin 128) :
    View.ld (iblk m c 4 t) (Rect.unit ![0, 256] ![16, 128] hr) (ix2 i x) = headOf (m ((c : Thread nD τ).loc main_arg4)) 2 i x := by
  unfold headOf
  blk_ext! [iblk, V, idx t]

/-- Head 2's slice of the state before the chunk, as the call reads it. -/
theorem s2_at (c : Dev nD) (t : Fin cfg0.N) (hr) (j x : Fin 128) :
    k0_pay2 (F := Ideal) (iblk m c 5 t) ((Rect.unit (s := S4x128x128) ![2, 0, 0] ![1, 128, 128] hr).idx (ix3 0 j x)) = stOf (m ((c : Thread nD τ).loc main_arg5)) 2 j x :=
  (ld_state (iblk m c 5 t) 2 hr j x).trans (st_at m c t 2 j x)

/-- Head 3's columns of the queries, as the call reads them. -/
theorem q3_at (c : Dev nD) (t : Fin cfg0.N) (hr) (i : Fin 16) (x : Fin 128) :
    View.ld (iblk m c 0 t) (Rect.unit ![0, 384] ![16, 128] hr) (ix2 i x) = headOf (m ((c : Thread nD τ).loc main_arg0)) 3 i x := by
  unfold headOf
  blk_ext! [iblk, V, idx t]

/-- Head 3's columns of the log forget factors, as the call reads them. -/
theorem g3_at (c : Dev nD) (t : Fin cfg0.N) (hr) (i : Fin 16) (x : Fin 128) :
    View.ld (iblk m c 1 t) (Rect.unit ![0, 384] ![16, 128] hr) (ix2 i x) = headOf (m ((c : Thread nD τ).loc main_arg1)) 3 i x := by
  unfold headOf
  blk_ext! [iblk, V, idx t]

/-- Head 3's columns of the keys, as the call reads them. -/
theorem k3_at (c : Dev nD) (t : Fin cfg0.N) (hr) (i : Fin 16) (x : Fin 128) :
    View.ld (iblk m c 2 t) (Rect.unit ![0, 384] ![16, 128] hr) (ix2 i x) = headOf (m ((c : Thread nD τ).loc main_arg2)) 3 i x := by
  unfold headOf
  blk_ext! [iblk, V, idx t]

/-- Head 3's columns of the values, as the call reads them. -/
theorem v3_at (c : Dev nD) (t : Fin cfg0.N) (hr) (i : Fin 16) (x : Fin 128) :
    View.ld (iblk m c 3 t) (Rect.unit ![0, 384] ![16, 128] hr) (ix2 i x) = headOf (m ((c : Thread nD τ).loc main_arg3)) 3 i x := by
  unfold headOf
  blk_ext! [iblk, V, idx t]

/-- Head 3's columns of the gate, as the call reads them. -/
theorem u3_at (c : Dev nD) (t : Fin cfg0.N) (hr) (i : Fin 16) (x : Fin 128) :
    View.ld (iblk m c 4 t) (Rect.unit ![0, 384] ![16, 128] hr) (ix2 i x) = headOf (m ((c : Thread nD τ).loc main_arg4)) 3 i x := by
  unfold headOf
  blk_ext! [iblk, V, idx t]

/-- Head 3's slice of the state before the chunk, as the call reads it. -/
theorem s3_at (c : Dev nD) (t : Fin cfg0.N) (hr) (j x : Fin 128) :
    k0_pay2 (F := Ideal) (iblk m c 5 t) ((Rect.unit (s := S4x128x128) ![3, 0, 0] ![1, 128, 128] hr).idx (ix3 0 j x)) = stOf (m ((c : Thread nD τ).loc main_arg5)) 3 j x :=
  (ld_state (iblk m c 5 t) 3 hr j x).trans (st_at m c t 3 j x)

end Cert.MetaHgrnKernelIdeal.Hand

end
-- ==== Proof.MetaOut.lean ====
/-
  Hand-written, untrusted. The two arrays the call returns, each equal to the reference's: the normed outputs, written in
  four column blocks, one for each head, and the state, written in four slices over an earlier copy of the whole.
-/
module

public import proofs.«01_k».proof.Proof.MetaBlocks
public import Idealize.ShloMosaic.Lib.Pipeline.ReadBack

@[expose] public section

set_option maxRecDepth 16384

noncomputable section

namespace Cert.MetaHgrnKernelIdeal.Hand

open Cert.MetaHgrnReferenceIdeal.Hand (headOf stOf cum pre normed state pre_at normed_at state_at)
open Cert.MetaHgrnKernelIdeal Cert.MetaHgrnKernelIdeal.Gen Cert.MetaHgrn.Hand
open Idealize.ShloMosaic Idealize.ShloMosaic.TcCoe Idealize.SL.Sem

section Heads

variable (tri : Vec Ideal S16x16 .bf16) (m0 m1 m2 m3 m4 : Vec Ideal S1x16x16 .f32) (q g k v gate : Vec Ideal S16x128 .f32)
  (st : Vec Ideal S1x128x128 .f32) (ng : Vec Ideal S1x128 .f32)
  (Q G K V U : FVec Ideal S16x512 .f32) (S : FVec Ideal S4x128x128 .f32) (N : FVec Ideal S128 .f32) (h : Fin 4)
  (htri : ∀ t s : Fin 16, tri (ix2 t s) = (if s ≤ t then 1 else 0 : EReal))
  (h0 : ∀ t s : Fin 16, m0 (ix3 0 t s) = (if t = s then 1 else 0 : EReal))
  (h1 : ∀ t s : Fin 16, m1 (ix3 0 t s) = (if P1 t s then 1 else 0 : EReal))
  (h2 : ∀ t s : Fin 16, m2 (ix3 0 t s) = (if P2 t s then 1 else 0 : EReal))
  (h3 : ∀ t s : Fin 16, m3 (ix3 0 t s) = (if P3 t s then 1 else 0 : EReal))
  (h4 : ∀ t s : Fin 16, m4 (ix3 0 t s) = (if P4 t s then 1 else 0 : EReal))
  (hG : ∀ (s : Fin 16) (y : Fin 512), ∃ r : ℝ, (G (ix2 s y) : EReal) = r)
  (hq : ∀ (i : Fin 16) (x : Fin 128), q (ix2 i x) = headOf Q h i x)
  (hg : ∀ (i : Fin 16) (x : Fin 128), g (ix2 i x) = headOf G h i x)
  (hk : ∀ (i : Fin 16) (x : Fin 128), k (ix2 i x) = headOf K h i x)
  (hv : ∀ (i : Fin 16) (x : Fin 128), v (ix2 i x) = headOf V h i x)
  (hu : ∀ (i : Fin 16) (x : Fin 128), gate (ix2 i x) = headOf U h i x)
  (hs : ∀ (j x : Fin 128), st (ix3 0 j x) = stOf S h j x)
  (hn : ∀ (x : Fin 128), ng (ix2 0 x) = N (ix1 x))

include htri h0 h1 h2 h3 h4 hG hq hg hk hv hu hs hn in
/-- A head of the call's output is the reference's. -/
theorem out_value (i : Fin 16) (j : Fin 128) :
    headOut tri m0 m1 m2 m3 m4 q g k v gate st ng (ix2 i j)
      = normed U N (pre Q K V S (cum G)) (ix2 i ⟨h.val * 128 + j.val, by omega⟩) := by
  have eq : at2 (φ := .f32) q = headOf Q h := funext fun i => funext fun x => hq i x
  have eg : at2 (φ := .f32) g = headOf G h := funext fun i => funext fun x => hg i x
  have ek : at2 (φ := .f32) k = headOf K h := funext fun i => funext fun x => hk i x
  have ev : at2 (φ := .f32) v = headOf V h := funext fun i => funext fun x => hv i x
  have es : at3 (φ := .f32) st = stOf S h := funext fun i => funext fun x => hs i x
  have hgr : ∀ (s : Fin 16) (x : Fin 128), ∃ r : ℝ, at2 (φ := .f32) g s x = r := fun s x => by
    rw [eg]; exact hG s _
  refine (headOut_at tri m0 m1 m2 m3 m4 q g k v gate st ng i j).trans ?_
  refine Eq.trans ?_ (normed_at U N (pre Q K V S (cum G)) h i j).symm
  have ep : (fun j => headPre tri m0 m1 m2 m3 m4 q g k v st (ix2 i j)) = fun x => pre Q K V S (cum G) (ix3 h i x) := funext fun x =>
    ((headPre_at tri m0 m1 m2 m3 m4 q g k v st htri h0 h1 h2 h3 h4 hgr i x).trans (by rw [eq, eg, ek, ev, es])).trans (pre_at Q K V G S h i x).symm
  rw [ep]
  rw [hn j, hu i j]

include htri hG hg hk hv hs in
/-- A head of the call's state is the reference's. -/
theorem state_value (j x : Fin 128) :
    headState tri g k v st (ix3 0 j x) = state K V S (cum G) (ix4 0 h j x) := by
  have eg : at2 (φ := .f32) g = headOf G h := funext fun i => funext fun x => hg i x
  have ek : at2 (φ := .f32) k = headOf K h := funext fun i => funext fun x => hk i x
  have ev : at2 (φ := .f32) v = headOf V h := funext fun i => funext fun x => hv i x
  have es : at3 (φ := .f32) st = stOf S h := funext fun i => funext fun x => hs i x
  have hgr : ∀ (s : Fin 16) (x : Fin 128), ∃ r : ℝ, at2 (φ := .f32) g s x = r := fun s x => by
    rw [eg]; exact hG s _
  exact ((headState_at tri g k v st htri hgr j x).trans (by rw [eg, ek, ev, es])).trans (state_at K V G S h j x).symm

end Heads

/-- A piece under others that cover the index is not read there. -/
theorem canon_prefix {S : Shape} {e : EltTy} {Val : EltTy → Type} [∀ e, Nonempty (Val e)] (p : View.Piece Val S e) :
    ∀ (L : List (View.Piece Val S e)) (y : S.Idx), (∃ q ∈ L, y ∈ q.1.set) → View.canon (L ++ [p]) y = View.canon L y
  | [], _, hc => by obtain ⟨q, hq, _⟩ := hc; exact absurd hq List.not_mem_nil
  | q :: L, y, hc => by
    by_cases hm : y ∈ q.1.set
    · obtain ⟨x, rfl⟩ := q.1.exists_idx_of_mem hm
      rw [show q.1.idx x = q.1.emb x from rfl, List.cons_append, View.canon_cons_emb, View.canon_cons_emb]
    · rw [List.cons_append, View.canon_cons_of_not_mem q _ hm, View.canon_cons_of_not_mem q _ hm]
      refine canon_prefix p L y ?_
      obtain ⟨r, hr, hy⟩ := hc
      rcases List.mem_cons.mp hr with rfl | hr
      · exact absurd hy hm
      · exact ⟨r, hr, hy⟩

/-- Every index of a head's block is a pair. -/
theorem ix2_all (x : S16x128.Idx) : ∃ (i : Fin 16) (j : Fin 128), x = ix2 i j :=
  ⟨x 0, x 1, funext fun a => by
    have h2 : ∀ a : Fin 2, a = 0 ∨ a = 1 := by decide
    rcases h2 a with rfl | rfl <;> rfl⟩

/-- Every index of a head's state is a triple whose first entry is zero. -/
theorem ix3_all (x : S1x128x128.Idx) : ∃ (i j : Fin 128), x = ix3 0 i j :=
  ⟨x 1, x 2, funext fun a => by
    have h3 : ∀ a : Fin 3, a = 0 ∨ a = 1 ∨ a = 2 := by decide
    rcases h3 a with rfl | rfl | rfl
    · exact Fin.ext (by have := (x 0).isLt; change (x 0).val < 1 at this; show (x 0).val = 0; omega)
    · rfl
    · rfl⟩

/-- The state as the call returns it, under a leading axis of one. -/
theorem lead_at (f : FVec Ideal S4x128x128 .f32) (y : S1x4x128x128.Idx) :
    k0_pay1 (F := Ideal) f y = f (ix3 (y 1 : Fin 4) (y 2 : Fin 128) (y 3 : Fin 128)) := by
  pointwise [k0_pay1]

variable (m : (ℓ : Loc nD τ sig) → Buf (Elt Ideal) ℓ)

set_option maxHeartbeats 2000000 in
/-- The call's output array is the reference's. -/
theorem final_out (c : Dev nD) (hG : ∀ (s : Fin 16) (y : Fin 512), ∃ r : ℝ, (m ((c : Thread nD τ).loc main_arg1) : FVec Ideal S16x512 .f32) (ix2 s y) = (r : EReal)) :
    (dats m 0 c).arrAt 9 (cfgs 0).N
      = normed (m ((c : Thread nD τ).loc main_arg4)) (m ((c : Thread nD τ).loc main_arg6))
          (pre (m ((c : Thread nD τ).loc main_arg0)) (m ((c : Thread nD τ).loc main_arg2)) (m ((c : Thread nD τ).loc main_arg3))
            (m ((c : Thread nD τ).loc main_arg5)) (cum (m ((c : Thread nD τ).loc main_arg1)))) := by
  refine (dats m 0 c).arrAt_eq_of_covers 9 _ (by decide +kernel) fun t _ y => ?_
  blk_simp
  rw [after0_9]
  simp only [outsAt0, out0_A_9]
  frame_out
  simp (disch := decide) only [↓ View.readCov_skip, ↓ View.readCov_cons_toLoadRect, ↓ View.readCov_fill]
  canon_tiles x hx
  · obtain ⟨i, j, rfl⟩ := ix2_all x
    change (y 0).val = i.val at hx0
    change (y 1).val = 384 + j.val at hx1
    refine (congrFun (head3_out _ _ _ _ _ _ _ _ _ _ _ _ _) _).trans ?_
    refine (out_value (iblk m c 7 t) _ _ _ _ _ _ _ _ _ _ _ (iblk m c 6 t) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) 3
      (tri_one m c t) (fun i j => mask0_one m c t i j _) (fun i j => mask1_one m c t i j _) (fun i j => mask2_one m c t i j _)
      (fun i j => mask3_one m c t i j _) (fun i j => mask4_one m c t i j _) hG (q3_at m c t _) (g3_at m c t _) (k3_at m c t _)
      (v3_at m c t _) (u3_at m c t _) (s3_at m c t _) (ng_at m c t) i j).trans ?_
    refine congrArg (normed _ _ _) ?_
    blk_ext! [idx t]
    all_goals first | omega | (show 3 * 128 + j.val = (y 1).val; omega)
  · obtain ⟨i, j, rfl⟩ := ix2_all x
    change (y 0).val = i.val at hx0
    change (y 1).val = 256 + j.val at hx1
    refine (congrFun (head2_out _ _ _ _ _ _ _ _ _ _ _ _ _) _).trans ?_
    refine (out_value (iblk m c 7 t) _ _ _ _ _ _ _ _ _ _ _ (iblk m c 6 t) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) 2
      (tri_one m c t) (fun i j => mask0_one m c t i j _) (fun i j => mask1_one m c t i j _) (fun i j => mask2_one m c t i j _)
      (fun i j => mask3_one m c t i j _) (fun i j => mask4_one m c t i j _) hG (q2_at m c t _) (g2_at m c t _) (k2_at m c t _)
      (v2_at m c t _) (u2_at m c t _) (s2_at m c t _) (ng_at m c t) i j).trans ?_
    refine congrArg (normed _ _ _) ?_
    blk_ext! [idx t]
    all_goals first | omega | (show 2 * 128 + j.val = (y 1).val; omega)
  · obtain ⟨i, j, rfl⟩ := ix2_all x
    change (y 0).val = i.val at hx0
    change (y 1).val = 128 + j.val at hx1
    refine (congrFun (head1_out _ _ _ _ _ _ _ _ _ _ _ _ _) _).trans ?_
    refine (out_value (iblk m c 7 t) _ _ _ _ _ _ _ _ _ _ _ (iblk m c 6 t) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) 1
      (tri_one m c t) (fun i j => mask0_one m c t i j _) (fun i j => mask1_one m c t i j _) (fun i j => mask2_one m c t i j _)
      (fun i j => mask3_one m c t i j _) (fun i j => mask4_one m c t i j _) hG (q1_at m c t _) (g1_at m c t _) (k1_at m c t _)
      (v1_at m c t _) (u1_at m c t _) (s1_at m c t _) (ng_at m c t) i j).trans ?_
    refine congrArg (normed _ _ _) ?_
    blk_ext! [idx t]
    all_goals first | omega | (show 1 * 128 + j.val = (y 1).val; omega)
  · obtain ⟨i, j, rfl⟩ := ix2_all x
    change (y 0).val = i.val at hx0
    change (y 1).val = j.val at hx1
    refine (out_value (iblk m c 7 t) _ _ _ _ _ _ _ _ _ _ _ (iblk m c 6 t) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) 0
      (tri_one m c t) (fun i j => mask0_one m c t i j _) (fun i j => mask1_one m c t i j _) (fun i j => mask2_one m c t i j _)
      (fun i j => mask3_one m c t i j _) (fun i j => mask4_one m c t i j _) hG (q0_at m c t _) (g0_at m c t _) (k0_at m c t _)
      (v0_at m c t _) (u0_at m c t _) (s0_at m c t _) (ng_at m c t) i j).trans ?_
    refine congrArg (normed _ _ _) ?_
    blk_ext! [idx t]
    all_goals first | omega | (show 0 * 128 + j.val = (y 1).val; omega)

set_option maxHeartbeats 2000000 in
/-- The call's state is the reference's. -/
theorem final_state (c : Dev nD) (hG : ∀ (s : Fin 16) (y : Fin 512), ∃ r : ℝ, (m ((c : Thread nD τ).loc main_arg1) : FVec Ideal S16x512 .f32) (ix2 s y) = (r : EReal)) :
    (dats m 0 c).arrAt 10 (cfgs 0).N
      = state (m ((c : Thread nD τ).loc main_arg2)) (m ((c : Thread nD τ).loc main_arg3))
            (m ((c : Thread nD τ).loc main_arg5)) (cum (m ((c : Thread nD τ).loc main_arg1))) := by
  refine (dats m 0 c).arrAt_eq_of_covers 10 _ (by decide +kernel) fun t _ y => ?_
  blk_simp
  rw [after0_10]
  simp only [outsAt0, out0_A_10]
  frame_out
  simp (disch := decide) only [↓ View.readCov_skip, ↓ View.readCov_cons_toLoadRect, ↓ View.readCov_fill]
  rw [View.readCov_eq_canon']
  simp only [head1_state, head2_state, head3_state]
  refine (lead_at _ y).trans ?_
  obtain ⟨z, hz⟩ : ∃ z : S4x128x128.Idx, z = (Rect.unit (s := S4x128x128) ![0, 0, 0] ![4, 128, 128] inb_S4x128x128_S4x128x128_0_0_0).idx (ix3 (y 1 : Fin 4) (y 2 : Fin 128) (y 3 : Fin 128)) := ⟨_, rfl⟩
  have z0 : (z 0).val = (y 1).val := by rw [hz]; show 0 + 1 * (y 1).val = (y 1).val; omega
  have z1 : (z 1).val = (y 2).val := by rw [hz]; show 0 + 1 * (y 2).val = (y 2).val; omega
  have z2 : (z 2).val = (y 3).val := by rw [hz]; show 0 + 1 * (y 3).val = (y 3).val; omega
  rw [← hz]
  clear hz
  refine (canon_prefix _ [_, _, _, _] z ?_).trans ?_
  · have l0 : (z 0).val < 4 := (z 0).isLt
    have l1 : (z 1).val < 128 := (z 1).isLt
    have l2 : (z 2).val < 128 := (z 2).isLt
    have h3 : ∀ a : Fin 3, a = 0 ∨ a = 1 ∨ a = 2 := by decide
    have cov : ∀ (k : ℕ) (inb : ∀ a : Fin S4x128x128.rank, ![k, 0, 0] a + ![1, 128, 128] a ≤ S4x128x128.size a), (z 0).val = k →
        z ∈ (Rect.unit (s := S4x128x128) ![k, 0, 0] ![1, 128, 128] inb).set := fun k inb hk =>
      Rect.mem_set_unit.mpr fun a => by
        rcases h3 a with rfl | rfl | rfl
        · exact ⟨by show k ≤ (z 0).val; omega, by show (z 0).val < k + 1; omega⟩
        · exact ⟨Nat.zero_le _, by show (z 1).val < 0 + 128; omega⟩
        · exact ⟨Nat.zero_le _, by show (z 2).val < 0 + 128; omega⟩
    have c : (z 0).val = 3 ∨ (z 0).val = 2 ∨ (z 0).val = 1 ∨ (z 0).val = 0 := by omega
    rcases c with c | c | c | c
    · exact ⟨_, List.mem_cons_self, cov 3 inb_S4x128x128_S1x128x128_3_0_0 c⟩
    · exact ⟨_, List.mem_cons_of_mem _ List.mem_cons_self, cov 2 inb_S4x128x128_S1x128x128_2_0_0 c⟩
    · exact ⟨_, List.mem_cons_of_mem _ (List.mem_cons_of_mem _ List.mem_cons_self), cov 1 inb_S4x128x128_S1x128x128_1_0_0 c⟩
    · exact ⟨_, List.mem_cons_of_mem _ (List.mem_cons_of_mem _ (List.mem_cons_of_mem _ List.mem_cons_self)), cov 0 inb_S4x128x128_S1x128x128_0_0_0 c⟩
  canon_tiles x hx
  · obtain ⟨i, j, rfl⟩ := ix3_all x
    change (z 0).val = 3 + 0 at hx0
    change (z 1).val = i.val at hx1
    change (z 2).val = j.val at hx2
    refine (state_value (iblk m c 7 t) _ _ _ _ (m ((c : Thread nD τ).loc main_arg1))
      (m ((c : Thread nD τ).loc main_arg2)) (m ((c : Thread nD τ).loc main_arg3))
      (m ((c : Thread nD τ).loc main_arg5)) 3
      (tri_one m c t) hG (g3_at m c t _) (k3_at m c t _)
      (v3_at m c t _) (s3_at m c t _) i j).trans ?_
    refine congrArg (state _ _ _ _) ?_
    blk_ext! [idx t]
  · obtain ⟨i, j, rfl⟩ := ix3_all x
    change (z 0).val = 2 + 0 at hx0
    change (z 1).val = i.val at hx1
    change (z 2).val = j.val at hx2
    refine (state_value (iblk m c 7 t) _ _ _ _ (m ((c : Thread nD τ).loc main_arg1))
      (m ((c : Thread nD τ).loc main_arg2)) (m ((c : Thread nD τ).loc main_arg3))
      (m ((c : Thread nD τ).loc main_arg5)) 2
      (tri_one m c t) hG (g2_at m c t _) (k2_at m c t _)
      (v2_at m c t _) (s2_at m c t _) i j).trans ?_
    refine congrArg (state _ _ _ _) ?_
    blk_ext! [idx t]
  · obtain ⟨i, j, rfl⟩ := ix3_all x
    change (z 0).val = 1 + 0 at hx0
    change (z 1).val = i.val at hx1
    change (z 2).val = j.val at hx2
    refine (state_value (iblk m c 7 t) _ _ _ _ (m ((c : Thread nD τ).loc main_arg1))
      (m ((c : Thread nD τ).loc main_arg2)) (m ((c : Thread nD τ).loc main_arg3))
      (m ((c : Thread nD τ).loc main_arg5)) 1
      (tri_one m c t) hG (g1_at m c t _) (k1_at m c t _)
      (v1_at m c t _) (s1_at m c t _) i j).trans ?_
    refine congrArg (state _ _ _ _) ?_
    blk_ext! [idx t]
  · obtain ⟨i, j, rfl⟩ := ix3_all x
    change (z 0).val = 0 at hx0
    change (z 1).val = i.val at hx1
    change (z 2).val = j.val at hx2
    refine (state_value (iblk m c 7 t) _ _ _ _ (m ((c : Thread nD τ).loc main_arg1))
      (m ((c : Thread nD τ).loc main_arg2)) (m ((c : Thread nD τ).loc main_arg3))
      (m ((c : Thread nD τ).loc main_arg5)) 0
      (tri_one m c t) hG (g0_at m c t _) (k0_at m c t _)
      (v0_at m c t _) (s0_at m c t _) i j).trans ?_
    refine congrArg (state _ _ _ _) ?_
    blk_ext! [idx t]

end Cert.MetaHgrnKernelIdeal.Hand

end
-- ==== Proof.MetaHgrnClaims.lean ====
/-
  The claims of the recurrence over the sixteen meta tokens: the frames of its three programs, and that the ideal
  kernel and the ideal reference give the same outputs and the same final state when the log forget factors are finite.
-/
module

public import proofs.«01_k».proof.Defs
public import proofs.«01_k».proof.Proof.MetaOut
public import proofs.«01_k».proof.Proof.Gen.MetaHgrnKernel.Frame
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.MetaHgrn.Hand Cert.MetaHgrnKernelIdeal.Hand Cert.MetaHgrnReferenceIdeal.Hand

/-- The side conditions of the precondition's own program. -/
theorem facts_finite : Cert.Pre_log_forget_factors_are_finite.Facts := ⟨by decide⟩

instance factsFinite : Cert.Pre_log_forget_factors_are_finite.Facts := facts_finite
instance factsMetaHgrnKernel : Cert.MetaHgrnKernel.Facts := Cert.MetaHgrnKernel.Gen.facts
instance factsMetaHgrnKernelIdeal : Cert.MetaHgrnKernelIdeal.Facts := Cert.MetaHgrnKernelIdeal.Gen.facts
instance factsMetaHgrnReferenceIdeal : Cert.MetaHgrnReferenceIdeal.Facts := Cert.MetaHgrnReferenceIdeal.Gen.facts

/-- The kernel's frame at the float words. -/
theorem frame_meta_kernel : Cert.quiescent_MetaHgrnKernel := fun m ρ _ => Cert.MetaHgrnKernel.Gen.frame m ρ

/-- The kernel's frame at the extended reals. -/
theorem frame_meta_ideal : Cert.quiescent_MetaHgrnKernelIdeal := fun m ρ _ => Cert.MetaHgrnKernelIdeal.Gen.frame m ρ

/-- The kernel's frame at the extended reals, for the memories that the value claim speaks of. -/
theorem frame_meta_ideal_finite : Cert.quiescent_MetaHgrnKernelIdeal_pre_log_forget_factors_are_finite :=
  fun m ρ _ => Cert.MetaHgrnKernelIdeal.Gen.frame m ρ

/-- The reference's frame at the extended reals. -/
theorem frame_meta_reference : Cert.quiescent_MetaHgrnReferenceIdeal := fun m ρ _ =>
  (θ_run Cert.MetaHgrnReferenceIdeal.defs _ _).mono
    (fun r h => ⟨fun c => (h c).2.2, Idealize.ShloMosaic.sem_eq_zero_of_no_sems (by decide) r.2⟩)
    (Cert.MetaHgrnReferenceIdeal.Value.run (F := Ideal) m ρ)

/-- The reference's frame at the extended reals, for the memories that the value claim speaks of. -/
theorem frame_meta_reference_finite : Cert.quiescent_MetaHgrnReferenceIdeal_pre_log_forget_factors_are_finite :=
  fun m ρ _ => frame_meta_reference m ρ trivial

/-- No rewrite was taken, so there is nothing to preserve. -/
theorem preserves_meta : Cert.preserves_MetaHgrnKernel_MetaHgrnKernelIdeal := trivial

/-- The word of −∞ is the least extended real. -/
theorem neg_inf_word : Ideal.ofBits .f32 0xFF800000#32 = ⊥ := by
  simp [Ideal.ofBits, Ideal.ieee]

/-- The word of +∞ is the greatest extended real. -/
theorem pos_inf_word : Ideal.ofBits .f32 0x7F800000#32 = ⊤ := by
  simp [Ideal.ofBits, Ideal.ieee]

/-- A number strictly between −∞ and +∞ is real. -/
theorem real_of_bits (w : EReal) (h : IntOp.andi (Ideal.cmp .ogt w (Ideal.ofBits .f32 0xFF800000#32))
    (Ideal.cmp .olt w (Ideal.ofBits .f32 0x7F800000#32)) = 1#1) : ∃ r : ℝ, w = (r : EReal) := by
  rw [neg_inf_word, pos_inf_word] at h
  induction w with
  | bot => simp [Ideal.cmp, IntOp.andi] at h
  | top => simp [Ideal.cmp, IntOp.andi] at h
  | coe r => exact ⟨r, rfl⟩

/-- Where the precondition holds, every log forget factor is a real number. -/
theorem finite_of_pre {m : (ℓ : Loc Cert.MetaHgrnKernelIdeal.nD Cert.MetaHgrnKernelIdeal.τ Cert.MetaHgrnKernelIdeal.sig) → Buf (Elt Ideal) ℓ}
    (hpre : Cert.Pre_MetaHgrnKernelIdeal_log_forget_factors_are_finite m) (c : Dev Cert.MetaHgrnKernelIdeal.nD) (s : Fin 16) (y : Fin 512) :
    ∃ r : ℝ, (m ((c : Thread Cert.MetaHgrnKernelIdeal.nD Cert.MetaHgrnKernelIdeal.τ).loc Cert.MetaHgrnKernelIdeal.main_arg1)
      : FVec Ideal Cert.MetaHgrnKernelIdeal.S16x512 .f32) (ix2 s y) = (r : EReal) := by
  have h := congrFun (hpre c) (ix2 s y)
  exact real_of_bits _ h

set_option maxHeartbeats 2000000 in
/-- The recurrence over the meta tokens computes what its reference computes: the normed outputs and the final state. -/
theorem algebraic_meta : Cert.algebraic_MetaHgrnKernelIdeal_MetaHgrnReferenceIdeal_pre_log_forget_factors_are_finite := by
  intro m ρ m' ρ' hpre hagree
  refine ⟨_, _, Cert.MetaHgrnKernelIdeal.Value.run_blocks (F := Ideal) m ρ, ?_⟩
  refine (θ_run Cert.MetaHgrnReferenceIdeal.defs _ _).mono (fun _ h c => ?_)
    (Cert.MetaHgrnReferenceIdeal.Value.run (F := Ideal) m' ρ')
  obtain ⟨e0, e1, hargs⟩ := h c
  obtain ⟨a0, a1, a2, a3, a4, a5, a6⟩ := hagree c
  have hG := finite_of_pre hpre c
  refine ⟨e0.trans (((res_eq m' c).trans ?_).trans (final_out m c hG).symm), e1.trans (Eq.trans ?_ (final_state m c hG).symm), hargs⟩
  · rw [a0, a1, a2, a3, a4, a5, a6]
  · change state (m' ((c : Thread Cert.MetaHgrnReferenceIdeal.nD Cert.MetaHgrnReferenceIdeal.τ).loc Cert.MetaHgrnReferenceIdeal.main_arg2))
      (m' ((c : Thread Cert.MetaHgrnReferenceIdeal.nD Cert.MetaHgrnReferenceIdeal.τ).loc Cert.MetaHgrnReferenceIdeal.main_arg3))
      (m' ((c : Thread Cert.MetaHgrnReferenceIdeal.nD Cert.MetaHgrnReferenceIdeal.τ).loc Cert.MetaHgrnReferenceIdeal.main_arg5))
      (cum (m' ((c : Thread Cert.MetaHgrnReferenceIdeal.nD Cert.MetaHgrnReferenceIdeal.τ).loc Cert.MetaHgrnReferenceIdeal.main_arg1))) = _
    rw [a1, a2, a3, a5]

end Cert.Proof

end
-- ==== Proof.MetaAttnPrep.lean ====
/-
  Hand-written, untrusted. The weights the host prepares for the meta tokens' attention, read at an index: two heads' weights
  on the diagonal of a block, transposed, and the four blocks stacked.
-/
module

public import proofs.«01_k».proof.Proof.Gen.MetaAttnKernelIdeal.Value
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.MetaAttnKernelIdeal.Hand

open Cert.MetaAttnKernelIdeal Cert.MetaAttnKernelIdeal.Gen
open Idealize.ShloMosaic Idealize.ShloMosaic.TcCoe Idealize.SL.Sem

variable (m : (ℓ : Loc nD τ sig) → Buf (Elt Ideal) ℓ)

/-- Two heads' 128 rows each on the diagonal of a 256 by 128 block, transposed. -/
def diag2 (w : FVec Ideal S2x128x64 .f32) : FVec Ideal S1x128x256 .f32 :=
  broadcastInDim S1x128x256 ![1, 2] bcast_S128x256_S1x128x256_1_2
    (transpose S128x256 [1, 0] (shapeCast S256x128
      (mulf
        (broadcastInDim S2x128x2x64 ![0, 1, 2, 3] bcast_S2x1x2x1_S2x128x2x64_0_1_2_3
          (broadcastInDim S2x1x2x1 ![0, 2] bcast_S2x2_S2x1x2x1_0_2
            (uitofp (F := Ideal) .f32 (cmpi .eq (addi (iotaInDim S2x2 32 0) (broadcastInDim S2x2 ![] bcast_S_S2x2 (constantI S_ 32 0#32))) (iotaInDim S2x2 32 1)))))
        (broadcastInDim S2x128x2x64 ![0, 1, 2, 3] bcast_S2x128x1x64_S2x128x2x64_0_1_2_3
          (broadcastInDim S2x128x1x64 ![0, 1, 3] bcast_S2x128x64_S2x128x1x64_0_1_3 w)) : FVec Ideal S2x128x2x64 .f32)
      shapeCasts_S2x128x2x64_S256x128) transposes_S256x128_S128x256_1_0)

/-- The four blocks stacked. -/
def diag (w : FVec Ideal S8x128x64 .f32) : FVec Ideal S4x128x256 .bf16 :=
  truncf (F := Ideal) .bf16 (concatenate S4x128x256 0
    [⟨S1x128x256, diag2 (extractStridedSlice S2x128x64 ![0, 0, 0] w slices_S8x128x64_S2x128x64_0_0_0)⟩,
     ⟨S1x128x256, diag2 (extractStridedSlice S2x128x64 ![2, 0, 0] w slices_S8x128x64_S2x128x64_2_0_0)⟩,
     ⟨S1x128x256, diag2 (extractStridedSlice S2x128x64 ![4, 0, 0] w slices_S8x128x64_S2x128x64_4_0_0)⟩,
     ⟨S1x128x256, diag2 (extractStridedSlice S2x128x64 ![6, 0, 0] w slices_S8x128x64_S2x128x64_6_0_0)⟩]
    concatenates_S1x128x256_S1x128x256_S1x128x256_S1x128x256_S4x128x256_d0) bitsLt_bf16_f32

/-- Equal blocks make equal stacks. -/
theorem diag_of {a a' b b' d d' e e' : FVec Ideal S1x128x256 .f32} (ha : a = a') (hb : b = b') (hd : d = d') (he : e = e') :
    truncf (F := Ideal) .bf16 (concatenate S4x128x256 0 [⟨S1x128x256, a⟩, ⟨S1x128x256, b⟩, ⟨S1x128x256, d⟩, ⟨S1x128x256, e⟩]
      concatenates_S1x128x256_S1x128x256_S1x128x256_S1x128x256_S4x128x256_d0) bitsLt_bf16_f32
    = truncf (F := Ideal) .bf16 (concatenate S4x128x256 0 [⟨S1x128x256, a'⟩, ⟨S1x128x256, b'⟩, ⟨S1x128x256, d'⟩, ⟨S1x128x256, e'⟩]
      concatenates_S1x128x256_S1x128x256_S1x128x256_S1x128x256_S4x128x256_d0) bitsLt_bf16_f32 := by
  rw [ha, hb, hd, he]

/-- What the call finds as its value weight is the stack of block diagonals. -/
theorem V_wuv (c : Dev nD) : V m c main_v61 = diag (m ((c : Thread nD τ).loc main_arg5)) := by
  have e0 : StableHlo.upto (hostOps0 (F := Ideal)) (fun b : DevRef τ sig => m (c, b)) 64 (Proc.tc.devRef main_v56)
      = diag2 (extractStridedSlice S2x128x64 ![0, 0, 0] (m ((c : Thread nD τ).loc main_arg5) : FVec Ideal S8x128x64 .f32) slices_S8x128x64_S2x128x64_0_0_0) := by
    after_reads_simp
    try rfl
  have e1 : StableHlo.upto (hostOps0 (F := Ideal)) (fun b : DevRef τ sig => m (c, b)) 64 (Proc.tc.devRef main_v57)
      = diag2 (extractStridedSlice S2x128x64 ![2, 0, 0] (m ((c : Thread nD τ).loc main_arg5) : FVec Ideal S8x128x64 .f32) slices_S8x128x64_S2x128x64_2_0_0) := by
    after_reads_simp
    try rfl
  have e2 : StableHlo.upto (hostOps0 (F := Ideal)) (fun b : DevRef τ sig => m (c, b)) 64 (Proc.tc.devRef main_v58)
      = diag2 (extractStridedSlice S2x128x64 ![4, 0, 0] (m ((c : Thread nD τ).loc main_arg5) : FVec Ideal S8x128x64 .f32) slices_S8x128x64_S2x128x64_4_0_0) := by
    after_reads_simp
    try rfl
  have e3 : StableHlo.upto (hostOps0 (F := Ideal)) (fun b : DevRef τ sig => m (c, b)) 64 (Proc.tc.devRef main_v59)
      = diag2 (extractStridedSlice S2x128x64 ![6, 0, 0] (m ((c : Thread nD τ).loc main_arg5) : FVec Ideal S8x128x64 .f32) slices_S8x128x64_S2x128x64_6_0_0) := by
    after_reads_simp
    try rfl
  unfold V
  after_reads_simp
  exact diag_of e0 e1 e2 e3

/-- The 2 by 2 identity, from its row and column numbers. -/
theorem eye_at (p q : ℕ) (hp : p < 2) (hq : q < 2) :
    (FloatOps.uitofp (F := Ideal) .f32 (IntOp.cmpi CmpIPredicate.eq (IntOp.addi (BitVec.ofNat 32 p) 0#32) (BitVec.ofNat 32 q)) : EReal)
      = if p = q then 1 else 0 := by
  interval_cases p <;> interval_cases q <;> simp [IntOp.cmpi, IntOp.addi, FloatOps.uitofp]

set_option maxHeartbeats 1000000 in
/-- The block diagonals at an index. -/
theorem diag_at (w : FVec Ideal S8x128x64 .f32) (b : Fin 4) (a : Fin 128) (l : Fin 256) :
    (diag w (ix3 b a l) : EReal) = (if l.val / 128 = a.val / 64 then 1 else 0)
      * w (ix3 (⟨2 * b.val + l.val / 128, by omega⟩ : Fin 8) (⟨l.val % 128, by omega⟩ : Fin 128) (⟨a.val % 64, by omega⟩ : Fin 64)) := by
  pointwise [diag, diag2]
  rw [eye_at _ _ (by omega) (by omega)]
  split
  · have hb : b.val = 0 := by omega
    congr 3 <;> (apply Fin.ext; simp only; omega)
  · split
    · have hb : b.val = 1 := by omega
      congr 3 <;> (apply Fin.ext; simp only; omega)
    · split
      · have hb : b.val = 2 := by omega
        congr 3 <;> (apply Fin.ext; simp only; omega)
      · have hb : b.val = 3 := by omega
        congr 3 <;> (apply Fin.ext; simp only; omega)

set_option maxHeartbeats 1600000 in
/-- The grid has one step, and every window starts at the origin. -/
theorem idx : ∀ t : Fin cfg0.N, win0_0.index t = ![0, 0, 0] ∧ win0_1.index t = ![0, 0] ∧ win0_2.index t = ![0, 0] ∧ win0_3.index t = ![0, 0]
  ∧ win0_4.index t = ![0, 0, 0] ∧ win0_5.index t = ![0, 0, 0] ∧ win0_6.index t = ![0, 0] :=
  (by decide +kernel : ∀ t : Fin grid0.N, _)

/-- The block of the latent queries is their array. -/
theorem q_at (c : Dev nD) (t : Fin cfg0.N) (h : Fin 8) (x : Fin 128) (q : Fin 16) :
    iblk m c 0 t (ix3 h x q) = m ((c : Thread nD τ).loc main_arg0) (ix3 h x q) := by
  blk_ext! [iblk, V, idx t]

/-- The block of the latent rows is their array. -/
theorem cm_at (c : Dev nD) (t : Fin cfg0.N) (s : Fin 16) (x : Fin 128) :
    iblk m c 1 t (ix2 s x) = m ((c : Thread nD τ).loc main_arg1) (ix2 s x) := by
  blk_ext! [iblk, V, idx t]

/-- The block of the transposed latent rows is their array. -/
theorem ct_at (c : Dev nD) (t : Fin cfg0.N) (x : Fin 128) (s : Fin 16) :
    iblk m c 2 t (ix2 x s) = m ((c : Thread nD τ).loc main_arg2) (ix2 x s) := by
  blk_ext! [iblk, V, idx t]

/-- The block of the gate is its array. -/
theorem ga_at (c : Dev nD) (t : Fin cfg0.N) (q : Fin 16) (j : Fin 512) :
    iblk m c 3 t (ix2 q j) = m ((c : Thread nD τ).loc main_arg3) (ix2 q j) := by
  blk_ext! [iblk, V, idx t]

/-- The block of the bias table is the table. -/
theorem tb_at (c : Dev nD) (t : Fin cfg0.N) (b : Fin 3) (s : Fin 128) (r : Fin 1024) :
    iblk m c 4 t (ix3 b s r) = m ((c : Thread nD τ).loc main_arg4) (ix3 b s r) := by
  blk_ext! [iblk, V, idx t]

/-- The block of the value weight is the stack of block diagonals. -/
theorem wuv_at (c : Dev nD) (t : Fin cfg0.N) (b : Fin 4) (a : Fin 128) (l : Fin 256) :
    iblk m c 5 t (ix3 b a l) = diag (m ((c : Thread nD τ).loc main_arg5)) (ix3 b a l) := by
  rw [← V_wuv]
  blk_ext! [iblk, idx t]

/-- A head's latent queries, as the call reads them. -/
theorem ld_q (X : S8x128x16.Idx → EReal) (h : Fin 8) (hr) (x : Fin 128) (q : Fin 16) :
    View.ld (Val := Elt Ideal) (e' := .bf16) X (Rect.unit (s := S8x128x16) ![h.val, 0, 0] ![1, 128, 16] hr) (ix3 0 x q) = X (ix3 h x q) := by
  refine congrArg X (funext fun a => Fin.ext ?_)
  have h3 : ∀ a : Fin 3, a = 0 ∨ a = 1 ∨ a = 2 := by decide
  rcases h3 a with rfl | rfl | rfl
  · show h.val + 1 * 0 = h.val; omega
  · show 0 + 1 * x.val = x.val; omega
  · show 0 + 1 * q.val = q.val; omega

/-- A head's biases, as the call reads them of the third table. -/
theorem ld_b (X : S3x128x1024.Idx → EReal) (h : Fin 8) (hr) (s q : Fin 16) :
    View.ld (Val := Elt Ideal) (e' := .f32) X (Rect.unit (s := S3x128x1024) ![2, 0, h.val * 128] ![1, 16, 16] hr) (ix3 0 s q) = X (ix3 (2 : Fin 3) (⟨s.val, by omega⟩ : Fin 128) (⟨h.val * 128 + q.val, by omega⟩ : Fin 1024)) := by
  refine congrArg X (funext fun a => Fin.ext ?_)
  have h3 : ∀ a : Fin 3, a = 0 ∨ a = 1 ∨ a = 2 := by decide
  rcases h3 a with rfl | rfl | rfl
  · show 2 + 1 * 0 = 2; omega
  · show 0 + 1 * s.val = s.val; omega
  · show h.val * 128 + 1 * q.val = h.val * 128 + q.val; omega

/-- A pair of heads' block diagonal, as the call reads it. -/
theorem ld_w (X : S4x128x256.Idx → EReal) (b : Fin 4) (hr) (a : Fin 128) (l : Fin 256) :
    View.ld (Val := Elt Ideal) (e' := .bf16) X (Rect.unit (s := S4x128x256) ![b.val, 0, 0] ![1, 128, 256] hr) (ix3 0 a l) = X (ix3 b a l) := by
  refine congrArg X (funext fun a => Fin.ext ?_)
  have h3 : ∀ a : Fin 3, a = 0 ∨ a = 1 ∨ a = 2 := by decide
  rcases h3 a with rfl | rfl | rfl
  · show b.val + 1 * 0 = b.val; omega
  · show 0 + 1 * a.val = a.val; omega
  · show 0 + 1 * l.val = l.val; omega

end Cert.MetaAttnKernelIdeal.Hand

end
-- ==== Proof.MetaAttnHead.lean ====
/-
  Hand-written, untrusted. The attention of the sixteen meta tokens in closed form over the extended reals, and what its
  kernel computes for one head before the projection.
-/
module

public import proofs.«01_k».proof.Proof.Gen.MetaAttnKernelIdeal.Value
public import Idealize.ShloMosaic.Lib.Pipeline.ValueKit
public import Idealize.ShloMosaic.Lib.Tactic.CleanTypes

@[expose] public section

set_option maxRecDepth 16384

noncomputable section

namespace Cert.MetaAttnKernelIdeal.Hand

open Cert.MetaAttnKernelIdeal Cert.MetaAttnKernelIdeal.Gen
open Idealize.ShloMosaic Idealize.ShloMosaic.TcCoe Idealize.SL.Sem

/-- A query's logit of a key, in base 2: none of a later key. -/
def logitAt (ql : Fin 128 → Fin 16 → EReal) (cm : Fin 16 → Fin 128 → EReal) (b : Fin 16 → Fin 16 → EReal) (q m : Fin 16) : EReal :=
  if m ≤ q then (∑ x : Fin 128, cm m x * ql x q) + b m q else ⊥

/-- A query's largest logit. -/
def topAt (ql : Fin 128 → Fin 16 → EReal) (cm : Fin 16 → Fin 128 → EReal) (b : Fin 16 → Fin 16 → EReal) (q : Fin 16) : EReal :=
  Finset.fold max ⊥ (fun m => logitAt ql cm b q m) Finset.univ

/-- A query's unnormed weight of a key. -/
def powAt (ql : Fin 128 → Fin 16 → EReal) (cm : Fin 16 → Fin 128 → EReal) (b : Fin 16 → Fin 16 → EReal) (q m : Fin 16) : EReal :=
  Ideal.exp2 (logitAt ql cm b q m - topAt ql cm b q)

/-- What a query reads of the latent rows. -/
def latAt (ql : Fin 128 → Fin 16 → EReal) (cm : Fin 16 → Fin 128 → EReal) (ct : Fin 128 → Fin 16 → EReal) (b : Fin 16 → Fin 16 → EReal)
    (q : Fin 16) (x : Fin 128) : EReal :=
  ∑ m : Fin 16, ct x m * Ideal.div (powAt ql cm b q m) (∑ n : Fin 16, powAt ql cm b q n)

/-- The word of −∞ is the least extended real. -/
theorem neg_inf : Ideal.ofBits .f32 0xFF800000#32 = ⊥ := by
  simp [Ideal.ofBits, Ideal.ieee]

/-- The causal mask, as the kernel makes it from the numbers of rows and columns. -/
theorem le_bit : ∀ s q : Fin 16, IntOp.cmpi CmpIPredicate.sle (BitVec.ofNat 32 s.val) (BitVec.ofNat 32 q.val) = if s ≤ q then 1#1 else 0#1 := by
  decide +kernel

/-- A choice by the causal mask. -/
theorem select_le (s q : Fin 16) (a b : EReal) :
    Scalar.select (IntOp.cmpi CmpIPredicate.sle (BitVec.ofNat 32 s.val) (BitVec.ofNat 32 q.val)) a b = if s ≤ q then a else b := by
  rw [le_bit]
  split <;> rfl

variable (cm : Vec Ideal S16x128 .bf16) (ct : Vec Ideal S128x16 .bf16) (ql : Vec Ideal S1x128x16 .bf16) (b : Vec Ideal S1x16x16 .f32)

/-- One head before the projection, as head 0's stages compute it. -/
def headLat : FVec Ideal S128x16 .bf16 := k0_pay1 cm ct ql b

/-- Head 1 computes as head 0 does. -/
theorem head1_eq : k0_pay4 (F := Ideal) ct (k0_pay2 cm ql b) k0_pay3 = headLat cm ct ql b := rfl

/-- Head 2 computes as head 0 does. -/
theorem head2_eq : k0_pay6 (F := Ideal) (k0_pay5 cm ct (iota .tc S16x16 32 [0] iota_S16x16_d0_w32) (iota .tc S16x16 32 [1] iota_S16x16_d1_w32) ql b)
    = headLat cm ct ql b := rfl

/-- Head 3 computes as head 0 does. -/
theorem head3_eq : k0_pay7 (F := Ideal) cm ct (iota .tc S16x16 32 [0] iota_S16x16_d0_w32) (iota .tc S16x16 32 [1] iota_S16x16_d1_w32) ql b
    = headLat cm ct ql b := rfl

/-- Head 4 computes as head 0 does. -/
theorem head4_eq : k0_pay10 (F := Ideal) ct (k0_pay8 cm (iota .tc S16x16 32 [0] iota_S16x16_d0_w32) (iota .tc S16x16 32 [1] iota_S16x16_d1_w32) ql b)
    (k0_pay9 cm (iota .tc S16x16 32 [0] iota_S16x16_d0_w32) (iota .tc S16x16 32 [1] iota_S16x16_d1_w32) ql b) = headLat cm ct ql b := rfl

/-- Head 5 computes as head 0 does. -/
theorem head5_eq : k0_pay11 (F := Ideal) cm ct (iota .tc S16x16 32 [0] iota_S16x16_d0_w32) (iota .tc S16x16 32 [1] iota_S16x16_d1_w32) ql b
    = headLat cm ct ql b := rfl

/-- Head 6 computes as head 0 does. -/
theorem head6_eq : k0_pay12 (F := Ideal) cm ct (iota .tc S16x16 32 [0] iota_S16x16_d0_w32) (iota .tc S16x16 32 [1] iota_S16x16_d1_w32) ql b
    = headLat cm ct ql b := rfl

/-- Head 7 computes as head 0 does. -/
theorem head7_eq : k0_pay15 (F := Ideal) ct (k0_pay13 cm (iota .tc S16x16 32 [0] iota_S16x16_d0_w32) (iota .tc S16x16 32 [1] iota_S16x16_d1_w32) ql b)
    (k0_pay14 cm (iota .tc S16x16 32 [0] iota_S16x16_d0_w32) (iota .tc S16x16 32 [1] iota_S16x16_d1_w32) ql b) = headLat cm ct ql b := rfl

set_option maxHeartbeats 1000000 in
/-- One head before the projection, in closed form. -/
theorem headLat_at (x : Fin 128) (q : Fin 16) :
    headLat cm ct ql b (ix2 x q) = latAt (fun y r => ql (ix3 0 y r)) (fun s y => cm (ix2 s y)) (fun y s => ct (ix2 y s)) (fun s r => b (ix3 0 s r)) q x := by
  unfold headLat
  pointwise [k0_pay1]
  simp only [select_le, neg_inf]
  rfl

end Cert.MetaAttnKernelIdeal.Hand

end
-- ==== Proof.MetaAttnRef.lean ====
/-
  Hand-written, untrusted. What the reference of the meta tokens' attention computes, head by head and entry by entry: the
  logits, their powers, the weights, what is read of the latent rows, and the projected and gated outputs.
-/
module

public import proofs.«01_k».proof.Proof.Gen.MetaAttnReferenceIdeal.Run
public import proofs.«01_k».proof.Proof.MetaAttnHead
public import proofs.«01_k».proof.Proof.MetaSums
public import proofs.«01_k».proof.Proof.MetaRef
public import Idealize.ShloMosaic.Lib.Tactic.CleanTypes

@[expose] public section

set_option maxRecDepth 16384

noncomputable section

namespace Cert.MetaAttnReferenceIdeal.Hand

open Cert.MetaAttnReferenceIdeal Cert.MetaAttnReferenceIdeal.Gen
open Cert.MetaAttnKernelIdeal.Hand (logitAt topAt powAt latAt neg_inf)
open Idealize.ShloMosaic Idealize.ShloMosaic.TcCoe Idealize.SL.Sem

/-- The reference's logits, a query's head by key. -/
def logits (ql : FVec Ideal S8x128x16 .bf16) (cm : FVec Ideal S16x128 .bf16) (tb : FVec Ideal S3x128x1024 .f32) : FVec Ideal S16x8x16 .f32 :=
  select (broadcastInDim S16x8x16 ![0, 1, 2] bcast_S16x1x16_S16x8x16_0_1_2 (broadcastInDim S16x1x16 ![0, 2] bcast_S16x16_S16x1x16_0_2 (cmpi .sge (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0)))))) (addf (transpose S16x8x16 [2, 1, 0] (Host.dotGeneral dot_S16x128_S8x128x16_S16x8x16_1_1_0_02_n_n none (extf .f32 cm bitsLt_bf16_f32) (extf .f32 ql bitsLt_bf16_f32)) transposes_S16x8x16_S16x8x16_2_1_0) (transpose S16x8x16 [2, 1, 0] (extractStridedSlice S16x8x16 ![0, 0, 0] (shapeCast S16x8x128 (shapeCast S16x1024 (extractStridedSlice S1x16x1024 ![2, 0, 0] tb slices_S3x128x1024_S1x16x1024_2_0_0) shapeCasts_S1x16x1024_S16x1024) shapeCasts_S16x1024_S16x8x128) slices_S16x8x128_S16x8x16_0_0_0) transposes_S16x8x16_S16x8x16_2_1_0)) (broadcastInDim S16x8x16 ![] bcast_S_S16x8x16 (id (constant (F := Ideal) S_ .f32 0xFF800000#32)))

/-- Their powers of two, about the largest. -/
def pows (lg : FVec Ideal S16x8x16 .f32) : FVec Ideal S16x8x16 .f32 :=
  Host.powf (broadcastInDim S16x8x16 ![] bcast_S_S16x8x16 (constant (F := Ideal) S_ .f32 0x40000000#32)) (subf lg (broadcastInDim S16x8x16 ![0, 1, 2] bcast_S16x8x1_S16x8x16_0_1_2 (broadcastInDim S16x8x1 ![0, 1] bcast_S16x8_S16x8x1_0_1 (Host.reduce FloatOps.maximumf lg (constant (F := Ideal) S_ .f32 0xFF800000#32) reducesTo_S16x8x16_S16x8_d2 h_S_))))

/-- The weights, normed. -/
def weights (e : FVec Ideal S16x8x16 .f32) : FVec Ideal S16x8x16 .f32 :=
  Host.divf e (broadcastInDim S16x8x16 ![0, 1, 2] bcast_S16x8x1_S16x8x16_0_1_2 (broadcastInDim S16x8x1 ![0, 1] bcast_S16x8_S16x8x1_0_1 (Host.reduceAdd e (constant (F := Ideal) S_ .f32 0x00000000#32) reducesTo_S16x8x16_S16x8_d2 h_S_)))

/-- The projected and gated outputs, from the weights. -/
def gated (ct : FVec Ideal S128x16 .bf16) (ga : FVec Ideal S16x512 .f32) (w : FVec Ideal S8x128x64 .f32) (p : FVec Ideal S16x8x16 .f32) : FVec Ideal S16x512 .bf16 :=
  truncf .bf16 (mulf (shapeCast S16x512 (transpose S16x8x64 [2, 0, 1] (Host.dotGeneral dot_S8x128x64_S16x8x128_S8x64x16_1_2_2_0_0_1 none w (Host.dotGeneral dot_S16x8x16_S128x16_S16x8x128_2_1_01_0_n_n none p (extf .f32 ct bitsLt_bf16_f32))) transposes_S8x64x16_S16x8x64_2_0_1) shapeCasts_S16x8x64_S16x512) ga) bitsLt_bf16_f32

/-- The reference's result, in the parts named above. -/
theorem res_eq (m : (ℓ : Loc nD τ sig) → Buf (Elt Ideal) ℓ) (c : Dev nD) :
    Value.res_out0 m c = gated (m ((c.tc : Thread nD τ).loc main_arg2)) (m ((c.tc : Thread nD τ).loc main_arg3)) (m ((c.tc : Thread nD τ).loc main_arg5))
      (weights (pows (logits (m ((c.tc : Thread nD τ).loc main_arg0)) (m ((c.tc : Thread nD τ).loc main_arg1)) (m ((c.tc : Thread nD τ).loc main_arg4))))) := by
  unfold Value.res_out0 Value.res_main_v34 gated weights pows logits
  rfl

/-- A head's queries, by channel and query. -/
abbrev qOf (ql : FVec Ideal S8x128x16 .bf16) (h : Fin 8) : Fin 128 → Fin 16 → EReal := fun x q => ql (ix3 h x q)

/-- The latent rows' entries. -/
abbrev cOf (cm : FVec Ideal S16x128 .bf16) : Fin 16 → Fin 128 → EReal := fun s x => cm (ix2 s x)

/-- The transposed latent rows' entries. -/
abbrev tOf (ct : FVec Ideal S128x16 .bf16) : Fin 128 → Fin 16 → EReal := fun x s => ct (ix2 x s)

/-- A head's biases, by key and query. -/
abbrev bOf (tb : FVec Ideal S3x128x1024 .f32) (h : Fin 8) : Fin 16 → Fin 16 → EReal := fun s q =>
  tb (ix3 (2 : Fin 3) (⟨s.val, by omega⟩ : Fin 128) (⟨h.val * 128 + q.val, by omega⟩ : Fin 1024))

/-- The causal mask, as the reference makes it from the numbers of queries and keys. -/
theorem ge_bit : ∀ q s : Fin 16, IntOp.cmpi CmpIPredicate.sge (BitVec.ofNat 32 q.val) (BitVec.ofNat 32 s.val) = if s ≤ q then 1#1 else 0#1 := by
  decide +kernel

/-- A choice by the causal mask. -/
theorem select_ge (q s : Fin 16) (a b : EReal) :
    Scalar.select (IntOp.cmpi CmpIPredicate.sge (BitVec.ofNat 32 q.val) (BitVec.ofNat 32 s.val)) a b = if s ≤ q then a else b := by
  rw [ge_bit]
  split <;> rfl

/-- The reference's logits at a query, a head and a key. -/
theorem logits_at (ql : FVec Ideal S8x128x16 .bf16) (cm : FVec Ideal S16x128 .bf16) (tb : FVec Ideal S3x128x1024 .f32) (q : Fin 16) (h : Fin 8) (s : Fin 16) :
    logits ql cm tb (ix3 q h s) = logitAt (qOf ql h) (cOf cm) (bOf tb h) q s := by
  pointwise [logits]
  refine (congrArg (Scalar.select _ _) neg_inf).trans ?_
  exact select_ge q s _ _

/-- Their powers at a query, a head and a key. -/
theorem pows_at (lg : FVec Ideal S16x8x16 .f32) (q : Fin 16) (h : Fin 8) (s : Fin 16) :
    pows lg (ix3 q h s) = Ideal.exp2 (lg (ix3 q h s) - Finset.fold max ⊥ (fun n => lg (ix3 q h n)) Finset.univ) := by
  pointwise [pows]
  rw [show Ideal.ofBits FTy.f32 4286578688#32 = ⊥ from Cert.MetaHgrnReferenceIdeal.Hand.neg_inf, Cert.MetaHgrnReferenceIdeal.Hand.two_bits, Cert.MetaHgrn.Hand.pow_two]

/-- The weights at a query, a head and a key. -/
theorem weights_at (e : FVec Ideal S16x8x16 .f32) (q : Fin 16) (h : Fin 8) (s : Fin 16) :
    weights e (ix3 q h s) = Ideal.div (e (ix3 q h s)) (∑ n : Fin 16, e (ix3 q h n)) := by
  pointwise [weights]

/-- The gated outputs at a token and a channel. -/
theorem gated_at (ct : FVec Ideal S128x16 .bf16) (ga : FVec Ideal S16x512 .f32) (w : FVec Ideal S8x128x64 .f32) (p : FVec Ideal S16x8x16 .f32) (q : Fin 16) (j : Fin 512) :
    gated ct ga w p (ix2 q j) = (∑ x : Fin 128, w (ix3 (⟨j.val / 64, by omega⟩ : Fin 8) x (⟨j.val % 64, by omega⟩ : Fin 64))
      * ∑ s : Fin 16, p (ix3 q (⟨j.val / 64, by omega⟩ : Fin 8) s) * ct (ix2 x s)) * ga (ix2 q j) := by
  pointwise [gated]

/-- What the call must give at a token and a channel: a head's latent reads projected to the head's own channels, gated. -/
def attnAt (ql : FVec Ideal S8x128x16 .bf16) (cm : FVec Ideal S16x128 .bf16) (ct : FVec Ideal S128x16 .bf16) (ga : FVec Ideal S16x512 .f32)
    (tb : FVec Ideal S3x128x1024 .f32) (w : FVec Ideal S8x128x64 .f32) (q : Fin 16) (j : Fin 512) : EReal :=
  (∑ x : Fin 128, w (ix3 (⟨j.val / 64, by omega⟩ : Fin 8) x (⟨j.val % 64, by omega⟩ : Fin 64))
    * latAt (qOf ql (⟨j.val / 64, by omega⟩ : Fin 8)) (cOf cm) (tOf ct) (bOf tb (⟨j.val / 64, by omega⟩ : Fin 8)) q x) * ga (ix2 q j)

/-- The reference's result at a token and a channel. -/
theorem ref_at (ql : FVec Ideal S8x128x16 .bf16) (cm : FVec Ideal S16x128 .bf16) (ct : FVec Ideal S128x16 .bf16) (ga : FVec Ideal S16x512 .f32)
    (tb : FVec Ideal S3x128x1024 .f32) (w : FVec Ideal S8x128x64 .f32) (q : Fin 16) (j : Fin 512) :
    gated ct ga w (weights (pows (logits ql cm tb))) (ix2 q j) = attnAt ql cm ct ga tb w q j := by
  rw [gated_at]
  unfold attnAt
  refine congrArg (· * ga (ix2 q j)) (Finset.sum_congr rfl fun x _ => congrArg (_ * ·) (Finset.sum_congr rfl fun s _ => ?_))
  rw [mul_comm, weights_at]
  simp only [pows_at, logits_at]
  rfl

end Cert.MetaAttnReferenceIdeal.Hand

end
-- ==== Proof.MetaAttnOut.lean ====
/-
  Hand-written, untrusted. The array the meta tokens' attention returns, equal to the reference's: what each head reads of the
  latent rows lies in a scratch array, one head under another; a pair of heads' rows against its block diagonal are the two
  heads' own projections side by side; then the gate.
-/
module

public import proofs.«01_k».proof.Proof.MetaAttnPrep
public import proofs.«01_k».proof.Proof.MetaAttnRef
public import Idealize.ShloMosaic.Lib.Pipeline.ReadBack

@[expose] public section

set_option maxRecDepth 16384

noncomputable section

namespace Cert.MetaAttnKernelIdeal.Hand

open Cert.MetaAttnReferenceIdeal.Hand (qOf cOf tOf bOf attnAt gated weights pows logits ref_at)
open Cert.MetaAttnKernelIdeal Cert.MetaAttnKernelIdeal.Gen
open Idealize.ShloMosaic Idealize.ShloMosaic.TcCoe Idealize.SL.Sem

/-- A sum over 256 rows of which only one half is not zero. -/
theorem half_sum (f : Fin 256 → EReal) (q : ℕ) (hq : q < 2) (h0 : ∀ x : Fin 256, x.val / 128 ≠ q → f x = 0) :
    ∑ x, f x = ∑ x : Fin 128, f ⟨q * 128 + x.val, by omega⟩ := by
  have hs : ∑ x, f x = ∑ x : Fin 128, f ⟨x.val, by omega⟩ + ∑ x : Fin 128, f ⟨128 + x.val, by omega⟩ :=
    Fin.sum_univ_add (a := 128) (b := 128) f
  rw [hs]
  interval_cases q
  · have z : ∑ x : Fin 128, f ⟨128 + x.val, by omega⟩ = 0 :=
      Finset.sum_eq_zero fun x _ => h0 ⟨128 + x.val, by omega⟩ (by simp only; omega)
    rw [z, add_zero]
    exact Finset.sum_congr rfl fun x _ => congrArg f (Fin.ext (by simp only; omega))
  · have z : ∑ x : Fin 128, f ⟨x.val, by omega⟩ = 0 :=
      Finset.sum_eq_zero fun x _ => h0 ⟨x.val, by omega⟩ (by simp only; omega)
    rw [z, zero_add]

/-- One pair of heads: the product with the block diagonal is the product with the head's own weights. -/
theorem pair_core (w : FVec Ideal S8x128x64 .f32) (O : FVec Ideal S1024x16 .bf16) (L : Fin 8 → Fin 16 → Fin 128 → EReal)
    (hO : ∀ (h : Fin 8) (x : Fin 128) (q : Fin 16), O (ix2 (⟨h.val * 128 + x.val, by omega⟩ : Fin 1024) q) = L h q x)
    (b : Fin 4) (W : FVec Ideal S1x128x256 .bf16) (hW : ∀ (a : Fin 128) (l : Fin 256), W (ix3 0 a l) = diag w (ix3 b a l))
    (r : Fin 128) (q : Fin 16) (h : Fin 8) (d : Fin 64) (o : Fin 256 → Fin 1024)
    (hh : h.val = 2 * b.val + r.val / 64) (hd : d.val = r.val % 64) (ho : ∀ l, (o l).val = 256 * b.val + l.val) :
    (∑ l : Fin 256, HMul.hMul (α := EReal) (β := EReal) (γ := EReal) (W (ix3 0 r l)) (O (ix2 (o l) q)))
      = ∑ x : Fin 128, HMul.hMul (α := EReal) (β := EReal) (γ := EReal) (w (ix3 h x d)) (L h q x) := by
  rw [half_sum _ (r.val / 64) (by omega) fun l hl => ?_]
  · refine Finset.sum_congr rfl fun x _ => ?_
    rw [hW]
    refine (congrArg (· * _) (diag_at _ _ _ _)).trans ?_
    rw [if_pos (by simp only; omega), one_mul]
    refine congr (congrArg (fun (u v : EReal) => u * v) ?_) ?_
    · refine congrArg w ?_
      blk_ext
    · rw [← hO]
      refine congrArg O ?_
      refine congrArg (fun z => ix2 z q) (Fin.ext ?_)
      rw [ho]
      simp only
      omega
  · rw [hW]
    refine (congrArg (· * _) (diag_at _ _ _ _)).trans ?_
    rw [if_neg (by omega), zero_mul, zero_mul]

set_option maxHeartbeats 1600000 in
/-- The call's projection of the latent reads, gated, is each head's own. -/
theorem proj_at (w : FVec Ideal S8x128x64 .f32) (O : FVec Ideal S1024x16 .bf16) (L : Fin 8 → Fin 16 → Fin 128 → EReal)
    (hO : ∀ (h : Fin 8) (x : Fin 128) (q : Fin 16), O (ix2 (⟨h.val * 128 + x.val, by omega⟩ : Fin 1024) q) = L h q x)
    (W0 W1 W2 W3 : FVec Ideal S1x128x256 .bf16) (h0 : ∀ (a : Fin 128) (l : Fin 256), W0 (ix3 0 a l) = diag w (ix3 0 a l))
    (h1 : ∀ (a : Fin 128) (l : Fin 256), W1 (ix3 0 a l) = diag w (ix3 1 a l)) (h2 : ∀ (a : Fin 128) (l : Fin 256), W2 (ix3 0 a l) = diag w (ix3 2 a l))
    (h3 : ∀ (a : Fin 128) (l : Fin 256), W3 (ix3 0 a l) = diag w (ix3 3 a l))
    (ga G : FVec Ideal S16x512 .f32) (hg : ∀ (q : Fin 16) (j : Fin 512), ga (ix2 q j) = G (ix2 q j)) (q : Fin 16) (j : Fin 512) :
    k0_pay16 (F := Ideal) O W0 W1 W2 W3 ga (ix2 q j)
      = (∑ x : Fin 128, w (ix3 (⟨j.val / 64, by omega⟩ : Fin 8) x (⟨j.val % 64, by omega⟩ : Fin 64)) * L (⟨j.val / 64, by omega⟩ : Fin 8) q x) * G (ix2 q j) := by
  pointwise [k0_pay16]
  rw [hg]
  refine congrArg (· * G (ix2 q j)) ?_
  split
  · exact pair_core w O L hO 0 W0 h0 _ q _ _ _ (by first | omega | (simp; done) | (simp; omega)) (by first | omega | (simp; done) | (simp; omega)) fun l => by first | omega | (simp; done) | (simp; omega)
  · split
    · exact pair_core w O L hO 1 W1 h1 _ q _ _ _ (by first | omega | (simp; done) | (simp; omega)) (by first | omega | (simp; done) | (simp; omega)) fun l => by first | omega | (simp; done) | (simp; omega)
    · split
      · exact pair_core w O L hO 2 W2 h2 _ q _ _ _ (by first | omega | (simp; done) | (simp; omega)) (by first | omega | (simp; done) | (simp; omega)) fun l => by first | omega | (simp; done) | (simp; omega)
      · exact pair_core w O L hO 3 W3 h3 _ q _ _ _ (by first | omega | (simp; done) | (simp; omega)) (by first | omega | (simp; done) | (simp; omega)) fun l => by first | omega | (simp; done) | (simp; omega)

/-- Every index of a head's rows is a pair. -/
theorem ix2_all (x : S128x16.Idx) : ∃ (i : Fin 128) (j : Fin 16), x = ix2 i j :=
  ⟨x 0, x 1, funext fun a => by
    have h2 : ∀ a : Fin 2, a = 0 ∨ a = 1 := by decide
    rcases h2 a with rfl | rfl <;> rfl⟩

variable (m : (ℓ : Loc nD τ sig) → Buf (Elt Ideal) ℓ)

/-- What a head reads of the latent rows, from the call's arguments. -/
def readAt (c : Dev nD) (h : Fin 8) (q : Fin 16) (x : Fin 128) : EReal :=
  latAt (qOf (m ((c : Thread nD τ).loc main_arg0)) h) (cOf (m ((c : Thread nD τ).loc main_arg1))) (tOf (m ((c : Thread nD τ).loc main_arg2)))
    (bOf (m ((c : Thread nD τ).loc main_arg4)) h) q x

/-- The same, one head under another. -/
def reads (c : Dev nD) (z : S1024x16.Idx) : EReal :=
  readAt m c (⟨(z 0).val / 128, by have := (z 0).isLt; change (z 0).val < 1024 at this; omega⟩ : Fin 8) (z 1 : Fin 16) (⟨(z 0).val % 128, by omega⟩ : Fin 128)

/-- The rows of a head. -/
theorem reads_at (c : Dev nD) (z : S1024x16.Idx) (h : Fin 8) (x : Fin 128) (q : Fin 16) (h0 : (z 0).val = h.val * 128 + x.val) (h1 : (z 1).val = q.val) :
    reads m c z = readAt m c h q x := by
  unfold reads
  have e0 : (⟨(z 0).val / 128, by have := (z 0).isLt; change (z 0).val < 1024 at this; omega⟩ : Fin 8) = h := Fin.ext (by simp only; omega)
  have e1 : (z 1 : Fin 16) = q := Fin.ext h1
  have e2 : (⟨(z 0).val % 128, by omega⟩ : Fin 128) = x := Fin.ext (by simp only; omega)
  rw [e0, e1, e2]

/-- A head's rows, as the call computes them of what it reads. -/
theorem head_value (c : Dev nD) (t : Fin cfg0.N) (h : Fin 8) (ql : FVec Ideal S1x128x16 .bf16) (b : FVec Ideal S1x16x16 .f32)
    (hq : ∀ (x : Fin 128) (q : Fin 16), ql (ix3 0 x q) = iblk m c 0 t (ix3 h x q))
    (hb : ∀ s q : Fin 16, b (ix3 0 s q) = iblk m c 4 t (ix3 (2 : Fin 3) (⟨s.val, by omega⟩ : Fin 128) (⟨h.val * 128 + q.val, by omega⟩ : Fin 1024)))
    (x : Fin 128) (q : Fin 16) :
    headLat (iblk m c 1 t) (iblk m c 2 t) ql b (ix2 x q) = readAt m c h q x := by
  refine (headLat_at _ _ _ _ _ _).trans ?_
  unfold readAt
  have e0 : (fun (y : Fin 128) (r : Fin 16) => ql (ix3 0 y r)) = qOf (m ((c : Thread nD τ).loc main_arg0)) h :=
    funext fun y => funext fun r => (hq y r).trans (q_at m c t h y r)
  have e1 : (fun (s : Fin 16) (y : Fin 128) => iblk m c 1 t (ix2 s y)) = cOf (m ((c : Thread nD τ).loc main_arg1)) :=
    funext fun s => funext fun y => cm_at m c t s y
  have e2 : (fun (y : Fin 128) (s : Fin 16) => iblk m c 2 t (ix2 y s)) = tOf (m ((c : Thread nD τ).loc main_arg2)) :=
    funext fun y => funext fun s => ct_at m c t y s
  have e4 : (fun s r : Fin 16 => b (ix3 0 s r)) = bOf (m ((c : Thread nD τ).loc main_arg4)) h :=
    funext fun s => funext fun r => (hb s r).trans (tb_at m c t _ _ _)
  rw [← e0, ← e1, ← e2, ← e4]

set_option maxHeartbeats 2000000 in
/-- The call's output array is the reference's. -/
theorem final_out (c : Dev nD) :
    (dats m 0 c).arrAt 6 (cfgs 0).N
      = gated (m ((c : Thread nD τ).loc main_arg2)) (m ((c : Thread nD τ).loc main_arg3)) (m ((c : Thread nD τ).loc main_arg5))
          (weights (pows (logits (m ((c : Thread nD τ).loc main_arg0)) (m ((c : Thread nD τ).loc main_arg1)) (m ((c : Thread nD τ).loc main_arg4))))) := by
  refine (dats m 0 c).arrAt_eq_of_covers 6 _ (by decide +kernel) fun t _ y => ?_
  blk_simp
  rw [after0_6]
  simp only [outsAt0, out0_A_6]
  frame_out
  obtain ⟨q, j, rfl⟩ : ∃ (q : Fin 16) (j : Fin 512), y = ix2 q j := ⟨y 0, y 1, funext fun a => by
    have h2 : ∀ a : Fin 2, a = 0 ∨ a = 1 := by decide
    rcases h2 a with rfl | rfl <;> rfl⟩
  simp only [read_unread_whole]
  refine (proj_at (m ((c : Thread nD τ).loc main_arg5)) _ (fun h q x => readAt m c h q x)
    ?_ _ _ _ _ ?_ ?_ ?_ ?_ _ (m ((c : Thread nD τ).loc main_arg3)) ?_ q j).trans ?_
  · intro h x q
    refine Eq.trans ?_ (reads_at m c (ix2 (⟨h.val * 128 + x.val, by omega⟩ : Fin 1024) q) h x q rfl rfl)
    generalize (ix2 (⟨h.val * 128 + x.val, by omega⟩ : Fin 1024) q : S1024x16.Idx) = z
    rw [View.readCov_eq_canon']
    beta_reduce
    canon_tiles x' hx
    · obtain ⟨i, j, rfl⟩ := ix2_all x'
      change 0 + 1 * (z 0).val = 896 + i.val at hx0
      change 0 + 1 * (z 1).val = j.val at hx1
      refine (congrFun (head7_eq _ _ _ _) _).trans ?_
      refine (head_value m c t 7 _ _ (ld_q (iblk m c 0 t) 7 _) (ld_b (iblk m c 4 t) 7 _) i j).trans ?_
      exact (reads_at m c z 7 i j (by show (z 0).val = 7 * 128 + i.val; omega) (by omega)).symm
    · obtain ⟨i, j, rfl⟩ := ix2_all x'
      change 0 + 1 * (z 0).val = 768 + i.val at hx0
      change 0 + 1 * (z 1).val = j.val at hx1
      refine (congrFun (head6_eq _ _ _ _) _).trans ?_
      refine (head_value m c t 6 _ _ (ld_q (iblk m c 0 t) 6 _) (ld_b (iblk m c 4 t) 6 _) i j).trans ?_
      exact (reads_at m c z 6 i j (by show (z 0).val = 6 * 128 + i.val; omega) (by omega)).symm
    · obtain ⟨i, j, rfl⟩ := ix2_all x'
      change 0 + 1 * (z 0).val = 640 + i.val at hx0
      change 0 + 1 * (z 1).val = j.val at hx1
      refine (congrFun (head5_eq _ _ _ _) _).trans ?_
      refine (head_value m c t 5 _ _ (ld_q (iblk m c 0 t) 5 _) (ld_b (iblk m c 4 t) 5 _) i j).trans ?_
      exact (reads_at m c z 5 i j (by show (z 0).val = 5 * 128 + i.val; omega) (by omega)).symm
    · obtain ⟨i, j, rfl⟩ := ix2_all x'
      change 0 + 1 * (z 0).val = 512 + i.val at hx0
      change 0 + 1 * (z 1).val = j.val at hx1
      refine (congrFun (head4_eq _ _ _ _) _).trans ?_
      refine (head_value m c t 4 _ _ (ld_q (iblk m c 0 t) 4 _) (ld_b (iblk m c 4 t) 4 _) i j).trans ?_
      exact (reads_at m c z 4 i j (by show (z 0).val = 4 * 128 + i.val; omega) (by omega)).symm
    · obtain ⟨i, j, rfl⟩ := ix2_all x'
      change 0 + 1 * (z 0).val = 384 + i.val at hx0
      change 0 + 1 * (z 1).val = j.val at hx1
      refine (congrFun (head3_eq _ _ _ _) _).trans ?_
      refine (head_value m c t 3 _ _ (ld_q (iblk m c 0 t) 3 _) (ld_b (iblk m c 4 t) 3 _) i j).trans ?_
      exact (reads_at m c z 3 i j (by show (z 0).val = 3 * 128 + i.val; omega) (by omega)).symm
    · obtain ⟨i, j, rfl⟩ := ix2_all x'
      change 0 + 1 * (z 0).val = 256 + i.val at hx0
      change 0 + 1 * (z 1).val = j.val at hx1
      refine (congrFun (head2_eq _ _ _ _) _).trans ?_
      refine (head_value m c t 2 _ _ (ld_q (iblk m c 0 t) 2 _) (ld_b (iblk m c 4 t) 2 _) i j).trans ?_
      exact (reads_at m c z 2 i j (by show (z 0).val = 2 * 128 + i.val; omega) (by omega)).symm
    · obtain ⟨i, j, rfl⟩ := ix2_all x'
      change 0 + 1 * (z 0).val = 128 + i.val at hx0
      change 0 + 1 * (z 1).val = j.val at hx1
      refine (congrFun (head1_eq _ _ _ _) _).trans ?_
      refine (head_value m c t 1 _ _ (ld_q (iblk m c 0 t) 1 _) (ld_b (iblk m c 4 t) 1 _) i j).trans ?_
      exact (reads_at m c z 1 i j (by show (z 0).val = 1 * 128 + i.val; omega) (by omega)).symm
    · obtain ⟨i, j, rfl⟩ := ix2_all x'
      change 0 + 1 * (z 0).val = i.val at hx0
      change 0 + 1 * (z 1).val = j.val at hx1
      change headLat _ _ _ _ _ = _
      refine (head_value m c t 0 _ _ (ld_q (iblk m c 0 t) 0 _) (ld_b (iblk m c 4 t) 0 _) i j).trans ?_
      exact (reads_at m c z 0 i j (by show (z 0).val = 0 * 128 + i.val; omega) (by omega)).symm
  · exact fun a l => (ld_w (iblk m c 5 t) 0 _ a l).trans (wuv_at m c t 0 a l)
  · exact fun a l => (ld_w (iblk m c 5 t) 1 _ a l).trans (wuv_at m c t 1 a l)
  · exact fun a l => (ld_w (iblk m c 5 t) 2 _ a l).trans (wuv_at m c t 2 a l)
  · exact fun a l => (ld_w (iblk m c 5 t) 3 _ a l).trans (wuv_at m c t 3 a l)
  · exact fun q j => ga_at m c t q j
  · refine (ref_at (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) q j).symm.trans (congrArg _ ?_)
    blk_ext! [idx t]

end Cert.MetaAttnKernelIdeal.Hand

end
-- ==== Proof.MetaAttnClaims.lean ====
/-
  The claims of the attention over the sixteen meta tokens: the frames of its three programs, and that the ideal kernel and
  the ideal reference give the same gated outputs.
-/
module

public import proofs.«01_k».proof.Defs
public import proofs.«01_k».proof.Proof.MetaAttnOut
public import proofs.«01_k».proof.Proof.Gen.MetaAttnKernel.Frame
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

instance factsMetaAttnKernel : Cert.MetaAttnKernel.Facts := Cert.MetaAttnKernel.Gen.facts
instance factsMetaAttnKernelIdeal : Cert.MetaAttnKernelIdeal.Facts := Cert.MetaAttnKernelIdeal.Gen.facts
instance factsMetaAttnReferenceIdeal : Cert.MetaAttnReferenceIdeal.Facts := Cert.MetaAttnReferenceIdeal.Gen.facts

/-- The kernel's frame at the float words. -/
theorem frame_meta_attn_kernel : Cert.quiescent_MetaAttnKernel := fun m ρ _ => Cert.MetaAttnKernel.Gen.frame m ρ

/-- The kernel's frame at the extended reals. -/
theorem frame_meta_attn_ideal : Cert.quiescent_MetaAttnKernelIdeal := fun m ρ _ => Cert.MetaAttnKernelIdeal.Gen.frame m ρ

/-- The reference's frame at the extended reals. -/
theorem frame_meta_attn_reference : Cert.quiescent_MetaAttnReferenceIdeal := fun m ρ _ =>
  (θ_run Cert.MetaAttnReferenceIdeal.defs _ _).mono
    (fun r h => ⟨fun c => (h c).2, Idealize.ShloMosaic.sem_eq_zero_of_no_sems (by decide) r.2⟩)
    (Cert.MetaAttnReferenceIdeal.Value.run (F := Ideal) m ρ)

/-- No rewrite was taken, so there is nothing to preserve. -/
theorem preserves_meta_attn : Cert.preserves_MetaAttnKernel_MetaAttnKernelIdeal := trivial

set_option maxHeartbeats 2000000 in
/-- The attention over the meta tokens computes what its reference computes. -/
theorem algebraic_meta_attn : Cert.algebraic_MetaAttnKernelIdeal_MetaAttnReferenceIdeal := by
  intro m ρ m' ρ' _ hagree
  refine ⟨_, Cert.MetaAttnKernelIdeal.Value.run_blocks (F := Ideal) m ρ, ?_⟩
  refine (θ_run Cert.MetaAttnReferenceIdeal.defs _ _).mono (fun _ h c => ?_)
    (Cert.MetaAttnReferenceIdeal.Value.run (F := Ideal) m' ρ')
  obtain ⟨e0, hargs⟩ := h c
  obtain ⟨a0, a1, a2, a3, a4, a5⟩ := hagree c
  refine ⟨e0.trans (((Cert.MetaAttnReferenceIdeal.Hand.res_eq m' c).trans ?_).trans (Cert.MetaAttnKernelIdeal.Hand.final_out m c).symm), hargs⟩
  rw [a0, a1, a2, a3, a4, a5]

end Cert.Proof

end
-- ==== Proof.lean ====
module

public import proofs.«01_k».proof.Defs
public import proofs.«01_k».proof.Proof.AttentionFrame
public import proofs.«01_k».proof.Proof.OutClaims
public import proofs.«01_k».proof.Proof.ProjClaims
public import proofs.«01_k».proof.Proof.MetaHgrnClaims
public import proofs.«01_k».proof.Proof.MetaAttnClaims
public import proofs.«01_k».proof.Proof.Gen.OutKernelIdeal.Value
public import proofs.«01_k».proof.Proof.Gen.OutReferenceIdeal.Run
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.Gen.MetaHgrnKernel.Frame
public import proofs.«01_k».proof.Proof.Gen.MetaHgrnKernelIdeal.Value
public import proofs.«01_k».proof.Proof.Gen.MetaHgrnReferenceIdeal.Run
public import proofs.«01_k».proof.Proof.Gen.MetaAttnKernel.Frame
public import proofs.«01_k».proof.Proof.Gen.MetaAttnKernelIdeal.Value
public import proofs.«01_k».proof.Proof.Gen.MetaAttnReferenceIdeal.Run
public import Idealize.ShloMosaic.Adequacy
public import Idealize.ShloMosaic.Init

@[expose] public section

noncomputable section

namespace Cert.Proof

open Idealize.ShloMosaic Idealize.SL.Sem Cert.Kernel

instance : Cert.Kernel.Facts := Cert.Kernel.Gen.facts

/-- The attention call's frame: it runs to the end, leaves its twelve arguments as they were and every counter at zero. -/
theorem frame_attention : Cert.quiescent_Kernel := fun m ρ _ =>
  (θ_run Cert.Kernel.defs _ _).mono (fun _ h => ⟨fun c =>
    ⟨Hand.final_in h.1 c 0 rfl, Hand.final_in h.1 c 1 rfl, Hand.final_in h.1 c 2 rfl, Hand.final_in h.1 c 3 rfl,
     Hand.final_in h.1 c 4 rfl, Hand.final_in h.1 c 5 rfl, Hand.final_in h.1 c 6 rfl, Hand.final_in h.1 c 7 rfl,
     Hand.final_in h.1 c 8 rfl, Hand.final_in h.1 c 9 rfl, Hand.final_in h.1 c 10 rfl, Hand.final_in h.1 c 11 rfl⟩, h.2⟩)
    (Hand.run_main (F := Bits) m ρ)

/-- All the claims of `Defs`. -/
theorem claim : Cert.Claim :=
  ⟨Cert.Kernel.Gen.facts, Cert.OutKernel.Gen.facts, Cert.OutKernelIdeal.Gen.facts, Cert.OutReferenceIdeal.Gen.facts,
    Cert.ProjKernel.Gen.facts, Cert.ProjKernelIdeal.Gen.facts, Cert.ProjReferenceIdeal.Gen.facts,
    Cert.MetaHgrnKernel.Gen.facts, Cert.MetaHgrnKernelIdeal.Gen.facts, Cert.MetaHgrnReferenceIdeal.Gen.facts,
    Cert.MetaAttnKernel.Gen.facts, Cert.MetaAttnKernelIdeal.Gen.facts, Cert.MetaAttnReferenceIdeal.Gen.facts,
    facts_finite,
    frame_attention, frame_out_kernel, frame_out_ideal, frame_out_reference,
    frame_proj_kernel, frame_proj_ideal, frame_proj_reference,
    frame_meta_kernel, frame_meta_ideal, frame_meta_ideal_finite, frame_meta_reference, frame_meta_reference_finite,
    frame_meta_attn_kernel, frame_meta_attn_ideal, frame_meta_attn_reference,
    preserves_out, algebraic_out, preserves_proj, algebraic_proj,
    preserves_meta, algebraic_meta,
    preserves_meta_attn, algebraic_meta_attn⟩

end Cert.Proof

end
